-- ==== Defs.lean ====
def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_DAttnIdeal_window_bias [hPre_window_bias : Cert.Pre_window_bias.Facts] (m : (ℓ : Loc Cert.DAttnIdeal.nD Cert.DAttnIdeal.τ Cert.DAttnIdeal.sig) → Buf (Elt Ideal) ℓ) : Prop :=
  ∀ c : Dev Cert.DAttnIdeal.nD,
    (Cert.Pre_window_bias.fn (F := Ideal) (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1))) = (fun _ => 1#1)

def Pre_DAttnRefIdeal (m : (ℓ : Loc Cert.DAttnRefIdeal.nD Cert.DAttnRefIdeal.τ Cert.DAttnRefIdeal.sig) → Buf (Elt Ideal) ℓ) : Prop :=
  True

def Pre_DAttnRefIdeal_window_bias [hPre_window_bias : Cert.Pre_window_bias.Facts] (m : (ℓ : Loc Cert.DAttnRefIdeal.nD Cert.DAttnRefIdeal.τ Cert.DAttnRefIdeal.sig) → Buf (Elt Ideal) ℓ) : Prop :=
  ∀ c : Dev Cert.DAttnRefIdeal.nD,
    (Cert.Pre_window_bias.fn (F := Ideal) (m ((c.tc : Thread Cert.DAttnRefIdeal.nD Cert.DAttnRefIdeal.τ).loc Cert.DAttnRefIdeal.main_arg0)) (m ((c.tc : Thread Cert.DAttnRefIdeal.nD Cert.DAttnRefIdeal.τ).loc Cert.DAttnRefIdeal.main_arg1))) = (fun _ => 1#1)

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInRefIdeal (m : (ℓ : Loc Cert.BInRefIdeal.nD Cert.BInRefIdeal.τ Cert.BInRefIdeal.sig) → Buf (Elt Ideal) ℓ) : Prop :=
  True

def Pre_CIn (m : (ℓ : Loc Cert.CIn.nD Cert.CIn.τ Cert.CIn.sig) → Buf (Elt Bits) ℓ) : Prop :=
  True

def Pre_CInIdeal (m : (ℓ : Loc Cert.CInIdeal.nD Cert.CInIdeal.τ Cert.CInIdeal.sig) → Buf (Elt Ideal) ℓ) : Prop :=
  True

def Pre_CInRefIdeal (m : (ℓ : Loc Cert.CInRefIdeal.nD Cert.CInRefIdeal.τ Cert.CInRefIdeal.sig) → Buf (Elt Ideal) ℓ) : Prop :=
  True

def Pre_AQkv (m : (ℓ : Loc Cert.AQkv.nD Cert.AQkv.τ Cert.AQkv.sig) → Buf (Elt Bits) ℓ) : Prop :=
  True

def Pre_AQkvIdeal (m : (ℓ : Loc Cert.AQkvIdeal.nD Cert.AQkvIdeal.τ Cert.AQkvIdeal.sig) → Buf (Elt Ideal) ℓ) : Prop :=
  True

def Pre_AQkvRefIdeal (m : (ℓ : Loc Cert.AQkvRefIdeal.nD Cert.AQkvRefIdeal.τ Cert.AQkvRefIdeal.sig) → Buf (Elt Ideal) ℓ) : Prop :=
  True

def Pre_AIdx (m : (ℓ : Loc Cert.AIdx.nD Cert.AIdx.τ Cert.AIdx.sig) → Buf (Elt Bits) ℓ) : Prop :=
  True

def Pre_AIdxIdeal (m : (ℓ : Loc Cert.AIdxIdeal.nD Cert.AIdxIdeal.τ Cert.AIdxIdeal.sig) → Buf (Elt Ideal) ℓ) : Prop :=
  True

def Pre_AIdxRefIdeal (m : (ℓ : Loc Cert.AIdxRefIdeal.nD Cert.AIdxRefIdeal.τ Cert.AIdxRefIdeal.sig) → Buf (Elt Ideal) ℓ) : Prop :=
  True

def Pre_DIn1 (m : (ℓ : Loc Cert.DIn1.nD Cert.DIn1.τ Cert.DIn1.sig) → Buf (Elt Bits) ℓ) : Prop :=
  True

def Pre_DIn1Ideal (m : (ℓ : Loc Cert.DIn1Ideal.nD Cert.DIn1Ideal.τ Cert.DIn1Ideal.sig) → Buf (Elt Ideal) ℓ) : Prop :=
  True

def Pre_DIn1RefIdeal (m : (ℓ : Loc Cert.DIn1RefIdeal.nD Cert.DIn1RefIdeal.τ Cert.DIn1RefIdeal.sig) → Buf (Elt Ideal) ℓ) : Prop :=
  True

def Pre_DIn4 (m : (ℓ : Loc Cert.DIn4.nD Cert.DIn4.τ Cert.DIn4.sig) → Buf (Elt Bits) ℓ) : Prop :=
  True

def Pre_DIn4Ideal (m : (ℓ : Loc Cert.DIn4Ideal.nD Cert.DIn4Ideal.τ Cert.DIn4Ideal.sig) → Buf (Elt Ideal) ℓ) : Prop :=
  True

def Pre_DIn4RefIdeal (m : (ℓ : Loc Cert.DIn4RefIdeal.nD Cert.DIn4RefIdeal.τ Cert.DIn4RefIdeal.sig) → Buf (Elt Ideal) ℓ) : Prop :=
  True

def Pre_DIn16 (m : (ℓ : Loc Cert.DIn16.nD Cert.DIn16.τ Cert.DIn16.sig) → Buf (Elt Bits) ℓ) : Prop :=
  True

def Pre_DIn16Ideal (m : (ℓ : Loc Cert.DIn16Ideal.nD Cert.DIn16Ideal.τ Cert.DIn16Ideal.sig) → Buf (Elt Ideal) ℓ) : Prop :=
  True

def Pre_DIn16RefIdeal (m : (ℓ : Loc Cert.DIn16RefIdeal.nD Cert.DIn16RefIdeal.τ Cert.DIn16RefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_BOut (m : (ℓ : Loc Cert.BOut.nD Cert.BOut.τ Cert.BOut.sig) → Buf (Elt Bits) ℓ) : Prop :=
  True

def Pre_BOutIdeal (m : (ℓ : Loc Cert.BOutIdeal.nD Cert.BOutIdeal.τ Cert.BOutIdeal.sig) → Buf (Elt Ideal) ℓ) : Prop :=
  True

def Pre_BOutRefIdeal (m : (ℓ : Loc Cert.BOutRefIdeal.nD Cert.BOutRefIdeal.τ Cert.BOutRefIdeal.sig) → Buf (Elt Ideal) ℓ) : Prop :=
  True

def Pre_DMerge (m : (ℓ : Loc Cert.DMerge.nD Cert.DMerge.τ Cert.DMerge.sig) → Buf (Elt Bits) ℓ) : Prop :=
  True

def Pre_DMergeIdeal (m : (ℓ : Loc Cert.DMergeIdeal.nD Cert.DMergeIdeal.τ Cert.DMergeIdeal.sig) → Buf (Elt Ideal) ℓ) : Prop :=
  True

def Pre_DMergeIdeal_finite_lse [hPre_finite_lse : Cert.Pre_finite_lse.Facts] (m : (ℓ : Loc Cert.DMergeIdeal.nD Cert.DMergeIdeal.τ Cert.DMergeIdeal.sig) → Buf (Elt Ideal) ℓ) : Prop :=
  ∀ c : Dev Cert.DMergeIdeal.nD,
    (Cert.Pre_finite_lse.fn (F := Ideal) (m ((c.tc : Thread Cert.DMergeIdeal.nD Cert.DMergeIdeal.τ).loc Cert.DMergeIdeal.main_arg0)) (m ((c.tc : Thread Cert.DMergeIdeal.nD Cert.DMergeIdeal.τ).loc Cert.DMergeIdeal.main_arg1)) (m ((c.tc : Thread Cert.DMergeIdeal.nD Cert.DMergeIdeal.τ).loc Cert.DMergeIdeal.main_arg2)) (m ((c.tc : Thread Cert.DMergeIdeal.nD Cert.DMergeIdeal.τ).loc Cert.DMergeIdeal.main_arg3)) (m ((c.tc : Thread Cert.DMergeIdeal.nD Cert.DMergeIdeal.τ).loc Cert.DMergeIdeal.main_arg4)) (m ((c.tc : Thread Cert.DMergeIdeal.nD Cert.DMergeIdeal.τ).loc Cert.DMergeIdeal.main_arg5)) (m ((c.tc : Thread Cert.DMergeIdeal.nD Cert.DMergeIdeal.τ).loc Cert.DMergeIdeal.main_arg6)) (m ((c.tc : Thread Cert.DMergeIdeal.nD Cert.DMergeIdeal.τ).loc Cert.DMergeIdeal.main_arg7))) = (fun _ => 1#1)

def Pre_DMergeRefIdeal (m : (ℓ : Loc Cert.DMergeRefIdeal.nD Cert.DMergeRefIdeal.τ Cert.DMergeRefIdeal.sig) → Buf (Elt Ideal) ℓ) : Prop :=
  True

def Pre_DMergeRefIdeal_finite_lse [hPre_finite_lse : Cert.Pre_finite_lse.Facts] (m : (ℓ : Loc Cert.DMergeRefIdeal.nD Cert.DMergeRefIdeal.τ Cert.DMergeRefIdeal.sig) → Buf (Elt Ideal) ℓ) : Prop :=
  ∀ c : Dev Cert.DMergeRefIdeal.nD,
    (Cert.Pre_finite_lse.fn (F := Ideal) (m ((c.tc : Thread Cert.DMergeRefIdeal.nD Cert.DMergeRefIdeal.τ).loc Cert.DMergeRefIdeal.main_arg0)) (m ((c.tc : Thread Cert.DMergeRefIdeal.nD Cert.DMergeRefIdeal.τ).loc Cert.DMergeRefIdeal.main_arg1)) (m ((c.tc : Thread Cert.DMergeRefIdeal.nD Cert.DMergeRefIdeal.τ).loc Cert.DMergeRefIdeal.main_arg2)) (m ((c.tc : Thread Cert.DMergeRefIdeal.nD Cert.DMergeRefIdeal.τ).loc Cert.DMergeRefIdeal.main_arg3)) (m ((c.tc : Thread Cert.DMergeRefIdeal.nD Cert.DMergeRefIdeal.τ).loc Cert.DMergeRefIdeal.main_arg4)) (m ((c.tc : Thread Cert.DMergeRefIdeal.nD Cert.DMergeRefIdeal.τ).loc Cert.DMergeRefIdeal.main_arg5)) (m ((c.tc : Thread Cert.DMergeRefIdeal.nD Cert.DMergeRefIdeal.τ).loc Cert.DMergeRefIdeal.main_arg6)) (m ((c.tc : Thread Cert.DMergeRefIdeal.nD Cert.DMergeRefIdeal.τ).loc Cert.DMergeRefIdeal.main_arg7))) = (fun _ => 1#1)

def Pre_CConv (m : (ℓ : Loc Cert.CConv.nD Cert.CConv.τ Cert.CConv.sig) → Buf (Elt Bits) ℓ) : Prop :=
  True

def Pre_CConvIdeal (m : (ℓ : Loc Cert.CConvIdeal.nD Cert.CConvIdeal.τ Cert.CConvIdeal.sig) → Buf (Elt Ideal) ℓ) : Prop :=
  True

def Pre_CConvRefIdeal (m : (ℓ : Loc Cert.CConvRefIdeal.nD Cert.CConvRefIdeal.τ Cert.CConvRefIdeal.sig) → Buf (Elt Ideal) ℓ) : Prop :=
  True

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnIdeal_pre_window_bias [hDAttnIdeal : Cert.DAttnIdeal.Facts] [hPre_window_bias : Cert.Pre_window_bias.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal_window_bias m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_DAttnRefIdeal [hDAttnRefIdeal : Cert.DAttnRefIdeal.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_DAttnRefIdeal_pre_window_bias [hDAttnRefIdeal : Cert.DAttnRefIdeal.Facts] [hPre_window_bias : Cert.Pre_window_bias.Facts] : Prop :=
  ∀ (m : (ℓ : Loc Cert.DAttnRefIdeal.nD Cert.DAttnRefIdeal.τ Cert.DAttnRefIdeal.sig) → Buf (Elt Ideal) ℓ) (g : Dev Cert.DAttnRefIdeal.nD → PrngReg), Pre_DAttnRefIdeal_window_bias m →
    θ_run (Cert.DAttnRefIdeal.defs (F := Ideal)) (onTc (τ := Cert.DAttnRefIdeal.τ) (Cert.DAttnRefIdeal.main (F := Ideal))) ⟨m, fun _ => 0, g⟩ (fun r => (∀ c : Dev Cert.DAttnRefIdeal.nD,
      r.2.mem ((c.tc : Thread Cert.DAttnRefIdeal.nD Cert.DAttnRefIdeal.τ).loc Cert.DAttnRefIdeal.main_arg0) = m ((c.tc : Thread Cert.DAttnRefIdeal.nD Cert.DAttnRefIdeal.τ).loc Cert.DAttnRefIdeal.main_arg0)
      ∧ r.2.mem ((c.tc : Thread Cert.DAttnRefIdeal.nD Cert.DAttnRefIdeal.τ).loc Cert.DAttnRefIdeal.main_arg1) = m ((c.tc : Thread Cert.DAttnRefIdeal.nD Cert.DAttnRefIdeal.τ).loc Cert.DAttnRefIdeal.main_arg1))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1)
      ∧ r.2.mem ((c.tc : Thread Cert.BIn.nD Cert.BIn.τ).loc Cert.BIn.main_arg2) = m ((c.tc : Thread Cert.BIn.nD Cert.BIn.τ).loc Cert.BIn.main_arg2)
      ∧ r.2.mem ((c.tc : Thread Cert.BIn.nD Cert.BIn.τ).loc Cert.BIn.main_arg3) = m ((c.tc : Thread Cert.BIn.nD Cert.BIn.τ).loc Cert.BIn.main_arg3))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
      ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
      ∧ r.2.mem ((c.tc : Thread Cert.BInIdeal.nD Cert.BInIdeal.τ).loc Cert.BInIdeal.main_arg3) = m ((c.tc : Thread Cert.BInIdeal.nD Cert.BInIdeal.τ).loc Cert.BInIdeal.main_arg3))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1)
      ∧ r.2.mem ((c.tc : Thread Cert.BInRefIdeal.nD Cert.BInRefIdeal.τ).loc Cert.BInRefIdeal.main_arg2) = m ((c.tc : Thread Cert.BInRefIdeal.nD Cert.BInRefIdeal.τ).loc Cert.BInRefIdeal.main_arg2)
      ∧ r.2.mem ((c.tc : Thread Cert.BInRefIdeal.nD Cert.BInRefIdeal.τ).loc Cert.BInRefIdeal.main_arg3) = m ((c.tc : Thread Cert.BInRefIdeal.nD Cert.BInRefIdeal.τ).loc Cert.BInRefIdeal.main_arg3))
      ∧ r.2.sem = fun _ => 0)

def quiescent_CIn [hCIn : Cert.CIn.Facts] : Prop :=
  ∀ (m : (ℓ : Loc Cert.CIn.nD Cert.CIn.τ Cert.CIn.sig) → Buf (Elt Bits) ℓ) (g : Dev Cert.CIn.nD → PrngReg), Pre_CIn m →
    θ_run (Cert.CIn.defs (F := Bits)) (onTc (τ := Cert.CIn.τ) (Cert.CIn.main (F := Bits))) ⟨m, fun _ => 0, g⟩ (fun r => (∀ c : Dev Cert.CIn.nD,
      r.2.mem ((c.tc : Thread Cert.CIn.nD Cert.CIn.τ).loc Cert.CIn.main_arg0) = m ((c.tc : Thread Cert.CIn.nD Cert.CIn.τ).loc Cert.CIn.main_arg0)
      ∧ r.2.mem ((c.tc : Thread Cert.CIn.nD Cert.CIn.τ).loc Cert.CIn.main_arg1) = m ((c.tc : Thread Cert.CIn.nD Cert.CIn.τ).loc Cert.CIn.main_arg1)
      ∧ r.2.mem ((c.tc : Thread Cert.CIn.nD Cert.CIn.τ).loc Cert.CIn.main_arg2) = m ((c.tc : Thread Cert.CIn.nD Cert.CIn.τ).loc Cert.CIn.main_arg2)
      ∧ r.2.mem ((c.tc : Thread Cert.CIn.nD Cert.CIn.τ).loc Cert.CIn.main_arg3) = m ((c.tc : Thread Cert.CIn.nD Cert.CIn.τ).loc Cert.CIn.main_arg3))
      ∧ r.2.sem = fun _ => 0)

def quiescent_CInIdeal [hCInIdeal : Cert.CInIdeal.Facts] : Prop :=
  ∀ (m : (ℓ : Loc Cert.CInIdeal.nD Cert.CInIdeal.τ Cert.CInIdeal.sig) → Buf (Elt Ideal) ℓ) (g : Dev Cert.CInIdeal.nD → PrngReg), Pre_CInIdeal m →
    θ_run (Cert.CInIdeal.defs (F := Ideal)) (onTc (τ := Cert.CInIdeal.τ) (Cert.CInIdeal.main (F := Ideal))) ⟨m, fun _ => 0, g⟩ (fun r => (∀ c : Dev Cert.CInIdeal.nD,
      r.2.mem ((c.tc : Thread Cert.CInIdeal.nD Cert.CInIdeal.τ).loc Cert.CInIdeal.main_arg0) = m ((c.tc : Thread Cert.CInIdeal.nD Cert.CInIdeal.τ).loc Cert.CInIdeal.main_arg0)
      ∧ r.2.mem ((c.tc : Thread Cert.CInIdeal.nD Cert.CInIdeal.τ).loc Cert.CInIdeal.main_arg1) = m ((c.tc : Thread Cert.CInIdeal.nD Cert.CInIdeal.τ).loc Cert.CInIdeal.main_arg1)
      ∧ r.2.mem ((c.tc : Thread Cert.CInIdeal.nD Cert.CInIdeal.τ).loc Cert.CInIdeal.main_arg2) = m ((c.tc : Thread Cert.CInIdeal.nD Cert.CInIdeal.τ).loc Cert.CInIdeal.main_arg2)
      ∧ r.2.mem ((c.tc : Thread Cert.CInIdeal.nD Cert.CInIdeal.τ).loc Cert.CInIdeal.main_arg3) = m ((c.tc : Thread Cert.CInIdeal.nD Cert.CInIdeal.τ).loc Cert.CInIdeal.main_arg3))
      ∧ r.2.sem = fun _ => 0)

def quiescent_CInRefIdeal [hCInRefIdeal : Cert.CInRefIdeal.Facts] : Prop :=
  ∀ (m : (ℓ : Loc Cert.CInRefIdeal.nD Cert.CInRefIdeal.τ Cert.CInRefIdeal.sig) → Buf (Elt Ideal) ℓ) (g : Dev Cert.CInRefIdeal.nD → PrngReg), Pre_CInRefIdeal m →
    θ_run (Cert.CInRefIdeal.defs (F := Ideal)) (onTc (τ := Cert.CInRefIdeal.τ) (Cert.CInRefIdeal.main (F := Ideal))) ⟨m, fun _ => 0, g⟩ (fun r => (∀ c : Dev Cert.CInRefIdeal.nD,
      r.2.mem ((c.tc : Thread Cert.CInRefIdeal.nD Cert.CInRefIdeal.τ).loc Cert.CInRefIdeal.main_arg0) = m ((c.tc : Thread Cert.CInRefIdeal.nD Cert.CInRefIdeal.τ).loc Cert.CInRefIdeal.main_arg0)
      ∧ r.2.mem ((c.tc : Thread Cert.CInRefIdeal.nD Cert.CInRefIdeal.τ).loc Cert.CInRefIdeal.main_arg1) = m ((c.tc : Thread Cert.CInRefIdeal.nD Cert.CInRefIdeal.τ).loc Cert.CInRefIdeal.main_arg1)
      ∧ r.2.mem ((c.tc : Thread Cert.CInRefIdeal.nD Cert.CInRefIdeal.τ).loc Cert.CInRefIdeal.main_arg2) = m ((c.tc : Thread Cert.CInRefIdeal.nD Cert.CInRefIdeal.τ).loc Cert.CInRefIdeal.main_arg2)
      ∧ r.2.mem ((c.tc : Thread Cert.CInRefIdeal.nD Cert.CInRefIdeal.τ).loc Cert.CInRefIdeal.main_arg3) = m ((c.tc : Thread Cert.CInRefIdeal.nD Cert.CInRefIdeal.τ).loc Cert.CInRefIdeal.main_arg3))
      ∧ r.2.sem = fun _ => 0)

def quiescent_AQkv [hAQkv : Cert.AQkv.Facts] : Prop :=
  ∀ (m : (ℓ : Loc Cert.AQkv.nD Cert.AQkv.τ Cert.AQkv.sig) → Buf (Elt Bits) ℓ) (g : Dev Cert.AQkv.nD → PrngReg), Pre_AQkv m →
    θ_run (Cert.AQkv.defs (F := Bits)) (onTc (τ := Cert.AQkv.τ) (Cert.AQkv.main (F := Bits))) ⟨m, fun _ => 0, g⟩ (fun r => (∀ c : Dev Cert.AQkv.nD,
      r.2.mem ((c.tc : Thread Cert.AQkv.nD Cert.AQkv.τ).loc Cert.AQkv.main_arg0) = m ((c.tc : Thread Cert.AQkv.nD Cert.AQkv.τ).loc Cert.AQkv.main_arg0)
      ∧ r.2.mem ((c.tc : Thread Cert.AQkv.nD Cert.AQkv.τ).loc Cert.AQkv.main_arg1) = m ((c.tc : Thread Cert.AQkv.nD Cert.AQkv.τ).loc Cert.AQkv.main_arg1)
      ∧ r.2.mem ((c.tc : Thread Cert.AQkv.nD Cert.AQkv.τ).loc Cert.AQkv.main_arg2) = m ((c.tc : Thread Cert.AQkv.nD Cert.AQkv.τ).loc Cert.AQkv.main_arg2))
      ∧ r.2.sem = fun _ => 0)

def quiescent_AQkvIdeal [hAQkvIdeal : Cert.AQkvIdeal.Facts] : Prop :=
  ∀ (m : (ℓ : Loc Cert.AQkvIdeal.nD Cert.AQkvIdeal.τ Cert.AQkvIdeal.sig) → Buf (Elt Ideal) ℓ) (g : Dev Cert.AQkvIdeal.nD → PrngReg), Pre_AQkvIdeal m →
    θ_run (Cert.AQkvIdeal.defs (F := Ideal)) (onTc (τ := Cert.AQkvIdeal.τ) (Cert.AQkvIdeal.main (F := Ideal))) ⟨m, fun _ => 0, g⟩ (fun r => (∀ c : Dev Cert.AQkvIdeal.nD,
      r.2.mem ((c.tc : Thread Cert.AQkvIdeal.nD Cert.AQkvIdeal.τ).loc Cert.AQkvIdeal.main_arg0) = m ((c.tc : Thread Cert.AQkvIdeal.nD Cert.AQkvIdeal.τ).loc Cert.AQkvIdeal.main_arg0)
      ∧ r.2.mem ((c.tc : Thread Cert.AQkvIdeal.nD Cert.AQkvIdeal.τ).loc Cert.AQkvIdeal.main_arg1) = m ((c.tc : Thread Cert.AQkvIdeal.nD Cert.AQkvIdeal.τ).loc Cert.AQkvIdeal.main_arg1)
      ∧ r.2.mem ((c.tc : Thread Cert.AQkvIdeal.nD Cert.AQkvIdeal.τ).loc Cert.AQkvIdeal.main_arg2) = m ((c.tc : Thread Cert.AQkvIdeal.nD Cert.AQkvIdeal.τ).loc Cert.AQkvIdeal.main_arg2))
      ∧ r.2.sem = fun _ => 0)

def quiescent_AQkvRefIdeal [hAQkvRefIdeal : Cert.AQkvRefIdeal.Facts] : Prop :=
  ∀ (m : (ℓ : Loc Cert.AQkvRefIdeal.nD Cert.AQkvRefIdeal.τ Cert.AQkvRefIdeal.sig) → Buf (Elt Ideal) ℓ) (g : Dev Cert.AQkvRefIdeal.nD → PrngReg), Pre_AQkvRefIdeal m →
    θ_run (Cert.AQkvRefIdeal.defs (F := Ideal)) (onTc (τ := Cert.AQkvRefIdeal.τ) (Cert.AQkvRefIdeal.main (F := Ideal))) ⟨m, fun _ => 0, g⟩ (fun r => (∀ c : Dev Cert.AQkvRefIdeal.nD,
      r.2.mem ((c.tc : Thread Cert.AQkvRefIdeal.nD Cert.AQkvRefIdeal.τ).loc Cert.AQkvRefIdeal.main_arg0) = m ((c.tc : Thread Cert.AQkvRefIdeal.nD Cert.AQkvRefIdeal.τ).loc Cert.AQkvRefIdeal.main_arg0)
      ∧ r.2.mem ((c.tc : Thread Cert.AQkvRefIdeal.nD Cert.AQkvRefIdeal.τ).loc Cert.AQkvRefIdeal.main_arg1) = m ((c.tc : Thread Cert.AQkvRefIdeal.nD Cert.AQkvRefIdeal.τ).loc Cert.AQkvRefIdeal.main_arg1)
      ∧ r.2.mem ((c.tc : Thread Cert.AQkvRefIdeal.nD Cert.AQkvRefIdeal.τ).loc Cert.AQkvRefIdeal.main_arg2) = m ((c.tc : Thread Cert.AQkvRefIdeal.nD Cert.AQkvRefIdeal.τ).loc Cert.AQkvRefIdeal.main_arg2))
      ∧ r.2.sem = fun _ => 0)

def quiescent_AIdx [hAIdx : Cert.AIdx.Facts] : Prop :=
  ∀ (m : (ℓ : Loc Cert.AIdx.nD Cert.AIdx.τ Cert.AIdx.sig) → Buf (Elt Bits) ℓ) (g : Dev Cert.AIdx.nD → PrngReg), Pre_AIdx m →
    θ_run (Cert.AIdx.defs (F := Bits)) (onTc (τ := Cert.AIdx.τ) (Cert.AIdx.main (F := Bits))) ⟨m, fun _ => 0, g⟩ (fun r => (∀ c : Dev Cert.AIdx.nD,
      r.2.mem ((c.tc : Thread Cert.AIdx.nD Cert.AIdx.τ).loc Cert.AIdx.main_arg0) = m ((c.tc : Thread Cert.AIdx.nD Cert.AIdx.τ).loc Cert.AIdx.main_arg0)
      ∧ r.2.mem ((c.tc : Thread Cert.AIdx.nD Cert.AIdx.τ).loc Cert.AIdx.main_arg1) = m ((c.tc : Thread Cert.AIdx.nD Cert.AIdx.τ).loc Cert.AIdx.main_arg1)
      ∧ r.2.mem ((c.tc : Thread Cert.AIdx.nD Cert.AIdx.τ).loc Cert.AIdx.main_arg2) = m ((c.tc : Thread Cert.AIdx.nD Cert.AIdx.τ).loc Cert.AIdx.main_arg2))
      ∧ r.2.sem = fun _ => 0)

def quiescent_AIdxIdeal [hAIdxIdeal : Cert.AIdxIdeal.Facts] : Prop :=
  ∀ (m : (ℓ : Loc Cert.AIdxIdeal.nD Cert.AIdxIdeal.τ Cert.AIdxIdeal.sig) → Buf (Elt Ideal) ℓ) (g : Dev Cert.AIdxIdeal.nD → PrngReg), Pre_AIdxIdeal m →
    θ_run (Cert.AIdxIdeal.defs (F := Ideal)) (onTc (τ := Cert.AIdxIdeal.τ) (Cert.AIdxIdeal.main (F := Ideal))) ⟨m, fun _ => 0, g⟩ (fun r => (∀ c : Dev Cert.AIdxIdeal.nD,
      r.2.mem ((c.tc : Thread Cert.AIdxIdeal.nD Cert.AIdxIdeal.τ).loc Cert.AIdxIdeal.main_arg0) = m ((c.tc : Thread Cert.AIdxIdeal.nD Cert.AIdxIdeal.τ).loc Cert.AIdxIdeal.main_arg0)
      ∧ r.2.mem ((c.tc : Thread Cert.AIdxIdeal.nD Cert.AIdxIdeal.τ).loc Cert.AIdxIdeal.main_arg1) = m ((c.tc : Thread Cert.AIdxIdeal.nD Cert.AIdxIdeal.τ).loc Cert.AIdxIdeal.main_arg1)
      ∧ r.2.mem ((c.tc : Thread Cert.AIdxIdeal.nD Cert.AIdxIdeal.τ).loc Cert.AIdxIdeal.main_arg2) = m ((c.tc : Thread Cert.AIdxIdeal.nD Cert.AIdxIdeal.τ).loc Cert.AIdxIdeal.main_arg2))
      ∧ r.2.sem = fun _ => 0)

def quiescent_AIdxRefIdeal [hAIdxRefIdeal : Cert.AIdxRefIdeal.Facts] : Prop :=
  ∀ (m : (ℓ : Loc Cert.AIdxRefIdeal.nD Cert.AIdxRefIdeal.τ Cert.AIdxRefIdeal.sig) → Buf (Elt Ideal) ℓ) (g : Dev Cert.AIdxRefIdeal.nD → PrngReg), Pre_AIdxRefIdeal m →
    θ_run (Cert.AIdxRefIdeal.defs (F := Ideal)) (onTc (τ := Cert.AIdxRefIdeal.τ) (Cert.AIdxRefIdeal.main (F := Ideal))) ⟨m, fun _ => 0, g⟩ (fun r => (∀ c : Dev Cert.AIdxRefIdeal.nD,
      r.2.mem ((c.tc : Thread Cert.AIdxRefIdeal.nD Cert.AIdxRefIdeal.τ).loc Cert.AIdxRefIdeal.main_arg0) = m ((c.tc : Thread Cert.AIdxRefIdeal.nD Cert.AIdxRefIdeal.τ).loc Cert.AIdxRefIdeal.main_arg0)
      ∧ r.2.mem ((c.tc : Thread Cert.AIdxRefIdeal.nD Cert.AIdxRefIdeal.τ).loc Cert.AIdxRefIdeal.main_arg1) = m ((c.tc : Thread Cert.AIdxRefIdeal.nD Cert.AIdxRefIdeal.τ).loc Cert.AIdxRefIdeal.main_arg1)
      ∧ r.2.mem ((c.tc : Thread Cert.AIdxRefIdeal.nD Cert.AIdxRefIdeal.τ).loc Cert.AIdxRefIdeal.main_arg2) = m ((c.tc : Thread Cert.AIdxRefIdeal.nD Cert.AIdxRefIdeal.τ).loc Cert.AIdxRefIdeal.main_arg2))
      ∧ r.2.sem = fun _ => 0)

def quiescent_DIn1 [hDIn1 : Cert.DIn1.Facts] : Prop :=
  ∀ (m : (ℓ : Loc Cert.DIn1.nD Cert.DIn1.τ Cert.DIn1.sig) → Buf (Elt Bits) ℓ) (g : Dev Cert.DIn1.nD → PrngReg), Pre_DIn1 m →
    θ_run (Cert.DIn1.defs (F := Bits)) (onTc (τ := Cert.DIn1.τ) (Cert.DIn1.main (F := Bits))) ⟨m, fun _ => 0, g⟩ (fun r => (∀ c : Dev Cert.DIn1.nD,
      r.2.mem ((c.tc : Thread Cert.DIn1.nD Cert.DIn1.τ).loc Cert.DIn1.main_arg0) = m ((c.tc : Thread Cert.DIn1.nD Cert.DIn1.τ).loc Cert.DIn1.main_arg0)
      ∧ r.2.mem ((c.tc : Thread Cert.DIn1.nD Cert.DIn1.τ).loc Cert.DIn1.main_arg1) = m ((c.tc : Thread Cert.DIn1.nD Cert.DIn1.τ).loc Cert.DIn1.main_arg1)
      ∧ r.2.mem ((c.tc : Thread Cert.DIn1.nD Cert.DIn1.τ).loc Cert.DIn1.main_arg2) = m ((c.tc : Thread Cert.DIn1.nD Cert.DIn1.τ).loc Cert.DIn1.main_arg2))
      ∧ r.2.sem = fun _ => 0)

def quiescent_DIn1Ideal [hDIn1Ideal : Cert.DIn1Ideal.Facts] : Prop :=
  ∀ (m : (ℓ : Loc Cert.DIn1Ideal.nD Cert.DIn1Ideal.τ Cert.DIn1Ideal.sig) → Buf (Elt Ideal) ℓ) (g : Dev Cert.DIn1Ideal.nD → PrngReg), Pre_DIn1Ideal m →
    θ_run (Cert.DIn1Ideal.defs (F := Ideal)) (onTc (τ := Cert.DIn1Ideal.τ) (Cert.DIn1Ideal.main (F := Ideal))) ⟨m, fun _ => 0, g⟩ (fun r => (∀ c : Dev Cert.DIn1Ideal.nD,
      r.2.mem ((c.tc : Thread Cert.DIn1Ideal.nD Cert.DIn1Ideal.τ).loc Cert.DIn1Ideal.main_arg0) = m ((c.tc : Thread Cert.DIn1Ideal.nD Cert.DIn1Ideal.τ).loc Cert.DIn1Ideal.main_arg0)
      ∧ r.2.mem ((c.tc : Thread Cert.DIn1Ideal.nD Cert.DIn1Ideal.τ).loc Cert.DIn1Ideal.main_arg1) = m ((c.tc : Thread Cert.DIn1Ideal.nD Cert.DIn1Ideal.τ).loc Cert.DIn1Ideal.main_arg1)
      ∧ r.2.mem ((c.tc : Thread Cert.DIn1Ideal.nD Cert.DIn1Ideal.τ).loc Cert.DIn1Ideal.main_arg2) = m ((c.tc : Thread Cert.DIn1Ideal.nD Cert.DIn1Ideal.τ).loc Cert.DIn1Ideal.main_arg2))
      ∧ r.2.sem = fun _ => 0)

def quiescent_DIn1RefIdeal [hDIn1RefIdeal : Cert.DIn1RefIdeal.Facts] : Prop :=
  ∀ (m : (ℓ : Loc Cert.DIn1RefIdeal.nD Cert.DIn1RefIdeal.τ Cert.DIn1RefIdeal.sig) → Buf (Elt Ideal) ℓ) (g : Dev Cert.DIn1RefIdeal.nD → PrngReg), Pre_DIn1RefIdeal m →
    θ_run (Cert.DIn1RefIdeal.defs (F := Ideal)) (onTc (τ := Cert.DIn1RefIdeal.τ) (Cert.DIn1RefIdeal.main (F := Ideal))) ⟨m, fun _ => 0, g⟩ (fun r => (∀ c : Dev Cert.DIn1RefIdeal.nD,
      r.2.mem ((c.tc : Thread Cert.DIn1RefIdeal.nD Cert.DIn1RefIdeal.τ).loc Cert.DIn1RefIdeal.main_arg0) = m ((c.tc : Thread Cert.DIn1RefIdeal.nD Cert.DIn1RefIdeal.τ).loc Cert.DIn1RefIdeal.main_arg0)
      ∧ r.2.mem ((c.tc : Thread Cert.DIn1RefIdeal.nD Cert.DIn1RefIdeal.τ).loc Cert.DIn1RefIdeal.main_arg1) = m ((c.tc : Thread Cert.DIn1RefIdeal.nD Cert.DIn1RefIdeal.τ).loc Cert.DIn1RefIdeal.main_arg1)
      ∧ r.2.mem ((c.tc : Thread Cert.DIn1RefIdeal.nD Cert.DIn1RefIdeal.τ).loc Cert.DIn1RefIdeal.main_arg2) = m ((c.tc : Thread Cert.DIn1RefIdeal.nD Cert.DIn1RefIdeal.τ).loc Cert.DIn1RefIdeal.main_arg2))
      ∧ r.2.sem = fun _ => 0)

def quiescent_DIn4 [hDIn4 : Cert.DIn4.Facts] : Prop :=
  ∀ (m : (ℓ : Loc Cert.DIn4.nD Cert.DIn4.τ Cert.DIn4.sig) → Buf (Elt Bits) ℓ) (g : Dev Cert.DIn4.nD → PrngReg), Pre_DIn4 m →
    θ_run (Cert.DIn4.defs (F := Bits)) (onTc (τ := Cert.DIn4.τ) (Cert.DIn4.main (F := Bits))) ⟨m, fun _ => 0, g⟩ (fun r => (∀ c : Dev Cert.DIn4.nD,
      r.2.mem ((c.tc : Thread Cert.DIn4.nD Cert.DIn4.τ).loc Cert.DIn4.main_arg0) = m ((c.tc : Thread Cert.DIn4.nD Cert.DIn4.τ).loc Cert.DIn4.main_arg0)
      ∧ r.2.mem ((c.tc : Thread Cert.DIn4.nD Cert.DIn4.τ).loc Cert.DIn4.main_arg1) = m ((c.tc : Thread Cert.DIn4.nD Cert.DIn4.τ).loc Cert.DIn4.main_arg1)
      ∧ r.2.mem ((c.tc : Thread Cert.DIn4.nD Cert.DIn4.τ).loc Cert.DIn4.main_arg2) = m ((c.tc : Thread Cert.DIn4.nD Cert.DIn4.τ).loc Cert.DIn4.main_arg2))
      ∧ r.2.sem = fun _ => 0)

def quiescent_DIn4Ideal [hDIn4Ideal : Cert.DIn4Ideal.Facts] : Prop :=
  ∀ (m : (ℓ : Loc Cert.DIn4Ideal.nD Cert.DIn4Ideal.τ Cert.DIn4Ideal.sig) → Buf (Elt Ideal) ℓ) (g : Dev Cert.DIn4Ideal.nD → PrngReg), Pre_DIn4Ideal m →
    θ_run (Cert.DIn4Ideal.defs (F := Ideal)) (onTc (τ := Cert.DIn4Ideal.τ) (Cert.DIn4Ideal.main (F := Ideal))) ⟨m, fun _ => 0, g⟩ (fun r => (∀ c : Dev Cert.DIn4Ideal.nD,
      r.2.mem ((c.tc : Thread Cert.DIn4Ideal.nD Cert.DIn4Ideal.τ).loc Cert.DIn4Ideal.main_arg0) = m ((c.tc : Thread Cert.DIn4Ideal.nD Cert.DIn4Ideal.τ).loc Cert.DIn4Ideal.main_arg0)
      ∧ r.2.mem ((c.tc : Thread Cert.DIn4Ideal.nD Cert.DIn4Ideal.τ).loc Cert.DIn4Ideal.main_arg1) = m ((c.tc : Thread Cert.DIn4Ideal.nD Cert.DIn4Ideal.τ).loc Cert.DIn4Ideal.main_arg1)
      ∧ r.2.mem ((c.tc : Thread Cert.DIn4Ideal.nD Cert.DIn4Ideal.τ).loc Cert.DIn4Ideal.main_arg2) = m ((c.tc : Thread Cert.DIn4Ideal.nD Cert.DIn4Ideal.τ).loc Cert.DIn4Ideal.main_arg2))
      ∧ r.2.sem = fun _ => 0)

def quiescent_DIn4RefIdeal [hDIn4RefIdeal : Cert.DIn4RefIdeal.Facts] : Prop :=
  ∀ (m : (ℓ : Loc Cert.DIn4RefIdeal.nD Cert.DIn4RefIdeal.τ Cert.DIn4RefIdeal.sig) → Buf (Elt Ideal) ℓ) (g : Dev Cert.DIn4RefIdeal.nD → PrngReg), Pre_DIn4RefIdeal m →
    θ_run (Cert.DIn4RefIdeal.defs (F := Ideal)) (onTc (τ := Cert.DIn4RefIdeal.τ) (Cert.DIn4RefIdeal.main (F := Ideal))) ⟨m, fun _ => 0, g⟩ (fun r => (∀ c : Dev Cert.DIn4RefIdeal.nD,
      r.2.mem ((c.tc : Thread Cert.DIn4RefIdeal.nD Cert.DIn4RefIdeal.τ).loc Cert.DIn4RefIdeal.main_arg0) = m ((c.tc : Thread Cert.DIn4RefIdeal.nD Cert.DIn4RefIdeal.τ).loc Cert.DIn4RefIdeal.main_arg0)
      ∧ r.2.mem ((c.tc : Thread Cert.DIn4RefIdeal.nD Cert.DIn4RefIdeal.τ).loc Cert.DIn4RefIdeal.main_arg1) = m ((c.tc : Thread Cert.DIn4RefIdeal.nD Cert.DIn4RefIdeal.τ).loc Cert.DIn4RefIdeal.main_arg1)
      ∧ r.2.mem ((c.tc : Thread Cert.DIn4RefIdeal.nD Cert.DIn4RefIdeal.τ).loc Cert.DIn4RefIdeal.main_arg2) = m ((c.tc : Thread Cert.DIn4RefIdeal.nD Cert.DIn4RefIdeal.τ).loc Cert.DIn4RefIdeal.main_arg2))
      ∧ r.2.sem = fun _ => 0)

def quiescent_DIn16 [hDIn16 : Cert.DIn16.Facts] : Prop :=
  ∀ (m : (ℓ : Loc Cert.DIn16.nD Cert.DIn16.τ Cert.DIn16.sig) → Buf (Elt Bits) ℓ) (g : Dev Cert.DIn16.nD → PrngReg), Pre_DIn16 m →
    θ_run (Cert.DIn16.defs (F := Bits)) (onTc (τ := Cert.DIn16.τ) (Cert.DIn16.main (F := Bits))) ⟨m, fun _ => 0, g⟩ (fun r => (∀ c : Dev Cert.DIn16.nD,
      r.2.mem ((c.tc : Thread Cert.DIn16.nD Cert.DIn16.τ).loc Cert.DIn16.main_arg0) = m ((c.tc : Thread Cert.DIn16.nD Cert.DIn16.τ).loc Cert.DIn16.main_arg0)
      ∧ r.2.mem ((c.tc : Thread Cert.DIn16.nD Cert.DIn16.τ).loc Cert.DIn16.main_arg1) = m ((c.tc : Thread Cert.DIn16.nD Cert.DIn16.τ).loc Cert.DIn16.main_arg1)
      ∧ r.2.mem ((c.tc : Thread Cert.DIn16.nD Cert.DIn16.τ).loc Cert.DIn16.main_arg2) = m ((c.tc : Thread Cert.DIn16.nD Cert.DIn16.τ).loc Cert.DIn16.main_arg2))
      ∧ r.2.sem = fun _ => 0)

def quiescent_DIn16Ideal [hDIn16Ideal : Cert.DIn16Ideal.Facts] : Prop :=
  ∀ (m : (ℓ : Loc Cert.DIn16Ideal.nD Cert.DIn16Ideal.τ Cert.DIn16Ideal.sig) → Buf (Elt Ideal) ℓ) (g : Dev Cert.DIn16Ideal.nD → PrngReg), Pre_DIn16Ideal m →
    θ_run (Cert.DIn16Ideal.defs (F := Ideal)) (onTc (τ := Cert.DIn16Ideal.τ) (Cert.DIn16Ideal.main (F := Ideal))) ⟨m, fun _ => 0, g⟩ (fun r => (∀ c : Dev Cert.DIn16Ideal.nD,
      r.2.mem ((c.tc : Thread Cert.DIn16Ideal.nD Cert.DIn16Ideal.τ).loc Cert.DIn16Ideal.main_arg0) = m ((c.tc : Thread Cert.DIn16Ideal.nD Cert.DIn16Ideal.τ).loc Cert.DIn16Ideal.main_arg0)
      ∧ r.2.mem ((c.tc : Thread Cert.DIn16Ideal.nD Cert.DIn16Ideal.τ).loc Cert.DIn16Ideal.main_arg1) = m ((c.tc : Thread Cert.DIn16Ideal.nD Cert.DIn16Ideal.τ).loc Cert.DIn16Ideal.main_arg1)
      ∧ r.2.mem ((c.tc : Thread Cert.DIn16Ideal.nD Cert.DIn16Ideal.τ).loc Cert.DIn16Ideal.main_arg2) = m ((c.tc : Thread Cert.DIn16Ideal.nD Cert.DIn16Ideal.τ).loc Cert.DIn16Ideal.main_arg2))
      ∧ r.2.sem = fun _ => 0)

def quiescent_DIn16RefIdeal [hDIn16RefIdeal : Cert.DIn16RefIdeal.Facts] : Prop :=
  ∀ (m : (ℓ : Loc Cert.DIn16RefIdeal.nD Cert.DIn16RefIdeal.τ Cert.DIn16RefIdeal.sig) → Buf (Elt Ideal) ℓ) (g : Dev Cert.DIn16RefIdeal.nD → PrngReg), Pre_DIn16RefIdeal m →
    θ_run (Cert.DIn16RefIdeal.defs (F := Ideal)) (onTc (τ := Cert.DIn16RefIdeal.τ) (Cert.DIn16RefIdeal.main (F := Ideal))) ⟨m, fun _ => 0, g⟩ (fun r => (∀ c : Dev Cert.DIn16RefIdeal.nD,
      r.2.mem ((c.tc : Thread Cert.DIn16RefIdeal.nD Cert.DIn16RefIdeal.τ).loc Cert.DIn16RefIdeal.main_arg0) = m ((c.tc : Thread Cert.DIn16RefIdeal.nD Cert.DIn16RefIdeal.τ).loc Cert.DIn16RefIdeal.main_arg0)
      ∧ r.2.mem ((c.tc : Thread Cert.DIn16RefIdeal.nD Cert.DIn16RefIdeal.τ).loc Cert.DIn16RefIdeal.main_arg1) = m ((c.tc : Thread Cert.DIn16RefIdeal.nD Cert.DIn16RefIdeal.τ).loc Cert.DIn16RefIdeal.main_arg1)
      ∧ r.2.mem ((c.tc : Thread Cert.DIn16RefIdeal.nD Cert.DIn16RefIdeal.τ).loc Cert.DIn16RefIdeal.main_arg2) = m ((c.tc : Thread Cert.DIn16RefIdeal.nD Cert.DIn16RefIdeal.τ).loc Cert.DIn16RefIdeal.main_arg2))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2))
      ∧ r.2.sem = fun _ => 0)

def quiescent_BOut [hBOut : Cert.BOut.Facts] : Prop :=
  ∀ (m : (ℓ : Loc Cert.BOut.nD Cert.BOut.τ Cert.BOut.sig) → Buf (Elt Bits) ℓ) (g : Dev Cert.BOut.nD → PrngReg), Pre_BOut m →
    θ_run (Cert.BOut.defs (F := Bits)) (onTc (τ := Cert.BOut.τ) (Cert.BOut.main (F := Bits))) ⟨m, fun _ => 0, g⟩ (fun r => (∀ c : Dev Cert.BOut.nD,
      r.2.mem ((c.tc : Thread Cert.BOut.nD Cert.BOut.τ).loc Cert.BOut.main_arg0) = m ((c.tc : Thread Cert.BOut.nD Cert.BOut.τ).loc Cert.BOut.main_arg0)
      ∧ r.2.mem ((c.tc : Thread Cert.BOut.nD Cert.BOut.τ).loc Cert.BOut.main_arg1) = m ((c.tc : Thread Cert.BOut.nD Cert.BOut.τ).loc Cert.BOut.main_arg1)
      ∧ r.2.mem ((c.tc : Thread Cert.BOut.nD Cert.BOut.τ).loc Cert.BOut.main_arg2) = m ((c.tc : Thread Cert.BOut.nD Cert.BOut.τ).loc Cert.BOut.main_arg2)
      ∧ r.2.mem ((c.tc : Thread Cert.BOut.nD Cert.BOut.τ).loc Cert.BOut.main_arg3) = m ((c.tc : Thread Cert.BOut.nD Cert.BOut.τ).loc Cert.BOut.main_arg3)
      ∧ r.2.mem ((c.tc : Thread Cert.BOut.nD Cert.BOut.τ).loc Cert.BOut.main_arg4) = m ((c.tc : Thread Cert.BOut.nD Cert.BOut.τ).loc Cert.BOut.main_arg4)
      ∧ r.2.mem ((c.tc : Thread Cert.BOut.nD Cert.BOut.τ).loc Cert.BOut.main_arg5) = m ((c.tc : Thread Cert.BOut.nD Cert.BOut.τ).loc Cert.BOut.main_arg5)
      ∧ r.2.mem ((c.tc : Thread Cert.BOut.nD Cert.BOut.τ).loc Cert.BOut.main_arg6) = m ((c.tc : Thread Cert.BOut.nD Cert.BOut.τ).loc Cert.BOut.main_arg6))
      ∧ r.2.sem = fun _ => 0)

def quiescent_BOutIdeal [hBOutIdeal : Cert.BOutIdeal.Facts] : Prop :=
  ∀ (m : (ℓ : Loc Cert.BOutIdeal.nD Cert.BOutIdeal.τ Cert.BOutIdeal.sig) → Buf (Elt Ideal) ℓ) (g : Dev Cert.BOutIdeal.nD → PrngReg), Pre_BOutIdeal m →
    θ_run (Cert.BOutIdeal.defs (F := Ideal)) (onTc (τ := Cert.BOutIdeal.τ) (Cert.BOutIdeal.main (F := Ideal))) ⟨m, fun _ => 0, g⟩ (fun r => (∀ c : Dev Cert.BOutIdeal.nD,
      r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
      ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
      ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
      ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3)
      ∧ r.2.mem ((c.tc : Thread Cert.BOutIdeal.nD Cert.BOutIdeal.τ).loc Cert.BOutIdeal.main_arg4) = m ((c.tc : Thread Cert.BOutIdeal.nD Cert.BOutIdeal.τ).loc Cert.BOutIdeal.main_arg4)
      ∧ r.2.mem ((c.tc : Thread Cert.BOutIdeal.nD Cert.BOutIdeal.τ).loc Cert.BOutIdeal.main_arg5) = m ((c.tc : Thread Cert.BOutIdeal.nD Cert.BOutIdeal.τ).loc Cert.BOutIdeal.main_arg5)
      ∧ r.2.mem ((c.tc : Thread Cert.BOutIdeal.nD Cert.BOutIdeal.τ).loc Cert.BOutIdeal.main_arg6) = m ((c.tc : Thread Cert.BOutIdeal.nD Cert.BOutIdeal.τ).loc Cert.BOutIdeal.main_arg6))
      ∧ r.2.sem = fun _ => 0)

def quiescent_BOutRefIdeal [hBOutRefIdeal : Cert.BOutRefIdeal.Facts] : Prop :=
  ∀ (m : (ℓ : Loc Cert.BOutRefIdeal.nD Cert.BOutRefIdeal.τ Cert.BOutRefIdeal.sig) → Buf (Elt Ideal) ℓ) (g : Dev Cert.BOutRefIdeal.nD → PrngReg), Pre_BOutRefIdeal m →
    θ_run (Cert.BOutRefIdeal.defs (F := Ideal)) (onTc (τ := Cert.BOutRefIdeal.τ) (Cert.BOutRefIdeal.main (F := Ideal))) ⟨m, fun _ => 0, g⟩ (fun r => (∀ c : Dev Cert.BOutRefIdeal.nD,
      r.2.mem ((c.tc : Thread Cert.BOutRefIdeal.nD Cert.BOutRefIdeal.τ).loc Cert.BOutRefIdeal.main_arg0) = m ((c.tc : Thread Cert.BOutRefIdeal.nD Cert.BOutRefIdeal.τ).loc Cert.BOutRefIdeal.main_arg0)
      ∧ r.2.mem ((c.tc : Thread Cert.BOutRefIdeal.nD Cert.BOutRefIdeal.τ).loc Cert.BOutRefIdeal.main_arg1) = m ((c.tc : Thread Cert.BOutRefIdeal.nD Cert.BOutRefIdeal.τ).loc Cert.BOutRefIdeal.main_arg1)
      ∧ r.2.mem ((c.tc : Thread Cert.BOutRefIdeal.nD Cert.BOutRefIdeal.τ).loc Cert.BOutRefIdeal.main_arg2) = m ((c.tc : Thread Cert.BOutRefIdeal.nD Cert.BOutRefIdeal.τ).loc Cert.BOutRefIdeal.main_arg2)
      ∧ r.2.mem ((c.tc : Thread Cert.BOutRefIdeal.nD Cert.BOutRefIdeal.τ).loc Cert.BOutRefIdeal.main_arg3) = m ((c.tc : Thread Cert.BOutRefIdeal.nD Cert.BOutRefIdeal.τ).loc Cert.BOutRefIdeal.main_arg3)
      ∧ r.2.mem ((c.tc : Thread Cert.BOutRefIdeal.nD Cert.BOutRefIdeal.τ).loc Cert.BOutRefIdeal.main_arg4) = m ((c.tc : Thread Cert.BOutRefIdeal.nD Cert.BOutRefIdeal.τ).loc Cert.BOutRefIdeal.main_arg4)
      ∧ r.2.mem ((c.tc : Thread Cert.BOutRefIdeal.nD Cert.BOutRefIdeal.τ).loc Cert.BOutRefIdeal.main_arg5) = m ((c.tc : Thread Cert.BOutRefIdeal.nD Cert.BOutRefIdeal.τ).loc Cert.BOutRefIdeal.main_arg5)
      ∧ r.2.mem ((c.tc : Thread Cert.BOutRefIdeal.nD Cert.BOutRefIdeal.τ).loc Cert.BOutRefIdeal.main_arg6) = m ((c.tc : Thread Cert.BOutRefIdeal.nD Cert.BOutRefIdeal.τ).loc Cert.BOutRefIdeal.main_arg6))
      ∧ r.2.sem = fun _ => 0)

def quiescent_DMerge [hDMerge : Cert.DMerge.Facts] : Prop :=
  ∀ (m : (ℓ : Loc Cert.DMerge.nD Cert.DMerge.τ Cert.DMerge.sig) → Buf (Elt Bits) ℓ) (g : Dev Cert.DMerge.nD → PrngReg), Pre_DMerge m →
    θ_run (Cert.DMerge.defs (F := Bits)) (onTc (τ := Cert.DMerge.τ) (Cert.DMerge.main (F := Bits))) ⟨m, fun _ => 0, g⟩ (fun r => (∀ c : Dev Cert.DMerge.nD,
      r.2.mem ((c.tc : Thread Cert.DMerge.nD Cert.DMerge.τ).loc Cert.DMerge.main_arg0) = m ((c.tc : Thread Cert.DMerge.nD Cert.DMerge.τ).loc Cert.DMerge.main_arg0)
      ∧ r.2.mem ((c.tc : Thread Cert.DMerge.nD Cert.DMerge.τ).loc Cert.DMerge.main_arg1) = m ((c.tc : Thread Cert.DMerge.nD Cert.DMerge.τ).loc Cert.DMerge.main_arg1)
      ∧ r.2.mem ((c.tc : Thread Cert.DMerge.nD Cert.DMerge.τ).loc Cert.DMerge.main_arg2) = m ((c.tc : Thread Cert.DMerge.nD Cert.DMerge.τ).loc Cert.DMerge.main_arg2)
      ∧ r.2.mem ((c.tc : Thread Cert.DMerge.nD Cert.DMerge.τ).loc Cert.DMerge.main_arg3) = m ((c.tc : Thread Cert.DMerge.nD Cert.DMerge.τ).loc Cert.DMerge.main_arg3)
      ∧ r.2.mem ((c.tc : Thread Cert.DMerge.nD Cert.DMerge.τ).loc Cert.DMerge.main_arg4) = m ((c.tc : Thread Cert.DMerge.nD Cert.DMerge.τ).loc Cert.DMerge.main_arg4)
      ∧ r.2.mem ((c.tc : Thread Cert.DMerge.nD Cert.DMerge.τ).loc Cert.DMerge.main_arg5) = m ((c.tc : Thread Cert.DMerge.nD Cert.DMerge.τ).loc Cert.DMerge.main_arg5)
      ∧ r.2.mem ((c.tc : Thread Cert.DMerge.nD Cert.DMerge.τ).loc Cert.DMerge.main_arg6) = m ((c.tc : Thread Cert.DMerge.nD Cert.DMerge.τ).loc Cert.DMerge.main_arg6)
      ∧ r.2.mem ((c.tc : Thread Cert.DMerge.nD Cert.DMerge.τ).loc Cert.DMerge.main_arg7) = m ((c.tc : Thread Cert.DMerge.nD Cert.DMerge.τ).loc Cert.DMerge.main_arg7))
      ∧ r.2.sem = fun _ => 0)

def quiescent_DMergeIdeal [hDMergeIdeal : Cert.DMergeIdeal.Facts] : Prop :=
  ∀ (m : (ℓ : Loc Cert.DMergeIdeal.nD Cert.DMergeIdeal.τ Cert.DMergeIdeal.sig) → Buf (Elt Ideal) ℓ) (g : Dev Cert.DMergeIdeal.nD → PrngReg), Pre_DMergeIdeal m →
    θ_run (Cert.DMergeIdeal.defs (F := Ideal)) (onTc (τ := Cert.DMergeIdeal.τ) (Cert.DMergeIdeal.main (F := Ideal))) ⟨m, fun _ => 0, g⟩ (fun r => (∀ c : Dev Cert.DMergeIdeal.nD,
      r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
      ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
      ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
      ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
      ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4)
      ∧ r.2.mem ((c.tc : Thread Cert.DMergeIdeal.nD Cert.DMergeIdeal.τ).loc Cert.DMergeIdeal.main_arg5) = m ((c.tc : Thread Cert.DMergeIdeal.nD Cert.DMergeIdeal.τ).loc Cert.DMergeIdeal.main_arg5)
      ∧ r.2.mem ((c.tc : Thread Cert.DMergeIdeal.nD Cert.DMergeIdeal.τ).loc Cert.DMergeIdeal.main_arg6) = m ((c.tc : Thread Cert.DMergeIdeal.nD Cert.DMergeIdeal.τ).loc Cert.DMergeIdeal.main_arg6)
      ∧ r.2.mem ((c.tc : Thread Cert.DMergeIdeal.nD Cert.DMergeIdeal.τ).loc Cert.DMergeIdeal.main_arg7) = m ((c.tc : Thread Cert.DMergeIdeal.nD Cert.DMergeIdeal.τ).loc Cert.DMergeIdeal.main_arg7))
      ∧ r.2.sem = fun _ => 0)

def quiescent_DMergeIdeal_pre_finite_lse [hDMergeIdeal : Cert.DMergeIdeal.Facts] [hPre_finite_lse : Cert.Pre_finite_lse.Facts] : Prop :=
  ∀ (m : (ℓ : Loc Cert.DMergeIdeal.nD Cert.DMergeIdeal.τ Cert.DMergeIdeal.sig) → Buf (Elt Ideal) ℓ) (g : Dev Cert.DMergeIdeal.nD → PrngReg), Pre_DMergeIdeal_finite_lse m →
    θ_run (Cert.DMergeIdeal.defs (F := Ideal)) (onTc (τ := Cert.DMergeIdeal.τ) (Cert.DMergeIdeal.main (F := Ideal))) ⟨m, fun _ => 0, g⟩ (fun r => (∀ c : Dev Cert.DMergeIdeal.nD,
      r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
      ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
      ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
      ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
      ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4)
      ∧ r.2.mem ((c.tc : Thread Cert.DMergeIdeal.nD Cert.DMergeIdeal.τ).loc Cert.DMergeIdeal.main_arg5) = m ((c.tc : Thread Cert.DMergeIdeal.nD Cert.DMergeIdeal.τ).loc Cert.DMergeIdeal.main_arg5)
      ∧ r.2.mem ((c.tc : Thread Cert.DMergeIdeal.nD Cert.DMergeIdeal.τ).loc Cert.DMergeIdeal.main_arg6) = m ((c.tc : Thread Cert.DMergeIdeal.nD Cert.DMergeIdeal.τ).loc Cert.DMergeIdeal.main_arg6)
      ∧ r.2.mem ((c.tc : Thread Cert.DMergeIdeal.nD Cert.DMergeIdeal.τ).loc Cert.DMergeIdeal.main_arg7) = m ((c.tc : Thread Cert.DMergeIdeal.nD Cert.DMergeIdeal.τ).loc Cert.DMergeIdeal.main_arg7))
      ∧ r.2.sem = fun _ => 0)

def quiescent_DMergeRefIdeal [hDMergeRefIdeal : Cert.DMergeRefIdeal.Facts] : Prop :=
  ∀ (m : (ℓ : Loc Cert.DMergeRefIdeal.nD Cert.DMergeRefIdeal.τ Cert.DMergeRefIdeal.sig) → Buf (Elt Ideal) ℓ) (g : Dev Cert.DMergeRefIdeal.nD → PrngReg), Pre_DMergeRefIdeal m →
    θ_run (Cert.DMergeRefIdeal.defs (F := Ideal)) (onTc (τ := Cert.DMergeRefIdeal.τ) (Cert.DMergeRefIdeal.main (F := Ideal))) ⟨m, fun _ => 0, g⟩ (fun r => (∀ c : Dev Cert.DMergeRefIdeal.nD,
      r.2.mem ((c.tc : Thread Cert.DMergeRefIdeal.nD Cert.DMergeRefIdeal.τ).loc Cert.DMergeRefIdeal.main_arg0) = m ((c.tc : Thread Cert.DMergeRefIdeal.nD Cert.DMergeRefIdeal.τ).loc Cert.DMergeRefIdeal.main_arg0)
      ∧ r.2.mem ((c.tc : Thread Cert.DMergeRefIdeal.nD Cert.DMergeRefIdeal.τ).loc Cert.DMergeRefIdeal.main_arg1) = m ((c.tc : Thread Cert.DMergeRefIdeal.nD Cert.DMergeRefIdeal.τ).loc Cert.DMergeRefIdeal.main_arg1)
      ∧ r.2.mem ((c.tc : Thread Cert.DMergeRefIdeal.nD Cert.DMergeRefIdeal.τ).loc Cert.DMergeRefIdeal.main_arg2) = m ((c.tc : Thread Cert.DMergeRefIdeal.nD Cert.DMergeRefIdeal.τ).loc Cert.DMergeRefIdeal.main_arg2)
      ∧ r.2.mem ((c.tc : Thread Cert.DMergeRefIdeal.nD Cert.DMergeRefIdeal.τ).loc Cert.DMergeRefIdeal.main_arg3) = m ((c.tc : Thread Cert.DMergeRefIdeal.nD Cert.DMergeRefIdeal.τ).loc Cert.DMergeRefIdeal.main_arg3)
      ∧ r.2.mem ((c.tc : Thread Cert.DMergeRefIdeal.nD Cert.DMergeRefIdeal.τ).loc Cert.DMergeRefIdeal.main_arg4) = m ((c.tc : Thread Cert.DMergeRefIdeal.nD Cert.DMergeRefIdeal.τ).loc Cert.DMergeRefIdeal.main_arg4)
      ∧ r.2.mem ((c.tc : Thread Cert.DMergeRefIdeal.nD Cert.DMergeRefIdeal.τ).loc Cert.DMergeRefIdeal.main_arg5) = m ((c.tc : Thread Cert.DMergeRefIdeal.nD Cert.DMergeRefIdeal.τ).loc Cert.DMergeRefIdeal.main_arg5)
      ∧ r.2.mem ((c.tc : Thread Cert.DMergeRefIdeal.nD Cert.DMergeRefIdeal.τ).loc Cert.DMergeRefIdeal.main_arg6) = m ((c.tc : Thread Cert.DMergeRefIdeal.nD Cert.DMergeRefIdeal.τ).loc Cert.DMergeRefIdeal.main_arg6)
      ∧ r.2.mem ((c.tc : Thread Cert.DMergeRefIdeal.nD Cert.DMergeRefIdeal.τ).loc Cert.DMergeRefIdeal.main_arg7) = m ((c.tc : Thread Cert.DMergeRefIdeal.nD Cert.DMergeRefIdeal.τ).loc Cert.DMergeRefIdeal.main_arg7))
      ∧ r.2.sem = fun _ => 0)

def quiescent_DMergeRefIdeal_pre_finite_lse [hDMergeRefIdeal : Cert.DMergeRefIdeal.Facts] [hPre_finite_lse : Cert.Pre_finite_lse.Facts] : Prop :=
  ∀ (m : (ℓ : Loc Cert.DMergeRefIdeal.nD Cert.DMergeRefIdeal.τ Cert.DMergeRefIdeal.sig) → Buf (Elt Ideal) ℓ) (g : Dev Cert.DMergeRefIdeal.nD → PrngReg), Pre_DMergeRefIdeal_finite_lse m →
    θ_run (Cert.DMergeRefIdeal.defs (F := Ideal)) (onTc (τ := Cert.DMergeRefIdeal.τ) (Cert.DMergeRefIdeal.main (F := Ideal))) ⟨m, fun _ => 0, g⟩ (fun r => (∀ c : Dev Cert.DMergeRefIdeal.nD,
      r.2.mem ((c.tc : Thread Cert.DMergeRefIdeal.nD Cert.DMergeRefIdeal.τ).loc Cert.DMergeRefIdeal.main_arg0) = m ((c.tc : Thread Cert.DMergeRefIdeal.nD Cert.DMergeRefIdeal.τ).loc Cert.DMergeRefIdeal.main_arg0)
      ∧ r.2.mem ((c.tc : Thread Cert.DMergeRefIdeal.nD Cert.DMergeRefIdeal.τ).loc Cert.DMergeRefIdeal.main_arg1) = m ((c.tc : Thread Cert.DMergeRefIdeal.nD Cert.DMergeRefIdeal.τ).loc Cert.DMergeRefIdeal.main_arg1)
      ∧ r.2.mem ((c.tc : Thread Cert.DMergeRefIdeal.nD Cert.DMergeRefIdeal.τ).loc Cert.DMergeRefIdeal.main_arg2) = m ((c.tc : Thread Cert.DMergeRefIdeal.nD Cert.DMergeRefIdeal.τ).loc Cert.DMergeRefIdeal.main_arg2)
      ∧ r.2.mem ((c.tc : Thread Cert.DMergeRefIdeal.nD Cert.DMergeRefIdeal.τ).loc Cert.DMergeRefIdeal.main_arg3) = m ((c.tc : Thread Cert.DMergeRefIdeal.nD Cert.DMergeRefIdeal.τ).loc Cert.DMergeRefIdeal.main_arg3)
      ∧ r.2.mem ((c.tc : Thread Cert.DMergeRefIdeal.nD Cert.DMergeRefIdeal.τ).loc Cert.DMergeRefIdeal.main_arg4) = m ((c.tc : Thread Cert.DMergeRefIdeal.nD Cert.DMergeRefIdeal.τ).loc Cert.DMergeRefIdeal.main_arg4)
      ∧ r.2.mem ((c.tc : Thread Cert.DMergeRefIdeal.nD Cert.DMergeRefIdeal.τ).loc Cert.DMergeRefIdeal.main_arg5) = m ((c.tc : Thread Cert.DMergeRefIdeal.nD Cert.DMergeRefIdeal.τ).loc Cert.DMergeRefIdeal.main_arg5)
      ∧ r.2.mem ((c.tc : Thread Cert.DMergeRefIdeal.nD Cert.DMergeRefIdeal.τ).loc Cert.DMergeRefIdeal.main_arg6) = m ((c.tc : Thread Cert.DMergeRefIdeal.nD Cert.DMergeRefIdeal.τ).loc Cert.DMergeRefIdeal.main_arg6)
      ∧ r.2.mem ((c.tc : Thread Cert.DMergeRefIdeal.nD Cert.DMergeRefIdeal.τ).loc Cert.DMergeRefIdeal.main_arg7) = m ((c.tc : Thread Cert.DMergeRefIdeal.nD Cert.DMergeRefIdeal.τ).loc Cert.DMergeRefIdeal.main_arg7))
      ∧ r.2.sem = fun _ => 0)

def quiescent_CConv [hCConv : Cert.CConv.Facts] : Prop :=
  ∀ (m : (ℓ : Loc Cert.CConv.nD Cert.CConv.τ Cert.CConv.sig) → Buf (Elt Bits) ℓ) (g : Dev Cert.CConv.nD → PrngReg), Pre_CConv m →
    θ_run (Cert.CConv.defs (F := Bits)) (onTc (τ := Cert.CConv.τ) (Cert.CConv.main (F := Bits))) ⟨m, fun _ => 0, g⟩ (fun r => (∀ c : Dev Cert.CConv.nD,
      r.2.mem ((c.tc : Thread Cert.CConv.nD Cert.CConv.τ).loc Cert.CConv.main_arg0) = m ((c.tc : Thread Cert.CConv.nD Cert.CConv.τ).loc Cert.CConv.main_arg0)
      ∧ r.2.mem ((c.tc : Thread Cert.CConv.nD Cert.CConv.τ).loc Cert.CConv.main_arg1) = m ((c.tc : Thread Cert.CConv.nD Cert.CConv.τ).loc Cert.CConv.main_arg1)
      ∧ r.2.mem ((c.tc : Thread Cert.CConv.nD Cert.CConv.τ).loc Cert.CConv.main_arg2) = m ((c.tc : Thread Cert.CConv.nD Cert.CConv.τ).loc Cert.CConv.main_arg2)
      ∧ r.2.mem ((c.tc : Thread Cert.CConv.nD Cert.CConv.τ).loc Cert.CConv.main_arg3) = m ((c.tc : Thread Cert.CConv.nD Cert.CConv.τ).loc Cert.CConv.main_arg3)
      ∧ r.2.mem ((c.tc : Thread Cert.CConv.nD Cert.CConv.τ).loc Cert.CConv.main_arg4) = m ((c.tc : Thread Cert.CConv.nD Cert.CConv.τ).loc Cert.CConv.main_arg4)
      ∧ r.2.mem ((c.tc : Thread Cert.CConv.nD Cert.CConv.τ).loc Cert.CConv.main_arg5) = m ((c.tc : Thread Cert.CConv.nD Cert.CConv.τ).loc Cert.CConv.main_arg5)
      ∧ r.2.mem ((c.tc : Thread Cert.CConv.nD Cert.CConv.τ).loc Cert.CConv.main_arg6) = m ((c.tc : Thread Cert.CConv.nD Cert.CConv.τ).loc Cert.CConv.main_arg6)
      ∧ r.2.mem ((c.tc : Thread Cert.CConv.nD Cert.CConv.τ).loc Cert.CConv.main_arg7) = m ((c.tc : Thread Cert.CConv.nD Cert.CConv.τ).loc Cert.CConv.main_arg7))
      ∧ r.2.sem = fun _ => 0)

def quiescent_CConvIdeal [hCConvIdeal : Cert.CConvIdeal.Facts] : Prop :=
  ∀ (m : (ℓ : Loc Cert.CConvIdeal.nD Cert.CConvIdeal.τ Cert.CConvIdeal.sig) → Buf (Elt Ideal) ℓ) (g : Dev Cert.CConvIdeal.nD → PrngReg), Pre_CConvIdeal m →
    θ_run (Cert.CConvIdeal.defs (F := Ideal)) (onTc (τ := Cert.CConvIdeal.τ) (Cert.CConvIdeal.main (F := Ideal))) ⟨m, fun _ => 0, g⟩ (fun r => (∀ c : Dev Cert.CConvIdeal.nD,
      r.2.mem ((c.tc : Thread Cert.CConvIdeal.nD Cert.CConvIdeal.τ).loc Cert.CConvIdeal.main_arg0) = m ((c.tc : Thread Cert.CConvIdeal.nD Cert.CConvIdeal.τ).loc Cert.CConvIdeal.main_arg0)
      ∧ r.2.mem ((c.tc : Thread Cert.CConvIdeal.nD Cert.CConvIdeal.τ).loc Cert.CConvIdeal.main_arg1) = m ((c.tc : Thread Cert.CConvIdeal.nD Cert.CConvIdeal.τ).loc Cert.CConvIdeal.main_arg1)
      ∧ r.2.mem ((c.tc : Thread Cert.CConvIdeal.nD Cert.CConvIdeal.τ).loc Cert.CConvIdeal.main_arg2) = m ((c.tc : Thread Cert.CConvIdeal.nD Cert.CConvIdeal.τ).loc Cert.CConvIdeal.main_arg2)
      ∧ r.2.mem ((c.tc : Thread Cert.CConvIdeal.nD Cert.CConvIdeal.τ).loc Cert.CConvIdeal.main_arg3) = m ((c.tc : Thread Cert.CConvIdeal.nD Cert.CConvIdeal.τ).loc Cert.CConvIdeal.main_arg3)
      ∧ r.2.mem ((c.tc : Thread Cert.CConvIdeal.nD Cert.CConvIdeal.τ).loc Cert.CConvIdeal.main_arg4) = m ((c.tc : Thread Cert.CConvIdeal.nD Cert.CConvIdeal.τ).loc Cert.CConvIdeal.main_arg4)
      ∧ r.2.mem ((c.tc : Thread Cert.CConvIdeal.nD Cert.CConvIdeal.τ).loc Cert.CConvIdeal.main_arg5) = m ((c.tc : Thread Cert.CConvIdeal.nD Cert.CConvIdeal.τ).loc Cert.CConvIdeal.main_arg5)
      ∧ r.2.mem ((c.tc : Thread Cert.CConvIdeal.nD Cert.CConvIdeal.τ).loc Cert.CConvIdeal.main_arg6) = m ((c.tc : Thread Cert.CConvIdeal.nD Cert.CConvIdeal.τ).loc Cert.CConvIdeal.main_arg6)
      ∧ r.2.mem ((c.tc : Thread Cert.CConvIdeal.nD Cert.CConvIdeal.τ).loc Cert.CConvIdeal.main_arg7) = m ((c.tc : Thread Cert.CConvIdeal.nD Cert.CConvIdeal.τ).loc Cert.CConvIdeal.main_arg7))
      ∧ r.2.sem = fun _ => 0)

def quiescent_CConvRefIdeal [hCConvRefIdeal : Cert.CConvRefIdeal.Facts] : Prop :=
  ∀ (m : (ℓ : Loc Cert.CConvRefIdeal.nD Cert.CConvRefIdeal.τ Cert.CConvRefIdeal.sig) → Buf (Elt Ideal) ℓ) (g : Dev Cert.CConvRefIdeal.nD → PrngReg), Pre_CConvRefIdeal m →
    θ_run (Cert.CConvRefIdeal.defs (F := Ideal)) (onTc (τ := Cert.CConvRefIdeal.τ) (Cert.CConvRefIdeal.main (F := Ideal))) ⟨m, fun _ => 0, g⟩ (fun r => (∀ c : Dev Cert.CConvRefIdeal.nD,
      r.2.mem ((c.tc : Thread Cert.CConvRefIdeal.nD Cert.CConvRefIdeal.τ).loc Cert.CConvRefIdeal.main_arg0) = m ((c.tc : Thread Cert.CConvRefIdeal.nD Cert.CConvRefIdeal.τ).loc Cert.CConvRefIdeal.main_arg0)
      ∧ r.2.mem ((c.tc : Thread Cert.CConvRefIdeal.nD Cert.CConvRefIdeal.τ).loc Cert.CConvRefIdeal.main_arg1) = m ((c.tc : Thread Cert.CConvRefIdeal.nD Cert.CConvRefIdeal.τ).loc Cert.CConvRefIdeal.main_arg1)
      ∧ r.2.mem ((c.tc : Thread Cert.CConvRefIdeal.nD Cert.CConvRefIdeal.τ).loc Cert.CConvRefIdeal.main_arg2) = m ((c.tc : Thread Cert.CConvRefIdeal.nD Cert.CConvRefIdeal.τ).loc Cert.CConvRefIdeal.main_arg2)
      ∧ r.2.mem ((c.tc : Thread Cert.CConvRefIdeal.nD Cert.CConvRefIdeal.τ).loc Cert.CConvRefIdeal.main_arg3) = m ((c.tc : Thread Cert.CConvRefIdeal.nD Cert.CConvRefIdeal.τ).loc Cert.CConvRefIdeal.main_arg3)
      ∧ r.2.mem ((c.tc : Thread Cert.CConvRefIdeal.nD Cert.CConvRefIdeal.τ).loc Cert.CConvRefIdeal.main_arg4) = m ((c.tc : Thread Cert.CConvRefIdeal.nD Cert.CConvRefIdeal.τ).loc Cert.CConvRefIdeal.main_arg4)
      ∧ r.2.mem ((c.tc : Thread Cert.CConvRefIdeal.nD Cert.CConvRefIdeal.τ).loc Cert.CConvRefIdeal.main_arg5) = m ((c.tc : Thread Cert.CConvRefIdeal.nD Cert.CConvRefIdeal.τ).loc Cert.CConvRefIdeal.main_arg5)
      ∧ r.2.mem ((c.tc : Thread Cert.CConvRefIdeal.nD Cert.CConvRefIdeal.τ).loc Cert.CConvRefIdeal.main_arg6) = m ((c.tc : Thread Cert.CConvRefIdeal.nD Cert.CConvRefIdeal.τ).loc Cert.CConvRefIdeal.main_arg6)
      ∧ r.2.mem ((c.tc : Thread Cert.CConvRefIdeal.nD Cert.CConvRefIdeal.τ).loc Cert.CConvRefIdeal.main_arg7) = m ((c.tc : Thread Cert.CConvRefIdeal.nD Cert.CConvRefIdeal.τ).loc Cert.CConvRefIdeal.main_arg7))
      ∧ r.2.sem = fun _ => 0)

def preserves_DAttn_DAttnIdeal : Prop :=
  IdealRules.named_const.Statement Cert.DAttnIdeal.κ "mask" .f32 0xF149F2CA#32 ⊥

def algebraic_DAttnIdeal_DAttnRefIdeal_pre_window_bias [hDAttnIdeal : Cert.DAttnIdeal.Facts] [hDAttnRefIdeal : Cert.DAttnRefIdeal.Facts] [hPre_window_bias : Cert.Pre_window_bias.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DAttnRefIdeal.nD Cert.DAttnRefIdeal.τ Cert.DAttnRefIdeal.sig) → Buf (Elt Ideal) ℓ) (g' : Dev Cert.DAttnRefIdeal.nD → PrngReg), Pre_DAttnIdeal_window_bias m →
    (∀ c : Dev Cert.DAttnIdeal.nD,
      m' ((c.tc : Thread Cert.DAttnRefIdeal.nD Cert.DAttnRefIdeal.τ).loc Cert.DAttnRefIdeal.main_arg0) = m ((c.tc : Thread Cert.DAttnIdeal.nD Cert.DAttnIdeal.τ).loc Cert.DAttnIdeal.main_arg0)
      ∧ m' ((c.tc : Thread Cert.DAttnRefIdeal.nD Cert.DAttnRefIdeal.τ).loc Cert.DAttnRefIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0_0)) (v1 : (c : Dev Cert.DAttnIdeal.nD) → Buf (Elt Ideal) ((c.tc : Thread Cert.DAttnIdeal.nD Cert.DAttnIdeal.τ).loc Cert.DAttnIdeal.main_v0_1)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0_0) = v0 c
          ∧ r.2.mem ((c.tc : Thread Cert.DAttnIdeal.nD Cert.DAttnIdeal.τ).loc Cert.DAttnIdeal.main_v0_1) = v1 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DAttnRefIdeal.defs (F := Ideal)) (onTc (τ := Cert.DAttnRefIdeal.τ) (Cert.DAttnRefIdeal.main (F := Ideal))) ⟨m', fun _ => 0, g'⟩ (fun r => ∀ c : Dev Cert.DAttnRefIdeal.nD,
          r.2.mem ((c.tc : Thread Cert.DAttnRefIdeal.nD Cert.DAttnRefIdeal.τ).loc Cert.DAttnRefIdeal.main_v79) = v0 c
          ∧ r.2.mem ((c.tc : Thread Cert.DAttnRefIdeal.nD Cert.DAttnRefIdeal.τ).loc Cert.DAttnRefIdeal.main_v84) = v1 c
          ∧ r.2.mem ((c.tc : Thread Cert.DAttnRefIdeal.nD Cert.DAttnRefIdeal.τ).loc Cert.DAttnRefIdeal.main_arg0) = m' ((c.tc : Thread Cert.DAttnRefIdeal.nD Cert.DAttnRefIdeal.τ).loc Cert.DAttnRefIdeal.main_arg0)
          ∧ r.2.mem ((c.tc : Thread Cert.DAttnRefIdeal.nD Cert.DAttnRefIdeal.τ).loc Cert.DAttnRefIdeal.main_arg1) = m' ((c.tc : Thread Cert.DAttnRefIdeal.nD Cert.DAttnRefIdeal.τ).loc Cert.DAttnRefIdeal.main_arg1))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v35) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_BIn_BInIdeal : Prop :=
  True

def algebraic_BInIdeal_BInRefIdeal [hBInIdeal : Cert.BInIdeal.Facts] [hBInRefIdeal : Cert.BInRefIdeal.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)
      ∧ m' ((c.tc : Thread Cert.BInRefIdeal.nD Cert.BInRefIdeal.τ).loc Cert.BInRefIdeal.main_arg2) = m ((c.tc : Thread Cert.BInIdeal.nD Cert.BInIdeal.τ).loc Cert.BInIdeal.main_arg2)
      ∧ m' ((c.tc : Thread Cert.BInRefIdeal.nD Cert.BInRefIdeal.τ).loc Cert.BInRefIdeal.main_arg3) = m ((c.tc : Thread Cert.BInIdeal.nD Cert.BInIdeal.τ).loc Cert.BInIdeal.main_arg3)) →
    ∃ (v0 : (c : Dev Cert.BInIdeal.nD) → Buf (Elt Ideal) ((c.tc : Thread Cert.BInIdeal.nD Cert.BInIdeal.τ).loc Cert.BInIdeal.main_v4)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v4) = v0 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
          ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
          ∧ r.2.mem ((c.tc : Thread Cert.BInIdeal.nD Cert.BInIdeal.τ).loc Cert.BInIdeal.main_arg3) = m ((c.tc : Thread Cert.BInIdeal.nD Cert.BInIdeal.τ).loc Cert.BInIdeal.main_arg3))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v31) = v0 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1)
          ∧ r.2.mem ((c.tc : Thread Cert.BInRefIdeal.nD Cert.BInRefIdeal.τ).loc Cert.BInRefIdeal.main_arg2) = m' ((c.tc : Thread Cert.BInRefIdeal.nD Cert.BInRefIdeal.τ).loc Cert.BInRefIdeal.main_arg2)
          ∧ r.2.mem ((c.tc : Thread Cert.BInRefIdeal.nD Cert.BInRefIdeal.τ).loc Cert.BInRefIdeal.main_arg3) = m' ((c.tc : Thread Cert.BInRefIdeal.nD Cert.BInRefIdeal.τ).loc Cert.BInRefIdeal.main_arg3))

def preserves_CIn_CInIdeal : Prop :=
  True

def algebraic_CInIdeal_CInRefIdeal [hCInIdeal : Cert.CInIdeal.Facts] [hCInRefIdeal : Cert.CInRefIdeal.Facts] : Prop :=
  ∀ (m : (ℓ : Loc Cert.CInIdeal.nD Cert.CInIdeal.τ Cert.CInIdeal.sig) → Buf (Elt Ideal) ℓ) (g : Dev Cert.CInIdeal.nD → PrngReg)
    (m' : (ℓ : Loc Cert.CInRefIdeal.nD Cert.CInRefIdeal.τ Cert.CInRefIdeal.sig) → Buf (Elt Ideal) ℓ) (g' : Dev Cert.CInRefIdeal.nD → PrngReg), Pre_CInIdeal m →
    (∀ c : Dev Cert.CInIdeal.nD,
      m' ((c.tc : Thread Cert.CInRefIdeal.nD Cert.CInRefIdeal.τ).loc Cert.CInRefIdeal.main_arg0) = m ((c.tc : Thread Cert.CInIdeal.nD Cert.CInIdeal.τ).loc Cert.CInIdeal.main_arg0)
      ∧ m' ((c.tc : Thread Cert.CInRefIdeal.nD Cert.CInRefIdeal.τ).loc Cert.CInRefIdeal.main_arg1) = m ((c.tc : Thread Cert.CInIdeal.nD Cert.CInIdeal.τ).loc Cert.CInIdeal.main_arg1)
      ∧ m' ((c.tc : Thread Cert.CInRefIdeal.nD Cert.CInRefIdeal.τ).loc Cert.CInRefIdeal.main_arg2) = m ((c.tc : Thread Cert.CInIdeal.nD Cert.CInIdeal.τ).loc Cert.CInIdeal.main_arg2)
      ∧ m' ((c.tc : Thread Cert.CInRefIdeal.nD Cert.CInRefIdeal.τ).loc Cert.CInRefIdeal.main_arg3) = m ((c.tc : Thread Cert.CInIdeal.nD Cert.CInIdeal.τ).loc Cert.CInIdeal.main_arg3)) →
    ∃ (v0 : (c : Dev Cert.CInIdeal.nD) → Buf (Elt Ideal) ((c.tc : Thread Cert.CInIdeal.nD Cert.CInIdeal.τ).loc Cert.CInIdeal.main_v4)),
      θ_run (Cert.CInIdeal.defs (F := Ideal)) (onTc (τ := Cert.CInIdeal.τ) (Cert.CInIdeal.main (F := Ideal))) ⟨m, fun _ => 0, g⟩ (fun r => ∀ c : Dev Cert.CInIdeal.nD,
          r.2.mem ((c.tc : Thread Cert.CInIdeal.nD Cert.CInIdeal.τ).loc Cert.CInIdeal.main_v4) = v0 c
          ∧ r.2.mem ((c.tc : Thread Cert.CInIdeal.nD Cert.CInIdeal.τ).loc Cert.CInIdeal.main_arg0) = m ((c.tc : Thread Cert.CInIdeal.nD Cert.CInIdeal.τ).loc Cert.CInIdeal.main_arg0)
          ∧ r.2.mem ((c.tc : Thread Cert.CInIdeal.nD Cert.CInIdeal.τ).loc Cert.CInIdeal.main_arg1) = m ((c.tc : Thread Cert.CInIdeal.nD Cert.CInIdeal.τ).loc Cert.CInIdeal.main_arg1)
          ∧ r.2.mem ((c.tc : Thread Cert.CInIdeal.nD Cert.CInIdeal.τ).loc Cert.CInIdeal.main_arg2) = m ((c.tc : Thread Cert.CInIdeal.nD Cert.CInIdeal.τ).loc Cert.CInIdeal.main_arg2)
          ∧ r.2.mem ((c.tc : Thread Cert.CInIdeal.nD Cert.CInIdeal.τ).loc Cert.CInIdeal.main_arg3) = m ((c.tc : Thread Cert.CInIdeal.nD Cert.CInIdeal.τ).loc Cert.CInIdeal.main_arg3))
      ∧ θ_run (Cert.CInRefIdeal.defs (F := Ideal)) (onTc (τ := Cert.CInRefIdeal.τ) (Cert.CInRefIdeal.main (F := Ideal))) ⟨m', fun _ => 0, g'⟩ (fun r => ∀ c : Dev Cert.CInRefIdeal.nD,
          r.2.mem ((c.tc : Thread Cert.CInRefIdeal.nD Cert.CInRefIdeal.τ).loc Cert.CInRefIdeal.main_v26) = v0 c
          ∧ r.2.mem ((c.tc : Thread Cert.CInRefIdeal.nD Cert.CInRefIdeal.τ).loc Cert.CInRefIdeal.main_arg0) = m' ((c.tc : Thread Cert.CInRefIdeal.nD Cert.CInRefIdeal.τ).loc Cert.CInRefIdeal.main_arg0)
          ∧ r.2.mem ((c.tc : Thread Cert.CInRefIdeal.nD Cert.CInRefIdeal.τ).loc Cert.CInRefIdeal.main_arg1) = m' ((c.tc : Thread Cert.CInRefIdeal.nD Cert.CInRefIdeal.τ).loc Cert.CInRefIdeal.main_arg1)
          ∧ r.2.mem ((c.tc : Thread Cert.CInRefIdeal.nD Cert.CInRefIdeal.τ).loc Cert.CInRefIdeal.main_arg2) = m' ((c.tc : Thread Cert.CInRefIdeal.nD Cert.CInRefIdeal.τ).loc Cert.CInRefIdeal.main_arg2)
          ∧ r.2.mem ((c.tc : Thread Cert.CInRefIdeal.nD Cert.CInRefIdeal.τ).loc Cert.CInRefIdeal.main_arg3) = m' ((c.tc : Thread Cert.CInRefIdeal.nD Cert.CInRefIdeal.τ).loc Cert.CInRefIdeal.main_arg3))

def preserves_AQkv_AQkvIdeal : Prop :=
  True

def algebraic_AQkvIdeal_AQkvRefIdeal [hAQkvIdeal : Cert.AQkvIdeal.Facts] [hAQkvRefIdeal : Cert.AQkvRefIdeal.Facts] : Prop :=
  ∀ (m : (ℓ : Loc Cert.AQkvIdeal.nD Cert.AQkvIdeal.τ Cert.AQkvIdeal.sig) → Buf (Elt Ideal) ℓ) (g : Dev Cert.AQkvIdeal.nD → PrngReg)
    (m' : (ℓ : Loc Cert.AQkvRefIdeal.nD Cert.AQkvRefIdeal.τ Cert.AQkvRefIdeal.sig) → Buf (Elt Ideal) ℓ) (g' : Dev Cert.AQkvRefIdeal.nD → PrngReg), Pre_AQkvIdeal m →
    (∀ c : Dev Cert.AQkvIdeal.nD,
      m' ((c.tc : Thread Cert.AQkvRefIdeal.nD Cert.AQkvRefIdeal.τ).loc Cert.AQkvRefIdeal.main_arg0) = m ((c.tc : Thread Cert.AQkvIdeal.nD Cert.AQkvIdeal.τ).loc Cert.AQkvIdeal.main_arg0)
      ∧ m' ((c.tc : Thread Cert.AQkvRefIdeal.nD Cert.AQkvRefIdeal.τ).loc Cert.AQkvRefIdeal.main_arg1) = m ((c.tc : Thread Cert.AQkvIdeal.nD Cert.AQkvIdeal.τ).loc Cert.AQkvIdeal.main_arg1)
      ∧ m' ((c.tc : Thread Cert.AQkvRefIdeal.nD Cert.AQkvRefIdeal.τ).loc Cert.AQkvRefIdeal.main_arg2) = m ((c.tc : Thread Cert.AQkvIdeal.nD Cert.AQkvIdeal.τ).loc Cert.AQkvIdeal.main_arg2)) →
    ∃ (v0 : (c : Dev Cert.AQkvIdeal.nD) → Buf (Elt Ideal) ((c.tc : Thread Cert.AQkvIdeal.nD Cert.AQkvIdeal.τ).loc Cert.AQkvIdeal.main_v8)),
      θ_run (Cert.AQkvIdeal.defs (F := Ideal)) (onTc (τ := Cert.AQkvIdeal.τ) (Cert.AQkvIdeal.main (F := Ideal))) ⟨m, fun _ => 0, g⟩ (fun r => ∀ c : Dev Cert.AQkvIdeal.nD,
          r.2.mem ((c.tc : Thread Cert.AQkvIdeal.nD Cert.AQkvIdeal.τ).loc Cert.AQkvIdeal.main_v8) = v0 c
          ∧ r.2.mem ((c.tc : Thread Cert.AQkvIdeal.nD Cert.AQkvIdeal.τ).loc Cert.AQkvIdeal.main_arg0) = m ((c.tc : Thread Cert.AQkvIdeal.nD Cert.AQkvIdeal.τ).loc Cert.AQkvIdeal.main_arg0)
          ∧ r.2.mem ((c.tc : Thread Cert.AQkvIdeal.nD Cert.AQkvIdeal.τ).loc Cert.AQkvIdeal.main_arg1) = m ((c.tc : Thread Cert.AQkvIdeal.nD Cert.AQkvIdeal.τ).loc Cert.AQkvIdeal.main_arg1)
          ∧ r.2.mem ((c.tc : Thread Cert.AQkvIdeal.nD Cert.AQkvIdeal.τ).loc Cert.AQkvIdeal.main_arg2) = m ((c.tc : Thread Cert.AQkvIdeal.nD Cert.AQkvIdeal.τ).loc Cert.AQkvIdeal.main_arg2))
      ∧ θ_run (Cert.AQkvRefIdeal.defs (F := Ideal)) (onTc (τ := Cert.AQkvRefIdeal.τ) (Cert.AQkvRefIdeal.main (F := Ideal))) ⟨m', fun _ => 0, g'⟩ (fun r => ∀ c : Dev Cert.AQkvRefIdeal.nD,
          r.2.mem ((c.tc : Thread Cert.AQkvRefIdeal.nD Cert.AQkvRefIdeal.τ).loc Cert.AQkvRefIdeal.main_v23) = v0 c
          ∧ r.2.mem ((c.tc : Thread Cert.AQkvRefIdeal.nD Cert.AQkvRefIdeal.τ).loc Cert.AQkvRefIdeal.main_arg0) = m' ((c.tc : Thread Cert.AQkvRefIdeal.nD Cert.AQkvRefIdeal.τ).loc Cert.AQkvRefIdeal.main_arg0)
          ∧ r.2.mem ((c.tc : Thread Cert.AQkvRefIdeal.nD Cert.AQkvRefIdeal.τ).loc Cert.AQkvRefIdeal.main_arg1) = m' ((c.tc : Thread Cert.AQkvRefIdeal.nD Cert.AQkvRefIdeal.τ).loc Cert.AQkvRefIdeal.main_arg1)
          ∧ r.2.mem ((c.tc : Thread Cert.AQkvRefIdeal.nD Cert.AQkvRefIdeal.τ).loc Cert.AQkvRefIdeal.main_arg2) = m' ((c.tc : Thread Cert.AQkvRefIdeal.nD Cert.AQkvRefIdeal.τ).loc Cert.AQkvRefIdeal.main_arg2))

def preserves_AIdx_AIdxIdeal : Prop :=
  True

def algebraic_AIdxIdeal_AIdxRefIdeal [hAIdxIdeal : Cert.AIdxIdeal.Facts] [hAIdxRefIdeal : Cert.AIdxRefIdeal.Facts] : Prop :=
  ∀ (m : (ℓ : Loc Cert.AIdxIdeal.nD Cert.AIdxIdeal.τ Cert.AIdxIdeal.sig) → Buf (Elt Ideal) ℓ) (g : Dev Cert.AIdxIdeal.nD → PrngReg)
    (m' : (ℓ : Loc Cert.AIdxRefIdeal.nD Cert.AIdxRefIdeal.τ Cert.AIdxRefIdeal.sig) → Buf (Elt Ideal) ℓ) (g' : Dev Cert.AIdxRefIdeal.nD → PrngReg), Pre_AIdxIdeal m →
    (∀ c : Dev Cert.AIdxIdeal.nD,
      m' ((c.tc : Thread Cert.AIdxRefIdeal.nD Cert.AIdxRefIdeal.τ).loc Cert.AIdxRefIdeal.main_arg0) = m ((c.tc : Thread Cert.AIdxIdeal.nD Cert.AIdxIdeal.τ).loc Cert.AIdxIdeal.main_arg0)
      ∧ m' ((c.tc : Thread Cert.AIdxRefIdeal.nD Cert.AIdxRefIdeal.τ).loc Cert.AIdxRefIdeal.main_arg1) = m ((c.tc : Thread Cert.AIdxIdeal.nD Cert.AIdxIdeal.τ).loc Cert.AIdxIdeal.main_arg1)
      ∧ m' ((c.tc : Thread Cert.AIdxRefIdeal.nD Cert.AIdxRefIdeal.τ).loc Cert.AIdxRefIdeal.main_arg2) = m ((c.tc : Thread Cert.AIdxIdeal.nD Cert.AIdxIdeal.τ).loc Cert.AIdxIdeal.main_arg2)) →
    ∃ (v0 : (c : Dev Cert.AIdxIdeal.nD) → Buf (Elt Ideal) ((c.tc : Thread Cert.AIdxIdeal.nD Cert.AIdxIdeal.τ).loc Cert.AIdxIdeal.main_v5)),
      θ_run (Cert.AIdxIdeal.defs (F := Ideal)) (onTc (τ := Cert.AIdxIdeal.τ) (Cert.AIdxIdeal.main (F := Ideal))) ⟨m, fun _ => 0, g⟩ (fun r => ∀ c : Dev Cert.AIdxIdeal.nD,
          r.2.mem ((c.tc : Thread Cert.AIdxIdeal.nD Cert.AIdxIdeal.τ).loc Cert.AIdxIdeal.main_v5) = v0 c
          ∧ r.2.mem ((c.tc : Thread Cert.AIdxIdeal.nD Cert.AIdxIdeal.τ).loc Cert.AIdxIdeal.main_arg0) = m ((c.tc : Thread Cert.AIdxIdeal.nD Cert.AIdxIdeal.τ).loc Cert.AIdxIdeal.main_arg0)
          ∧ r.2.mem ((c.tc : Thread Cert.AIdxIdeal.nD Cert.AIdxIdeal.τ).loc Cert.AIdxIdeal.main_arg1) = m ((c.tc : Thread Cert.AIdxIdeal.nD Cert.AIdxIdeal.τ).loc Cert.AIdxIdeal.main_arg1)
          ∧ r.2.mem ((c.tc : Thread Cert.AIdxIdeal.nD Cert.AIdxIdeal.τ).loc Cert.AIdxIdeal.main_arg2) = m ((c.tc : Thread Cert.AIdxIdeal.nD Cert.AIdxIdeal.τ).loc Cert.AIdxIdeal.main_arg2))
      ∧ θ_run (Cert.AIdxRefIdeal.defs (F := Ideal)) (onTc (τ := Cert.AIdxRefIdeal.τ) (Cert.AIdxRefIdeal.main (F := Ideal))) ⟨m', fun _ => 0, g'⟩ (fun r => ∀ c : Dev Cert.AIdxRefIdeal.nD,
          r.2.mem ((c.tc : Thread Cert.AIdxRefIdeal.nD Cert.AIdxRefIdeal.τ).loc Cert.AIdxRefIdeal.main_v16) = v0 c
          ∧ r.2.mem ((c.tc : Thread Cert.AIdxRefIdeal.nD Cert.AIdxRefIdeal.τ).loc Cert.AIdxRefIdeal.main_arg0) = m' ((c.tc : Thread Cert.AIdxRefIdeal.nD Cert.AIdxRefIdeal.τ).loc Cert.AIdxRefIdeal.main_arg0)
          ∧ r.2.mem ((c.tc : Thread Cert.AIdxRefIdeal.nD Cert.AIdxRefIdeal.τ).loc Cert.AIdxRefIdeal.main_arg1) = m' ((c.tc : Thread Cert.AIdxRefIdeal.nD Cert.AIdxRefIdeal.τ).loc Cert.AIdxRefIdeal.main_arg1)
          ∧ r.2.mem ((c.tc : Thread Cert.AIdxRefIdeal.nD Cert.AIdxRefIdeal.τ).loc Cert.AIdxRefIdeal.main_arg2) = m' ((c.tc : Thread Cert.AIdxRefIdeal.nD Cert.AIdxRefIdeal.τ).loc Cert.AIdxRefIdeal.main_arg2))

def preserves_DIn1_DIn1Ideal : Prop :=
  True

def algebraic_DIn1Ideal_DIn1RefIdeal [hDIn1Ideal : Cert.DIn1Ideal.Facts] [hDIn1RefIdeal : Cert.DIn1RefIdeal.Facts] : Prop :=
  ∀ (m : (ℓ : Loc Cert.DIn1Ideal.nD Cert.DIn1Ideal.τ Cert.DIn1Ideal.sig) → Buf (Elt Ideal) ℓ) (g : Dev Cert.DIn1Ideal.nD → PrngReg)
    (m' : (ℓ : Loc Cert.DIn1RefIdeal.nD Cert.DIn1RefIdeal.τ Cert.DIn1RefIdeal.sig) → Buf (Elt Ideal) ℓ) (g' : Dev Cert.DIn1RefIdeal.nD → PrngReg), Pre_DIn1Ideal m →
    (∀ c : Dev Cert.DIn1Ideal.nD,
      m' ((c.tc : Thread Cert.DIn1RefIdeal.nD Cert.DIn1RefIdeal.τ).loc Cert.DIn1RefIdeal.main_arg0) = m ((c.tc : Thread Cert.DIn1Ideal.nD Cert.DIn1Ideal.τ).loc Cert.DIn1Ideal.main_arg0)
      ∧ m' ((c.tc : Thread Cert.DIn1RefIdeal.nD Cert.DIn1RefIdeal.τ).loc Cert.DIn1RefIdeal.main_arg1) = m ((c.tc : Thread Cert.DIn1Ideal.nD Cert.DIn1Ideal.τ).loc Cert.DIn1Ideal.main_arg1)
      ∧ m' ((c.tc : Thread Cert.DIn1RefIdeal.nD Cert.DIn1RefIdeal.τ).loc Cert.DIn1RefIdeal.main_arg2) = m ((c.tc : Thread Cert.DIn1Ideal.nD Cert.DIn1Ideal.τ).loc Cert.DIn1Ideal.main_arg2)) →
    ∃ (v0 : (c : Dev Cert.DIn1Ideal.nD) → Buf (Elt Ideal) ((c.tc : Thread Cert.DIn1Ideal.nD Cert.DIn1Ideal.τ).loc Cert.DIn1Ideal.main_v7)),
      θ_run (Cert.DIn1Ideal.defs (F := Ideal)) (onTc (τ := Cert.DIn1Ideal.τ) (Cert.DIn1Ideal.main (F := Ideal))) ⟨m, fun _ => 0, g⟩ (fun r => ∀ c : Dev Cert.DIn1Ideal.nD,
          r.2.mem ((c.tc : Thread Cert.DIn1Ideal.nD Cert.DIn1Ideal.τ).loc Cert.DIn1Ideal.main_v7) = v0 c
          ∧ r.2.mem ((c.tc : Thread Cert.DIn1Ideal.nD Cert.DIn1Ideal.τ).loc Cert.DIn1Ideal.main_arg0) = m ((c.tc : Thread Cert.DIn1Ideal.nD Cert.DIn1Ideal.τ).loc Cert.DIn1Ideal.main_arg0)
          ∧ r.2.mem ((c.tc : Thread Cert.DIn1Ideal.nD Cert.DIn1Ideal.τ).loc Cert.DIn1Ideal.main_arg1) = m ((c.tc : Thread Cert.DIn1Ideal.nD Cert.DIn1Ideal.τ).loc Cert.DIn1Ideal.main_arg1)
          ∧ r.2.mem ((c.tc : Thread Cert.DIn1Ideal.nD Cert.DIn1Ideal.τ).loc Cert.DIn1Ideal.main_arg2) = m ((c.tc : Thread Cert.DIn1Ideal.nD Cert.DIn1Ideal.τ).loc Cert.DIn1Ideal.main_arg2))
      ∧ θ_run (Cert.DIn1RefIdeal.defs (F := Ideal)) (onTc (τ := Cert.DIn1RefIdeal.τ) (Cert.DIn1RefIdeal.main (F := Ideal))) ⟨m', fun _ => 0, g'⟩ (fun r => ∀ c : Dev Cert.DIn1RefIdeal.nD,
          r.2.mem ((c.tc : Thread Cert.DIn1RefIdeal.nD Cert.DIn1RefIdeal.τ).loc Cert.DIn1RefIdeal.main_v18) = v0 c
          ∧ r.2.mem ((c.tc : Thread Cert.DIn1RefIdeal.nD Cert.DIn1RefIdeal.τ).loc Cert.DIn1RefIdeal.main_arg0) = m' ((c.tc : Thread Cert.DIn1RefIdeal.nD Cert.DIn1RefIdeal.τ).loc Cert.DIn1RefIdeal.main_arg0)
          ∧ r.2.mem ((c.tc : Thread Cert.DIn1RefIdeal.nD Cert.DIn1RefIdeal.τ).loc Cert.DIn1RefIdeal.main_arg1) = m' ((c.tc : Thread Cert.DIn1RefIdeal.nD Cert.DIn1RefIdeal.τ).loc Cert.DIn1RefIdeal.main_arg1)
          ∧ r.2.mem ((c.tc : Thread Cert.DIn1RefIdeal.nD Cert.DIn1RefIdeal.τ).loc Cert.DIn1RefIdeal.main_arg2) = m' ((c.tc : Thread Cert.DIn1RefIdeal.nD Cert.DIn1RefIdeal.τ).loc Cert.DIn1RefIdeal.main_arg2))

def preserves_DIn4_DIn4Ideal : Prop :=
  True

def algebraic_DIn4Ideal_DIn4RefIdeal [hDIn4Ideal : Cert.DIn4Ideal.Facts] [hDIn4RefIdeal : Cert.DIn4RefIdeal.Facts] : Prop :=
  ∀ (m : (ℓ : Loc Cert.DIn4Ideal.nD Cert.DIn4Ideal.τ Cert.DIn4Ideal.sig) → Buf (Elt Ideal) ℓ) (g : Dev Cert.DIn4Ideal.nD → PrngReg)
    (m' : (ℓ : Loc Cert.DIn4RefIdeal.nD Cert.DIn4RefIdeal.τ Cert.DIn4RefIdeal.sig) → Buf (Elt Ideal) ℓ) (g' : Dev Cert.DIn4RefIdeal.nD → PrngReg), Pre_DIn4Ideal m →
    (∀ c : Dev Cert.DIn4Ideal.nD,
      m' ((c.tc : Thread Cert.DIn4RefIdeal.nD Cert.DIn4RefIdeal.τ).loc Cert.DIn4RefIdeal.main_arg0) = m ((c.tc : Thread Cert.DIn4Ideal.nD Cert.DIn4Ideal.τ).loc Cert.DIn4Ideal.main_arg0)
      ∧ m' ((c.tc : Thread Cert.DIn4RefIdeal.nD Cert.DIn4RefIdeal.τ).loc Cert.DIn4RefIdeal.main_arg1) = m ((c.tc : Thread Cert.DIn4Ideal.nD Cert.DIn4Ideal.τ).loc Cert.DIn4Ideal.main_arg1)
      ∧ m' ((c.tc : Thread Cert.DIn4RefIdeal.nD Cert.DIn4RefIdeal.τ).loc Cert.DIn4RefIdeal.main_arg2) = m ((c.tc : Thread Cert.DIn4Ideal.nD Cert.DIn4Ideal.τ).loc Cert.DIn4Ideal.main_arg2)) →
    ∃ (v0 : (c : Dev Cert.DIn4Ideal.nD) → Buf (Elt Ideal) ((c.tc : Thread Cert.DIn4Ideal.nD Cert.DIn4Ideal.τ).loc Cert.DIn4Ideal.main_v7)),
      θ_run (Cert.DIn4Ideal.defs (F := Ideal)) (onTc (τ := Cert.DIn4Ideal.τ) (Cert.DIn4Ideal.main (F := Ideal))) ⟨m, fun _ => 0, g⟩ (fun r => ∀ c : Dev Cert.DIn4Ideal.nD,
          r.2.mem ((c.tc : Thread Cert.DIn4Ideal.nD Cert.DIn4Ideal.τ).loc Cert.DIn4Ideal.main_v7) = v0 c
          ∧ r.2.mem ((c.tc : Thread Cert.DIn4Ideal.nD Cert.DIn4Ideal.τ).loc Cert.DIn4Ideal.main_arg0) = m ((c.tc : Thread Cert.DIn4Ideal.nD Cert.DIn4Ideal.τ).loc Cert.DIn4Ideal.main_arg0)
          ∧ r.2.mem ((c.tc : Thread Cert.DIn4Ideal.nD Cert.DIn4Ideal.τ).loc Cert.DIn4Ideal.main_arg1) = m ((c.tc : Thread Cert.DIn4Ideal.nD Cert.DIn4Ideal.τ).loc Cert.DIn4Ideal.main_arg1)
          ∧ r.2.mem ((c.tc : Thread Cert.DIn4Ideal.nD Cert.DIn4Ideal.τ).loc Cert.DIn4Ideal.main_arg2) = m ((c.tc : Thread Cert.DIn4Ideal.nD Cert.DIn4Ideal.τ).loc Cert.DIn4Ideal.main_arg2))
      ∧ θ_run (Cert.DIn4RefIdeal.defs (F := Ideal)) (onTc (τ := Cert.DIn4RefIdeal.τ) (Cert.DIn4RefIdeal.main (F := Ideal))) ⟨m', fun _ => 0, g'⟩ (fun r => ∀ c : Dev Cert.DIn4RefIdeal.nD,
          r.2.mem ((c.tc : Thread Cert.DIn4RefIdeal.nD Cert.DIn4RefIdeal.τ).loc Cert.DIn4RefIdeal.main_v20) = v0 c
          ∧ r.2.mem ((c.tc : Thread Cert.DIn4RefIdeal.nD Cert.DIn4RefIdeal.τ).loc Cert.DIn4RefIdeal.main_arg0) = m' ((c.tc : Thread Cert.DIn4RefIdeal.nD Cert.DIn4RefIdeal.τ).loc Cert.DIn4RefIdeal.main_arg0)
          ∧ r.2.mem ((c.tc : Thread Cert.DIn4RefIdeal.nD Cert.DIn4RefIdeal.τ).loc Cert.DIn4RefIdeal.main_arg1) = m' ((c.tc : Thread Cert.DIn4RefIdeal.nD Cert.DIn4RefIdeal.τ).loc Cert.DIn4RefIdeal.main_arg1)
          ∧ r.2.mem ((c.tc : Thread Cert.DIn4RefIdeal.nD Cert.DIn4RefIdeal.τ).loc Cert.DIn4RefIdeal.main_arg2) = m' ((c.tc : Thread Cert.DIn4RefIdeal.nD Cert.DIn4RefIdeal.τ).loc Cert.DIn4RefIdeal.main_arg2))

def preserves_DIn16_DIn16Ideal : Prop :=
  True

def algebraic_DIn16Ideal_DIn16RefIdeal [hDIn16Ideal : Cert.DIn16Ideal.Facts] [hDIn16RefIdeal : Cert.DIn16RefIdeal.Facts] : Prop :=
  ∀ (m : (ℓ : Loc Cert.DIn16Ideal.nD Cert.DIn16Ideal.τ Cert.DIn16Ideal.sig) → Buf (Elt Ideal) ℓ) (g : Dev Cert.DIn16Ideal.nD → PrngReg)
    (m' : (ℓ : Loc Cert.DIn16RefIdeal.nD Cert.DIn16RefIdeal.τ Cert.DIn16RefIdeal.sig) → Buf (Elt Ideal) ℓ) (g' : Dev Cert.DIn16RefIdeal.nD → PrngReg), Pre_DIn16Ideal m →
    (∀ c : Dev Cert.DIn16Ideal.nD,
      m' ((c.tc : Thread Cert.DIn16RefIdeal.nD Cert.DIn16RefIdeal.τ).loc Cert.DIn16RefIdeal.main_arg0) = m ((c.tc : Thread Cert.DIn16Ideal.nD Cert.DIn16Ideal.τ).loc Cert.DIn16Ideal.main_arg0)
      ∧ m' ((c.tc : Thread Cert.DIn16RefIdeal.nD Cert.DIn16RefIdeal.τ).loc Cert.DIn16RefIdeal.main_arg1) = m ((c.tc : Thread Cert.DIn16Ideal.nD Cert.DIn16Ideal.τ).loc Cert.DIn16Ideal.main_arg1)
      ∧ m' ((c.tc : Thread Cert.DIn16RefIdeal.nD Cert.DIn16RefIdeal.τ).loc Cert.DIn16RefIdeal.main_arg2) = m ((c.tc : Thread Cert.DIn16Ideal.nD Cert.DIn16Ideal.τ).loc Cert.DIn16Ideal.main_arg2)) →
    ∃ (v0 : (c : Dev Cert.DIn16Ideal.nD) → Buf (Elt Ideal) ((c.tc : Thread Cert.DIn16Ideal.nD Cert.DIn16Ideal.τ).loc Cert.DIn16Ideal.main_v7)),
      θ_run (Cert.DIn16Ideal.defs (F := Ideal)) (onTc (τ := Cert.DIn16Ideal.τ) (Cert.DIn16Ideal.main (F := Ideal))) ⟨m, fun _ => 0, g⟩ (fun r => ∀ c : Dev Cert.DIn16Ideal.nD,
          r.2.mem ((c.tc : Thread Cert.DIn16Ideal.nD Cert.DIn16Ideal.τ).loc Cert.DIn16Ideal.main_v7) = v0 c
          ∧ r.2.mem ((c.tc : Thread Cert.DIn16Ideal.nD Cert.DIn16Ideal.τ).loc Cert.DIn16Ideal.main_arg0) = m ((c.tc : Thread Cert.DIn16Ideal.nD Cert.DIn16Ideal.τ).loc Cert.DIn16Ideal.main_arg0)
          ∧ r.2.mem ((c.tc : Thread Cert.DIn16Ideal.nD Cert.DIn16Ideal.τ).loc Cert.DIn16Ideal.main_arg1) = m ((c.tc : Thread Cert.DIn16Ideal.nD Cert.DIn16Ideal.τ).loc Cert.DIn16Ideal.main_arg1)
          ∧ r.2.mem ((c.tc : Thread Cert.DIn16Ideal.nD Cert.DIn16Ideal.τ).loc Cert.DIn16Ideal.main_arg2) = m ((c.tc : Thread Cert.DIn16Ideal.nD Cert.DIn16Ideal.τ).loc Cert.DIn16Ideal.main_arg2))
      ∧ θ_run (Cert.DIn16RefIdeal.defs (F := Ideal)) (onTc (τ := Cert.DIn16RefIdeal.τ) (Cert.DIn16RefIdeal.main (F := Ideal))) ⟨m', fun _ => 0, g'⟩ (fun r => ∀ c : Dev Cert.DIn16RefIdeal.nD,
          r.2.mem ((c.tc : Thread Cert.DIn16RefIdeal.nD Cert.DIn16RefIdeal.τ).loc Cert.DIn16RefIdeal.main_v20) = v0 c
          ∧ r.2.mem ((c.tc : Thread Cert.DIn16RefIdeal.nD Cert.DIn16RefIdeal.τ).loc Cert.DIn16RefIdeal.main_arg0) = m' ((c.tc : Thread Cert.DIn16RefIdeal.nD Cert.DIn16RefIdeal.τ).loc Cert.DIn16RefIdeal.main_arg0)
          ∧ r.2.mem ((c.tc : Thread Cert.DIn16RefIdeal.nD Cert.DIn16RefIdeal.τ).loc Cert.DIn16RefIdeal.main_arg1) = m' ((c.tc : Thread Cert.DIn16RefIdeal.nD Cert.DIn16RefIdeal.τ).loc Cert.DIn16RefIdeal.main_arg1)
          ∧ r.2.mem ((c.tc : Thread Cert.DIn16RefIdeal.nD Cert.DIn16RefIdeal.τ).loc Cert.DIn16RefIdeal.main_arg2) = m' ((c.tc : Thread Cert.DIn16RefIdeal.nD Cert.DIn16RefIdeal.τ).loc Cert.DIn16RefIdeal.main_arg2))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)) →
    ∃ (v0 : (c : Dev Cert.AOutIdeal.nD) → Buf (Elt Ideal) ((c.tc : Thread Cert.AOutIdeal.nD Cert.AOutIdeal.τ).loc Cert.AOutIdeal.main_v2)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v2) = v0 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v5) = v0 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2))

def preserves_BOut_BOutIdeal : Prop :=
  True

def algebraic_BOutIdeal_BOutRefIdeal [hBOutIdeal : Cert.BOutIdeal.Facts] [hBOutRefIdeal : Cert.BOutRefIdeal.Facts] : Prop :=
  ∀ (m : (ℓ : Loc Cert.BOutIdeal.nD Cert.BOutIdeal.τ Cert.BOutIdeal.sig) → Buf (Elt Ideal) ℓ) (g : Dev Cert.BOutIdeal.nD → PrngReg)
    (m' : (ℓ : Loc Cert.BOutRefIdeal.nD Cert.BOutRefIdeal.τ Cert.BOutRefIdeal.sig) → Buf (Elt Ideal) ℓ) (g' : Dev Cert.BOutRefIdeal.nD → PrngReg), Pre_BOutIdeal m →
    (∀ c : Dev Cert.BOutIdeal.nD,
      m' ((c.tc : Thread Cert.BOutRefIdeal.nD Cert.BOutRefIdeal.τ).loc Cert.BOutRefIdeal.main_arg0) = m ((c.tc : Thread Cert.BOutIdeal.nD Cert.BOutIdeal.τ).loc Cert.BOutIdeal.main_arg0)
      ∧ m' ((c.tc : Thread Cert.BOutRefIdeal.nD Cert.BOutRefIdeal.τ).loc Cert.BOutRefIdeal.main_arg1) = m ((c.tc : Thread Cert.BOutIdeal.nD Cert.BOutIdeal.τ).loc Cert.BOutIdeal.main_arg1)
      ∧ m' ((c.tc : Thread Cert.BOutRefIdeal.nD Cert.BOutRefIdeal.τ).loc Cert.BOutRefIdeal.main_arg2) = m ((c.tc : Thread Cert.BOutIdeal.nD Cert.BOutIdeal.τ).loc Cert.BOutIdeal.main_arg2)
      ∧ m' ((c.tc : Thread Cert.BOutRefIdeal.nD Cert.BOutRefIdeal.τ).loc Cert.BOutRefIdeal.main_arg3) = m ((c.tc : Thread Cert.BOutIdeal.nD Cert.BOutIdeal.τ).loc Cert.BOutIdeal.main_arg3)
      ∧ m' ((c.tc : Thread Cert.BOutRefIdeal.nD Cert.BOutRefIdeal.τ).loc Cert.BOutRefIdeal.main_arg4) = m ((c.tc : Thread Cert.BOutIdeal.nD Cert.BOutIdeal.τ).loc Cert.BOutIdeal.main_arg4)
      ∧ m' ((c.tc : Thread Cert.BOutRefIdeal.nD Cert.BOutRefIdeal.τ).loc Cert.BOutRefIdeal.main_arg5) = m ((c.tc : Thread Cert.BOutIdeal.nD Cert.BOutIdeal.τ).loc Cert.BOutIdeal.main_arg5)
      ∧ m' ((c.tc : Thread Cert.BOutRefIdeal.nD Cert.BOutRefIdeal.τ).loc Cert.BOutRefIdeal.main_arg6) = m ((c.tc : Thread Cert.BOutIdeal.nD Cert.BOutIdeal.τ).loc Cert.BOutIdeal.main_arg6)) →
    ∃ (v0 : (c : Dev Cert.BOutIdeal.nD) → Buf (Elt Ideal) ((c.tc : Thread Cert.BOutIdeal.nD Cert.BOutIdeal.τ).loc Cert.BOutIdeal.main_v5)),
      θ_run (Cert.BOutIdeal.defs (F := Ideal)) (onTc (τ := Cert.BOutIdeal.τ) (Cert.BOutIdeal.main (F := Ideal))) ⟨m, fun _ => 0, g⟩ (fun r => ∀ c : Dev Cert.BOutIdeal.nD,
          r.2.mem ((c.tc : Thread Cert.BOutIdeal.nD Cert.BOutIdeal.τ).loc Cert.BOutIdeal.main_v5) = v0 c
          ∧ r.2.mem ((c.tc : Thread Cert.BOutIdeal.nD Cert.BOutIdeal.τ).loc Cert.BOutIdeal.main_arg0) = m ((c.tc : Thread Cert.BOutIdeal.nD Cert.BOutIdeal.τ).loc Cert.BOutIdeal.main_arg0)
          ∧ r.2.mem ((c.tc : Thread Cert.BOutIdeal.nD Cert.BOutIdeal.τ).loc Cert.BOutIdeal.main_arg1) = m ((c.tc : Thread Cert.BOutIdeal.nD Cert.BOutIdeal.τ).loc Cert.BOutIdeal.main_arg1)
          ∧ r.2.mem ((c.tc : Thread Cert.BOutIdeal.nD Cert.BOutIdeal.τ).loc Cert.BOutIdeal.main_arg2) = m ((c.tc : Thread Cert.BOutIdeal.nD Cert.BOutIdeal.τ).loc Cert.BOutIdeal.main_arg2)
          ∧ r.2.mem ((c.tc : Thread Cert.BOutIdeal.nD Cert.BOutIdeal.τ).loc Cert.BOutIdeal.main_arg3) = m ((c.tc : Thread Cert.BOutIdeal.nD Cert.BOutIdeal.τ).loc Cert.BOutIdeal.main_arg3)
          ∧ r.2.mem ((c.tc : Thread Cert.BOutIdeal.nD Cert.BOutIdeal.τ).loc Cert.BOutIdeal.main_arg4) = m ((c.tc : Thread Cert.BOutIdeal.nD Cert.BOutIdeal.τ).loc Cert.BOutIdeal.main_arg4)
          ∧ r.2.mem ((c.tc : Thread Cert.BOutIdeal.nD Cert.BOutIdeal.τ).loc Cert.BOutIdeal.main_arg5) = m ((c.tc : Thread Cert.BOutIdeal.nD Cert.BOutIdeal.τ).loc Cert.BOutIdeal.main_arg5)
          ∧ r.2.mem ((c.tc : Thread Cert.BOutIdeal.nD Cert.BOutIdeal.τ).loc Cert.BOutIdeal.main_arg6) = m ((c.tc : Thread Cert.BOutIdeal.nD Cert.BOutIdeal.τ).loc Cert.BOutIdeal.main_arg6))
      ∧ θ_run (Cert.BOutRefIdeal.defs (F := Ideal)) (onTc (τ := Cert.BOutRefIdeal.τ) (Cert.BOutRefIdeal.main (F := Ideal))) ⟨m', fun _ => 0, g'⟩ (fun r => ∀ c : Dev Cert.BOutRefIdeal.nD,
          r.2.mem ((c.tc : Thread Cert.BOutRefIdeal.nD Cert.BOutRefIdeal.τ).loc Cert.BOutRefIdeal.main_v43) = v0 c
          ∧ r.2.mem ((c.tc : Thread Cert.BOutRefIdeal.nD Cert.BOutRefIdeal.τ).loc Cert.BOutRefIdeal.main_arg0) = m' ((c.tc : Thread Cert.BOutRefIdeal.nD Cert.BOutRefIdeal.τ).loc Cert.BOutRefIdeal.main_arg0)
          ∧ r.2.mem ((c.tc : Thread Cert.BOutRefIdeal.nD Cert.BOutRefIdeal.τ).loc Cert.BOutRefIdeal.main_arg1) = m' ((c.tc : Thread Cert.BOutRefIdeal.nD Cert.BOutRefIdeal.τ).loc Cert.BOutRefIdeal.main_arg1)
          ∧ r.2.mem ((c.tc : Thread Cert.BOutRefIdeal.nD Cert.BOutRefIdeal.τ).loc Cert.BOutRefIdeal.main_arg2) = m' ((c.tc : Thread Cert.BOutRefIdeal.nD Cert.BOutRefIdeal.τ).loc Cert.BOutRefIdeal.main_arg2)
          ∧ r.2.mem ((c.tc : Thread Cert.BOutRefIdeal.nD Cert.BOutRefIdeal.τ).loc Cert.BOutRefIdeal.main_arg3) = m' ((c.tc : Thread Cert.BOutRefIdeal.nD Cert.BOutRefIdeal.τ).loc Cert.BOutRefIdeal.main_arg3)
          ∧ r.2.mem ((c.tc : Thread Cert.BOutRefIdeal.nD Cert.BOutRefIdeal.τ).loc Cert.BOutRefIdeal.main_arg4) = m' ((c.tc : Thread Cert.BOutRefIdeal.nD Cert.BOutRefIdeal.τ).loc Cert.BOutRefIdeal.main_arg4)
          ∧ r.2.mem ((c.tc : Thread Cert.BOutRefIdeal.nD Cert.BOutRefIdeal.τ).loc Cert.BOutRefIdeal.main_arg5) = m' ((c.tc : Thread Cert.BOutRefIdeal.nD Cert.BOutRefIdeal.τ).loc Cert.BOutRefIdeal.main_arg5)
          ∧ r.2.mem ((c.tc : Thread Cert.BOutRefIdeal.nD Cert.BOutRefIdeal.τ).loc Cert.BOutRefIdeal.main_arg6) = m' ((c.tc : Thread Cert.BOutRefIdeal.nD Cert.BOutRefIdeal.τ).loc Cert.BOutRefIdeal.main_arg6))

def preserves_DMerge_DMergeIdeal : Prop :=
  True

def algebraic_DMergeIdeal_DMergeRefIdeal_pre_finite_lse [hDMergeIdeal : Cert.DMergeIdeal.Facts] [hDMergeRefIdeal : Cert.DMergeRefIdeal.Facts] [hPre_finite_lse : Cert.Pre_finite_lse.Facts] : Prop :=
  ∀ (m : (ℓ : Loc Cert.DMergeIdeal.nD Cert.DMergeIdeal.τ Cert.DMergeIdeal.sig) → Buf (Elt Ideal) ℓ) (g : Dev Cert.DMergeIdeal.nD → PrngReg)
    (m' : (ℓ : Loc Cert.DMergeRefIdeal.nD Cert.DMergeRefIdeal.τ Cert.DMergeRefIdeal.sig) → Buf (Elt Ideal) ℓ) (g' : Dev Cert.DMergeRefIdeal.nD → PrngReg), Pre_DMergeIdeal_finite_lse m →
    (∀ c : Dev Cert.DMergeIdeal.nD,
      m' ((c.tc : Thread Cert.DMergeRefIdeal.nD Cert.DMergeRefIdeal.τ).loc Cert.DMergeRefIdeal.main_arg0) = m ((c.tc : Thread Cert.DMergeIdeal.nD Cert.DMergeIdeal.τ).loc Cert.DMergeIdeal.main_arg0)
      ∧ m' ((c.tc : Thread Cert.DMergeRefIdeal.nD Cert.DMergeRefIdeal.τ).loc Cert.DMergeRefIdeal.main_arg1) = m ((c.tc : Thread Cert.DMergeIdeal.nD Cert.DMergeIdeal.τ).loc Cert.DMergeIdeal.main_arg1)
      ∧ m' ((c.tc : Thread Cert.DMergeRefIdeal.nD Cert.DMergeRefIdeal.τ).loc Cert.DMergeRefIdeal.main_arg2) = m ((c.tc : Thread Cert.DMergeIdeal.nD Cert.DMergeIdeal.τ).loc Cert.DMergeIdeal.main_arg2)
      ∧ m' ((c.tc : Thread Cert.DMergeRefIdeal.nD Cert.DMergeRefIdeal.τ).loc Cert.DMergeRefIdeal.main_arg3) = m ((c.tc : Thread Cert.DMergeIdeal.nD Cert.DMergeIdeal.τ).loc Cert.DMergeIdeal.main_arg3)
      ∧ m' ((c.tc : Thread Cert.DMergeRefIdeal.nD Cert.DMergeRefIdeal.τ).loc Cert.DMergeRefIdeal.main_arg4) = m ((c.tc : Thread Cert.DMergeIdeal.nD Cert.DMergeIdeal.τ).loc Cert.DMergeIdeal.main_arg4)
      ∧ m' ((c.tc : Thread Cert.DMergeRefIdeal.nD Cert.DMergeRefIdeal.τ).loc Cert.DMergeRefIdeal.main_arg5) = m ((c.tc : Thread Cert.DMergeIdeal.nD Cert.DMergeIdeal.τ).loc Cert.DMergeIdeal.main_arg5)
      ∧ m' ((c.tc : Thread Cert.DMergeRefIdeal.nD Cert.DMergeRefIdeal.τ).loc Cert.DMergeRefIdeal.main_arg6) = m ((c.tc : Thread Cert.DMergeIdeal.nD Cert.DMergeIdeal.τ).loc Cert.DMergeIdeal.main_arg6)
      ∧ m' ((c.tc : Thread Cert.DMergeRefIdeal.nD Cert.DMergeRefIdeal.τ).loc Cert.DMergeRefIdeal.main_arg7) = m ((c.tc : Thread Cert.DMergeIdeal.nD Cert.DMergeIdeal.τ).loc Cert.DMergeIdeal.main_arg7)) →
    ∃ (v0 : (c : Dev Cert.DMergeIdeal.nD) → Buf (Elt Ideal) ((c.tc : Thread Cert.DMergeIdeal.nD Cert.DMergeIdeal.τ).loc Cert.DMergeIdeal.main_v11)),
      θ_run (Cert.DMergeIdeal.defs (F := Ideal)) (onTc (τ := Cert.DMergeIdeal.τ) (Cert.DMergeIdeal.main (F := Ideal))) ⟨m, fun _ => 0, g⟩ (fun r => ∀ c : Dev Cert.DMergeIdeal.nD,
          r.2.mem ((c.tc : Thread Cert.DMergeIdeal.nD Cert.DMergeIdeal.τ).loc Cert.DMergeIdeal.main_v11) = v0 c
          ∧ r.2.mem ((c.tc : Thread Cert.DMergeIdeal.nD Cert.DMergeIdeal.τ).loc Cert.DMergeIdeal.main_arg0) = m ((c.tc : Thread Cert.DMergeIdeal.nD Cert.DMergeIdeal.τ).loc Cert.DMergeIdeal.main_arg0)
          ∧ r.2.mem ((c.tc : Thread Cert.DMergeIdeal.nD Cert.DMergeIdeal.τ).loc Cert.DMergeIdeal.main_arg1) = m ((c.tc : Thread Cert.DMergeIdeal.nD Cert.DMergeIdeal.τ).loc Cert.DMergeIdeal.main_arg1)
          ∧ r.2.mem ((c.tc : Thread Cert.DMergeIdeal.nD Cert.DMergeIdeal.τ).loc Cert.DMergeIdeal.main_arg2) = m ((c.tc : Thread Cert.DMergeIdeal.nD Cert.DMergeIdeal.τ).loc Cert.DMergeIdeal.main_arg2)
          ∧ r.2.mem ((c.tc : Thread Cert.DMergeIdeal.nD Cert.DMergeIdeal.τ).loc Cert.DMergeIdeal.main_arg3) = m ((c.tc : Thread Cert.DMergeIdeal.nD Cert.DMergeIdeal.τ).loc Cert.DMergeIdeal.main_arg3)
          ∧ r.2.mem ((c.tc : Thread Cert.DMergeIdeal.nD Cert.DMergeIdeal.τ).loc Cert.DMergeIdeal.main_arg4) = m ((c.tc : Thread Cert.DMergeIdeal.nD Cert.DMergeIdeal.τ).loc Cert.DMergeIdeal.main_arg4)
          ∧ r.2.mem ((c.tc : Thread Cert.DMergeIdeal.nD Cert.DMergeIdeal.τ).loc Cert.DMergeIdeal.main_arg5) = m ((c.tc : Thread Cert.DMergeIdeal.nD Cert.DMergeIdeal.τ).loc Cert.DMergeIdeal.main_arg5)
          ∧ r.2.mem ((c.tc : Thread Cert.DMergeIdeal.nD Cert.DMergeIdeal.τ).loc Cert.DMergeIdeal.main_arg6) = m ((c.tc : Thread Cert.DMergeIdeal.nD Cert.DMergeIdeal.τ).loc Cert.DMergeIdeal.main_arg6)
          ∧ r.2.mem ((c.tc : Thread Cert.DMergeIdeal.nD Cert.DMergeIdeal.τ).loc Cert.DMergeIdeal.main_arg7) = m ((c.tc : Thread Cert.DMergeIdeal.nD Cert.DMergeIdeal.τ).loc Cert.DMergeIdeal.main_arg7))
      ∧ θ_run (Cert.DMergeRefIdeal.defs (F := Ideal)) (onTc (τ := Cert.DMergeRefIdeal.τ) (Cert.DMergeRefIdeal.main (F := Ideal))) ⟨m', fun _ => 0, g'⟩ (fun r => ∀ c : Dev Cert.DMergeRefIdeal.nD,
          r.2.mem ((c.tc : Thread Cert.DMergeRefIdeal.nD Cert.DMergeRefIdeal.τ).loc Cert.DMergeRefIdeal.main_v32) = v0 c
          ∧ r.2.mem ((c.tc : Thread Cert.DMergeRefIdeal.nD Cert.DMergeRefIdeal.τ).loc Cert.DMergeRefIdeal.main_arg0) = m' ((c.tc : Thread Cert.DMergeRefIdeal.nD Cert.DMergeRefIdeal.τ).loc Cert.DMergeRefIdeal.main_arg0)
          ∧ r.2.mem ((c.tc : Thread Cert.DMergeRefIdeal.nD Cert.DMergeRefIdeal.τ).loc Cert.DMergeRefIdeal.main_arg1) = m' ((c.tc : Thread Cert.DMergeRefIdeal.nD Cert.DMergeRefIdeal.τ).loc Cert.DMergeRefIdeal.main_arg1)
          ∧ r.2.mem ((c.tc : Thread Cert.DMergeRefIdeal.nD Cert.DMergeRefIdeal.τ).loc Cert.DMergeRefIdeal.main_arg2) = m' ((c.tc : Thread Cert.DMergeRefIdeal.nD Cert.DMergeRefIdeal.τ).loc Cert.DMergeRefIdeal.main_arg2)
          ∧ r.2.mem ((c.tc : Thread Cert.DMergeRefIdeal.nD Cert.DMergeRefIdeal.τ).loc Cert.DMergeRefIdeal.main_arg3) = m' ((c.tc : Thread Cert.DMergeRefIdeal.nD Cert.DMergeRefIdeal.τ).loc Cert.DMergeRefIdeal.main_arg3)
          ∧ r.2.mem ((c.tc : Thread Cert.DMergeRefIdeal.nD Cert.DMergeRefIdeal.τ).loc Cert.DMergeRefIdeal.main_arg4) = m' ((c.tc : Thread Cert.DMergeRefIdeal.nD Cert.DMergeRefIdeal.τ).loc Cert.DMergeRefIdeal.main_arg4)
          ∧ r.2.mem ((c.tc : Thread Cert.DMergeRefIdeal.nD Cert.DMergeRefIdeal.τ).loc Cert.DMergeRefIdeal.main_arg5) = m' ((c.tc : Thread Cert.DMergeRefIdeal.nD Cert.DMergeRefIdeal.τ).loc Cert.DMergeRefIdeal.main_arg5)
          ∧ r.2.mem ((c.tc : Thread Cert.DMergeRefIdeal.nD Cert.DMergeRefIdeal.τ).loc Cert.DMergeRefIdeal.main_arg6) = m' ((c.tc : Thread Cert.DMergeRefIdeal.nD Cert.DMergeRefIdeal.τ).loc Cert.DMergeRefIdeal.main_arg6)
          ∧ r.2.mem ((c.tc : Thread Cert.DMergeRefIdeal.nD Cert.DMergeRefIdeal.τ).loc Cert.DMergeRefIdeal.main_arg7) = m' ((c.tc : Thread Cert.DMergeRefIdeal.nD Cert.DMergeRefIdeal.τ).loc Cert.DMergeRefIdeal.main_arg7))

def preserves_CConv_CConvIdeal : Prop :=
  True

def algebraic_CConvIdeal_CConvRefIdeal [hCConvIdeal : Cert.CConvIdeal.Facts] [hCConvRefIdeal : Cert.CConvRefIdeal.Facts] : Prop :=
  ∀ (m : (ℓ : Loc Cert.CConvIdeal.nD Cert.CConvIdeal.τ Cert.CConvIdeal.sig) → Buf (Elt Ideal) ℓ) (g : Dev Cert.CConvIdeal.nD → PrngReg)
    (m' : (ℓ : Loc Cert.CConvRefIdeal.nD Cert.CConvRefIdeal.τ Cert.CConvRefIdeal.sig) → Buf (Elt Ideal) ℓ) (g' : Dev Cert.CConvRefIdeal.nD → PrngReg), Pre_CConvIdeal m →
    (∀ c : Dev Cert.CConvIdeal.nD,
      m' ((c.tc : Thread Cert.CConvRefIdeal.nD Cert.CConvRefIdeal.τ).loc Cert.CConvRefIdeal.main_arg0) = m ((c.tc : Thread Cert.CConvIdeal.nD Cert.CConvIdeal.τ).loc Cert.CConvIdeal.main_arg0)
      ∧ m' ((c.tc : Thread Cert.CConvRefIdeal.nD Cert.CConvRefIdeal.τ).loc Cert.CConvRefIdeal.main_arg1) = m ((c.tc : Thread Cert.CConvIdeal.nD Cert.CConvIdeal.τ).loc Cert.CConvIdeal.main_arg1)
      ∧ m' ((c.tc : Thread Cert.CConvRefIdeal.nD Cert.CConvRefIdeal.τ).loc Cert.CConvRefIdeal.main_arg2) = m ((c.tc : Thread Cert.CConvIdeal.nD Cert.CConvIdeal.τ).loc Cert.CConvIdeal.main_arg2)
      ∧ m' ((c.tc : Thread Cert.CConvRefIdeal.nD Cert.CConvRefIdeal.τ).loc Cert.CConvRefIdeal.main_arg3) = m ((c.tc : Thread Cert.CConvIdeal.nD Cert.CConvIdeal.τ).loc Cert.CConvIdeal.main_arg3)
      ∧ m' ((c.tc : Thread Cert.CConvRefIdeal.nD Cert.CConvRefIdeal.τ).loc Cert.CConvRefIdeal.main_arg4) = m ((c.tc : Thread Cert.CConvIdeal.nD Cert.CConvIdeal.τ).loc Cert.CConvIdeal.main_arg4)
      ∧ m' ((c.tc : Thread Cert.CConvRefIdeal.nD Cert.CConvRefIdeal.τ).loc Cert.CConvRefIdeal.main_arg5) = m ((c.tc : Thread Cert.CConvIdeal.nD Cert.CConvIdeal.τ).loc Cert.CConvIdeal.main_arg5)
      ∧ m' ((c.tc : Thread Cert.CConvRefIdeal.nD Cert.CConvRefIdeal.τ).loc Cert.CConvRefIdeal.main_arg6) = m ((c.tc : Thread Cert.CConvIdeal.nD Cert.CConvIdeal.τ).loc Cert.CConvIdeal.main_arg6)
      ∧ m' ((c.tc : Thread Cert.CConvRefIdeal.nD Cert.CConvRefIdeal.τ).loc Cert.CConvRefIdeal.main_arg7) = m ((c.tc : Thread Cert.CConvIdeal.nD Cert.CConvIdeal.τ).loc Cert.CConvIdeal.main_arg7)) →
    ∃ (v0 : (c : Dev Cert.CConvIdeal.nD) → Buf (Elt Ideal) ((c.tc : Thread Cert.CConvIdeal.nD Cert.CConvIdeal.τ).loc Cert.CConvIdeal.main_v6)),
      θ_run (Cert.CConvIdeal.defs (F := Ideal)) (onTc (τ := Cert.CConvIdeal.τ) (Cert.CConvIdeal.main (F := Ideal))) ⟨m, fun _ => 0, g⟩ (fun r => ∀ c : Dev Cert.CConvIdeal.nD,
          r.2.mem ((c.tc : Thread Cert.CConvIdeal.nD Cert.CConvIdeal.τ).loc Cert.CConvIdeal.main_v6) = v0 c
          ∧ r.2.mem ((c.tc : Thread Cert.CConvIdeal.nD Cert.CConvIdeal.τ).loc Cert.CConvIdeal.main_arg0) = m ((c.tc : Thread Cert.CConvIdeal.nD Cert.CConvIdeal.τ).loc Cert.CConvIdeal.main_arg0)
          ∧ r.2.mem ((c.tc : Thread Cert.CConvIdeal.nD Cert.CConvIdeal.τ).loc Cert.CConvIdeal.main_arg1) = m ((c.tc : Thread Cert.CConvIdeal.nD Cert.CConvIdeal.τ).loc Cert.CConvIdeal.main_arg1)
          ∧ r.2.mem ((c.tc : Thread Cert.CConvIdeal.nD Cert.CConvIdeal.τ).loc Cert.CConvIdeal.main_arg2) = m ((c.tc : Thread Cert.CConvIdeal.nD Cert.CConvIdeal.τ).loc Cert.CConvIdeal.main_arg2)
          ∧ r.2.mem ((c.tc : Thread Cert.CConvIdeal.nD Cert.CConvIdeal.τ).loc Cert.CConvIdeal.main_arg3) = m ((c.tc : Thread Cert.CConvIdeal.nD Cert.CConvIdeal.τ).loc Cert.CConvIdeal.main_arg3)
          ∧ r.2.mem ((c.tc : Thread Cert.CConvIdeal.nD Cert.CConvIdeal.τ).loc Cert.CConvIdeal.main_arg4) = m ((c.tc : Thread Cert.CConvIdeal.nD Cert.CConvIdeal.τ).loc Cert.CConvIdeal.main_arg4)
          ∧ r.2.mem ((c.tc : Thread Cert.CConvIdeal.nD Cert.CConvIdeal.τ).loc Cert.CConvIdeal.main_arg5) = m ((c.tc : Thread Cert.CConvIdeal.nD Cert.CConvIdeal.τ).loc Cert.CConvIdeal.main_arg5)
          ∧ r.2.mem ((c.tc : Thread Cert.CConvIdeal.nD Cert.CConvIdeal.τ).loc Cert.CConvIdeal.main_arg6) = m ((c.tc : Thread Cert.CConvIdeal.nD Cert.CConvIdeal.τ).loc Cert.CConvIdeal.main_arg6)
          ∧ r.2.mem ((c.tc : Thread Cert.CConvIdeal.nD Cert.CConvIdeal.τ).loc Cert.CConvIdeal.main_arg7) = m ((c.tc : Thread Cert.CConvIdeal.nD Cert.CConvIdeal.τ).loc Cert.CConvIdeal.main_arg7))
      ∧ θ_run (Cert.CConvRefIdeal.defs (F := Ideal)) (onTc (τ := Cert.CConvRefIdeal.τ) (Cert.CConvRefIdeal.main (F := Ideal))) ⟨m', fun _ => 0, g'⟩ (fun r => ∀ c : Dev Cert.CConvRefIdeal.nD,
          r.2.mem ((c.tc : Thread Cert.CConvRefIdeal.nD Cert.CConvRefIdeal.τ).loc Cert.CConvRefIdeal.main_v252) = v0 c
          ∧ r.2.mem ((c.tc : Thread Cert.CConvRefIdeal.nD Cert.CConvRefIdeal.τ).loc Cert.CConvRefIdeal.main_arg0) = m' ((c.tc : Thread Cert.CConvRefIdeal.nD Cert.CConvRefIdeal.τ).loc Cert.CConvRefIdeal.main_arg0)
          ∧ r.2.mem ((c.tc : Thread Cert.CConvRefIdeal.nD Cert.CConvRefIdeal.τ).loc Cert.CConvRefIdeal.main_arg1) = m' ((c.tc : Thread Cert.CConvRefIdeal.nD Cert.CConvRefIdeal.τ).loc Cert.CConvRefIdeal.main_arg1)
          ∧ r.2.mem ((c.tc : Thread Cert.CConvRefIdeal.nD Cert.CConvRefIdeal.τ).loc Cert.CConvRefIdeal.main_arg2) = m' ((c.tc : Thread Cert.CConvRefIdeal.nD Cert.CConvRefIdeal.τ).loc Cert.CConvRefIdeal.main_arg2)
          ∧ r.2.mem ((c.tc : Thread Cert.CConvRefIdeal.nD Cert.CConvRefIdeal.τ).loc Cert.CConvRefIdeal.main_arg3) = m' ((c.tc : Thread Cert.CConvRefIdeal.nD Cert.CConvRefIdeal.τ).loc Cert.CConvRefIdeal.main_arg3)
          ∧ r.2.mem ((c.tc : Thread Cert.CConvRefIdeal.nD Cert.CConvRefIdeal.τ).loc Cert.CConvRefIdeal.main_arg4) = m' ((c.tc : Thread Cert.CConvRefIdeal.nD Cert.CConvRefIdeal.τ).loc Cert.CConvRefIdeal.main_arg4)
          ∧ r.2.mem ((c.tc : Thread Cert.CConvRefIdeal.nD Cert.CConvRefIdeal.τ).loc Cert.CConvRefIdeal.main_arg5) = m' ((c.tc : Thread Cert.CConvRefIdeal.nD Cert.CConvRefIdeal.τ).loc Cert.CConvRefIdeal.main_arg5)
          ∧ r.2.mem ((c.tc : Thread Cert.CConvRefIdeal.nD Cert.CConvRefIdeal.τ).loc Cert.CConvRefIdeal.main_arg6) = m' ((c.tc : Thread Cert.CConvRefIdeal.nD Cert.CConvRefIdeal.τ).loc Cert.CConvRefIdeal.main_arg6)
          ∧ r.2.mem ((c.tc : Thread Cert.CConvRefIdeal.nD Cert.CConvRefIdeal.τ).loc Cert.CConvRefIdeal.main_arg7) = m' ((c.tc : Thread Cert.CConvRefIdeal.nD Cert.CConvRefIdeal.τ).loc Cert.CConvRefIdeal.main_arg7))

def Claim : Prop :=
  ∃ (hDAttn : Cert.DAttn.Facts) (hDAttnIdeal : Cert.DAttnIdeal.Facts) (hDAttnRefIdeal : Cert.DAttnRefIdeal.Facts) (hFfnFinal : Cert.FfnFinal.Facts) (hFfnFinalIdeal : Cert.FfnFinalIdeal.Facts) (hFfnFinalRefIdeal : Cert.FfnFinalRefIdeal.Facts) (hFfn : Cert.Ffn.Facts) (hFfnIdeal : Cert.FfnIdeal.Facts) (hFfnRefIdeal : Cert.FfnRefIdeal.Facts) (hBIn : Cert.BIn.Facts) (hBInIdeal : Cert.BInIdeal.Facts) (hBInRefIdeal : Cert.BInRefIdeal.Facts) (hCIn : Cert.CIn.Facts) (hCInIdeal : Cert.CInIdeal.Facts) (hCInRefIdeal : Cert.CInRefIdeal.Facts) (hAQkv : Cert.AQkv.Facts) (hAQkvIdeal : Cert.AQkvIdeal.Facts) (hAQkvRefIdeal : Cert.AQkvRefIdeal.Facts) (hAIdx : Cert.AIdx.Facts) (hAIdxIdeal : Cert.AIdxIdeal.Facts) (hAIdxRefIdeal : Cert.AIdxRefIdeal.Facts) (hDIn1 : Cert.DIn1.Facts) (hDIn1Ideal : Cert.DIn1Ideal.Facts) (hDIn1RefIdeal : Cert.DIn1RefIdeal.Facts) (hDIn4 : Cert.DIn4.Facts) (hDIn4Ideal : Cert.DIn4Ideal.Facts) (hDIn4RefIdeal : Cert.DIn4RefIdeal.Facts) (hDIn16 : Cert.DIn16.Facts) (hDIn16Ideal : Cert.DIn16Ideal.Facts) (hDIn16RefIdeal : Cert.DIn16RefIdeal.Facts) (hAOut : Cert.AOut.Facts) (hAOutIdeal : Cert.AOutIdeal.Facts) (hAOutRefIdeal : Cert.AOutRefIdeal.Facts) (hBOut : Cert.BOut.Facts) (hBOutIdeal : Cert.BOutIdeal.Facts) (hBOutRefIdeal : Cert.BOutRefIdeal.Facts) (hDMerge : Cert.DMerge.Facts) (hDMergeIdeal : Cert.DMergeIdeal.Facts) (hDMergeRefIdeal : Cert.DMergeRefIdeal.Facts) (hCConv : Cert.CConv.Facts) (hCConvIdeal : Cert.CConvIdeal.Facts) (hCConvRefIdeal : Cert.CConvRefIdeal.Facts) (hPre_window_bias : Cert.Pre_window_bias.Facts) (hPre_finite_lse : Cert.Pre_finite_lse.Facts),
    quiescent_DAttn (hDAttn := hDAttn)
    ∧ quiescent_DAttnIdeal (hDAttnIdeal := hDAttnIdeal)
    ∧ quiescent_DAttnIdeal_pre_window_bias (hDAttnIdeal := hDAttnIdeal) (hPre_window_bias := hPre_window_bias)
    ∧ quiescent_DAttnRefIdeal (hDAttnRefIdeal := hDAttnRefIdeal)
    ∧ quiescent_DAttnRefIdeal_pre_window_bias (hDAttnRefIdeal := hDAttnRefIdeal) (hPre_window_bias := hPre_window_bias)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Ffn (hFfn := hFfn)
    ∧ quiescent_FfnIdeal (hFfnIdeal := hFfnIdeal)
    ∧ quiescent_FfnRefIdeal (hFfnRefIdeal := hFfnRefIdeal)
    ∧ quiescent_BIn (hBIn := hBIn)
    ∧ quiescent_BInIdeal (hBInIdeal := hBInIdeal)
    ∧ quiescent_BInRefIdeal (hBInRefIdeal := hBInRefIdeal)
    ∧ quiescent_CIn (hCIn := hCIn)
    ∧ quiescent_CInIdeal (hCInIdeal := hCInIdeal)
    ∧ quiescent_CInRefIdeal (hCInRefIdeal := hCInRefIdeal)
    ∧ quiescent_AQkv (hAQkv := hAQkv)
    ∧ quiescent_AQkvIdeal (hAQkvIdeal := hAQkvIdeal)
    ∧ quiescent_AQkvRefIdeal (hAQkvRefIdeal := hAQkvRefIdeal)
    ∧ quiescent_AIdx (hAIdx := hAIdx)
    ∧ quiescent_AIdxIdeal (hAIdxIdeal := hAIdxIdeal)
    ∧ quiescent_AIdxRefIdeal (hAIdxRefIdeal := hAIdxRefIdeal)
    ∧ quiescent_DIn1 (hDIn1 := hDIn1)
    ∧ quiescent_DIn1Ideal (hDIn1Ideal := hDIn1Ideal)
    ∧ quiescent_DIn1RefIdeal (hDIn1RefIdeal := hDIn1RefIdeal)
    ∧ quiescent_DIn4 (hDIn4 := hDIn4)
    ∧ quiescent_DIn4Ideal (hDIn4Ideal := hDIn4Ideal)
    ∧ quiescent_DIn4RefIdeal (hDIn4RefIdeal := hDIn4RefIdeal)
    ∧ quiescent_DIn16 (hDIn16 := hDIn16)
    ∧ quiescent_DIn16Ideal (hDIn16Ideal := hDIn16Ideal)
    ∧ quiescent_DIn16RefIdeal (hDIn16RefIdeal := hDIn16RefIdeal)
    ∧ quiescent_AOut (hAOut := hAOut)
    ∧ quiescent_AOutIdeal (hAOutIdeal := hAOutIdeal)
    ∧ quiescent_AOutRefIdeal (hAOutRefIdeal := hAOutRefIdeal)
    ∧ quiescent_BOut (hBOut := hBOut)
    ∧ quiescent_BOutIdeal (hBOutIdeal := hBOutIdeal)
    ∧ quiescent_BOutRefIdeal (hBOutRefIdeal := hBOutRefIdeal)
    ∧ quiescent_DMerge (hDMerge := hDMerge)
    ∧ quiescent_DMergeIdeal (hDMergeIdeal := hDMergeIdeal)
    ∧ quiescent_DMergeIdeal_pre_finite_lse (hDMergeIdeal := hDMergeIdeal) (hPre_finite_lse := hPre_finite_lse)
    ∧ quiescent_DMergeRefIdeal (hDMergeRefIdeal := hDMergeRefIdeal)
    ∧ quiescent_DMergeRefIdeal_pre_finite_lse (hDMergeRefIdeal := hDMergeRefIdeal) (hPre_finite_lse := hPre_finite_lse)
    ∧ quiescent_CConv (hCConv := hCConv)
    ∧ quiescent_CConvIdeal (hCConvIdeal := hCConvIdeal)
    ∧ quiescent_CConvRefIdeal (hCConvRefIdeal := hCConvRefIdeal)
    ∧ preserves_DAttn_DAttnIdeal
    ∧ algebraic_DAttnIdeal_DAttnRefIdeal_pre_window_bias (hDAttnIdeal := hDAttnIdeal) (hDAttnRefIdeal := hDAttnRefIdeal) (hPre_window_bias := hPre_window_bias)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Ffn_FfnIdeal
    ∧ algebraic_FfnIdeal_FfnRefIdeal (hFfnIdeal := hFfnIdeal) (hFfnRefIdeal := hFfnRefIdeal)
    ∧ preserves_BIn_BInIdeal
    ∧ algebraic_BInIdeal_BInRefIdeal (hBInIdeal := hBInIdeal) (hBInRefIdeal := hBInRefIdeal)
    ∧ preserves_CIn_CInIdeal
    ∧ algebraic_CInIdeal_CInRefIdeal (hCInIdeal := hCInIdeal) (hCInRefIdeal := hCInRefIdeal)
    ∧ preserves_AQkv_AQkvIdeal
    ∧ algebraic_AQkvIdeal_AQkvRefIdeal (hAQkvIdeal := hAQkvIdeal) (hAQkvRefIdeal := hAQkvRefIdeal)
    ∧ preserves_AIdx_AIdxIdeal
    ∧ algebraic_AIdxIdeal_AIdxRefIdeal (hAIdxIdeal := hAIdxIdeal) (hAIdxRefIdeal := hAIdxRefIdeal)
    ∧ preserves_DIn1_DIn1Ideal
    ∧ algebraic_DIn1Ideal_DIn1RefIdeal (hDIn1Ideal := hDIn1Ideal) (hDIn1RefIdeal := hDIn1RefIdeal)
    ∧ preserves_DIn4_DIn4Ideal
    ∧ algebraic_DIn4Ideal_DIn4RefIdeal (hDIn4Ideal := hDIn4Ideal) (hDIn4RefIdeal := hDIn4RefIdeal)
    ∧ preserves_DIn16_DIn16Ideal
    ∧ algebraic_DIn16Ideal_DIn16RefIdeal (hDIn16Ideal := hDIn16Ideal) (hDIn16RefIdeal := hDIn16RefIdeal)
    ∧ preserves_AOut_AOutIdeal
    ∧ algebraic_AOutIdeal_AOutRefIdeal (hAOutIdeal := hAOutIdeal) (hAOutRefIdeal := hAOutRefIdeal)
    ∧ preserves_BOut_BOutIdeal
    ∧ algebraic_BOutIdeal_BOutRefIdeal (hBOutIdeal := hBOutIdeal) (hBOutRefIdeal := hBOutRefIdeal)
    ∧ preserves_DMerge_DMergeIdeal
    ∧ algebraic_DMergeIdeal_DMergeRefIdeal_pre_finite_lse (hDMergeIdeal := hDMergeIdeal) (hDMergeRefIdeal := hDMergeRefIdeal) (hPre_finite_lse := hPre_finite_lse)
    ∧ preserves_CConv_CConvIdeal
    ∧ algebraic_CConvIdeal_CConvRefIdeal (hCConvIdeal := hCConvIdeal) (hCConvRefIdeal := hCConvRefIdeal)
-- ==== Pre_finite_lse.lean ====
abbrev S32768x512 : Shape := ⟨2, ![32768, 512]⟩
abbrev S32768x8 : Shape := ⟨2, ![32768, 8]⟩
abbrev S512x1024 : Shape := ⟨2, ![512, 1024]⟩
abbrev S2x16384x1024 : Shape := ⟨3, ![2, 16384, 1024]⟩
abbrev S_ : Shape := ⟨0, ![]⟩

class Facts : Prop where
  bcast_S_S32768x8 : S_.BroadcastsInDim S32768x8 (![] : Fin 0 → Fin S32768x8.rank)

variable [Facts]

def fn {F : FTy → Type} [FloatOps F] (main_arg0 : FVec F S32768x512 .f32) (main_arg1 : FVec F S32768x512 .f32) (main_arg2 : FVec F S32768x512 .f32) (main_arg3 : FVec F S32768x8 .f32) (main_arg4 : FVec F S32768x8 .f32) (main_arg5 : FVec F S32768x8 .f32) (main_arg6 : FVec F S512x1024 .f32) (main_arg7 : FVec F S2x16384x1024 .f32) : IVec S32768x8 1 :=
  let main_v0 : FVec F S32768x8 .f32 := Host.absf main_arg3
  let main_cst : FVec F S_ .f32 := constant S_ .f32 0x7F800000#32
  let main_v1 : FVec F S32768x8 .f32 := broadcastInDim S32768x8 ![] bcast_S_S32768x8 main_cst
  let main_v2 : IVec S32768x8 1 := cmpf .olt main_v0 main_v1
  let main_v3 : FVec F S32768x8 .f32 := Host.absf main_arg4
  let main_cst_0 : FVec F S_ .f32 := constant S_ .f32 0x7F800000#32
  let main_v4 : FVec F S32768x8 .f32 := broadcastInDim S32768x8 ![] bcast_S_S32768x8 main_cst_0
  let main_v5 : IVec S32768x8 1 := cmpf .olt main_v3 main_v4
  let main_v6 : IVec S32768x8 1 := andi main_v2 main_v5
  let main_v7 : FVec F S32768x8 .f32 := Host.absf main_arg5
  let main_cst_1 : FVec F S_ .f32 := constant S_ .f32 0x7F800000#32
  let main_v8 : FVec F S32768x8 .f32 := broadcastInDim S32768x8 ![] bcast_S_S32768x8 main_cst_1
  let main_v9 : IVec S32768x8 1 := cmpf .olt main_v7 main_v8
  let main_v10 : IVec S32768x8 1 := andi main_v6 main_v9
  main_v10
-- ==== Pre_window_bias.lean ====
abbrev S32768x1536 : Shape := ⟨2, ![32768, 1536]⟩
abbrev S8x128x256 : Shape := ⟨3, ![8, 128, 256]⟩
abbrev S_ : Shape := ⟨0, ![]⟩

class Facts : Prop where
  bcast_S_S8x128x256 : S_.BroadcastsInDim S8x128x256 (![] : Fin 0 → Fin S8x128x256.rank)
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel

variable [Facts]

def fn_part1 {F : FTy → Type} [FloatOps F] (main_arg1 : FVec F S8x128x256 .f32) (main_v9 : IVec S8x128x256 1) (main_v14 : IVec S_ 1) (main_v17 : IVec S8x128x256 1) : IVec S8x128x256 1 :=
  let main_cst_4 : FVec F S_ .f32 := constant S_ .f32 0xFF800000#32
  let main_v18 : FVec F S8x128x256 .f32 := broadcastInDim S8x128x256 ![] bcast_S_S8x128x256 main_cst_4
  let main_v19 : IVec S8x128x256 1 := cmpf .oeq main_arg1 main_v18
  let main_v20 : IVec S8x128x256 1 := select main_v9 main_v17 main_v19
  let main_v21 : IVec S8x128x256 1 := broadcastInDim S8x128x256 ![] bcast_S_S8x128x256 main_v14
  let main_v22 : IVec S8x128x256 1 := andi main_v20 main_v21
  main_v22

def fn {F : FTy → Type} [FloatOps F] (main_arg0 : FVec F S32768x1536 .bf16) (main_arg1 : FVec F S8x128x256 .f32) : IVec S8x128x256 1 :=
  let main_v0 : IVec S8x128x256 32 := iotaInDim S8x128x256 32 1
  let main_v1 : IVec S8x128x256 32 := iotaInDim S8x128x256 32 2
  let main_c : IVec S_ 32 := constantI S_ 32 128#32
  let main_v2 : IVec S8x128x256 32 := broadcastInDim S8x128x256 ![] bcast_S_S8x128x256 main_c
  let main_v3 : IVec S8x128x256 32 := addi main_v0 main_v2
  let main_v4 : IVec S8x128x256 32 := subi main_v3 main_v1
  let main_c_0 : IVec S_ 32 := constantI S_ 32 0#32
  let main_v5 : IVec S8x128x256 32 := broadcastInDim S8x128x256 ![] bcast_S_S8x128x256 main_c_0
  let main_v6 : IVec S8x128x256 1 := cmpi .sge main_v4 main_v5
  let main_c_1 : IVec S_ 32 := constantI S_ 32 128#32
  let main_v7 : IVec S8x128x256 32 := broadcastInDim S8x128x256 ![] bcast_S_S8x128x256 main_c_1
  let main_v8 : IVec S8x128x256 1 := cmpi .sle main_v4 main_v7
  let main_v9 : IVec S8x128x256 1 := andi main_v6 main_v8
  let main_v10 : FVec F S32768x1536 .f32 := (extf .f32 · bitsLt_bf16_f32) main_arg0
  let main_v11 : FVec F S32768x1536 .f32 := Host.absf main_v10
  let main_cst : FVec F S_ .f32 := constant S_ .f32 0x7F800000#32
  let main_v12 : FVec F S32768x1536 .f32 := broadcastInDim S32768x1536 ![] bcast_S_S32768x1536 main_cst
  let main_v13 : IVec S32768x1536 1 := cmpf .olt main_v11 main_v12
  let main_c_2 : IVec S_ 1 := constantI S_ 1 1#1
  let main_v14 : IVec S_ 1 := (fun x v => Host.reduce IntOp.andi x v reducesTo_S32768x1536_S_d0_1 h_S_) main_v13 main_c_2
  let main_v15 : FVec F S8x128x256 .f32 := Host.absf main_arg1
  let main_cst_3 : FVec F S_ .f32 := constant S_ .f32 0x7F800000#32
  let main_v16 : FVec F S8x128x256 .f32 := broadcastInDim S8x128x256 ![] bcast_S_S8x128x256 main_cst_3
  let main_v17 : IVec S8x128x256 1 := cmpf .olt main_v15 main_v16
  fn_part1 (F := F) main_arg1 main_v9 main_v14 main_v17
-- ==== DAttn.lean ====
abbrev S32768x1536 : Shape := ⟨2, ![32768, 1536]⟩
abbrev S8x128x256 : Shape := ⟨3, ![8, 128, 256]⟩
abbrev S2x1024x8192 : Shape := ⟨3, ![2, 1024, 8192]⟩
abbrev S128x512 : Shape := ⟨2, ![128, 512]⟩
abbrev S1x128x512 : Shape := ⟨3, ![1, 128, 512]⟩
abbrev S128x256 : Shape := ⟨2, ![128, 256]⟩
abbrev S128x128 : Shape := ⟨2, ![128, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩
abbrev S1x128x128 : Shape := ⟨3, ![1, 128, 128]⟩

abbrev nBuf : Space → Nat
  | .hbm => 4
  | .vmem => 15
  | .smem => 0
  | _ => 0

abbrev bufTy : (tb : Table) → Fin (tcTables nBuf tb) → BufTy
  | .hbm, ⟨0, _⟩ => ⟨S32768x1536, .bf16⟩
  | .hbm, ⟨1, _⟩ => ⟨S8x128x256, .f32⟩
  | .hbm, ⟨2, _⟩ => ⟨S2x1024x8192, .f32⟩
  | .hbm, ⟨3, _⟩ => ⟨S2x1024x8192, .f32⟩
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S8x128x256, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c16_i32 : BitVec 32 := 16#32
  let v1 : BitVec 32 := Scalar.muli arg2 c16_i32
  let v2 : BitVec 32 := Scalar.addi v0 v1
  let v3 : BitVec 32 := Scalar.addi v2 arg1
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c16_i32 : BitVec 32 := 16#32
  let v1 : BitVec 32 := Scalar.muli arg2 c16_i32
  let v2 : BitVec 32 := Scalar.addi v0 v1
  let v3 : BitVec 32 := Scalar.addi v2 arg1
  let c1_i32 : BitVec 32 := 1#32
  let c0_i32 : BitVec 32 := 0#32
  ![v3.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c128_i32 : BitVec 32 := 128#32
  let v2 : BitVec 32 := Scalar.muli arg0 c128_i32
  let c16_i32 : BitVec 32 := 16#32
  let v3 : BitVec 32 := Scalar.muli v1 c16_i32
  let v4 : BitVec 32 := Scalar.addi v2 v3
  let v5 : BitVec 32 := Scalar.addi v4 arg1
  let c1_i32_0 : BitVec 32 := 1#32
  let c0_i32_1 : BitVec 32 := 0#32
  ![v5.toNat, c1_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg0 c128_i32
  let c16_i32 : BitVec 32 := 16#32
  let v1 : BitVec 32 := Scalar.muli arg2 c16_i32
  let v2 : BitVec 32 := Scalar.addi v0 v1
  let v3 : BitVec 32 := Scalar.addi v2 arg1
  let c2_i32 : BitVec 32 := 2#32
  let c0_i32 : BitVec 32 := 0#32
  ![v3.toNat, c2_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c128_i32 : BitVec 32 := 128#32
  let v2 : BitVec 32 := Scalar.muli arg0 c128_i32
  let c16_i32 : BitVec 32 := 16#32
  let v3 : BitVec 32 := Scalar.muli v1 c16_i32
  let v4 : BitVec 32 := Scalar.addi v2 v3
  let v5 : BitVec 32 := Scalar.addi v4 arg1
  let c2_i32 : BitVec 32 := 2#32
  let c0_i32_0 : BitVec 32 := 0#32
  ![v5.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DAttnIdeal.lean ====
variable {F : FTy → Type} [FloatOps F] [Named F]
def κ : String → Option EReal := fun
  | "mask" => some ⊥
  | _ => none
-- ==== DAttnRefIdeal.lean ====
abbrev S32768x1536 : Shape := ⟨2, ![32768, 1536]⟩
abbrev S8x128x256 : Shape := ⟨3, ![8, 128, 256]⟩
abbrev S2x8x16x128x1536 : Shape := ⟨5, ![2, 8, 16, 128, 1536]⟩
abbrev S2x8x128x16x1536 : Shape := ⟨5, ![2, 8, 128, 16, 1536]⟩
abbrev S2x16384x1536 : Shape := ⟨3, ![2, 16384, 1536]⟩
abbrev S2x16384x512 : Shape := ⟨3, ![2, 16384, 512]⟩
abbrev S2x16384x8x64 : Shape := ⟨4, ![2, 16384, 8, 64]⟩
abbrev S2x1024x16x8x64 : Shape := ⟨5, ![2, 1024, 16, 8, 64]⟩
abbrev S2x16x1024x8x64 : Shape := ⟨5, ![2, 16, 1024, 8, 64]⟩
abbrev S2x16x8x128x8x64 : Shape := ⟨6, ![2, 16, 8, 128, 8, 64]⟩
abbrev S_ : Shape := ⟨0, ![]⟩
abbrev S2x16x9x128x8x64 : Shape := ⟨6, ![2, 16, 9, 128, 8, 64]⟩
abbrev S2x16x8x256x8x64 : Shape := ⟨6, ![2, 16, 8, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S2x16x8x8x128x256 : Shape := ⟨6, ![2, 16, 8, 8, 128, 256]⟩
abbrev S1x1x1x8x128x256 : Shape := ⟨6, ![1, 1, 1, 8, 128, 256]⟩
abbrev S1x1x8x1x128x256 : Shape := ⟨6, ![1, 1, 8, 1, 128, 256]⟩
abbrev S2x16x8x8x128 : Shape := ⟨5, ![2, 16, 8, 8, 128]⟩
abbrev S2x16x8x8x128x1 : Shape := ⟨6, ![2, 16, 8, 8, 128, 1]⟩
abbrev S2x16x8x8x64x128 : Shape := ⟨6, ![2, 16, 8, 8, 64, 128]⟩
abbrev S2x16x8x128x8 : Shape := ⟨5, ![2, 16, 8, 128, 8]⟩
abbrev S2x1024x8192 : Shape := ⟨3, ![2, 1024, 8192]⟩
abbrev S2x16x1024x8 : Shape := ⟨4, ![2, 16, 1024, 8]⟩
abbrev S2x1024x16x8 : Shape := ⟨4, ![2, 1024, 16, 8]⟩
abbrev S2x1024x16x8x1 : Shape := ⟨5, ![2, 1024, 16, 8, 1]⟩

abbrev nBuf : Space → Nat
  | .hbm => 103
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S8x128x256, .f32⟩
  | .hbm, ⟨2, _⟩ => ⟨S32768x1536, .f32⟩
  | .hbm, ⟨3, _⟩ => ⟨S2x8x16x128x1536, .f32⟩
  | .hbm, ⟨4, _⟩ => ⟨S2x8x128x16x1536, .f32⟩
  | .hbm, ⟨5, _⟩ => ⟨S2x16384x1536, .f32⟩
  | .hbm, ⟨6, _⟩ => ⟨S2x16384x512, .f32⟩
  | .hbm, ⟨7, _⟩ => ⟨S2x16384x8x64, .f32⟩
  | .hbm, ⟨8, _⟩ => ⟨S2x16384x512, .f32⟩
  | .hbm, ⟨9, _⟩ => ⟨S2x16384x8x64, .f32⟩
  | .hbm, ⟨10, _⟩ => ⟨S2x16384x512, .f32⟩
  | .hbm, ⟨11, _⟩ => ⟨S2x16384x8x64, .f32⟩
  | .hbm, ⟨12, _⟩ => ⟨S2x1024x16x8x64, .f32⟩
  | .hbm, ⟨13, _⟩ => ⟨S2x16x1024x8x64, .f32⟩
  | .hbm, ⟨14, _⟩ => ⟨S2x16x8x128x8x64, .f32⟩
  | .hbm, ⟨15, _⟩ => ⟨S2x1024x16x8x64, .f32⟩
  | .hbm, ⟨16, _⟩ => ⟨S2x16x1024x8x64, .f32⟩
  | .hbm, ⟨17, _⟩ => ⟨S2x16x8x128x8x64, .f32⟩
  | .hbm, ⟨18, _⟩ => ⟨S_, .i32⟩
  | .hbm, ⟨19, _⟩ => ⟨S_, .f32⟩
  | .hbm, ⟨20, _⟩ => ⟨S2x16x9x128x8x64, .f32⟩
  | .hbm, ⟨21, _⟩ => ⟨S2x16x8x128x8x64, .f32⟩
  | .hbm, ⟨22, _⟩ => ⟨S2x16x8x256x8x64, .f32⟩
  | .hbm, ⟨23, _⟩ => ⟨S2x1024x16x8x64, .f32⟩
  | .hbm, ⟨24, _⟩ => ⟨S2x16x1024x8x64, .f32⟩
  | .hbm, ⟨25, _⟩ => ⟨S2x16x8x128x8x64, .f32⟩
  | .hbm, ⟨26, _⟩ => ⟨S_, .i32⟩
  | .hbm, ⟨27, _⟩ => ⟨S_, .f32⟩
  | .hbm, ⟨28, _⟩ => ⟨S2x16x9x128x8x64, .f32⟩
  | .hbm, ⟨29, _⟩ => ⟨S2x16x8x128x8x64, .f32⟩
  | .hbm, ⟨30, _⟩ => ⟨S2x16x8x256x8x64, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i1⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i1⟩
  | .hbm, ⟨52, _⟩ => ⟨S8x1x1, .i1⟩
  | .hbm, ⟨53, _⟩ => ⟨S_, .i32⟩
  | .hbm, ⟨54, _⟩ => ⟨S1x256, .i32⟩
  | .hbm, ⟨55, _⟩ => ⟨S1x256, .i1⟩
  | .hbm, ⟨56, _⟩ => ⟨S1x1x256, .i1⟩
  | .hbm, ⟨57, _⟩ => ⟨S8x1x256, .i1⟩
  | .hbm, ⟨58, _⟩ => ⟨S8x1x256, .i1⟩
  | .hbm, ⟨59, _⟩ => ⟨S8x1x256, .i1⟩
  | .hbm, ⟨60, _⟩ => ⟨S1x128x256, .i1⟩
  | .hbm, ⟨61, _⟩ => ⟨S8x1x256, .i1⟩
  | .hbm, ⟨62, _⟩ => ⟨S8x128x256, .i1⟩
  | .hbm, ⟨63, _⟩ => ⟨S8x128x256, .i1⟩
  | .hbm, ⟨64, _⟩ => ⟨S8x128x256, .i1⟩
  | .hbm, ⟨65, _⟩ => ⟨S2x16x8x8x128x256, .f32⟩
  | .hbm, ⟨66, _⟩ => ⟨S_, .f32⟩
  | .hbm, ⟨67, _⟩ => ⟨S2x16x8x8x128x256, .f32⟩
  | .hbm, ⟨68, _⟩ => ⟨S2x16x8x8x128x256, .f32⟩
  | .hbm, ⟨69, _⟩ => ⟨S1x1x1x8x128x256, .f32⟩
  | .hbm, ⟨70, _⟩ => ⟨S2x16x8x8x128x256, .f32⟩
  | .hbm, ⟨71, _⟩ => ⟨S2x16x8x8x128x256, .f32⟩
  | .hbm, ⟨72, _⟩ => ⟨S1x1x8x1x128x256, .i1⟩
  | .hbm, ⟨73, _⟩ => ⟨S_, .f32⟩
  | .hbm, ⟨74, _⟩ => ⟨S_, .f32⟩
  | .hbm, ⟨75, _⟩ => ⟨S2x16x8x8x128x256, .i1⟩
  | .hbm, ⟨76, _⟩ => ⟨S2x16x8x8x128x256, .f32⟩
  | .hbm, ⟨77, _⟩ => ⟨S2x16x8x8x128x256, .f32⟩
  | .hbm, ⟨78, _⟩ => ⟨S_, .f32⟩
  | .hbm, ⟨79, _⟩ => ⟨S2x16x8x8x128, .f32⟩
  | .hbm, ⟨80, _⟩ => ⟨S2x16x8x8x128x1, .f32⟩
  | .hbm, ⟨81, _⟩ => ⟨S2x16x8x8x128x256, .f32⟩
  | .hbm, ⟨82, _⟩ => ⟨S2x16x8x8x128x256, .f32⟩
  | .hbm, ⟨83, _⟩ => ⟨S2x16x8x8x128x256, .f32⟩
  | .hbm, ⟨84, _⟩ => ⟨S_, .f32⟩
  | .hbm, ⟨85, _⟩ => ⟨S2x16x8x8x128, .f32⟩
  | .hbm, ⟨86, _⟩ => ⟨S2x16x8x8x128x1, .f32⟩
  | .hbm, ⟨87, _⟩ => ⟨S2x16x8x8x128x256, .f32⟩
  | .hbm, ⟨88, _⟩ => ⟨S2x16x8x8x128x256, .f32⟩
  | .hbm, ⟨89, _⟩ => ⟨S2x16x8x8x64x128, .f32⟩
  | .hbm, ⟨90, _⟩ => ⟨S2x16x8x128x8x64, .f32⟩
  | .hbm, ⟨91, _⟩ => ⟨S2x16x8x8x128x1, .f32⟩
  | .hbm, ⟨92, _⟩ => ⟨S2x16x8x8x128x1, .f32⟩
  | .hbm, ⟨93, _⟩ => ⟨S2x16x8x8x128, .f32⟩
  | .hbm, ⟨94, _⟩ => ⟨S2x16x8x128x8, .f32⟩
  | .hbm, ⟨95, _⟩ => ⟨S2x16x1024x8x64, .f32⟩
  | .hbm, ⟨96, _⟩ => ⟨S2x1024x16x8x64, .f32⟩
  | .hbm, ⟨97, _⟩ => ⟨S2x1024x8192, .f32⟩
  | .hbm, ⟨98, _⟩ => ⟨S2x16x1024x8, .f32⟩
  | .hbm, ⟨99, _⟩ => ⟨S2x1024x16x8, .f32⟩
  | .hbm, ⟨100, _⟩ => ⟨S2x1024x16x8x1, .f32⟩
  | .hbm, ⟨101, _⟩ => ⟨S2x1024x16x8x64, .f32⟩
  | .hbm, ⟨102, _⟩ => ⟨S2x1024x8192, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_8 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩

abbrev nD : Nat := 1
abbrev τ : Topo := Topo.v7x

variable {F : FTy → Type} [FloatOps F]
-- ==== FfnFinal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 11
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : Index := Scalar.indexCast v9
  let c0 : Index := 0#32
  let c0_5 : Index := 0#32
  ![v13.toNat, 0, 0]
def k0_off2 (i : grid0.Coords) : Fin 3 → Nat :=
  let c1_i32_37 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : BitVec 32 := Scalar.subi c1_i32_37 v9
  let v81 : Index := Scalar.indexCast v80
  let c0_38 : Index := 0#32
  let c0_39 : Index := 0#32
  ![v81.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFinalRefIdeal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x5632, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S2x16384x2816, .f32⟩
  | .hbm, ⟨26, _⟩ => ⟨S_, .f32⟩
  | .hbm, ⟨27, _⟩ => ⟨S2x16384x2816, .f32⟩
  | .hbm, ⟨28, _⟩ => ⟨S2x16384x2816, .f32⟩
  | .hbm, ⟨29, _⟩ => ⟨S_, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x2816, .f32⟩
  | .hbm, ⟨34, _⟩ => ⟨S2x16384x1024, .f32⟩
  | .hbm, ⟨35, _⟩ => ⟨S_, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Ffn.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : Index := Scalar.indexCast v9
  let c0 : Index := 0#32
  let c0_5 : Index := 0#32
  ![v13.toNat, 0, 0]
def k0_off2 (i : grid0.Coords) : Fin 3 → Nat :=
  let c1_i32_32 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : BitVec 32 := Scalar.subi c1_i32_32 v9
  let v67 : Index := Scalar.indexCast v66
  let c0_33 : Index := 0#32
  let c0_34 : Index := 0#32
  ![v67.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x5632, .f32⟩
  | .hbm, ⟨21, _⟩ => ⟨S2x16384x2816, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== BIn.lean ====
abbrev S2x16384x1024 : Shape := ⟨3, ![2, 16384, 1024]⟩
abbrev S1024 : Shape := ⟨1, ![1024]⟩
abbrev S1024x6144 : Shape := ⟨2, ![1024, 6144]⟩
abbrev S6144 : Shape := ⟨1, ![6144]⟩
abbrev S32768x1024 : Shape := ⟨2, ![32768, 1024]⟩
abbrev S1x1024 : Shape := ⟨2, ![1, 1024]⟩
abbrev S1x6144 : Shape := ⟨2, ![1, 6144]⟩
abbrev S32768x6144 : Shape := ⟨2, ![32768, 6144]⟩
abbrev S512x1024 : Shape := ⟨2, ![512, 1024]⟩
abbrev S512x6144 : Shape := ⟨2, ![512, 6144]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S32768x1024, .f32⟩
  | .hbm, ⟨5, _⟩ => ⟨S1024x6144, .bf16⟩
  | .hbm, ⟨6, _⟩ => ⟨S1x1024, .f32⟩
  | .hbm, ⟨7, _⟩ => ⟨S1x6144, .f32⟩
  | .hbm, ⟨8, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1x6144, .f32⟩
  | .local _ .vmem, ⟨5, _⟩ => ⟨S512x6144, .bf16⟩
  | .local _ .vmem, ⟨6, _⟩ => ⟨S512x6144, .bf16⟩
  | .local _ .vmem, ⟨7, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k0_off2 (i : grid0.Coords) : Fin 3 → Nat :=
  let arg0 : BitVec 32 := BitVec.ofNat 32 (i 0).val
  let c2_i32_76 : BitVec 32 := 2#32
  let c0_i32_77 : BitVec 32 := 0#32
  let v169 : BitVec 1 := Scalar.cmpi .eq c2_i32_76 c0_i32_77
  let c1_i32_78 : BitVec 32 := 1#32
  let v170 : BitVec 32 := Scalar.select v169 c1_i32_78 c2_i32_76
  let v171 : BitVec 32 := Scalar.remsi arg0 v170
  let c0_i32_80 : BitVec 32 := 0#32
  let v173 : BitVec 1 := Scalar.cmpi .slt v171 c0_i32_80
  let c0_i32_81 : BitVec 32 := 0#32
  let v174 : BitVec 1 := Scalar.cmpi .slt v170 c0_i32_81
  let v175 : BitVec 1 := Scalar.xori v173 v174
  let c0_i32_79 : BitVec 32 := 0#32
  let v172 : BitVec 1 := Scalar.cmpi .ne v171 c0_i32_79
  let v176 : BitVec 1 := Scalar.andi v175 v172
  let v177 : BitVec 32 := Scalar.addi v171 v170
  let v178 : BitVec 32 := Scalar.select v176 v177 v171
  let v179 : Index := Scalar.indexCast v178
  let c0_82 : Index := 0#32
  let c0_83 : Index := 0#32
  ![v179.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BInRefIdeal.lean ====
abbrev S2x16384x1024 : Shape := ⟨3, ![2, 16384, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x6144 : Shape := ⟨3, ![2, 16384, 6144]⟩
abbrev S1x1x6144 : Shape := ⟨3, ![1, 1, 6144]⟩
abbrev S32768x6144 : Shape := ⟨2, ![32768, 6144]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x6144, .f32⟩
  | .hbm, ⟨21, _⟩ => ⟨S1x1x6144, .f32⟩
  | .hbm, ⟨22, _⟩ => ⟨S2x16384x6144, .f32⟩
  | .hbm, ⟨23, _⟩ => ⟨S2x16384x6144, .f32⟩
  | .hbm, ⟨24, _⟩ => ⟨S2x16384x6144, .f32⟩
  | .hbm, ⟨25, _⟩ => ⟨S2x16384x6144, .f32⟩
  | .hbm, ⟨26, _⟩ => ⟨S_, .f32⟩
  | .hbm, ⟨27, _⟩ => ⟨S2x16384x6144, .f32⟩
  | .hbm, ⟨28, _⟩ => ⟨S2x16384x6144, .f32⟩
  | .hbm, ⟨29, _⟩ => ⟨S2x16384x6144, .f32⟩
  | .hbm, ⟨30, _⟩ => ⟨S_, .f32⟩
  | .hbm, ⟨31, _⟩ => ⟨S2x16384x6144, .f32⟩
  | .hbm, ⟨32, _⟩ => ⟨S2x16384x6144, .f32⟩
  | .hbm, ⟨33, _⟩ => ⟨S2x16384x6144, .f32⟩
  | .hbm, ⟨34, _⟩ => ⟨S_, .f32⟩
  | .hbm, ⟨35, _⟩ => ⟨S2x16384x6144, .f32⟩
  | .hbm, ⟨36, _⟩ => ⟨S2x16384x6144, .f32⟩
  | .hbm, ⟨37, _⟩ => ⟨S_, .f32⟩
  | .hbm, ⟨38, _⟩ => ⟨S2x16384x6144, .f32⟩
  | .hbm, ⟨39, _⟩ => ⟨S2x16384x6144, .f32⟩
  | .hbm, ⟨40, _⟩ => ⟨S2x16384x6144, .f32⟩
  | .hbm, ⟨41, _⟩ => ⟨S32768x6144, .f32⟩
  | .hbm, ⟨42, _⟩ => ⟨S32768x6144, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== CIn.lean ====
abbrev S2x16384x1024 : Shape := ⟨3, ![2, 16384, 1024]⟩
abbrev S1024 : Shape := ⟨1, ![1024]⟩
abbrev S1024x2048 : Shape := ⟨2, ![1024, 2048]⟩
abbrev S2048 : Shape := ⟨1, ![2048]⟩
abbrev S32768x1024 : Shape := ⟨2, ![32768, 1024]⟩
abbrev S1x1024 : Shape := ⟨2, ![1, 1024]⟩
abbrev S1x2048 : Shape := ⟨2, ![1, 2048]⟩
abbrev S512x1024 : Shape := ⟨2, ![512, 1024]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S32768x1024, .f32⟩
  | .hbm, ⟨5, _⟩ => ⟨S1024x2048, .bf16⟩
  | .hbm, ⟨6, _⟩ => ⟨S1x1024, .f32⟩
  | .hbm, ⟨7, _⟩ => ⟨S1x2048, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | .local _ .vmem, ⟨7, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k0_off2 (i : grid0.Coords) : Fin 3 → Nat :=
  let arg0 : BitVec 32 := BitVec.ofNat 32 (i 0).val
  let c2_i32_36 : BitVec 32 := 2#32
  let c0_i32_37 : BitVec 32 := 0#32
  let v71 : BitVec 1 := Scalar.cmpi .eq c2_i32_36 c0_i32_37
  let c1_i32_38 : BitVec 32 := 1#32
  let v72 : BitVec 32 := Scalar.select v71 c1_i32_38 c2_i32_36
  let v73 : BitVec 32 := Scalar.remsi arg0 v72
  let c0_i32_40 : BitVec 32 := 0#32
  let v75 : BitVec 1 := Scalar.cmpi .slt v73 c0_i32_40
  let c0_i32_41 : BitVec 32 := 0#32
  let v76 : BitVec 1 := Scalar.cmpi .slt v72 c0_i32_41
  let v77 : BitVec 1 := Scalar.xori v75 v76
  let c0_i32_39 : BitVec 32 := 0#32
  let v74 : BitVec 1 := Scalar.cmpi .ne v73 c0_i32_39
  let v78 : BitVec 1 := Scalar.andi v77 v74
  let v79 : BitVec 32 := Scalar.addi v73 v72
  let v80 : BitVec 32 := Scalar.select v78 v79 v73
  let v81 : Index := Scalar.indexCast v80
  let c0_42 : Index := 0#32
  let c0_43 : Index := 0#32
  ![v81.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CInRefIdeal.lean ====
abbrev S2x16384x1024 : Shape := ⟨3, ![2, 16384, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2048 : Shape := ⟨3, ![2, 16384, 2048]⟩
abbrev S1x1x2048 : Shape := ⟨3, ![1, 1, 2048]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S_, .f32⟩
  | .hbm, ⟨29, _⟩ => ⟨S2x16384x1024, .f32⟩
  | .hbm, ⟨30, _⟩ => ⟨S2x16384x1024, .f32⟩
  | .hbm, ⟨31, _⟩ => ⟨S_, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== AQkv.lean ====
abbrev S2x16384x1024 : Shape := ⟨3, ![2, 16384, 1024]⟩
abbrev S1024 : Shape := ⟨1, ![1024]⟩
abbrev S1024x3656 : Shape := ⟨2, ![1024, 3656]⟩
abbrev S1024x1024 : Shape := ⟨2, ![1024, 1024]⟩
abbrev S_ : Shape := ⟨0, ![]⟩
abbrev S1024x2048 : Shape := ⟨2, ![1024, 2048]⟩
abbrev S1024x3072 : Shape := ⟨2, ![1024, 3072]⟩
abbrev S32768x1024 : Shape := ⟨2, ![32768, 1024]⟩
abbrev S1x1024 : Shape := ⟨2, ![1, 1024]⟩
abbrev S24x32768x128 : Shape := ⟨3, ![24, 32768, 128]⟩
abbrev S512x1024 : Shape := ⟨2, ![512, 1024]⟩
abbrev S24x512x128 : Shape := ⟨3, ![24, 512, 128]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S512x128 : Shape := ⟨2, ![512, 128]⟩
abbrev S1x512x128 : Shape := ⟨3, ![1, 512, 128]⟩

abbrev nBuf : Space → Nat
  | .hbm => 13
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3656, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x2048, .f32⟩
  | .hbm, ⟨8, _⟩ => ⟨S1024x3072, .f32⟩
  | .hbm, ⟨9, _⟩ => ⟨S1024x3072, .bf16⟩
  | .hbm, ⟨10, _⟩ => ⟨S32768x1024, .f32⟩
  | .hbm, ⟨11, _⟩ => ⟨S1x1024, .f32⟩
  | .hbm, ⟨12, _⟩ => ⟨S24x32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S24x512x128, .bf16⟩
  | .local _ .vmem, ⟨5, _⟩ => ⟨S24x512x128, .bf16⟩
  | .local _ .vmem, ⟨6, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k0_off2 (i : grid0.Coords) : Fin 3 → Nat :=
  let arg0 : BitVec 32 := BitVec.ofNat 32 (i 0).val
  let c2_i32_71 : BitVec 32 := 2#32
  let c0_i32_72 : BitVec 32 := 0#32
  let v166 : BitVec 1 := Scalar.cmpi .eq c2_i32_71 c0_i32_72
  let c1_i32_73 : BitVec 32 := 1#32
  let v167 : BitVec 32 := Scalar.select v166 c1_i32_73 c2_i32_71
  let v168 : BitVec 32 := Scalar.remsi arg0 v167
  let c0_i32_75 : BitVec 32 := 0#32
  let v170 : BitVec 1 := Scalar.cmpi .slt v168 c0_i32_75
  let c0_i32_76 : BitVec 32 := 0#32
  let v171 : BitVec 1 := Scalar.cmpi .slt v167 c0_i32_76
  let v172 : BitVec 1 := Scalar.xori v170 v171
  let c0_i32_74 : BitVec 32 := 0#32
  let v169 : BitVec 1 := Scalar.cmpi .ne v168 c0_i32_74
  let v173 : BitVec 1 := Scalar.andi v172 v169
  let v174 : BitVec 32 := Scalar.addi v168 v167
  let v175 : BitVec 32 := Scalar.select v173 v174 v168
  let v176 : Index := Scalar.indexCast v175
  let c0_77 : Index := 0#32
  let c0_78 : Index := 0#32
  ![v176.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AQkvRefIdeal.lean ====
abbrev S2x16384x1024 : Shape := ⟨3, ![2, 16384, 1024]⟩
abbrev S1024 : Shape := ⟨1, ![1024]⟩
abbrev S1024x3656 : Shape := ⟨2, ![1024, 3656]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3656 : Shape := ⟨3, ![2, 16384, 3656]⟩
abbrev S2x16384x584 : Shape := ⟨3, ![2, 16384, 584]⟩
abbrev S2x16384x3072 : Shape := ⟨3, ![2, 16384, 3072]⟩
abbrev S32768x24x128 : Shape := ⟨3, ![32768, 24, 128]⟩
abbrev S24x32768x128 : Shape := ⟨3, ![24, 32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3656, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x3656, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S2x16384x584, .f32⟩
  | .hbm, ⟨24, _⟩ => ⟨S_, .f32⟩
  | .hbm, ⟨25, _⟩ => ⟨S2x16384x1024, .f32⟩
  | .hbm, ⟨26, _⟩ => ⟨S2x16384x1024, .f32⟩
  | .hbm, ⟨27, _⟩ => ⟨S2x16384x3072, .f32⟩
  | .hbm, ⟨28, _⟩ => ⟨S32768x24x128, .f32⟩
  | .hbm, ⟨29, _⟩ => ⟨S24x32768x128, .f32⟩
  | .hbm, ⟨30, _⟩ => ⟨S24x32768x128, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== AIdx.lean ====
abbrev S2x16384x1024 : Shape := ⟨3, ![2, 16384, 1024]⟩
abbrev S1024 : Shape := ⟨1, ![1024]⟩
abbrev S1024x3656 : Shape := ⟨2, ![1024, 3656]⟩
abbrev S1024x584 : Shape := ⟨2, ![1024, 584]⟩
abbrev S_ : Shape := ⟨0, ![]⟩
abbrev S1024x640 : Shape := ⟨2, ![1024, 640]⟩
abbrev S32768x1024 : Shape := ⟨2, ![32768, 1024]⟩
abbrev S1x1024 : Shape := ⟨2, ![1, 1024]⟩
abbrev S32768x640 : Shape := ⟨2, ![32768, 640]⟩
abbrev S512x1024 : Shape := ⟨2, ![512, 1024]⟩
abbrev S512x640 : Shape := ⟨2, ![512, 640]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3656, .f32⟩
  | .hbm, ⟨3, _⟩ => ⟨S1024x584, .f32⟩
  | .hbm, ⟨4, _⟩ => ⟨S_, .i32⟩
  | .hbm, ⟨5, _⟩ => ⟨S_, .f32⟩
  | .hbm, ⟨6, _⟩ => ⟨S1024x640, .f32⟩
  | .hbm, ⟨7, _⟩ => ⟨S1024x640, .bf16⟩
  | .hbm, ⟨8, _⟩ => ⟨S32768x1024, .f32⟩
  | .hbm, ⟨9, _⟩ => ⟨S1x1024, .f32⟩
  | .hbm, ⟨10, _⟩ => ⟨S32768x640, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k0_off2 (i : grid0.Coords) : Fin 3 → Nat :=
  let arg0 : BitVec 32 := BitVec.ofNat 32 (i 0).val
  let c2_i32_20 : BitVec 32 := 2#32
  let c0_i32_21 : BitVec 32 := 0#32
  let v41 : BitVec 1 := Scalar.cmpi .eq c2_i32_20 c0_i32_21
  let c1_i32_22 : BitVec 32 := 1#32
  let v42 : BitVec 32 := Scalar.select v41 c1_i32_22 c2_i32_20
  let v43 : BitVec 32 := Scalar.remsi arg0 v42
  let c0_i32_24 : BitVec 32 := 0#32
  let v45 : BitVec 1 := Scalar.cmpi .slt v43 c0_i32_24
  let c0_i32_25 : BitVec 32 := 0#32
  let v46 : BitVec 1 := Scalar.cmpi .slt v42 c0_i32_25
  let v47 : BitVec 1 := Scalar.xori v45 v46
  let c0_i32_23 : BitVec 32 := 0#32
  let v44 : BitVec 1 := Scalar.cmpi .ne v43 c0_i32_23
  let v48 : BitVec 1 := Scalar.andi v47 v44
  let v49 : BitVec 32 := Scalar.addi v43 v42
  let v50 : BitVec 32 := Scalar.select v48 v49 v43
  let v51 : Index := Scalar.indexCast v50
  let c0_26 : Index := 0#32
  let c0_27 : Index := 0#32
  ![v51.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AIdxRefIdeal.lean ====
abbrev S2x16384x1024 : Shape := ⟨3, ![2, 16384, 1024]⟩
abbrev S1024 : Shape := ⟨1, ![1024]⟩
abbrev S1024x3656 : Shape := ⟨2, ![1024, 3656]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3656 : Shape := ⟨3, ![2, 16384, 3656]⟩
abbrev S2x16384x584 : Shape := ⟨3, ![2, 16384, 584]⟩
abbrev S32768x584 : Shape := ⟨2, ![32768, 584]⟩
abbrev S32768x640 : Shape := ⟨2, ![32768, 640]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x3656, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x3656, .f32⟩
  | .hbm, ⟨20, _⟩ => ⟨S2x16384x584, .f32⟩
  | .hbm, ⟨21, _⟩ => ⟨S32768x584, .f32⟩
  | .hbm, ⟨22, _⟩ => ⟨S_, .i32⟩
  | .hbm, ⟨23, _⟩ => ⟨S_, .f32⟩
  | .hbm, ⟨24, _⟩ => ⟨S32768x640, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== DIn1.lean ====
abbrev S2x16384x1024 : Shape := ⟨3, ![2, 16384, 1024]⟩
abbrev S1024 : Shape := ⟨1, ![1024]⟩
abbrev S1024x4608 : Shape := ⟨2, ![1024, 4608]⟩
abbrev S32768x1024 : Shape := ⟨2, ![32768, 1024]⟩
abbrev S1024x512 : Shape := ⟨2, ![1024, 512]⟩
abbrev S1024x1536 : Shape := ⟨2, ![1024, 1536]⟩
abbrev S1x1024 : Shape := ⟨2, ![1, 1024]⟩
abbrev S32768x1536 : Shape := ⟨2, ![32768, 1536]⟩
abbrev S512x1024 : Shape := ⟨2, ![512, 1024]⟩
abbrev S512x1536 : Shape := ⟨2, ![512, 1536]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4608, .f32⟩
  | .hbm, ⟨3, _⟩ => ⟨S32768x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1536, .f32⟩
  | .hbm, ⟨8, _⟩ => ⟨S1024x1536, .bf16⟩
  | .hbm, ⟨9, _⟩ => ⟨S1x1024, .f32⟩
  | .hbm, ⟨10, _⟩ => ⟨S32768x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | .local _ .vmem, ⟨6, _⟩ => ⟨S2x512x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k0_off2 (i : grid0.Coords) : Fin 3 → Nat :=
  let arg0 : BitVec 32 := BitVec.ofNat 32 (i 0).val
  let c2_i32_20 : BitVec 32 := 2#32
  let c0_i32_21 : BitVec 32 := 0#32
  let v42 : BitVec 1 := Scalar.cmpi .eq c2_i32_20 c0_i32_21
  let c1_i32_22 : BitVec 32 := 1#32
  let v43 : BitVec 32 := Scalar.select v42 c1_i32_22 c2_i32_20
  let v44 : BitVec 32 := Scalar.remsi arg0 v43
  let c0_i32_24 : BitVec 32 := 0#32
  let v46 : BitVec 1 := Scalar.cmpi .slt v44 c0_i32_24
  let c0_i32_25 : BitVec 32 := 0#32
  let v47 : BitVec 1 := Scalar.cmpi .slt v43 c0_i32_25
  let v48 : BitVec 1 := Scalar.xori v46 v47
  let c0_i32_23 : BitVec 32 := 0#32
  let v45 : BitVec 1 := Scalar.cmpi .ne v44 c0_i32_23
  let v49 : BitVec 1 := Scalar.andi v48 v45
  let v50 : BitVec 32 := Scalar.addi v44 v43
  let v51 : BitVec 32 := Scalar.select v49 v50 v44
  let v52 : Index := Scalar.indexCast v51
  let c0_26 : Index := 0#32
  let c0_27 : Index := 0#32
  ![v52.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DIn1RefIdeal.lean ====
abbrev S2x16384x1024 : Shape := ⟨3, ![2, 16384, 1024]⟩
abbrev S1024 : Shape := ⟨1, ![1024]⟩
abbrev S1024x4608 : Shape := ⟨2, ![1024, 4608]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4608 : Shape := ⟨3, ![2, 16384, 4608]⟩
abbrev S32768x3x3x512 : Shape := ⟨4, ![32768, 3, 3, 512]⟩
abbrev S32768x3x1x512 : Shape := ⟨4, ![32768, 3, 1, 512]⟩
abbrev S32768x3x512 : Shape := ⟨3, ![32768, 3, 512]⟩
abbrev S32768x1536 : Shape := ⟨2, ![32768, 1536]⟩

abbrev nBuf : Space → Nat
  | .hbm => 25
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4608, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x4608, .f32⟩
  | .hbm, ⟨20, _⟩ => ⟨S32768x3x3x512, .f32⟩
  | .hbm, ⟨21, _⟩ => ⟨S32768x3x1x512, .f32⟩
  | .hbm, ⟨22, _⟩ => ⟨S32768x3x512, .f32⟩
  | .hbm, ⟨23, _⟩ => ⟨S32768x1536, .f32⟩
  | .hbm, ⟨24, _⟩ => ⟨S32768x1536, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== DIn4.lean ====
abbrev S2x16384x1024 : Shape := ⟨3, ![2, 16384, 1024]⟩
abbrev S1024 : Shape := ⟨1, ![1024]⟩
abbrev S1024x4608 : Shape := ⟨2, ![1024, 4608]⟩
abbrev S32768x1024 : Shape := ⟨2, ![32768, 1024]⟩
abbrev S1024x512 : Shape := ⟨2, ![1024, 512]⟩
abbrev S1024x1536 : Shape := ⟨2, ![1024, 1536]⟩
abbrev S1x1024 : Shape := ⟨2, ![1, 1024]⟩
abbrev S32768x1536 : Shape := ⟨2, ![32768, 1536]⟩
abbrev S512x1024 : Shape := ⟨2, ![512, 1024]⟩
abbrev S512x1536 : Shape := ⟨2, ![512, 1536]⟩
abbrev S8x512x128 : Shape := ⟨3, ![8, 512, 128]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x1024 : Shape := ⟨2, ![128, 1024]⟩
abbrev S512 : Shape := ⟨1, ![512]⟩
abbrev S512x1 : Shape := ⟨2, ![512, 1]⟩

abbrev nBuf : Space → Nat
  | .hbm => 11
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4608, .f32⟩
  | .hbm, ⟨3, _⟩ => ⟨S32768x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1536, .f32⟩
  | .hbm, ⟨8, _⟩ => ⟨S1024x1536, .bf16⟩
  | .hbm, ⟨9, _⟩ => ⟨S1x1024, .f32⟩
  | .hbm, ⟨10, _⟩ => ⟨S32768x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | .local _ .vmem, ⟨6, _⟩ => ⟨S8x512x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DIn4RefIdeal.lean ====
abbrev S2x16384x1024 : Shape := ⟨3, ![2, 16384, 1024]⟩
abbrev S1024 : Shape := ⟨1, ![1024]⟩
abbrev S1024x4608 : Shape := ⟨2, ![1024, 4608]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4608 : Shape := ⟨3, ![2, 16384, 4608]⟩
abbrev S32768x3x3x512 : Shape := ⟨4, ![32768, 3, 3, 512]⟩
abbrev S32768x3x1x512 : Shape := ⟨4, ![32768, 3, 1, 512]⟩
abbrev S32768x3x512 : Shape := ⟨3, ![32768, 3, 512]⟩
abbrev S64x128x4x1536 : Shape := ⟨4, ![64, 128, 4, 1536]⟩
abbrev S64x4x128x1536 : Shape := ⟨4, ![64, 4, 128, 1536]⟩
abbrev S32768x1536 : Shape := ⟨2, ![32768, 1536]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4608, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x4608, .f32⟩
  | .hbm, ⟨20, _⟩ => ⟨S32768x3x3x512, .f32⟩
  | .hbm, ⟨21, _⟩ => ⟨S32768x3x1x512, .f32⟩
  | .hbm, ⟨22, _⟩ => ⟨S32768x3x512, .f32⟩
  | .hbm, ⟨23, _⟩ => ⟨S64x128x4x1536, .f32⟩
  | .hbm, ⟨24, _⟩ => ⟨S64x4x128x1536, .f32⟩
  | .hbm, ⟨25, _⟩ => ⟨S32768x1536, .f32⟩
  | .hbm, ⟨26, _⟩ => ⟨S32768x1536, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== DIn16.lean ====
abbrev S2x16384x1024 : Shape := ⟨3, ![2, 16384, 1024]⟩
abbrev S1024 : Shape := ⟨1, ![1024]⟩
abbrev S1024x4608 : Shape := ⟨2, ![1024, 4608]⟩
abbrev S32768x1024 : Shape := ⟨2, ![32768, 1024]⟩
abbrev S1024x512 : Shape := ⟨2, ![1024, 512]⟩
abbrev S1024x1536 : Shape := ⟨2, ![1024, 1536]⟩
abbrev S1x1024 : Shape := ⟨2, ![1, 1024]⟩
abbrev S32768x1536 : Shape := ⟨2, ![32768, 1536]⟩
abbrev S2048x1024 : Shape := ⟨2, ![2048, 1024]⟩
abbrev S2048x1536 : Shape := ⟨2, ![2048, 1536]⟩
abbrev S8x2048x128 : Shape := ⟨3, ![8, 2048, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩

abbrev nBuf : Space → Nat
  | .hbm => 11
  | .vmem => 7
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4608, .f32⟩
  | .hbm, ⟨3, _⟩ => ⟨S32768x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1536, .f32⟩
  | .hbm, ⟨8, _⟩ => ⟨S1024x1536, .bf16⟩
  | .hbm, ⟨9, _⟩ => ⟨S1x1024, .f32⟩
  | .hbm, ⟨10, _⟩ => ⟨S32768x1536, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S8x2048x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DIn16RefIdeal.lean ====
abbrev S2x16384x1024 : Shape := ⟨3, ![2, 16384, 1024]⟩
abbrev S1024 : Shape := ⟨1, ![1024]⟩
abbrev S1024x4608 : Shape := ⟨2, ![1024, 4608]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4608 : Shape := ⟨3, ![2, 16384, 4608]⟩
abbrev S32768x3x3x512 : Shape := ⟨4, ![32768, 3, 3, 512]⟩
abbrev S32768x3x1x512 : Shape := ⟨4, ![32768, 3, 1, 512]⟩
abbrev S32768x3x512 : Shape := ⟨3, ![32768, 3, 512]⟩
abbrev S16x128x16x1536 : Shape := ⟨4, ![16, 128, 16, 1536]⟩
abbrev S16x16x128x1536 : Shape := ⟨4, ![16, 16, 128, 1536]⟩
abbrev S32768x1536 : Shape := ⟨2, ![32768, 1536]⟩

abbrev nBuf : Space → Nat
  | .hbm => 27
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4608, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x4608, .f32⟩
  | .hbm, ⟨20, _⟩ => ⟨S32768x3x3x512, .f32⟩
  | .hbm, ⟨21, _⟩ => ⟨S32768x3x1x512, .f32⟩
  | .hbm, ⟨22, _⟩ => ⟨S32768x3x512, .f32⟩
  | .hbm, ⟨23, _⟩ => ⟨S16x128x16x1536, .f32⟩
  | .hbm, ⟨24, _⟩ => ⟨S16x16x128x1536, .f32⟩
  | .hbm, ⟨25, _⟩ => ⟨S32768x1536, .f32⟩
  | .hbm, ⟨26, _⟩ => ⟨S32768x1536, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== AOut.lean ====
abbrev S8x32768x128 : Shape := ⟨3, ![8, 32768, 128]⟩
abbrev S1024x1024 : Shape := ⟨2, ![1024, 1024]⟩
abbrev S2x16384x1024 : Shape := ⟨3, ![2, 16384, 1024]⟩
abbrev S32768x1024 : Shape := ⟨2, ![32768, 1024]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩

abbrev nBuf : Space → Nat
  | .hbm => 6
  | .vmem => 7
  | .smem => 0
  | _ => 0

abbrev bufTy : (tb : Table) → Fin (tcTables nBuf tb) → BufTy
  | .hbm, ⟨0, _⟩ => ⟨S8x32768x128, .bf16⟩
  | .hbm, ⟨1, _⟩ => ⟨S1024x1024, .f32⟩
  | .hbm, ⟨2, _⟩ => ⟨S2x16384x1024, .f32⟩
  | .hbm, ⟨3, _⟩ => ⟨S1024x1024, .bf16⟩
  | .hbm, ⟨4, _⟩ => ⟨S32768x1024, .f32⟩
  | .hbm, ⟨5, _⟩ => ⟨S32768x1024, .f32⟩
  | .local _ .vmem, ⟨0, _⟩ => ⟨S8x512x128, .bf16⟩
  | .local _ .vmem, ⟨1, _⟩ => ⟨S8x512x128, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AOutRefIdeal.lean ====
abbrev S8x32768x128 : Shape := ⟨3, ![8, 32768, 128]⟩
abbrev S1024x1024 : Shape := ⟨2, ![1024, 1024]⟩
abbrev S2x16384x1024 : Shape := ⟨3, ![2, 16384, 1024]⟩
abbrev S32768x8x128 : Shape := ⟨3, ![32768, 8, 128]⟩
abbrev S32768x1024 : Shape := ⟨2, ![32768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x32768x128, .bf16⟩
  | .hbm, ⟨1, _⟩ => ⟨S1024x1024, .f32⟩
  | .hbm, ⟨2, _⟩ => ⟨S2x16384x1024, .f32⟩
  | .hbm, ⟨3, _⟩ => ⟨S32768x8x128, .bf16⟩
  | .hbm, ⟨4, _⟩ => ⟨S2x16384x1024, .bf16⟩
  | .hbm, ⟨5, _⟩ => ⟨S2x16384x1024, .f32⟩
  | .hbm, ⟨6, _⟩ => ⟨S2x16384x1024, .f32⟩
  | .hbm, ⟨7, _⟩ => ⟨S2x16384x1024, .f32⟩
  | .hbm, ⟨8, _⟩ => ⟨S32768x1024, .f32⟩
  | _, _ => ⟨S8x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BOut.lean ====
abbrev S32768x6144 : Shape := ⟨2, ![32768, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S2x16384x1024 : Shape := ⟨3, ![2, 16384, 1024]⟩
abbrev S32768x1024 : Shape := ⟨2, ![32768, 1024]⟩
abbrev S1x3072 : Shape := ⟨2, ![1, 3072]⟩
abbrev S8x128x1 : Shape := ⟨3, ![8, 128, 1]⟩
abbrev S512x3072 : Shape := ⟨2, ![512, 3072]⟩
abbrev S512x1024 : Shape := ⟨2, ![512, 1024]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩
abbrev S128x384 : Shape := ⟨2, ![128, 384]⟩
abbrev S1x128x1 : Shape := ⟨3, ![1, 128, 1]⟩
abbrev S128x1 : Shape := ⟨2, ![128, 1]⟩

abbrev nBuf : Space → Nat
  | .hbm => 13
  | .vmem => 15
  | .smem => 0
  | _ => 0

abbrev bufTy : (tb : Table) → Fin (tcTables nBuf tb) → BufTy
  | .hbm, ⟨0, _⟩ => ⟨S32768x6144, .bf16⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S3072x1024, .f32⟩
  | .hbm, ⟨6, _⟩ => ⟨S2x16384x1024, .f32⟩
  | .hbm, ⟨7, _⟩ => ⟨S3072x1024, .bf16⟩
  | .hbm, ⟨8, _⟩ => ⟨S32768x1024, .f32⟩
  | .hbm, ⟨9, _⟩ => ⟨S1x3072, .f32⟩
  | .hbm, ⟨10, _⟩ => ⟨S1x3072, .f32⟩
  | .hbm, ⟨11, _⟩ => ⟨S8x128x1, .f32⟩
  | .hbm, ⟨12, _⟩ => ⟨S32768x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S1x3072, .f32⟩
  | .local _ .vmem, ⟨5, _⟩ => ⟨S1x3072, .f32⟩
  | .local _ .vmem, ⟨6, _⟩ => ⟨S8x128x128, .f32⟩
  | .local _ .vmem, ⟨7, _⟩ => ⟨S8x128x1, .f32⟩
  | .local _ .vmem, ⟨8, _⟩ => ⟨S3072x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x128x128, .bf16⟩
  | .local _ .vmem, ⟨14, _⟩ => ⟨S512x3072, .bf16⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BOutRefIdeal.lean ====
abbrev S32768x6144 : Shape := ⟨2, ![32768, 6144]⟩
abbrev S3072 : Shape := ⟨1, ![3072]⟩
abbrev S8x128x128 : Shape := ⟨3, ![8, 128, 128]⟩
abbrev S8x128 : Shape := ⟨2, ![8, 128]⟩
abbrev S3072x1024 : Shape := ⟨2, ![3072, 1024]⟩
abbrev S2x16384x1024 : Shape := ⟨3, ![2, 16384, 1024]⟩
abbrev S2x16384x6144 : Shape := ⟨3, ![2, 16384, 6144]⟩
abbrev S2x16384x3072 : Shape := ⟨3, ![2, 16384, 3072]⟩
abbrev S_ : Shape := ⟨0, ![]⟩
abbrev S2x16384 : Shape := ⟨2, ![2, 16384]⟩
abbrev S2x16384x1 : Shape := ⟨3, ![2, 16384, 1]⟩
abbrev S1x1x3072 : Shape := ⟨3, ![1, 1, 3072]⟩
abbrev S2x128x128x8x384 : Shape := ⟨5, ![2, 128, 128, 8, 384]⟩
abbrev S128x128 : Shape := ⟨2, ![128, 128]⟩
abbrev S1x128x128 : Shape := ⟨3, ![1, 128, 128]⟩
abbrev S8x2x128x384x128 : Shape := ⟨5, ![8, 2, 128, 384, 128]⟩
abbrev S128x8 : Shape := ⟨2, ![128, 8]⟩
abbrev S1x1x128x8x1 : Shape := ⟨5, ![1, 1, 128, 8, 1]⟩
abbrev S32768x1024 : Shape := ⟨2, ![32768, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32768x6144, .bf16⟩
  | .hbm, ⟨1, _⟩ => ⟨S3072, .f32⟩
  | .hbm, ⟨2, _⟩ => ⟨S3072, .f32⟩
  | .hbm, ⟨3, _⟩ => ⟨S8x128x128, .f32⟩
  | .hbm, ⟨4, _⟩ => ⟨S8x128, .f32⟩
  | .hbm, ⟨5, _⟩ => ⟨S3072x1024, .f32⟩
  | .hbm, ⟨6, _⟩ => ⟨S2x16384x1024, .f32⟩
  | .hbm, ⟨7, _⟩ => ⟨S2x16384x6144, .bf16⟩
  | .hbm, ⟨8, _⟩ => ⟨S2x16384x6144, .f32⟩
  | .hbm, ⟨9, _⟩ => ⟨S2x16384x3072, .f32⟩
  | .hbm, ⟨10, _⟩ => ⟨S2x16384x3072, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x3072, .f32⟩
  | .hbm, ⟨18, _⟩ => ⟨S2x16384x3072, .f32⟩
  | .hbm, ⟨19, _⟩ => ⟨S2x16384x3072, .f32⟩
  | .hbm, ⟨20, _⟩ => ⟨S_, .f32⟩
  | .hbm, ⟨21, _⟩ => ⟨S2x16384, .f32⟩
  | .hbm, ⟨22, _⟩ => ⟨S2x16384x1, .f32⟩
  | .hbm, ⟨23, _⟩ => ⟨S_, .f32⟩
  | .hbm, ⟨24, _⟩ => ⟨S2x16384x1, .f32⟩
  | .hbm, ⟨25, _⟩ => ⟨S2x16384x1, .f32⟩
  | .hbm, ⟨26, _⟩ => ⟨S2x16384x3072, .f32⟩
  | .hbm, ⟨27, _⟩ => ⟨S2x16384x3072, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S2x16384x1, .f32⟩
  | .hbm, ⟨32, _⟩ => ⟨S2x16384x3072, .f32⟩
  | .hbm, ⟨33, _⟩ => ⟨S2x16384x3072, .f32⟩
  | .hbm, ⟨34, _⟩ => ⟨S1x1x3072, .f32⟩
  | .hbm, ⟨35, _⟩ => ⟨S2x16384x3072, .f32⟩
  | .hbm, ⟨36, _⟩ => ⟨S2x16384x3072, .f32⟩
  | .hbm, ⟨37, _⟩ => ⟨S1x1x3072, .f32⟩
  | .hbm, ⟨38, _⟩ => ⟨S2x16384x3072, .f32⟩
  | .hbm, ⟨39, _⟩ => ⟨S2x16384x3072, .f32⟩
  | .hbm, ⟨40, _⟩ => ⟨S2x128x128x8x384, .f32⟩
  | .hbm, ⟨41, _⟩ => ⟨S_, .i1⟩
  | .hbm, ⟨42, _⟩ => ⟨S128x128, .i1⟩
  | .hbm, ⟨43, _⟩ => ⟨S128x128, .i32⟩
  | .hbm, ⟨44, _⟩ => ⟨S_, .i32⟩
  | .hbm, ⟨45, _⟩ => ⟨S128x128, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S_, .i1⟩
  | .hbm, ⟨50, _⟩ => ⟨S128x128, .i1⟩
  | .hbm, ⟨51, _⟩ => ⟨S128x128, .i1⟩
  | .hbm, ⟨52, _⟩ => ⟨S1x128x128, .i1⟩
  | .hbm, ⟨53, _⟩ => ⟨S_, .f32⟩
  | .hbm, ⟨54, _⟩ => ⟨S8x128x128, .i1⟩
  | .hbm, ⟨55, _⟩ => ⟨S8x128x128, .f32⟩
  | .hbm, ⟨56, _⟩ => ⟨S8x128x128, .f32⟩
  | .hbm, ⟨57, _⟩ => ⟨S8x2x128x384x128, .f32⟩
  | .hbm, ⟨58, _⟩ => ⟨S2x128x128x8x384, .f32⟩
  | .hbm, ⟨59, _⟩ => ⟨S128x8, .f32⟩
  | .hbm, ⟨60, _⟩ => ⟨S1x1x128x8x1, .f32⟩
  | .hbm, ⟨61, _⟩ => ⟨S2x128x128x8x384, .f32⟩
  | .hbm, ⟨62, _⟩ => ⟨S2x128x128x8x384, .f32⟩
  | .hbm, ⟨63, _⟩ => ⟨S2x16384x3072, .f32⟩
  | .hbm, ⟨64, _⟩ => ⟨S2x16384x3072, .f32⟩
  | .hbm, ⟨65, _⟩ => ⟨S2x16384x1024, .f32⟩
  | .hbm, ⟨66, _⟩ => ⟨S2x16384x1024, .f32⟩
  | .hbm, ⟨67, _⟩ => ⟨S32768x1024, .f32⟩
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_v29 : Ref sig .tc := ⟨.hbm, 42, rfl⟩
abbrev main_call0_v0 : Ref sig .tc := ⟨.hbm, 43, rfl⟩
abbrev main_call0_c : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_0 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_call1_v0 : Ref sig .tc := ⟨.hbm, 54, rfl⟩
abbrev main_call1_v1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== DMerge.lean ====
abbrev S32768x512 : Shape := ⟨2, ![32768, 512]⟩
abbrev S32768x8 : Shape := ⟨2, ![32768, 8]⟩
abbrev S512x1024 : Shape := ⟨2, ![512, 1024]⟩
abbrev S2x16384x1024 : Shape := ⟨3, ![2, 16384, 1024]⟩
abbrev S32768x8x1 : Shape := ⟨3, ![32768, 8, 1]⟩
abbrev S32768x8x64 : Shape := ⟨3, ![32768, 8, 64]⟩
abbrev S32768x1024 : Shape := ⟨2, ![32768, 1024]⟩
abbrev S512x512 : Shape := ⟨2, ![512, 512]⟩

abbrev nBuf : Space → Nat
  | .hbm => 20
  | .vmem => 17
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x8, .f32⟩
  | .hbm, ⟨4, _⟩ => ⟨S32768x8, .f32⟩
  | .hbm, ⟨5, _⟩ => ⟨S32768x8, .f32⟩
  | .hbm, ⟨6, _⟩ => ⟨S512x1024, .f32⟩
  | .hbm, ⟨7, _⟩ => ⟨S2x16384x1024, .f32⟩
  | .hbm, ⟨8, _⟩ => ⟨S32768x8x1, .f32⟩
  | .hbm, ⟨9, _⟩ => ⟨S32768x8x64, .f32⟩
  | .hbm, ⟨10, _⟩ => ⟨S32768x512, .f32⟩
  | .hbm, ⟨11, _⟩ => ⟨S32768x8x1, .f32⟩
  | .hbm, ⟨12, _⟩ => ⟨S32768x8x64, .f32⟩
  | .hbm, ⟨13, _⟩ => ⟨S32768x512, .f32⟩
  | .hbm, ⟨14, _⟩ => ⟨S32768x8x1, .f32⟩
  | .hbm, ⟨15, _⟩ => ⟨S32768x8x64, .f32⟩
  | .hbm, ⟨16, _⟩ => ⟨S32768x512, .f32⟩
  | .hbm, ⟨17, _⟩ => ⟨S512x1024, .bf16⟩
  | .hbm, ⟨18, _⟩ => ⟨S32768x1024, .f32⟩
  | .hbm, ⟨19, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DMergeRefIdeal.lean ====
abbrev S32768x512 : Shape := ⟨2, ![32768, 512]⟩
abbrev S32768x8 : Shape := ⟨2, ![32768, 8]⟩
abbrev S512x1024 : Shape := ⟨2, ![512, 1024]⟩
abbrev S2x16384x1024 : Shape := ⟨3, ![2, 16384, 1024]⟩
abbrev S2x16384x8x64 : Shape := ⟨4, ![2, 16384, 8, 64]⟩
abbrev S2x16384x8 : Shape := ⟨3, ![2, 16384, 8]⟩
abbrev S1x2x16384x8 : Shape := ⟨4, ![1, 2, 16384, 8]⟩
abbrev S3x2x16384x8 : Shape := ⟨4, ![3, 2, 16384, 8]⟩
abbrev S_ : Shape := ⟨0, ![]⟩
abbrev S3x2x16384x8x1 : Shape := ⟨5, ![3, 2, 16384, 8, 1]⟩
abbrev S1x2x16384x8x64 : Shape := ⟨5, ![1, 2, 16384, 8, 64]⟩
abbrev S3x2x16384x8x64 : Shape := ⟨5, ![3, 2, 16384, 8, 64]⟩
abbrev S2x16384x512 : Shape := ⟨3, ![2, 16384, 512]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x8, .f32⟩
  | .hbm, ⟨4, _⟩ => ⟨S32768x8, .f32⟩
  | .hbm, ⟨5, _⟩ => ⟨S32768x8, .f32⟩
  | .hbm, ⟨6, _⟩ => ⟨S512x1024, .f32⟩
  | .hbm, ⟨7, _⟩ => ⟨S2x16384x1024, .f32⟩
  | .hbm, ⟨8, _⟩ => ⟨S2x16384x8x64, .f32⟩
  | .hbm, ⟨9, _⟩ => ⟨S2x16384x8x64, .f32⟩
  | .hbm, ⟨10, _⟩ => ⟨S2x16384x8x64, .f32⟩
  | .hbm, ⟨11, _⟩ => ⟨S2x16384x8, .f32⟩
  | .hbm, ⟨12, _⟩ => ⟨S2x16384x8, .f32⟩
  | .hbm, ⟨13, _⟩ => ⟨S2x16384x8, .f32⟩
  | .hbm, ⟨14, _⟩ => ⟨S1x2x16384x8, .f32⟩
  | .hbm, ⟨15, _⟩ => ⟨S1x2x16384x8, .f32⟩
  | .hbm, ⟨16, _⟩ => ⟨S1x2x16384x8, .f32⟩
  | .hbm, ⟨17, _⟩ => ⟨S3x2x16384x8, .f32⟩
  | .hbm, ⟨18, _⟩ => ⟨S_, .f32⟩
  | .hbm, ⟨19, _⟩ => ⟨S2x16384x8, .f32⟩
  | .hbm, ⟨20, _⟩ => ⟨S_, .f32⟩
  | .hbm, ⟨21, _⟩ => ⟨S2x16384x8, .f32⟩
  | .hbm, ⟨22, _⟩ => ⟨S2x16384x8, .f32⟩
  | .hbm, ⟨23, _⟩ => ⟨S1x2x16384x8, .f32⟩
  | .hbm, ⟨24, _⟩ => ⟨S3x2x16384x8, .f32⟩
  | .hbm, ⟨25, _⟩ => ⟨S3x2x16384x8, .f32⟩
  | .hbm, ⟨26, _⟩ => ⟨S3x2x16384x8, .f32⟩
  | .hbm, ⟨27, _⟩ => ⟨S_, .f32⟩
  | .hbm, ⟨28, _⟩ => ⟨S2x16384x8, .f32⟩
  | .hbm, ⟨29, _⟩ => ⟨S1x2x16384x8, .f32⟩
  | .hbm, ⟨30, _⟩ => ⟨S3x2x16384x8, .f32⟩
  | .hbm, ⟨31, _⟩ => ⟨S3x2x16384x8, .f32⟩
  | .hbm, ⟨32, _⟩ => ⟨S3x2x16384x8x1, .f32⟩
  | .hbm, ⟨33, _⟩ => ⟨S1x2x16384x8x64, .f32⟩
  | .hbm, ⟨34, _⟩ => ⟨S1x2x16384x8x64, .f32⟩
  | .hbm, ⟨35, _⟩ => ⟨S1x2x16384x8x64, .f32⟩
  | .hbm, ⟨36, _⟩ => ⟨S3x2x16384x8x64, .f32⟩
  | .hbm, ⟨37, _⟩ => ⟨S3x2x16384x8x64, .f32⟩
  | .hbm, ⟨38, _⟩ => ⟨S3x2x16384x8x64, .f32⟩
  | .hbm, ⟨39, _⟩ => ⟨S_, .f32⟩
  | .hbm, ⟨40, _⟩ => ⟨S2x16384x8x64, .f32⟩
  | .hbm, ⟨41, _⟩ => ⟨S2x16384x512, .f32⟩
  | .hbm, ⟨42, _⟩ => ⟨S2x16384x1024, .f32⟩
  | .hbm, ⟨43, _⟩ => ⟨S2x16384x1024, .f32⟩
  | .hbm, ⟨44, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== CConv.lean ====
abbrev S32768x1024 : Shape := ⟨2, ![32768, 1024]⟩
abbrev S31x1024 : Shape := ⟨2, ![31, 1024]⟩
abbrev S1024 : Shape := ⟨1, ![1024]⟩
abbrev S1024x1024 : Shape := ⟨2, ![1024, 1024]⟩
abbrev S2x16384x1024 : Shape := ⟨3, ![2, 16384, 1024]⟩
abbrev S1x1024 : Shape := ⟨2, ![1, 1024]⟩
abbrev S1x512x1024 : Shape := ⟨3, ![1, 512, 1024]⟩
abbrev S1x32x1024 : Shape := ⟨3, ![1, 32, 1024]⟩
abbrev S544x1024 : Shape := ⟨2, ![544, 1024]⟩
abbrev S512x1024 : Shape := ⟨2, ![512, 1024]⟩
abbrev S32x1024 : Shape := ⟨2, ![32, 1024]⟩
abbrev S160x128 : Shape := ⟨2, ![160, 128]⟩
abbrev S128x128 : Shape := ⟨2, ![128, 128]⟩
abbrev S1x128 : Shape := ⟨2, ![1, 128]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S2x16384x1024, .f32⟩
  | .hbm, ⟨8, _⟩ => ⟨S2x16384x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x32x1024, .f32⟩
  | .local _ .vmem, ⟨3, _⟩ => ⟨S1x32x1024, .f32⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S544x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_6 : BitVec 32 := 0#32
  let c32_i32 : BitVec 32 := 32#32
  let v11 : BitVec 32 := Scalar.addi c0_i32_6 c32_i32
  let c1_i32 : BitVec 32 := 1#32
  ⟨c0_i32_6, v11, c1_i32⟩
def k0_mult1 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c0_i32_29 : BitVec 32 := 0#32
  let v54 : BitVec 1 := Scalar.cmpi .sgt arg14 c0_i32_29
  let v55 : BitVec 32 := Scalar.extui v54
  let c0_i32_30 : BitVec 32 := 0#32
  let v56 : BitVec 1 := Scalar.cmpi .slt arg14 c0_i32_30
  let v57 : BitVec 32 := Scalar.extui v56
  let v58 : BitVec 32 := Scalar.subi v55 v57
  let c8_i32 : BitVec 32 := 8#32
  let c0_i32_31 : BitVec 32 := 0#32
  let v59 : BitVec 1 := Scalar.cmpi .sgt c8_i32 c0_i32_31
  let v60 : BitVec 32 := Scalar.extui v59
  let c0_i32_32 : BitVec 32 := 0#32
  let v61 : BitVec 1 := Scalar.cmpi .slt c8_i32 c0_i32_32
  let v62 : BitVec 32 := Scalar.extui v61
  let v63 : BitVec 32 := Scalar.subi v60 v62
  let v64 : BitVec 1 := Scalar.cmpi .ne v58 v63
  let v65 : BitVec 32 := Scalar.remsi arg14 c8_i32
  let c0_i32_33 : BitVec 32 := 0#32
  let v66 : BitVec 1 := Scalar.cmpi .ne v65 c0_i32_33
  let v67 : BitVec 1 := Scalar.andi v64 v66
  let v53 : BitVec 32 := Scalar.divsi arg14 c8_i32
  let c1_i32_34 : BitVec 32 := 1#32
  let v68 : BitVec 32 := Scalar.subi v53 c1_i32_34
  let v69 : BitVec 32 := Scalar.select v67 v68 v53
  let c128_i32 : BitVec 32 := 128#32
  let v70 : BitVec 32 := Scalar.muli v69 c128_i32
  v70
def k0_mult2 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  v82
def k0_off1 (k0_t1 : Fin k0_t1_loop.trips) : Fin 2 → Nat :=
  let c0_i32_6 : BitVec 32 := 0#32
  let c1_i32 : BitVec 32 := 1#32
  let arg14 : BitVec 32 := Scf.iv c0_i32_6 c1_i32 k0_t1
  let c0_i32_29 : BitVec 32 := 0#32
  let v54 : BitVec 1 := Scalar.cmpi .sgt arg14 c0_i32_29
  let v55 : BitVec 32 := Scalar.extui v54
  let c0_i32_30 : BitVec 32 := 0#32
  let v56 : BitVec 1 := Scalar.cmpi .slt arg14 c0_i32_30
  let v57 : BitVec 32 := Scalar.extui v56
  let v58 : BitVec 32 := Scalar.subi v55 v57
  let c8_i32 : BitVec 32 := 8#32
  let c0_i32_31 : BitVec 32 := 0#32
  let v59 : BitVec 1 := Scalar.cmpi .sgt c8_i32 c0_i32_31
  let v60 : BitVec 32 := Scalar.extui v59
  let c0_i32_32 : BitVec 32 := 0#32
  let v61 : BitVec 1 := Scalar.cmpi .slt c8_i32 c0_i32_32
  let v62 : BitVec 32 := Scalar.extui v61
  let v63 : BitVec 32 := Scalar.subi v60 v62
  let v64 : BitVec 1 := Scalar.cmpi .ne v58 v63
  let v65 : BitVec 32 := Scalar.remsi arg14 c8_i32
  let c0_i32_33 : BitVec 32 := 0#32
  let v66 : BitVec 1 := Scalar.cmpi .ne v65 c0_i32_33
  let v67 : BitVec 1 := Scalar.andi v64 v66
  let v53 : BitVec 32 := Scalar.divsi arg14 c8_i32
  let c1_i32_34 : BitVec 32 := 1#32
  let v68 : BitVec 32 := Scalar.subi v53 c1_i32_34
  let v69 : BitVec 32 := Scalar.select v67 v68 v53
  let c128_i32 : BitVec 32 := 128#32
  let v70 : BitVec 32 := Scalar.muli v69 c128_i32
  let v71 : BitVec 32 := v70
  let v84 : Index := Scalar.indexCast v71
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v85 : Index := Scalar.indexCast v83
  ![v84.toNat, v85.toNat]
def k0_off2 (k0_t1 : Fin k0_t1_loop.trips) : Fin 2 → Nat :=
  let c0_43 : Index := 0#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v88 : Index := Scalar.indexCast v83
  ![0, v88.toNat]
def k0_off3 (k0_t1 : Fin k0_t1_loop.trips) : Fin 2 → Nat :=
  let c0_44 : Index := 0#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v95 : Index := Scalar.indexCast v83
  ![0, v95.toNat]
def k0_off4 (k0_t1 : Fin k0_t1_loop.trips) : Fin 2 → Nat :=
  let c8 : Index := 8#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v101 : Index := Scalar.indexCast v83
  ![8, v101.toNat]
def k0_off5 (k0_t1 : Fin k0_t1_loop.trips) : Fin 2 → Nat :=
  let c16 : Index := 16#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v107 : Index := Scalar.indexCast v83
  ![16, v107.toNat]
def k0_off6 (k0_t1 : Fin k0_t1_loop.trips) : Fin 2 → Nat :=
  let c24 : Index := 24#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v113 : Index := Scalar.indexCast v83
  ![24, v113.toNat]
def k0_off7 (k0_t1 : Fin k0_t1_loop.trips) : Fin 2 → Nat :=
  let c1 : Index := 1#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v120 : Index := Scalar.indexCast v83
  ![1, v120.toNat]
def k0_off8 (k0_t1 : Fin k0_t1_loop.trips) : Fin 2 → Nat :=
  let c9 : Index := 9#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v126 : Index := Scalar.indexCast v83
  ![9, v126.toNat]
def k0_off9 (k0_t1 : Fin k0_t1_loop.trips) : Fin 2 → Nat :=
  let c17 : Index := 17#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v132 : Index := Scalar.indexCast v83
  ![17, v132.toNat]
def k0_off10 (k0_t1 : Fin k0_t1_loop.trips) : Fin 2 → Nat :=
  let c25 : Index := 25#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v138 : Index := Scalar.indexCast v83
  ![25, v138.toNat]
def k0_off11 (k0_t1 : Fin k0_t1_loop.trips) : Fin 2 → Nat :=
  let c2 : Index := 2#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v145 : Index := Scalar.indexCast v83
  ![2, v145.toNat]
def k0_off12 (k0_t1 : Fin k0_t1_loop.trips) : Fin 2 → Nat :=
  let c10 : Index := 10#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v151 : Index := Scalar.indexCast v83
  ![10, v151.toNat]
def k0_off13 (k0_t1 : Fin k0_t1_loop.trips) : Fin 2 → Nat :=
  let c18 : Index := 18#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v157 : Index := Scalar.indexCast v83
  ![18, v157.toNat]
def k0_off14 (k0_t1 : Fin k0_t1_loop.trips) : Fin 2 → Nat :=
  let c26 : Index := 26#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v163 : Index := Scalar.indexCast v83
  ![26, v163.toNat]
def k0_off15 (k0_t1 : Fin k0_t1_loop.trips) : Fin 2 → Nat :=
  let c3 : Index := 3#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v170 : Index := Scalar.indexCast v83
  ![3, v170.toNat]
def k0_off16 (k0_t1 : Fin k0_t1_loop.trips) : Fin 2 → Nat :=
  let c11 : Index := 11#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v176 : Index := Scalar.indexCast v83
  ![11, v176.toNat]
def k0_off17 (k0_t1 : Fin k0_t1_loop.trips) : Fin 2 → Nat :=
  let c19 : Index := 19#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v182 : Index := Scalar.indexCast v83
  ![19, v182.toNat]
def k0_off18 (k0_t1 : Fin k0_t1_loop.trips) : Fin 2 → Nat :=
  let c27 : Index := 27#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v188 : Index := Scalar.indexCast v83
  ![27, v188.toNat]
def k0_off19 (k0_t1 : Fin k0_t1_loop.trips) : Fin 2 → Nat :=
  let c4 : Index := 4#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v195 : Index := Scalar.indexCast v83
  ![4, v195.toNat]
def k0_off20 (k0_t1 : Fin k0_t1_loop.trips) : Fin 2 → Nat :=
  let c12 : Index := 12#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v201 : Index := Scalar.indexCast v83
  ![12, v201.toNat]
def k0_off21 (k0_t1 : Fin k0_t1_loop.trips) : Fin 2 → Nat :=
  let c20 : Index := 20#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v207 : Index := Scalar.indexCast v83
  ![20, v207.toNat]
def k0_off22 (k0_t1 : Fin k0_t1_loop.trips) : Fin 2 → Nat :=
  let c28 : Index := 28#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v213 : Index := Scalar.indexCast v83
  ![28, v213.toNat]
def k0_off23 (k0_t1 : Fin k0_t1_loop.trips) : Fin 2 → Nat :=
  let c5 : Index := 5#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v220 : Index := Scalar.indexCast v83
  ![5, v220.toNat]
def k0_off24 (k0_t1 : Fin k0_t1_loop.trips) : Fin 2 → Nat :=
  let c13 : Index := 13#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v226 : Index := Scalar.indexCast v83
  ![13, v226.toNat]
def k0_off25 (k0_t1 : Fin k0_t1_loop.trips) : Fin 2 → Nat :=
  let c21 : Index := 21#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v232 : Index := Scalar.indexCast v83
  ![21, v232.toNat]
def k0_off26 (k0_t1 : Fin k0_t1_loop.trips) : Fin 2 → Nat :=
  let c29 : Index := 29#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v238 : Index := Scalar.indexCast v83
  ![29, v238.toNat]
def k0_off27 (k0_t1 : Fin k0_t1_loop.trips) : Fin 2 → Nat :=
  let c6 : Index := 6#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v245 : Index := Scalar.indexCast v83
  ![6, v245.toNat]
def k0_off28 (k0_t1 : Fin k0_t1_loop.trips) : Fin 2 → Nat :=
  let c14 : Index := 14#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v251 : Index := Scalar.indexCast v83
  ![14, v251.toNat]
def k0_off29 (k0_t1 : Fin k0_t1_loop.trips) : Fin 2 → Nat :=
  let c22 : Index := 22#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v257 : Index := Scalar.indexCast v83
  ![22, v257.toNat]
def k0_off30 (k0_t1 : Fin k0_t1_loop.trips) : Fin 2 → Nat :=
  let c30 : Index := 30#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v263 : Index := Scalar.indexCast v83
  ![30, v263.toNat]
def k0_off31 (k0_t1 : Fin k0_t1_loop.trips) : Fin 2 → Nat :=
  let c7 : Index := 7#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v270 : Index := Scalar.indexCast v83
  ![7, v270.toNat]
def k0_off32 (k0_t1 : Fin k0_t1_loop.trips) : Fin 2 → Nat :=
  let c15 : Index := 15#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v276 : Index := Scalar.indexCast v83
  ![15, v276.toNat]
def k0_off33 (k0_t1 : Fin k0_t1_loop.trips) : Fin 2 → Nat :=
  let c23 : Index := 23#32
  let c0_i32_6 : BitVec 32 := 0#32
  let c1_i32 : BitVec 32 := 1#32
  let arg14 : BitVec 32 := Scf.iv c0_i32_6 c1_i32 k0_t1
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v282 : Index := Scalar.indexCast v83
  ![23, v282.toNat]
def k0_off34 (k0_t1 : Fin k0_t1_loop.trips) : Fin 2 → Nat :=
  let c0_i32_6 : BitVec 32 := 0#32
  let c1_i32 : BitVec 32 := 1#32
  let arg14 : BitVec 32 := Scf.iv c0_i32_6 c1_i32 k0_t1
  let c0_i32_29 : BitVec 32 := 0#32
  let v54 : BitVec 1 := Scalar.cmpi .sgt arg14 c0_i32_29
  let v55 : BitVec 32 := Scalar.extui v54
  let c0_i32_30 : BitVec 32 := 0#32
  let v56 : BitVec 1 := Scalar.cmpi .slt arg14 c0_i32_30
  let v57 : BitVec 32 := Scalar.extui v56
  let v58 : BitVec 32 := Scalar.subi v55 v57
  let c8_i32 : BitVec 32 := 8#32
  let c0_i32_31 : BitVec 32 := 0#32
  let v59 : BitVec 1 := Scalar.cmpi .sgt c8_i32 c0_i32_31
  let v60 : BitVec 32 := Scalar.extui v59
  let c0_i32_32 : BitVec 32 := 0#32
  let v61 : BitVec 1 := Scalar.cmpi .slt c8_i32 c0_i32_32
  let v62 : BitVec 32 := Scalar.extui v61
  let v63 : BitVec 32 := Scalar.subi v60 v62
  let v64 : BitVec 1 := Scalar.cmpi .ne v58 v63
  let v65 : BitVec 32 := Scalar.remsi arg14 c8_i32
  let c0_i32_33 : BitVec 32 := 0#32
  let v66 : BitVec 1 := Scalar.cmpi .ne v65 c0_i32_33
  let v67 : BitVec 1 := Scalar.andi v64 v66
  let v53 : BitVec 32 := Scalar.divsi arg14 c8_i32
  let c1_i32_34 : BitVec 32 := 1#32
  let v68 : BitVec 32 := Scalar.subi v53 c1_i32_34
  let v69 : BitVec 32 := Scalar.select v67 v68 v53
  let c128_i32 : BitVec 32 := 128#32
  let v70 : BitVec 32 := Scalar.muli v69 c128_i32
  let v71 : BitVec 32 := v70
  let v287 : Index := Scalar.indexCast v71
  let c8_i32_35 : BitVec 32 := 8#32
  let c0_i32_36 : BitVec 32 := 0#32
  let v72 : BitVec 1 := Scalar.cmpi .eq c8_i32_35 c0_i32_36
  let c1_i32_37 : BitVec 32 := 1#32
  let v73 : BitVec 32 := Scalar.select v72 c1_i32_37 c8_i32_35
  let v74 : BitVec 32 := Scalar.remsi arg14 v73
  let c0_i32_39 : BitVec 32 := 0#32
  let v76 : BitVec 1 := Scalar.cmpi .slt v74 c0_i32_39
  let c0_i32_40 : BitVec 32 := 0#32
  let v77 : BitVec 1 := Scalar.cmpi .slt v73 c0_i32_40
  let v78 : BitVec 1 := Scalar.xori v76 v77
  let c0_i32_38 : BitVec 32 := 0#32
  let v75 : BitVec 1 := Scalar.cmpi .ne v74 c0_i32_38
  let v79 : BitVec 1 := Scalar.andi v78 v75
  let v80 : BitVec 32 := Scalar.addi v74 v73
  let v81 : BitVec 32 := Scalar.select v79 v80 v74
  let c128_i32_41 : BitVec 32 := 128#32
  let v82 : BitVec 32 := Scalar.muli v81 c128_i32_41
  let v83 : BitVec 32 := v82
  let v288 : Index := Scalar.indexCast v83
  ![v287.toNat, v288.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CConvRefIdeal.lean ====
abbrev S32768x1024 : Shape := ⟨2, ![32768, 1024]⟩
abbrev S31x1024 : Shape := ⟨2, ![31, 1024]⟩
abbrev S1024 : Shape := ⟨1, ![1024]⟩
abbrev S1024x1024 : Shape := ⟨2, ![1024, 1024]⟩
abbrev S2x16384x1024 : Shape := ⟨3, ![2, 16384, 1024]⟩
abbrev S_ : Shape := ⟨0, ![]⟩
abbrev S2x16414x1024 : Shape := ⟨3, ![2, 16414, 1024]⟩
abbrev S1x1024 : Shape := ⟨2, ![1, 1024]⟩
abbrev S1x1x1024 : Shape := ⟨3, ![1, 1, 1024]⟩
abbrev S2x16384 : Shape := ⟨2, ![2, 16384]⟩
abbrev S2x16384x1 : Shape := ⟨3, ![2, 16384, 1]⟩

abbrev nBuf : Space → Nat
  | .hbm => 277
  | .vmem => 0
  | .smem => 0
  | _ => 0

abbrev hbmTy0_0 (i : Nat) : BufTy := match i % 128 with
  | 0 => ⟨S32768x1024, .f32⟩
  | 1 => ⟨S31x1024, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S2x16384x1024, .f32⟩
  | 8 => ⟨S2x16384x1024, .f32⟩
  | 9 => ⟨S_, .i32⟩
  | 10 => ⟨S_, .f32⟩
  | 11 => ⟨S2x16414x1024, .f32⟩
  | 12 => ⟨S2x16384x1024, .f32⟩
  | 13 => ⟨S1x1024, .f32⟩
  | 14 => ⟨S1024, .f32⟩
  | 15 => ⟨S1x1x1024, .f32⟩
  | 16 => ⟨S2x16384x1024, .f32⟩
  | 17 => ⟨S2x16384x1024, .f32⟩
  | 18 => ⟨S_, .f32⟩
  | 19 => ⟨S2x16384x1024, .f32⟩
  | 20 => ⟨S2x16384x1024, .f32⟩
  | 21 => ⟨S2x16384x1024, .f32⟩
  | 22 => ⟨S1x1024, .f32⟩
  | 23 => ⟨S1024, .f32⟩
  | 24 => ⟨S1x1x1024, .f32⟩
  | 25 => ⟨S2x16384x1024, .f32⟩
  | 26 => ⟨S2x16384x1024, .f32⟩
  | 27 => ⟨S2x16384x1024, .f32⟩
  | 28 => ⟨S2x16384x1024, .f32⟩
  | 29 => ⟨S1x1024, .f32⟩
  | 30 => ⟨S1024, .f32⟩
  | 31 => ⟨S1x1x1024, .f32⟩
  | 32 => ⟨S2x16384x1024, .f32⟩
  | 33 => ⟨S2x16384x1024, .f32⟩
  | 34 => ⟨S2x16384x1024, .f32⟩
  | 35 => ⟨S2x16384x1024, .f32⟩
  | 36 => ⟨S1x1024, .f32⟩
  | 37 => ⟨S1024, .f32⟩
  | 38 => ⟨S1x1x1024, .f32⟩
  | 39 => ⟨S2x16384x1024, .f32⟩
  | 40 => ⟨S2x16384x1024, .f32⟩
  | 41 => ⟨S2x16384x1024, .f32⟩
  | 42 => ⟨S2x16384x1024, .f32⟩
  | 43 => ⟨S1x1024, .f32⟩
  | 44 => ⟨S1024, .f32⟩
  | 45 => ⟨S1x1x1024, .f32⟩
  | 46 => ⟨S2x16384x1024, .f32⟩
  | 47 => ⟨S2x16384x1024, .f32⟩
  | 48 => ⟨S2x16384x1024, .f32⟩
  | 49 => ⟨S2x16384x1024, .f32⟩
  | 50 => ⟨S1x1024, .f32⟩
  | 51 => ⟨S1024, .f32⟩
  | 52 => ⟨S1x1x1024, .f32⟩
  | 53 => ⟨S2x16384x1024, .f32⟩
  | 54 => ⟨S2x16384x1024, .f32⟩
  | 55 => ⟨S2x16384x1024, .f32⟩
  | 56 => ⟨S2x16384x1024, .f32⟩
  | 57 => ⟨S1x1024, .f32⟩
  | 58 => ⟨S1024, .f32⟩
  | 59 => ⟨S1x1x1024, .f32⟩
  | 60 => ⟨S2x16384x1024, .f32⟩
  | 61 => ⟨S2x16384x1024, .f32⟩
  | 62 => ⟨S2x16384x1024, .f32⟩
  | 63 => ⟨S2x16384x1024, .f32⟩
  | 64 => ⟨S1x1024, .f32⟩
  | 65 => ⟨S1024, .f32⟩
  | 66 => ⟨S1x1x1024, .f32⟩
  | 67 => ⟨S2x16384x1024, .f32⟩
  | 68 => ⟨S2x16384x1024, .f32⟩
  | 69 => ⟨S2x16384x1024, .f32⟩
  | 70 => ⟨S2x16384x1024, .f32⟩
  | 71 => ⟨S1x1024, .f32⟩
  | 72 => ⟨S1024, .f32⟩
  | 73 => ⟨S1x1x1024, .f32⟩
  | 74 => ⟨S2x16384x1024, .f32⟩
  | 75 => ⟨S2x16384x1024, .f32⟩
  | 76 => ⟨S2x16384x1024, .f32⟩
  | 77 => ⟨S2x16384x1024, .f32⟩
  | 78 => ⟨S1x1024, .f32⟩
  | 79 => ⟨S1024, .f32⟩
  | 80 => ⟨S1x1x1024, .f32⟩
  | 81 => ⟨S2x16384x1024, .f32⟩
  | 82 => ⟨S2x16384x1024, .f32⟩
  | 83 => ⟨S2x16384x1024, .f32⟩
  | 84 => ⟨S2x16384x1024, .f32⟩
  | 85 => ⟨S1x1024, .f32⟩
  | 86 => ⟨S1024, .f32⟩
  | 87 => ⟨S1x1x1024, .f32⟩
  | 88 => ⟨S2x16384x1024, .f32⟩
  | 89 => ⟨S2x16384x1024, .f32⟩
  | 90 => ⟨S2x16384x1024, .f32⟩
  | 91 => ⟨S2x16384x1024, .f32⟩
  | 92 => ⟨S1x1024, .f32⟩
  | 93 => ⟨S1024, .f32⟩
  | 94 => ⟨S1x1x1024, .f32⟩
  | 95 => ⟨S2x16384x1024, .f32⟩
  | 96 => ⟨S2x16384x1024, .f32⟩
  | 97 => ⟨S2x16384x1024, .f32⟩
  | 98 => ⟨S2x16384x1024, .f32⟩
  | 99 => ⟨S1x1024, .f32⟩
  | 100 => ⟨S1024, .f32⟩
  | 101 => ⟨S1x1x1024, .f32⟩
  | 102 => ⟨S2x16384x1024, .f32⟩
  | 103 => ⟨S2x16384x1024, .f32⟩
  | 104 => ⟨S2x16384x1024, .f32⟩
  | 105 => ⟨S2x16384x1024, .f32⟩
  | 106 => ⟨S1x1024, .f32⟩
  | 107 => ⟨S1024, .f32⟩
  | 108 => ⟨S1x1x1024, .f32⟩
  | 109 => ⟨S2x16384x1024, .f32⟩
  | 110 => ⟨S2x16384x1024, .f32⟩
  | 111 => ⟨S2x16384x1024, .f32⟩
  | 112 => ⟨S2x16384x1024, .f32⟩
  | 113 => ⟨S1x1024, .f32⟩
  | 114 => ⟨S1024, .f32⟩
  | 115 => ⟨S1x1x1024, .f32⟩
  | 116 => ⟨S2x16384x1024, .f32⟩
  | 117 => ⟨S2x16384x1024, .f32⟩
  | 118 => ⟨S2x16384x1024, .f32⟩
  | 119 => ⟨S2x16384x1024, .f32⟩
  | 120 => ⟨S1x1024, .f32⟩
  | 121 => ⟨S1024, .f32⟩
  | 122 => ⟨S1x1x1024, .f32⟩
  | 123 => ⟨S2x16384x1024, .f32⟩
  | 124 => ⟨S2x16384x1024, .f32⟩
  | 125 => ⟨S2x16384x1024, .f32⟩
  | 126 => ⟨S2x16384x1024, .f32⟩
  | 127 => ⟨S1x1024, .f32⟩
  | _ => ⟨S32768x1024, .f32⟩

abbrev hbmTy0_1 (i : Nat) : BufTy := match i % 128 with
  | 0 => ⟨S1024, .f32⟩
  | 1 => ⟨S1x1x1024, .f32⟩
  | 2 => ⟨S2x16384x1024, .f32⟩
  | 3 => ⟨S2x16384x1024, .f32⟩
  | 4 => ⟨S2x16384x1024, .f32⟩
  | 5 => ⟨S2x16384x1024, .f32⟩
  | 6 => ⟨S1x1024, .f32⟩
  | 7 => ⟨S1024, .f32⟩
  | 8 => ⟨S1x1x1024, .f32⟩
  | 9 => ⟨S2x16384x1024, .f32⟩
  | 10 => ⟨S2x16384x1024, .f32⟩
  | 11 => ⟨S2x16384x1024, .f32⟩
  | 12 => ⟨S2x16384x1024, .f32⟩
  | 13 => ⟨S1x1024, .f32⟩
  | 14 => ⟨S1024, .f32⟩
  | 15 => ⟨S1x1x1024, .f32⟩
  | 16 => ⟨S2x16384x1024, .f32⟩
  | 17 => ⟨S2x16384x1024, .f32⟩
  | 18 => ⟨S2x16384x1024, .f32⟩
  | 19 => ⟨S2x16384x1024, .f32⟩
  | 20 => ⟨S1x1024, .f32⟩
  | 21 => ⟨S1024, .f32⟩
  | 22 => ⟨S1x1x1024, .f32⟩
  | 23 => ⟨S2x16384x1024, .f32⟩
  | 24 => ⟨S2x16384x1024, .f32⟩
  | 25 => ⟨S2x16384x1024, .f32⟩
  | 26 => ⟨S2x16384x1024, .f32⟩
  | 27 => ⟨S1x1024, .f32⟩
  | 28 => ⟨S1024, .f32⟩
  | 29 => ⟨S1x1x1024, .f32⟩
  | 30 => ⟨S2x16384x1024, .f32⟩
  | 31 => ⟨S2x16384x1024, .f32⟩
  | 32 => ⟨S2x16384x1024, .f32⟩
  | 33 => ⟨S2x16384x1024, .f32⟩
  | 34 => ⟨S1x1024, .f32⟩
  | 35 => ⟨S1024, .f32⟩
  | 36 => ⟨S1x1x1024, .f32⟩
  | 37 => ⟨S2x16384x1024, .f32⟩
  | 38 => ⟨S2x16384x1024, .f32⟩
  | 39 => ⟨S2x16384x1024, .f32⟩
  | 40 => ⟨S2x16384x1024, .f32⟩
  | 41 => ⟨S1x1024, .f32⟩
  | 42 => ⟨S1024, .f32⟩
  | 43 => ⟨S1x1x1024, .f32⟩
  | 44 => ⟨S2x16384x1024, .f32⟩
  | 45 => ⟨S2x16384x1024, .f32⟩
  | 46 => ⟨S2x16384x1024, .f32⟩
  | 47 => ⟨S2x16384x1024, .f32⟩
  | 48 => ⟨S1x1024, .f32⟩
  | 49 => ⟨S1024, .f32⟩
  | 50 => ⟨S1x1x1024, .f32⟩
  | 51 => ⟨S2x16384x1024, .f32⟩
  | 52 => ⟨S2x16384x1024, .f32⟩
  | 53 => ⟨S2x16384x1024, .f32⟩
  | 54 => ⟨S2x16384x1024, .f32⟩
  | 55 => ⟨S1x1024, .f32⟩
  | 56 => ⟨S1024, .f32⟩
  | 57 => ⟨S1x1x1024, .f32⟩
  | 58 => ⟨S2x16384x1024, .f32⟩
  | 59 => ⟨S2x16384x1024, .f32⟩
  | 60 => ⟨S2x16384x1024, .f32⟩
  | 61 => ⟨S2x16384x1024, .f32⟩
  | 62 => ⟨S1x1024, .f32⟩
  | 63 => ⟨S1024, .f32⟩
  | 64 => ⟨S1x1x1024, .f32⟩
  | 65 => ⟨S2x16384x1024, .f32⟩
  | 66 => ⟨S2x16384x1024, .f32⟩
  | 67 => ⟨S2x16384x1024, .f32⟩
  | 68 => ⟨S2x16384x1024, .f32⟩
  | 69 => ⟨S1x1024, .f32⟩
  | 70 => ⟨S1024, .f32⟩
  | 71 => ⟨S1x1x1024, .f32⟩
  | 72 => ⟨S2x16384x1024, .f32⟩
  | 73 => ⟨S2x16384x1024, .f32⟩
  | 74 => ⟨S2x16384x1024, .f32⟩
  | 75 => ⟨S2x16384x1024, .f32⟩
  | 76 => ⟨S1x1024, .f32⟩
  | 77 => ⟨S1024, .f32⟩
  | 78 => ⟨S1x1x1024, .f32⟩
  | 79 => ⟨S2x16384x1024, .f32⟩
  | 80 => ⟨S2x16384x1024, .f32⟩
  | 81 => ⟨S2x16384x1024, .f32⟩
  | 82 => ⟨S2x16384x1024, .f32⟩
  | 83 => ⟨S1x1024, .f32⟩
  | 84 => ⟨S1024, .f32⟩
  | 85 => ⟨S1x1x1024, .f32⟩
  | 86 => ⟨S2x16384x1024, .f32⟩
  | 87 => ⟨S2x16384x1024, .f32⟩
  | 88 => ⟨S2x16384x1024, .f32⟩
  | 89 => ⟨S2x16384x1024, .f32⟩
  | 90 => ⟨S1x1024, .f32⟩
  | 91 => ⟨S1024, .f32⟩
  | 92 => ⟨S1x1x1024, .f32⟩
  | 93 => ⟨S2x16384x1024, .f32⟩
  | 94 => ⟨S2x16384x1024, .f32⟩
  | 95 => ⟨S2x16384x1024, .f32⟩
  | 96 => ⟨S2x16384x1024, .f32⟩
  | 97 => ⟨S1x1024, .f32⟩
  | 98 => ⟨S1024, .f32⟩
  | 99 => ⟨S1x1x1024, .f32⟩
  | 100 => ⟨S2x16384x1024, .f32⟩
  | 101 => ⟨S2x16384x1024, .f32⟩
  | 102 => ⟨S2x16384x1024, .f32⟩
  | 103 => ⟨S1x1x1024, .f32⟩
  | 104 => ⟨S2x16384x1024, .f32⟩
  | 105 => ⟨S2x16384x1024, .f32⟩
  | 106 => ⟨S_, .f32⟩
  | 107 => ⟨S2x16384, .f32⟩
  | 108 => ⟨S2x16384x1, .f32⟩
  | 109 => ⟨S_, .f32⟩
  | 110 => ⟨S2x16384x1, .f32⟩
  | 111 => ⟨S2x16384x1, .f32⟩
  | 112 => ⟨S2x16384x1024, .f32⟩
  | 113 => ⟨S2x16384x1024, .f32⟩
  | 114 => ⟨S2x16384x1024, .f32⟩
  | 115 => ⟨S_, .f32⟩
  | 116 => ⟨S2x16384, .f32⟩
  | 117 => ⟨S2x16384x1, .f32⟩
  | 118 => ⟨S_, .f32⟩
  | 119 => ⟨S2x16384x1, .f32⟩
  | 120 => ⟨S2x16384x1, .f32⟩
  | 121 => ⟨S2x16384x1024, .f32⟩
  | 122 => ⟨S2x16384x1024, .f32⟩
  | 123 => ⟨S_, .f32⟩
  | 124 => ⟨S2x16384x1, .f32⟩
  | 125 => ⟨S2x16384x1, .f32⟩
  | 126 => ⟨S2x16384x1, .f32⟩
  | 127 => ⟨S2x16384x1024, .f32⟩
  | _ => ⟨S32768x1024, .f32⟩

abbrev hbmTy0_2 (i : Nat) : BufTy := match i % 128 with
  | 0 => ⟨S2x16384x1024, .f32⟩
  | 1 => ⟨S1x1x1024, .f32⟩
  | 2 => ⟨S2x16384x1024, .f32⟩
  | 3 => ⟨S2x16384x1024, .f32⟩
  | 4 => ⟨S1x1x1024, .f32⟩
  | 5 => ⟨S2x16384x1024, .f32⟩
  | 6 => ⟨S2x16384x1024, .f32⟩
  | 7 => ⟨S2x16384x1024, .f32⟩
  | 8 => ⟨S2x16384x1024, .f32⟩
  | 9 => ⟨S_, .f32⟩
  | 10 => ⟨S2x16384x1024, .f32⟩
  | 11 => ⟨S2x16384x1024, .f32⟩
  | 12 => ⟨S_, .f32⟩
  | 13 => ⟨S2x16384x1024, .f32⟩
  | 14 => ⟨S2x16384x1024, .f32⟩
  | 15 => ⟨S2x16384x1024, .f32⟩
  | 16 => ⟨S2x16384x1024, .f32⟩
  | 17 => ⟨S1x1x1024, .f32⟩
  | 18 => ⟨S2x16384x1024, .f32⟩
  | 19 => ⟨S2x16384x1024, .f32⟩
  | 20 => ⟨S2x16384x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_cst_0 : Ref sig .tc := ⟨.hbm, 234, rfl⟩
abbrev main_v223 : Ref sig .tc := ⟨.hbm, 235, rfl⟩
abbrev main_v224 : Ref sig .tc := ⟨.hbm, 236, rfl⟩
abbrev main_cst_1 : Ref sig .tc := ⟨.hbm, 237, rfl⟩
abbrev main_v225 : Ref sig .tc := ⟨.hbm, 238, rfl⟩
abbrev main_v226 : Ref sig .tc := ⟨.hbm, 239, rfl⟩
abbrev main_v227 : Ref sig .tc := ⟨.hbm, 240, rfl⟩
abbrev main_v228 : Ref sig .tc := ⟨.hbm, 241, rfl⟩
abbrev main_v229 : Ref sig .tc := ⟨.hbm, 242, rfl⟩
abbrev main_cst_2 : Ref sig .tc := ⟨.hbm, 243, rfl⟩
abbrev main_v230 : Ref sig .tc := ⟨.hbm, 244, rfl⟩
abbrev main_v231 : Ref sig .tc := ⟨.hbm, 245, rfl⟩
abbrev main_cst_3 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_cst_4 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_call1_v0 : Ref sig .tc := ⟨.hbm, 263, rfl⟩
abbrev main_call1_v1 : Ref sig .tc := ⟨.hbm, 264, rfl⟩
abbrev main_call1_cst : Ref sig .tc := ⟨.hbm, 265, rfl⟩
abbrev main_call1_v2 : Ref sig .tc := ⟨.hbm, 266, rfl⟩
abbrev main_call1_v3 : Ref sig .tc := ⟨.hbm, 267, rfl⟩
abbrev main_call1_cst_0 : Ref sig .tc := ⟨.hbm, 268, rfl⟩
abbrev main_call1_v4 : Ref sig .tc := ⟨.hbm, 269, rfl⟩
abbrev main_call1_v5 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩

abbrev nD : Nat := 1
abbrev τ : Topo := Topo.v7x

variable {F : FTy → Type} [FloatOps F]
-- ==== Proof.Soft.lean ====
module

public import Idealize.ShloMosaic.Lib.Pointwise

@[expose] public section

set_option maxRecDepth 16384

noncomputable section

open Idealize.ShloMosaic

namespace Cert.Soft

/-- The largest of 256 scores. -/
def top (s : Fin 256 → EReal) : EReal := Finset.univ.fold max ⊥ s

/-- The exponential of a score taken from the largest one. -/
def wt (s : Fin 256 → EReal) (j : Fin 256) : EReal := Ideal.exp (s j - top s)

/-- The sum of the exponentials. -/
def den (s : Fin 256 → EReal) : EReal := ∑ j, wt s j

/-- The attention output that divides after the weighted sum. -/
def after (s v : Fin 256 → EReal) : EReal := Ideal.div (∑ j, wt s j * v j) (den s)

/-- The attention output that normalises the weights first. -/
def before (s v : Fin 256 → EReal) : EReal := ∑ j, v j * Ideal.div (wt s j) (den s)

/-- The logarithm of the sum of the exponentials of the scores. -/
def lse (s : Fin 256 → EReal) : EReal := top s + Ideal.log (den s)

theorem le_top (s : Fin 256 → EReal) (j : Fin 256) : s j ≤ top s :=
  Finset.le_fold_max (s j) |>.2 (Or.inr ⟨j, Finset.mem_univ j, le_rfl⟩)

theorem top_lt (s : Fin 256 → EReal) (h : ∀ j, s j < ⊤) : top s < ⊤ :=
  Finset.fold_max_lt ⊤ |>.2 ⟨bot_lt_top, fun j _ => h j⟩

theorem exp_nonneg (x : EReal) : 0 ≤ Ideal.exp x := by
  induction x with
  | bot => exact le_rfl
  | top => exact le_top'
  | coe r => exact EReal.coe_nonneg.2 (Real.exp_pos r).le
where le_top' : (0 : EReal) ≤ ⊤ := _root_.le_top

theorem wt_nonneg (s : Fin 256 → EReal) (j : Fin 256) : 0 ≤ wt s j := exp_nonneg _

theorem wt_bot (s : Fin 256 → EReal) (h : ∀ j, s j < ⊤) (j : Fin 256) (hj : s j = ⊥) : wt s j = 0 := by
  unfold wt
  rw [hj]
  rw [sub_eq_add_neg, EReal.bot_add]
  rfl

theorem wt_lt_top (s : Fin 256 → EReal) (h : ∀ j, s j < ⊤) (k : Fin 256) (hk : s k ≠ ⊥) (j : Fin 256) : wt s j < ⊤ := by
  have ht : top s ≠ ⊥ := fun e => hk (le_bot_iff.1 (e ▸ le_top s k))
  obtain ⟨M, hM⟩ : ∃ M : ℝ, top s = (M : EReal) := ⟨(top s).toReal, (EReal.coe_toReal (top_lt s h).ne ht).symm⟩
  unfold wt
  rcases eq_or_ne (s j) ⊥ with e | e
  · rw [e, sub_eq_add_neg, EReal.bot_add]; exact EReal.zero_lt_top
  · obtain ⟨x, hx⟩ : ∃ x : ℝ, s j = (x : EReal) := ⟨(s j).toReal, (EReal.coe_toReal (h j).ne e).symm⟩
    rw [hx, hM, ← EReal.coe_sub]
    exact EReal.coe_lt_top _

theorem wt_pos (s : Fin 256 → EReal) (h : ∀ j, s j < ⊤) (k : Fin 256) (hk : s k ≠ ⊥) : 0 < wt s k := by
  have ht : top s ≠ ⊥ := fun e => hk (le_bot_iff.1 (e ▸ le_top s k))
  obtain ⟨M, hM⟩ : ∃ M : ℝ, top s = (M : EReal) := ⟨(top s).toReal, (EReal.coe_toReal (top_lt s h).ne ht).symm⟩
  obtain ⟨x, hx⟩ : ∃ x : ℝ, s k = (x : EReal) := ⟨(s k).toReal, (EReal.coe_toReal (h k).ne hk).symm⟩
  unfold wt
  rw [hx, hM, ← EReal.coe_sub]
  exact EReal.coe_pos.2 (Real.exp_pos _)

theorem sum_lt_top {ι : Type} (t : Finset ι) (f : ι → EReal) (h : ∀ i, f i < ⊤) : ∑ i ∈ t, f i < ⊤ := by
  classical
  induction t using Finset.induction_on with
  | empty => simp
  | insert a t ha ih => rw [Finset.sum_insert ha]; exact EReal.add_lt_top (h a).ne ih.ne

theorem den_lt_top (s : Fin 256 → EReal) (h : ∀ j, s j < ⊤) (k : Fin 256) (hk : s k ≠ ⊥) : den s < ⊤ :=
  sum_lt_top _ _ (wt_lt_top s h k hk)

theorem den_pos (s : Fin 256 → EReal) (h : ∀ j, s j < ⊤) (k : Fin 256) (hk : s k ≠ ⊥) : 0 < den s :=
  lt_of_lt_of_le (wt_pos s h k hk) (Finset.single_le_sum (f := wt s) (fun i _ => wt_nonneg s i) (Finset.mem_univ k))

theorem sum_mul_right {ι : Type} (t : Finset ι) (f : ι → EReal) (c : EReal) (h0 : 0 ≤ c) (h1 : c ≠ ⊤) :
    (∑ i ∈ t, f i) * c = ∑ i ∈ t, f i * c := by
  classical
  induction t using Finset.induction_on with
  | empty => simp
  | insert a t ha ih =>
    rw [Finset.sum_insert ha, Finset.sum_insert ha, EReal.right_distrib_of_nonneg_of_ne_top h0 h1, ih]

/-- Dividing after the weighted sum and normalising first agree, where the scores are below infinity, one of them
    is a number, and the values agree wherever the score is not minus infinity. -/
theorem after_eq_before (s v w : Fin 256 → EReal) (h : ∀ j, s j < ⊤) (k : Fin 256) (hk : s k ≠ ⊥)
    (hv : ∀ j, s j ≠ ⊥ → v j = w j) : after s v = before s w := by
  have hp := den_pos s h k hk
  have hd : den s ≠ 0 := hp.ne'
  obtain ⟨d, hd'⟩ : ∃ d : ℝ, den s = (d : EReal) :=
    ⟨(den s).toReal, (EReal.coe_toReal (den_lt_top s h k hk).ne (lt_of_le_of_lt bot_le hp).ne').symm⟩
  have dpos : 0 < d := by rw [hd'] at hp; exact EReal.coe_pos.1 hp
  have hdiv : ∀ x : EReal, Ideal.div x (den s) = x * ((d⁻¹ : ℝ) : EReal) := fun x => by
    unfold Ideal.div
    rw [if_neg hd, hd', EReal.coe_inv]
  unfold after before
  rw [hdiv, sum_mul_right _ _ _ (EReal.coe_nonneg.2 (inv_nonneg.2 dpos.le)) (EReal.coe_ne_top _)]
  refine Finset.sum_congr rfl fun j _ => ?_
  rw [hdiv]
  rcases eq_or_ne (s j) ⊥ with e | e
  · rw [wt_bot s h j e, zero_mul, zero_mul, mul_zero]
  · rw [hv j e]; ac_rfl

end Cert.Soft
-- ==== Proof.DRefA.lean ====
module

public import proofs.«01_k».proof.Proof.Gen.DAttnRefIdeal.Read
public import proofs.«01_k».proof.Proof.Soft
public import Idealize.ShloMosaic.Lib.Pipeline.ValueKit

@[expose] public section

set_option maxRecDepth 16384

noncomputable section

open Idealize.ShloMosaic Idealize.ShloMosaic.TcCoe Idealize.SL.Sem

namespace Cert.DAttnRefIdeal.Val
open Cert.DAttnRefIdeal Cert.DAttnRefIdeal.Gen Cert.DAttnRefIdeal.Read

/-- The row of the projection that holds position `p` of block `n` of the subsequence `r` of batch entry `b`. -/
abbrev tok (b : Fin 2) (r : Fin 16) (n : Fin 8) (p : Fin 128) : Fin 32768 := ⟨b.val * 16384 + n.val * 2048 + r.val * 128 + p.val, by omega⟩

variable (X : FVec Ideal S32768x1536 .bf16) (Bi : FVec Ideal S8x128x256 .f32)

theorem q_at (b : Fin 2) (r : Fin 16) (n : Fin 8) (p : Fin 128) (h : Fin 8) (e : Fin 64) :
    val_main_v12 (F := Ideal) X (ix6 b r n p h e) = X (ix2 (tok b r n p) ⟨h.val * 64 + e.val, by omega⟩) := by
  pointwise [val_main_v12, val_main_v11, val_main_v10, val_main_v5, val_main_v4, val_main_v3, val_main_v2, val_main_v1, val_main_v0]
  blk_ext

theorem k_at (b : Fin 2) (r : Fin 16) (n : Fin 8) (p : Fin 128) (h : Fin 8) (e : Fin 64) :
    val_main_v15 (F := Ideal) X (ix6 b r n p h e) = X (ix2 (tok b r n p) ⟨512 + (h.val * 64 + e.val), by omega⟩) := by
  pointwise [val_main_v15, val_main_v14, val_main_v13, val_main_v7, val_main_v6, val_main_v3, val_main_v2, val_main_v1, val_main_v0]
  blk_ext

theorem v_at (b : Fin 2) (r : Fin 16) (n : Fin 8) (p : Fin 128) (h : Fin 8) (e : Fin 64) :
    val_main_v21 (F := Ideal) X (ix6 b r n p h e) = X (ix2 (tok b r n p) ⟨1024 + (h.val * 64 + e.val), by omega⟩) := by
  pointwise [val_main_v21, val_main_v20, val_main_v19, val_main_v9, val_main_v8, val_main_v3, val_main_v2, val_main_v1, val_main_v0]
  blk_ext

end Cert.DAttnRefIdeal.Val
-- ==== Proof.DRefB.lean ====
module

public import proofs.«01_k».proof.Proof.Gen.DAttnRefIdeal.Read
public import proofs.«01_k».proof.Proof.DRefA
public import Idealize.ShloMosaic.Lib.Pipeline.ValueKit

@[expose] public section

set_option maxRecDepth 16384

noncomputable section

open Idealize.ShloMosaic Idealize.ShloMosaic.TcCoe Idealize.SL.Sem

namespace Cert.DAttnRefIdeal.Val
open Cert.DAttnRefIdeal Cert.DAttnRefIdeal.Gen Cert.DAttnRefIdeal.Read

variable (X : FVec Ideal S32768x1536 .bf16) (Bi : FVec Ideal S8x128x256 .f32)

theorem zero_word : FloatOps.sitofp (F := Ideal) FTy.f32 (0#32 : BitVec 32) = (0 : EReal) := by
  show (((0#32 : BitVec 32).toInt : ℝ) : EReal) = 0
  simp

theorem kk_at (b : Fin 2) (r : Fin 16) (n : Fin 8) (j : Fin 256) (h : Fin 8) (e : Fin 64) :
    val_main_v18 (F := Ideal) X (ix6 b r n j h e)
      = if hj : j.val < 128 then
          if 1 ≤ n.val then X (ix2 (tok b r ⟨n.val - 1, by omega⟩ ⟨j.val, hj⟩) ⟨512 + (h.val * 64 + e.val), by omega⟩) else 0
        else X (ix2 (tok b r n ⟨j.val - 128, by omega⟩) ⟨512 + (h.val * 64 + e.val), by omega⟩) := by
  pointwise [val_main_v18, val_main_v17, val_main_v16, val_main_call0_v0, val_main_c]
  simp only [k_at]
  by_cases hj : j.val < 128
  · simp only [dif_pos hj]
    by_cases hn : 1 ≤ n.val
    · have hh : (1 ≤ n.val ∧ n.val - 1 < 8) ∧ j.val < 128 := ⟨⟨hn, by omega⟩, hj⟩
      simp only [dif_pos hh, if_pos hn]
    · have hh : ¬ ((1 ≤ n.val ∧ n.val - 1 < 8) ∧ j.val < 128) := fun h => hn h.1.1
      simp only [dif_neg hh, if_neg hn]
      exact zero_word
  · simp only [dif_neg hj]

theorem vv_at (b : Fin 2) (r : Fin 16) (n : Fin 8) (j : Fin 256) (h : Fin 8) (e : Fin 64) :
    val_main_v24 (F := Ideal) X (ix6 b r n j h e)
      = if hj : j.val < 128 then
          if 1 ≤ n.val then X (ix2 (tok b r ⟨n.val - 1, by omega⟩ ⟨j.val, hj⟩) ⟨1024 + (h.val * 64 + e.val), by omega⟩) else 0
        else X (ix2 (tok b r n ⟨j.val - 128, by omega⟩) ⟨1024 + (h.val * 64 + e.val), by omega⟩) := by
  pointwise [val_main_v24, val_main_v23, val_main_v22, val_main_call1_v0, val_main_c_0]
  simp only [v_at]
  by_cases hj : j.val < 128
  · simp only [dif_pos hj]
    by_cases hn : 1 ≤ n.val
    · have hh : (1 ≤ n.val ∧ n.val - 1 < 8) ∧ j.val < 128 := ⟨⟨hn, by omega⟩, hj⟩
      simp only [dif_pos hh, if_pos hn]
    · have hh : ¬ ((1 ≤ n.val ∧ n.val - 1 < 8) ∧ j.val < 128) := fun h => hn h.1.1
      simp only [dif_neg hh, if_neg hn]
      exact zero_word
  · simp only [dif_neg hj]

/-- The signed word of a small whole number. -/
theorem bool_word (c : Prop) [Decidable c] : BitVec.ofBool (decide c) = if c then 1#1 else 0#1 := by
  by_cases h : c <;> simp [h]

theorem win_word (a d : ℕ) (ha : a < 128) (hd : d < 256) :
    IntOp.andi
        (IntOp.cmpi CmpIPredicate.sge (IntOp.subi (IntOp.addi (BitVec.ofNat 32 a) 128#32) (BitVec.ofNat 32 d)) 0#32)
        (IntOp.cmpi CmpIPredicate.sle (IntOp.subi (IntOp.addi (BitVec.ofNat 32 a) 128#32) (BitVec.ofNat 32 d)) 128#32)
      = if d ≤ a + 128 ∧ a ≤ d then 1#1 else 0#1 := by
  have tn : ∀ x : ℕ, x < 256 → (BitVec.ofNat 32 x).toInt = x := fun x hx => by
    rw [BitVec.toInt_eq_toNat_of_lt] <;> rw [BitVec.toNat_ofNat, Nat.mod_eq_of_lt] <;> omega
  have ta := tn a (by omega)
  have td := tn d hd
  have t128 : (128#32 : BitVec 32).toInt = 128 := by decide
  have e : IntOp.subi (IntOp.addi (BitVec.ofNat 32 a) 128#32) (BitVec.ofNat 32 d) = BitVec.ofInt 32 ((a : ℤ) + 128 - d) := by
    unfold IntOp.subi IntOp.addi
    apply BitVec.eq_of_toInt_eq
    simp only [BitVec.toInt_sub, BitVec.toInt_add, BitVec.toInt_ofInt, ta, td, t128]
    rw [Int.bmod_eq_of_le (n := (a : ℤ) + 128)] <;> omega
  have t : (BitVec.ofInt 32 ((a : ℤ) + 128 - d)).toInt = (a : ℤ) + 128 - d := by
    rw [BitVec.toInt_ofInt, Int.bmod_eq_of_le] <;> omega
  have h1 : IntOp.cmpi CmpIPredicate.sge (BitVec.ofInt 32 ((a : ℤ) + 128 - d)) 0#32 = if d ≤ a + 128 then 1#1 else 0#1 := by
    rw [← bool_word]
    unfold IntOp.cmpi
    simp only [BitVec.sle, t]
    refine congrArg BitVec.ofBool (decide_eq_decide.2 ?_)
    simp
    omega
  have h2 : IntOp.cmpi CmpIPredicate.sle (BitVec.ofInt 32 ((a : ℤ) + 128 - d)) 128#32 = if a ≤ d then 1#1 else 0#1 := by
    rw [← bool_word]
    unfold IntOp.cmpi
    simp only [BitVec.sle, t]
    refine congrArg BitVec.ofBool (decide_eq_decide.2 ?_)
    simp
    omega
  rw [e, h1, h2]
  by_cases c1 : d ≤ a + 128 <;> by_cases c2 : a ≤ d <;> simp only [c1, c2, if_true, if_false, and_self, and_true, true_and, and_false, false_and] <;> decide

theorem mask_word (a d n : ℕ) (ha : a < 128) (hd : d < 256) (hn : n < 8) :
    IntOp.andi
      (IntOp.andi
        (IntOp.cmpi CmpIPredicate.sge (IntOp.subi (IntOp.addi (BitVec.ofNat 32 a) 128#32) (BitVec.ofNat 32 d)) 0#32)
        (IntOp.cmpi CmpIPredicate.sle (IntOp.subi (IntOp.addi (BitVec.ofNat 32 a) 128#32) (BitVec.ofNat 32 d)) 128#32))
      (~~~IntOp.andi (IntOp.cmpi CmpIPredicate.eq (BitVec.ofNat 32 n) 0#32) (IntOp.cmpi CmpIPredicate.slt (BitVec.ofNat 32 d) 128#32))
      = if (d ≤ a + 128 ∧ a ≤ d) ∧ ¬ (n = 0 ∧ d < 128) then 1#1 else 0#1 := by
  have td : (BitVec.ofNat 32 d).toInt = d := by
    rw [BitVec.toInt_eq_toNat_of_lt] <;> rw [BitVec.toNat_ofNat, Nat.mod_eq_of_lt] <;> omega
  have h3 : IntOp.cmpi CmpIPredicate.eq (BitVec.ofNat 32 n) 0#32 = if n = 0 then 1#1 else 0#1 := by
    interval_cases n <;> decide
  have h4 : IntOp.cmpi CmpIPredicate.slt (BitVec.ofNat 32 d) 128#32 = if d < 128 then 1#1 else 0#1 := by
    rw [← bool_word]
    unfold IntOp.cmpi
    simp only [BitVec.slt, td]
    refine congrArg BitVec.ofBool (decide_eq_decide.2 ?_)
    simp
  rw [win_word a d ha hd, h3, h4]
  by_cases c1 : d ≤ a + 128 <;> by_cases c2 : a ≤ d <;> by_cases c3 : n = 0 <;> by_cases c4 : d < 128 <;>
    simp only [c1, c2, c3, c4, if_true, if_false, and_self, and_true, true_and, and_false, false_and, not_true_eq_false, not_false_eq_true] <;> decide

theorem mask_at (b : Fin 2) (r : Fin 16) (n : Fin 8) (h : Fin 8) (p : Fin 128) (j : Fin 256) :
    val_main_call2_v1 (F := Ideal) (ix6 b r n h p j) = if (j.val ≤ p.val + 128 ∧ p.val ≤ j.val) ∧ ¬ (n.val = 0 ∧ j.val < 128) then 1#1 else 0#1 := by
  pointwise [val_main_call2_v1, val_main_v60, val_main_v53, val_main_v52, val_main_v51, val_main_v50, val_main_v49, val_main_v48,
     val_main_v47, val_main_v46, val_main_v45, val_main_v44, val_main_v43, val_main_v42, val_main_v41, val_main_v40, val_main_v39, val_main_v38,
     val_main_v37, val_main_v36, val_main_v35, val_main_v34, val_main_v33, val_main_v32, val_main_v31, val_main_v30, val_main_v29, val_main_v28,
     val_main_v27, val_main_v26, val_main_v25, val_main_c_1, val_main_c_2, val_main_c_3, val_main_c_4, val_main_c_5]
  exact mask_word p.val j.val n.val (by omega) (by omega) (by omega)

end Cert.DAttnRefIdeal.Val
-- ==== Proof.DRefC.lean ====
module

public import proofs.«01_k».proof.Proof.Gen.DAttnRefIdeal.Read
public import proofs.«01_k».proof.Proof.DRefA
public import Idealize.ShloMosaic.Lib.Pipeline.ValueKit

@[expose] public section

set_option maxRecDepth 16384

noncomputable section

open Idealize.ShloMosaic Idealize.ShloMosaic.TcCoe Idealize.SL.Sem

namespace Cert.DAttnRefIdeal.Val
open Cert.DAttnRefIdeal Cert.DAttnRefIdeal.Gen Cert.DAttnRefIdeal.Read

variable (X : FVec Ideal S32768x1536 .bf16) (Bi : FVec Ideal S8x128x256 .f32)

/-- The scores of one query. -/
def row (b : Fin 2) (r : Fin 16) (n : Fin 8) (h : Fin 8) (p : Fin 128) (j : Fin 256) : EReal :=
  val_main_v61 (F := Ideal) X Bi (ix6 b r n h p j)

theorem neg_inf : Ideal.ofBits FTy.f32 0xFF800000#32 = ⊥ := by
  simp [Ideal.ofBits, Ideal.ieee]

theorem top_at (b : Fin 2) (r : Fin 16) (n : Fin 8) (h : Fin 8) (p : Fin 128) :
    val_main_v62 (F := Ideal) X Bi (ix5 b r n h p) = Soft.top (row X Bi b r n h p) := by
  unfold val_main_v62
  rw [Host.reduce_eq_fold_single FloatOps.maximumf _ _ reducesTo_S2x16x8x8x128x256_S2x16x8x8x128_d5 (by decide) h_S_]
  have hz : val_main_cst_7 (F := Ideal) (Shape.Idx.first h_S_) = ⊥ := neg_inf
  rw [hz]
  unfold Soft.top row
  generalize val_main_v61 (F := Ideal) X Bi = y
  refine congrArg (fun f => Finset.fold max ⊥ f Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem wt_at (b : Fin 2) (r : Fin 16) (n : Fin 8) (h : Fin 8) (p : Fin 128) (j : Fin 256) :
    val_main_v66 (F := Ideal) X Bi (ix6 b r n h p j) = Soft.wt (row X Bi b r n h p) j := by
  pointwise [val_main_v66, val_main_v65, val_main_v64, val_main_v63]
  rw [top_at]
  rfl

theorem den_at (b : Fin 2) (r : Fin 16) (n : Fin 8) (h : Fin 8) (p : Fin 128) :
    val_main_v67 (F := Ideal) X Bi (ix5 b r n h p) = Soft.den (row X Bi b r n h p) := by
  rw [val_main_v67_apply]
  have hz : val_main_cst_8 (F := Ideal) (Shape.Idx.first h_S_) = 0 := by
    pointwise [val_main_cst_8]
  rw [hz, zero_add]
  refine Finset.sum_congr rfl fun k _ => ?_
  rw [← wt_at]
  refine congrArg _ (funext fun a => Fin.ext ?_)
  match a with | ⟨0, _⟩ => rfl | ⟨1, _⟩ => rfl | ⟨2, _⟩ => rfl | ⟨3, _⟩ => rfl | ⟨4, _⟩ => rfl | ⟨5, _⟩ => rfl

theorem o_at (b : Fin 2) (s : Fin 1024) (c : Fin 8192) :
    val_main_v79 (F := Ideal) X Bi (ix3 b s c)
      = Soft.before (row X Bi b ⟨c.val / 512, by omega⟩ ⟨s.val / 128, by omega⟩ ⟨c.val / 64 % 8, by omega⟩ ⟨s.val % 128, by omega⟩)
          (fun j => val_main_v24 (F := Ideal) X (ix6 b ⟨c.val / 512, by omega⟩ ⟨s.val / 128, by omega⟩ j ⟨c.val / 64 % 8, by omega⟩ ⟨c.val % 64, by omega⟩)) := by
  pointwise [val_main_v79, val_main_v78, val_main_v77, val_main_v72, val_main_v71, val_main_v70, val_main_v69, val_main_v68]
  simp only [den_at, wt_at]
  rfl

end Cert.DAttnRefIdeal.Val
-- ==== Proof.DRefD.lean ====
module

public import proofs.«01_k».proof.Proof.Gen.DAttnRefIdeal.Read
public import proofs.«01_k».proof.Proof.DRefC
public import Idealize.ShloMosaic.Lib.Pipeline.ValueKit

@[expose] public section

set_option maxRecDepth 16384

noncomputable section

open Idealize.ShloMosaic Idealize.ShloMosaic.TcCoe Idealize.SL.Sem

namespace Cert.DAttnRefIdeal.Val
open Cert.DAttnRefIdeal Cert.DAttnRefIdeal.Gen Cert.DAttnRefIdeal.Read

variable (X : FVec Ideal S32768x1536 .bf16) (Bi : FVec Ideal S8x128x256 .f32)

theorem l1 (y : FVec Ideal S2x16x8x8x128x1 .f32) (b : Fin 2) (r : Fin 16) (n : Fin 8) (h : Fin 8) (p : Fin 128) :
    shapeCast S2x16x8x8x128 y shapeCasts_S2x16x8x8x128x1_S2x16x8x8x128 (ix5 b r n h p) = y (ix6 b r n h p 0) := by
  pointwise

theorem l2 (y : FVec Ideal S2x16x8x8x128 .f32) (b : Fin 2) (r : Fin 16) (s : Fin 1024) (h : Fin 8) :
    shapeCast S2x16x1024x8 (transpose S2x16x8x128x8 [0, 1, 2, 4, 3] y transposes_S2x16x8x8x128_S2x16x8x128x8_0_1_2_4_3) shapeCasts_S2x16x8x128x8_S2x16x1024x8 (ix4 b r s h)
     = y (ix5 b r ⟨s.val / 128, by omega⟩ h ⟨s.val % 128, by omega⟩) := by
  pointwise

theorem l3 (b : Fin 2) (s : Fin 1024) (c : Fin 8192) :
    val_main_v84 (F := Ideal) X Bi (ix3 b s c) = val_main_v80 (F := Ideal) X Bi (ix4 b ⟨c.val / 512, by omega⟩ s ⟨c.val / 64 % 8, by omega⟩) := by
  pointwise [val_main_v84, val_main_v83, val_main_v82, val_main_v81]

theorem lse_at (b : Fin 2) (r : Fin 16) (n : Fin 8) (h : Fin 8) (p : Fin 128) :
    val_main_v74 (F := Ideal) X Bi (ix6 b r n h p 0) = Soft.lse (row X Bi b r n h p) := by
  have e1 : val_main_v63 (F := Ideal) X Bi (ix6 b r n h p 0) = val_main_v62 (F := Ideal) X Bi (ix5 b r n h p) := by
    pointwise [val_main_v63]
  have e2 : val_main_v68 (F := Ideal) X Bi (ix6 b r n h p 0) = val_main_v67 (F := Ideal) X Bi (ix5 b r n h p) := by
    pointwise [val_main_v68]
  have e3 : val_main_v74 (F := Ideal) X Bi (ix6 b r n h p 0)
      = val_main_v63 (F := Ideal) X Bi (ix6 b r n h p 0) + Ideal.log (val_main_v68 (F := Ideal) X Bi (ix6 b r n h p 0)) := by
    rw [val_main_v74_apply, val_main_v73_apply]
    rfl
  rw [e3, e1, e2, top_at, den_at]
  rfl

theorem l4 (b : Fin 2) (r : Fin 16) (s : Fin 1024) (h : Fin 8) :
    val_main_v80 (F := Ideal) X Bi (ix4 b r s h)
      = Soft.lse (row X Bi b r ⟨s.val / 128, by omega⟩ h ⟨s.val % 128, by omega⟩) := by
  unfold val_main_v80 val_main_v76 val_main_v75
  rw [l2, l1, lse_at]

theorem l_at (b : Fin 2) (s : Fin 1024) (c : Fin 8192) :
    val_main_v84 (F := Ideal) X Bi (ix3 b s c)
      = Soft.lse (row X Bi b ⟨c.val / 512, by omega⟩ ⟨s.val / 128, by omega⟩ ⟨c.val / 64 % 8, by omega⟩ ⟨s.val % 128, by omega⟩) := by
  rw [l3, l4]

end Cert.DAttnRefIdeal.Val
-- ==== Proof.DTile.lean ====
module

public import proofs.«01_k».proof.Proof.Gen.DAttnIdeal.Frame
public import proofs.«01_k».proof.Proof.Soft
public import Idealize.ShloMosaic.Lib.Pipeline.ValueKit

@[expose] public section

set_option maxRecDepth 16384

noncomputable section

open Idealize.ShloMosaic Idealize.ShloMosaic.TcCoe Idealize.SL.Sem

namespace Cert.DAttnIdeal.Tile
open Cert.DAttnIdeal Cert.DAttnIdeal.Gen

/-- What keeps the first block of a run from the block before it. -/
def wall (n : ℕ) (j : Fin 256) : EReal := if n = 0 ∧ j.val < 128 then ⊥ else 0

/-- A row of two stacked tiles: the earlier block first. -/
def stack (xp xc : FVec Ideal S128x128 .bf16) (j : Fin 256) (l : Fin 128) : EReal :=
  if h : j.val < 128 then xp (ix2 ⟨j.val, h⟩ l) else xc (ix2 ⟨j.val - 128, by omega⟩ l)

/-- The scores of one query row of one head of a pair; `o` is the head's first lane. -/
def row (n : ℕ) (o : ℕ) (ho : o + 64 ≤ 128) (q kp kc : FVec Ideal S128x128 .bf16) (b : FVec Ideal S1x128x256 .f32) (p : Fin 128)
    (j : Fin 256) : EReal :=
  (∑ e : Fin 64, q (ix2 p ⟨o + e.val, by omega⟩) * stack kp kc j ⟨o + e.val, by omega⟩) * Ideal.ofBits FTy.f32 0x3E000000#32
    + b (ix3 0 p j) + wall n j

theorem neg_inf : Ideal.ofBits FTy.f32 0xFF800000#32 = ⊥ := by
  simp [Ideal.ofBits, Ideal.ieee]

theorem low_at (p l : Fin 128) : k0_pay3 (ix2 p l) = if l.val < 64 then 1#1 else 0#1 := by
  pointwise [k0_pay3]
  word_cmp
  by_cases h : l.val < 64 <;> simp [h]

theorem high_at (p l : Fin 128) :
    xori (k0_pay3) (constantI S128x128 1 1#1) (ix2 p l) = if l.val < 64 then 0#1 else 1#1 := by
  show IntOp.xori (k0_pay3 (ix2 p l)) 1#1 = _
  rw [low_at]
  by_cases h : l.val < 64 <;> simp [h] <;> decide

theorem wall_at (i : grid0.Coords) (n : ℕ) (hn : (i 2).val = n) (p : Fin 128) (j : Fin 256) :
    k0_pay2 (F := Ideal) i (ix2 p j) = wall n j := by
  have hk : Named.named (F := Ideal) (φ := .f32) κ "mask" 0xF149F2CA#32 = (⊥ : EReal) :=
    IdealRules.named_const.ideal_named_scalar _ _ _ _ rfl
  have hb : (i 2).val < 8 := (i 2).isLt
  pointwise [k0_pay2, wall]
  rw [hk, hn]
  rw [hn] at hb
  have h1 : IntOp.cmpi CmpIPredicate.slt (BitVec.ofNat 32 j.val) 128#32 = if j.val < 128 then 1#1 else 0#1 := by
    word_cmp
    by_cases h : j.val < 128 <;> simp [h]
  have h2 : Scalar.cmpi CmpIPredicate.eq (BitVec.ofNat 32 n) 0#32 = if n = 0 then 1#1 else 0#1 := by
    interval_cases n <;> decide
  rw [h1, h2]
  by_cases h : j.val < 128 <;> by_cases h' : n = 0 <;> simp [h, h', Scalar.select]

theorem sum_lo (f : Fin 128 → EReal) (o : ℕ) (ho : o = 0) :
    (∑ x : Fin 128, Scalar.select (if x.val < 64 then 1#1 else 0#1) (f x) 0) = ∑ e : Fin 64, f ⟨o + e.val, by omega⟩ := by
  subst ho
  rw [Fin.sum_univ_two_halves 64 64 rfl]
  rw [Finset.sum_eq_zero (s := Finset.univ) (f := fun k : Fin 64 => Scalar.select (if ((⟨64 + k.val, by omega⟩ : Fin 128)).val < 64 then 1#1 else 0#1) (f ⟨64 + k.val, by omega⟩) 0), add_zero]
  · refine Finset.sum_congr rfl fun e _ => ?_
    simp [Scalar.select]
  · intro e _
    simp [Scalar.select]

theorem sum_hi (f : Fin 128 → EReal) (o : ℕ) (ho : o = 64) :
    (∑ x : Fin 128, Scalar.select (if x.val < 64 then 0#1 else 1#1) (f x) 0) = ∑ e : Fin 64, f ⟨o + e.val, by omega⟩ := by
  subst ho
  rw [Fin.sum_univ_two_halves 64 64 rfl]
  rw [Finset.sum_eq_zero (s := Finset.univ) (f := fun k : Fin 64 => Scalar.select (if ((⟨k.val, by omega⟩ : Fin 128)).val < 64 then 0#1 else 1#1) (f ⟨k.val, by omega⟩) 0), zero_add]
  · refine Finset.sum_congr rfl fun e _ => ?_
    simp [Scalar.select]
  · intro e _
    simp [Scalar.select]

theorem row_lo (i : grid0.Coords) (n : ℕ) (hn : (i 2).val = n) (q kp kc : FVec Ideal S128x128 .bf16) (b : FVec Ideal S1x128x256 .f32)
    (p : Fin 128) (j : Fin 256) : k0_pay6 (F := Ideal) i q kp kc b (ix2 p j) = row n 0 (by omega) q kp kc b p j := by
  pointwise [k0_pay6, k0_pay4]
  rw [wall_at i n hn]
  unfold row stack
  simp only [low_at]
  rw [sum_lo _ 0 rfl]

theorem row_hi (i : grid0.Coords) (n : ℕ) (hn : (i 2).val = n) (q kp kc : FVec Ideal S128x128 .bf16) (b : FVec Ideal S1x128x256 .f32)
    (p : Fin 128) (j : Fin 256) :
    k0_pay11 (F := Ideal) (k0_pay2 (F := Ideal) i) k0_pay3 q (k0_pay4 (F := Ideal) kp kc) b (ix2 p j) = row n 64 (by omega) q kp kc b p j := by
  pointwise [k0_pay11, k0_pay4]
  rw [wall_at i n hn]
  unfold row stack
  have hh : ∀ x : Fin 128, IntOp.xori (k0_pay3 (ix2 p x)) 1#1 = if x.val < 64 then 0#1 else 1#1 := fun x => high_at p x
  simp only [hh]
  rw [sum_hi _ 64 rfl]

theorem stack_at (vp vc : FVec Ideal S128x128 .bf16) (j : Fin 256) (l : Fin 128) :
    k0_pay5 (F := Ideal) vp vc (ix2 j l) = stack vp vc j l := by
  pointwise [k0_pay5]
  rfl

/-- The weighted values of the two heads of a pair over their denominators. -/
def tileO (i : grid0.Coords) (q kp kc vp vc : FVec Ideal S128x128 .bf16) (b0 b1 : FVec Ideal S1x128x256 .f32) : FVec Ideal S1x128x128 .f32 :=
  k0_pay15 (F := Ideal) (k0_pay2 (F := Ideal) i) k0_pay3 q (k0_pay4 (F := Ideal) kp kc) (k0_pay5 (F := Ideal) vp vc)
    (k0_pay8 (F := Ideal) i q kp kc b0) (k0_pay9 (F := Ideal) i q kp kc b0) b1

/-- The logarithms of the denominators of the two heads of a pair, on their lanes. -/
def tileL (i : grid0.Coords) (q kp kc : FVec Ideal S128x128 .bf16) (b0 b1 : FVec Ideal S1x128x256 .f32) : FVec Ideal S1x128x128 .f32 :=
  k0_pay16 (F := Ideal) (k0_pay2 (F := Ideal) i) k0_pay3 q (k0_pay4 (F := Ideal) kp kc)
    (k0_pay7 (F := Ideal) i q kp kc b0) (k0_pay9 (F := Ideal) i q kp kc b0) b1

theorem tileO_lo (i : grid0.Coords) (n : ℕ) (hn : (i 2).val = n) (q kp kc vp vc : FVec Ideal S128x128 .bf16) (b0 b1 : FVec Ideal S1x128x256 .f32)
    (p l : Fin 128) (hl : l.val < 64) : tileO i q kp kc vp vc b0 b1 (ix3 0 p l)
      = Soft.after (row n 0 (by omega) q kp kc b0 p) (fun j => stack vp vc j l) := by
  pointwise [tileO, k0_pay15, k0_pay8, k0_pay9, k0_pay10, k0_pay7]
  simp only [stack_at]
  rw [low_at, if_pos hl, neg_inf]
  simp only [row_lo i n hn]
  rfl

theorem tileO_hi (i : grid0.Coords) (n : ℕ) (hn : (i 2).val = n) (q kp kc vp vc : FVec Ideal S128x128 .bf16) (b0 b1 : FVec Ideal S1x128x256 .f32)
    (p l : Fin 128) (hl : ¬ l.val < 64) : tileO i q kp kc vp vc b0 b1 (ix3 0 p l)
      = Soft.after (row n 64 (by omega) q kp kc b1 p) (fun j => stack vp vc j l) := by
  pointwise [tileO, k0_pay15, k0_pay12, k0_pay13, k0_pay14]
  simp only [stack_at]
  rw [low_at, if_neg hl, neg_inf]
  simp only [row_hi i n hn]
  rfl

theorem tileL_lo (i : grid0.Coords) (n : ℕ) (hn : (i 2).val = n) (q kp kc : FVec Ideal S128x128 .bf16) (b0 b1 : FVec Ideal S1x128x256 .f32)
    (p l : Fin 128) (hl : l.val < 64) : tileL i q kp kc b0 b1 (ix3 0 p l)
      = Soft.lse (row n 0 (by omega) q kp kc b0 p) := by
  pointwise [tileL, k0_pay16, k0_pay8, k0_pay9, k0_pay10, k0_pay7]
  rw [low_at, if_pos hl, neg_inf]
  simp only [row_lo i n hn]
  rfl

theorem tileL_hi (i : grid0.Coords) (n : ℕ) (hn : (i 2).val = n) (q kp kc : FVec Ideal S128x128 .bf16) (b0 b1 : FVec Ideal S1x128x256 .f32)
    (p l : Fin 128) (hl : ¬ l.val < 64) : tileL i q kp kc b0 b1 (ix3 0 p l)
      = Soft.lse (row n 64 (by omega) q kp kc b1 p) := by
  pointwise [tileL, k0_pay16, k0_pay12, k0_pay13, k0_pay14]
  rw [low_at, if_neg hl, neg_inf]
  simp only [row_hi i n hn]
  rfl

/-- The window of outputs after the body, its four stores as the tiles of the four pairs. -/
theorem out6 (i : grid0.Coords) (x0 x1 x2 x3 x4 : Vec Ideal S128x512 .bf16) (x5 : Vec Ideal S8x128x256 .f32) :
    out0_6 (F := Ideal) i x0 x1 x2 x3 x4 x5 = View.canon [
      ⟨r0_15, tileO i (View.ld x0 r0_12) (View.ld x2 r0_12) (View.ld x1 r0_12) (View.ld x4 r0_12) (View.ld x3 r0_12) (View.ld x5 r0_13) (View.ld x5 r0_14)⟩,
      ⟨r0_11, tileO i (View.ld x0 r0_8) (View.ld x2 r0_8) (View.ld x1 r0_8) (View.ld x4 r0_8) (View.ld x3 r0_8) (View.ld x5 r0_9) (View.ld x5 r0_10)⟩,
      ⟨r0_7, tileO i (View.ld x0 r0_4) (View.ld x2 r0_4) (View.ld x1 r0_4) (View.ld x4 r0_4) (View.ld x3 r0_4) (View.ld x5 r0_5) (View.ld x5 r0_6)⟩,
      ⟨r0_3, tileO i (View.ld x0 r0_0) (View.ld x2 r0_0) (View.ld x1 r0_0) (View.ld x4 r0_0) (View.ld x3 r0_0) (View.ld x5 r0_1) (View.ld x5 r0_2)⟩] := rfl

theorem out7 (i : grid0.Coords) (x0 x1 x2 x3 x4 : Vec Ideal S128x512 .bf16) (x5 : Vec Ideal S8x128x256 .f32) :
    out0_7 (F := Ideal) i x0 x1 x2 x3 x4 x5 = View.canon [
      ⟨r0_15, tileL i (View.ld x0 r0_12) (View.ld x2 r0_12) (View.ld x1 r0_12) (View.ld x5 r0_13) (View.ld x5 r0_14)⟩,
      ⟨r0_11, tileL i (View.ld x0 r0_8) (View.ld x2 r0_8) (View.ld x1 r0_8) (View.ld x5 r0_9) (View.ld x5 r0_10)⟩,
      ⟨r0_7, tileL i (View.ld x0 r0_4) (View.ld x2 r0_4) (View.ld x1 r0_4) (View.ld x5 r0_5) (View.ld x5 r0_6)⟩,
      ⟨r0_3, tileL i (View.ld x0 r0_0) (View.ld x2 r0_0) (View.ld x1 r0_0) (View.ld x5 r0_1) (View.ld x5 r0_2)⟩] := rfl

/-- The scores of one query row of head `h`, from the staged blocks. -/
def brow (n : ℕ) (x0 x1 x2 : Vec Ideal S128x512 .bf16) (x5 : Vec Ideal S8x128x256 .f32) (h : Fin 8) (p : Fin 128) (j : Fin 256) : EReal :=
  (∑ e : Fin 64, (show EReal from x0 (ix2 p ⟨h.val * 64 + e.val, by omega⟩))
      * (if hj : j.val < 128 then x2 (ix2 ⟨j.val, hj⟩ ⟨h.val * 64 + e.val, by omega⟩)
          else x1 (ix2 ⟨j.val - 128, by omega⟩ ⟨h.val * 64 + e.val, by omega⟩))) * Ideal.ofBits FTy.f32 0x3E000000#32
    + (show EReal from x5 (ix3 h p j)) + wall n j

/-- A lane of the two stacked value blocks. -/
def bval (x3 x4 : Vec Ideal S128x512 .bf16) (c : Fin 512) (j : Fin 256) : EReal :=
  if hj : j.val < 128 then x4 (ix2 ⟨j.val, hj⟩ c) else x3 (ix2 ⟨j.val - 128, by omega⟩ c)

set_option maxHeartbeats 1600000 in
theorem out6_at (i : grid0.Coords) (n : ℕ) (hn : (i 2).val = n) (X0 X1 X2 X3 X4 : Vec Ideal S128x512 .bf16) (X5 : Vec Ideal S8x128x256 .f32)
    (p : Fin 128) (c : Fin 512) : out0_6 (F := Ideal) i X0 X1 X2 X3 X4 X5 (ix3 0 p c)
      = Soft.after (brow n X0 X1 X2 X5 ⟨c.val / 64, by omega⟩ p) (bval X3 X4 c) := by
  rw [out6]
  canon_tiles z h
  all_goals
    idx_vars z
    obtain rfl : p = z1 := Fin.ext h1
    obtain rfl : z0 = 0 := Subsingleton.elim _ _
    change c.val = _ at h2
    by_cases hl : z2.val < 64
    · refine (tileO_lo i n hn _ _ _ _ _ _ _ _ _ hl).trans ?_
      refine congrArg₂ Soft.after (funext fun j => ?_) (funext fun j => ?_)
      · unfold row brow stack
        pointwise
        blk_point []
      · unfold stack bval
        pointwise
        blk_point []
    · refine (tileO_hi i n hn _ _ _ _ _ _ _ _ _ hl).trans ?_
      refine congrArg₂ Soft.after (funext fun j => ?_) (funext fun j => ?_)
      · unfold row brow stack
        pointwise
        blk_point []
      · unfold stack bval
        pointwise
        blk_point []

set_option maxHeartbeats 1600000 in
theorem out7_at (i : grid0.Coords) (n : ℕ) (hn : (i 2).val = n) (X0 X1 X2 X3 X4 : Vec Ideal S128x512 .bf16) (X5 : Vec Ideal S8x128x256 .f32)
    (p : Fin 128) (c : Fin 512) : out0_7 (F := Ideal) i X0 X1 X2 X3 X4 X5 (ix3 0 p c)
      = Soft.lse (brow n X0 X1 X2 X5 ⟨c.val / 64, by omega⟩ p) := by
  rw [out7]
  canon_tiles z h
  all_goals
    idx_vars z
    obtain rfl : p = z1 := Fin.ext h1
    obtain rfl : z0 = 0 := Subsingleton.elim _ _
    change c.val = _ at h2
    by_cases hl : z2.val < 64
    · refine (tileL_lo i n hn _ _ _ _ _ _ _ hl).trans ?_
      refine congrArg Soft.lse (funext fun j => ?_)
      unfold row brow stack
      pointwise
      blk_point []
    · refine (tileL_hi i n hn _ _ _ _ _ _ _ hl).trans ?_
      refine congrArg Soft.lse (funext fun j => ?_)
      unfold row brow stack
      pointwise
      blk_point []

end Cert.DAttnIdeal.Tile
-- ==== Proof.DVal.lean ====
module

public import proofs.«01_k».proof.Proof.Gen.DAttnIdeal.Value
public import proofs.«01_k».proof.Proof.DTile

@[expose] public section

set_option maxRecDepth 16384

noncomputable section

open Idealize.ShloMosaic Idealize.ShloMosaic.TcCoe Idealize.SL.Sem
open Idealize.ShloMosaic.Pipeline (Dat)

namespace Cert.DAttnIdeal.Val
open Cert.DAttnIdeal Cert.DAttnIdeal.Gen Cert.DAttnIdeal.Tile

variable (m : (ℓ : Loc nD τ sig) → Buf (Elt Ideal) ℓ)

/-- The row of the projection that holds position `p` of block `n` of the subsequence `r` of batch entry `b`. -/
abbrev tok (b : Fin 2) (r : Fin 16) (n : Fin 8) (p : Fin 128) : Fin 32768 := ⟨b.val * 16384 + n.val * 2048 + r.val * 128 + p.val, by omega⟩

/-- The block before, the first block standing for its own. -/
abbrev before (n : Fin 8) : Fin 8 := ⟨n.val - 1, by omega⟩

/-- The scores of a query, as the kernel forms them, from the projection and the bias. -/
def arow (P : FVec Ideal S32768x1536 .bf16) (Bi : FVec Ideal S8x128x256 .f32) (b : Fin 2) (r : Fin 16) (n : Fin 8) (h : Fin 8)
    (p : Fin 128) (j : Fin 256) : EReal :=
  (∑ e : Fin 64, P (ix2 (tok b r n p) ⟨h.val * 64 + e.val, by omega⟩)
      * (if hj : j.val < 128 then P (ix2 (tok b r (before n) ⟨j.val, hj⟩) ⟨512 + (h.val * 64 + e.val), by omega⟩)
          else P (ix2 (tok b r n ⟨j.val - 128, by omega⟩) ⟨512 + (h.val * 64 + e.val), by omega⟩))) * Ideal.ofBits FTy.f32 0x3E000000#32
    + Bi (ix3 h p j) + wall n.val j

/-- The values a query weighs, lane `c`. -/
def aval (P : FVec Ideal S32768x1536 .bf16) (b : Fin 2) (r : Fin 16) (n : Fin 8) (c : Fin 512) (j : Fin 256) : EReal :=
  if hj : j.val < 128 then P (ix2 (tok b r (before n) ⟨j.val, hj⟩) ⟨1024 + c.val, by omega⟩)
  else P (ix2 (tok b r n ⟨j.val - 128, by omega⟩) ⟨1024 + c.val, by omega⟩)

/-- The outputs as the kernel forms them. -/
def kerO (P : FVec Ideal S32768x1536 .bf16) (Bi : FVec Ideal S8x128x256 .f32) (b : Fin 2) (s : Fin 1024) (c : Fin 8192) : EReal :=
  Soft.after (arow P Bi b ⟨c.val / 512, by omega⟩ ⟨s.val / 128, by omega⟩ ⟨c.val % 512 / 64, by omega⟩ ⟨s.val % 128, by omega⟩)
    (aval P b ⟨c.val / 512, by omega⟩ ⟨s.val / 128, by omega⟩ ⟨c.val % 512, by omega⟩)

/-- The logarithms as the kernel forms them. -/
def kerL (P : FVec Ideal S32768x1536 .bf16) (Bi : FVec Ideal S8x128x256 .f32) (b : Fin 2) (s : Fin 1024) (c : Fin 8192) : EReal :=
  Soft.lse (arow P Bi b ⟨c.val / 512, by omega⟩ ⟨s.val / 128, by omega⟩ ⟨c.val % 512 / 64, by omega⟩ ⟨s.val % 128, by omega⟩)

theorem idx : ∀ t : Fin cfg0.N,
    win0_0.index t = ![t.val / 128 * 128 + t.val % 8 * 16 + t.val / 8 % 16, 0]
    ∧ win0_1.index t = ![t.val / 128 * 128 + t.val % 8 * 16 + t.val / 8 % 16, 1]
    ∧ win0_2.index t = ![t.val / 128 * 128 + (t.val % 8 - 1) * 16 + t.val / 8 % 16, 1]
    ∧ win0_3.index t = ![t.val / 128 * 128 + t.val % 8 * 16 + t.val / 8 % 16, 2]
    ∧ win0_4.index t = ![t.val / 128 * 128 + (t.val % 8 - 1) * 16 + t.val / 8 % 16, 2]
    ∧ win0_5.index t = ![0, 0, 0]
    ∧ win0_6.index t = ![t.val / 128, t.val % 8, t.val / 8 % 16]
    ∧ win0_7.index t = ![t.val / 128, t.val % 8, t.val / 8 % 16]
    ∧ t.val / 128 < 2
    ∧ ((grid0.coords t) 2).val = t.val % 8 :=
  (by decide +kernel : ∀ t : Fin grid0.N, _)

theorem row_eq (c : Dev nD) (t : Fin cfg0.N) (b : Fin 2) (r : Fin 16) (n : Fin 8) (h : Fin 8) (p : Fin 128) (n' : ℕ)
    (hb : b.val = t.val / 128) (hr : r.val = t.val / 8 % 16) (hn : n.val = t.val % 8) (hn' : n' = n.val) :
    brow n' (iblk m c 0 t) (iblk m c 1 t) (iblk m c 2 t) (iblk m c 5 t) h p
      = arow (m ((c : Thread nD τ).loc main_arg0)) (m ((c : Thread nD τ).loc main_arg1)) b r n h p := by
  subst hn'
  funext j
  unfold brow arow
  refine congrArg (· + wall n.val j) (congrArg₂ (· + ·) (congrArg (· * _) (Finset.sum_congr rfl fun e _ => congrArg₂ (· * ·) ?_ ?_)) ?_)
  · show (show EReal from _) = _
    blk_ext [iblk, V, idx t]
  · by_cases hj : j.val < 128
    · rw [dif_pos hj, dif_pos hj]
      blk_ext [iblk, V, idx t]
    · rw [dif_neg hj, dif_neg hj]
      blk_ext [iblk, V, idx t]
  · blk_ext [iblk, V, idx t]

theorem val_eq (c : Dev nD) (t : Fin cfg0.N) (b : Fin 2) (r : Fin 16) (n : Fin 8) (l : Fin 512)
    (hb : b.val = t.val / 128) (hr : r.val = t.val / 8 % 16) (hn : n.val = t.val % 8) :
    bval (iblk m c 3 t) (iblk m c 4 t) l = aval (m ((c : Thread nD τ).loc main_arg0)) b r n l := by
  funext j
  unfold bval aval
  blk_point [iblk, V, idx t]

theorem point6 (c : Dev nD) (t : Fin cfg0.N) (y : S1x128x512.Idx) (b : Fin 2) (s : Fin 1024) (l : Fin 8192)
    (hb : b.val = t.val / 128) (hs : s.val = t.val % 8 * 128 + (y 1).val) (hl : l.val = t.val / 8 % 16 * 512 + (y 2).val) :
    out0_6 (F := Ideal) (grid0.coords t) (iblk m c 0 t) (iblk m c 1 t) (iblk m c 2 t) (iblk m c 3 t) (iblk m c 4 t) (iblk m c 5 t) y
      = kerO (m ((c : Thread nD τ).loc main_arg0)) (m ((c : Thread nD τ).loc main_arg1)) b s l := by
  idx_vars y
  obtain rfl : y0 = 0 := Subsingleton.elim _ _
  change s.val = t.val % 8 * 128 + y1.val at hs
  change l.val = t.val / 8 % 16 * 512 + y2.val at hl
  rw [out6_at _ (t.val % 8) (idx t).2.2.2.2.2.2.2.2.2]
  unfold kerO
  have f1 : y1 = ⟨s.val % 128, by omega⟩ := Fin.ext (by show _ = s.val % 128; omega)
  have f2 : y2 = ⟨l.val % 512, by omega⟩ := Fin.ext (by show _ = l.val % 512; omega)
  have f3 : (⟨y2.val / 64, by omega⟩ : Fin 8) = ⟨l.val % 512 / 64, by omega⟩ := Fin.ext (by show y2.val / 64 = l.val % 512 / 64; omega)
  have e1 : s.val / 128 = t.val % 8 := by omega
  have e2 : l.val / 512 = t.val / 8 % 16 := by omega
  rw [row_eq m c t b ⟨l.val / 512, by omega⟩ ⟨s.val / 128, by omega⟩ _ _ _ hb e2 e1 e1.symm,
    val_eq m c t b ⟨l.val / 512, by omega⟩ ⟨s.val / 128, by omega⟩ _ hb e2 e1, f3, ← f1, ← f2]

theorem point7 (c : Dev nD) (t : Fin cfg0.N) (y : S1x128x512.Idx) (b : Fin 2) (s : Fin 1024) (l : Fin 8192)
    (hb : b.val = t.val / 128) (hs : s.val = t.val % 8 * 128 + (y 1).val) (hl : l.val = t.val / 8 % 16 * 512 + (y 2).val) :
    out0_7 (F := Ideal) (grid0.coords t) (iblk m c 0 t) (iblk m c 1 t) (iblk m c 2 t) (iblk m c 3 t) (iblk m c 4 t) (iblk m c 5 t) y
      = kerL (m ((c : Thread nD τ).loc main_arg0)) (m ((c : Thread nD τ).loc main_arg1)) b s l := by
  idx_vars y
  obtain rfl : y0 = 0 := Subsingleton.elim _ _
  change s.val = t.val % 8 * 128 + y1.val at hs
  change l.val = t.val / 8 % 16 * 512 + y2.val at hl
  rw [out7_at _ (t.val % 8) (idx t).2.2.2.2.2.2.2.2.2]
  unfold kerL
  have f1 : y1 = ⟨s.val % 128, by omega⟩ := Fin.ext (by show _ = s.val % 128; omega)
  have f2 : y2 = ⟨l.val % 512, by omega⟩ := Fin.ext (by show _ = l.val % 512; omega)
  have f3 : (⟨y2.val / 64, by omega⟩ : Fin 8) = ⟨l.val % 512 / 64, by omega⟩ := Fin.ext (by show y2.val / 64 = l.val % 512 / 64; omega)
  have e1 : s.val / 128 = t.val % 8 := by omega
  have e2 : l.val / 512 = t.val / 8 % 16 := by omega
  rw [row_eq m c t b ⟨l.val / 512, by omega⟩ ⟨s.val / 128, by omega⟩ _ _ _ hb e2 e1 e1.symm, f3, ← f1]

theorem final6 (c : Dev nD) : (dats m 0 c).arrAt 6 (cfgs 0).N
    = fun i : S2x1024x8192.Idx => kerO (m ((c : Thread nD τ).loc main_arg0)) (m ((c : Thread nD τ).loc main_arg1)) (i 0) (i 1) (i 2) := by
  refine (dats m 0 c).arrAt_eq_of_covers 6 _ (by decide +kernel) fun t hf y => ?_
  blk_simp
  rw [after0_6]
  refine point6 m c t y _ _ _ ?_ ?_ ?_
  all_goals (blk_simp [idx t] <;> try omega)

theorem final7 (c : Dev nD) : (dats m 0 c).arrAt 7 (cfgs 0).N
    = fun i : S2x1024x8192.Idx => kerL (m ((c : Thread nD τ).loc main_arg0)) (m ((c : Thread nD τ).loc main_arg1)) (i 0) (i 1) (i 2) := by
  refine (dats m 0 c).arrAt_eq_of_covers 7 _ (by decide +kernel) fun t hf y => ?_
  blk_simp
  rw [after0_7]
  refine point7 m c t y _ _ _ ?_ ?_ ?_
  all_goals (blk_simp [idx t] <;> try omega)

end Cert.DAttnIdeal.Val
-- ==== Proof.Finite.lean ====
module

public import Idealize.ShloMosaic.Lib.Pointwise

@[expose] public section

noncomputable section

open Idealize.ShloMosaic

namespace Cert.Finite

/-- An extended real that is a real number. -/
def Real (x : EReal) : Prop := ∃ r : ℝ, x = (r : EReal)

theorem Real.ne_top {x : EReal} (h : Real x) : x ≠ ⊤ := by obtain ⟨r, rfl⟩ := h; exact EReal.coe_ne_top r
theorem Real.ne_bot {x : EReal} (h : Real x) : x ≠ ⊥ := by obtain ⟨r, rfl⟩ := h; exact EReal.coe_ne_bot r
theorem Real.add {x y : EReal} (hx : Real x) (hy : Real y) : Real (x + y) := by
  obtain ⟨a, rfl⟩ := hx; obtain ⟨b, rfl⟩ := hy; exact ⟨a + b, (EReal.coe_add a b).symm⟩
theorem Real.mul {x y : EReal} (hx : Real x) (hy : Real y) : Real (x * y) := by
  obtain ⟨a, rfl⟩ := hx; obtain ⟨b, rfl⟩ := hy; exact ⟨a * b, (EReal.coe_mul a b).symm⟩
theorem zero : Real 0 := ⟨0, rfl⟩
theorem sum {ι : Type} (t : Finset ι) (f : ι → EReal) (h : ∀ i, Real (f i)) : Real (∑ i ∈ t, f i) := by
  classical
  induction t using Finset.induction_on with
  | empty => exact ⟨0, by simp⟩
  | insert a t ha ih => rw [Finset.sum_insert ha]; exact (h a).add ih

theorem of_ne {x : EReal} (h : x ≠ ⊤) (h' : x ≠ ⊥) : Real x := ⟨x.toReal, (EReal.coe_toReal h h').symm⟩

/-- The comparison of an absolute value with infinity says the number is real. -/
theorem of_word (x : EReal) (h : Ideal.cmp .olt (max x (-x)) (Ideal.ofBits FTy.f32 0x7F800000#32) = 1#1) : Real x := by
  have ht : Ideal.ofBits FTy.f32 0x7F800000#32 = ⊤ := by simp [Ideal.ofBits, Ideal.ieee]
  rw [ht] at h
  have h' : max x (-x) < ⊤ := by
    by_contra hc
    simp [Ideal.cmp, hc] at h
  refine of_ne (fun e => ?_) (fun e => ?_)
  · rw [e] at h'; simp at h'
  · rw [e] at h'; simp at h'

end Cert.Finite
-- ==== Proof.DEq.lean ====
module

public import proofs.«01_k».proof.Proof.Gen.DAttnRefIdeal.Read
public import proofs.«01_k».proof.Proof.DRefB
public import proofs.«01_k».proof.Proof.DRefD
public import proofs.«01_k».proof.Proof.DVal
public import proofs.«01_k».proof.Proof.Finite
public import proofs.«01_k».proof.Pre_window_bias
public import proofs.«01_k».proof.Proof.Gen.Pre_window_bias
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.DAttnRefIdeal.Val
open Cert.DAttnRefIdeal Cert.DAttnRefIdeal.Gen Cert.DAttnRefIdeal.Read

variable (X : FVec Ideal S32768x1536 .bf16) (Bi : FVec Ideal S8x128x256 .f32)

theorem s_at (b : Fin 2) (r : Fin 16) (n : Fin 8) (h : Fin 8) (p : Fin 128) (j : Fin 256) :
    row X Bi b r n h p j
      = if (j.val ≤ p.val + 128 ∧ p.val ≤ j.val) ∧ ¬(n.val = 0 ∧ j.val < 128) then
          (∑ e : Fin 64, X (ix2 (tok b r n p) ⟨h.val * 64 + e.val, by omega⟩) * val_main_v18 (F := Ideal) X (ix6 b r n j h e))
            * Ideal.ofBits FTy.f32 0x3E000000#32 + Bi (ix3 h p j)
        else ⊥ := by
  unfold row
  pointwise [val_main_v61, val_main_v59, val_main_v58, val_main_v57, val_main_v56, val_main_v55, val_main_v54, val_main_cst, val_main_cst_6, val_main_call2_v2, val_main_call2_v0]
  rw [mask_at]
  simp only [q_at]
  by_cases hc : (j.val ≤ p.val + 128 ∧ p.val ≤ j.val) ∧ ¬(n.val = 0 ∧ j.val < 128)
  · rw [if_pos hc, if_pos hc]
    rfl
  · rw [if_neg hc, if_neg hc]
    exact neg_inf

/-- What the precondition says of the projection and of the bias. -/
theorem pre_at (hpre : Cert.Pre_window_bias.fn (F := Ideal) X Bi = fun _ => 1#1) (h : Fin 8) (p : Fin 128) (j : Fin 256) :
    (∀ t c, Finite.Real (X (ix2 t c)))
    ∧ (if j.val ≤ p.val + 128 ∧ p.val ≤ j.val then Finite.Real (Bi (ix3 h p j)) else Bi (ix3 h p j) = ⊥) := by
  have e := congrFun hpre (ix3 h p j)
  unfold Cert.Pre_window_bias.fn Cert.Pre_window_bias.fn_part1 at e
  obtain ⟨e1, e2⟩ := IntOp.andi_eq_one.1 e
  refine ⟨fun t c => ?_, ?_⟩
  · exact Finite.of_word _ (Host.reduce_andi_all _ _ _ _ _ e2 (ix2 t c))
  · have w : (select (andi (cmpi CmpIPredicate.sge (subi (addi (iotaInDim S8x128x256 32 1) (broadcastInDim S8x128x256 ![] Cert.Pre_window_bias.Facts.bcast_S_S8x128x256 (constantI S_ 32 128#32))) (iotaInDim S8x128x256 32 2)) (broadcastInDim S8x128x256 ![] Cert.Pre_window_bias.Facts.bcast_S_S8x128x256 (constantI S_ 32 0#32)))
           (cmpi CmpIPredicate.sle (subi (addi (iotaInDim S8x128x256 32 1) (broadcastInDim S8x128x256 ![] Cert.Pre_window_bias.Facts.bcast_S_S8x128x256 (constantI S_ 32 128#32))) (iotaInDim S8x128x256 32 2)) (broadcastInDim S8x128x256 ![] Cert.Pre_window_bias.Facts.bcast_S_S8x128x256 (constantI S_ 32 128#32))))
          (cmpf (F := Ideal) .olt (Host.absf Bi) (broadcastInDim S8x128x256 ![] Cert.Pre_window_bias.Facts.bcast_S_S8x128x256 (constant S_ .f32 0x7F800000#32)))
          (cmpf (F := Ideal) .oeq Bi (broadcastInDim S8x128x256 ![] Cert.Pre_window_bias.Facts.bcast_S_S8x128x256 (constant S_ .f32 0xFF800000#32)))) (ix3 h p j) = 1#1 := e1
    revert w
    pointwise
    rw [win_word _ _ p.isLt j.isLt]
    intro w
    by_cases hc : j.val ≤ p.val + 128 ∧ p.val ≤ j.val
    · rw [if_pos hc] at w ⊢
      exact Finite.of_word _ w
    · rw [if_neg hc] at w ⊢
      have w' : Ideal.cmp .oeq (Bi (ix3 h p j)) (Ideal.ofBits FTy.f32 0xFF800000#32) = 1#1 := w
      rw [neg_inf] at w'
      by_contra hb
      simp [Ideal.cmp, hb] at w'

end Cert.DAttnRefIdeal.Val

namespace Cert.DAttnIdeal.Val
open Cert.DAttnIdeal Cert.DAttnIdeal.Gen Cert.DAttnIdeal.Tile
open Cert.DAttnRefIdeal.Val (row s_at pre_at kk_at vv_at)

variable (X : FVec Ideal S32768x1536 .bf16) (Bi : FVec Ideal S8x128x256 .f32)

theorem scale_real : Finite.Real (Ideal.ofBits FTy.f32 0x3E000000#32) :=
  ⟨_, by simp [Ideal.ofBits, Ideal.ieee]; rfl⟩

/-- The two ways of forming a query's scores agree. -/
theorem row_same (hpre : Cert.Pre_window_bias.fn (F := Ideal) X Bi = fun _ => 1#1) (b : Fin 2) (r : Fin 16) (n : Fin 8) (h : Fin 8)
    (p : Fin 128) : arow X Bi b r n h p = row X Bi b r n h p := by
  funext j
  rw [s_at]
  obtain ⟨hX, hB⟩ := pre_at X Bi hpre h p j
  unfold arow wall
  by_cases hn : n.val = 0 ∧ j.val < 128
  · rw [if_pos hn, if_neg (fun h => h.2 hn), EReal.add_bot]
  · by_cases hw : j.val ≤ p.val + 128 ∧ p.val ≤ j.val
    · rw [if_neg hn, if_pos ⟨hw, hn⟩, add_zero]
      refine congrArg (· + _) (congrArg (· * _) (Finset.sum_congr rfl fun e _ => congrArg₂ (· * ·) rfl ?_))
      rw [kk_at]
      by_cases hj : j.val < 128
      · have h1 : 1 ≤ n.val := by omega
        simp only [dif_pos hj, if_pos h1]
      · simp only [dif_neg hj]
    · rw [if_neg hw] at hB
      rw [if_neg hn, if_neg (fun h => hw h.1), hB, EReal.add_bot, add_zero]

/-- No score is infinite upwards, and a query's own position has a real score. -/
theorem row_real (hpre : Cert.Pre_window_bias.fn (F := Ideal) X Bi = fun _ => 1#1) (b : Fin 2) (r : Fin 16) (n : Fin 8) (h : Fin 8)
    (p : Fin 128) (j : Fin 256) :
    (if (j.val ≤ p.val + 128 ∧ p.val ≤ j.val) ∧ ¬(n.val = 0 ∧ j.val < 128) then Finite.Real (row X Bi b r n h p j)
      else row X Bi b r n h p j = ⊥) := by
  rw [s_at]
  obtain ⟨hX, hB⟩ := pre_at X Bi hpre h p j
  by_cases hc : (j.val ≤ p.val + 128 ∧ p.val ≤ j.val) ∧ ¬(n.val = 0 ∧ j.val < 128)
  · rw [if_pos hc, if_pos hc]
    rw [if_pos hc.1] at hB
    refine Finite.Real.add (Finite.Real.mul (Finite.sum _ _ fun e => (hX _ _).mul ?_) scale_real) hB
    rw [kk_at]
    split
    · split
      · exact hX _ _
      · exact Finite.zero
    · exact hX _ _
  · rw [if_neg hc, if_neg hc]

theorem out_same (hpre : Cert.Pre_window_bias.fn (F := Ideal) X Bi = fun _ => 1#1) (b : Fin 2) (s : Fin 1024) (c : Fin 8192) :
    kerO X Bi b s c = Cert.DAttnRefIdeal.Read.val_main_v79 (F := Ideal) X Bi (ix3 b s c) := by
  rw [Cert.DAttnRefIdeal.Val.o_at]
  unfold kerO
  have hh : (⟨c.val % 512 / 64, by omega⟩ : Fin 8) = ⟨c.val / 64 % 8, by omega⟩ := Fin.ext (by show c.val % 512 / 64 = c.val / 64 % 8; omega)
  rw [hh, row_same X Bi hpre]
  have hr := row_real X Bi hpre b ⟨c.val / 512, by omega⟩ ⟨s.val / 128, by omega⟩ ⟨c.val / 64 % 8, by omega⟩ ⟨s.val % 128, by omega⟩
  refine Soft.after_eq_before _ _ _ (fun j => ?_) ⟨s.val % 128 + 128, by omega⟩ ?_ (fun j hj => ?_)
  · have := hr j
    split at this
    · exact lt_of_le_of_ne le_top this.ne_top
    · rw [this]; exact bot_lt_top
  · have := hr ⟨s.val % 128 + 128, by omega⟩
    rw [if_pos ⟨⟨by show s.val % 128 + 128 ≤ s.val % 128 + 128; omega, by show s.val % 128 ≤ s.val % 128 + 128; omega⟩, fun h => absurd h.2 (by show ¬ (s.val % 128 + 128 < 128); omega)⟩] at this
    exact this.ne_bot
  · have := hr j
    have hw : ¬ (s.val / 128 = 0 ∧ j.val < 128) := by
      intro hn
      rw [if_neg (fun h => h.2 hn)] at this
      exact hj this
    rw [vv_at]
    unfold aval
    by_cases hl : j.val < 128
    · have h1 : 1 ≤ s.val / 128 := by omega
      simp only [dif_pos hl, if_pos h1]
      exact congrArg X (congrArg₂ ix2 rfl (Fin.ext (by show 1024 + c.val % 512 = 1024 + (c.val / 64 % 8 * 64 + c.val % 64); omega)))
    · simp only [dif_neg hl]
      exact congrArg X (congrArg₂ ix2 rfl (Fin.ext (by show 1024 + c.val % 512 = 1024 + (c.val / 64 % 8 * 64 + c.val % 64); omega)))

theorem log_same (hpre : Cert.Pre_window_bias.fn (F := Ideal) X Bi = fun _ => 1#1) (b : Fin 2) (s : Fin 1024) (c : Fin 8192) :
    kerL X Bi b s c = Cert.DAttnRefIdeal.Read.val_main_v84 (F := Ideal) X Bi (ix3 b s c) := by
  rw [Cert.DAttnRefIdeal.Val.l_at]
  unfold kerL
  have hh : (⟨c.val % 512 / 64, by omega⟩ : Fin 8) = ⟨c.val / 64 % 8, by omega⟩ := Fin.ext (by show c.val % 512 / 64 = c.val / 64 % 8; omega)
  rw [hh, row_same X Bi hpre]

end Cert.DAttnIdeal.Val
-- ==== Proof.DClaims.lean ====
module

public import proofs.«01_k».proof.Defs
public import proofs.«01_k».proof.Proof.DEq
public import proofs.«01_k».proof.Proof.Gen.DAttn
public import proofs.«01_k».proof.Proof.Gen.DAttn.Frame
public import proofs.«01_k».proof.Proof.Gen.DAttnIdeal.Value
public import proofs.«01_k».proof.Proof.Gen.DAttnRefIdeal.Run

@[expose] public section

set_option maxRecDepth 16384

noncomputable section

open Idealize.ShloMosaic Idealize.ShloMosaic.TcCoe Idealize.SL.Sem

/-! # The claims about the dilated windowed attention -/

namespace Cert.DClaims

theorem frame_p : Cert.quiescent_DAttn := fun m ρ _ => Cert.DAttn.Gen.frame m ρ
theorem frame_pi : Cert.quiescent_DAttnIdeal := fun m ρ _ => Cert.DAttnIdeal.Gen.frame m ρ
theorem frame_pi_pre : Cert.quiescent_DAttnIdeal_pre_window_bias := fun m ρ _ => Cert.DAttnIdeal.Gen.frame m ρ
theorem frame_ri : Cert.quiescent_DAttnRefIdeal := fun m ρ _ =>
  (θ_run Cert.DAttnRefIdeal.defs _ _).mono (fun r h => ⟨fun c => (h c).2.2,
      Idealize.ShloMosaic.sem_eq_zero_of_no_sems (by decide) r.2⟩)
    (Cert.DAttnRefIdeal.Value.run (F := Ideal) m ρ)
theorem frame_ri_pre : Cert.quiescent_DAttnRefIdeal_pre_window_bias := fun m ρ _ => frame_ri m ρ trivial

theorem preserves : Cert.preserves_DAttn_DAttnIdeal := IdealRules.named_const.statement Cert.DAttnIdeal.κ "mask" .f32 0xF149F2CA#32 ⊥ rfl

/-- The kernel's two results are the reference's, as extended reals. -/
theorem algebraic : Cert.algebraic_DAttnIdeal_DAttnRefIdeal_pre_window_bias := by
  intro m g m' g' hpre hag
  refine ⟨fun c => (Cert.DAttnIdeal.Gen.dats m 0 c).arrAt 6 (Cert.DAttnIdeal.cfgs 0).N,
    fun c => (Cert.DAttnIdeal.Gen.dats m 0 c).arrAt 7 (Cert.DAttnIdeal.cfgs 0).N, Cert.DAttnIdeal.Value.run_blocks m g, ?_⟩
  refine (θ_run Cert.DAttnRefIdeal.defs _ _).mono (fun r h c => ⟨(h c).1.trans ?_, (h c).2.1.trans ?_, (h c).2.2.1, (h c).2.2.2⟩)
    (Cert.DAttnRefIdeal.Value.run (F := Ideal) m' g')
  · refine Eq.trans ?_ (Cert.DAttnIdeal.Val.final6 m c).symm
    rw [Cert.DAttnRefIdeal.Read.val_main_v79_eq, (hag c).1, (hag c).2]
    refine funext fun i => ?_
    obtain ⟨b, s, l, rfl⟩ : ∃ (b : Fin 2) (s : Fin 1024) (l : Fin 8192), i = ix3 b s l := ⟨i 0, i 1, i 2, (eq_ix3 i)⟩
    exact (Cert.DAttnIdeal.Val.out_same _ _ (hpre c) b s l).symm
  · refine Eq.trans ?_ (Cert.DAttnIdeal.Val.final7 m c).symm
    rw [Cert.DAttnRefIdeal.Read.val_main_v84_eq, (hag c).1, (hag c).2]
    refine funext fun i => ?_
    obtain ⟨b, s, l, rfl⟩ : ∃ (b : Fin 2) (s : Fin 1024) (l : Fin 8192), i = ix3 b s l := ⟨i 0, i 1, i 2, (eq_ix3 i)⟩
    exact (Cert.DAttnIdeal.Val.log_same _ _ (hpre c) b s l).symm

end Cert.DClaims
-- ==== Proof.Slot.lean ====
module

public import Idealize.ShloMosaic.Lib.Pipeline.ValueKit

@[expose] public section

set_option maxRecDepth 16384

open Idealize.ShloMosaic

/-! # The slots of a double buffer, as the kernels compute them -/

namespace Cert.Slot

/-- The slot of the point before. -/
theorem prev : ∀ n : Fin 65, (Scalar.indexCast (Scalar.select (Scalar.andi (Scalar.xori (Scalar.cmpi .slt (Scalar.remsi (Scalar.subi (BitVec.ofNat 32 n.val) 1#32) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (Scalar.subi (BitVec.ofNat 32 n.val) 1#32) (Scalar.select (Scalar.cmpi .eq 2#32 0#32) 1#32 2#32)) 0#32)) (Scalar.addi (Scalar.remsi (Scalar.subi (BitVec.ofNat 32 n.val) 1#32) (Scalar.select (Scalar.cmpi .eq 2#32 0#32) 1#32 2#32)) (Scalar.select (Scalar.cmpi .eq 2#32 0#32) 1#32 2#32)) (Scalar.remsi (Scalar.subi (BitVec.ofNat 32 n.val) 1#32) (Scalar.select (Scalar.cmpi .eq 2#32 0#32) 1#32 2#32)))).toNat = (n.val + 1) % 2 := by decide +kernel

/-- The slot of the point. -/
theorem own : ∀ n : Fin 65, (Scalar.indexCast (Scalar.select (Scalar.andi (Scalar.xori (Scalar.cmpi .slt (Scalar.remsi (BitVec.ofNat 32 n.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 n.val) (Scalar.select (Scalar.cmpi .eq 2#32 0#32) 1#32 2#32)) 0#32)) (Scalar.addi (Scalar.remsi (BitVec.ofNat 32 n.val) (Scalar.select (Scalar.cmpi .eq 2#32 0#32) 1#32 2#32)) (Scalar.select (Scalar.cmpi .eq 2#32 0#32) 1#32 2#32)) (Scalar.remsi (BitVec.ofNat 32 n.val) (Scalar.select (Scalar.cmpi .eq 2#32 0#32) 1#32 2#32)))).toNat = n.val % 2 := by decide +kernel

/-- The other slot. -/
theorem next : ∀ n : Fin 64, (Scalar.indexCast (Scalar.subi 1#32 (Scalar.select (Scalar.andi (Scalar.xori (Scalar.cmpi .slt (Scalar.remsi (BitVec.ofNat 32 n.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 n.val) (Scalar.select (Scalar.cmpi .eq 2#32 0#32) 1#32 2#32)) 0#32)) (Scalar.addi (Scalar.remsi (BitVec.ofNat 32 n.val) (Scalar.select (Scalar.cmpi .eq 2#32 0#32) 1#32 2#32)) (Scalar.select (Scalar.cmpi .eq 2#32 0#32) 1#32 2#32)) (Scalar.remsi (BitVec.ofNat 32 n.val) (Scalar.select (Scalar.cmpi .eq 2#32 0#32) 1#32 2#32))))).toNat = 1 - n.val % 2 := by decide +kernel

end Cert.Slot
-- ==== Proof.FfnBody.lean ====
module

public import proofs.«01_k».proof.Proof.Slot
public import proofs.«01_k».proof.Proof.Gen.FfnIdeal.Skeleton
public import proofs.«01_k».proof.Proof.Gen.FfnIdeal.Frame
public import Idealize.ShloMosaic.Lib.Claim
public import Idealize.ShloMosaic.Lib.VecWindow
public import Idealize.ShloMosaic.Lib.WritesUnit

@[expose] public section

set_option maxRecDepth 16384

noncomputable section

namespace Cert.FfnBody

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of one slot of the scratch, and of the weights' column and row ranges. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) : Rect S2x512x1024 := Rect.unit (s := S2x512x1024) (k0_off1 i) S1x512x1024.size (k0_off1_inb i)
abbrev rnext (i : grid0.Coords) : Rect S2x512x1024 := Rect.unit (s := S2x512x1024) (k0_off2 i) S1x512x1024.size (k0_off2_inb i)
abbrev rgate0 : Rect S1024x5632 := Rect.unit (s := S1024x5632) ![0, 0] S1024x1536.size inb_S1024x5632_S1024x1536_0_0
abbrev rup0 : Rect S1024x5632 := Rect.unit (s := S1024x5632) ![0, 2816] S1024x1536.size inb_S1024x5632_S1024x1536_0_2816
abbrev rgate1 : Rect S1024x5632 := Rect.unit (s := S1024x5632) ![0, 1536] S1024x1280.size inb_S1024x5632_S1024x1280_0_1536
abbrev rup1 : Rect S1024x5632 := Rect.unit (s := S1024x5632) ![0, 4352] S1024x1280.size inb_S1024x5632_S1024x1280_0_4352
abbrev rout0 : Rect S2816x1024 := Rect.unit (s := S2816x1024) ![0, 0] S1536x1024.size inb_S2816x1024_S1536x1024_0_0
abbrev rout1 : Rect S2816x1024 := Rect.unit (s := S2816x1024) ![1536, 0] S1280x1024.size inb_S2816x1024_S1280x1024_1536_0

/-- A block's rows, normalized: what the body stores in a slot of the scratch. -/
def nrm (x : Vec F S512x1024 .f32) (g : Vec F S1x1024 .f32) : FVec F S1x512x1024 .bf16 :=
  k0_pay3 (View.ld x rx) (View.ld g rg)

/-- The block of results, from the normalized rows `X`, the block `x` and the weights. -/
def outv (X : Vec F S1x512x1024 .bf16) (x : Vec F S512x1024 .f32) (w : Vec F S1024x5632 .bf16) (wo : Vec F S2816x1024 .bf16) : FVec F S512x1024 .f32 :=
  k0_pay1 (k0_pay4 X) (k0_pay5 X (View.ld w rgate0) (View.ld w rup0) (View.ld wo rout0)) (k0_pay6 X (View.ld w rgate1)) (k0_pay7 (View.ld w rup1)) (View.ld wo rout1) (View.ld x rx)

/-! ## The slots -/

/-- The condition of the first point. -/
abbrev cond (i : grid0.Coords) : Prop := (Scalar.cmpi .ne (Scalar.extui (Scalar.cmpi .eq (BitVec.ofNat 32 (i 0).val) 0#32)) 0#32) = 1#1

theorem hcond : ∀ t : Fin cfg0.N, cond (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond, e0]
    word_cmp
   : ∀ t : Fin grid0.N, cond (grid0.coords t) ↔ t.val % 64 = 0)

/-- The slot a point reads, and the slot it fills, by the point's first coordinate. -/
theorem off1_of : ∀ n : Fin 64, ∀ i : grid0.Coords, (i 0).val = n.val → k0_off1 i = ![n.val % 2, 0, 0] := by
  intro n i h
  show ![_, 0, 0] = _
  rw [h]
  exact congrArg (fun z => ![z, 0, 0]) (Slot.own ⟨n.val, by omega⟩)

theorem off2_of : ∀ n : Fin 64, ∀ i : grid0.Coords, (i 0).val = n.val → k0_off2 i = ![1 - n.val % 2, 0, 0] := by
  intro n i h
  show ![_, 0, 0] = _
  rw [h]
  exact congrArg (fun z => ![z, 0, 0]) (Slot.next n)

instance closedOff1 (i : grid0.Coords) : ClosedOff (k0_off1 i) := ⟨![(i 0).val % 2, 0, 0], off1_of ⟨(i 0).val, (i 0).isLt⟩ i rfl⟩
instance closedOff2 (i : grid0.Coords) : ClosedOff (k0_off2 i) := ⟨![1 - (i 0).val % 2, 0, 0], off2_of ⟨(i 0).val, (i 0).isLt⟩ i rfl⟩

theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  rw [e0]; omega

theorem off1 (t : Fin cfg0.N) : k0_off1 (grid0.coords t) = ![t.val % 2, 0, 0] :=
  off1_of ⟨t.val, Nat.lt_of_lt_of_eq t.isLt N_0⟩ _ (coord_val t)

theorem off2 (t : Fin cfg0.N) : k0_off2 (grid0.coords t) = ![1 - t.val % 2, 0, 0] :=
  off2_of ⟨t.val, Nat.lt_of_lt_of_eq t.isLt N_0⟩ _ (coord_val t)

/-- At the first point the slot read is the one just stored. -/
theorem slot_read {sp : Space} (v : View sig .tc sp S2x512x1024 .bf16) (f : v.ty.Contents (Elt F)) (i : grid0.Coords) (hi : (i 0).val = 0)
    (w : S1x512x1024.Idx → Elt F .bf16) :
    v.readAt (Elt F) (rcur i).toLoadRect (v.writes (Elt F) f [⟨Rect.unit (s := S2x512x1024) ![0, 0, 0] S1x512x1024.size inb_S2x512x1024_S1x512x1024_0_0_0, w⟩]) = w := by
  have key : ∀ (off : Fin 3 → ℕ) (h : ∀ a, off a + S1x512x1024.size a ≤ S2x512x1024.size a), off = ![0, 0, 0] →
      v.readAt (Elt F) (Rect.unit (s := S2x512x1024) off S1x512x1024.size h).toLoadRect (v.writes (Elt F) f [⟨Rect.unit (s := S2x512x1024) ![0, 0, 0] S1x512x1024.size inb_S2x512x1024_S1x512x1024_0_0_0, w⟩]) = w := by
    rintro off h rfl
    funext y
    exact View.read_writes_cons_emb v f (Rect.unit (s := S2x512x1024) ![0, 0, 0] S1x512x1024.size h) w [] y
  exact key _ (k0_off1_inb i) (off1_of ⟨0, by decide⟩ i hi)

set_option maxHeartbeats 2000000 in
/-- The body at the first point: it fills the slot it reads. -/
theorem sound_A (c : Dev nD) (E : Set ℕ) (i : grid0.Coords) (hc : cond i) (hi : (i 0).val = 0) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S2x512x1024 .bf16) (harg7 : arg7.IsWhole)
    (x0 : Vec F S512x1024 .f32) (x1 : Vec F S512x1024 .f32) (x2 : Vec F S1x1024 .f32) (x3 : Vec F S1024x5632 .bf16) (x4 : Vec F S2816x1024 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv (nrm x0 x2) x0 x3 x4)
          ∗ (∃ ys, owns (c : Thread nD τ) arg7 fullShare ys ∗ ⌜View.ld ys (rnext i) = nrm x1 x2⌝)) -∗ K ⟨⟩))
      ⊢ wp frame (wpE (defs₀ (F := F)) Variants.none c none) E (cc0_ffn i arg1 harg1 arg2 harg2 arg3 harg3 arg4 harg4 arg5 harg5 arg6 harg6 arg7 harg7) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%fs, %hfs, HS⟩, Hk⟩
  subst hf0 hf1 hf2 hf3 hf4 hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_full _ _ _ _ _).trans ?_
    have hX : View.readAt (Elt F) arg7.view (rcur i).toLoadRect (arg7.view.writes (Elt F) fs [⟨Rect.unit (s := S2x512x1024) ![0, 0, 0] S1x512x1024.size inb_S2x512x1024_S1x512x1024_0_0_0, nrm (View.read (Elt F) arg1.view f0) (View.read (Elt F) arg3.view f2)⟩]) = nrm (View.read (Elt F) arg1.view f0) (View.read (Elt F) arg3.view f2) :=
      slot_read _ _ i hi _
    unfold sound_A.sl.r sound_A.sl.r_1 sound_A.sl.r_2
    exact congrArg (fun X => outv X (View.read (Elt F) arg1.view f0) (View.read (Elt F) arg4.view f3) (View.read (Elt F) arg5.view f4)) hX
  iexists _
  isplitl [HS]
  · iexists _; isplitr
    swap; · iexact HS
    ipureintro; rfl
  ipureintro
  funext y
  exact View.read_writes_cons_emb _ _ (rnext i) _ _ y

set_option maxHeartbeats 2000000 in
/-- The body at a later point: the slot it reads holds what the point before left. -/
theorem sound_B (c : Dev nD) (E : Set ℕ) (i : grid0.Coords) (hc : ¬cond i) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S2x512x1024 .bf16) (harg7 : arg7.IsWhole)
    (x0 : Vec F S512x1024 .f32) (x1 : Vec F S512x1024 .f32) (x2 : Vec F S1x1024 .f32) (x3 : Vec F S1024x5632 .bf16) (x4 : Vec F S2816x1024 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outv (View.ld xs (rcur i)) x0 x3 x4)
          ∗ (∃ ys, owns (c : Thread nD τ) arg7 fullShare ys ∗ ⌜View.ld ys (rnext i) = nrm x1 x2⌝)) -∗ K ⟨⟩))
      ⊢ wp frame (wpE (defs₀ (F := F)) Variants.none c none) E (cc0_ffn i arg1 harg1 arg2 harg2 arg3 harg3 arg4 harg4 arg5 harg5 arg6 harg6 arg7 harg7) K := by
  simp only [cc0_ffn_eq_skeleton]; unfold cc0_ffn_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%fs, %hfs, HS⟩, Hk⟩
  subst hf0 hf1 hf2 hf3 hf4 hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_full _ _ _ _ _).trans ?_
    rfl
  iexists _
  isplitl [HS]
  · iexists _; isplitr
    swap; · iexact HS
    ipureintro; rfl
  ipureintro
  funext y
  exact View.read_writes_cons_emb _ _ (rnext i) _ _ y

/-! ## The proof data -/

/-- The normalized rows point `n` reads: its own block's at the first point, else those the point before stored. -/
def slotv (c : Dev nD) : (n : ℕ) → n < cfg0.N → FVec F S1x512x1024 .bf16
  | 0, h => nrm (iblk m c 0 ⟨0, h⟩) (iblk m c 2 ⟨0, h⟩)
  | n + 1, h => nrm (iblk m c 1 ⟨n, Nat.lt_of_succ_lt h⟩) (iblk m c 2 ⟨n, Nat.lt_of_succ_lt h⟩)

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` the slot point `n` filled holds the next block's
    normalized rows. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rnext (grid0.coords ⟨n, hn⟩)) = nrm (iblk m c 1 ⟨n, hn⟩) (iblk m c 2 ⟨n, hn⟩)⌝) ∗ (∃ r, prngReg c r))

/-- The proof data: arrays as the region finds them; each input's buffer left at its block, the output's at the block of
    results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (slotv m c t.val t.isLt) (iblk m c 0 t) (iblk m c 3 t) (iblk m c 4 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outv (slotv m c t.val t.isLt) (iblk m c 0 t) (iblk m c 3 t) (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The slot point `n + 1` reads is the slot point `n` fills. -/
theorem ld_next (n : ℕ) (h : n + 1 < cfg0.N) (ys : Vec F S2x512x1024 .bf16) :
    (View.ld ys (rcur (grid0.coords ⟨n + 1, h⟩)) : FVec F S1x512x1024 .bf16)
      = View.ld ys (rnext (grid0.coords ⟨n, Nat.lt_of_succ_lt h⟩)) := by
  have key : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
    rintro a b ha hb rfl; rfl
  refine key _ _ _ _ ?_
  rw [off1, off2]
  have : (n + 1) % 2 = 1 - n % 2 := by omega
  exact congrArg (fun z => ![z, 0, 0]) this

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_castSucc m c t]
  have hN : t.val < 64 := lt_of_lt_of_eq t.isLt (show cfg0.N = 64 from N_0)
  by_cases hz : t.val = 0
  · have e1 : PhiS m c t.val (Nat.le_of_lt t.isLt) = Pipeline.ΦA spec0 c := by
      have : ∀ n h, n = 0 → PhiS m c n h = Pipeline.ΦA spec0 c := by rintro n h rfl; rfl
      exact this _ _ hz
    have e2 : slotv m c t.val t.isLt = nrm (iblk m c 0 t) (iblk m c 2 t) := by
      obtain ⟨n, hn⟩ := t; obtain rfl : n = 0 := hz; rfl
    rw [e1, PhiA0_eq, e2]
    simp only [PhiS]
    iintro ⟨⟨⟨%xs, HS⟩, Hg⟩, Ho, ⟨%d0, H0⟩, ⟨%d1, H1⟩, ⟨%d2, H2⟩, ⟨%d3, H3⟩, ⟨%d4, H4⟩, ⟨%dO, HO⟩⟩
    iapply (sound_A c Set.univ (grid0.coords t) ((hcond t).mpr (by rw [hz])) ((coord_val t).trans hz) _ _ _ _ _ _ _ _ _ _ _ _ _ _ (iblk m c 0 t) (iblk m c 1 t) (iblk m c 2 t) (iblk m c 3 t) (iblk m c 4 t) xs _)
    isplitl [H0]; · iexact H0
    isplitl [H1]; · iexact H1
    isplitl [H2]; · iexact H2
    isplitl [H3]; · iexact H3
    isplitl [H4]; · iexact H4
    isplitl [HO]; · iexists _; iexact HO
    isplitl [HS]; · iexact HS
    iintro ⟨H0, H1, H2, H3, H4, HO, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact HO
  · obtain ⟨n, hn⟩ := t
    obtain ⟨k, rfl⟩ : ∃ k, n = k + 1 := ⟨n - 1, by dsimp only at hz; omega⟩
    generalize ht : (⟨k + 1, hn⟩ : Fin cfg0.N) = t
    have e2 : ∀ ys : Vec F S2x512x1024 .bf16, View.ld ys (rnext (grid0.coords ⟨k, Nat.lt_of_succ_lt hn⟩)) = nrm (iblk m c 1 ⟨k, Nat.lt_of_succ_lt hn⟩) (iblk m c 2 ⟨k, Nat.lt_of_succ_lt hn⟩) →
        slotv m c t.val t.isLt = View.ld ys (rcur (grid0.coords t)) := by
      subst ht
      intro ys h
      exact (h.symm.trans (ld_next k hn ys).symm)
    have e1 : PhiS m c t.val (Nat.le_of_lt t.isLt) = PhiS m c (k + 1) (Nat.le_of_lt hn) := by subst ht; rfl
    have hz : t.val ≠ 0 := by subst ht; exact Nat.succ_ne_zero k
    have hN : t.val < 64 := by subst ht; exact hN
    rw [e1]
    simp only [PhiS]
    iintro ⟨⟨⟨%xs, ⟨HS, %hxs⟩⟩, Hg⟩, Ho, ⟨%d0, H0⟩, ⟨%d1, H1⟩, ⟨%d2, H2⟩, ⟨%d3, H3⟩, ⟨%d4, H4⟩, ⟨%dO, HO⟩⟩
    rw [e2 xs hxs]
    iapply (sound_B c Set.univ (grid0.coords t) (fun h => hz (by have := (hcond t).mp h; omega)) _ _ _ _ _ _ _ _ _ _ _ _ _ _ (iblk m c 0 t) (iblk m c 1 t) (iblk m c 2 t) (iblk m c 3 t) (iblk m c 4 t) xs _)
    isplitl [H0]; · iexact H0
    isplitl [H1]; · iexact H1
    isplitl [H2]; · iexact H2
    isplitl [H3]; · iexact H3
    isplitl [H4]; · iexact H4
    isplitl [HO]; · iexists _; iexact HO
    isplitl [HS]; · iexact HS
    iintro ⟨H0, H1, H2, H3, H4, HO, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 64 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnBody

end
-- ==== Proof.Swi.lean ====
module

public import Idealize.ShloMosaic.Lib.Pointwise

@[expose] public section

set_option maxRecDepth 16384

noncomputable section

open Idealize.ShloMosaic

/-! # The feed-forward block of one row, as formulas -/

namespace Cert.Swi

/-- A row divided by its root mean square and scaled lane by lane. -/
def nrow (x g : Fin 1024 → EReal) (k : Fin 1024) : EReal :=
  x k * Ideal.rsqrt (Ideal.div (∑ e, x e * x e) (Ideal.ofBits FTy.f32 0x44800000#32) + Ideal.ofBits FTy.f32 0x358637BD#32) * g k

/-- One lane of a row times the first weight matrix. -/
def lane (n : Fin 1024 → EReal) (w : Fin 1024 → Fin 5632 → EReal) (f : Fin 5632) : EReal := ∑ k, n k * w k f

/-- One hidden unit: the gate lane times its logistic, times the other lane. -/
def hid (n : Fin 1024 → EReal) (w : Fin 1024 → Fin 5632 → EReal) (f : Fin 2816) : EReal :=
  lane n w ⟨f.val, by omega⟩ * Ideal.logistic (lane n w ⟨f.val, by omega⟩) * lane n w ⟨2816 + f.val, by omega⟩

/-- The hidden units times the second weight matrix. -/
def mix (n : Fin 1024 → EReal) (w : Fin 1024 → Fin 5632 → EReal) (wo : Fin 2816 → Fin 1024 → EReal) (c : Fin 1024) : EReal :=
  ∑ f, hid n w f * wo f c

/-- The row and half of its block. -/
def ffn (x g : Fin 1024 → EReal) (w : Fin 1024 → Fin 5632 → EReal) (wo : Fin 2816 → Fin 1024 → EReal) (c : Fin 1024) : EReal :=
  x c + Ideal.ofBits FTy.f32 0x3F000000#32 * mix (nrow x g) w wo c

/-- The hidden units in two runs. -/
theorem mix_two (n : Fin 1024 → EReal) (w : Fin 1024 → Fin 5632 → EReal) (wo : Fin 2816 → Fin 1024 → EReal) (c : Fin 1024) :
    (∑ f : Fin 1536, hid n w ⟨f.val, by omega⟩ * wo ⟨f.val, by omega⟩ c)
      + (∑ f : Fin 1280, hid n w ⟨1536 + f.val, by omega⟩ * wo ⟨1536 + f.val, by omega⟩ c) = mix n w wo c :=
  (Fin.sum_univ_add (a := 1536) (b := 1280) (fun f : Fin (1536 + 1280) => hid n w f * wo f c)).symm

end Cert.Swi
-- ==== Proof.FfnVal.lean ====
module

public import proofs.«01_k».proof.Proof.FfnBody
public import proofs.«01_k».proof.Proof.Swi
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnBody
open Cert.FfnIdeal Cert.FfnIdeal.Gen

/-! ## One block of results -/

/-- A row of a block. -/
abbrev brow (x : Vec Ideal S512x1024 .f32) (p : Fin 512) (k : Fin 1024) : EReal := x (ix2 p k)
/-- The one row of a scale. -/
abbrev grow (g : Vec Ideal S1x1024 .f32) (k : Fin 1024) : EReal := g (ix2 0 k)
/-- The two weight matrices, entry by entry. -/
abbrev wmat (w : Vec Ideal S1024x5632 .bf16) (k : Fin 1024) (f : Fin 5632) : EReal := w (ix2 k f)
abbrev omat (w : Vec Ideal S2816x1024 .bf16) (f : Fin 2816) (c : Fin 1024) : EReal := w (ix2 f c)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay3, Swi.nrow]

theorem gate0_at (w : Vec Ideal S1024x5632 .bf16) (k : Fin 1024) (f : Fin 1536) :
    (View.ld w rgate0 : Vec Ideal S1024x1536 .bf16) (ix2 k f) = wmat w k ⟨f.val, by omega⟩ := by
  pointwise
  blk_ext
theorem up0_at (w : Vec Ideal S1024x5632 .bf16) (k : Fin 1024) (f : Fin 1536) :
    (View.ld w rup0 : Vec Ideal S1024x1536 .bf16) (ix2 k f) = wmat w k ⟨2816 + f.val, by omega⟩ := by
  pointwise
  blk_ext
theorem gate1_at (w : Vec Ideal S1024x5632 .bf16) (k : Fin 1024) (f : Fin 1280) :
    (View.ld w rgate1 : Vec Ideal S1024x1280 .bf16) (ix2 k f) = wmat w k ⟨1536 + f.val, by omega⟩ := by
  pointwise
  blk_ext
theorem up1_at (w : Vec Ideal S1024x5632 .bf16) (k : Fin 1024) (f : Fin 1280) :
    (View.ld w rup1 : Vec Ideal S1024x1280 .bf16) (ix2 k f) = wmat w k ⟨2816 + (1536 + f.val), by omega⟩ := by
  pointwise
  blk_ext
theorem out0_at (w : Vec Ideal S2816x1024 .bf16) (f : Fin 1536) (c : Fin 1024) :
    (View.ld w rout0 : Vec Ideal S1536x1024 .bf16) (ix2 f c) = omat w ⟨f.val, by omega⟩ c := by
  pointwise
  blk_ext
theorem out1_at (w : Vec Ideal S2816x1024 .bf16) (f : Fin 1280) (c : Fin 1024) :
    (View.ld w rout1 : Vec Ideal S1280x1024 .bf16) (ix2 f c) = omat w ⟨1536 + f.val, by omega⟩ c := by
  pointwise
  blk_ext

section
variable (X : FVec Ideal S1x512x1024 .bf16) (n : Fin 512 → Fin 1024 → EReal) (hX : ∀ p k, X (ix3 0 p k) = n p k)
include hX

theorem acc_at (w0 w1 : Vec Ideal S1024x1536 .bf16) (wo : Vec Ideal S1536x1024 .bf16) (p : Fin 512) (c : Fin 1024) :
    k0_pay5 (F := Ideal) X w0 w1 wo (ix2 p c) = ∑ f : Fin 1536, (∑ k, n p k * w0 (ix2 k f)) * Ideal.logistic (∑ k, n p k * w0 (ix2 k f)) * (∑ k, n p k * w1 (ix2 k f)) * wo (ix2 f c) := by
  pointwise [k0_pay5, k0_pay4]
  simp only [hX]

theorem gate1 (w : Vec Ideal S1024x1280 .bf16) (p : Fin 512) (f : Fin 1280) :
    k0_pay6 (F := Ideal) X w (ix2 p f) = ∑ k, n p k * w (ix2 k f) := by
  pointwise [k0_pay6, k0_pay4]
  simp only [hX]

theorem outv_gen (x : Vec Ideal S512x1024 .f32) (W : Fin 1024 → Fin 5632 → EReal) (O : Fin 2816 → Fin 1024 → EReal)
    (w0 w1 : Vec Ideal S1024x1536 .bf16) (w2 w3 : Vec Ideal S1024x1280 .bf16) (o0 : Vec Ideal S1536x1024 .bf16) (o1 : Vec Ideal S1280x1024 .bf16)
    (h0 : ∀ k (f : Fin 1536), w0 (ix2 k f) = W k ⟨f.val, by omega⟩) (h1 : ∀ k (f : Fin 1536), w1 (ix2 k f) = W k ⟨2816 + f.val, by omega⟩)
    (h2 : ∀ k (f : Fin 1280), w2 (ix2 k f) = W k ⟨1536 + f.val, by omega⟩) (h3 : ∀ k (f : Fin 1280), w3 (ix2 k f) = W k ⟨2816 + (1536 + f.val), by omega⟩)
    (g0 : ∀ (f : Fin 1536) c, o0 (ix2 f c) = O ⟨f.val, by omega⟩ c) (g1 : ∀ (f : Fin 1280) c, o1 (ix2 f c) = O ⟨1536 + f.val, by omega⟩ c)
    (p : Fin 512) (c : Fin 1024) :
    k0_pay1 (F := Ideal) (k0_pay4 X) (k0_pay5 X w0 w1 o0) (k0_pay6 X w2) (k0_pay7 w3) o1 x (ix2 p c)
      = brow x p c + Ideal.ofBits FTy.f32 0x3F000000#32 * Swi.mix (n p) W O c := by
  simp only [← Swi.mix_two]

  pointwise [k0_pay1, k0_pay4, k0_pay7]
  simp only [acc_at X n hX, gate1 X n hX, hX, h0, h1, h2, h3, g0, g1]
  rfl

theorem outv_at (x : Vec Ideal S512x1024 .f32) (w : Vec Ideal S1024x5632 .bf16) (wo : Vec Ideal S2816x1024 .bf16) (p : Fin 512) (c : Fin 1024) :
    outv X x w wo (ix2 p c) = brow x p c + Ideal.ofBits FTy.f32 0x3F000000#32 * Swi.mix (n p) (wmat w) (omat wo) c := by
  unfold outv
  rw [ld_x]
  exact outv_gen X n hX x (wmat w) (omat wo) _ _ _ _ _ _ (gate0_at w) (up0_at w) (gate1_at w) (up1_at w) (out0_at wo) (out1_at wo) p c
end

theorem block_at (x : Vec Ideal S512x1024 .f32) (g : Vec Ideal S1x1024 .f32) (w : Vec Ideal S1024x5632 .bf16) (wo : Vec Ideal S2816x1024 .bf16) (p : Fin 512) (c : Fin 1024) :
    outv (nrm x g) x w wo (ix2 p c) = Swi.ffn (brow x p) (grow g) (wmat w) (omat wo) c :=
  outv_at (nrm x g) (fun p => Swi.nrow (brow x p) (grow g)) (nrm_at x g) x w wo p c

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The result as the kernel forms it, row `r`, lane `c`. -/
def ker (x : FVec Ideal S2x16384x1024 .f32) (g : FVec Ideal S1024 .f32) (w : FVec Ideal S1024x5632 .f32) (wo : FVec Ideal S2816x1024 .f32) (r : Fin 32768) (c : Fin 1024) : EReal :=
  Swi.ffn (xrow x r) (fun k => g (ix1 k)) (fun k f => w (ix2 k f)) (fun f c => wo (ix2 f c)) c

theorem idx : ∀ t : Fin cfg0.N,
    win0_0.index t = ![t.val, 0] ∧ win0_1.index t = ![min (t.val + 1) 63, 0] ∧ win0_2.index t = ![0, 0] ∧ win0_3.index t = ![0, 0]
    ∧ win0_4.index t = ![0, 0] ∧ win0_5.index t = ![t.val, 0] ∧ t.val < 64 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x5632 .f32) : FVec Ideal S1024x5632 .bf16 := truncf .bf16 w bitsLt_bf16_f32
def no (w : FVec Ideal S2816x1024 .f32) : FVec Ideal S2816x1024 .bf16 := truncf .bf16 w bitsLt_bf16_f32

theorem V_x (c : Dev nD) : V m c main_v0 = rows (m ((c : Thread nD τ).loc main_arg0)) := by
  entry_read
  rfl
theorem V_w (c : Dev nD) : V m c main_v1 = nw (m ((c : Thread nD τ).loc main_arg2)) := by
  entry_read
  rfl
theorem V_o (c : Dev nD) : V m c main_v2 = no (m ((c : Thread nD τ).loc main_arg3)) := by
  entry_read
  rfl
theorem V_g (c : Dev nD) : V m c main_v3 = flat (m ((c : Thread nD τ).loc main_arg1)) := by
  entry_read
  rfl

theorem x_at (c : Dev nD) (t : Fin cfg0.N) (p : Fin 512) (k : Fin 1024) (r : Fin 32768) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem next_at (c : Dev nD) (t : Fin cfg0.N) (p : Fin 512) (k : Fin 1024) (r : Fin 32768) (hr : r.val = (t.val + 1) * 512 + p.val) :
    brow (iblk m c 1 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 2 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 5632) :
    wmat (iblk m c 3 t) k f = m ((c : Thread nD τ).loc main_arg2) (ix2 k f) := by
  blk_simp [wmat, iblk, idx t]
  rw [V_w]
  pointwise [nw]
  blk_ext [idx t]

theorem o_at (c : Dev nD) (t : Fin cfg0.N) (f : Fin 2816) (k : Fin 1024) :
    omat (iblk m c 4 t) f k = m ((c : Thread nD τ).loc main_arg3) (ix2 f k) := by
  blk_simp [omat, iblk, idx t]
  rw [V_o]
  pointwise [no]
  blk_ext [idx t]

/-- Whichever point normalized them, the rows point `n` reads are its own block's. -/
theorem slot_at (c : Dev nD) (n : ℕ) (h : n < cfg0.N) (p : Fin 512) (k : Fin 1024) (r : Fin 32768) (hr : r.val = n * 512 + p.val) :
    slotv m c n h (ix3 0 p k) = Swi.nrow (xrow (m ((c : Thread nD τ).loc main_arg0)) r) (fun k => m ((c : Thread nD τ).loc main_arg1) (ix1 k)) k := by
  cases n with
  | zero =>
    refine (nrm_at _ _ p k).trans ?_
    exact congrArg₂ (fun a b => Swi.nrow a b k) (funext fun k => x_at m c _ p k r hr) (funext fun k => g_at m c _ k)
  | succ n =>
    refine (nrm_at _ _ p k).trans ?_
    exact congrArg₂ (fun a b => Swi.nrow a b k) (funext fun k => next_at m c _ p k r hr) (funext fun k => g_at m c _ k)

theorem point (c : Dev nD) (t : Fin cfg0.N) (p : Fin 512) (l : Fin 1024) (r : Fin 32768) (hr : r.val = t.val * 512 + p.val) :
    outv (slotv m c t.val t.isLt) (iblk m c 0 t) (iblk m c 3 t) (iblk m c 4 t) (ix2 p l) = ker (m ((c : Thread nD τ).loc main_arg0)) (m ((c : Thread nD τ).loc main_arg1)) (m ((c : Thread nD τ).loc main_arg2)) (m ((c : Thread nD τ).loc main_arg3)) r l := by
  have hk : ∀ q : Fin 512, t.val * 512 + q.val < 32768 := fun q => by have := (idx t).2.2.2.2.2.2; omega
  have hX : ∀ (q : Fin 512) (k : Fin 1024), slotv m c t.val t.isLt (ix3 0 q k)
      = (fun q => Swi.nrow (xrow (m ((c : Thread nD τ).loc main_arg0)) ⟨t.val * 512 + q.val, hk q⟩) (fun k => m ((c : Thread nD τ).loc main_arg1) (ix1 k))) q k :=
    fun q k => slot_at m c t.val t.isLt q k _ rfl
  refine (outv_at _ _ hX _ _ _ p l).trans ?_
  obtain rfl : r = ⟨t.val * 512 + p.val, hk p⟩ := Fin.ext hr
  have ex : brow (iblk m c 0 t) p = xrow (m ((c : Thread nD τ).loc main_arg0)) ⟨t.val * 512 + p.val, hk p⟩ := funext fun k => x_at m c t p k _ rfl
  have ew : wmat (iblk m c 3 t) = fun k f => m ((c : Thread nD τ).loc main_arg2) (ix2 k f) := funext fun k => funext fun f => w_at m c t k f
  have eo : omat (iblk m c 4 t) = fun f k => m ((c : Thread nD τ).loc main_arg3) (ix2 f k) := funext fun f => funext fun k => o_at m c t f k

  rw [ex, ew, eo]
  rfl

/-- The result array after the run. -/
theorem final (c : Dev nD) : (dats m 0 c).arrAt 5 (cfgs 0).N = fun i : S32768x1024.Idx => ker (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  idx_vars y
  refine (point m c t y0 y1 _ ?_).trans (congrArg (ker (m ((c : Thread nD τ).loc main_arg0)) (m ((c : Thread nD τ).loc main_arg1)) (m ((c : Thread nD τ).loc main_arg2)) (m ((c : Thread nD τ).loc main_arg3)) _) (Fin.ext ?_))
  all_goals (blk_simp [idx t] <;> try omega)

end Cert.FfnBody
-- ==== Proof.FfnRef.lean ====
module

public import proofs.«01_k».proof.Proof.Gen.FfnRefIdeal.Read
public import proofs.«01_k».proof.Proof.Swi
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.FfnRefIdeal.Val
open Cert.FfnRefIdeal Cert.FfnRefIdeal.Gen Cert.FfnRefIdeal.Read

variable (x : FVec Ideal S2x16384x1024 .f32) (g : FVec Ideal S1024 .f32) (w : FVec Ideal S1024x5632 .f32) (wo : FVec Ideal S2816x1024 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lane_at (b : Fin 2) (s : Fin 16384) (f : Fin 5632) :
    val_main_v13 (F := Ideal) x g w (ix3 b s f) = Swi.lane (Swi.nrow (fun k => x (ix3 b s k)) (fun k => g (ix1 k))) (fun k f => w (ix2 k f)) f := by
  pointwise [val_main_v13, Swi.lane]
  simp only [norm_at]

theorem hid_at (b : Fin 2) (s : Fin 16384) (f : Fin 2816) :
    val_main_v17 (F := Ideal) x g w (ix3 b s f) = Swi.hid (Swi.nrow (fun k => x (ix3 b s k)) (fun k => g (ix1 k))) (fun k f => w (ix2 k f)) f := by
  unfold Swi.hid Ideal.logistic
  simp only [← lane_at]
  pointwise [val_main_v17, val_main_v16, val_main_v15, val_main_v14, val_main_call0_v5, val_main_call0_v4, val_main_call0_v3, val_main_call0_v2, val_main_call0_v1, val_main_call0_v0, val_main_call0_cst, val_main_call0_cst_0]

theorem ffn_at (b : Fin 2) (s : Fin 16384) (c : Fin 1024) :
    val_main_v21 (F := Ideal) x g w wo (ix3 b s c) = Swi.ffn (fun k => x (ix3 b s k)) (fun k => g (ix1 k)) (fun k f => w (ix2 k f)) (fun f c => wo (ix2 f c)) c := by
  unfold Swi.ffn Swi.mix
  simp only [← hid_at]
  pointwise [val_main_v21, val_main_v20, val_main_v19, val_main_v18, val_main_cst_2]

theorem result_at (r : Fin 32768) (c : Fin 1024) :
    val_main_v22 (F := Ideal) x g w wo (ix2 r c) = Swi.ffn (fun k => x (ix3 ⟨r.val / 16384, by omega⟩ ⟨r.val % 16384, by omega⟩ k)) (fun k => g (ix1 k)) (fun k f => w (ix2 k f)) (fun f c => wo (ix2 f c)) c := by
  refine Eq.trans ?_ (ffn_at x g w wo ⟨r.val / 16384, by omega⟩ ⟨r.val % 16384, by omega⟩ c)
  pointwise [val_main_v22]
  blk_ext

end Cert.FfnRefIdeal.Val
-- ==== Proof.FfnClaims.lean ====
module

public import proofs.«01_k».proof.Defs
public import proofs.«01_k».proof.Proof.FfnVal
public import proofs.«01_k».proof.Proof.FfnRef
public import proofs.«01_k».proof.Proof.Gen.Ffn
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem

/-! # The claims about a feed-forward block -/

namespace Cert.FfnClaims

/-- The two programs have the same bodies. -/
theorem bodies_eq : Cert.Ffn.defs₀ (F := Bits) = Cert.FfnIdeal.defs₀ (F := Bits) := by
  unfold Cert.Ffn.defs₀ Cert.FfnIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.Ffn.defs (F := Bits) = Cert.FfnIdeal.defs (F := Bits) := congrArg (Pipeline.defs _) bodies_eq

theorem frame_p : Cert.quiescent_Ffn := fun m ρ _ => by
  rw [defs_eq]
  exact Cert.FfnBody.frame (F := Bits) m ρ

theorem frame_pi : Cert.quiescent_FfnIdeal := fun m ρ _ => Cert.FfnBody.frame m ρ
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

theorem preserves : Cert.preserves_Ffn_FfnIdeal := trivial

/-- The kernel's result is the reference's, as extended reals. -/
theorem algebraic : Cert.algebraic_FfnIdeal_FfnRefIdeal := by
  intro m g m' g' hpre hagree
  refine ⟨fun c => (Cert.FfnBody.dats m 0 c).arrAt 5 (Cert.FfnIdeal.cfgs 0).N, ?_, ?_⟩
  · run_from Cert.FfnBody.run_main m g
  · refine (θ_run Cert.FfnRefIdeal.defs _ _).mono (fun r h c => ⟨(h c).1.trans ?_, (h c).2⟩) (Cert.FfnRefIdeal.Value.run (F := Ideal) m' g')
    refine Eq.trans ?_ (Cert.FfnBody.final m c).symm
    rw [Cert.FfnRefIdeal.Read.val_main_v22_eq, (hagree c).1, (hagree c).2.1, (hagree c).2.2.1, (hagree c).2.2.2]
    refine funext fun i => ?_
    obtain ⟨r, l, rfl⟩ : ∃ (r : Fin 32768) (l : Fin 1024), i = ix2 r l := ⟨i 0, i 1, eq_ix2 i⟩
    exact Cert.FfnRefIdeal.Val.result_at _ _ _ _ r l

end Cert.FfnClaims
-- ==== Proof.FfnFinalBody.lean ====
module

public import proofs.«01_k».proof.Proof.Slot
public import proofs.«01_k».proof.Proof.Gen.FfnFinalIdeal.Skeleton
public import proofs.«01_k».proof.Proof.Gen.FfnFinalIdeal.Frame
public import Idealize.ShloMosaic.Lib.Claim
public import Idealize.ShloMosaic.Lib.VecWindow
public import Idealize.ShloMosaic.Lib.WritesUnit

@[expose] public section

set_option maxRecDepth 16384

noncomputable section

namespace Cert.FfnFinalBody

open Cert.FfnFinalIdeal Cert.FfnFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of one slot of the scratch, and of the weights' column and row ranges. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) : Rect S2x512x1024 := Rect.unit (s := S2x512x1024) (k0_off1 i) S1x512x1024.size (k0_off1_inb i)
abbrev rnext (i : grid0.Coords) : Rect S2x512x1024 := Rect.unit (s := S2x512x1024) (k0_off2 i) S1x512x1024.size (k0_off2_inb i)
abbrev rgate0 : Rect S1024x5632 := Rect.unit (s := S1024x5632) ![0, 0] S1024x1536.size inb_S1024x5632_S1024x1536_0_0
abbrev rup0 : Rect S1024x5632 := Rect.unit (s := S1024x5632) ![0, 2816] S1024x1536.size inb_S1024x5632_S1024x1536_0_2816
abbrev rgate1 : Rect S1024x5632 := Rect.unit (s := S1024x5632) ![0, 1536] S1024x1280.size inb_S1024x5632_S1024x1280_0_1536
abbrev rup1 : Rect S1024x5632 := Rect.unit (s := S1024x5632) ![0, 4352] S1024x1280.size inb_S1024x5632_S1024x1280_0_4352
abbrev rout0 : Rect S2816x1024 := Rect.unit (s := S2816x1024) ![0, 0] S1536x1024.size inb_S2816x1024_S1536x1024_0_0
abbrev rout1 : Rect S2816x1024 := Rect.unit (s := S2816x1024) ![1536, 0] S1280x1024.size inb_S2816x1024_S1280x1024_1536_0

/-- A block's rows, normalized: what the body stores in a slot of the scratch. -/
def nrm (x : Vec F S512x1024 .f32) (g : Vec F S1x1024 .f32) : FVec F S1x512x1024 .bf16 :=
  k0_pay2 (View.ld x rx) (View.ld g rg)

/-- The block of results, from the normalized rows `X`, the block `x` and the weights. -/
def outv (X : Vec F S1x512x1024 .bf16) (x : Vec F S512x1024 .f32) (w : Vec F S1024x5632 .bf16) (wo : Vec F S2816x1024 .bf16) (fg : Vec F S1x1024 .f32) : FVec F S512x1024 .f32 :=
  k0_pay7 (k0_pay3 X) (k0_pay4 X (View.ld w rgate0) (View.ld w rup0) (View.ld wo rout0)) (k0_pay5 X (View.ld w rgate1)) (k0_pay6 (View.ld w rup1)) (View.ld wo rout1) (View.ld x rx) (View.ld fg rg)

/-! ## The slots -/

/-- The condition of the first point. -/
abbrev cond (i : grid0.Coords) : Prop := (Scalar.cmpi .ne (Scalar.extui (Scalar.cmpi .eq (BitVec.ofNat 32 (i 0).val) 0#32)) 0#32) = 1#1

theorem hcond : ∀ t : Fin cfg0.N, cond (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond, e0]
    word_cmp
   : ∀ t : Fin grid0.N, cond (grid0.coords t) ↔ t.val % 64 = 0)

/-- The slot a point reads, and the slot it fills, by the point's first coordinate. -/
theorem off1_of : ∀ n : Fin 64, ∀ i : grid0.Coords, (i 0).val = n.val → k0_off1 i = ![n.val % 2, 0, 0] := by
  intro n i h
  show ![_, 0, 0] = _
  rw [h]
  exact congrArg (fun z => ![z, 0, 0]) (Slot.own ⟨n.val, by omega⟩)

theorem off2_of : ∀ n : Fin 64, ∀ i : grid0.Coords, (i 0).val = n.val → k0_off2 i = ![1 - n.val % 2, 0, 0] := by
  intro n i h
  show ![_, 0, 0] = _
  rw [h]
  exact congrArg (fun z => ![z, 0, 0]) (Slot.next n)

instance closedOff1 (i : grid0.Coords) : ClosedOff (k0_off1 i) := ⟨![(i 0).val % 2, 0, 0], off1_of ⟨(i 0).val, (i 0).isLt⟩ i rfl⟩
instance closedOff2 (i : grid0.Coords) : ClosedOff (k0_off2 i) := ⟨![1 - (i 0).val % 2, 0, 0], off2_of ⟨(i 0).val, (i 0).isLt⟩ i rfl⟩

theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  rw [e0]; omega

theorem off1 (t : Fin cfg0.N) : k0_off1 (grid0.coords t) = ![t.val % 2, 0, 0] :=
  off1_of ⟨t.val, Nat.lt_of_lt_of_eq t.isLt N_0⟩ _ (coord_val t)

theorem off2 (t : Fin cfg0.N) : k0_off2 (grid0.coords t) = ![1 - t.val % 2, 0, 0] :=
  off2_of ⟨t.val, Nat.lt_of_lt_of_eq t.isLt N_0⟩ _ (coord_val t)

/-- At the first point the slot read is the one just stored. -/
theorem slot_read {sp : Space} (v : View sig .tc sp S2x512x1024 .bf16) (f : v.ty.Contents (Elt F)) (i : grid0.Coords) (hi : (i 0).val = 0)
    (w : S1x512x1024.Idx → Elt F .bf16) :
    v.readAt (Elt F) (rcur i).toLoadRect (v.writes (Elt F) f [⟨Rect.unit (s := S2x512x1024) ![0, 0, 0] S1x512x1024.size inb_S2x512x1024_S1x512x1024_0_0_0, w⟩]) = w := by
  have key : ∀ (off : Fin 3 → ℕ) (h : ∀ a, off a + S1x512x1024.size a ≤ S2x512x1024.size a), off = ![0, 0, 0] →
      v.readAt (Elt F) (Rect.unit (s := S2x512x1024) off S1x512x1024.size h).toLoadRect (v.writes (Elt F) f [⟨Rect.unit (s := S2x512x1024) ![0, 0, 0] S1x512x1024.size inb_S2x512x1024_S1x512x1024_0_0_0, w⟩]) = w := by
    rintro off h rfl
    funext y
    exact View.read_writes_cons_emb v f (Rect.unit (s := S2x512x1024) ![0, 0, 0] S1x512x1024.size h) w [] y
  exact key _ (k0_off1_inb i) (off1_of ⟨0, by decide⟩ i hi)

set_option maxHeartbeats 2000000 in
/-- The body at the first point: it fills the slot it reads. -/
theorem sound_A (c : Dev nD) (E : Set ℕ) (i : grid0.Coords) (hc : cond i) (hi : (i 0).val = 0) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x512x1024 .bf16) (harg8 : arg8.IsWhole)
    (x0 : Vec F S512x1024 .f32) (x1 : Vec F S512x1024 .f32) (x2 : Vec F S1x1024 .f32) (x3 : Vec F S1024x5632 .bf16) (x4 : Vec F S2816x1024 .bf16) (x5 : Vec F S1x1024 .f32) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outv (nrm x0 x2) x0 x3 x4 x5)
          ∗ (∃ ys, owns (c : Thread nD τ) arg8 fullShare ys ∗ ⌜View.ld ys (rnext i) = nrm x1 x2⌝)) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    have hX : View.readAt (Elt F) arg8.view (rcur i).toLoadRect (arg8.view.writes (Elt F) fs [⟨Rect.unit (s := S2x512x1024) ![0, 0, 0] S1x512x1024.size inb_S2x512x1024_S1x512x1024_0_0_0, nrm (View.read (Elt F) arg1.view f0) (View.read (Elt F) arg3.view f2)⟩]) = nrm (View.read (Elt F) arg1.view f0) (View.read (Elt F) arg3.view f2) :=
      slot_read _ _ i hi _
    unfold sound_A.sl.r sound_A.sl.r_1 sound_A.sl.r_2
    exact congrArg (fun X => outv X (View.read (Elt F) arg1.view f0) (View.read (Elt F) arg4.view f3) (View.read (Elt F) arg5.view f4) (View.read (Elt F) arg6.view f5)) hX
  iexists _
  isplitl [HS]
  · iexists _; isplitr
    swap; · iexact HS
    ipureintro; rfl
  ipureintro
  funext y
  exact View.read_writes_cons_emb _ _ (rnext i) _ _ y

set_option maxHeartbeats 2000000 in
/-- The body at a later point: the slot it reads holds what the point before left. -/
theorem sound_B (c : Dev nD) (E : Set ℕ) (i : grid0.Coords) (hc : ¬cond i) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S2x512x1024 .bf16) (harg8 : arg8.IsWhole)
    (x0 : Vec F S512x1024 .f32) (x1 : Vec F S512x1024 .f32) (x2 : Vec F S1x1024 .f32) (x3 : Vec F S1024x5632 .bf16) (x4 : Vec F S2816x1024 .bf16) (x5 : Vec F S1x1024 .f32) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outv (View.ld xs (rcur i)) x0 x3 x4 x5)
          ∗ (∃ ys, owns (c : Thread nD τ) arg8 fullShare ys ∗ ⌜View.ld ys (rnext i) = nrm x1 x2⌝)) -∗ K ⟨⟩))
      ⊢ wp frame (wpE (defs₀ (F := F)) Variants.none c none) E (cc0_ffn i arg1 harg1 arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    rfl
  iexists _
  isplitl [HS]
  · iexists _; isplitr
    swap; · iexact HS
    ipureintro; rfl
  ipureintro
  funext y
  exact View.read_writes_cons_emb _ _ (rnext i) _ _ y

/-! ## The proof data -/

/-- The normalized rows point `n` reads: its own block's at the first point, else those the point before stored. -/
def slotv (c : Dev nD) : (n : ℕ) → n < cfg0.N → FVec F S1x512x1024 .bf16
  | 0, h => nrm (iblk m c 0 ⟨0, h⟩) (iblk m c 2 ⟨0, h⟩)
  | n + 1, h => nrm (iblk m c 1 ⟨n, Nat.lt_of_succ_lt h⟩) (iblk m c 2 ⟨n, Nat.lt_of_succ_lt h⟩)

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` the slot point `n` filled holds the next block's
    normalized rows. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rnext (grid0.coords ⟨n, hn⟩)) = nrm (iblk m c 1 ⟨n, hn⟩) (iblk m c 2 ⟨n, hn⟩)⌝) ∗ (∃ r, prngReg c r))

/-- The proof data: arrays as the region finds them; each input's buffer left at its block, the output's at the block of
    results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv (slotv m c t.val t.isLt) (iblk m c 0 t) (iblk m c 3 t) (iblk m c 4 t) (iblk m c 5 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outv (slotv m c t.val t.isLt) (iblk m c 0 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The slot point `n + 1` reads is the slot point `n` fills. -/
theorem ld_next (n : ℕ) (h : n + 1 < cfg0.N) (ys : Vec F S2x512x1024 .bf16) :
    (View.ld ys (rcur (grid0.coords ⟨n + 1, h⟩)) : FVec F S1x512x1024 .bf16)
      = View.ld ys (rnext (grid0.coords ⟨n, Nat.lt_of_succ_lt h⟩)) := by
  have key : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
    rintro a b ha hb rfl; rfl
  refine key _ _ _ _ ?_
  rw [off1, off2]
  have : (n + 1) % 2 = 1 - n % 2 := by omega
  exact congrArg (fun z => ![z, 0, 0]) this

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_castSucc m c t]
  have hN : t.val < 64 := lt_of_lt_of_eq t.isLt (show cfg0.N = 64 from N_0)
  by_cases hz : t.val = 0
  · have e1 : PhiS m c t.val (Nat.le_of_lt t.isLt) = Pipeline.ΦA spec0 c := by
      have : ∀ n h, n = 0 → PhiS m c n h = Pipeline.ΦA spec0 c := by rintro n h rfl; rfl
      exact this _ _ hz
    have e2 : slotv m c t.val t.isLt = nrm (iblk m c 0 t) (iblk m c 2 t) := by
      obtain ⟨n, hn⟩ := t; obtain rfl : n = 0 := hz; rfl
    rw [e1, PhiA0_eq, e2]
    simp only [PhiS]
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%dO, HO⟩⟩
    iapply (sound_A c Set.univ (grid0.coords t) ((hcond t).mpr (by rw [hz])) ((coord_val t).trans hz) _ _ _ _ _ _ _ _ _ _ _ _ _ _ _ _ (iblk m c 0 t) (iblk m c 1 t) (iblk m c 2 t) (iblk m c 3 t) (iblk m c 4 t) (iblk m c 5 t) xs _)
    isplitl [H0]; · iexact H0
    isplitl [H1]; · iexact H1
    isplitl [H2]; · iexact H2
    isplitl [H3]; · iexact H3
    isplitl [H4]; · iexact H4
    isplitl [H5]; · iexact H5
    isplitl [HO]; · iexists _; iexact HO
    isplitl [HS]; · iexact HS
    iintro ⟨H0, H1, H2, H3, H4, H5, HO, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact HO
  · obtain ⟨n, hn⟩ := t
    obtain ⟨k, rfl⟩ : ∃ k, n = k + 1 := ⟨n - 1, by dsimp only at hz; omega⟩
    generalize ht : (⟨k + 1, hn⟩ : Fin cfg0.N) = t
    have e2 : ∀ ys : Vec F S2x512x1024 .bf16, View.ld ys (rnext (grid0.coords ⟨k, Nat.lt_of_succ_lt hn⟩)) = nrm (iblk m c 1 ⟨k, Nat.lt_of_succ_lt hn⟩) (iblk m c 2 ⟨k, Nat.lt_of_succ_lt hn⟩) →
        slotv m c t.val t.isLt = View.ld ys (rcur (grid0.coords t)) := by
      subst ht
      intro ys h
      exact (h.symm.trans (ld_next k hn ys).symm)
    have e1 : PhiS m c t.val (Nat.le_of_lt t.isLt) = PhiS m c (k + 1) (Nat.le_of_lt hn) := by subst ht; rfl
    have hz : t.val ≠ 0 := by subst ht; exact Nat.succ_ne_zero k
    have hN : t.val < 64 := by subst ht; exact hN
    rw [e1]
    simp only [PhiS]
    iintro ⟨⟨⟨%xs, ⟨HS, %hxs⟩⟩, Hg⟩, Ho, ⟨%d0, H0⟩, ⟨%d1, H1⟩, ⟨%d2, H2⟩, ⟨%d3, H3⟩, ⟨%d4, H4⟩, ⟨%d5, H5⟩, ⟨%dO, HO⟩⟩
    rw [e2 xs hxs]
    iapply (sound_B c Set.univ (grid0.coords t) (fun h => hz (by have := (hcond t).mp h; omega)) _ _ _ _ _ _ _ _ _ _ _ _ _ _ _ _ (iblk m c 0 t) (iblk m c 1 t) (iblk m c 2 t) (iblk m c 3 t) (iblk m c 4 t) (iblk m c 5 t) xs _)
    isplitl [H0]; · iexact H0
    isplitl [H1]; · iexact H1
    isplitl [H2]; · iexact H2
    isplitl [H3]; · iexact H3
    isplitl [H4]; · iexact H4
    isplitl [H5]; · iexact H5
    isplitl [HO]; · iexists _; iexact HO
    isplitl [HS]; · iexact HS
    iintro ⟨H0, H1, H2, H3, H4, H5, HO, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 64 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FfnFinalBody

end
-- ==== Proof.FfnFinalVal.lean ====
module

public import proofs.«01_k».proof.Proof.FfnFinalBody
public import proofs.«01_k».proof.Proof.Swi
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnFinalBody
open Cert.FfnFinalIdeal Cert.FfnFinalIdeal.Gen

/-! ## One block of results -/

/-- A row of a block. -/
abbrev brow (x : Vec Ideal S512x1024 .f32) (p : Fin 512) (k : Fin 1024) : EReal := x (ix2 p k)
/-- The one row of a scale. -/
abbrev grow (g : Vec Ideal S1x1024 .f32) (k : Fin 1024) : EReal := g (ix2 0 k)
/-- The two weight matrices, entry by entry. -/
abbrev wmat (w : Vec Ideal S1024x5632 .bf16) (k : Fin 1024) (f : Fin 5632) : EReal := w (ix2 k f)
abbrev omat (w : Vec Ideal S2816x1024 .bf16) (f : Fin 2816) (c : Fin 1024) : EReal := w (ix2 f c)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay2, Swi.nrow]

theorem gate0_at (w : Vec Ideal S1024x5632 .bf16) (k : Fin 1024) (f : Fin 1536) :
    (View.ld w rgate0 : Vec Ideal S1024x1536 .bf16) (ix2 k f) = wmat w k ⟨f.val, by omega⟩ := by
  pointwise
  blk_ext
theorem up0_at (w : Vec Ideal S1024x5632 .bf16) (k : Fin 1024) (f : Fin 1536) :
    (View.ld w rup0 : Vec Ideal S1024x1536 .bf16) (ix2 k f) = wmat w k ⟨2816 + f.val, by omega⟩ := by
  pointwise
  blk_ext
theorem gate1_at (w : Vec Ideal S1024x5632 .bf16) (k : Fin 1024) (f : Fin 1280) :
    (View.ld w rgate1 : Vec Ideal S1024x1280 .bf16) (ix2 k f) = wmat w k ⟨1536 + f.val, by omega⟩ := by
  pointwise
  blk_ext
theorem up1_at (w : Vec Ideal S1024x5632 .bf16) (k : Fin 1024) (f : Fin 1280) :
    (View.ld w rup1 : Vec Ideal S1024x1280 .bf16) (ix2 k f) = wmat w k ⟨2816 + (1536 + f.val), by omega⟩ := by
  pointwise
  blk_ext
theorem out0_at (w : Vec Ideal S2816x1024 .bf16) (f : Fin 1536) (c : Fin 1024) :
    (View.ld w rout0 : Vec Ideal S1536x1024 .bf16) (ix2 f c) = omat w ⟨f.val, by omega⟩ c := by
  pointwise
  blk_ext
theorem out1_at (w : Vec Ideal S2816x1024 .bf16) (f : Fin 1280) (c : Fin 1024) :
    (View.ld w rout1 : Vec Ideal S1280x1024 .bf16) (ix2 f c) = omat w ⟨1536 + f.val, by omega⟩ c := by
  pointwise
  blk_ext

section
variable (X : FVec Ideal S1x512x1024 .bf16) (n : Fin 512 → Fin 1024 → EReal) (hX : ∀ p k, X (ix3 0 p k) = n p k)
include hX

theorem acc_at (w0 w1 : Vec Ideal S1024x1536 .bf16) (wo : Vec Ideal S1536x1024 .bf16) (p : Fin 512) (c : Fin 1024) :
    k0_pay4 (F := Ideal) X w0 w1 wo (ix2 p c) = ∑ f : Fin 1536, (∑ k, n p k * w0 (ix2 k f)) * Ideal.logistic (∑ k, n p k * w0 (ix2 k f)) * (∑ k, n p k * w1 (ix2 k f)) * wo (ix2 f c) := by
  pointwise [k0_pay4, k0_pay3]
  simp only [hX]

theorem gate1 (w : Vec Ideal S1024x1280 .bf16) (p : Fin 512) (f : Fin 1280) :
    k0_pay5 (F := Ideal) X w (ix2 p f) = ∑ k, n p k * w (ix2 k f) := by
  pointwise [k0_pay5, k0_pay3]
  simp only [hX]

theorem outv_gen (x : Vec Ideal S512x1024 .f32) (W : Fin 1024 → Fin 5632 → EReal) (O : Fin 2816 → Fin 1024 → EReal) (fg : Vec Ideal S1x1024 .f32)
    (w0 w1 : Vec Ideal S1024x1536 .bf16) (w2 w3 : Vec Ideal S1024x1280 .bf16) (o0 : Vec Ideal S1536x1024 .bf16) (o1 : Vec Ideal S1280x1024 .bf16)
    (h0 : ∀ k (f : Fin 1536), w0 (ix2 k f) = W k ⟨f.val, by omega⟩) (h1 : ∀ k (f : Fin 1536), w1 (ix2 k f) = W k ⟨2816 + f.val, by omega⟩)
    (h2 : ∀ k (f : Fin 1280), w2 (ix2 k f) = W k ⟨1536 + f.val, by omega⟩) (h3 : ∀ k (f : Fin 1280), w3 (ix2 k f) = W k ⟨2816 + (1536 + f.val), by omega⟩)
    (g0 : ∀ (f : Fin 1536) c, o0 (ix2 f c) = O ⟨f.val, by omega⟩ c) (g1 : ∀ (f : Fin 1280) c, o1 (ix2 f c) = O ⟨1536 + f.val, by omega⟩ c)
    (p : Fin 512) (c : Fin 1024) :
    k0_pay7 (F := Ideal) (k0_pay3 X) (k0_pay4 X w0 w1 o0) (k0_pay5 X w2) (k0_pay6 w3) o1 x fg (ix2 p c)
      = Swi.nrow (fun c => brow x p c + Ideal.ofBits FTy.f32 0x3F000000#32 * Swi.mix (n p) W O c) (grow fg) c := by
  simp only [← Swi.mix_two]
  unfold Swi.nrow
  pointwise [k0_pay7, k0_pay3, k0_pay6]
  simp only [acc_at X n hX, gate1 X n hX, hX, h0, h1, h2, h3, g0, g1]
  rfl

theorem outv_at (x : Vec Ideal S512x1024 .f32) (w : Vec Ideal S1024x5632 .bf16) (wo : Vec Ideal S2816x1024 .bf16) (fg : Vec Ideal S1x1024 .f32) (p : Fin 512) (c : Fin 1024) :
    outv X x w wo fg (ix2 p c) = Swi.nrow (fun c => brow x p c + Ideal.ofBits FTy.f32 0x3F000000#32 * Swi.mix (n p) (wmat w) (omat wo) c) (grow fg) c := by
  unfold outv
  rw [ld_x, ld_g]
  exact outv_gen X n hX x (wmat w) (omat wo) fg _ _ _ _ _ _ (gate0_at w) (up0_at w) (gate1_at w) (up1_at w) (out0_at wo) (out1_at wo) p c
end

theorem block_at (x : Vec Ideal S512x1024 .f32) (g : Vec Ideal S1x1024 .f32) (w : Vec Ideal S1024x5632 .bf16) (wo : Vec Ideal S2816x1024 .bf16) (fg : Vec Ideal S1x1024 .f32) (p : Fin 512) (c : Fin 1024) :
    outv (nrm x g) x w wo fg (ix2 p c) = Swi.nrow (Swi.ffn (brow x p) (grow g) (wmat w) (omat wo)) (grow fg) c :=
  outv_at (nrm x g) (fun p => Swi.nrow (brow x p) (grow g)) (nrm_at x g) x w wo fg p c

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The result as the kernel forms it, row `r`, lane `c`. -/
def ker (x : FVec Ideal S2x16384x1024 .f32) (g : FVec Ideal S1024 .f32) (w : FVec Ideal S1024x5632 .f32) (wo : FVec Ideal S2816x1024 .f32) (fg : FVec Ideal S1024 .f32) (r : Fin 32768) (c : Fin 1024) : EReal :=
  Swi.nrow (Swi.ffn (xrow x r) (fun k => g (ix1 k)) (fun k f => w (ix2 k f)) (fun f c => wo (ix2 f c))) (fun k => fg (ix1 k)) c

theorem idx : ∀ t : Fin cfg0.N,
    win0_0.index t = ![t.val, 0] ∧ win0_1.index t = ![min (t.val + 1) 63, 0] ∧ win0_2.index t = ![0, 0] ∧ win0_3.index t = ![0, 0]
    ∧ win0_4.index t = ![0, 0] ∧ win0_5.index t = ![0, 0] ∧ win0_6.index t = ![t.val, 0] ∧ t.val < 64 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x5632 .f32) : FVec Ideal S1024x5632 .bf16 := truncf .bf16 w bitsLt_bf16_f32
def no (w : FVec Ideal S2816x1024 .f32) : FVec Ideal S2816x1024 .bf16 := truncf .bf16 w bitsLt_bf16_f32

theorem V_x (c : Dev nD) : V m c main_v0 = rows (m ((c : Thread nD τ).loc main_arg0)) := by
  entry_read
  rfl
theorem V_w (c : Dev nD) : V m c main_v1 = nw (m ((c : Thread nD τ).loc main_arg2)) := by
  entry_read
  rfl
theorem V_o (c : Dev nD) : V m c main_v2 = no (m ((c : Thread nD τ).loc main_arg3)) := by
  entry_read
  rfl
theorem V_g (c : Dev nD) : V m c main_v3 = flat (m ((c : Thread nD τ).loc main_arg1)) := by
  entry_read
  rfl
theorem V_fg (c : Dev nD) : V m c main_v4 = flat (m ((c : Thread nD τ).loc main_arg4)) := by
  entry_read
  rfl

theorem x_at (c : Dev nD) (t : Fin cfg0.N) (p : Fin 512) (k : Fin 1024) (r : Fin 32768) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem next_at (c : Dev nD) (t : Fin cfg0.N) (p : Fin 512) (k : Fin 1024) (r : Fin 32768) (hr : r.val = (t.val + 1) * 512 + p.val) :
    brow (iblk m c 1 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 2 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 5632) :
    wmat (iblk m c 3 t) k f = m ((c : Thread nD τ).loc main_arg2) (ix2 k f) := by
  blk_simp [wmat, iblk, idx t]
  rw [V_w]
  pointwise [nw]
  blk_ext [idx t]

theorem o_at (c : Dev nD) (t : Fin cfg0.N) (f : Fin 2816) (k : Fin 1024) :
    omat (iblk m c 4 t) f k = m ((c : Thread nD τ).loc main_arg3) (ix2 f k) := by
  blk_simp [omat, iblk, idx t]
  rw [V_o]
  pointwise [no]
  blk_ext [idx t]

theorem fg_at (c : Dev nD) (t : Fin cfg0.N) (k : Fin 1024) :
    grow (iblk m c 5 t) k = m ((c : Thread nD τ).loc main_arg4) (ix1 k) := by
  blk_simp [grow, iblk, idx t]
  rw [V_fg]
  pointwise [flat]
  blk_ext [idx t]

/-- Whichever point normalized them, the rows point `n` reads are its own block's. -/
theorem slot_at (c : Dev nD) (n : ℕ) (h : n < cfg0.N) (p : Fin 512) (k : Fin 1024) (r : Fin 32768) (hr : r.val = n * 512 + p.val) :
    slotv m c n h (ix3 0 p k) = Swi.nrow (xrow (m ((c : Thread nD τ).loc main_arg0)) r) (fun k => m ((c : Thread nD τ).loc main_arg1) (ix1 k)) k := by
  cases n with
  | zero =>
    refine (nrm_at _ _ p k).trans ?_
    exact congrArg₂ (fun a b => Swi.nrow a b k) (funext fun k => x_at m c _ p k r hr) (funext fun k => g_at m c _ k)
  | succ n =>
    refine (nrm_at _ _ p k).trans ?_
    exact congrArg₂ (fun a b => Swi.nrow a b k) (funext fun k => next_at m c _ p k r hr) (funext fun k => g_at m c _ k)

theorem point (c : Dev nD) (t : Fin cfg0.N) (p : Fin 512) (l : Fin 1024) (r : Fin 32768) (hr : r.val = t.val * 512 + p.val) :
    outv (slotv m c t.val t.isLt) (iblk m c 0 t) (iblk m c 3 t) (iblk m c 4 t) (iblk m c 5 t) (ix2 p l) = ker (m ((c : Thread nD τ).loc main_arg0)) (m ((c : Thread nD τ).loc main_arg1)) (m ((c : Thread nD τ).loc main_arg2)) (m ((c : Thread nD τ).loc main_arg3)) (m ((c : Thread nD τ).loc main_arg4)) r l := by
  have hk : ∀ q : Fin 512, t.val * 512 + q.val < 32768 := fun q => by have := (idx t).2.2.2.2.2.2.2; omega
  have hX : ∀ (q : Fin 512) (k : Fin 1024), slotv m c t.val t.isLt (ix3 0 q k)
      = (fun q => Swi.nrow (xrow (m ((c : Thread nD τ).loc main_arg0)) ⟨t.val * 512 + q.val, hk q⟩) (fun k => m ((c : Thread nD τ).loc main_arg1) (ix1 k))) q k :=
    fun q k => slot_at m c t.val t.isLt q k _ rfl
  refine (outv_at _ _ hX _ _ _ _ p l).trans ?_
  obtain rfl : r = ⟨t.val * 512 + p.val, hk p⟩ := Fin.ext hr
  have ex : brow (iblk m c 0 t) p = xrow (m ((c : Thread nD τ).loc main_arg0)) ⟨t.val * 512 + p.val, hk p⟩ := funext fun k => x_at m c t p k _ rfl
  have ew : wmat (iblk m c 3 t) = fun k f => m ((c : Thread nD τ).loc main_arg2) (ix2 k f) := funext fun k => funext fun f => w_at m c t k f
  have eo : omat (iblk m c 4 t) = fun f k => m ((c : Thread nD τ).loc main_arg3) (ix2 f k) := funext fun f => funext fun k => o_at m c t f k
  have ef : grow (iblk m c 5 t) = fun k => m ((c : Thread nD τ).loc main_arg4) (ix1 k) := funext fun k => fg_at m c t k
  rw [ex, ew, eo, ef]
  rfl

/-- The result array after the run. -/
theorem final (c : Dev nD) : (dats m 0 c).arrAt 6 (cfgs 0).N = fun i : S32768x1024.Idx => ker (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  idx_vars y
  refine (point m c t y0 y1 _ ?_).trans (congrArg (ker (m ((c : Thread nD τ).loc main_arg0)) (m ((c : Thread nD τ).loc main_arg1)) (m ((c : Thread nD τ).loc main_arg2)) (m ((c : Thread nD τ).loc main_arg3)) (m ((c : Thread nD τ).loc main_arg4)) _) (Fin.ext ?_))
  all_goals (blk_simp [idx t] <;> try omega)

end Cert.FfnFinalBody
-- ==== Proof.FfnFinalRef.lean ====
module

public import proofs.«01_k».proof.Proof.Gen.FfnFinalRefIdeal.Read
public import proofs.«01_k».proof.Proof.Swi
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.FfnFinalRefIdeal.Val
open Cert.FfnFinalRefIdeal Cert.FfnFinalRefIdeal.Gen Cert.FfnFinalRefIdeal.Read

variable (x : FVec Ideal S2x16384x1024 .f32) (g : FVec Ideal S1024 .f32) (w : FVec Ideal S1024x5632 .f32) (wo : FVec Ideal S2816x1024 .f32) (fg : FVec Ideal S1024 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lane_at (b : Fin 2) (s : Fin 16384) (f : Fin 5632) :
    val_main_v13 (F := Ideal) x g w (ix3 b s f) = Swi.lane (Swi.nrow (fun k => x (ix3 b s k)) (fun k => g (ix1 k))) (fun k f => w (ix2 k f)) f := by
  pointwise [val_main_v13, Swi.lane]
  simp only [norm_at]

theorem hid_at (b : Fin 2) (s : Fin 16384) (f : Fin 2816) :
    val_main_v17 (F := Ideal) x g w (ix3 b s f) = Swi.hid (Swi.nrow (fun k => x (ix3 b s k)) (fun k => g (ix1 k))) (fun k f => w (ix2 k f)) f := by
  unfold Swi.hid Ideal.logistic
  simp only [← lane_at]
  pointwise [val_main_v17, val_main_v16, val_main_v15, val_main_v14, val_main_call0_v5, val_main_call0_v4, val_main_call0_v3, val_main_call0_v2, val_main_call0_v1, val_main_call0_v0, val_main_call0_cst, val_main_call0_cst_0]

theorem ffn_at (b : Fin 2) (s : Fin 16384) (c : Fin 1024) :
    val_main_v21 (F := Ideal) x g w wo (ix3 b s c) = Swi.ffn (fun k => x (ix3 b s k)) (fun k => g (ix1 k)) (fun k f => w (ix2 k f)) (fun f c => wo (ix2 f c)) c := by
  unfold Swi.ffn Swi.mix
  simp only [← hid_at]
  pointwise [val_main_v21, val_main_v20, val_main_v19, val_main_v18, val_main_cst_2]

theorem fin_at (b : Fin 2) (s : Fin 16384) (c : Fin 1024) :
    val_main_v34 (F := Ideal) x g w wo fg (ix3 b s c) = Swi.nrow (Swi.ffn (fun k => x (ix3 b s k)) (fun k => g (ix1 k)) (fun k f => w (ix2 k f)) (fun f c => wo (ix2 f c))) (fun k => fg (ix1 k)) c := by
  have e : Swi.ffn (fun k => x (ix3 b s k)) (fun k => g (ix1 k)) (fun k f => w (ix2 k f)) (fun f c => wo (ix2 f c)) = fun c => val_main_v21 (F := Ideal) x g w wo (ix3 b s c) := funext fun c => (ffn_at x g w wo b s c).symm
  rw [e]
  pointwise [val_main_v34, val_main_v33, val_main_v32, val_main_v31, val_main_v30, val_main_v29, val_main_v28, val_main_v27, val_main_v26, val_main_v25, val_main_v24, val_main_v23, val_main_v22, val_main_cst_3, val_main_cst_4, val_main_cst_5, Swi.nrow]

theorem result_at (r : Fin 32768) (c : Fin 1024) :
    val_main_v35 (F := Ideal) x g w wo fg (ix2 r c) = Swi.nrow (Swi.ffn (fun k => x (ix3 ⟨r.val / 16384, by omega⟩ ⟨r.val % 16384, by omega⟩ k)) (fun k => g (ix1 k)) (fun k f => w (ix2 k f)) (fun f c => wo (ix2 f c))) (fun k => fg (ix1 k)) c := by
  refine Eq.trans ?_ (fin_at x g w wo fg ⟨r.val / 16384, by omega⟩ ⟨r.val % 16384, by omega⟩ c)
  pointwise [val_main_v35]
  blk_ext

end Cert.FfnFinalRefIdeal.Val
-- ==== Proof.FfnFinalClaims.lean ====
module

public import proofs.«01_k».proof.Defs
public import proofs.«01_k».proof.Proof.FfnFinalVal
public import proofs.«01_k».proof.Proof.FfnFinalRef
public import proofs.«01_k».proof.Proof.Gen.FfnFinal
public import proofs.«01_k».proof.Proof.Gen.FfnFinalRefIdeal.Run
public import Idealize.ShloMosaic.Lib.Claim

@[expose] public section

set_option maxRecDepth 16384

noncomputable section

open Idealize.ShloMosaic Idealize.ShloMosaic.TcCoe Idealize.SL.Sem

/-! # The claims about the last feed-forward block -/

namespace Cert.FfnFinalClaims

/-- The two programs have the same bodies. -/
theorem bodies_eq : Cert.FfnFinal.defs₀ (F := Bits) = Cert.FfnFinalIdeal.defs₀ (F := Bits) := by
  unfold Cert.FfnFinal.defs₀ Cert.FfnFinalIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.FfnFinal.defs (F := Bits) = Cert.FfnFinalIdeal.defs (F := Bits) := congrArg (Pipeline.defs _) bodies_eq

theorem frame_p : Cert.quiescent_FfnFinal := fun m ρ _ => by
  rw [defs_eq]
  exact Cert.FfnFinalBody.frame (F := Bits) m ρ

theorem frame_pi : Cert.quiescent_FfnFinalIdeal := fun m ρ _ => Cert.FfnFinalBody.frame m ρ
theorem frame_ri : Cert.quiescent_FfnFinalRefIdeal := fun m ρ _ =>
  (θ_run Cert.FfnFinalRefIdeal.defs _ _).mono (fun r h => ⟨fun c => (h c).2,
      Idealize.ShloMosaic.sem_eq_zero_of_no_sems (by decide) r.2⟩)
    (Cert.FfnFinalRefIdeal.Value.run (F := Ideal) m ρ)

theorem preserves : Cert.preserves_FfnFinal_FfnFinalIdeal := trivial

/-- The kernel's result is the reference's, as extended reals. -/
theorem algebraic : Cert.algebraic_FfnFinalIdeal_FfnFinalRefIdeal := by
  intro m g m' g' hpre hagree
  refine ⟨fun c => (Cert.FfnFinalBody.dats m 0 c).arrAt 6 (Cert.FfnFinalIdeal.cfgs 0).N, ?_, ?_⟩
  · run_from Cert.FfnFinalBody.run_main m g
  · refine (θ_run Cert.FfnFinalRefIdeal.defs _ _).mono (fun r h c => ⟨(h c).1.trans ?_, (h c).2⟩) (Cert.FfnFinalRefIdeal.Value.run (F := Ideal) m' g')
    refine Eq.trans ?_ (Cert.FfnFinalBody.final m c).symm
    rw [Cert.FfnFinalRefIdeal.Read.val_main_v35_eq, (hagree c).1, (hagree c).2.1, (hagree c).2.2.1, (hagree c).2.2.2.1, (hagree c).2.2.2.2]
    refine funext fun i => ?_
    obtain ⟨r, l, rfl⟩ : ∃ (r : Fin 32768) (l : Fin 1024), i = ix2 r l := ⟨i 0, i 1, eq_ix2 i⟩
    exact Cert.FfnFinalRefIdeal.Val.result_at _ _ _ _ _ r l

end Cert.FfnFinalClaims
-- ==== Proof.BInBody.lean ====
module

public import proofs.«01_k».proof.Proof.Slot
public import proofs.«01_k».proof.Proof.Gen.BInIdeal.Skeleton
public import proofs.«01_k».proof.Proof.Gen.BInIdeal.Frame
public import Idealize.ShloMosaic.Lib.Claim
public import Idealize.ShloMosaic.Lib.VecWindow
public import Idealize.ShloMosaic.Lib.WritesUnit

@[expose] public section

set_option maxRecDepth 16384

noncomputable section

namespace Cert.BInBody

open Cert.BInIdeal Cert.BInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of the first slot of the scratch, of the slot a point reads and of the slot
    it fills; then the weights', the bias's and the results' column ranges. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) (h : k0_cond2 i = 1#1) : Rect S2x512x1024 := Rect.unit (s := S2x512x1024) (k0_off1 i) S1x512x1024.size (k0_off1_inb i h)
abbrev rnext (i : grid0.Coords) (h : k0_cond2 i = 1#1) : Rect S2x512x1024 := Rect.unit (s := S2x512x1024) (k0_off2 i) S1x512x1024.size (k0_off2_inb i h)
abbrev rw0 : Rect S1024x6144 := Rect.unit (s := S1024x6144) ![0, 0] S1024x1024.size inb_S1024x6144_S1024x1024_0_0
abbrev rb0 : Rect S1x6144 := Rect.unit (s := S1x6144) ![0, 0] S1x1024.size inb_S1x6144_S1x1024_0_0
abbrev rw1024 : Rect S1024x6144 := Rect.unit (s := S1024x6144) ![0, 1024] S1024x1024.size inb_S1024x6144_S1024x1024_0_1024
abbrev rb1024 : Rect S1x6144 := Rect.unit (s := S1x6144) ![0, 1024] S1x1024.size inb_S1x6144_S1x1024_0_1024
abbrev rw2048 : Rect S1024x6144 := Rect.unit (s := S1024x6144) ![0, 2048] S1024x1024.size inb_S1024x6144_S1024x1024_0_2048
abbrev rb2048 : Rect S1x6144 := Rect.unit (s := S1x6144) ![0, 2048] S1x1024.size inb_S1x6144_S1x1024_0_2048
abbrev rw3072 : Rect S1024x6144 := Rect.unit (s := S1024x6144) ![0, 3072] S1024x1024.size inb_S1024x6144_S1024x1024_0_3072
abbrev rb3072 : Rect S1x6144 := Rect.unit (s := S1x6144) ![0, 3072] S1x1024.size inb_S1x6144_S1x1024_0_3072
abbrev rw4096 : Rect S1024x6144 := Rect.unit (s := S1024x6144) ![0, 4096] S1024x1024.size inb_S1024x6144_S1024x1024_0_4096
abbrev rb4096 : Rect S1x6144 := Rect.unit (s := S1x6144) ![0, 4096] S1x1024.size inb_S1x6144_S1x1024_0_4096
abbrev rw5120 : Rect S1024x6144 := Rect.unit (s := S1024x6144) ![0, 5120] S1024x1024.size inb_S1024x6144_S1024x1024_0_5120
abbrev rb5120 : Rect S1x6144 := Rect.unit (s := S1x6144) ![0, 5120] S1x1024.size inb_S1x6144_S1x1024_0_5120
abbrev ro0 : Rect S512x6144 := Rect.unit (s := S512x6144) ![0, 0] S512x1024.size inb_S512x6144_S512x1024_0_0
abbrev ro1024 : Rect S512x6144 := Rect.unit (s := S512x6144) ![0, 1024] S512x1024.size inb_S512x6144_S512x1024_0_1024
abbrev ro2048 : Rect S512x6144 := Rect.unit (s := S512x6144) ![0, 2048] S512x1024.size inb_S512x6144_S512x1024_0_2048
abbrev ro3072 : Rect S512x6144 := Rect.unit (s := S512x6144) ![0, 3072] S512x1024.size inb_S512x6144_S512x1024_0_3072
abbrev ro4096 : Rect S512x6144 := Rect.unit (s := S512x6144) ![0, 4096] S512x1024.size inb_S512x6144_S512x1024_0_4096
abbrev ro5120 : Rect S512x6144 := Rect.unit (s := S512x6144) ![0, 5120] S512x1024.size inb_S512x6144_S512x1024_0_5120

theorem slot_inb (n : ℕ) : ∀ a, (![n % 2, 0, 0] : Fin 3 → ℕ) a + S1x512x1024.size a ≤ S2x512x1024.size a := by
  rcases Nat.mod_two_eq_zero_or_one n with h | h <;> rw [h] <;> decide

/-- Slot `n % 2` of the scratch. -/
abbrev rslot (n : ℕ) : Rect S2x512x1024 := Rect.unit (s := S2x512x1024) ![n % 2, 0, 0] S1x512x1024.size (slot_inb n)

/-- A block's rows, normalized: what the body stores in a slot of the scratch. -/
def nrm (x : Vec F S512x1024 .f32) (g : Vec F S1x1024 .f32) : FVec F S1x512x1024 .bf16 :=
  k0_pay1 (View.ld x rx) (View.ld g rg)

/-- The results' columns from 0 on, from the normalized rows `X`. -/
def piece0 (X : Vec F S1x512x1024 .bf16) (w : Vec F S1024x6144 .bf16) (bb : Vec F S1x6144 .f32) : FVec F S512x1024 .bf16 :=
  k0_pay4 X (View.ld w rw0) (View.ld bb rb0)

/-- The results' columns from 1024 on, from the normalized rows `X`. -/
def piece1 (X : Vec F S1x512x1024 .bf16) (w : Vec F S1024x6144 .bf16) (bb : Vec F S1x6144 .f32) : FVec F S512x1024 .bf16 :=
  k0_pay5 (k0_pay3 X) (View.ld w rw1024) (View.ld bb rb1024)

/-- The results' columns from 2048 on, from the normalized rows `X`. -/
def piece2 (X : Vec F S1x512x1024 .bf16) (w : Vec F S1024x6144 .bf16) (bb : Vec F S1x6144 .f32) : FVec F S512x1024 .bf16 :=
  k0_pay7 (k0_pay6 (k0_pay3 X) (View.ld w rw2048) (View.ld bb rb2048))

/-- The results' columns from 3072 on, from the normalized rows `X`. -/
def piece3 (X : Vec F S1x512x1024 .bf16) (w : Vec F S1024x6144 .bf16) (bb : Vec F S1x6144 .f32) : FVec F S512x1024 .bf16 :=
  k0_pay8 (k0_pay3 X) (View.ld w rw3072) (View.ld bb rb3072)

/-- The results' columns from 4096 on, from the normalized rows `X`. -/
def piece4 (X : Vec F S1x512x1024 .bf16) (w : Vec F S1024x6144 .bf16) (bb : Vec F S1x6144 .f32) : FVec F S512x1024 .bf16 :=
  k0_pay11 (k0_pay9 (k0_pay3 X) (View.ld w rw4096) (View.ld bb rb4096)) (k0_pay10 (k0_pay3 X) (View.ld w rw4096) (View.ld bb rb4096))

/-- The results' columns from 5120 on, from the normalized rows `X`. -/
def piece5 (X : Vec F S1x512x1024 .bf16) (w : Vec F S1024x6144 .bf16) (bb : Vec F S1x6144 .f32) : FVec F S512x1024 .bf16 :=
  k0_pay12 (k0_pay3 X) (View.ld w rw5120) (View.ld bb rb5120)

/-- The block of results: its column ranges together. -/
def outv (X : Vec F S1x512x1024 .bf16) (w : Vec F S1024x6144 .bf16) (bb : Vec F S1x6144 .f32) : FVec F S512x6144 .bf16 :=
  View.canon (Val := Elt F) (s := S512x6144) (e := .bf16) [⟨ro5120, piece5 X w bb⟩, ⟨ro4096, piece4 X w bb⟩, ⟨ro3072, piece3 X w bb⟩, ⟨ro2048, piece2 X w bb⟩, ⟨ro1024, piece1 X w bb⟩, ⟨ro0, piece0 X w bb⟩]

theorem cover (p0 : Vec F S512x1024 .bf16) (p1 : Vec F S512x1024 .bf16) (p2 : Vec F S512x1024 .bf16) (p3 : Vec F S512x1024 .bf16) (p4 : Vec F S512x1024 .bf16) (p5 : Vec F S512x1024 .bf16) (y : S512x6144.Idx) :
    ∃ p ∈ ([⟨ro5120, p5⟩, ⟨ro4096, p4⟩, ⟨ro3072, p3⟩, ⟨ro2048, p2⟩, ⟨ro1024, p1⟩, ⟨ro0, p0⟩] : List (View.Piece (Elt F) S512x6144 .bf16)), y ∈ p.1.set :=
  View.cover_of_tiled [⟨ro5120, p5⟩, ⟨ro4096, p4⟩, ⟨ro3072, p3⟩, ⟨ro2048, p2⟩, ⟨ro1024, p1⟩, ⟨ro0, p0⟩] S512x1024.size (by rfl) y

/-! ## The slots and the conditions -/

/-- The condition of the first point. -/
abbrev cond (i : grid0.Coords) : Prop := (Scalar.cmpi .ne (Scalar.extui (Scalar.cmpi .eq (BitVec.ofNat 32 (i 0).val) 0#32)) 0#32) = 1#1

theorem coord_val (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  rw [e0]; omega

theorem cond_of : ∀ n : Fin 65, ∀ i : grid0.Coords, (i 0).val = n.val → (cond i ↔ n.val = 0) := by
  intro n i h
  have : ∀ n : Fin 65, (Scalar.cmpi .ne (Scalar.extui (Scalar.cmpi .eq (BitVec.ofNat 32 n.val) 0#32)) 0#32) = 1#1 ↔ n.val = 0 := by decide +kernel
  show (Scalar.cmpi .ne (Scalar.extui (Scalar.cmpi .eq (BitVec.ofNat 32 (i 0).val) 0#32)) 0#32) = 1#1 ↔ _
  rw [h]; exact this n

theorem cond2_of : ∀ n : Fin 65, ∀ i : grid0.Coords, (i 0).val = n.val → (k0_cond2 i = 1#1 ↔ n.val ≠ 0) := by
  intro n i h
  have : ∀ n : Fin 65, (Scalar.cmpi .ne (Scalar.extui (Scalar.cmpi .sgt (BitVec.ofNat 32 n.val) 0#32)) 0#32) = 1#1 ↔ n.val ≠ 0 := by decide +kernel
  show (Scalar.cmpi .ne (Scalar.extui (Scalar.cmpi .sgt (BitVec.ofNat 32 (i 0).val) 0#32)) 0#32) = 1#1 ↔ _
  rw [h]; exact this n

theorem hcond (t : Fin cfg0.N) : cond (grid0.coords t) ↔ t.val = 0 := cond_of ⟨t.val, Nat.lt_of_lt_of_eq t.isLt N_0⟩ _ (coord_val t)
theorem hcond2 (t : Fin cfg0.N) : k0_cond2 (grid0.coords t) = 1#1 ↔ t.val ≠ 0 := cond2_of ⟨t.val, Nat.lt_of_lt_of_eq t.isLt N_0⟩ _ (coord_val t)

/-- The slot a point reads, and the slot it fills, by the point's first coordinate. -/
theorem off1_of : ∀ n : Fin 65, ∀ i : grid0.Coords, (i 0).val = n.val → k0_off1 i = ![(n.val + 1) % 2, 0, 0] := by
  intro n i h
  show ![_, 0, 0] = _
  rw [h]
  exact congrArg (fun z => ![z, 0, 0]) (Slot.prev n)

theorem off2_of : ∀ n : Fin 65, ∀ i : grid0.Coords, (i 0).val = n.val → k0_off2 i = ![n.val % 2, 0, 0] := by
  intro n i h
  show ![_, 0, 0] = _
  rw [h]
  exact congrArg (fun z => ![z, 0, 0]) (Slot.own n)

instance closedOff1 (i : grid0.Coords) : ClosedOff (k0_off1 i) := ⟨![((i 0).val + 1) % 2, 0, 0], off1_of ⟨(i 0).val, (i 0).isLt⟩ i rfl⟩
instance closedOff2 (i : grid0.Coords) : ClosedOff (k0_off2 i) := ⟨![(i 0).val % 2, 0, 0], off2_of ⟨(i 0).val, (i 0).isLt⟩ i rfl⟩

theorem off1 (t : Fin cfg0.N) : k0_off1 (grid0.coords t) = ![(t.val + 1) % 2, 0, 0] :=
  off1_of ⟨t.val, Nat.lt_of_lt_of_eq t.isLt N_0⟩ _ (coord_val t)

theorem off2 (t : Fin cfg0.N) : k0_off2 (grid0.coords t) = ![t.val % 2, 0, 0] :=
  off2_of ⟨t.val, Nat.lt_of_lt_of_eq t.isLt N_0⟩ _ (coord_val t)

theorem ld_congr (ys : Vec F S2x512x1024 .bf16) : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
  rintro a b ha hb rfl; rfl

/-! ## The body's runs -/

set_option maxHeartbeats 2000000 in
/-- The body at the first point: it fills the first slot and leaves the results' buffer alone. -/
theorem sound_A (c : Dev nD) (E : Set ℕ) (i : grid0.Coords) (hc : cond i) (hc2 : ¬k0_cond2 i = 1#1) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x6144 .f32) (harg4 : arg4.IsWhole) (arg5 : Memref sig .tc .vmem S512x6144 .bf16) (harg5 : arg5.IsWhole) (arg6 : Memref sig .tc .vmem S2x512x1024 .bf16) (harg6 : arg6.IsWhole)
    (x0 : Vec F S512x1024 .f32) (x1 : Vec F S1x1024 .f32) (x2 : Vec F S1024x6144 .bf16) (x3 : Vec F S1x6144 .f32) (d5 : Vec F S512x6144 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5
          ∗ (∃ ys, owns (c : Thread nD τ) arg6 fullShare ys ∗ ⌜View.ld ys (rslot 0) = nrm x0 x1⌝)) -∗ K ⟨⟩))
      ⊢ wp frame (wpE (defs₀ (F := F)) Variants.none c none) E (cc0_b_in i arg1 harg1 arg2 harg2 arg3 harg3 arg4 harg4 arg5 harg5 arg6 harg6) K := by
  simp only [cc0_b_in_eq_skeleton]; unfold cc0_b_in_skel
  unfold owns
  iintro ⟨⟨%f0, %hf0, H0⟩, ⟨%f1, %hf1, H1⟩, ⟨%f2, %hf2, H2⟩, ⟨%f3, %hf3, H3⟩, ⟨%f5, %hf5, H5⟩, ⟨%fs, %hfs, HS⟩, Hk⟩
  subst hf0 hf1 hf2 hf3 hf5 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  iexists _
  isplitl [HS]
  · iexists _; isplitr
    swap; · iexact HS
    ipureintro; rfl
  ipureintro
  funext y
  exact View.read_writes_cons_emb _ _ (rslot 0) _ _ y

set_option maxHeartbeats 2000000 in
/-- The body at a later point: from the slot it reads it makes the block of results, then it fills the other slot. -/
theorem sound_B (c : Dev nD) (E : Set ℕ) (i : grid0.Coords) (hc : ¬cond i) (hc2 : k0_cond2 i = 1#1) (arg1 : Memref sig .tc .vmem S512x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x6144 .f32) (harg4 : arg4.IsWhole) (arg5 : Memref sig .tc .vmem S512x6144 .bf16) (harg5 : arg5.IsWhole) (arg6 : Memref sig .tc .vmem S2x512x1024 .bf16) (harg6 : arg6.IsWhole)
    (x0 : Vec F S512x1024 .f32) (x1 : Vec F S1x1024 .f32) (x2 : Vec F S1024x6144 .bf16) (x3 : Vec F S1x6144 .f32) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outv (View.ld xs (rcur i hc2)) x2 x3)
          ∗ (∃ ys, owns (c : Thread nD τ) arg6 fullShare ys ∗ ⌜View.ld ys (rnext i hc2) = nrm x0 x1⌝)) -∗ K ⟨⟩))
      ⊢ wp frame (wpE (defs₀ (F := F)) Variants.none c none) E (cc0_b_in i arg1 harg1 arg2 harg2 arg3 harg3 arg4 harg4 arg5 harg5 arg6 harg6) K := by
  simp only [cc0_b_in_eq_skeleton]; unfold cc0_b_in_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%fs, %hfs, HS⟩, Hk⟩
  subst hf0 hf1 hf2 hf3 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (View.read_writes_eq_canon _ _ _ (cover _ _ _ _ _ _)).trans ?_
    rfl
  iexists _
  isplitl [HS]
  · iexists _; isplitr
    swap; · iexact HS
    ipureintro; rfl
  ipureintro
  funext y
  exact View.read_writes_cons_emb _ _ (rnext i hc2) _ _ y

/-! ## The proof data -/

/-- The point before, and the first point's own self. -/
def prev (t : Fin cfg0.N) : Fin cfg0.N := ⟨t.val - 1, Nat.lt_of_le_of_lt (Nat.sub_le _ _) t.isLt⟩

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` slot `n % 2` holds the normalized rows of point
    `n`'s block. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rslot n) = nrm (iblk m c 0 ⟨n, hn⟩) (iblk m c 1 ⟨n, hn⟩)⌝) ∗ (∃ r, prngReg c r))

/-- The proof data: arrays as the region finds them; each input's buffer left at its block, the output's at the results of
    the block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv (nrm (iblk m c 0 (prev t)) (iblk m c 1 (prev t))) (iblk m c 2 t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outv (nrm (iblk m c 0 (prev t)) (iblk m c 1 (prev t))) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle_first (t : Fin cfg0.N) (h : t.val = 0) : cfg0.idle 4 (cfg0.grid.coords t) = true := by
  show (!(k0_cond2 (grid0.coords t) == 1#1)) = true
  have : ¬ k0_cond2 (grid0.coords t) = 1#1 := fun e => (hcond2 t).mp e h
  simp [this]

theorem idle_later (t : Fin cfg0.N) (h : t.val ≠ 0) : cfg0.idle 4 (cfg0.grid.coords t) = false := by
  show (!(k0_cond2 (grid0.coords t) == 1#1)) = false
  have : k0_cond2 (grid0.coords t) = 1#1 := (hcond2 t).mpr h
  simp [this]

theorem flush_first (t : Fin cfg0.N) (h : t.val = 0) : (cfg0.win 4).flush t = false := by
  obtain ⟨n, hn⟩ := t
  obtain rfl : n = 0 := h
  exact (by decide +kernel : ∀ h, (cfg0.win 4).flush ⟨0, h⟩ = false) hn

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

/-- What every point leaves: the invariant and the inputs' buffers; the output's buffer as `R` says. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ R)

set_option maxHeartbeats 2000000 in
theorem sound_first (c : Dev nD) (t : Fin cfg0.N) (hz : t.val = 0) :
    bodyPre m c t ⊢ wp frame (wpE (defs₀ (F := F)) Variants.none c none) Set.univ (bodyAt0 t)
      (fun _ => bodyPost m c t iprop(∃ d, owns (c : Thread nD τ) (st0_4 t) fullShare ((dats m 0 c).before 4 t d))) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_castSucc m c t]
  have e1 : PhiS m c t.val (Nat.le_of_lt t.isLt) = Pipeline.ΦA spec0 c := by
    have : ∀ n h, n = 0 → PhiS m c n h = Pipeline.ΦA spec0 c := by rintro n h rfl; rfl
    exact this _ _ hz
  have e2 : ∀ ys : Vec F S2x512x1024 .bf16, (View.ld ys (rslot t.val) : FVec F S1x512x1024 .bf16) = View.ld ys (rslot 0) := fun ys =>
    ld_congr ys _ _ _ _ (by rw [hz])
  rw [e1, PhiA0_eq]
  simp only [PhiS, e2]
  iintro ⟨⟨⟨%xs, HS⟩, Hg⟩, Ho, ⟨%d0, H0⟩, ⟨%d1, H1⟩, ⟨%d2, H2⟩, ⟨%d3, H3⟩, ⟨%dO, HO⟩⟩
  iapply (sound_A c Set.univ (grid0.coords t) ((hcond t).mpr hz) (fun e => (hcond2 t).mp e hz) _ _ _ _ _ _ _ _ _ _ _ _ (iblk m c 0 t) (iblk m c 1 t) (iblk m c 2 t) (iblk m c 3 t) ((dats m 0 c).before 4 t dO) xs _)
  isplitl [H0]; · iexact H0
  isplitl [H1]; · iexact H1
  isplitl [H2]; · iexact H2
  isplitl [H3]; · iexact H3
  isplitl [HO]; · iexact HO
  isplitl [HS]; · iexact HS
  iintro ⟨H0, H1, H2, H3, HO, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexists dO
  iexact HO

set_option maxHeartbeats 2000000 in
theorem sound_later (c : Dev nD) (t : Fin cfg0.N) (hz : t.val ≠ 0) :
    bodyPre m c t ⊢ wp frame (wpE (defs₀ (F := F)) Variants.none c none) Set.univ (bodyAt0 t)
      (fun _ => bodyPost m c t iprop(owns (c : Thread nD τ) (st0_4 t) fullShare ((dats m 0 c).after 4 t))) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_castSucc m c t]
  have hc2 := (hcond2 t).mpr hz
  have e1 : PhiS m c t.val (Nat.le_of_lt t.isLt) = iprop((∃ ys : Vec F S2x512x1024 .bf16, owns (c : Thread nD τ) scM fullShare ys
      ∗ ⌜View.ld ys (rcur (grid0.coords t) hc2) = nrm (iblk m c 0 (prev t)) (iblk m c 1 (prev t))⌝) ∗ (∃ r, prngReg c r)) := by
    have e3 : ∀ ys : Vec F S2x512x1024 .bf16, (View.ld ys (rcur (grid0.coords t) hc2) : FVec F S1x512x1024 .bf16) = View.ld ys (rslot (t.val - 1)) := fun ys =>
      ld_congr ys _ _ _ _ (by rw [off1, show (t.val + 1) % 2 = (t.val - 1) % 2 by omega])
    have : ∀ n (h : n ≤ cfg0.N), (hn : n ≠ 0) → PhiS m c n h = iprop((∃ ys : Vec F S2x512x1024 .bf16, owns (c : Thread nD τ) scM fullShare ys
      ∗ ⌜View.ld ys (rslot (n - 1)) = nrm (iblk m c 0 ⟨n - 1, by omega⟩) (iblk m c 1 ⟨n - 1, by omega⟩)⌝) ∗ (∃ r, prngReg c r)) := by
      intro n h hn
      cases n with
      | zero => exact absurd rfl hn
      | succ k => rfl
    rw [this _ _ hz]
    simp only [e3]
    rfl
  have e2 : ∀ ys : Vec F S2x512x1024 .bf16, (View.ld ys (rslot t.val) : FVec F S1x512x1024 .bf16) = View.ld ys (rnext (grid0.coords t) hc2) := fun ys =>
    ld_congr ys _ _ _ _ (off2 t).symm
  rw [e1]
  simp only [PhiS, e2]
  iintro ⟨⟨⟨%xs, ⟨HS, %hxs⟩⟩, Hg⟩, Ho, ⟨%d0, H0⟩, ⟨%d1, H1⟩, ⟨%d2, H2⟩, ⟨%d3, H3⟩, ⟨%dO, HO⟩⟩
  rw [← hxs]
  iapply (sound_B c Set.univ (grid0.coords t) (fun e => hz ((hcond t).mp e)) hc2 _ _ _ _ _ _ _ _ _ _ _ _ (iblk m c 0 t) (iblk m c 1 t) (iblk m c 2 t) (iblk m c 3 t) xs _)
  isplitl [H0]; · iexact H0
  isplitl [H1]; · iexact H1
  isplitl [H2]; · iexact H2
  isplitl [H3]; · iexact H3
  isplitl [HO]; · iexists _; iexact HO
  isplitl [HS]; · iexact HS
  iintro ⟨H0, H1, H2, H3, HO, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hz : t.val = 0
  · rw [idle_first t hz, flush_first t hz]
    exact sound_first m c t hz
  · rw [idle_later t hz]
    exact sound_later m c t hz

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 65 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.BInBody

end
-- ==== Proof.Nm.lean ====
module

public import proofs.«01_k».proof.Proof.Swi

@[expose] public section

set_option maxRecDepth 16384

noncomputable section

open Idealize.ShloMosaic

/-! # A normalized row times a weight matrix, plus a bias, as formulas -/

namespace Cert.Nm

/-- One lane of a row times the weight matrix, plus the bias. -/
def lin {M : ℕ} (n : Fin 1024 → EReal) (w : Fin 1024 → Fin M → EReal) (b : Fin M → EReal) (f : Fin M) : EReal := (∑ k, n k * w k f) + b f

/-- One lane of a row times the weight matrix. -/
def lin0 {M : ℕ} (n : Fin 1024 → EReal) (w : Fin 1024 → Fin M → EReal) (f : Fin M) : EReal := ∑ k, n k * w k f

/-- The activation by the hyperbolic tangent. -/
def gelu (y : EReal) : EReal :=
  y * (Ideal.ofBits FTy.f32 0x3F000000#32 * (Ideal.ofBits FTy.f32 0x3F800000#32 + Ideal.tanh (Ideal.ofBits FTy.f32 0x3F4C422A#32 * (y + Ideal.ofBits FTy.f32 0x3D372713#32 * (y * y * y)))))

/-- The first half's lane times the logistic of the second half's. -/
def glu (n : Fin 1024 → EReal) (w : Fin 1024 → Fin 2048 → EReal) (b : Fin 2048 → EReal) (c : Fin 1024) : EReal :=
  lin n w b ⟨c.val, by omega⟩ * Ideal.logistic (lin n w b ⟨1024 + c.val, by omega⟩)

end Cert.Nm
-- ==== Proof.BInVal.lean ====
module

public import proofs.«01_k».proof.Proof.BInBody
public import proofs.«01_k».proof.Proof.Nm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BInBody
open Cert.BInIdeal Cert.BInIdeal.Gen

/-! ## One block of results -/

/-- A row of a block, the one row of a scale, the weights and the bias, entry by entry. -/
abbrev brow (x : Vec Ideal S512x1024 .f32) (p : Fin 512) (k : Fin 1024) : EReal := x (ix2 p k)
abbrev grow (g : Vec Ideal S1x1024 .f32) (k : Fin 1024) : EReal := g (ix2 0 k)
abbrev wmat (w : Vec Ideal S1024x6144 .bf16) (k : Fin 1024) (f : Fin 6144) : EReal := w (ix2 k f)
abbrev bvec (b : Vec Ideal S1x6144 .f32) (f : Fin 6144) : EReal := b (ix2 0 f)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay1, Swi.nrow]

theorem w0_at (w : Vec Ideal S1024x6144 .bf16) (k : Fin 1024) (f : Fin 1024) :
    (View.ld w rw0 : Vec Ideal S1024x1024 .bf16) (ix2 k f) = wmat w k ⟨f.val, by omega⟩ := by
  pointwise
  blk_ext
theorem b0_at (b : Vec Ideal S1x6144 .f32) (f : Fin 1024) :
    (View.ld b rb0 : Vec Ideal S1x1024 .f32) (ix2 0 f) = bvec b ⟨f.val, by omega⟩ := by
  pointwise
  blk_ext
theorem w1024_at (w : Vec Ideal S1024x6144 .bf16) (k : Fin 1024) (f : Fin 1024) :
    (View.ld w rw1024 : Vec Ideal S1024x1024 .bf16) (ix2 k f) = wmat w k ⟨1024 + f.val, by omega⟩ := by
  pointwise
  blk_ext
theorem b1024_at (b : Vec Ideal S1x6144 .f32) (f : Fin 1024) :
    (View.ld b rb1024 : Vec Ideal S1x1024 .f32) (ix2 0 f) = bvec b ⟨1024 + f.val, by omega⟩ := by
  pointwise
  blk_ext
theorem w2048_at (w : Vec Ideal S1024x6144 .bf16) (k : Fin 1024) (f : Fin 1024) :
    (View.ld w rw2048 : Vec Ideal S1024x1024 .bf16) (ix2 k f) = wmat w k ⟨2048 + f.val, by omega⟩ := by
  pointwise
  blk_ext
theorem b2048_at (b : Vec Ideal S1x6144 .f32) (f : Fin 1024) :
    (View.ld b rb2048 : Vec Ideal S1x1024 .f32) (ix2 0 f) = bvec b ⟨2048 + f.val, by omega⟩ := by
  pointwise
  blk_ext
theorem w3072_at (w : Vec Ideal S1024x6144 .bf16) (k : Fin 1024) (f : Fin 1024) :
    (View.ld w rw3072 : Vec Ideal S1024x1024 .bf16) (ix2 k f) = wmat w k ⟨3072 + f.val, by omega⟩ := by
  pointwise
  blk_ext
theorem b3072_at (b : Vec Ideal S1x6144 .f32) (f : Fin 1024) :
    (View.ld b rb3072 : Vec Ideal S1x1024 .f32) (ix2 0 f) = bvec b ⟨3072 + f.val, by omega⟩ := by
  pointwise
  blk_ext
theorem w4096_at (w : Vec Ideal S1024x6144 .bf16) (k : Fin 1024) (f : Fin 1024) :
    (View.ld w rw4096 : Vec Ideal S1024x1024 .bf16) (ix2 k f) = wmat w k ⟨4096 + f.val, by omega⟩ := by
  pointwise
  blk_ext
theorem b4096_at (b : Vec Ideal S1x6144 .f32) (f : Fin 1024) :
    (View.ld b rb4096 : Vec Ideal S1x1024 .f32) (ix2 0 f) = bvec b ⟨4096 + f.val, by omega⟩ := by
  pointwise
  blk_ext
theorem w5120_at (w : Vec Ideal S1024x6144 .bf16) (k : Fin 1024) (f : Fin 1024) :
    (View.ld w rw5120 : Vec Ideal S1024x1024 .bf16) (ix2 k f) = wmat w k ⟨5120 + f.val, by omega⟩ := by
  pointwise
  blk_ext
theorem b5120_at (b : Vec Ideal S1x6144 .f32) (f : Fin 1024) :
    (View.ld b rb5120 : Vec Ideal S1x1024 .f32) (ix2 0 f) = bvec b ⟨5120 + f.val, by omega⟩ := by
  pointwise
  blk_ext

section
variable (X : FVec Ideal S1x512x1024 .bf16) (n : Fin 512 → Fin 1024 → EReal) (hX : ∀ p k, X (ix3 0 p k) = n p k)
include hX

theorem slot_flat (p : Fin 512) (k : Fin 1024) : k0_pay3 (F := Ideal) X (ix2 p k) = n p k := by
  refine Eq.trans ?_ (hX p k)
  pointwise [k0_pay3]

theorem pay0_at (W : Fin 1024 → Fin 6144 → EReal) (B : Fin 6144 → EReal) (e : Fin 1024 → Fin 6144) (w0 : Vec Ideal S1024x1024 .bf16) (b0 : Vec Ideal S1x1024 .f32)
    (h0 : ∀ k f, w0 (ix2 k f) = W k (e f)) (g0 : ∀ f, b0 (ix2 0 f) = B (e f)) (p : Fin 512) (f : Fin 1024) :
    k0_pay4 (F := Ideal) X w0 b0 (ix2 p f) = Nm.gelu (Nm.lin (n p) W B (e f)) := by
  rw [Nm.gelu, mul_comm (Nm.lin (n p) W B (e f) * Nm.lin (n p) W B (e f))]
  unfold Nm.lin
  simp only [← slot_flat X n hX, ← h0, ← g0]
  pointwise [k0_pay4]

theorem pay1_at (W : Fin 1024 → Fin 6144 → EReal) (B : Fin 6144 → EReal) (e : Fin 1024 → Fin 6144) (w0 : Vec Ideal S1024x1024 .bf16) (b0 : Vec Ideal S1x1024 .f32)
    (h0 : ∀ k f, w0 (ix2 k f) = W k (e f)) (g0 : ∀ f, b0 (ix2 0 f) = B (e f)) (p : Fin 512) (f : Fin 1024) :
    k0_pay5 (F := Ideal) (k0_pay3 X) w0 b0 (ix2 p f) = Nm.gelu (Nm.lin (n p) W B (e f)) := by
  rw [Nm.gelu, mul_comm (Nm.lin (n p) W B (e f) * Nm.lin (n p) W B (e f))]
  unfold Nm.lin
  simp only [← slot_flat X n hX, ← h0, ← g0]
  pointwise [k0_pay5]

theorem pay2_at (W : Fin 1024 → Fin 6144 → EReal) (B : Fin 6144 → EReal) (e : Fin 1024 → Fin 6144) (w0 : Vec Ideal S1024x1024 .bf16) (b0 : Vec Ideal S1x1024 .f32)
    (h0 : ∀ k f, w0 (ix2 k f) = W k (e f)) (g0 : ∀ f, b0 (ix2 0 f) = B (e f)) (p : Fin 512) (f : Fin 1024) :
    k0_pay7 (F := Ideal) (k0_pay6 (k0_pay3 X) w0 b0) (ix2 p f) = Nm.gelu (Nm.lin (n p) W B (e f)) := by
  rw [Nm.gelu, mul_comm (Nm.lin (n p) W B (e f) * Nm.lin (n p) W B (e f))]
  unfold Nm.lin
  simp only [← slot_flat X n hX, ← h0, ← g0]
  pointwise [k0_pay7, k0_pay6]

theorem pay3_at (W : Fin 1024 → Fin 6144 → EReal) (B : Fin 6144 → EReal) (e : Fin 1024 → Fin 6144) (w0 : Vec Ideal S1024x1024 .bf16) (b0 : Vec Ideal S1x1024 .f32)
    (h0 : ∀ k f, w0 (ix2 k f) = W k (e f)) (g0 : ∀ f, b0 (ix2 0 f) = B (e f)) (p : Fin 512) (f : Fin 1024) :
    k0_pay8 (F := Ideal) (k0_pay3 X) w0 b0 (ix2 p f) = Nm.gelu (Nm.lin (n p) W B (e f)) := by
  rw [Nm.gelu, mul_comm (Nm.lin (n p) W B (e f) * Nm.lin (n p) W B (e f))]
  unfold Nm.lin
  simp only [← slot_flat X n hX, ← h0, ← g0]
  pointwise [k0_pay8]

theorem pay4_at (W : Fin 1024 → Fin 6144 → EReal) (B : Fin 6144 → EReal) (e : Fin 1024 → Fin 6144) (w0 : Vec Ideal S1024x1024 .bf16) (b0 : Vec Ideal S1x1024 .f32)
    (h0 : ∀ k f, w0 (ix2 k f) = W k (e f)) (g0 : ∀ f, b0 (ix2 0 f) = B (e f)) (p : Fin 512) (f : Fin 1024) :
    k0_pay11 (F := Ideal) (k0_pay9 (k0_pay3 X) w0 b0) (k0_pay10 (k0_pay3 X) w0 b0) (ix2 p f) = Nm.gelu (Nm.lin (n p) W B (e f)) := by
  rw [Nm.gelu, mul_comm (Nm.lin (n p) W B (e f) * Nm.lin (n p) W B (e f))]
  unfold Nm.lin
  simp only [← slot_flat X n hX, ← h0, ← g0]
  pointwise [k0_pay11, k0_pay10, k0_pay9]

theorem pay5_at (W : Fin 1024 → Fin 6144 → EReal) (B : Fin 6144 → EReal) (e : Fin 1024 → Fin 6144) (w0 : Vec Ideal S1024x1024 .bf16) (b0 : Vec Ideal S1x1024 .f32)
    (h0 : ∀ k f, w0 (ix2 k f) = W k (e f)) (g0 : ∀ f, b0 (ix2 0 f) = B (e f)) (p : Fin 512) (f : Fin 1024) :
    k0_pay12 (F := Ideal) (k0_pay3 X) w0 b0 (ix2 p f) = Nm.gelu (Nm.lin (n p) W B (e f)) := by
  rw [Nm.gelu, mul_comm (Nm.lin (n p) W B (e f) * Nm.lin (n p) W B (e f))]
  unfold Nm.lin
  simp only [← slot_flat X n hX, ← h0, ← g0]
  pointwise [k0_pay12]

theorem piece0_at (w : Vec Ideal S1024x6144 .bf16) (b : Vec Ideal S1x6144 .f32) (p : Fin 512) (f : Fin 1024) :
    piece0 X w b (ix2 p f) = Nm.gelu (Nm.lin (n p) (wmat w) (bvec b) ⟨f.val, by omega⟩) :=
  pay0_at X n hX (wmat w) (bvec b) (fun f => ⟨f.val, by omega⟩) _ _ (w0_at w) (b0_at b) p f

theorem piece1_at (w : Vec Ideal S1024x6144 .bf16) (b : Vec Ideal S1x6144 .f32) (p : Fin 512) (f : Fin 1024) :
    piece1 X w b (ix2 p f) = Nm.gelu (Nm.lin (n p) (wmat w) (bvec b) ⟨1024 + f.val, by omega⟩) :=
  pay1_at X n hX (wmat w) (bvec b) (fun f => ⟨1024 + f.val, by omega⟩) _ _ (w1024_at w) (b1024_at b) p f

theorem piece2_at (w : Vec Ideal S1024x6144 .bf16) (b : Vec Ideal S1x6144 .f32) (p : Fin 512) (f : Fin 1024) :
    piece2 X w b (ix2 p f) = Nm.gelu (Nm.lin (n p) (wmat w) (bvec b) ⟨2048 + f.val, by omega⟩) :=
  pay2_at X n hX (wmat w) (bvec b) (fun f => ⟨2048 + f.val, by omega⟩) _ _ (w2048_at w) (b2048_at b) p f

theorem piece3_at (w : Vec Ideal S1024x6144 .bf16) (b : Vec Ideal S1x6144 .f32) (p : Fin 512) (f : Fin 1024) :
    piece3 X w b (ix2 p f) = Nm.gelu (Nm.lin (n p) (wmat w) (bvec b) ⟨3072 + f.val, by omega⟩) :=
  pay3_at X n hX (wmat w) (bvec b) (fun f => ⟨3072 + f.val, by omega⟩) _ _ (w3072_at w) (b3072_at b) p f

theorem piece4_at (w : Vec Ideal S1024x6144 .bf16) (b : Vec Ideal S1x6144 .f32) (p : Fin 512) (f : Fin 1024) :
    piece4 X w b (ix2 p f) = Nm.gelu (Nm.lin (n p) (wmat w) (bvec b) ⟨4096 + f.val, by omega⟩) :=
  pay4_at X n hX (wmat w) (bvec b) (fun f => ⟨4096 + f.val, by omega⟩) _ _ (w4096_at w) (b4096_at b) p f

theorem piece5_at (w : Vec Ideal S1024x6144 .bf16) (b : Vec Ideal S1x6144 .f32) (p : Fin 512) (f : Fin 1024) :
    piece5 X w b (ix2 p f) = Nm.gelu (Nm.lin (n p) (wmat w) (bvec b) ⟨5120 + f.val, by omega⟩) :=
  pay5_at X n hX (wmat w) (bvec b) (fun f => ⟨5120 + f.val, by omega⟩) _ _ (w5120_at w) (b5120_at b) p f

theorem outv_at (w : Vec Ideal S1024x6144 .bf16) (b : Vec Ideal S1x6144 .f32) (p : Fin 512) (f : Fin 6144) :
    outv X w b (ix2 p f) = Nm.gelu (Nm.lin (n p) (wmat w) (bvec b) f) := by
  unfold outv
  canon_tiles x h
  · idx_vars x
    have e0 : p = x0 := Fin.ext h0
    have e1 : f = ⟨5120 + x1.val, by omega⟩ := Fin.ext h1
    rw [e0, e1]
    exact piece5_at X n hX w b x0 x1
  · idx_vars x
    have e0 : p = x0 := Fin.ext h0
    have e1 : f = ⟨4096 + x1.val, by omega⟩ := Fin.ext h1
    rw [e0, e1]
    exact piece4_at X n hX w b x0 x1
  · idx_vars x
    have e0 : p = x0 := Fin.ext h0
    have e1 : f = ⟨3072 + x1.val, by omega⟩ := Fin.ext h1
    rw [e0, e1]
    exact piece3_at X n hX w b x0 x1
  · idx_vars x
    have e0 : p = x0 := Fin.ext h0
    have e1 : f = ⟨2048 + x1.val, by omega⟩ := Fin.ext h1
    rw [e0, e1]
    exact piece2_at X n hX w b x0 x1
  · idx_vars x
    have e0 : p = x0 := Fin.ext h0
    have e1 : f = ⟨1024 + x1.val, by omega⟩ := Fin.ext h1
    rw [e0, e1]
    exact piece1_at X n hX w b x0 x1
  · idx_vars x
    have e0 : p = x0 := Fin.ext h0
    have e1 : f = ⟨x1.val, by omega⟩ := Fin.ext h1
    rw [e0, e1]
    exact piece0_at X n hX w b x0 x1

end

theorem block_at (x : Vec Ideal S512x1024 .f32) (g : Vec Ideal S1x1024 .f32) (w : Vec Ideal S1024x6144 .bf16) (b : Vec Ideal S1x6144 .f32) (p : Fin 512) (f : Fin 6144) :
    outv (nrm x g) w b (ix2 p f) = Nm.gelu (Nm.lin (Swi.nrow (brow x p) (grow g)) (wmat w) (bvec b) f) :=
  outv_at (nrm x g) (fun p => Swi.nrow (brow x p) (grow g)) (nrm_at x g) w b p f

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The result as the kernel forms it, row `r`, lane `f`. -/
def ker (x : FVec Ideal S2x16384x1024 .f32) (g : FVec Ideal S1024 .f32) (w : FVec Ideal S1024x6144 .f32) (b : FVec Ideal S6144 .f32) (r : Fin 32768) (f : Fin 6144) : EReal :=
  Nm.gelu (Nm.lin (Swi.nrow (xrow x r) (fun k => g (ix1 k))) (fun k f => w (ix2 k f)) (fun f => b (ix1 f)) f)

theorem idx : ∀ t : Fin cfg0.N,
    win0_0.index t = ![min t.val 63, 0] ∧ win0_1.index t = ![0, 0] ∧ win0_2.index t = ![0, 0] ∧ win0_3.index t = ![0, 0]
    ∧ win0_4.index t = ![t.val - 1, 0] ∧ t.val < 65 :=
  (by decide +kernel : ∀ t : Fin grid0.N, _)

theorem flush_pos : ∀ t : Fin cfg0.N, (cfg0.win 4).flush t = true → t.val ≠ 0 :=
  (by decide +kernel : ∀ t : Fin grid0.N, (cfg0.win 4).flush t = true → t.val ≠ 0)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x6144 .f32) : FVec Ideal S1024x6144 .bf16 := truncf .bf16 w bitsLt_bf16_f32
def nb (b : FVec Ideal S6144 .f32) : FVec Ideal S1x6144 .f32 := shapeCast S1x6144 b shapeCasts_S6144_S1x6144

theorem V_x (c : Dev nD) : V m c main_v0 = rows (m ((c : Thread nD τ).loc main_arg0)) := by
  entry_read
  rfl
theorem V_w (c : Dev nD) : V m c main_v1 = nw (m ((c : Thread nD τ).loc main_arg2)) := by
  entry_read
  rfl
theorem V_g (c : Dev nD) : V m c main_v2 = flat (m ((c : Thread nD τ).loc main_arg1)) := by
  entry_read
  rfl
theorem V_b (c : Dev nD) : V m c main_v3 = nb (m ((c : Thread nD τ).loc main_arg3)) := by
  entry_read
  rfl

theorem x_at (c : Dev nD) (t : Fin cfg0.N) (p : Fin 512) (k : Fin 1024) (r : Fin 32768) (ht : t.val < 64) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 1 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 6144) :
    wmat (iblk m c 2 t) k f = m ((c : Thread nD τ).loc main_arg2) (ix2 k f) := by
  blk_simp [wmat, iblk, idx t]
  rw [V_w]
  pointwise [nw]
  blk_ext [idx t]

theorem b_at (c : Dev nD) (t : Fin cfg0.N) (f : Fin 6144) :
    bvec (iblk m c 3 t) f = m ((c : Thread nD τ).loc main_arg3) (ix1 f) := by
  blk_simp [bvec, iblk, idx t]
  rw [V_b]
  pointwise [nb]
  blk_ext [idx t]

/-- A later point's results: those of the block before. -/
theorem point (c : Dev nD) (t : Fin cfg0.N) (hz : t.val ≠ 0) (p : Fin 512) (l : Fin 6144) (r : Fin 32768) (hr : r.val = (t.val - 1) * 512 + p.val) :
    outv (nrm (iblk m c 0 (prev t)) (iblk m c 1 (prev t))) (iblk m c 2 t) (iblk m c 3 t) (ix2 p l)
      = ker (m ((c : Thread nD τ).loc main_arg0)) (m ((c : Thread nD τ).loc main_arg1)) (m ((c : Thread nD τ).loc main_arg2)) (m ((c : Thread nD τ).loc main_arg3)) r l := by
  have ht := (idx t).2.2.2.2.2
  refine (block_at _ _ _ _ p l).trans ?_
  have ex : brow (iblk m c 0 (prev t)) p = xrow (m ((c : Thread nD τ).loc main_arg0)) r := funext fun k => x_at m c (prev t) p k r (by show t.val - 1 < 64; omega) hr
  have eg : grow (iblk m c 1 (prev t)) = fun k => m ((c : Thread nD τ).loc main_arg1) (ix1 k) := funext fun k => g_at m c (prev t) k
  have ew : wmat (iblk m c 2 t) = fun k f => m ((c : Thread nD τ).loc main_arg2) (ix2 k f) := funext fun k => funext fun f => w_at m c t k f
  have eb : bvec (iblk m c 3 t) = fun f => m ((c : Thread nD τ).loc main_arg3) (ix1 f) := funext fun f => b_at m c t f
  rw [ex, eg, ew, eb]
  rfl

/-- The result array after the run. -/
theorem final (c : Dev nD) : (dats m 0 c).arrAt 4 (cfgs 0).N = fun i : S32768x6144.Idx => ker (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  have hz := flush_pos t hf
  blk_simp
  rw [after0_4]
  idx_vars y
  refine (point m c t hz y0 y1 _ ?_).trans (congrArg (ker (m ((c : Thread nD τ).loc main_arg0)) (m ((c : Thread nD τ).loc main_arg1)) (m ((c : Thread nD τ).loc main_arg2)) (m ((c : Thread nD τ).loc main_arg3)) _) (Fin.ext ?_))
  all_goals (blk_simp [idx t] <;> try omega)

end Cert.BInBody
-- ==== Proof.BInRef.lean ====
module

public import proofs.«01_k».proof.Proof.Gen.BInRefIdeal.Read
public import proofs.«01_k».proof.Proof.Nm
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.BInRefIdeal.Val
open Cert.BInRefIdeal Cert.BInRefIdeal.Gen Cert.BInRefIdeal.Read

variable (x : FVec Ideal S2x16384x1024 .f32) (g : FVec Ideal S1024 .f32) (w : FVec Ideal S1024x6144 .f32) (bb : FVec Ideal S6144 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 6144) :
    val_main_v16 (F := Ideal) x g w bb (ix3 b s f) = Nm.lin (Swi.nrow (fun k => x (ix3 b s k)) (fun k => g (ix1 k))) (fun k f => w (ix2 k f)) (fun f => bb (ix1 f)) f := by
  unfold Nm.lin
  simp only [← norm_at]
  pointwise [val_main_v16, val_main_v15, val_main_v14, val_main_v13]

theorem act_at (b : Fin 2) (s : Fin 16384) (f : Fin 6144) :
    val_main_v29 (F := Ideal) x g w bb (ix3 b s f) = Nm.gelu (Nm.lin (Swi.nrow (fun k => x (ix3 b s k)) (fun k => g (ix1 k))) (fun k f => w (ix2 k f)) (fun f => bb (ix1 f)) f) := by
  unfold Nm.gelu
  simp only [← lin_at]
  pointwise [val_main_v29, val_main_v28, val_main_v27, val_main_v26, val_main_v25, val_main_v24, val_main_v23, val_main_v22, val_main_v21, val_main_v20, val_main_v19, val_main_v18, val_main_v17, val_main_cst_2, val_main_cst_3, val_main_cst_4, val_main_cst_5]

theorem result_at (r : Fin 32768) (f : Fin 6144) :
    val_main_v31 (F := Ideal) x g w bb (ix2 r f) = Nm.gelu (Nm.lin (Swi.nrow (fun k => x (ix3 ⟨r.val / 16384, by omega⟩ ⟨r.val % 16384, by omega⟩ k)) (fun k => g (ix1 k))) (fun k f => w (ix2 k f)) (fun f => bb (ix1 f)) f) := by
  refine Eq.trans ?_ (act_at x g w bb ⟨r.val / 16384, by omega⟩ ⟨r.val % 16384, by omega⟩ f)
  pointwise [val_main_v31, val_main_v30]
  blk_ext

end Cert.BInRefIdeal.Val
-- ==== Proof.BInClaims.lean ====
module

public import proofs.«01_k».proof.Defs
public import proofs.«01_k».proof.Proof.BInVal
public import proofs.«01_k».proof.Proof.BInRef
public import proofs.«01_k».proof.Proof.Gen.BIn
public import proofs.«01_k».proof.Proof.Gen.BInRefIdeal.Run
public import Idealize.ShloMosaic.Lib.Claim

@[expose] public section

set_option maxRecDepth 16384

noncomputable section

open Idealize.ShloMosaic Idealize.ShloMosaic.TcCoe Idealize.SL.Sem

/-! # The claims about the call BIn -/

namespace Cert.BInClaims

/-- Both programs' kernel bodies are the same text. -/
theorem bodies_eq : Cert.BIn.defs₀ (F := Bits) = Cert.BInIdeal.defs₀ (F := Bits) := by
  unfold Cert.BIn.defs₀ Cert.BInIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.BIn.defs (F := Bits) = Cert.BInIdeal.defs (F := Bits) := congrArg (Pipeline.defs _) bodies_eq

theorem frame_p : Cert.quiescent_BIn := fun m ρ _ => by
  rw [defs_eq]
  exact Cert.BInBody.frame (F := Bits) m ρ
theorem frame_pi : Cert.quiescent_BInIdeal := fun m ρ _ => Cert.BInBody.frame m ρ
theorem frame_ri : Cert.quiescent_BInRefIdeal := fun m ρ _ =>
  (θ_run Cert.BInRefIdeal.defs _ _).mono (fun r h => ⟨fun c => (h c).2, Idealize.ShloMosaic.sem_eq_zero_of_no_sems (by decide) r.2⟩)
    (Cert.BInRefIdeal.Value.run (F := Ideal) m ρ)

theorem preserves : Cert.preserves_BIn_BInIdeal := trivial

theorem algebraic : Cert.algebraic_BInIdeal_BInRefIdeal := by
  intro m g m' g' hpre hagree
  refine ⟨fun c => (Cert.BInBody.dats m 0 c).arrAt 4 (Cert.BInIdeal.cfgs 0).N, ?_, ?_⟩
  · run_from Cert.BInBody.run_main m g
  · refine (θ_run Cert.BInRefIdeal.defs _ _).mono (fun r h c => ⟨(h c).1.trans ?_, (h c).2⟩) (Cert.BInRefIdeal.Value.run (F := Ideal) m' g')
    refine Eq.trans ?_ (Cert.BInBody.final m c).symm
    rw [Cert.BInRefIdeal.Read.val_main_v31_eq, (hagree c).1, (hagree c).2.1, (hagree c).2.2.1, (hagree c).2.2.2]
    refine funext fun i => ?_
    obtain ⟨r, l, rfl⟩ : ∃ (r : Fin 32768) (l : Fin 6144), i = ix2 r l := ⟨i 0, i 1, eq_ix2 i⟩
    exact Cert.BInRefIdeal.Val.result_at _ _ _ _ r l

end Cert.BInClaims
-- ==== Proof.CInBody.lean ====
module

public import proofs.«01_k».proof.Proof.Slot
public import proofs.«01_k».proof.Proof.Gen.CInIdeal.Skeleton
public import proofs.«01_k».proof.Proof.Gen.CInIdeal.Frame
public import Idealize.ShloMosaic.Lib.Claim
public import Idealize.ShloMosaic.Lib.VecWindow
public import Idealize.ShloMosaic.Lib.WritesUnit

@[expose] public section

set_option maxRecDepth 16384

noncomputable section

namespace Cert.CInBody

open Cert.CInIdeal Cert.CInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of the first slot of the scratch, of the slot a point reads and of the slot
    it fills; then the weights', the bias's and the results' column ranges. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) (h : k0_cond2 i = 1#1) : Rect S2x512x1024 := Rect.unit (s := S2x512x1024) (k0_off1 i) S1x512x1024.size (k0_off1_inb i h)
abbrev rnext (i : grid0.Coords) (h : k0_cond2 i = 1#1) : Rect S2x512x1024 := Rect.unit (s := S2x512x1024) (k0_off2 i) S1x512x1024.size (k0_off2_inb i h)
abbrev rw0 : Rect S1024x2048 := Rect.unit (s := S1024x2048) ![0, 0] S1024x512.size inb_S1024x2048_S1024x512_0_0
abbrev rb0 : Rect S1x2048 := Rect.unit (s := S1x2048) ![0, 0] S1x512.size inb_S1x2048_S1x512_0_0
abbrev rw512 : Rect S1024x2048 := Rect.unit (s := S1024x2048) ![0, 512] S1024x512.size inb_S1024x2048_S1024x512_0_512
abbrev rb512 : Rect S1x2048 := Rect.unit (s := S1x2048) ![0, 512] S1x512.size inb_S1x2048_S1x512_0_512
abbrev rw1024 : Rect S1024x2048 := Rect.unit (s := S1024x2048) ![0, 1024] S1024x512.size inb_S1024x2048_S1024x512_0_1024
abbrev rb1024 : Rect S1x2048 := Rect.unit (s := S1x2048) ![0, 1024] S1x512.size inb_S1x2048_S1x512_0_1024
abbrev rw1536 : Rect S1024x2048 := Rect.unit (s := S1024x2048) ![0, 1536] S1024x512.size inb_S1024x2048_S1024x512_0_1536
abbrev rb1536 : Rect S1x2048 := Rect.unit (s := S1x2048) ![0, 1536] S1x512.size inb_S1x2048_S1x512_0_1536
abbrev ro0 : Rect S512x1024 := Rect.unit (s := S512x1024) ![0, 0] S512x512.size inb_S512x1024_S512x512_0_0
abbrev ro512 : Rect S512x1024 := Rect.unit (s := S512x1024) ![0, 512] S512x512.size inb_S512x1024_S512x512_0_512

theorem slot_inb (n : ℕ) : ∀ a, (![n % 2, 0, 0] : Fin 3 → ℕ) a + S1x512x1024.size a ≤ S2x512x1024.size a := by
  rcases Nat.mod_two_eq_zero_or_one n with h | h <;> rw [h] <;> decide

/-- Slot `n % 2` of the scratch. -/
abbrev rslot (n : ℕ) : Rect S2x512x1024 := Rect.unit (s := S2x512x1024) ![n % 2, 0, 0] S1x512x1024.size (slot_inb n)

/-- A block's rows, normalized: what the body stores in a slot of the scratch. -/
def nrm (x : Vec F S512x1024 .f32) (g : Vec F S1x1024 .f32) : FVec F S1x512x1024 .bf16 :=
  k0_pay1 (View.ld x rx) (View.ld g rg)

/-- The results' columns from 0 on, from the normalized rows `X`. -/
def piece0 (X : Vec F S1x512x1024 .bf16) (w : Vec F S1024x2048 .bf16) (bb : Vec F S1x2048 .f32) : FVec F S512x512 .f32 :=
  k0_pay4 X (View.ld w rw0) (View.ld bb rb0) (View.ld w rw1024) (View.ld bb rb1024)

/-- The results' columns from 512 on, from the normalized rows `X`. -/
def piece1 (X : Vec F S1x512x1024 .bf16) (w : Vec F S1024x2048 .bf16) (bb : Vec F S1x2048 .f32) : FVec F S512x512 .f32 :=
  k0_pay6 (k0_pay3 X) (k0_pay5 X (View.ld w rw512)) (View.ld bb rb512) (View.ld w rw1536) (View.ld bb rb1536)

/-- The block of results: its column ranges together. -/
def outv (X : Vec F S1x512x1024 .bf16) (w : Vec F S1024x2048 .bf16) (bb : Vec F S1x2048 .f32) : FVec F S512x1024 .f32 :=
  View.canon (Val := Elt F) (s := S512x1024) (e := .f32) [⟨ro512, piece1 X w bb⟩, ⟨ro0, piece0 X w bb⟩]

theorem cover (p0 : Vec F S512x512 .f32) (p1 : Vec F S512x512 .f32) (y : S512x1024.Idx) :
    ∃ p ∈ ([⟨ro512, p1⟩, ⟨ro0, p0⟩] : List (View.Piece (Elt F) S512x1024 .f32)), y ∈ p.1.set :=
  View.cover_of_tiled [⟨ro512, p1⟩, ⟨ro0, p0⟩] S512x512.size (by rfl) y

/-! ## The slots and the conditions -/

/-- The condition of the first point. -/
abbrev cond (i : grid0.Coords) : Prop := (Scalar.cmpi .ne (Scalar.extui (Scalar.cmpi .eq (BitVec.ofNat 32 (i 0).val) 0#32)) 0#32) = 1#1

theorem coord_val (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  rw [e0]; omega

theorem cond_of : ∀ n : Fin 65, ∀ i : grid0.Coords, (i 0).val = n.val → (cond i ↔ n.val = 0) := by
  intro n i h
  have : ∀ n : Fin 65, (Scalar.cmpi .ne (Scalar.extui (Scalar.cmpi .eq (BitVec.ofNat 32 n.val) 0#32)) 0#32) = 1#1 ↔ n.val = 0 := by decide +kernel
  show (Scalar.cmpi .ne (Scalar.extui (Scalar.cmpi .eq (BitVec.ofNat 32 (i 0).val) 0#32)) 0#32) = 1#1 ↔ _
  rw [h]; exact this n

theorem cond2_of : ∀ n : Fin 65, ∀ i : grid0.Coords, (i 0).val = n.val → (k0_cond2 i = 1#1 ↔ n.val ≠ 0) := by
  intro n i h
  have : ∀ n : Fin 65, (Scalar.cmpi .ne (Scalar.extui (Scalar.cmpi .sgt (BitVec.ofNat 32 n.val) 0#32)) 0#32) = 1#1 ↔ n.val ≠ 0 := by decide +kernel
  show (Scalar.cmpi .ne (Scalar.extui (Scalar.cmpi .sgt (BitVec.ofNat 32 (i 0).val) 0#32)) 0#32) = 1#1 ↔ _
  rw [h]; exact this n

theorem hcond (t : Fin cfg0.N) : cond (grid0.coords t) ↔ t.val = 0 := cond_of ⟨t.val, Nat.lt_of_lt_of_eq t.isLt N_0⟩ _ (coord_val t)
theorem hcond2 (t : Fin cfg0.N) : k0_cond2 (grid0.coords t) = 1#1 ↔ t.val ≠ 0 := cond2_of ⟨t.val, Nat.lt_of_lt_of_eq t.isLt N_0⟩ _ (coord_val t)

/-- The slot a point reads, and the slot it fills, by the point's first coordinate. -/
theorem off1_of : ∀ n : Fin 65, ∀ i : grid0.Coords, (i 0).val = n.val → k0_off1 i = ![(n.val + 1) % 2, 0, 0] := by
  intro n i h
  show ![_, 0, 0] = _
  rw [h]
  exact congrArg (fun z => ![z, 0, 0]) (Slot.prev n)

theorem off2_of : ∀ n : Fin 65, ∀ i : grid0.Coords, (i 0).val = n.val → k0_off2 i = ![n.val % 2, 0, 0] := by
  intro n i h
  show ![_, 0, 0] = _
  rw [h]
  exact congrArg (fun z => ![z, 0, 0]) (Slot.own n)

instance closedOff1 (i : grid0.Coords) : ClosedOff (k0_off1 i) := ⟨![((i 0).val + 1) % 2, 0, 0], off1_of ⟨(i 0).val, (i 0).isLt⟩ i rfl⟩
instance closedOff2 (i : grid0.Coords) : ClosedOff (k0_off2 i) := ⟨![(i 0).val % 2, 0, 0], off2_of ⟨(i 0).val, (i 0).isLt⟩ i rfl⟩

theorem off1 (t : Fin cfg0.N) : k0_off1 (grid0.coords t) = ![(t.val + 1) % 2, 0, 0] :=
  off1_of ⟨t.val, Nat.lt_of_lt_of_eq t.isLt N_0⟩ _ (coord_val t)

theorem off2 (t : Fin cfg0.N) : k0_off2 (grid0.coords t) = ![t.val % 2, 0, 0] :=
  off2_of ⟨t.val, Nat.lt_of_lt_of_eq t.isLt N_0⟩ _ (coord_val t)

theorem ld_congr (ys : Vec F S2x512x1024 .bf16) : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
  rintro a b ha hb rfl; rfl

/-! ## The body's runs -/

set_option maxHeartbeats 2000000 in
/-- The body at the first point: it fills the first slot and leaves the results' buffer alone. -/
theorem sound_A (c : Dev nD) (E : Set ℕ) (i : grid0.Coords) (hc : cond i) (hc2 : ¬k0_cond2 i = 1#1) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x1024 .f32) (harg5 : arg5.IsWhole) (arg6 : Memref sig .tc .vmem S2x512x1024 .bf16) (harg6 : arg6.IsWhole)
    (x0 : Vec F S512x1024 .f32) (x1 : Vec F S1x1024 .f32) (x2 : Vec F S1024x2048 .bf16) (x3 : Vec F S1x2048 .f32) (d5 : Vec F S512x1024 .f32) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5
          ∗ (∃ ys, owns (c : Thread nD τ) arg6 fullShare ys ∗ ⌜View.ld ys (rslot 0) = nrm x0 x1⌝)) -∗ K ⟨⟩))
      ⊢ wp frame (wpE (defs₀ (F := F)) Variants.none c none) E (cc0_c_pw1 i arg1 harg1 arg2 harg2 arg3 harg3 arg4 harg4 arg5 harg5 arg6 harg6) K := by
  simp only [cc0_c_pw1_eq_skeleton]; unfold cc0_c_pw1_skel
  unfold owns
  iintro ⟨⟨%f0, %hf0, H0⟩, ⟨%f1, %hf1, H1⟩, ⟨%f2, %hf2, H2⟩, ⟨%f3, %hf3, H3⟩, ⟨%f5, %hf5, H5⟩, ⟨%fs, %hfs, HS⟩, Hk⟩
  subst hf0 hf1 hf2 hf3 hf5 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  iexists _
  isplitl [HS]
  · iexists _; isplitr
    swap; · iexact HS
    ipureintro; rfl
  ipureintro
  funext y
  exact View.read_writes_cons_emb _ _ (rslot 0) _ _ y

set_option maxHeartbeats 2000000 in
/-- The body at a later point: from the slot it reads it makes the block of results, then it fills the other slot. -/
theorem sound_B (c : Dev nD) (E : Set ℕ) (i : grid0.Coords) (hc : ¬cond i) (hc2 : k0_cond2 i = 1#1) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S512x1024 .f32) (harg5 : arg5.IsWhole) (arg6 : Memref sig .tc .vmem S2x512x1024 .bf16) (harg6 : arg6.IsWhole)
    (x0 : Vec F S512x1024 .f32) (x1 : Vec F S1x1024 .f32) (x2 : Vec F S1024x2048 .bf16) (x3 : Vec F S1x2048 .f32) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outv (View.ld xs (rcur i hc2)) x2 x3)
          ∗ (∃ ys, owns (c : Thread nD τ) arg6 fullShare ys ∗ ⌜View.ld ys (rnext i hc2) = nrm x0 x1⌝)) -∗ K ⟨⟩))
      ⊢ wp frame (wpE (defs₀ (F := F)) Variants.none c none) E (cc0_c_pw1 i arg1 harg1 arg2 harg2 arg3 harg3 arg4 harg4 arg5 harg5 arg6 harg6) K := by
  simp only [cc0_c_pw1_eq_skeleton]; unfold cc0_c_pw1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%fs, %hfs, HS⟩, Hk⟩
  subst hf0 hf1 hf2 hf3 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    refine (View.read_writes_eq_canon _ _ _ (cover _ _)).trans ?_
    rfl
  iexists _
  isplitl [HS]
  · iexists _; isplitr
    swap; · iexact HS
    ipureintro; rfl
  ipureintro
  funext y
  exact View.read_writes_cons_emb _ _ (rnext i hc2) _ _ y

/-! ## The proof data -/

/-- The point before, and the first point's own self. -/
def prev (t : Fin cfg0.N) : Fin cfg0.N := ⟨t.val - 1, Nat.lt_of_le_of_lt (Nat.sub_le _ _) t.isLt⟩

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` slot `n % 2` holds the normalized rows of point
    `n`'s block. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rslot n) = nrm (iblk m c 0 ⟨n, hn⟩) (iblk m c 1 ⟨n, hn⟩)⌝) ∗ (∃ r, prngReg c r))

/-- The proof data: arrays as the region finds them; each input's buffer left at its block, the output's at the results of
    the block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv (nrm (iblk m c 0 (prev t)) (iblk m c 1 (prev t))) (iblk m c 2 t) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outv (nrm (iblk m c 0 (prev t)) (iblk m c 1 (prev t))) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle_first (t : Fin cfg0.N) (h : t.val = 0) : cfg0.idle 4 (cfg0.grid.coords t) = true := by
  show (!(k0_cond2 (grid0.coords t) == 1#1)) = true
  have : ¬ k0_cond2 (grid0.coords t) = 1#1 := fun e => (hcond2 t).mp e h
  simp [this]

theorem idle_later (t : Fin cfg0.N) (h : t.val ≠ 0) : cfg0.idle 4 (cfg0.grid.coords t) = false := by
  show (!(k0_cond2 (grid0.coords t) == 1#1)) = false
  have : k0_cond2 (grid0.coords t) = 1#1 := (hcond2 t).mpr h
  simp [this]

theorem flush_first (t : Fin cfg0.N) (h : t.val = 0) : (cfg0.win 4).flush t = false := by
  obtain ⟨n, hn⟩ := t
  obtain rfl : n = 0 := h
  exact (by decide +kernel : ∀ h, (cfg0.win 4).flush ⟨0, h⟩ = false) hn

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))

/-- What every point leaves: the invariant and the inputs' buffers; the output's buffer as `R` says. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ R)

set_option maxHeartbeats 2000000 in
theorem sound_first (c : Dev nD) (t : Fin cfg0.N) (hz : t.val = 0) :
    bodyPre m c t ⊢ wp frame (wpE (defs₀ (F := F)) Variants.none c none) Set.univ (bodyAt0 t)
      (fun _ => bodyPost m c t iprop(∃ d, owns (c : Thread nD τ) (st0_4 t) fullShare ((dats m 0 c).before 4 t d))) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_castSucc m c t]
  have e1 : PhiS m c t.val (Nat.le_of_lt t.isLt) = Pipeline.ΦA spec0 c := by
    have : ∀ n h, n = 0 → PhiS m c n h = Pipeline.ΦA spec0 c := by rintro n h rfl; rfl
    exact this _ _ hz
  have e2 : ∀ ys : Vec F S2x512x1024 .bf16, (View.ld ys (rslot t.val) : FVec F S1x512x1024 .bf16) = View.ld ys (rslot 0) := fun ys =>
    ld_congr ys _ _ _ _ (by rw [hz])
  rw [e1, PhiA0_eq]
  simp only [PhiS, e2]
  iintro ⟨⟨⟨%xs, HS⟩, Hg⟩, Ho, ⟨%d0, H0⟩, ⟨%d1, H1⟩, ⟨%d2, H2⟩, ⟨%d3, H3⟩, ⟨%dO, HO⟩⟩
  iapply (sound_A c Set.univ (grid0.coords t) ((hcond t).mpr hz) (fun e => (hcond2 t).mp e hz) _ _ _ _ _ _ _ _ _ _ _ _ (iblk m c 0 t) (iblk m c 1 t) (iblk m c 2 t) (iblk m c 3 t) ((dats m 0 c).before 4 t dO) xs _)
  isplitl [H0]; · iexact H0
  isplitl [H1]; · iexact H1
  isplitl [H2]; · iexact H2
  isplitl [H3]; · iexact H3
  isplitl [HO]; · iexact HO
  isplitl [HS]; · iexact HS
  iintro ⟨H0, H1, H2, H3, HO, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexists dO
  iexact HO

set_option maxHeartbeats 2000000 in
theorem sound_later (c : Dev nD) (t : Fin cfg0.N) (hz : t.val ≠ 0) :
    bodyPre m c t ⊢ wp frame (wpE (defs₀ (F := F)) Variants.none c none) Set.univ (bodyAt0 t)
      (fun _ => bodyPost m c t iprop(owns (c : Thread nD τ) (st0_4 t) fullShare ((dats m 0 c).after 4 t))) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_castSucc m c t]
  have hc2 := (hcond2 t).mpr hz
  have e1 : PhiS m c t.val (Nat.le_of_lt t.isLt) = iprop((∃ ys : Vec F S2x512x1024 .bf16, owns (c : Thread nD τ) scM fullShare ys
      ∗ ⌜View.ld ys (rcur (grid0.coords t) hc2) = nrm (iblk m c 0 (prev t)) (iblk m c 1 (prev t))⌝) ∗ (∃ r, prngReg c r)) := by
    have e3 : ∀ ys : Vec F S2x512x1024 .bf16, (View.ld ys (rcur (grid0.coords t) hc2) : FVec F S1x512x1024 .bf16) = View.ld ys (rslot (t.val - 1)) := fun ys =>
      ld_congr ys _ _ _ _ (by rw [off1, show (t.val + 1) % 2 = (t.val - 1) % 2 by omega])
    have : ∀ n (h : n ≤ cfg0.N), (hn : n ≠ 0) → PhiS m c n h = iprop((∃ ys : Vec F S2x512x1024 .bf16, owns (c : Thread nD τ) scM fullShare ys
      ∗ ⌜View.ld ys (rslot (n - 1)) = nrm (iblk m c 0 ⟨n - 1, by omega⟩) (iblk m c 1 ⟨n - 1, by omega⟩)⌝) ∗ (∃ r, prngReg c r)) := by
      intro n h hn
      cases n with
      | zero => exact absurd rfl hn
      | succ k => rfl
    rw [this _ _ hz]
    simp only [e3]
    rfl
  have e2 : ∀ ys : Vec F S2x512x1024 .bf16, (View.ld ys (rslot t.val) : FVec F S1x512x1024 .bf16) = View.ld ys (rnext (grid0.coords t) hc2) := fun ys =>
    ld_congr ys _ _ _ _ (off2 t).symm
  rw [e1]
  simp only [PhiS, e2]
  iintro ⟨⟨⟨%xs, ⟨HS, %hxs⟩⟩, Hg⟩, Ho, ⟨%d0, H0⟩, ⟨%d1, H1⟩, ⟨%d2, H2⟩, ⟨%d3, H3⟩, ⟨%dO, HO⟩⟩
  rw [← hxs]
  iapply (sound_B c Set.univ (grid0.coords t) (fun e => hz ((hcond t).mp e)) hc2 _ _ _ _ _ _ _ _ _ _ _ _ (iblk m c 0 t) (iblk m c 1 t) (iblk m c 2 t) (iblk m c 3 t) xs _)
  isplitl [H0]; · iexact H0
  isplitl [H1]; · iexact H1
  isplitl [H2]; · iexact H2
  isplitl [H3]; · iexact H3
  isplitl [HO]; · iexists _; iexact HO
  isplitl [HS]; · iexact HS
  iintro ⟨H0, H1, H2, H3, HO, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hz : t.val = 0
  · rw [idle_first t hz, flush_first t hz]
    exact sound_first m c t hz
  · rw [idle_later t hz]
    exact sound_later m c t hz

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 65 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.CInBody

end
-- ==== Proof.CInVal.lean ====
module

public import proofs.«01_k».proof.Proof.CInBody
public import proofs.«01_k».proof.Proof.Nm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CInBody
open Cert.CInIdeal Cert.CInIdeal.Gen

/-! ## One block of results -/

/-- A row of a block, the one row of a scale, the weights and the bias, entry by entry. -/
abbrev brow (x : Vec Ideal S512x1024 .f32) (p : Fin 512) (k : Fin 1024) : EReal := x (ix2 p k)
abbrev grow (g : Vec Ideal S1x1024 .f32) (k : Fin 1024) : EReal := g (ix2 0 k)
abbrev wmat (w : Vec Ideal S1024x2048 .bf16) (k : Fin 1024) (f : Fin 2048) : EReal := w (ix2 k f)
abbrev bvec (b : Vec Ideal S1x2048 .f32) (f : Fin 2048) : EReal := b (ix2 0 f)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay1, Swi.nrow]

theorem w0_at (w : Vec Ideal S1024x2048 .bf16) (k : Fin 1024) (f : Fin 512) :
    (View.ld w rw0 : Vec Ideal S1024x512 .bf16) (ix2 k f) = wmat w k ⟨f.val, by omega⟩ := by
  pointwise
  blk_ext
theorem b0_at (b : Vec Ideal S1x2048 .f32) (f : Fin 512) :
    (View.ld b rb0 : Vec Ideal S1x512 .f32) (ix2 0 f) = bvec b ⟨f.val, by omega⟩ := by
  pointwise
  blk_ext
theorem w512_at (w : Vec Ideal S1024x2048 .bf16) (k : Fin 1024) (f : Fin 512) :
    (View.ld w rw512 : Vec Ideal S1024x512 .bf16) (ix2 k f) = wmat w k ⟨512 + f.val, by omega⟩ := by
  pointwise
  blk_ext
theorem b512_at (b : Vec Ideal S1x2048 .f32) (f : Fin 512) :
    (View.ld b rb512 : Vec Ideal S1x512 .f32) (ix2 0 f) = bvec b ⟨512 + f.val, by omega⟩ := by
  pointwise
  blk_ext
theorem w1024_at (w : Vec Ideal S1024x2048 .bf16) (k : Fin 1024) (f : Fin 512) :
    (View.ld w rw1024 : Vec Ideal S1024x512 .bf16) (ix2 k f) = wmat w k ⟨1024 + f.val, by omega⟩ := by
  pointwise
  blk_ext
theorem b1024_at (b : Vec Ideal S1x2048 .f32) (f : Fin 512) :
    (View.ld b rb1024 : Vec Ideal S1x512 .f32) (ix2 0 f) = bvec b ⟨1024 + f.val, by omega⟩ := by
  pointwise
  blk_ext
theorem w1536_at (w : Vec Ideal S1024x2048 .bf16) (k : Fin 1024) (f : Fin 512) :
    (View.ld w rw1536 : Vec Ideal S1024x512 .bf16) (ix2 k f) = wmat w k ⟨1536 + f.val, by omega⟩ := by
  pointwise
  blk_ext
theorem b1536_at (b : Vec Ideal S1x2048 .f32) (f : Fin 512) :
    (View.ld b rb1536 : Vec Ideal S1x512 .f32) (ix2 0 f) = bvec b ⟨1536 + f.val, by omega⟩ := by
  pointwise
  blk_ext

section
variable (X : FVec Ideal S1x512x1024 .bf16) (n : Fin 512 → Fin 1024 → EReal) (hX : ∀ p k, X (ix3 0 p k) = n p k)
include hX

theorem slot_flat (p : Fin 512) (k : Fin 1024) : k0_pay3 (F := Ideal) X (ix2 p k) = n p k := by
  refine Eq.trans ?_ (hX p k)
  pointwise [k0_pay3]

theorem pay0_at (W : Fin 1024 → Fin 2048 → EReal) (B : Fin 2048 → EReal) (e e' : Fin 512 → Fin 2048) (w0 w1 : Vec Ideal S1024x512 .bf16) (b0 b1 : Vec Ideal S1x512 .f32)
    (h0 : ∀ k f, w0 (ix2 k f) = W k (e f)) (g0 : ∀ f, b0 (ix2 0 f) = B (e f)) (h1 : ∀ k f, w1 (ix2 k f) = W k (e' f)) (g1 : ∀ f, b1 (ix2 0 f) = B (e' f)) (p : Fin 512) (f : Fin 512) :
    k0_pay4 (F := Ideal) X w0 b0 w1 b1 (ix2 p f) = Nm.lin (n p) W B (e f) * Ideal.logistic (Nm.lin (n p) W B (e' f)) := by
  unfold Nm.lin
  simp only [← slot_flat X n hX, ← h0, ← h1, ← g0, ← g1]
  pointwise [k0_pay4]

theorem pay1_at (W : Fin 1024 → Fin 2048 → EReal) (B : Fin 2048 → EReal) (e e' : Fin 512 → Fin 2048) (w0 w1 : Vec Ideal S1024x512 .bf16) (b0 b1 : Vec Ideal S1x512 .f32)
    (h0 : ∀ k f, w0 (ix2 k f) = W k (e f)) (g0 : ∀ f, b0 (ix2 0 f) = B (e f)) (h1 : ∀ k f, w1 (ix2 k f) = W k (e' f)) (g1 : ∀ f, b1 (ix2 0 f) = B (e' f)) (p : Fin 512) (f : Fin 512) :
    k0_pay6 (F := Ideal) (k0_pay3 X) (k0_pay5 X w0) b0 w1 b1 (ix2 p f) = Nm.lin (n p) W B (e f) * Ideal.logistic (Nm.lin (n p) W B (e' f)) := by
  unfold Nm.lin
  simp only [← slot_flat X n hX, ← h0, ← h1, ← g0, ← g1]
  pointwise [k0_pay6, k0_pay5]

theorem piece0_at (w : Vec Ideal S1024x2048 .bf16) (b : Vec Ideal S1x2048 .f32) (p : Fin 512) (f : Fin 512) :
    piece0 X w b (ix2 p f) = Nm.glu (n p) (wmat w) (bvec b) ⟨f.val, by omega⟩ :=
  pay0_at X n hX (wmat w) (bvec b) (fun f => ⟨f.val, by omega⟩) (fun f => ⟨1024 + f.val, by omega⟩) _ _ _ _ (w0_at w) (b0_at b) (w1024_at w) (b1024_at b) p f

theorem piece1_at (w : Vec Ideal S1024x2048 .bf16) (b : Vec Ideal S1x2048 .f32) (p : Fin 512) (f : Fin 512) :
    piece1 X w b (ix2 p f) = Nm.glu (n p) (wmat w) (bvec b) ⟨512 + f.val, by omega⟩ :=
  pay1_at X n hX (wmat w) (bvec b) (fun f => ⟨512 + f.val, by omega⟩) (fun f => ⟨1024 + (512 + f.val), by omega⟩) _ _ _ _ (w512_at w) (b512_at b) (fun k f => (w1536_at w k f).trans (congrArg (wmat w k) (Fin.ext (by show 1536 + f.val = 1024 + (512 + f.val); omega)))) (fun f => (b1536_at b f).trans (congrArg (bvec b) (Fin.ext (by show 1536 + f.val = 1024 + (512 + f.val); omega)))) p f

theorem outv_at (w : Vec Ideal S1024x2048 .bf16) (b : Vec Ideal S1x2048 .f32) (p : Fin 512) (f : Fin 1024) :
    outv X w b (ix2 p f) = Nm.glu (n p) (wmat w) (bvec b) f := by
  unfold outv
  canon_tiles x h
  · idx_vars x
    have e0 : p = x0 := Fin.ext h0
    have e1 : f = ⟨512 + x1.val, by omega⟩ := Fin.ext h1
    rw [e0, e1]
    exact piece1_at X n hX w b x0 x1
  · idx_vars x
    have e0 : p = x0 := Fin.ext h0
    have e1 : f = ⟨x1.val, by omega⟩ := Fin.ext h1
    rw [e0, e1]
    exact piece0_at X n hX w b x0 x1

end

theorem block_at (x : Vec Ideal S512x1024 .f32) (g : Vec Ideal S1x1024 .f32) (w : Vec Ideal S1024x2048 .bf16) (b : Vec Ideal S1x2048 .f32) (p : Fin 512) (f : Fin 1024) :
    outv (nrm x g) w b (ix2 p f) = Nm.glu (Swi.nrow (brow x p) (grow g)) (wmat w) (bvec b) f :=
  outv_at (nrm x g) (fun p => Swi.nrow (brow x p) (grow g)) (nrm_at x g) w b p f

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The result as the kernel forms it, row `r`, lane `f`. -/
def ker (x : FVec Ideal S2x16384x1024 .f32) (g : FVec Ideal S1024 .f32) (w : FVec Ideal S1024x2048 .f32) (b : FVec Ideal S2048 .f32) (r : Fin 32768) (f : Fin 1024) : EReal :=
  Nm.glu (Swi.nrow (xrow x r) (fun k => g (ix1 k))) (fun k f => w (ix2 k f)) (fun f => b (ix1 f)) f

theorem idx : ∀ t : Fin cfg0.N,
    win0_0.index t = ![min t.val 63, 0] ∧ win0_1.index t = ![0, 0] ∧ win0_2.index t = ![0, 0] ∧ win0_3.index t = ![0, 0]
    ∧ win0_4.index t = ![t.val - 1, 0] ∧ t.val < 65 :=
  (by decide +kernel : ∀ t : Fin grid0.N, _)

theorem flush_pos : ∀ t : Fin cfg0.N, (cfg0.win 4).flush t = true → t.val ≠ 0 :=
  (by decide +kernel : ∀ t : Fin grid0.N, (cfg0.win 4).flush t = true → t.val ≠ 0)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x2048 .f32) : FVec Ideal S1024x2048 .bf16 := truncf .bf16 w bitsLt_bf16_f32
def nb (b : FVec Ideal S2048 .f32) : FVec Ideal S1x2048 .f32 := shapeCast S1x2048 b shapeCasts_S2048_S1x2048

theorem V_x (c : Dev nD) : V m c main_v0 = rows (m ((c : Thread nD τ).loc main_arg0)) := by
  entry_read
  rfl
theorem V_w (c : Dev nD) : V m c main_v1 = nw (m ((c : Thread nD τ).loc main_arg2)) := by
  entry_read
  rfl
theorem V_g (c : Dev nD) : V m c main_v2 = flat (m ((c : Thread nD τ).loc main_arg1)) := by
  entry_read
  rfl
theorem V_b (c : Dev nD) : V m c main_v3 = nb (m ((c : Thread nD τ).loc main_arg3)) := by
  entry_read
  rfl

theorem x_at (c : Dev nD) (t : Fin cfg0.N) (p : Fin 512) (k : Fin 1024) (r : Fin 32768) (ht : t.val < 64) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 1 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 2048) :
    wmat (iblk m c 2 t) k f = m ((c : Thread nD τ).loc main_arg2) (ix2 k f) := by
  blk_simp [wmat, iblk, idx t]
  rw [V_w]
  pointwise [nw]
  blk_ext [idx t]

theorem b_at (c : Dev nD) (t : Fin cfg0.N) (f : Fin 2048) :
    bvec (iblk m c 3 t) f = m ((c : Thread nD τ).loc main_arg3) (ix1 f) := by
  blk_simp [bvec, iblk, idx t]
  rw [V_b]
  pointwise [nb]
  blk_ext [idx t]

/-- A later point's results: those of the block before. -/
theorem point (c : Dev nD) (t : Fin cfg0.N) (hz : t.val ≠ 0) (p : Fin 512) (l : Fin 1024) (r : Fin 32768) (hr : r.val = (t.val - 1) * 512 + p.val) :
    outv (nrm (iblk m c 0 (prev t)) (iblk m c 1 (prev t))) (iblk m c 2 t) (iblk m c 3 t) (ix2 p l)
      = ker (m ((c : Thread nD τ).loc main_arg0)) (m ((c : Thread nD τ).loc main_arg1)) (m ((c : Thread nD τ).loc main_arg2)) (m ((c : Thread nD τ).loc main_arg3)) r l := by
  have ht := (idx t).2.2.2.2.2
  refine (block_at _ _ _ _ p l).trans ?_
  have ex : brow (iblk m c 0 (prev t)) p = xrow (m ((c : Thread nD τ).loc main_arg0)) r := funext fun k => x_at m c (prev t) p k r (by show t.val - 1 < 64; omega) hr
  have eg : grow (iblk m c 1 (prev t)) = fun k => m ((c : Thread nD τ).loc main_arg1) (ix1 k) := funext fun k => g_at m c (prev t) k
  have ew : wmat (iblk m c 2 t) = fun k f => m ((c : Thread nD τ).loc main_arg2) (ix2 k f) := funext fun k => funext fun f => w_at m c t k f
  have eb : bvec (iblk m c 3 t) = fun f => m ((c : Thread nD τ).loc main_arg3) (ix1 f) := funext fun f => b_at m c t f
  rw [ex, eg, ew, eb]
  rfl

/-- The result array after the run. -/
theorem final (c : Dev nD) : (dats m 0 c).arrAt 4 (cfgs 0).N = fun i : S32768x1024.Idx => ker (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  have hz := flush_pos t hf
  blk_simp
  rw [after0_4]
  idx_vars y
  refine (point m c t hz y0 y1 _ ?_).trans (congrArg (ker (m ((c : Thread nD τ).loc main_arg0)) (m ((c : Thread nD τ).loc main_arg1)) (m ((c : Thread nD τ).loc main_arg2)) (m ((c : Thread nD τ).loc main_arg3)) _) (Fin.ext ?_))
  all_goals (blk_simp [idx t] <;> try omega)

end Cert.CInBody
-- ==== Proof.CInRef.lean ====
module

public import proofs.«01_k».proof.Proof.Gen.CInRefIdeal.Read
public import proofs.«01_k».proof.Proof.Nm
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.CInRefIdeal.Val
open Cert.CInRefIdeal Cert.CInRefIdeal.Gen Cert.CInRefIdeal.Read

variable (x : FVec Ideal S2x16384x1024 .f32) (g : FVec Ideal S1024 .f32) (w : FVec Ideal S1024x2048 .f32) (bb : FVec Ideal S2048 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 2048) :
    val_main_v16 (F := Ideal) x g w bb (ix3 b s f) = Nm.lin (Swi.nrow (fun k => x (ix3 b s k)) (fun k => g (ix1 k))) (fun k f => w (ix2 k f)) (fun f => bb (ix1 f)) f := by
  unfold Nm.lin
  simp only [← norm_at]
  pointwise [val_main_v16, val_main_v15, val_main_v14, val_main_v13]

theorem act_at (b : Fin 2) (s : Fin 16384) (f : Fin 1024) :
    val_main_v25 (F := Ideal) x g w bb (ix3 b s f) = Nm.glu (Swi.nrow (fun k => x (ix3 b s k)) (fun k => g (ix1 k))) (fun k f => w (ix2 k f)) (fun f => bb (ix1 f)) f := by
  unfold Nm.glu Ideal.logistic
  simp only [← lin_at]
  pointwise [val_main_v25, val_main_v24, val_main_v23, val_main_v22, val_main_v21, val_main_v20, val_main_v19, val_main_v18, val_main_v17, val_main_cst_2, val_main_cst_3]

theorem result_at (r : Fin 32768) (f : Fin 1024) :
    val_main_v26 (F := Ideal) x g w bb (ix2 r f) = Nm.glu (Swi.nrow (fun k => x (ix3 ⟨r.val / 16384, by omega⟩ ⟨r.val % 16384, by omega⟩ k)) (fun k => g (ix1 k))) (fun k f => w (ix2 k f)) (fun f => bb (ix1 f)) f := by
  refine Eq.trans ?_ (act_at x g w bb ⟨r.val / 16384, by omega⟩ ⟨r.val % 16384, by omega⟩ f)
  pointwise [val_main_v26]
  blk_ext

end Cert.CInRefIdeal.Val
-- ==== Proof.CInClaims.lean ====
module

public import proofs.«01_k».proof.Defs
public import proofs.«01_k».proof.Proof.CInVal
public import proofs.«01_k».proof.Proof.CInRef
public import proofs.«01_k».proof.Proof.Gen.CIn
public import proofs.«01_k».proof.Proof.Gen.CInRefIdeal.Run
public import Idealize.ShloMosaic.Lib.Claim

@[expose] public section

set_option maxRecDepth 16384

noncomputable section

open Idealize.ShloMosaic Idealize.ShloMosaic.TcCoe Idealize.SL.Sem

/-! # The claims about the call CIn -/

namespace Cert.CInClaims

/-- Both programs' kernel bodies are the same text. -/
theorem bodies_eq : Cert.CIn.defs₀ (F := Bits) = Cert.CInIdeal.defs₀ (F := Bits) := by
  unfold Cert.CIn.defs₀ Cert.CInIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.CIn.defs (F := Bits) = Cert.CInIdeal.defs (F := Bits) := congrArg (Pipeline.defs _) bodies_eq

theorem frame_p : Cert.quiescent_CIn := fun m ρ _ => by
  rw [defs_eq]
  exact Cert.CInBody.frame (F := Bits) m ρ
theorem frame_pi : Cert.quiescent_CInIdeal := fun m ρ _ => Cert.CInBody.frame m ρ
theorem frame_ri : Cert.quiescent_CInRefIdeal := fun m ρ _ =>
  (θ_run Cert.CInRefIdeal.defs _ _).mono (fun r h => ⟨fun c => (h c).2, Idealize.ShloMosaic.sem_eq_zero_of_no_sems (by decide) r.2⟩)
    (Cert.CInRefIdeal.Value.run (F := Ideal) m ρ)

theorem preserves : Cert.preserves_CIn_CInIdeal := trivial

theorem algebraic : Cert.algebraic_CInIdeal_CInRefIdeal := by
  intro m g m' g' hpre hagree
  refine ⟨fun c => (Cert.CInBody.dats m 0 c).arrAt 4 (Cert.CInIdeal.cfgs 0).N, ?_, ?_⟩
  · run_from Cert.CInBody.run_main m g
  · refine (θ_run Cert.CInRefIdeal.defs _ _).mono (fun r h c => ⟨(h c).1.trans ?_, (h c).2⟩) (Cert.CInRefIdeal.Value.run (F := Ideal) m' g')
    refine Eq.trans ?_ (Cert.CInBody.final m c).symm
    rw [Cert.CInRefIdeal.Read.val_main_v26_eq, (hagree c).1, (hagree c).2.1, (hagree c).2.2.1, (hagree c).2.2.2]
    refine funext fun i => ?_
    obtain ⟨r, l, rfl⟩ : ∃ (r : Fin 32768) (l : Fin 1024), i = ix2 r l := ⟨i 0, i 1, eq_ix2 i⟩
    exact Cert.CInRefIdeal.Val.result_at _ _ _ _ r l

end Cert.CInClaims
-- ==== Proof.AQkvBody.lean ====
module

public import proofs.«01_k».proof.Proof.Slot
public import proofs.«01_k».proof.Proof.Gen.AQkvIdeal.Skeleton
public import proofs.«01_k».proof.Proof.Gen.AQkvIdeal.Frame
public import Idealize.ShloMosaic.Lib.Claim
public import Idealize.ShloMosaic.Lib.VecWindow
public import Idealize.ShloMosaic.Lib.WritesUnit

@[expose] public section

set_option maxRecDepth 16384

noncomputable section

namespace Cert.AQkvBody

open Cert.AQkvIdeal Cert.AQkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of the first slot of the scratch, of the slot a point reads and of the slot
    it fills; then the weights' column ranges and the results' parts. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) (h : k0_cond2 i = 1#1) : Rect S2x512x1024 := Rect.unit (s := S2x512x1024) (k0_off1 i) S1x512x1024.size (k0_off1_inb i h)
abbrev rnext (i : grid0.Coords) (h : k0_cond2 i = 1#1) : Rect S2x512x1024 := Rect.unit (s := S2x512x1024) (k0_off2 i) S1x512x1024.size (k0_off2_inb i h)
abbrev rw0 : Rect S1024x3072 := Rect.unit (s := S1024x3072) ![0, 0] S1024x1024.size inb_S1024x3072_S1024x1024_0_0
abbrev rw1024 : Rect S1024x3072 := Rect.unit (s := S1024x3072) ![0, 1024] S1024x1024.size inb_S1024x3072_S1024x1024_0_1024
abbrev rw2048 : Rect S1024x3072 := Rect.unit (s := S1024x3072) ![0, 2048] S1024x1024.size inb_S1024x3072_S1024x1024_0_2048
abbrev ro0 : Rect S24x512x128 := Rect.unit (s := S24x512x128) ![0, 0, 0] S1x512x128.size inb_S24x512x128_S1x512x128_0_0_0
abbrev ro1 : Rect S24x512x128 := Rect.unit (s := S24x512x128) ![1, 0, 0] S1x512x128.size inb_S24x512x128_S1x512x128_1_0_0
abbrev ro2 : Rect S24x512x128 := Rect.unit (s := S24x512x128) ![2, 0, 0] S1x512x128.size inb_S24x512x128_S1x512x128_2_0_0
abbrev ro3 : Rect S24x512x128 := Rect.unit (s := S24x512x128) ![3, 0, 0] S1x512x128.size inb_S24x512x128_S1x512x128_3_0_0
abbrev ro4 : Rect S24x512x128 := Rect.unit (s := S24x512x128) ![4, 0, 0] S1x512x128.size inb_S24x512x128_S1x512x128_4_0_0
abbrev ro5 : Rect S24x512x128 := Rect.unit (s := S24x512x128) ![5, 0, 0] S1x512x128.size inb_S24x512x128_S1x512x128_5_0_0
abbrev ro6 : Rect S24x512x128 := Rect.unit (s := S24x512x128) ![6, 0, 0] S1x512x128.size inb_S24x512x128_S1x512x128_6_0_0
abbrev ro7 : Rect S24x512x128 := Rect.unit (s := S24x512x128) ![7, 0, 0] S1x512x128.size inb_S24x512x128_S1x512x128_7_0_0
abbrev ro8 : Rect S24x512x128 := Rect.unit (s := S24x512x128) ![8, 0, 0] S1x512x128.size inb_S24x512x128_S1x512x128_8_0_0
abbrev ro9 : Rect S24x512x128 := Rect.unit (s := S24x512x128) ![9, 0, 0] S1x512x128.size inb_S24x512x128_S1x512x128_9_0_0
abbrev ro10 : Rect S24x512x128 := Rect.unit (s := S24x512x128) ![10, 0, 0] S1x512x128.size inb_S24x512x128_S1x512x128_10_0_0
abbrev ro11 : Rect S24x512x128 := Rect.unit (s := S24x512x128) ![11, 0, 0] S1x512x128.size inb_S24x512x128_S1x512x128_11_0_0
abbrev ro12 : Rect S24x512x128 := Rect.unit (s := S24x512x128) ![12, 0, 0] S1x512x128.size inb_S24x512x128_S1x512x128_12_0_0
abbrev ro13 : Rect S24x512x128 := Rect.unit (s := S24x512x128) ![13, 0, 0] S1x512x128.size inb_S24x512x128_S1x512x128_13_0_0
abbrev ro14 : Rect S24x512x128 := Rect.unit (s := S24x512x128) ![14, 0, 0] S1x512x128.size inb_S24x512x128_S1x512x128_14_0_0
abbrev ro15 : Rect S24x512x128 := Rect.unit (s := S24x512x128) ![15, 0, 0] S1x512x128.size inb_S24x512x128_S1x512x128_15_0_0
abbrev ro16 : Rect S24x512x128 := Rect.unit (s := S24x512x128) ![16, 0, 0] S1x512x128.size inb_S24x512x128_S1x512x128_16_0_0
abbrev ro17 : Rect S24x512x128 := Rect.unit (s := S24x512x128) ![17, 0, 0] S1x512x128.size inb_S24x512x128_S1x512x128_17_0_0
abbrev ro18 : Rect S24x512x128 := Rect.unit (s := S24x512x128) ![18, 0, 0] S1x512x128.size inb_S24x512x128_S1x512x128_18_0_0
abbrev ro19 : Rect S24x512x128 := Rect.unit (s := S24x512x128) ![19, 0, 0] S1x512x128.size inb_S24x512x128_S1x512x128_19_0_0
abbrev ro20 : Rect S24x512x128 := Rect.unit (s := S24x512x128) ![20, 0, 0] S1x512x128.size inb_S24x512x128_S1x512x128_20_0_0
abbrev ro21 : Rect S24x512x128 := Rect.unit (s := S24x512x128) ![21, 0, 0] S1x512x128.size inb_S24x512x128_S1x512x128_21_0_0
abbrev ro22 : Rect S24x512x128 := Rect.unit (s := S24x512x128) ![22, 0, 0] S1x512x128.size inb_S24x512x128_S1x512x128_22_0_0
abbrev ro23 : Rect S24x512x128 := Rect.unit (s := S24x512x128) ![23, 0, 0] S1x512x128.size inb_S24x512x128_S1x512x128_23_0_0

theorem slot_inb (n : ℕ) : ∀ a, (![n % 2, 0, 0] : Fin 3 → ℕ) a + S1x512x1024.size a ≤ S2x512x1024.size a := by
  rcases Nat.mod_two_eq_zero_or_one n with h | h <;> rw [h] <;> decide

/-- Slot `n % 2` of the scratch. -/
abbrev rslot (n : ℕ) : Rect S2x512x1024 := Rect.unit (s := S2x512x1024) ![n % 2, 0, 0] S1x512x1024.size (slot_inb n)

/-- A block's rows, normalized: what the body stores in a slot of the scratch. -/
def nrm (x : Vec F S512x1024 .f32) (g : Vec F S1x1024 .f32) : FVec F S1x512x1024 .bf16 :=
  k0_pay1 (View.ld x rx) (View.ld g rg)

/-- Part 0 of the results, from the normalized rows `X`. -/
def piece0 (X : Vec F S1x512x1024 .bf16) (w : Vec F S1024x3072 .bf16) : FVec F S1x512x128 .bf16 :=
  k0_pay5 X (View.ld w rw0)

/-- Part 1 of the results, from the normalized rows `X`. -/
def piece1 (X : Vec F S1x512x1024 .bf16) (w : Vec F S1024x3072 .bf16) : FVec F S1x512x128 .bf16 :=
  k0_pay6 X (View.ld w rw0)

/-- Part 2 of the results, from the normalized rows `X`. -/
def piece2 (X : Vec F S1x512x1024 .bf16) (w : Vec F S1024x3072 .bf16) : FVec F S1x512x128 .bf16 :=
  k0_pay7 X (View.ld w rw0)

/-- Part 3 of the results, from the normalized rows `X`. -/
def piece3 (X : Vec F S1x512x1024 .bf16) (w : Vec F S1024x3072 .bf16) : FVec F S1x512x128 .bf16 :=
  k0_pay9 (k0_pay8 X (View.ld w rw0))

/-- Part 4 of the results, from the normalized rows `X`. -/
def piece4 (X : Vec F S1x512x1024 .bf16) (w : Vec F S1024x3072 .bf16) : FVec F S1x512x128 .bf16 :=
  k0_pay10 (k0_pay4 X (View.ld w rw0))

/-- Part 5 of the results, from the normalized rows `X`. -/
def piece5 (X : Vec F S1x512x1024 .bf16) (w : Vec F S1024x3072 .bf16) : FVec F S1x512x128 .bf16 :=
  k0_pay11 (k0_pay4 X (View.ld w rw0))

/-- Part 6 of the results, from the normalized rows `X`. -/
def piece6 (X : Vec F S1x512x1024 .bf16) (w : Vec F S1024x3072 .bf16) : FVec F S1x512x128 .bf16 :=
  k0_pay12 (k0_pay4 X (View.ld w rw0))

/-- Part 7 of the results, from the normalized rows `X`. -/
def piece7 (X : Vec F S1x512x1024 .bf16) (w : Vec F S1024x3072 .bf16) : FVec F S1x512x128 .bf16 :=
  k0_pay13 (k0_pay4 X (View.ld w rw0))

/-- Part 8 of the results, from the normalized rows `X`. -/
def piece8 (X : Vec F S1x512x1024 .bf16) (w : Vec F S1024x3072 .bf16) : FVec F S1x512x128 .bf16 :=
  k0_pay15 (k0_pay3 X) (View.ld w rw1024)

/-- Part 9 of the results, from the normalized rows `X`. -/
def piece9 (X : Vec F S1x512x1024 .bf16) (w : Vec F S1024x3072 .bf16) : FVec F S1x512x128 .bf16 :=
  k0_pay17 (k0_pay16 (k0_pay3 X) (View.ld w rw1024))

/-- Part 10 of the results, from the normalized rows `X`. -/
def piece10 (X : Vec F S1x512x1024 .bf16) (w : Vec F S1024x3072 .bf16) : FVec F S1x512x128 .bf16 :=
  k0_pay18 (k0_pay14 (k0_pay3 X) (View.ld w rw1024))

/-- Part 11 of the results, from the normalized rows `X`. -/
def piece11 (X : Vec F S1x512x1024 .bf16) (w : Vec F S1024x3072 .bf16) : FVec F S1x512x128 .bf16 :=
  k0_pay19 (k0_pay14 (k0_pay3 X) (View.ld w rw1024))

/-- Part 12 of the results, from the normalized rows `X`. -/
def piece12 (X : Vec F S1x512x1024 .bf16) (w : Vec F S1024x3072 .bf16) : FVec F S1x512x128 .bf16 :=
  k0_pay20 (k0_pay14 (k0_pay3 X) (View.ld w rw1024))

/-- Part 13 of the results, from the normalized rows `X`. -/
def piece13 (X : Vec F S1x512x1024 .bf16) (w : Vec F S1024x3072 .bf16) : FVec F S1x512x128 .bf16 :=
  k0_pay21 (k0_pay14 (k0_pay3 X) (View.ld w rw1024))

/-- Part 14 of the results, from the normalized rows `X`. -/
def piece14 (X : Vec F S1x512x1024 .bf16) (w : Vec F S1024x3072 .bf16) : FVec F S1x512x128 .bf16 :=
  k0_pay22 (k0_pay14 (k0_pay3 X) (View.ld w rw1024))

/-- Part 15 of the results, from the normalized rows `X`. -/
def piece15 (X : Vec F S1x512x1024 .bf16) (w : Vec F S1024x3072 .bf16) : FVec F S1x512x128 .bf16 :=
  k0_pay23 (k0_pay14 (k0_pay3 X) (View.ld w rw1024))

/-- Part 16 of the results, from the normalized rows `X`. -/
def piece16 (X : Vec F S1x512x1024 .bf16) (w : Vec F S1024x3072 .bf16) : FVec F S1x512x128 .bf16 :=
  k0_pay25 (k0_pay3 X) (View.ld w rw2048)

/-- Part 17 of the results, from the normalized rows `X`. -/
def piece17 (X : Vec F S1x512x1024 .bf16) (w : Vec F S1024x3072 .bf16) : FVec F S1x512x128 .bf16 :=
  k0_pay26 (k0_pay3 X) (View.ld w rw2048)

/-- Part 18 of the results, from the normalized rows `X`. -/
def piece18 (X : Vec F S1x512x1024 .bf16) (w : Vec F S1024x3072 .bf16) : FVec F S1x512x128 .bf16 :=
  k0_pay27 (k0_pay3 X) (View.ld w rw2048)

/-- Part 19 of the results, from the normalized rows `X`. -/
def piece19 (X : Vec F S1x512x1024 .bf16) (w : Vec F S1024x3072 .bf16) : FVec F S1x512x128 .bf16 :=
  k0_pay28 (k0_pay3 X) (View.ld w rw2048)

/-- Part 20 of the results, from the normalized rows `X`. -/
def piece20 (X : Vec F S1x512x1024 .bf16) (w : Vec F S1024x3072 .bf16) : FVec F S1x512x128 .bf16 :=
  k0_pay29 (k0_pay3 X) (View.ld w rw2048)

/-- Part 21 of the results, from the normalized rows `X`. -/
def piece21 (X : Vec F S1x512x1024 .bf16) (w : Vec F S1024x3072 .bf16) : FVec F S1x512x128 .bf16 :=
  k0_pay30 (k0_pay3 X) (View.ld w rw2048)

/-- Part 22 of the results, from the normalized rows `X`. -/
def piece22 (X : Vec F S1x512x1024 .bf16) (w : Vec F S1024x3072 .bf16) : FVec F S1x512x128 .bf16 :=
  k0_pay32 (k0_pay31 (k0_pay3 X) (View.ld w rw2048))

/-- Part 23 of the results, from the normalized rows `X`. -/
def piece23 (X : Vec F S1x512x1024 .bf16) (w : Vec F S1024x3072 .bf16) : FVec F S1x512x128 .bf16 :=
  k0_pay33 (k0_pay24 (k0_pay3 X) (View.ld w rw2048))

/-- The block of results: its parts together. -/
def outv (X : Vec F S1x512x1024 .bf16) (w : Vec F S1024x3072 .bf16) : FVec F S24x512x128 .bf16 :=
  View.canon (Val := Elt F) (s := S24x512x128) (e := .bf16) [⟨ro23, piece23 X w⟩, ⟨ro22, piece22 X w⟩, ⟨ro21, piece21 X w⟩, ⟨ro20, piece20 X w⟩, ⟨ro19, piece19 X w⟩, ⟨ro18, piece18 X w⟩, ⟨ro17, piece17 X w⟩, ⟨ro16, piece16 X w⟩, ⟨ro15, piece15 X w⟩, ⟨ro14, piece14 X w⟩, ⟨ro13, piece13 X w⟩, ⟨ro12, piece12 X w⟩, ⟨ro11, piece11 X w⟩, ⟨ro10, piece10 X w⟩, ⟨ro9, piece9 X w⟩, ⟨ro8, piece8 X w⟩, ⟨ro7, piece7 X w⟩, ⟨ro6, piece6 X w⟩, ⟨ro5, piece5 X w⟩, ⟨ro4, piece4 X w⟩, ⟨ro3, piece3 X w⟩, ⟨ro2, piece2 X w⟩, ⟨ro1, piece1 X w⟩, ⟨ro0, piece0 X w⟩]

theorem cover (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (p8 : Vec F S1x512x128 .bf16) (p9 : Vec F S1x512x128 .bf16) (p10 : Vec F S1x512x128 .bf16) (p11 : Vec F S1x512x128 .bf16) (p12 : Vec F S1x512x128 .bf16) (p13 : Vec F S1x512x128 .bf16) (p14 : Vec F S1x512x128 .bf16) (p15 : Vec F S1x512x128 .bf16) (p16 : Vec F S1x512x128 .bf16) (p17 : Vec F S1x512x128 .bf16) (p18 : Vec F S1x512x128 .bf16) (p19 : Vec F S1x512x128 .bf16) (p20 : Vec F S1x512x128 .bf16) (p21 : Vec F S1x512x128 .bf16) (p22 : Vec F S1x512x128 .bf16) (p23 : Vec F S1x512x128 .bf16) (y : S24x512x128.Idx) :
    ∃ p ∈ ([⟨ro23, p23⟩, ⟨ro22, p22⟩, ⟨ro21, p21⟩, ⟨ro20, p20⟩, ⟨ro19, p19⟩, ⟨ro18, p18⟩, ⟨ro17, p17⟩, ⟨ro16, p16⟩, ⟨ro15, p15⟩, ⟨ro14, p14⟩, ⟨ro13, p13⟩, ⟨ro12, p12⟩, ⟨ro11, p11⟩, ⟨ro10, p10⟩, ⟨ro9, p9⟩, ⟨ro8, p8⟩, ⟨ro7, p7⟩, ⟨ro6, p6⟩, ⟨ro5, p5⟩, ⟨ro4, p4⟩, ⟨ro3, p3⟩, ⟨ro2, p2⟩, ⟨ro1, p1⟩, ⟨ro0, p0⟩] : List (View.Piece (Elt F) S24x512x128 .bf16)), y ∈ p.1.set :=
  View.cover_of_tiled [⟨ro23, p23⟩, ⟨ro22, p22⟩, ⟨ro21, p21⟩, ⟨ro20, p20⟩, ⟨ro19, p19⟩, ⟨ro18, p18⟩, ⟨ro17, p17⟩, ⟨ro16, p16⟩, ⟨ro15, p15⟩, ⟨ro14, p14⟩, ⟨ro13, p13⟩, ⟨ro12, p12⟩, ⟨ro11, p11⟩, ⟨ro10, p10⟩, ⟨ro9, p9⟩, ⟨ro8, p8⟩, ⟨ro7, p7⟩, ⟨ro6, p6⟩, ⟨ro5, p5⟩, ⟨ro4, p4⟩, ⟨ro3, p3⟩, ⟨ro2, p2⟩, ⟨ro1, p1⟩, ⟨ro0, p0⟩] S1x512x128.size (by rfl) y

/-! ## The slots and the conditions -/

/-- The condition of the first point. -/
abbrev cond (i : grid0.Coords) : Prop := (Scalar.cmpi .ne (Scalar.extui (Scalar.cmpi .eq (BitVec.ofNat 32 (i 0).val) 0#32)) 0#32) = 1#1

theorem coord_val (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  rw [e0]; omega

theorem cond_of : ∀ n : Fin 65, ∀ i : grid0.Coords, (i 0).val = n.val → (cond i ↔ n.val = 0) := by
  intro n i h
  have : ∀ n : Fin 65, (Scalar.cmpi .ne (Scalar.extui (Scalar.cmpi .eq (BitVec.ofNat 32 n.val) 0#32)) 0#32) = 1#1 ↔ n.val = 0 := by decide +kernel
  show (Scalar.cmpi .ne (Scalar.extui (Scalar.cmpi .eq (BitVec.ofNat 32 (i 0).val) 0#32)) 0#32) = 1#1 ↔ _
  rw [h]; exact this n

theorem cond2_of : ∀ n : Fin 65, ∀ i : grid0.Coords, (i 0).val = n.val → (k0_cond2 i = 1#1 ↔ n.val ≠ 0) := by
  intro n i h
  have : ∀ n : Fin 65, (Scalar.cmpi .ne (Scalar.extui (Scalar.cmpi .sgt (BitVec.ofNat 32 n.val) 0#32)) 0#32) = 1#1 ↔ n.val ≠ 0 := by decide +kernel
  show (Scalar.cmpi .ne (Scalar.extui (Scalar.cmpi .sgt (BitVec.ofNat 32 (i 0).val) 0#32)) 0#32) = 1#1 ↔ _
  rw [h]; exact this n

theorem hcond (t : Fin cfg0.N) : cond (grid0.coords t) ↔ t.val = 0 := cond_of ⟨t.val, Nat.lt_of_lt_of_eq t.isLt N_0⟩ _ (coord_val t)
theorem hcond2 (t : Fin cfg0.N) : k0_cond2 (grid0.coords t) = 1#1 ↔ t.val ≠ 0 := cond2_of ⟨t.val, Nat.lt_of_lt_of_eq t.isLt N_0⟩ _ (coord_val t)

/-- The slot a point reads, and the slot it fills, by the point's first coordinate. -/
theorem off1_of : ∀ n : Fin 65, ∀ i : grid0.Coords, (i 0).val = n.val → k0_off1 i = ![(n.val + 1) % 2, 0, 0] := by
  intro n i h
  show ![_, 0, 0] = _
  rw [h]
  exact congrArg (fun z => ![z, 0, 0]) (Slot.prev n)

theorem off2_of : ∀ n : Fin 65, ∀ i : grid0.Coords, (i 0).val = n.val → k0_off2 i = ![n.val % 2, 0, 0] := by
  intro n i h
  show ![_, 0, 0] = _
  rw [h]
  exact congrArg (fun z => ![z, 0, 0]) (Slot.own n)

instance closedOff1 (i : grid0.Coords) : ClosedOff (k0_off1 i) := ⟨![((i 0).val + 1) % 2, 0, 0], off1_of ⟨(i 0).val, (i 0).isLt⟩ i rfl⟩
instance closedOff2 (i : grid0.Coords) : ClosedOff (k0_off2 i) := ⟨![(i 0).val % 2, 0, 0], off2_of ⟨(i 0).val, (i 0).isLt⟩ i rfl⟩

theorem off1 (t : Fin cfg0.N) : k0_off1 (grid0.coords t) = ![(t.val + 1) % 2, 0, 0] :=
  off1_of ⟨t.val, Nat.lt_of_lt_of_eq t.isLt N_0⟩ _ (coord_val t)

theorem off2 (t : Fin cfg0.N) : k0_off2 (grid0.coords t) = ![t.val % 2, 0, 0] :=
  off2_of ⟨t.val, Nat.lt_of_lt_of_eq t.isLt N_0⟩ _ (coord_val t)

theorem ld_congr (ys : Vec F S2x512x1024 .bf16) : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
  rintro a b ha hb rfl; rfl

/-! ## The body's runs -/

set_option maxHeartbeats 2000000 in
/-- The body at the first point: it fills the first slot and leaves the results' buffer alone. -/
theorem sound_A (c : Dev nD) (E : Set ℕ) (i : grid0.Coords) (hc : cond i) (hc2 : ¬k0_cond2 i = 1#1) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S24x512x128 .bf16) (harg4 : arg4.IsWhole) (arg5 : Memref sig .tc .vmem S2x512x1024 .bf16) (harg5 : arg5.IsWhole)
    (x0 : Vec F S512x1024 .f32) (x1 : Vec F S1x1024 .f32) (x2 : Vec F S1024x3072 .bf16) (d5 : Vec F S24x512x128 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d5 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare d5
          ∗ (∃ ys, owns (c : Thread nD τ) arg5 fullShare ys ∗ ⌜View.ld ys (rslot 0) = nrm x0 x1⌝)) -∗ K ⟨⟩))
      ⊢ wp frame (wpE (defs₀ (F := F)) Variants.none c none) E (cc0_a_qkv i arg1 harg1 arg2 harg2 arg3 harg3 arg4 harg4 arg5 harg5) K := by
  simp only [cc0_a_qkv_eq_skeleton]; unfold cc0_a_qkv_skel
  unfold owns
  iintro ⟨⟨%f0, %hf0, H0⟩, ⟨%f1, %hf1, H1⟩, ⟨%f2, %hf2, H2⟩, ⟨%f5, %hf5, H5⟩, ⟨%fs, %hfs, HS⟩, Hk⟩
  subst hf0 hf1 hf2 hf5 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  iexists _
  isplitl [HS]
  · iexists _; isplitr
    swap; · iexact HS
    ipureintro; rfl
  ipureintro
  funext y
  exact View.read_writes_cons_emb _ _ (rslot 0) _ _ y

set_option maxHeartbeats 2000000 in
/-- The body at a later point: from the slot it reads it makes the block of results, then it fills the other slot. -/
theorem sound_B (c : Dev nD) (E : Set ℕ) (i : grid0.Coords) (hc : ¬cond i) (hc2 : k0_cond2 i = 1#1) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S24x512x128 .bf16) (harg4 : arg4.IsWhole) (arg5 : Memref sig .tc .vmem S2x512x1024 .bf16) (harg5 : arg5.IsWhole)
    (x0 : Vec F S512x1024 .f32) (x1 : Vec F S1x1024 .f32) (x2 : Vec F S1024x3072 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (outv (View.ld xs (rcur i hc2)) x2)
          ∗ (∃ ys, owns (c : Thread nD τ) arg5 fullShare ys ∗ ⌜View.ld ys (rnext i hc2) = nrm x0 x1⌝)) -∗ K ⟨⟩))
      ⊢ wp frame (wpE (defs₀ (F := F)) Variants.none c none) E (cc0_a_qkv i arg1 harg1 arg2 harg2 arg3 harg3 arg4 harg4 arg5 harg5) K := by
  simp only [cc0_a_qkv_eq_skeleton]; unfold cc0_a_qkv_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%d5, %f5, -, H5⟩, ⟨%fs, %hfs, HS⟩, Hk⟩
  subst hf0 hf1 hf2 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_eq_canon _ _ _ (cover _ _ _ _ _ _ _ _ _ _ _ _ _ _ _ _ _ _ _ _ _ _ _ _)).trans ?_
    rfl
  iexists _
  isplitl [HS]
  · iexists _; isplitr
    swap; · iexact HS
    ipureintro; rfl
  ipureintro
  funext y
  exact View.read_writes_cons_emb _ _ (rnext i hc2) _ _ y

/-! ## The proof data -/

/-- The point before, and the first point's own self. -/
def prev (t : Fin cfg0.N) : Fin cfg0.N := ⟨t.val - 1, Nat.lt_of_le_of_lt (Nat.sub_le _ _) t.isLt⟩

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` slot `n % 2` holds the normalized rows of point
    `n`'s block. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rslot n) = nrm (iblk m c 0 ⟨n, hn⟩) (iblk m c 1 ⟨n, hn⟩)⌝) ∗ (∃ r, prngReg c r))

/-- The proof data: arrays as the region finds them; each input's buffer left at its block, the output's at the results of
    the block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
      | ⟨3, _⟩ => outv (nrm (iblk m c 0 (prev t)) (iblk m c 1 (prev t))) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outv (nrm (iblk m c 0 (prev t)) (iblk m c 1 (prev t))) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle_first (t : Fin cfg0.N) (h : t.val = 0) : cfg0.idle 3 (cfg0.grid.coords t) = true := by
  show (!(k0_cond2 (grid0.coords t) == 1#1)) = true
  have : ¬ k0_cond2 (grid0.coords t) = 1#1 := fun e => (hcond2 t).mp e h
  simp [this]

theorem idle_later (t : Fin cfg0.N) (h : t.val ≠ 0) : cfg0.idle 3 (cfg0.grid.coords t) = false := by
  show (!(k0_cond2 (grid0.coords t) == 1#1)) = false
  have : k0_cond2 (grid0.coords t) = 1#1 := (hcond2 t).mpr h
  simp [this]

theorem flush_first (t : Fin cfg0.N) (h : t.val = 0) : (cfg0.win 3).flush t = false := by
  obtain ⟨n, hn⟩ := t
  obtain rfl : n = 0 := h
  exact (by decide +kernel : ∀ h, (cfg0.win 3).flush ⟨0, h⟩ = false) hn

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)))

/-- What every point leaves: the invariant and the inputs' buffers; the output's buffer as `R` says. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ R)

set_option maxHeartbeats 2000000 in
theorem sound_first (c : Dev nD) (t : Fin cfg0.N) (hz : t.val = 0) :
    bodyPre m c t ⊢ wp frame (wpE (defs₀ (F := F)) Variants.none c none) Set.univ (bodyAt0 t)
      (fun _ => bodyPost m c t iprop(∃ d, owns (c : Thread nD τ) (st0_3 t) fullShare ((dats m 0 c).before 3 t d))) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_castSucc m c t]
  have e1 : PhiS m c t.val (Nat.le_of_lt t.isLt) = Pipeline.ΦA spec0 c := by
    have : ∀ n h, n = 0 → PhiS m c n h = Pipeline.ΦA spec0 c := by rintro n h rfl; rfl
    exact this _ _ hz
  have e2 : ∀ ys : Vec F S2x512x1024 .bf16, (View.ld ys (rslot t.val) : FVec F S1x512x1024 .bf16) = View.ld ys (rslot 0) := fun ys =>
    ld_congr ys _ _ _ _ (by rw [hz])
  rw [e1, PhiA0_eq]
  simp only [PhiS, e2]
  iintro ⟨⟨⟨%xs, HS⟩, Hg⟩, Ho, ⟨%d0, H0⟩, ⟨%d1, H1⟩, ⟨%d2, H2⟩, ⟨%dO, HO⟩⟩
  iapply (sound_A c Set.univ (grid0.coords t) ((hcond t).mpr hz) (fun e => (hcond2 t).mp e hz) _ _ _ _ _ _ _ _ _ _ (iblk m c 0 t) (iblk m c 1 t) (iblk m c 2 t) ((dats m 0 c).before 3 t dO) xs _)
  isplitl [H0]; · iexact H0
  isplitl [H1]; · iexact H1
  isplitl [H2]; · iexact H2
  isplitl [HO]; · iexact HO
  isplitl [HS]; · iexact HS
  iintro ⟨H0, H1, H2, HO, HS⟩
  isplitl [HS Hg]
  · isplitl [HS]
    · iexact HS
    iexact Hg
  isplitl [Ho]; · iexact Ho
  isplitl [H0]; · iexact H0
  isplitl [H1]; · iexact H1
  isplitl [H2]; · iexact H2
  iexists dO
  iexact HO

set_option maxHeartbeats 2000000 in
theorem sound_later (c : Dev nD) (t : Fin cfg0.N) (hz : t.val ≠ 0) :
    bodyPre m c t ⊢ wp frame (wpE (defs₀ (F := F)) Variants.none c none) Set.univ (bodyAt0 t)
      (fun _ => bodyPost m c t iprop(owns (c : Thread nD τ) (st0_3 t) fullShare ((dats m 0 c).after 3 t))) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_castSucc m c t]
  have hc2 := (hcond2 t).mpr hz
  have e1 : PhiS m c t.val (Nat.le_of_lt t.isLt) = iprop((∃ ys : Vec F S2x512x1024 .bf16, owns (c : Thread nD τ) scM fullShare ys
      ∗ ⌜View.ld ys (rcur (grid0.coords t) hc2) = nrm (iblk m c 0 (prev t)) (iblk m c 1 (prev t))⌝) ∗ (∃ r, prngReg c r)) := by
    have e3 : ∀ ys : Vec F S2x512x1024 .bf16, (View.ld ys (rcur (grid0.coords t) hc2) : FVec F S1x512x1024 .bf16) = View.ld ys (rslot (t.val - 1)) := fun ys =>
      ld_congr ys _ _ _ _ (by rw [off1, show (t.val + 1) % 2 = (t.val - 1) % 2 by omega])
    have : ∀ n (h : n ≤ cfg0.N), (hn : n ≠ 0) → PhiS m c n h = iprop((∃ ys : Vec F S2x512x1024 .bf16, owns (c : Thread nD τ) scM fullShare ys
      ∗ ⌜View.ld ys (rslot (n - 1)) = nrm (iblk m c 0 ⟨n - 1, by omega⟩) (iblk m c 1 ⟨n - 1, by omega⟩)⌝) ∗ (∃ r, prngReg c r)) := by
      intro n h hn
      cases n with
      | zero => exact absurd rfl hn
      | succ k => rfl
    rw [this _ _ hz]
    simp only [e3]
    rfl
  have e2 : ∀ ys : Vec F S2x512x1024 .bf16, (View.ld ys (rslot t.val) : FVec F S1x512x1024 .bf16) = View.ld ys (rnext (grid0.coords t) hc2) := fun ys =>
    ld_congr ys _ _ _ _ (off2 t).symm
  rw [e1]
  simp only [PhiS, e2]
  iintro ⟨⟨⟨%xs, ⟨HS, %hxs⟩⟩, Hg⟩, Ho, ⟨%d0, H0⟩, ⟨%d1, H1⟩, ⟨%d2, H2⟩, ⟨%dO, HO⟩⟩
  rw [← hxs]
  iapply (sound_B c Set.univ (grid0.coords t) (fun e => hz ((hcond t).mp e)) hc2 _ _ _ _ _ _ _ _ _ _ (iblk m c 0 t) (iblk m c 1 t) (iblk m c 2 t) xs _)
  isplitl [H0]; · iexact H0
  isplitl [H1]; · iexact H1
  isplitl [H2]; · iexact H2
  isplitl [HO]; · iexists _; iexact HO
  isplitl [HS]; · iexact HS
  iintro ⟨H0, H1, H2, HO, HS⟩
  isplitl [HS Hg]
  · isplitl [HS]
    · iexact HS
    iexact Hg
  isplitl [Ho]; · iexact Ho
  isplitl [H0]; · iexact H0
  isplitl [H1]; · iexact H1
  isplitl [H2]; · iexact H2
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hz : t.val = 0
  · rw [idle_first t hz, flush_first t hz]
    exact sound_first m c t hz
  · rw [idle_later t hz]
    exact sound_later m c t hz

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 65 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AQkvBody

end
-- ==== Proof.AQkvVal.lean ====
module

public import proofs.«01_k».proof.Proof.AQkvBody
public import proofs.«01_k».proof.Proof.Nm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AQkvBody
open Cert.AQkvIdeal Cert.AQkvIdeal.Gen

/-! ## One block of results -/

/-- A row of a block, the one row of a scale and the weights, entry by entry. -/
abbrev brow (x : Vec Ideal S512x1024 .f32) (p : Fin 512) (k : Fin 1024) : EReal := x (ix2 p k)
abbrev grow (g : Vec Ideal S1x1024 .f32) (k : Fin 1024) : EReal := g (ix2 0 k)
abbrev wmat (w : Vec Ideal S1024x3072 .bf16) (k : Fin 1024) (f : Fin 3072) : EReal := w (ix2 k f)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay1, Swi.nrow]

theorem w0_at (w : Vec Ideal S1024x3072 .bf16) (k : Fin 1024) (f : Fin 1024) :
    (View.ld w rw0 : Vec Ideal S1024x1024 .bf16) (ix2 k f) = wmat w k ⟨f.val, by omega⟩ := by
  pointwise
  blk_ext
theorem w1024_at (w : Vec Ideal S1024x3072 .bf16) (k : Fin 1024) (f : Fin 1024) :
    (View.ld w rw1024 : Vec Ideal S1024x1024 .bf16) (ix2 k f) = wmat w k ⟨1024 + f.val, by omega⟩ := by
  pointwise
  blk_ext
theorem w2048_at (w : Vec Ideal S1024x3072 .bf16) (k : Fin 1024) (f : Fin 1024) :
    (View.ld w rw2048 : Vec Ideal S1024x1024 .bf16) (ix2 k f) = wmat w k ⟨2048 + f.val, by omega⟩ := by
  pointwise
  blk_ext

section
variable (X : FVec Ideal S1x512x1024 .bf16) (n : Fin 512 → Fin 1024 → EReal) (hX : ∀ p k, X (ix3 0 p k) = n p k)
include hX

theorem piece0_at (w : Vec Ideal S1024x3072 .bf16) (p : Fin 512) (l : Fin 128) : piece0 X w (ix3 0 p l) = Nm.lin0 (n p) (wmat w) ⟨0 + l.val, by omega⟩ := by
  have e : ∀ k, wmat w k ⟨0 + l.val, by omega⟩ = (View.ld w rw0 : Vec Ideal S1024x1024 .bf16) (ix2 k ⟨l.val, by omega⟩) := fun k =>
    (congrArg (wmat w k) (Fin.ext (by dsimp only; omega))).trans (w0_at w k ⟨l.val, by omega⟩).symm
  unfold Nm.lin0 piece0
  simp only [← hX, e]
  pointwise [k0_pay3, k0_pay4, k0_pay5, k0_pay14, k0_pay24]

theorem piece1_at (w : Vec Ideal S1024x3072 .bf16) (p : Fin 512) (l : Fin 128) : piece1 X w (ix3 0 p l) = Nm.lin0 (n p) (wmat w) ⟨128 + l.val, by omega⟩ := by
  have e : ∀ k, wmat w k ⟨128 + l.val, by omega⟩ = (View.ld w rw0 : Vec Ideal S1024x1024 .bf16) (ix2 k ⟨128 + l.val, by omega⟩) := fun k =>
    (congrArg (wmat w k) (Fin.ext (by rfl))).trans (w0_at w k ⟨128 + l.val, by omega⟩).symm
  unfold Nm.lin0 piece1
  simp only [← hX, e]
  pointwise [k0_pay3, k0_pay4, k0_pay6, k0_pay14, k0_pay24]

theorem piece2_at (w : Vec Ideal S1024x3072 .bf16) (p : Fin 512) (l : Fin 128) : piece2 X w (ix3 0 p l) = Nm.lin0 (n p) (wmat w) ⟨256 + l.val, by omega⟩ := by
  have e : ∀ k, wmat w k ⟨256 + l.val, by omega⟩ = (View.ld w rw0 : Vec Ideal S1024x1024 .bf16) (ix2 k ⟨256 + l.val, by omega⟩) := fun k =>
    (congrArg (wmat w k) (Fin.ext (by rfl))).trans (w0_at w k ⟨256 + l.val, by omega⟩).symm
  unfold Nm.lin0 piece2
  simp only [← hX, e]
  pointwise [k0_pay3, k0_pay4, k0_pay7, k0_pay14, k0_pay24]

theorem piece3_at (w : Vec Ideal S1024x3072 .bf16) (p : Fin 512) (l : Fin 128) : piece3 X w (ix3 0 p l) = Nm.lin0 (n p) (wmat w) ⟨384 + l.val, by omega⟩ := by
  have e : ∀ k, wmat w k ⟨384 + l.val, by omega⟩ = (View.ld w rw0 : Vec Ideal S1024x1024 .bf16) (ix2 k ⟨384 + l.val, by omega⟩) := fun k =>
    (congrArg (wmat w k) (Fin.ext (by rfl))).trans (w0_at w k ⟨384 + l.val, by omega⟩).symm
  unfold Nm.lin0 piece3
  simp only [← hX, e]
  pointwise [k0_pay3, k0_pay4, k0_pay8, k0_pay9, k0_pay14, k0_pay24]

theorem piece4_at (w : Vec Ideal S1024x3072 .bf16) (p : Fin 512) (l : Fin 128) : piece4 X w (ix3 0 p l) = Nm.lin0 (n p) (wmat w) ⟨512 + l.val, by omega⟩ := by
  have e : ∀ k, wmat w k ⟨512 + l.val, by omega⟩ = (View.ld w rw0 : Vec Ideal S1024x1024 .bf16) (ix2 k ⟨512 + l.val, by omega⟩) := fun k =>
    (congrArg (wmat w k) (Fin.ext (by rfl))).trans (w0_at w k ⟨512 + l.val, by omega⟩).symm
  unfold Nm.lin0 piece4
  simp only [← hX, e]
  pointwise [k0_pay3, k0_pay4, k0_pay10, k0_pay14, k0_pay24]

theorem piece5_at (w : Vec Ideal S1024x3072 .bf16) (p : Fin 512) (l : Fin 128) : piece5 X w (ix3 0 p l) = Nm.lin0 (n p) (wmat w) ⟨640 + l.val, by omega⟩ := by
  have e : ∀ k, wmat w k ⟨640 + l.val, by omega⟩ = (View.ld w rw0 : Vec Ideal S1024x1024 .bf16) (ix2 k ⟨640 + l.val, by omega⟩) := fun k =>
    (congrArg (wmat w k) (Fin.ext (by rfl))).trans (w0_at w k ⟨640 + l.val, by omega⟩).symm
  unfold Nm.lin0 piece5
  simp only [← hX, e]
  pointwise [k0_pay3, k0_pay4, k0_pay11, k0_pay14, k0_pay24]

theorem piece6_at (w : Vec Ideal S1024x3072 .bf16) (p : Fin 512) (l : Fin 128) : piece6 X w (ix3 0 p l) = Nm.lin0 (n p) (wmat w) ⟨768 + l.val, by omega⟩ := by
  have e : ∀ k, wmat w k ⟨768 + l.val, by omega⟩ = (View.ld w rw0 : Vec Ideal S1024x1024 .bf16) (ix2 k ⟨768 + l.val, by omega⟩) := fun k =>
    (congrArg (wmat w k) (Fin.ext (by rfl))).trans (w0_at w k ⟨768 + l.val, by omega⟩).symm
  unfold Nm.lin0 piece6
  simp only [← hX, e]
  pointwise [k0_pay3, k0_pay4, k0_pay12, k0_pay14, k0_pay24]

theorem piece7_at (w : Vec Ideal S1024x3072 .bf16) (p : Fin 512) (l : Fin 128) : piece7 X w (ix3 0 p l) = Nm.lin0 (n p) (wmat w) ⟨896 + l.val, by omega⟩ := by
  have e : ∀ k, wmat w k ⟨896 + l.val, by omega⟩ = (View.ld w rw0 : Vec Ideal S1024x1024 .bf16) (ix2 k ⟨896 + l.val, by omega⟩) := fun k =>
    (congrArg (wmat w k) (Fin.ext (by rfl))).trans (w0_at w k ⟨896 + l.val, by omega⟩).symm
  unfold Nm.lin0 piece7
  simp only [← hX, e]
  pointwise [k0_pay3, k0_pay4, k0_pay13, k0_pay14, k0_pay24]

theorem piece8_at (w : Vec Ideal S1024x3072 .bf16) (p : Fin 512) (l : Fin 128) : piece8 X w (ix3 0 p l) = Nm.lin0 (n p) (wmat w) ⟨1024 + l.val, by omega⟩ := by
  have e : ∀ k, wmat w k ⟨1024 + l.val, by omega⟩ = (View.ld w rw1024 : Vec Ideal S1024x1024 .bf16) (ix2 k ⟨l.val, by omega⟩) := fun k =>
    (congrArg (wmat w k) (Fin.ext (by show 1024 + l.val = 1024 + (l.val); omega))).trans (w1024_at w k ⟨l.val, by omega⟩).symm
  unfold Nm.lin0 piece8
  simp only [← hX, e]
  pointwise [k0_pay3, k0_pay4, k0_pay14, k0_pay15, k0_pay24]

theorem piece9_at (w : Vec Ideal S1024x3072 .bf16) (p : Fin 512) (l : Fin 128) : piece9 X w (ix3 0 p l) = Nm.lin0 (n p) (wmat w) ⟨1152 + l.val, by omega⟩ := by
  have e : ∀ k, wmat w k ⟨1152 + l.val, by omega⟩ = (View.ld w rw1024 : Vec Ideal S1024x1024 .bf16) (ix2 k ⟨128 + l.val, by omega⟩) := fun k =>
    (congrArg (wmat w k) (Fin.ext (by show 1152 + l.val = 1024 + (128 + l.val); omega))).trans (w1024_at w k ⟨128 + l.val, by omega⟩).symm
  unfold Nm.lin0 piece9
  simp only [← hX, e]
  pointwise [k0_pay3, k0_pay4, k0_pay14, k0_pay16, k0_pay17, k0_pay24]

theorem piece10_at (w : Vec Ideal S1024x3072 .bf16) (p : Fin 512) (l : Fin 128) : piece10 X w (ix3 0 p l) = Nm.lin0 (n p) (wmat w) ⟨1280 + l.val, by omega⟩ := by
  have e : ∀ k, wmat w k ⟨1280 + l.val, by omega⟩ = (View.ld w rw1024 : Vec Ideal S1024x1024 .bf16) (ix2 k ⟨256 + l.val, by omega⟩) := fun k =>
    (congrArg (wmat w k) (Fin.ext (by show 1280 + l.val = 1024 + (256 + l.val); omega))).trans (w1024_at w k ⟨256 + l.val, by omega⟩).symm
  unfold Nm.lin0 piece10
  simp only [← hX, e]
  pointwise [k0_pay3, k0_pay4, k0_pay14, k0_pay18, k0_pay24]

theorem piece11_at (w : Vec Ideal S1024x3072 .bf16) (p : Fin 512) (l : Fin 128) : piece11 X w (ix3 0 p l) = Nm.lin0 (n p) (wmat w) ⟨1408 + l.val, by omega⟩ := by
  have e : ∀ k, wmat w k ⟨1408 + l.val, by omega⟩ = (View.ld w rw1024 : Vec Ideal S1024x1024 .bf16) (ix2 k ⟨384 + l.val, by omega⟩) := fun k =>
    (congrArg (wmat w k) (Fin.ext (by show 1408 + l.val = 1024 + (384 + l.val); omega))).trans (w1024_at w k ⟨384 + l.val, by omega⟩).symm
  unfold Nm.lin0 piece11
  simp only [← hX, e]
  pointwise [k0_pay3, k0_pay4, k0_pay14, k0_pay19, k0_pay24]

theorem piece12_at (w : Vec Ideal S1024x3072 .bf16) (p : Fin 512) (l : Fin 128) : piece12 X w (ix3 0 p l) = Nm.lin0 (n p) (wmat w) ⟨1536 + l.val, by omega⟩ := by
  have e : ∀ k, wmat w k ⟨1536 + l.val, by omega⟩ = (View.ld w rw1024 : Vec Ideal S1024x1024 .bf16) (ix2 k ⟨512 + l.val, by omega⟩) := fun k =>
    (congrArg (wmat w k) (Fin.ext (by show 1536 + l.val = 1024 + (512 + l.val); omega))).trans (w1024_at w k ⟨512 + l.val, by omega⟩).symm
  unfold Nm.lin0 piece12
  simp only [← hX, e]
  pointwise [k0_pay3, k0_pay4, k0_pay14, k0_pay20, k0_pay24]

theorem piece13_at (w : Vec Ideal S1024x3072 .bf16) (p : Fin 512) (l : Fin 128) : piece13 X w (ix3 0 p l) = Nm.lin0 (n p) (wmat w) ⟨1664 + l.val, by omega⟩ := by
  have e : ∀ k, wmat w k ⟨1664 + l.val, by omega⟩ = (View.ld w rw1024 : Vec Ideal S1024x1024 .bf16) (ix2 k ⟨640 + l.val, by omega⟩) := fun k =>
    (congrArg (wmat w k) (Fin.ext (by show 1664 + l.val = 1024 + (640 + l.val); omega))).trans (w1024_at w k ⟨640 + l.val, by omega⟩).symm
  unfold Nm.lin0 piece13
  simp only [← hX, e]
  pointwise [k0_pay3, k0_pay4, k0_pay14, k0_pay21, k0_pay24]

theorem piece14_at (w : Vec Ideal S1024x3072 .bf16) (p : Fin 512) (l : Fin 128) : piece14 X w (ix3 0 p l) = Nm.lin0 (n p) (wmat w) ⟨1792 + l.val, by omega⟩ := by
  have e : ∀ k, wmat w k ⟨1792 + l.val, by omega⟩ = (View.ld w rw1024 : Vec Ideal S1024x1024 .bf16) (ix2 k ⟨768 + l.val, by omega⟩) := fun k =>
    (congrArg (wmat w k) (Fin.ext (by show 1792 + l.val = 1024 + (768 + l.val); omega))).trans (w1024_at w k ⟨768 + l.val, by omega⟩).symm
  unfold Nm.lin0 piece14
  simp only [← hX, e]
  pointwise [k0_pay3, k0_pay4, k0_pay14, k0_pay22, k0_pay24]

theorem piece15_at (w : Vec Ideal S1024x3072 .bf16) (p : Fin 512) (l : Fin 128) : piece15 X w (ix3 0 p l) = Nm.lin0 (n p) (wmat w) ⟨1920 + l.val, by omega⟩ := by
  have e : ∀ k, wmat w k ⟨1920 + l.val, by omega⟩ = (View.ld w rw1024 : Vec Ideal S1024x1024 .bf16) (ix2 k ⟨896 + l.val, by omega⟩) := fun k =>
    (congrArg (wmat w k) (Fin.ext (by show 1920 + l.val = 1024 + (896 + l.val); omega))).trans (w1024_at w k ⟨896 + l.val, by omega⟩).symm
  unfold Nm.lin0 piece15
  simp only [← hX, e]
  pointwise [k0_pay3, k0_pay4, k0_pay14, k0_pay23, k0_pay24]

theorem piece16_at (w : Vec Ideal S1024x3072 .bf16) (p : Fin 512) (l : Fin 128) : piece16 X w (ix3 0 p l) = Nm.lin0 (n p) (wmat w) ⟨2048 + l.val, by omega⟩ := by
  have e : ∀ k, wmat w k ⟨2048 + l.val, by omega⟩ = (View.ld w rw2048 : Vec Ideal S1024x1024 .bf16) (ix2 k ⟨l.val, by omega⟩) := fun k =>
    (congrArg (wmat w k) (Fin.ext (by show 2048 + l.val = 2048 + (l.val); omega))).trans (w2048_at w k ⟨l.val, by omega⟩).symm
  unfold Nm.lin0 piece16
  simp only [← hX, e]
  pointwise [k0_pay3, k0_pay4, k0_pay14, k0_pay24, k0_pay25]

theorem piece17_at (w : Vec Ideal S1024x3072 .bf16) (p : Fin 512) (l : Fin 128) : piece17 X w (ix3 0 p l) = Nm.lin0 (n p) (wmat w) ⟨2176 + l.val, by omega⟩ := by
  have e : ∀ k, wmat w k ⟨2176 + l.val, by omega⟩ = (View.ld w rw2048 : Vec Ideal S1024x1024 .bf16) (ix2 k ⟨128 + l.val, by omega⟩) := fun k =>
    (congrArg (wmat w k) (Fin.ext (by show 2176 + l.val = 2048 + (128 + l.val); omega))).trans (w2048_at w k ⟨128 + l.val, by omega⟩).symm
  unfold Nm.lin0 piece17
  simp only [← hX, e]
  pointwise [k0_pay3, k0_pay4, k0_pay14, k0_pay24, k0_pay26]

theorem piece18_at (w : Vec Ideal S1024x3072 .bf16) (p : Fin 512) (l : Fin 128) : piece18 X w (ix3 0 p l) = Nm.lin0 (n p) (wmat w) ⟨2304 + l.val, by omega⟩ := by
  have e : ∀ k, wmat w k ⟨2304 + l.val, by omega⟩ = (View.ld w rw2048 : Vec Ideal S1024x1024 .bf16) (ix2 k ⟨256 + l.val, by omega⟩) := fun k =>
    (congrArg (wmat w k) (Fin.ext (by show 2304 + l.val = 2048 + (256 + l.val); omega))).trans (w2048_at w k ⟨256 + l.val, by omega⟩).symm
  unfold Nm.lin0 piece18
  simp only [← hX, e]
  pointwise [k0_pay3, k0_pay4, k0_pay14, k0_pay24, k0_pay27]

theorem piece19_at (w : Vec Ideal S1024x3072 .bf16) (p : Fin 512) (l : Fin 128) : piece19 X w (ix3 0 p l) = Nm.lin0 (n p) (wmat w) ⟨2432 + l.val, by omega⟩ := by
  have e : ∀ k, wmat w k ⟨2432 + l.val, by omega⟩ = (View.ld w rw2048 : Vec Ideal S1024x1024 .bf16) (ix2 k ⟨384 + l.val, by omega⟩) := fun k =>
    (congrArg (wmat w k) (Fin.ext (by show 2432 + l.val = 2048 + (384 + l.val); omega))).trans (w2048_at w k ⟨384 + l.val, by omega⟩).symm
  unfold Nm.lin0 piece19
  simp only [← hX, e]
  pointwise [k0_pay3, k0_pay4, k0_pay14, k0_pay24, k0_pay28]

theorem piece20_at (w : Vec Ideal S1024x3072 .bf16) (p : Fin 512) (l : Fin 128) : piece20 X w (ix3 0 p l) = Nm.lin0 (n p) (wmat w) ⟨2560 + l.val, by omega⟩ := by
  have e : ∀ k, wmat w k ⟨2560 + l.val, by omega⟩ = (View.ld w rw2048 : Vec Ideal S1024x1024 .bf16) (ix2 k ⟨512 + l.val, by omega⟩) := fun k =>
    (congrArg (wmat w k) (Fin.ext (by show 2560 + l.val = 2048 + (512 + l.val); omega))).trans (w2048_at w k ⟨512 + l.val, by omega⟩).symm
  unfold Nm.lin0 piece20
  simp only [← hX, e]
  pointwise [k0_pay3, k0_pay4, k0_pay14, k0_pay24, k0_pay29]

theorem piece21_at (w : Vec Ideal S1024x3072 .bf16) (p : Fin 512) (l : Fin 128) : piece21 X w (ix3 0 p l) = Nm.lin0 (n p) (wmat w) ⟨2688 + l.val, by omega⟩ := by
  have e : ∀ k, wmat w k ⟨2688 + l.val, by omega⟩ = (View.ld w rw2048 : Vec Ideal S1024x1024 .bf16) (ix2 k ⟨640 + l.val, by omega⟩) := fun k =>
    (congrArg (wmat w k) (Fin.ext (by show 2688 + l.val = 2048 + (640 + l.val); omega))).trans (w2048_at w k ⟨640 + l.val, by omega⟩).symm
  unfold Nm.lin0 piece21
  simp only [← hX, e]
  pointwise [k0_pay3, k0_pay4, k0_pay14, k0_pay24, k0_pay30]

theorem piece22_at (w : Vec Ideal S1024x3072 .bf16) (p : Fin 512) (l : Fin 128) : piece22 X w (ix3 0 p l) = Nm.lin0 (n p) (wmat w) ⟨2816 + l.val, by omega⟩ := by
  have e : ∀ k, wmat w k ⟨2816 + l.val, by omega⟩ = (View.ld w rw2048 : Vec Ideal S1024x1024 .bf16) (ix2 k ⟨768 + l.val, by omega⟩) := fun k =>
    (congrArg (wmat w k) (Fin.ext (by show 2816 + l.val = 2048 + (768 + l.val); omega))).trans (w2048_at w k ⟨768 + l.val, by omega⟩).symm
  unfold Nm.lin0 piece22
  simp only [← hX, e]
  pointwise [k0_pay3, k0_pay4, k0_pay14, k0_pay24, k0_pay31, k0_pay32]

theorem piece23_at (w : Vec Ideal S1024x3072 .bf16) (p : Fin 512) (l : Fin 128) : piece23 X w (ix3 0 p l) = Nm.lin0 (n p) (wmat w) ⟨2944 + l.val, by omega⟩ := by
  have e : ∀ k, wmat w k ⟨2944 + l.val, by omega⟩ = (View.ld w rw2048 : Vec Ideal S1024x1024 .bf16) (ix2 k ⟨896 + l.val, by omega⟩) := fun k =>
    (congrArg (wmat w k) (Fin.ext (by show 2944 + l.val = 2048 + (896 + l.val); omega))).trans (w2048_at w k ⟨896 + l.val, by omega⟩).symm
  unfold Nm.lin0 piece23
  simp only [← hX, e]
  pointwise [k0_pay3, k0_pay4, k0_pay14, k0_pay24, k0_pay33]

theorem outv_at (w : Vec Ideal S1024x3072 .bf16) (j : Fin 24) (p : Fin 512) (l : Fin 128) :
    outv X w (ix3 j p l) = Nm.lin0 (n p) (wmat w) ⟨j.val * 128 + l.val, by omega⟩ := by
  unfold outv
  canon_tiles x h
  · idx_vars x
    have e0 : j = (⟨23, by decide⟩ : Fin 24) := Fin.ext (by show j.val = 23; omega)
    have e1 : p = x1 := Fin.ext h1
    have e2 : l = x2 := Fin.ext h2
    have e3 : x0 = 0 := Fin.ext (by show x0.val = 0; omega)
    rw [e0, e1, e2, e3]
    exact piece23_at X n hX w x1 x2
  · idx_vars x
    have e0 : j = (⟨22, by decide⟩ : Fin 24) := Fin.ext (by show j.val = 22; omega)
    have e1 : p = x1 := Fin.ext h1
    have e2 : l = x2 := Fin.ext h2
    have e3 : x0 = 0 := Fin.ext (by show x0.val = 0; omega)
    rw [e0, e1, e2, e3]
    exact piece22_at X n hX w x1 x2
  · idx_vars x
    have e0 : j = (⟨21, by decide⟩ : Fin 24) := Fin.ext (by show j.val = 21; omega)
    have e1 : p = x1 := Fin.ext h1
    have e2 : l = x2 := Fin.ext h2
    have e3 : x0 = 0 := Fin.ext (by show x0.val = 0; omega)
    rw [e0, e1, e2, e3]
    exact piece21_at X n hX w x1 x2
  · idx_vars x
    have e0 : j = (⟨20, by decide⟩ : Fin 24) := Fin.ext (by show j.val = 20; omega)
    have e1 : p = x1 := Fin.ext h1
    have e2 : l = x2 := Fin.ext h2
    have e3 : x0 = 0 := Fin.ext (by show x0.val = 0; omega)
    rw [e0, e1, e2, e3]
    exact piece20_at X n hX w x1 x2
  · idx_vars x
    have e0 : j = (⟨19, by decide⟩ : Fin 24) := Fin.ext (by show j.val = 19; omega)
    have e1 : p = x1 := Fin.ext h1
    have e2 : l = x2 := Fin.ext h2
    have e3 : x0 = 0 := Fin.ext (by show x0.val = 0; omega)
    rw [e0, e1, e2, e3]
    exact piece19_at X n hX w x1 x2
  · idx_vars x
    have e0 : j = (⟨18, by decide⟩ : Fin 24) := Fin.ext (by show j.val = 18; omega)
    have e1 : p = x1 := Fin.ext h1
    have e2 : l = x2 := Fin.ext h2
    have e3 : x0 = 0 := Fin.ext (by show x0.val = 0; omega)
    rw [e0, e1, e2, e3]
    exact piece18_at X n hX w x1 x2
  · idx_vars x
    have e0 : j = (⟨17, by decide⟩ : Fin 24) := Fin.ext (by show j.val = 17; omega)
    have e1 : p = x1 := Fin.ext h1
    have e2 : l = x2 := Fin.ext h2
    have e3 : x0 = 0 := Fin.ext (by show x0.val = 0; omega)
    rw [e0, e1, e2, e3]
    exact piece17_at X n hX w x1 x2
  · idx_vars x
    have e0 : j = (⟨16, by decide⟩ : Fin 24) := Fin.ext (by show j.val = 16; omega)
    have e1 : p = x1 := Fin.ext h1
    have e2 : l = x2 := Fin.ext h2
    have e3 : x0 = 0 := Fin.ext (by show x0.val = 0; omega)
    rw [e0, e1, e2, e3]
    exact piece16_at X n hX w x1 x2
  · idx_vars x
    have e0 : j = (⟨15, by decide⟩ : Fin 24) := Fin.ext (by show j.val = 15; omega)
    have e1 : p = x1 := Fin.ext h1
    have e2 : l = x2 := Fin.ext h2
    have e3 : x0 = 0 := Fin.ext (by show x0.val = 0; omega)
    rw [e0, e1, e2, e3]
    exact piece15_at X n hX w x1 x2
  · idx_vars x
    have e0 : j = (⟨14, by decide⟩ : Fin 24) := Fin.ext (by show j.val = 14; omega)
    have e1 : p = x1 := Fin.ext h1
    have e2 : l = x2 := Fin.ext h2
    have e3 : x0 = 0 := Fin.ext (by show x0.val = 0; omega)
    rw [e0, e1, e2, e3]
    exact piece14_at X n hX w x1 x2
  · idx_vars x
    have e0 : j = (⟨13, by decide⟩ : Fin 24) := Fin.ext (by show j.val = 13; omega)
    have e1 : p = x1 := Fin.ext h1
    have e2 : l = x2 := Fin.ext h2
    have e3 : x0 = 0 := Fin.ext (by show x0.val = 0; omega)
    rw [e0, e1, e2, e3]
    exact piece13_at X n hX w x1 x2
  · idx_vars x
    have e0 : j = (⟨12, by decide⟩ : Fin 24) := Fin.ext (by show j.val = 12; omega)
    have e1 : p = x1 := Fin.ext h1
    have e2 : l = x2 := Fin.ext h2
    have e3 : x0 = 0 := Fin.ext (by show x0.val = 0; omega)
    rw [e0, e1, e2, e3]
    exact piece12_at X n hX w x1 x2
  · idx_vars x
    have e0 : j = (⟨11, by decide⟩ : Fin 24) := Fin.ext (by show j.val = 11; omega)
    have e1 : p = x1 := Fin.ext h1
    have e2 : l = x2 := Fin.ext h2
    have e3 : x0 = 0 := Fin.ext (by show x0.val = 0; omega)
    rw [e0, e1, e2, e3]
    exact piece11_at X n hX w x1 x2
  · idx_vars x
    have e0 : j = (⟨10, by decide⟩ : Fin 24) := Fin.ext (by show j.val = 10; omega)
    have e1 : p = x1 := Fin.ext h1
    have e2 : l = x2 := Fin.ext h2
    have e3 : x0 = 0 := Fin.ext (by show x0.val = 0; omega)
    rw [e0, e1, e2, e3]
    exact piece10_at X n hX w x1 x2
  · idx_vars x
    have e0 : j = (⟨9, by decide⟩ : Fin 24) := Fin.ext (by show j.val = 9; omega)
    have e1 : p = x1 := Fin.ext h1
    have e2 : l = x2 := Fin.ext h2
    have e3 : x0 = 0 := Fin.ext (by show x0.val = 0; omega)
    rw [e0, e1, e2, e3]
    exact piece9_at X n hX w x1 x2
  · idx_vars x
    have e0 : j = (⟨8, by decide⟩ : Fin 24) := Fin.ext (by show j.val = 8; omega)
    have e1 : p = x1 := Fin.ext h1
    have e2 : l = x2 := Fin.ext h2
    have e3 : x0 = 0 := Fin.ext (by show x0.val = 0; omega)
    rw [e0, e1, e2, e3]
    exact piece8_at X n hX w x1 x2
  · idx_vars x
    have e0 : j = (⟨7, by decide⟩ : Fin 24) := Fin.ext (by show j.val = 7; omega)
    have e1 : p = x1 := Fin.ext h1
    have e2 : l = x2 := Fin.ext h2
    have e3 : x0 = 0 := Fin.ext (by show x0.val = 0; omega)
    rw [e0, e1, e2, e3]
    exact piece7_at X n hX w x1 x2
  · idx_vars x
    have e0 : j = (⟨6, by decide⟩ : Fin 24) := Fin.ext (by show j.val = 6; omega)
    have e1 : p = x1 := Fin.ext h1
    have e2 : l = x2 := Fin.ext h2
    have e3 : x0 = 0 := Fin.ext (by show x0.val = 0; omega)
    rw [e0, e1, e2, e3]
    exact piece6_at X n hX w x1 x2
  · idx_vars x
    have e0 : j = (⟨5, by decide⟩ : Fin 24) := Fin.ext (by show j.val = 5; omega)
    have e1 : p = x1 := Fin.ext h1
    have e2 : l = x2 := Fin.ext h2
    have e3 : x0 = 0 := Fin.ext (by show x0.val = 0; omega)
    rw [e0, e1, e2, e3]
    exact piece5_at X n hX w x1 x2
  · idx_vars x
    have e0 : j = (⟨4, by decide⟩ : Fin 24) := Fin.ext (by show j.val = 4; omega)
    have e1 : p = x1 := Fin.ext h1
    have e2 : l = x2 := Fin.ext h2
    have e3 : x0 = 0 := Fin.ext (by show x0.val = 0; omega)
    rw [e0, e1, e2, e3]
    exact piece4_at X n hX w x1 x2
  · idx_vars x
    have e0 : j = (⟨3, by decide⟩ : Fin 24) := Fin.ext (by show j.val = 3; omega)
    have e1 : p = x1 := Fin.ext h1
    have e2 : l = x2 := Fin.ext h2
    have e3 : x0 = 0 := Fin.ext (by show x0.val = 0; omega)
    rw [e0, e1, e2, e3]
    exact piece3_at X n hX w x1 x2
  · idx_vars x
    have e0 : j = (⟨2, by decide⟩ : Fin 24) := Fin.ext (by show j.val = 2; omega)
    have e1 : p = x1 := Fin.ext h1
    have e2 : l = x2 := Fin.ext h2
    have e3 : x0 = 0 := Fin.ext (by show x0.val = 0; omega)
    rw [e0, e1, e2, e3]
    exact piece2_at X n hX w x1 x2
  · idx_vars x
    have e0 : j = (⟨1, by decide⟩ : Fin 24) := Fin.ext (by show j.val = 1; omega)
    have e1 : p = x1 := Fin.ext h1
    have e2 : l = x2 := Fin.ext h2
    have e3 : x0 = 0 := Fin.ext (by show x0.val = 0; omega)
    rw [e0, e1, e2, e3]
    exact piece1_at X n hX w x1 x2
  · idx_vars x
    have e0 : j = (⟨0, by decide⟩ : Fin 24) := Fin.ext (by show j.val = 0; omega)
    have e1 : p = x1 := Fin.ext h1
    have e2 : l = x2 := Fin.ext h2
    have e3 : x0 = 0 := Fin.ext (by show x0.val = 0; omega)
    rw [e0, e1, e2, e3]
    exact piece0_at X n hX w x1 x2

end

theorem block_at (x : Vec Ideal S512x1024 .f32) (g : Vec Ideal S1x1024 .f32) (w : Vec Ideal S1024x3072 .bf16) (j : Fin 24) (p : Fin 512) (l : Fin 128) :
    outv (nrm x g) w (ix3 j p l) = Nm.lin0 (Swi.nrow (brow x p) (grow g)) (wmat w) ⟨j.val * 128 + l.val, by omega⟩ :=
  outv_at (nrm x g) (fun p => Swi.nrow (brow x p) (grow g)) (nrm_at x g) w j p l

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The weights the kernel is given, column by column of the whole weight matrix. -/
def wk (w : FVec Ideal S1024x3656 .f32) (k : Fin 1024) (f : Fin 3072) : EReal :=
  if f.val < 1024 then w (ix2 k ⟨f.val, by omega⟩) * Ideal.ofBits FTy.f32 0x3E0293EE#32 else w (ix2 k ⟨f.val, by omega⟩)

/-- The result as the kernel forms it, row `r`, lane `f`. -/
def ker (x : FVec Ideal S2x16384x1024 .f32) (g : FVec Ideal S1024 .f32) (w : FVec Ideal S1024x3656 .f32) (r : Fin 32768) (f : Fin 3072) : EReal :=
  Nm.lin0 (Swi.nrow (xrow x r) (fun k => g (ix1 k))) (wk w) f

theorem idx : ∀ t : Fin cfg0.N,
    win0_0.index t = ![min t.val 63, 0] ∧ win0_1.index t = ![0, 0] ∧ win0_2.index t = ![0, 0]
    ∧ win0_3.index t = ![0, t.val - 1, 0] ∧ t.val < 65 :=
  (by decide +kernel : ∀ t : Fin grid0.N, _)

theorem flush_pos : ∀ t : Fin cfg0.N, (cfg0.win 3).flush t = true → t.val ≠ 0 :=
  (by decide +kernel : ∀ t : Fin grid0.N, (cfg0.win 3).flush t = true → t.val ≠ 0)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x3656 .f32) : FVec Ideal S1024x3072 .bf16 :=
  truncf .bf16 (concatenate S1024x3072 1 [⟨S1024x1024, mulf (extractStridedSlice S1024x1024 ![0, 0] w slices_S1024x3656_S1024x1024_0_0 : FVec Ideal S1024x1024 .f32) (broadcastInDim S1024x1024 ![] bcast_S_S1024x1024 (constant S_ .f32 0x3E0293EE#32))⟩, ⟨S1024x2048, extractStridedSlice S1024x2048 ![0, 1024] w slices_S1024x3656_S1024x2048_0_1024⟩] concatenates_S1024x1024_S1024x2048_S1024x3072_d1 : FVec Ideal S1024x3072 .f32) bitsLt_bf16_f32

theorem nw_at (w : FVec Ideal S1024x3656 .f32) (k : Fin 1024) (f : Fin 3072) : nw w (ix2 k f) = wk w k f := by
  have hf := f.isLt
  unfold wk
  pointwise [nw]
  split_ifs with h
  · rfl
  all_goals exact congrArg w (congrArg (ix2 k) (Fin.ext (by dsimp only; omega)))

set_option maxHeartbeats 2000000 in
theorem V_x (c : Dev nD) : V m c main_v6 = rows (m ((c : Thread nD τ).loc main_arg0)) := by
  unfold V
  after_results
  rfl

set_option maxHeartbeats 2000000 in
theorem V_g (c : Dev nD) : V m c main_v7 = flat (m ((c : Thread nD τ).loc main_arg1)) := by
  unfold V
  after_results
  rfl

set_option maxHeartbeats 2000000 in
theorem V_w (c : Dev nD) : V m c main_v5 = nw (m ((c : Thread nD τ).loc main_arg2)) := by
  unfold V
  after_results
  rfl

theorem x_at (c : Dev nD) (t : Fin cfg0.N) (p : Fin 512) (k : Fin 1024) (r : Fin 32768) (ht : t.val < 64) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 1 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 3072) :
    wmat (iblk m c 2 t) k f = wk (m ((c : Thread nD τ).loc main_arg2)) k f := by
  refine Eq.trans ?_ (nw_at (m ((c : Thread nD τ).loc main_arg2)) k f)
  blk_simp [wmat, iblk, idx t]
  rw [V_w]
  blk_ext [idx t]

/-- A later point's results: those of the block before. -/
theorem point (c : Dev nD) (t : Fin cfg0.N) (hz : t.val ≠ 0) (j : Fin 24) (p : Fin 512) (l : Fin 128) (r : Fin 32768) (hr : r.val = (t.val - 1) * 512 + p.val) :
    outv (nrm (iblk m c 0 (prev t)) (iblk m c 1 (prev t))) (iblk m c 2 t) (ix3 j p l)
      = ker (m ((c : Thread nD τ).loc main_arg0)) (m ((c : Thread nD τ).loc main_arg1)) (m ((c : Thread nD τ).loc main_arg2)) r ⟨j.val * 128 + l.val, by omega⟩ := by
  have ht := (idx t).2.2.2.2
  refine (block_at _ _ _ j p l).trans ?_
  have ex : brow (iblk m c 0 (prev t)) p = xrow (m ((c : Thread nD τ).loc main_arg0)) r := funext fun k => x_at m c (prev t) p k r (by show t.val - 1 < 64; omega) hr
  have eg : grow (iblk m c 1 (prev t)) = fun k => m ((c : Thread nD τ).loc main_arg1) (ix1 k) := funext fun k => g_at m c (prev t) k
  have ew : wmat (iblk m c 2 t) = wk (m ((c : Thread nD τ).loc main_arg2)) := funext fun k => funext fun f => w_at m c t k f
  rw [ex, eg, ew]
  rfl

/-- The result array after the run. -/
theorem final (c : Dev nD) : (dats m 0 c).arrAt 3 (cfgs 0).N = fun i : S24x32768x128.Idx => ker (m ((c : Thread nD τ).loc main_arg0)) (m ((c : Thread nD τ).loc main_arg1)) (m ((c : Thread nD τ).loc main_arg2)) (i 1) ⟨(i 0).val * 128 + (i 2).val, by have h0 : (i 0).val < 24 := (i 0).isLt; have h2 : (i 2).val < 128 := (i 2).isLt; omega⟩ := by
  refine (dats m 0 c).arrAt_eq_of_covers 3 _ (by decide +kernel) fun t hf y => ?_
  have hz := flush_pos t hf
  blk_simp
  rw [after0_3]
  idx_vars y
  refine (point m c t hz y0 y1 y2 _ ?_).trans (congrArg (ker (m ((c : Thread nD τ).loc main_arg0)) (m ((c : Thread nD τ).loc main_arg1)) (m ((c : Thread nD τ).loc main_arg2)) _) (Fin.ext ?_))
  all_goals (blk_simp [idx t] <;> try omega)

end Cert.AQkvBody
-- ==== Proof.AQkvRef.lean ====
module

public import proofs.«01_k».proof.Proof.Gen.AQkvRefIdeal.Read
public import proofs.«01_k».proof.Proof.AQkvVal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.AQkvRefIdeal.Val
open Cert.AQkvRefIdeal Cert.AQkvRefIdeal.Gen Cert.AQkvRefIdeal.Read

variable (x : FVec Ideal S2x16384x1024 .f32) (g : FVec Ideal S1024 .f32) (w : FVec Ideal S1024x3656 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 3656) :
    val_main_v13 (F := Ideal) x g w (ix3 b s f) = Nm.lin0 (Swi.nrow (fun k => x (ix3 b s k)) (fun k => g (ix1 k))) (fun k f => w (ix2 k f)) f := by
  unfold Nm.lin0
  simp only [← norm_at]
  pointwise [val_main_v13]

theorem scale_pos : ∃ a : ℝ, Ideal.ofBits FTy.f32 0x3E0293EE#32 = (a : EReal) ∧ 0 ≤ a := by
  refine ⟨_, by simp [Ideal.ofBits, Ideal.ieee]; rfl, ?_⟩
  positivity

/-- A scale is taken out of a sum. -/
theorem sum_scale (t : Fin 1024 → EReal) (a : ℝ) (ha : 0 ≤ a) : (∑ k, t k) * (a : EReal) = ∑ k, t k * (a : EReal) := by
  refine Finset.induction_on (motive := fun s : Finset (Fin 1024) => (∑ k ∈ s, t k) * (a : EReal) = ∑ k ∈ s, t k * (a : EReal)) Finset.univ (by simp) ?_
  intro i s hi ih
  rw [Finset.sum_insert hi, Finset.sum_insert hi, ← ih]
  exact EReal.right_distrib_of_nonneg_of_ne_top (EReal.coe_nonneg.mpr ha) (EReal.coe_ne_top a) _ _

theorem cat_at (b : Fin 2) (s : Fin 16384) (f : Fin 3072) : val_main_v20 (F := Ideal) x g w (ix3 b s f)
    = if f.val < 1024 then val_main_v13 (F := Ideal) x g w (ix3 b s ⟨f.val, by omega⟩) * Ideal.ofBits FTy.f32 0x3E0293EE#32
      else val_main_v13 (F := Ideal) x g w (ix3 b s ⟨f.val, by omega⟩) := by
  have hf := f.isLt
  pointwise [val_main_v20, val_main_v19, val_main_v18, val_main_v16, val_main_v15, val_main_v14, val_main_cst_2]
  split_ifs
  all_goals
    first
      | rfl
      | (exfalso; omega)
      | (refine congrArg (val_main_v13 (F := Ideal) x g w) (congrArg (ix3 b s) (Fin.ext ?_))
         first | rfl | (dsimp only; omega))

theorem result_at (j : Fin 24) (r : Fin 32768) (l : Fin 128) : val_main_v23 (F := Ideal) x g w (ix3 j r l) = Cert.AQkvBody.ker x g w r ⟨j.val * 128 + l.val, by omega⟩ := by
  have e : val_main_v23 (F := Ideal) x g w (ix3 j r l) = val_main_v20 (F := Ideal) x g w (ix3 ⟨r.val / 16384, by omega⟩ ⟨r.val % 16384, by omega⟩ ⟨j.val * 128 + l.val, by omega⟩) := by
    pointwise [val_main_v23, val_main_v22, val_main_v21]
    blk_ext
  refine e.trans ((cat_at x g w _ _ _).trans ?_)
  unfold Cert.AQkvBody.ker
  rw [lin_at]
  obtain ⟨a, hc, ha⟩ := scale_pos
  unfold Nm.lin0 Cert.AQkvBody.wk
  rw [hc]
  split_ifs
  · rw [sum_scale _ a ha]
    exact Finset.sum_congr rfl fun k _ => mul_assoc _ _ _
  · rfl

end Cert.AQkvRefIdeal.Val
-- ==== Proof.AQkvClaims.lean ====
module

public import proofs.«01_k».proof.Defs
public import proofs.«01_k».proof.Proof.AQkvVal
public import proofs.«01_k».proof.Proof.AQkvRef
public import proofs.«01_k».proof.Proof.Gen.AQkv
public import proofs.«01_k».proof.Proof.Gen.AQkvRefIdeal.Run
public import Idealize.ShloMosaic.Lib.Claim

@[expose] public section

set_option maxRecDepth 16384

noncomputable section

open Idealize.ShloMosaic Idealize.ShloMosaic.TcCoe Idealize.SL.Sem

/-! # The claims about the call AQkv -/

namespace Cert.AQkvClaims

/-- Both programs' kernel bodies are the same text. -/
theorem bodies_eq : Cert.AQkv.defs₀ (F := Bits) = Cert.AQkvIdeal.defs₀ (F := Bits) := by
  unfold Cert.AQkv.defs₀ Cert.AQkvIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.AQkv.defs (F := Bits) = Cert.AQkvIdeal.defs (F := Bits) := congrArg (Pipeline.defs _) bodies_eq

theorem frame_p : Cert.quiescent_AQkv := fun m ρ _ => by
  rw [defs_eq]
  exact Cert.AQkvBody.frame (F := Bits) m ρ
theorem frame_pi : Cert.quiescent_AQkvIdeal := fun m ρ _ => Cert.AQkvBody.frame m ρ
theorem frame_ri : Cert.quiescent_AQkvRefIdeal := fun m ρ _ =>
  (θ_run Cert.AQkvRefIdeal.defs _ _).mono (fun r h => ⟨fun c => (h c).2, Idealize.ShloMosaic.sem_eq_zero_of_no_sems (by decide) r.2⟩)
    (Cert.AQkvRefIdeal.Value.run (F := Ideal) m ρ)

theorem preserves : Cert.preserves_AQkv_AQkvIdeal := trivial

theorem algebraic : Cert.algebraic_AQkvIdeal_AQkvRefIdeal := by
  intro m g m' g' hpre hagree
  refine ⟨fun c => (Cert.AQkvBody.dats m 0 c).arrAt 3 (Cert.AQkvIdeal.cfgs 0).N, ?_, ?_⟩
  · run_from Cert.AQkvBody.run_main m g
  · refine (θ_run Cert.AQkvRefIdeal.defs _ _).mono (fun r h c => ⟨(h c).1.trans ?_, (h c).2⟩) (Cert.AQkvRefIdeal.Value.run (F := Ideal) m' g')
    refine Eq.trans ?_ (Cert.AQkvBody.final m c).symm
    rw [Cert.AQkvRefIdeal.Read.val_main_v23_eq, (hagree c).1, (hagree c).2.1, (hagree c).2.2]
    refine funext fun i => ?_
    obtain ⟨j, r, l, rfl⟩ : ∃ (j : Fin 24) (r : Fin 32768) (l : Fin 128), i = ix3 j r l := ⟨i 0, i 1, i 2, eq_ix3 i⟩
    exact Cert.AQkvRefIdeal.Val.result_at _ _ _ j r l

end Cert.AQkvClaims
-- ==== Proof.AIdxBody.lean ====
module

public import proofs.«01_k».proof.Proof.Slot
public import proofs.«01_k».proof.Proof.Gen.AIdxIdeal.Skeleton
public import proofs.«01_k».proof.Proof.Gen.AIdxIdeal.Frame
public import Idealize.ShloMosaic.Lib.Claim
public import Idealize.ShloMosaic.Lib.VecWindow
public import Idealize.ShloMosaic.Lib.WritesUnit

@[expose] public section

set_option maxRecDepth 16384

noncomputable section

namespace Cert.AIdxBody

open Cert.AIdxIdeal Cert.AIdxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of the first slot of the scratch, of the slot a point reads and of the slot
    it fills; then the weights' column ranges and the results' parts. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) (h : k0_cond2 i = 1#1) : Rect S2x512x1024 := Rect.unit (s := S2x512x1024) (k0_off1 i) S1x512x1024.size (k0_off1_inb i h)
abbrev rnext (i : grid0.Coords) (h : k0_cond2 i = 1#1) : Rect S2x512x1024 := Rect.unit (s := S2x512x1024) (k0_off2 i) S1x512x1024.size (k0_off2_inb i h)
abbrev rw0 : Rect S1024x640 := Rect.unit (s := S1024x640) ![0, 0] S1024x640.size inb_S1024x640_S1024x640_0_0
abbrev ro0 : Rect S512x640 := Rect.unit (s := S512x640) ![0, 0] S512x640.size inb_S512x640_S512x640_0_0

theorem slot_inb (n : ℕ) : ∀ a, (![n % 2, 0, 0] : Fin 3 → ℕ) a + S1x512x1024.size a ≤ S2x512x1024.size a := by
  rcases Nat.mod_two_eq_zero_or_one n with h | h <;> rw [h] <;> decide

/-- Slot `n % 2` of the scratch. -/
abbrev rslot (n : ℕ) : Rect S2x512x1024 := Rect.unit (s := S2x512x1024) ![n % 2, 0, 0] S1x512x1024.size (slot_inb n)

/-- A block's rows, normalized: what the body stores in a slot of the scratch. -/
def nrm (x : Vec F S512x1024 .f32) (g : Vec F S1x1024 .f32) : FVec F S1x512x1024 .bf16 :=
  k0_pay1 (View.ld x rx) (View.ld g rg)

/-- Part 0 of the results, from the normalized rows `X`. -/
def piece0 (X : Vec F S1x512x1024 .bf16) (w : Vec F S1024x640 .bf16) : FVec F S512x640 .f32 :=
  k0_pay3 X (View.ld w rw0)

/-- The block of results: its parts together. -/
def outv (X : Vec F S1x512x1024 .bf16) (w : Vec F S1024x640 .bf16) : FVec F S512x640 .f32 :=
  View.canon (Val := Elt F) (s := S512x640) (e := .f32) [⟨ro0, piece0 X w⟩]

theorem cover (p0 : Vec F S512x640 .f32) (y : S512x640.Idx) :
    ∃ p ∈ ([⟨ro0, p0⟩] : List (View.Piece (Elt F) S512x640 .f32)), y ∈ p.1.set :=
  View.cover_of_tiled [⟨ro0, p0⟩] S512x640.size (by rfl) y

/-! ## The slots and the conditions -/

/-- The condition of the first point. -/
abbrev cond (i : grid0.Coords) : Prop := (Scalar.cmpi .ne (Scalar.extui (Scalar.cmpi .eq (BitVec.ofNat 32 (i 0).val) 0#32)) 0#32) = 1#1

theorem coord_val (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  rw [e0]; omega

theorem cond_of : ∀ n : Fin 65, ∀ i : grid0.Coords, (i 0).val = n.val → (cond i ↔ n.val = 0) := by
  intro n i h
  have : ∀ n : Fin 65, (Scalar.cmpi .ne (Scalar.extui (Scalar.cmpi .eq (BitVec.ofNat 32 n.val) 0#32)) 0#32) = 1#1 ↔ n.val = 0 := by decide +kernel
  show (Scalar.cmpi .ne (Scalar.extui (Scalar.cmpi .eq (BitVec.ofNat 32 (i 0).val) 0#32)) 0#32) = 1#1 ↔ _
  rw [h]; exact this n

theorem cond2_of : ∀ n : Fin 65, ∀ i : grid0.Coords, (i 0).val = n.val → (k0_cond2 i = 1#1 ↔ n.val ≠ 0) := by
  intro n i h
  have : ∀ n : Fin 65, (Scalar.cmpi .ne (Scalar.extui (Scalar.cmpi .sgt (BitVec.ofNat 32 n.val) 0#32)) 0#32) = 1#1 ↔ n.val ≠ 0 := by decide +kernel
  show (Scalar.cmpi .ne (Scalar.extui (Scalar.cmpi .sgt (BitVec.ofNat 32 (i 0).val) 0#32)) 0#32) = 1#1 ↔ _
  rw [h]; exact this n

theorem hcond (t : Fin cfg0.N) : cond (grid0.coords t) ↔ t.val = 0 := cond_of ⟨t.val, Nat.lt_of_lt_of_eq t.isLt N_0⟩ _ (coord_val t)
theorem hcond2 (t : Fin cfg0.N) : k0_cond2 (grid0.coords t) = 1#1 ↔ t.val ≠ 0 := cond2_of ⟨t.val, Nat.lt_of_lt_of_eq t.isLt N_0⟩ _ (coord_val t)

/-- The slot a point reads, and the slot it fills, by the point's first coordinate. -/
theorem off1_of : ∀ n : Fin 65, ∀ i : grid0.Coords, (i 0).val = n.val → k0_off1 i = ![(n.val + 1) % 2, 0, 0] := by
  intro n i h
  show ![_, 0, 0] = _
  rw [h]
  exact congrArg (fun z => ![z, 0, 0]) (Slot.prev n)

theorem off2_of : ∀ n : Fin 65, ∀ i : grid0.Coords, (i 0).val = n.val → k0_off2 i = ![n.val % 2, 0, 0] := by
  intro n i h
  show ![_, 0, 0] = _
  rw [h]
  exact congrArg (fun z => ![z, 0, 0]) (Slot.own n)

instance closedOff1 (i : grid0.Coords) : ClosedOff (k0_off1 i) := ⟨![((i 0).val + 1) % 2, 0, 0], off1_of ⟨(i 0).val, (i 0).isLt⟩ i rfl⟩
instance closedOff2 (i : grid0.Coords) : ClosedOff (k0_off2 i) := ⟨![(i 0).val % 2, 0, 0], off2_of ⟨(i 0).val, (i 0).isLt⟩ i rfl⟩

theorem off1 (t : Fin cfg0.N) : k0_off1 (grid0.coords t) = ![(t.val + 1) % 2, 0, 0] :=
  off1_of ⟨t.val, Nat.lt_of_lt_of_eq t.isLt N_0⟩ _ (coord_val t)

theorem off2 (t : Fin cfg0.N) : k0_off2 (grid0.coords t) = ![t.val % 2, 0, 0] :=
  off2_of ⟨t.val, Nat.lt_of_lt_of_eq t.isLt N_0⟩ _ (coord_val t)

theorem ld_congr (ys : Vec F S2x512x1024 .bf16) : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
  rintro a b ha hb rfl; rfl

/-! ## The body's runs -/

set_option maxHeartbeats 2000000 in
/-- The body at the first point: it fills the first slot and leaves the results' buffer alone. -/
theorem sound_A (c : Dev nD) (E : Set ℕ) (i : grid0.Coords) (hc : cond i) (hc2 : ¬k0_cond2 i = 1#1) (arg1 : Memref sig .tc .vmem S512x1024 .f32) (harg1 : arg1.IsWhole) (arg2 : Memref sig .tc .vmem S1x1024 .f32) (harg2 : arg2.IsWhole) (arg3 : Memref sig .tc .vmem S1024x640 .bf16) (harg3 : arg3.IsWhole) (arg4 : Memref sig .tc .vmem S512x640 .f32) (harg4 : arg4.IsWhole) (arg5 : Memref sig .tc .vmem S2x512x1024 .bf16) (harg5 : arg5.IsWhole)
    (x0 : Vec F S512x1024 .f32) (x1 : Vec F S1x1024 .f32) (x2 : Vec F S1024x640 .bf16) (d5 : Vec F S512x640 .f32) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d5 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare d5
          ∗ (∃ ys, owns (c : Thread nD τ) arg5 fullShare ys ∗ ⌜View.ld ys (rslot 0) = nrm x0 x1⌝)) -∗ K ⟨⟩))
      ⊢ wp frame (wpE (defs₀ (F := F)) Variants.none c none) E (cc0_a_idx i arg1 harg1 arg2 harg2 arg3 harg3 arg4 harg4 arg5 harg5) K := by
  simp only [cc0_a_idx_eq_skeleton]; unfold cc0_a_idx_skel
  unfold owns
  iintro ⟨⟨%f0, %hf0, H0⟩, ⟨%f1, %hf1, H1⟩, ⟨%f2, %hf2, H2⟩, ⟨%f5, %hf5, H5⟩, ⟨%fs, %hfs, HS⟩, Hk⟩
  subst hf0 hf1 hf2 hf5 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  iexists _
  isplitl [HS]
  · iexists _; isplitr
    swap; · iexact HS
    ipureintro; rfl
  ipureintro
  funext y
  exact View.read_writes_cons_emb _ _ (rslot 0) _ _ y

set_option maxHeartbeats 2000000 in
/-- The body at a later point: from the slot it reads it makes the block of results, then it fills the other slot. -/
theorem sound_B (c : Dev nD) (E : Set ℕ) (i : grid0.Coords) (hc : ¬cond i) (hc2 : k0_cond2 i = 1#1) (arg1 : Memref sig .tc .vmem S512x1024 .f32) (harg1 : arg1.IsWhole) (arg2 : Memref sig .tc .vmem S1x1024 .f32) (harg2 : arg2.IsWhole) (arg3 : Memref sig .tc .vmem S1024x640 .bf16) (harg3 : arg3.IsWhole) (arg4 : Memref sig .tc .vmem S512x640 .f32) (harg4 : arg4.IsWhole) (arg5 : Memref sig .tc .vmem S2x512x1024 .bf16) (harg5 : arg5.IsWhole)
    (x0 : Vec F S512x1024 .f32) (x1 : Vec F S1x1024 .f32) (x2 : Vec F S1024x640 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (outv (View.ld xs (rcur i hc2)) x2)
          ∗ (∃ ys, owns (c : Thread nD τ) arg5 fullShare ys ∗ ⌜View.ld ys (rnext i hc2) = nrm x0 x1⌝)) -∗ K ⟨⟩))
      ⊢ wp frame (wpE (defs₀ (F := F)) Variants.none c none) E (cc0_a_idx i arg1 harg1 arg2 harg2 arg3 harg3 arg4 harg4 arg5 harg5) K := by
  simp only [cc0_a_idx_eq_skeleton]; unfold cc0_a_idx_skel
  simp only [k0_part1_eq_skeleton]
  unfold owns
  iintro ⟨⟨%f0, %hf0, H0⟩, ⟨%f1, %hf1, H1⟩, ⟨%f2, %hf2, H2⟩, ⟨%d5, %f5, -, H5⟩, ⟨%fs, %hfs, HS⟩, Hk⟩
  subst hf0 hf1 hf2 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_eq_canon _ _ _ (cover _)).trans ?_
    rfl
  iexists _
  isplitl [HS]
  · iexists _; isplitr
    swap; · iexact HS
    ipureintro; rfl
  ipureintro
  funext y
  exact View.read_writes_cons_emb _ _ (rnext i hc2) _ _ y

/-! ## The proof data -/

/-- The point before, and the first point's own self. -/
def prev (t : Fin cfg0.N) : Fin cfg0.N := ⟨t.val - 1, Nat.lt_of_le_of_lt (Nat.sub_le _ _) t.isLt⟩

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` slot `n % 2` holds the normalized rows of point
    `n`'s block. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rslot n) = nrm (iblk m c 0 ⟨n, hn⟩) (iblk m c 1 ⟨n, hn⟩)⌝) ∗ (∃ r, prngReg c r))

/-- The proof data: arrays as the region finds them; each input's buffer left at its block, the output's at the results of
    the block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
      | ⟨3, _⟩ => outv (nrm (iblk m c 0 (prev t)) (iblk m c 1 (prev t))) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outv (nrm (iblk m c 0 (prev t)) (iblk m c 1 (prev t))) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle_first (t : Fin cfg0.N) (h : t.val = 0) : cfg0.idle 3 (cfg0.grid.coords t) = true := by
  show (!(k0_cond2 (grid0.coords t) == 1#1)) = true
  have : ¬ k0_cond2 (grid0.coords t) = 1#1 := fun e => (hcond2 t).mp e h
  simp [this]

theorem idle_later (t : Fin cfg0.N) (h : t.val ≠ 0) : cfg0.idle 3 (cfg0.grid.coords t) = false := by
  show (!(k0_cond2 (grid0.coords t) == 1#1)) = false
  have : k0_cond2 (grid0.coords t) = 1#1 := (hcond2 t).mpr h
  simp [this]

theorem flush_first (t : Fin cfg0.N) (h : t.val = 0) : (cfg0.win 3).flush t = false := by
  obtain ⟨n, hn⟩ := t
  obtain rfl : n = 0 := h
  exact (by decide +kernel : ∀ h, (cfg0.win 3).flush ⟨0, h⟩ = false) hn

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)))

/-- What every point leaves: the invariant and the inputs' buffers; the output's buffer as `R` says. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ R)

set_option maxHeartbeats 2000000 in
theorem sound_first (c : Dev nD) (t : Fin cfg0.N) (hz : t.val = 0) :
    bodyPre m c t ⊢ wp frame (wpE (defs₀ (F := F)) Variants.none c none) Set.univ (bodyAt0 t)
      (fun _ => bodyPost m c t iprop(∃ d, owns (c : Thread nD τ) (st0_3 t) fullShare ((dats m 0 c).before 3 t d))) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_castSucc m c t]
  have e1 : PhiS m c t.val (Nat.le_of_lt t.isLt) = Pipeline.ΦA spec0 c := by
    have : ∀ n h, n = 0 → PhiS m c n h = Pipeline.ΦA spec0 c := by rintro n h rfl; rfl
    exact this _ _ hz
  have e2 : ∀ ys : Vec F S2x512x1024 .bf16, (View.ld ys (rslot t.val) : FVec F S1x512x1024 .bf16) = View.ld ys (rslot 0) := fun ys =>
    ld_congr ys _ _ _ _ (by rw [hz])
  rw [e1, PhiA0_eq]
  simp only [PhiS, e2]
  iintro ⟨⟨⟨%xs, HS⟩, Hg⟩, Ho, ⟨%d0, H0⟩, ⟨%d1, H1⟩, ⟨%d2, H2⟩, ⟨%dO, HO⟩⟩
  iapply (sound_A c Set.univ (grid0.coords t) ((hcond t).mpr hz) (fun e => (hcond2 t).mp e hz) _ _ _ _ _ _ _ _ _ _ (iblk m c 0 t) (iblk m c 1 t) (iblk m c 2 t) ((dats m 0 c).before 3 t dO) xs _)
  isplitl [H0]; · iexact H0
  isplitl [H1]; · iexact H1
  isplitl [H2]; · iexact H2
  isplitl [HO]; · iexact HO
  isplitl [HS]; · iexact HS
  iintro ⟨H0, H1, H2, HO, HS⟩
  isplitl [HS Hg]
  · isplitl [HS]
    · iexact HS
    iexact Hg
  isplitl [Ho]; · iexact Ho
  isplitl [H0]; · iexact H0
  isplitl [H1]; · iexact H1
  isplitl [H2]; · iexact H2
  iexists dO
  iexact HO

set_option maxHeartbeats 2000000 in
theorem sound_later (c : Dev nD) (t : Fin cfg0.N) (hz : t.val ≠ 0) :
    bodyPre m c t ⊢ wp frame (wpE (defs₀ (F := F)) Variants.none c none) Set.univ (bodyAt0 t)
      (fun _ => bodyPost m c t iprop(owns (c : Thread nD τ) (st0_3 t) fullShare ((dats m 0 c).after 3 t))) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_castSucc m c t]
  have hc2 := (hcond2 t).mpr hz
  have e1 : PhiS m c t.val (Nat.le_of_lt t.isLt) = iprop((∃ ys : Vec F S2x512x1024 .bf16, owns (c : Thread nD τ) scM fullShare ys
      ∗ ⌜View.ld ys (rcur (grid0.coords t) hc2) = nrm (iblk m c 0 (prev t)) (iblk m c 1 (prev t))⌝) ∗ (∃ r, prngReg c r)) := by
    have e3 : ∀ ys : Vec F S2x512x1024 .bf16, (View.ld ys (rcur (grid0.coords t) hc2) : FVec F S1x512x1024 .bf16) = View.ld ys (rslot (t.val - 1)) := fun ys =>
      ld_congr ys _ _ _ _ (by rw [off1, show (t.val + 1) % 2 = (t.val - 1) % 2 by omega])
    have : ∀ n (h : n ≤ cfg0.N), (hn : n ≠ 0) → PhiS m c n h = iprop((∃ ys : Vec F S2x512x1024 .bf16, owns (c : Thread nD τ) scM fullShare ys
      ∗ ⌜View.ld ys (rslot (n - 1)) = nrm (iblk m c 0 ⟨n - 1, by omega⟩) (iblk m c 1 ⟨n - 1, by omega⟩)⌝) ∗ (∃ r, prngReg c r)) := by
      intro n h hn
      cases n with
      | zero => exact absurd rfl hn
      | succ k => rfl
    rw [this _ _ hz]
    simp only [e3]
    rfl
  have e2 : ∀ ys : Vec F S2x512x1024 .bf16, (View.ld ys (rslot t.val) : FVec F S1x512x1024 .bf16) = View.ld ys (rnext (grid0.coords t) hc2) := fun ys =>
    ld_congr ys _ _ _ _ (off2 t).symm
  rw [e1]
  simp only [PhiS, e2]
  iintro ⟨⟨⟨%xs, ⟨HS, %hxs⟩⟩, Hg⟩, Ho, ⟨%d0, H0⟩, ⟨%d1, H1⟩, ⟨%d2, H2⟩, ⟨%dO, HO⟩⟩
  rw [← hxs]
  iapply (sound_B c Set.univ (grid0.coords t) (fun e => hz ((hcond t).mp e)) hc2 _ _ _ _ _ _ _ _ _ _ (iblk m c 0 t) (iblk m c 1 t) (iblk m c 2 t) xs _)
  isplitl [H0]; · iexact H0
  isplitl [H1]; · iexact H1
  isplitl [H2]; · iexact H2
  isplitl [HO]; · iexists _; iexact HO
  isplitl [HS]; · iexact HS
  iintro ⟨H0, H1, H2, HO, HS⟩
  isplitl [HS Hg]
  · isplitl [HS]
    · iexact HS
    iexact Hg
  isplitl [Ho]; · iexact Ho
  isplitl [H0]; · iexact H0
  isplitl [H1]; · iexact H1
  isplitl [H2]; · iexact H2
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hz : t.val = 0
  · rw [idle_first t hz, flush_first t hz]
    exact sound_first m c t hz
  · rw [idle_later t hz]
    exact sound_later m c t hz

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 65 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AIdxBody

end
-- ==== Proof.AIdxVal.lean ====
module

public import proofs.«01_k».proof.Proof.AIdxBody
public import proofs.«01_k».proof.Proof.Nm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AIdxBody
open Cert.AIdxIdeal Cert.AIdxIdeal.Gen

/-! ## One block of results -/

/-- A row of a block, the one row of a scale and the weights, entry by entry. -/
abbrev brow (x : Vec Ideal S512x1024 .f32) (p : Fin 512) (k : Fin 1024) : EReal := x (ix2 p k)
abbrev grow (g : Vec Ideal S1x1024 .f32) (k : Fin 1024) : EReal := g (ix2 0 k)
abbrev wmat (w : Vec Ideal S1024x640 .bf16) (k : Fin 1024) (f : Fin 640) : EReal := w (ix2 k f)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay1, Swi.nrow]

theorem w0_at (w : Vec Ideal S1024x640 .bf16) (k : Fin 1024) (f : Fin 640) :
    (View.ld w rw0 : Vec Ideal S1024x640 .bf16) (ix2 k f) = wmat w k ⟨f.val, by omega⟩ := by
  pointwise
  blk_ext

section
variable (X : FVec Ideal S1x512x1024 .bf16) (n : Fin 512 → Fin 1024 → EReal) (hX : ∀ p k, X (ix3 0 p k) = n p k)
include hX

theorem piece0_at (w : Vec Ideal S1024x640 .bf16) (p : Fin 512) (f : Fin 640) : piece0 X w (ix2 p f) = Nm.lin0 (n p) (wmat w) f := by
  unfold Nm.lin0 piece0
  simp only [← hX, ← w0_at w]
  pointwise [k0_pay3]

theorem outv_at (w : Vec Ideal S1024x640 .bf16) (p : Fin 512) (f : Fin 640) :
    outv X w (ix2 p f) = Nm.lin0 (n p) (wmat w) f := by
  unfold outv
  canon_tiles x h
  idx_vars x
  have e0 : p = x0 := Fin.ext h0
  have e1 : f = x1 := Fin.ext h1
  rw [e0, e1]
  exact piece0_at X n hX w x0 x1

end

theorem block_at (x : Vec Ideal S512x1024 .f32) (g : Vec Ideal S1x1024 .f32) (w : Vec Ideal S1024x640 .bf16) (p : Fin 512) (l : Fin 640) :
    outv (nrm x g) w (ix2 p l) = Nm.lin0 (Swi.nrow (brow x p) (grow g)) (wmat w) l :=
  outv_at (nrm x g) (fun p => Swi.nrow (brow x p) (grow g)) (nrm_at x g) w p l

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The weights the kernel is given, column by column of the whole weight matrix. -/
def wk (w : FVec Ideal S1024x3656 .f32) (k : Fin 1024) (f : Fin 640) : EReal :=
  if h : f.val < 584 then w (ix2 k ⟨3072 + f.val, by omega⟩) else 0

/-- The result as the kernel forms it, row `r`, lane `f`. -/
def ker (x : FVec Ideal S2x16384x1024 .f32) (g : FVec Ideal S1024 .f32) (w : FVec Ideal S1024x3656 .f32) (r : Fin 32768) (f : Fin 640) : EReal :=
  Nm.lin0 (Swi.nrow (xrow x r) (fun k => g (ix1 k))) (wk w) f

theorem idx : ∀ t : Fin cfg0.N,
    win0_0.index t = ![min t.val 63, 0] ∧ win0_1.index t = ![0, 0] ∧ win0_2.index t = ![0, 0]
    ∧ win0_3.index t = ![t.val - 1, 0] ∧ t.val < 65 :=
  (by decide +kernel : ∀ t : Fin grid0.N, _)

theorem flush_pos : ∀ t : Fin cfg0.N, (cfg0.win 3).flush t = true → t.val ≠ 0 :=
  (by decide +kernel : ∀ t : Fin grid0.N, (cfg0.win 3).flush t = true → t.val ≠ 0)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x3656 .f32) : FVec Ideal S1024x640 .bf16 :=
  truncf .bf16 (pad S1024x640 ![0, 0] ![0, 56] ![0, 0] (extractStridedSlice S1024x584 ![0, 3072] w slices_S1024x3656_S1024x584_0_3072 : FVec Ideal S1024x584 .f32) (sitofp (F := Ideal) .f32 (constantI S_ 32 0#32)) pads_S1024x584_S1024x640_000_0560 h_S_) bitsLt_bf16_f32

theorem nw_at (w : FVec Ideal S1024x3656 .f32) (k : Fin 1024) (f : Fin 640) : nw w (ix2 k f) = wk w k f := by
  unfold wk
  pointwise [nw]
  split_ifs with h
  · rfl
  · show (((0#32 : BitVec 32).toInt : ℝ) : EReal) = 0
    simp

set_option maxHeartbeats 2000000 in
theorem V_x (c : Dev nD) : V m c main_v3 = rows (m ((c : Thread nD τ).loc main_arg0)) := by
  unfold V
  simp only [hostOps0, hostOps0_1, hostOps0_2, List.flatten_cons, List.flatten_nil, List.append_nil, List.cons_append, List.nil_append]
  after_results
  rfl

set_option maxHeartbeats 2000000 in
theorem V_g (c : Dev nD) : V m c main_v4 = flat (m ((c : Thread nD τ).loc main_arg1)) := by
  unfold V
  simp only [hostOps0, hostOps0_1, hostOps0_2, List.flatten_cons, List.flatten_nil, List.append_nil, List.cons_append, List.nil_append]
  after_results
  rfl

set_option maxHeartbeats 2000000 in
theorem V_w (c : Dev nD) : V m c main_v2 = nw (m ((c : Thread nD τ).loc main_arg2)) := by
  unfold V
  simp only [hostOps0, hostOps0_1, hostOps0_2, List.flatten_cons, List.flatten_nil, List.append_nil, List.cons_append, List.nil_append]
  after_results
  rfl

theorem x_at (c : Dev nD) (t : Fin cfg0.N) (p : Fin 512) (k : Fin 1024) (r : Fin 32768) (ht : t.val < 64) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 1 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 640) :
    wmat (iblk m c 2 t) k f = wk (m ((c : Thread nD τ).loc main_arg2)) k f := by
  refine Eq.trans ?_ (nw_at (m ((c : Thread nD τ).loc main_arg2)) k f)
  blk_simp [wmat, iblk, idx t]
  rw [V_w]
  blk_ext [idx t]

/-- A later point's results: those of the block before. -/
theorem point (c : Dev nD) (t : Fin cfg0.N) (hz : t.val ≠ 0) (p : Fin 512) (l : Fin 640) (r : Fin 32768) (hr : r.val = (t.val - 1) * 512 + p.val) :
    outv (nrm (iblk m c 0 (prev t)) (iblk m c 1 (prev t))) (iblk m c 2 t) (ix2 p l)
      = ker (m ((c : Thread nD τ).loc main_arg0)) (m ((c : Thread nD τ).loc main_arg1)) (m ((c : Thread nD τ).loc main_arg2)) r l := by
  have ht := (idx t).2.2.2.2
  refine (block_at _ _ _ p l).trans ?_
  have ex : brow (iblk m c 0 (prev t)) p = xrow (m ((c : Thread nD τ).loc main_arg0)) r := funext fun k => x_at m c (prev t) p k r (by show t.val - 1 < 64; omega) hr
  have eg : grow (iblk m c 1 (prev t)) = fun k => m ((c : Thread nD τ).loc main_arg1) (ix1 k) := funext fun k => g_at m c (prev t) k
  have ew : wmat (iblk m c 2 t) = wk (m ((c : Thread nD τ).loc main_arg2)) := funext fun k => funext fun f => w_at m c t k f
  rw [ex, eg, ew]
  rfl

/-- The result array after the run. -/
theorem final (c : Dev nD) : (dats m 0 c).arrAt 3 (cfgs 0).N = fun i : S32768x640.Idx => ker (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  have hz := flush_pos t hf
  blk_simp
  rw [after0_3]
  idx_vars y
  refine (point m c t hz y0 y1 _ ?_).trans (congrArg (ker (m ((c : Thread nD τ).loc main_arg0)) (m ((c : Thread nD τ).loc main_arg1)) (m ((c : Thread nD τ).loc main_arg2)) _) (Fin.ext ?_))
  all_goals (blk_simp [idx t] <;> try omega)

end Cert.AIdxBody
-- ==== Proof.AIdxRef.lean ====
module

public import proofs.«01_k».proof.Proof.Gen.AIdxRefIdeal.Read
public import proofs.«01_k».proof.Proof.AIdxVal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.AIdxRefIdeal.Val
open Cert.AIdxRefIdeal Cert.AIdxRefIdeal.Gen Cert.AIdxRefIdeal.Read

variable (x : FVec Ideal S2x16384x1024 .f32) (g : FVec Ideal S1024 .f32) (w : FVec Ideal S1024x3656 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 3656) :
    val_main_v13 (F := Ideal) x g w (ix3 b s f) = Nm.lin0 (Swi.nrow (fun k => x (ix3 b s k)) (fun k => g (ix1 k))) (fun k f => w (ix2 k f)) f := by
  unfold Nm.lin0
  simp only [← norm_at]
  pointwise [val_main_v13]

theorem pad_at (r : Fin 32768) (f : Fin 640) : val_main_v16 (F := Ideal) x g w (ix2 r f)
    = if h : f.val < 584 then val_main_v13 (F := Ideal) x g w (ix3 ⟨r.val / 16384, by omega⟩ ⟨r.val % 16384, by omega⟩ ⟨3072 + f.val, by omega⟩) else (0 : EReal) := by
  pointwise [val_main_v16, val_main_v15, val_main_v14, val_main_call0_v0, val_main_c]
  split_ifs with h
  · blk_ext
  · show (((0#32 : BitVec 32).toInt : ℝ) : EReal) = 0
    simp

theorem result_at (r : Fin 32768) (f : Fin 640) : val_main_v16 (F := Ideal) x g w (ix2 r f) = Cert.AIdxBody.ker x g w r f := by
  refine (pad_at x g w r f).trans ?_
  unfold Cert.AIdxBody.ker Nm.lin0 Cert.AIdxBody.wk
  split_ifs with h
  · refine (lin_at x g w _ _ _).trans ?_
    rfl
  · simp only [mul_zero, Finset.sum_const_zero]

end Cert.AIdxRefIdeal.Val
-- ==== Proof.AIdxClaims.lean ====
module

public import proofs.«01_k».proof.Defs
public import proofs.«01_k».proof.Proof.AIdxVal
public import proofs.«01_k».proof.Proof.AIdxRef
public import proofs.«01_k».proof.Proof.Gen.AIdx
public import proofs.«01_k».proof.Proof.Gen.AIdxRefIdeal.Run
public import Idealize.ShloMosaic.Lib.Claim

@[expose] public section

set_option maxRecDepth 16384

noncomputable section

open Idealize.ShloMosaic Idealize.ShloMosaic.TcCoe Idealize.SL.Sem

/-! # The claims about the call AIdx -/

namespace Cert.AIdxClaims

/-- Both programs' kernel bodies are the same text. -/
theorem bodies_eq : Cert.AIdx.defs₀ (F := Bits) = Cert.AIdxIdeal.defs₀ (F := Bits) := by
  unfold Cert.AIdx.defs₀ Cert.AIdxIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.AIdx.defs (F := Bits) = Cert.AIdxIdeal.defs (F := Bits) := congrArg (Pipeline.defs _) bodies_eq

theorem frame_p : Cert.quiescent_AIdx := fun m ρ _ => by
  rw [defs_eq]
  exact Cert.AIdxBody.frame (F := Bits) m ρ
theorem frame_pi : Cert.quiescent_AIdxIdeal := fun m ρ _ => Cert.AIdxBody.frame m ρ
theorem frame_ri : Cert.quiescent_AIdxRefIdeal := fun m ρ _ =>
  (θ_run Cert.AIdxRefIdeal.defs _ _).mono (fun r h => ⟨fun c => (h c).2, Idealize.ShloMosaic.sem_eq_zero_of_no_sems (by decide) r.2⟩)
    (Cert.AIdxRefIdeal.Value.run (F := Ideal) m ρ)

theorem preserves : Cert.preserves_AIdx_AIdxIdeal := trivial

theorem algebraic : Cert.algebraic_AIdxIdeal_AIdxRefIdeal := by
  intro m g m' g' hpre hagree
  refine ⟨fun c => (Cert.AIdxBody.dats m 0 c).arrAt 3 (Cert.AIdxIdeal.cfgs 0).N, ?_, ?_⟩
  · run_from Cert.AIdxBody.run_main m g
    all_goals
      simp only [Cert.AIdxIdeal.Gen.hostOps0, Cert.AIdxIdeal.Gen.hostOps0_1, Cert.AIdxIdeal.Gen.hostOps0_2, List.flatten_cons, List.flatten_nil, List.append_nil, List.cons_append, List.nil_append]
      after_results
  · refine (θ_run Cert.AIdxRefIdeal.defs _ _).mono (fun r h c => ⟨(h c).1.trans ?_, (h c).2⟩) (Cert.AIdxRefIdeal.Value.run (F := Ideal) m' g')
    refine Eq.trans ?_ (Cert.AIdxBody.final m c).symm
    rw [Cert.AIdxRefIdeal.Read.val_main_v16_eq, (hagree c).1, (hagree c).2.1, (hagree c).2.2]
    refine funext fun i => ?_
    obtain ⟨r, l, rfl⟩ : ∃ (r : Fin 32768) (l : Fin 640), i = ix2 r l := ⟨i 0, i 1, eq_ix2 i⟩
    exact Cert.AIdxRefIdeal.Val.result_at _ _ _ r l

end Cert.AIdxClaims
-- ==== Proof.DIn1Body.lean ====
module

public import proofs.«01_k».proof.Proof.Slot
public import proofs.«01_k».proof.Proof.Gen.DIn1Ideal.Skeleton
public import proofs.«01_k».proof.Proof.Gen.DIn1Ideal.Frame
public import Idealize.ShloMosaic.Lib.Claim
public import Idealize.ShloMosaic.Lib.VecWindow
public import Idealize.ShloMosaic.Lib.WritesUnit

@[expose] public section

set_option maxRecDepth 16384

noncomputable section

namespace Cert.DIn1Body

open Cert.DIn1Ideal Cert.DIn1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangle of a whole block, of a row, of the first slot of the scratch, of the slot a point reads and of the slot
    it fills; then the weights' column ranges and the results' parts. -/
abbrev rx : Rect S512x1024 := Rect.unit (s := S512x1024) ![0, 0] S512x1024.size inb_S512x1024_S512x1024_0_0
abbrev rg : Rect S1x1024 := Rect.unit (s := S1x1024) ![0, 0] S1x1024.size inb_S1x1024_S1x1024_0_0
abbrev rcur (i : grid0.Coords) (h : k0_cond2 i = 1#1) : Rect S2x512x1024 := Rect.unit (s := S2x512x1024) (k0_off1 i) S1x512x1024.size (k0_off1_inb i h)
abbrev rnext (i : grid0.Coords) (h : k0_cond2 i = 1#1) : Rect S2x512x1024 := Rect.unit (s := S2x512x1024) (k0_off2 i) S1x512x1024.size (k0_off2_inb i h)
abbrev rw0 : Rect S1024x1536 := Rect.unit (s := S1024x1536) ![0, 0] S1024x1536.size inb_S1024x1536_S1024x1536_0_0
abbrev ro0 : Rect S512x1536 := Rect.unit (s := S512x1536) ![0, 0] S512x1536.size inb_S512x1536_S512x1536_0_0

theorem slot_inb (n : ℕ) : ∀ a, (![n % 2, 0, 0] : Fin 3 → ℕ) a + S1x512x1024.size a ≤ S2x512x1024.size a := by
  rcases Nat.mod_two_eq_zero_or_one n with h | h <;> rw [h] <;> decide

/-- Slot `n % 2` of the scratch. -/
abbrev rslot (n : ℕ) : Rect S2x512x1024 := Rect.unit (s := S2x512x1024) ![n % 2, 0, 0] S1x512x1024.size (slot_inb n)

/-- A block's rows, normalized: what the body stores in a slot of the scratch. -/
def nrm (x : Vec F S512x1024 .f32) (g : Vec F S1x1024 .f32) : FVec F S1x512x1024 .bf16 :=
  k0_pay1 (View.ld x rx) (View.ld g rg)

/-- Part 0 of the results, from the normalized rows `X`. -/
def piece0 (X : Vec F S1x512x1024 .bf16) (w : Vec F S1024x1536 .bf16) : FVec F S512x1536 .bf16 :=
  k0_pay3 X (View.ld w rw0)

/-- The block of results: its parts together. -/
def outv (X : Vec F S1x512x1024 .bf16) (w : Vec F S1024x1536 .bf16) : FVec F S512x1536 .bf16 :=
  View.canon (Val := Elt F) (s := S512x1536) (e := .bf16) [⟨ro0, piece0 X w⟩]

theorem cover (p0 : Vec F S512x1536 .bf16) (y : S512x1536.Idx) :
    ∃ p ∈ ([⟨ro0, p0⟩] : List (View.Piece (Elt F) S512x1536 .bf16)), y ∈ p.1.set :=
  View.cover_of_tiled [⟨ro0, p0⟩] S512x1536.size (by rfl) y

/-! ## The slots and the conditions -/

/-- The condition of the first point. -/
abbrev cond (i : grid0.Coords) : Prop := (Scalar.cmpi .ne (Scalar.extui (Scalar.cmpi .eq (BitVec.ofNat 32 (i 0).val) 0#32)) 0#32) = 1#1

theorem coord_val (t : Fin cfg0.N) : (grid0.coords t 0).val = t.val := by
  have ht : t.val < 65 := Nat.lt_of_lt_of_eq t.isLt N_0
  have e0 : (grid0.coords t 0).val = t.val / 1 % 65 := Pipeline.Grid.coords_val t 0 (by decide) rfl
  rw [e0]; omega

theorem cond_of : ∀ n : Fin 65, ∀ i : grid0.Coords, (i 0).val = n.val → (cond i ↔ n.val = 0) := by
  intro n i h
  have : ∀ n : Fin 65, (Scalar.cmpi .ne (Scalar.extui (Scalar.cmpi .eq (BitVec.ofNat 32 n.val) 0#32)) 0#32) = 1#1 ↔ n.val = 0 := by decide +kernel
  show (Scalar.cmpi .ne (Scalar.extui (Scalar.cmpi .eq (BitVec.ofNat 32 (i 0).val) 0#32)) 0#32) = 1#1 ↔ _
  rw [h]; exact this n

theorem cond2_of : ∀ n : Fin 65, ∀ i : grid0.Coords, (i 0).val = n.val → (k0_cond2 i = 1#1 ↔ n.val ≠ 0) := by
  intro n i h
  have : ∀ n : Fin 65, (Scalar.cmpi .ne (Scalar.extui (Scalar.cmpi .sgt (BitVec.ofNat 32 n.val) 0#32)) 0#32) = 1#1 ↔ n.val ≠ 0 := by decide +kernel
  show (Scalar.cmpi .ne (Scalar.extui (Scalar.cmpi .sgt (BitVec.ofNat 32 (i 0).val) 0#32)) 0#32) = 1#1 ↔ _
  rw [h]; exact this n

theorem hcond (t : Fin cfg0.N) : cond (grid0.coords t) ↔ t.val = 0 := cond_of ⟨t.val, Nat.lt_of_lt_of_eq t.isLt N_0⟩ _ (coord_val t)
theorem hcond2 (t : Fin cfg0.N) : k0_cond2 (grid0.coords t) = 1#1 ↔ t.val ≠ 0 := cond2_of ⟨t.val, Nat.lt_of_lt_of_eq t.isLt N_0⟩ _ (coord_val t)

/-- The slot a point reads, and the slot it fills, by the point's first coordinate. -/
theorem off1_of : ∀ n : Fin 65, ∀ i : grid0.Coords, (i 0).val = n.val → k0_off1 i = ![(n.val + 1) % 2, 0, 0] := by
  intro n i h
  show ![_, 0, 0] = _
  rw [h]
  exact congrArg (fun z => ![z, 0, 0]) (Slot.prev n)

theorem off2_of : ∀ n : Fin 65, ∀ i : grid0.Coords, (i 0).val = n.val → k0_off2 i = ![n.val % 2, 0, 0] := by
  intro n i h
  show ![_, 0, 0] = _
  rw [h]
  exact congrArg (fun z => ![z, 0, 0]) (Slot.own n)

instance closedOff1 (i : grid0.Coords) : ClosedOff (k0_off1 i) := ⟨![((i 0).val + 1) % 2, 0, 0], off1_of ⟨(i 0).val, (i 0).isLt⟩ i rfl⟩
instance closedOff2 (i : grid0.Coords) : ClosedOff (k0_off2 i) := ⟨![(i 0).val % 2, 0, 0], off2_of ⟨(i 0).val, (i 0).isLt⟩ i rfl⟩

theorem off1 (t : Fin cfg0.N) : k0_off1 (grid0.coords t) = ![(t.val + 1) % 2, 0, 0] :=
  off1_of ⟨t.val, Nat.lt_of_lt_of_eq t.isLt N_0⟩ _ (coord_val t)

theorem off2 (t : Fin cfg0.N) : k0_off2 (grid0.coords t) = ![t.val % 2, 0, 0] :=
  off2_of ⟨t.val, Nat.lt_of_lt_of_eq t.isLt N_0⟩ _ (coord_val t)

theorem ld_congr (ys : Vec F S2x512x1024 .bf16) : ∀ (a b : Fin 3 → ℕ) (ha : ∀ k, a k + S1x512x1024.size k ≤ S2x512x1024.size k) (hb : ∀ k, b k + S1x512x1024.size k ≤ S2x512x1024.size k), a = b →
      (View.ld ys (Rect.unit (s := S2x512x1024) a S1x512x1024.size ha) : FVec F S1x512x1024 .bf16)
        = View.ld ys (Rect.unit (s := S2x512x1024) b S1x512x1024.size hb) := by
  rintro a b ha hb rfl; rfl

/-! ## The body's runs -/

set_option maxHeartbeats 2000000 in
/-- The body at the first point: it fills the first slot and leaves the results' buffer alone. -/
theorem sound_A (c : Dev nD) (E : Set ℕ) (i : grid0.Coords) (hc : cond i) (hc2 : ¬k0_cond2 i = 1#1) (arg1 : Memref sig .tc .vmem S512x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S512x1536 .bf16) (harg4 : arg4.IsWhole) (arg5 : Memref sig .tc .vmem S2x512x1024 .bf16) (harg5 : arg5.IsWhole)
    (x0 : Vec F S512x1024 .f32) (x1 : Vec F S1x1024 .f32) (x2 : Vec F S1024x1536 .bf16) (d5 : Vec F S512x1536 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare d5 ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare d5
          ∗ (∃ ys, owns (c : Thread nD τ) arg5 fullShare ys ∗ ⌜View.ld ys (rslot 0) = nrm x0 x1⌝)) -∗ K ⟨⟩))
      ⊢ wp frame (wpE (defs₀ (F := F)) Variants.none c none) E (cc0_d_in_dil1 i arg1 harg1 arg2 harg2 arg3 harg3 arg4 harg4 arg5 harg5) K := by
  simp only [cc0_d_in_dil1_eq_skeleton]; unfold cc0_d_in_dil1_skel
  unfold owns
  iintro ⟨⟨%f0, %hf0, H0⟩, ⟨%f1, %hf1, H1⟩, ⟨%f2, %hf2, H2⟩, ⟨%f5, %hf5, H5⟩, ⟨%fs, %hfs, HS⟩, Hk⟩
  subst hf0 hf1 hf2 hf5 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  iexists _
  isplitl [HS]
  · iexists _; isplitr
    swap; · iexact HS
    ipureintro; rfl
  ipureintro
  funext y
  exact View.read_writes_cons_emb _ _ (rslot 0) _ _ y

set_option maxHeartbeats 2000000 in
/-- The body at a later point: from the slot it reads it makes the block of results, then it fills the other slot. -/
theorem sound_B (c : Dev nD) (E : Set ℕ) (i : grid0.Coords) (hc : ¬cond i) (hc2 : k0_cond2 i = 1#1) (arg1 : Memref sig .tc .vmem S512x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S512x1536 .bf16) (harg4 : arg4.IsWhole) (arg5 : Memref sig .tc .vmem S2x512x1024 .bf16) (harg5 : arg5.IsWhole)
    (x0 : Vec F S512x1024 .f32) (x1 : Vec F S1x1024 .f32) (x2 : Vec F S1024x1536 .bf16) (xs : Vec F S2x512x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (outv (View.ld xs (rcur i hc2)) x2)
          ∗ (∃ ys, owns (c : Thread nD τ) arg5 fullShare ys ∗ ⌜View.ld ys (rnext i hc2) = nrm x0 x1⌝)) -∗ K ⟨⟩))
      ⊢ wp frame (wpE (defs₀ (F := F)) Variants.none c none) E (cc0_d_in_dil1 i arg1 harg1 arg2 harg2 arg3 harg3 arg4 harg4 arg5 harg5) K := by
  simp only [cc0_d_in_dil1_eq_skeleton]; unfold cc0_d_in_dil1_skel
  simp only [k0_part1_eq_skeleton]
  unfold owns
  iintro ⟨⟨%f0, %hf0, H0⟩, ⟨%f1, %hf1, H1⟩, ⟨%f2, %hf2, H2⟩, ⟨%d5, %f5, -, H5⟩, ⟨%fs, %hfs, HS⟩, Hk⟩
  subst hf0 hf1 hf2 hfs
  sl_exec (disch := first | sl_exact hc | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_eq_canon _ _ _ (cover _)).trans ?_
    rfl
  iexists _
  isplitl [HS]
  · iexists _; isplitr
    swap; · iexact HS
    ipureintro; rfl
  ipureintro
  funext y
  exact View.read_writes_cons_emb _ _ (rnext i hc2) _ _ y

/-! ## The proof data -/

/-- The point before, and the first point's own self. -/
def prev (t : Fin cfg0.N) : Fin cfg0.N := ⟨t.val - 1, Nat.lt_of_le_of_lt (Nat.sub_le _ _) t.isLt⟩

abbrev scM : Memref sig .tc .vmem S2x512x1024 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before the first point the scratch holds anything; after point `n` slot `n % 2` holds the normalized rows of point
    `n`'s block. -/
def PhiS (c : Dev nD) : (n : ℕ) → n ≤ cfg0.N → sProp 𝕄
  | 0, _ => Pipeline.ΦA spec0 c
  | n + 1, hn => iprop((∃ ys : Vec F S2x512x1024 .bf16, owns (c : Thread nD τ) scM fullShare ys
      ∗ ⌜View.ld ys (rslot n) = nrm (iblk m c 0 ⟨n, hn⟩) (iblk m c 1 ⟨n, hn⟩)⌝) ∗ (∃ r, prngReg c r))

/-- The proof data: arrays as the region finds them; each input's buffer left at its block, the output's at the results of
    the block before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
      | ⟨3, _⟩ => outv (nrm (iblk m c 0 (prev t)) (iblk m c 1 (prev t))) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outv (nrm (iblk m c 0 (prev t)) (iblk m c 1 (prev t))) (iblk m c 2 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle_first (t : Fin cfg0.N) (h : t.val = 0) : cfg0.idle 3 (cfg0.grid.coords t) = true := by
  show (!(k0_cond2 (grid0.coords t) == 1#1)) = true
  have : ¬ k0_cond2 (grid0.coords t) = 1#1 := fun e => (hcond2 t).mp e h
  simp [this]

theorem idle_later (t : Fin cfg0.N) (h : t.val ≠ 0) : cfg0.idle 3 (cfg0.grid.coords t) = false := by
  show (!(k0_cond2 (grid0.coords t) == 1#1)) = false
  have : k0_cond2 (grid0.coords t) = 1#1 := (hcond2 t).mpr h
  simp [this]

theorem flush_first (t : Fin cfg0.N) (h : t.val = 0) : (cfg0.win 3).flush t = false := by
  obtain ⟨n, hn⟩ := t
  obtain rfl : n = 0 := h
  exact (by decide +kernel : ∀ h, (cfg0.win 3).flush ⟨0, h⟩ = false) hn

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)))

/-- What every point leaves: the invariant and the inputs' buffers; the output's buffer as `R` says. -/
def bodyPost (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ R)

set_option maxHeartbeats 2000000 in
theorem sound_first (c : Dev nD) (t : Fin cfg0.N) (hz : t.val = 0) :
    bodyPre m c t ⊢ wp frame (wpE (defs₀ (F := F)) Variants.none c none) Set.univ (bodyAt0 t)
      (fun _ => bodyPost m c t iprop(∃ d, owns (c : Thread nD τ) (st0_3 t) fullShare ((dats m 0 c).before 3 t d))) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_castSucc m c t]
  have e1 : PhiS m c t.val (Nat.le_of_lt t.isLt) = Pipeline.ΦA spec0 c := by
    have : ∀ n h, n = 0 → PhiS m c n h = Pipeline.ΦA spec0 c := by rintro n h rfl; rfl
    exact this _ _ hz
  have e2 : ∀ ys : Vec F S2x512x1024 .bf16, (View.ld ys (rslot t.val) : FVec F S1x512x1024 .bf16) = View.ld ys (rslot 0) := fun ys =>
    ld_congr ys _ _ _ _ (by rw [hz])
  rw [e1, PhiA0_eq]
  simp only [PhiS, e2]
  iintro ⟨⟨⟨%xs, HS⟩, Hg⟩, Ho, ⟨%d0, H0⟩, ⟨%d1, H1⟩, ⟨%d2, H2⟩, ⟨%dO, HO⟩⟩
  iapply (sound_A c Set.univ (grid0.coords t) ((hcond t).mpr hz) (fun e => (hcond2 t).mp e hz) _ _ _ _ _ _ _ _ _ _ (iblk m c 0 t) (iblk m c 1 t) (iblk m c 2 t) ((dats m 0 c).before 3 t dO) xs _)
  isplitl [H0]; · iexact H0
  isplitl [H1]; · iexact H1
  isplitl [H2]; · iexact H2
  isplitl [HO]; · iexact HO
  isplitl [HS]; · iexact HS
  iintro ⟨H0, H1, H2, HO, HS⟩
  isplitl [HS Hg]
  · isplitl [HS]
    · iexact HS
    iexact Hg
  isplitl [Ho]; · iexact Ho
  isplitl [H0]; · iexact H0
  isplitl [H1]; · iexact H1
  isplitl [H2]; · iexact H2
  iexists dO
  iexact HO

set_option maxHeartbeats 2000000 in
theorem sound_later (c : Dev nD) (t : Fin cfg0.N) (hz : t.val ≠ 0) :
    bodyPre m c t ⊢ wp frame (wpE (defs₀ (F := F)) Variants.none c none) Set.univ (bodyAt0 t)
      (fun _ => bodyPost m c t iprop(owns (c : Thread nD τ) (st0_3 t) fullShare ((dats m 0 c).after 3 t))) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_castSucc m c t]
  have hc2 := (hcond2 t).mpr hz
  have e1 : PhiS m c t.val (Nat.le_of_lt t.isLt) = iprop((∃ ys : Vec F S2x512x1024 .bf16, owns (c : Thread nD τ) scM fullShare ys
      ∗ ⌜View.ld ys (rcur (grid0.coords t) hc2) = nrm (iblk m c 0 (prev t)) (iblk m c 1 (prev t))⌝) ∗ (∃ r, prngReg c r)) := by
    have e3 : ∀ ys : Vec F S2x512x1024 .bf16, (View.ld ys (rcur (grid0.coords t) hc2) : FVec F S1x512x1024 .bf16) = View.ld ys (rslot (t.val - 1)) := fun ys =>
      ld_congr ys _ _ _ _ (by rw [off1, show (t.val + 1) % 2 = (t.val - 1) % 2 by omega])
    have : ∀ n (h : n ≤ cfg0.N), (hn : n ≠ 0) → PhiS m c n h = iprop((∃ ys : Vec F S2x512x1024 .bf16, owns (c : Thread nD τ) scM fullShare ys
      ∗ ⌜View.ld ys (rslot (n - 1)) = nrm (iblk m c 0 ⟨n - 1, by omega⟩) (iblk m c 1 ⟨n - 1, by omega⟩)⌝) ∗ (∃ r, prngReg c r)) := by
      intro n h hn
      cases n with
      | zero => exact absurd rfl hn
      | succ k => rfl
    rw [this _ _ hz]
    simp only [e3]
    rfl
  have e2 : ∀ ys : Vec F S2x512x1024 .bf16, (View.ld ys (rslot t.val) : FVec F S1x512x1024 .bf16) = View.ld ys (rnext (grid0.coords t) hc2) := fun ys =>
    ld_congr ys _ _ _ _ (off2 t).symm
  rw [e1]
  simp only [PhiS, e2]
  iintro ⟨⟨⟨%xs, ⟨HS, %hxs⟩⟩, Hg⟩, Ho, ⟨%d0, H0⟩, ⟨%d1, H1⟩, ⟨%d2, H2⟩, ⟨%dO, HO⟩⟩
  rw [← hxs]
  iapply (sound_B c Set.univ (grid0.coords t) (fun e => hz ((hcond t).mp e)) hc2 _ _ _ _ _ _ _ _ _ _ (iblk m c 0 t) (iblk m c 1 t) (iblk m c 2 t) xs _)
  isplitl [H0]; · iexact H0
  isplitl [H1]; · iexact H1
  isplitl [H2]; · iexact H2
  isplitl [HO]; · iexists _; iexact HO
  isplitl [HS]; · iexact HS
  iintro ⟨H0, H1, H2, HO, HS⟩
  isplitl [HS Hg]
  · isplitl [HS]
    · iexact HS
    iexact Hg
  isplitl [Ho]; · iexact Ho
  isplitl [H0]; · iexact H0
  isplitl [H1]; · iexact H1
  isplitl [H2]; · iexact H2
  iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  by_cases hz : t.val = 0
  · rw [idle_first t hz, flush_first t hz]
    exact sound_first m c t hz
  · rw [idle_later t hz]
    exact sound_later m c t hz

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  have e : (dats m 0 c).Φ (Fin.last cfg0.N) = PhiS m c cfg0.N (Nat.le_refl _) := rfl
  have e1 : ∀ n h, n ≠ 0 → (PhiS m c n h ⊢ Pipeline.ΦA spec0 c) := by
    intro n h hn
    obtain ⟨k, rfl⟩ : ∃ k, n = k + 1 := ⟨n - 1, by omega⟩
    rw [PhiA0_eq]
    simp only [PhiS]
    iintro ⟨⟨%xs, ⟨HS, %hxs⟩⟩, Hg⟩
    isplitl [HS]
    · iexists _; iexact HS
    iexact Hg
  rw [e]
  exact e1 _ _ (by have : cfg0.N = 65 := N_0; omega)

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.DIn1Body

end
-- ==== Proof.DIn1Val.lean ====
module

public import proofs.«01_k».proof.Proof.DIn1Body
public import proofs.«01_k».proof.Proof.Nm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DIn1Body
open Cert.DIn1Ideal Cert.DIn1Ideal.Gen

/-! ## One block of results -/

/-- A row of a block, the one row of a scale and the weights, entry by entry. -/
abbrev brow (x : Vec Ideal S512x1024 .f32) (p : Fin 512) (k : Fin 1024) : EReal := x (ix2 p k)
abbrev grow (g : Vec Ideal S1x1024 .f32) (k : Fin 1024) : EReal := g (ix2 0 k)
abbrev wmat (w : Vec Ideal S1024x1536 .bf16) (k : Fin 1024) (f : Fin 1536) : EReal := w (ix2 k f)

theorem ld_x (x : Vec Ideal S512x1024 .f32) : (View.ld x rx : Vec Ideal S512x1024 .f32) = x :=
  View.ld_unit_zero (funext fun a => by match a with | ⟨0, _⟩ => rfl | ⟨1, _⟩ => rfl) _ x
theorem ld_g (x : Vec Ideal S1x1024 .f32) : (View.ld x rg : Vec Ideal S1x1024 .f32) = x :=
  View.ld_unit_zero (funext fun a => by match a with | ⟨0, _⟩ => rfl | ⟨1, _⟩ => rfl) _ x

theorem nrm_at (x : Vec Ideal S512x1024 .f32) (g : Vec Ideal S1x1024 .f32) (p : Fin 512) (k : Fin 1024) :
    nrm x g (ix3 0 p k) = Swi.nrow (brow x p) (grow g) k := by
  unfold nrm
  rw [ld_x, ld_g]
  pointwise [k0_pay1, Swi.nrow]

theorem w0_at (w : Vec Ideal S1024x1536 .bf16) (k : Fin 1024) (f : Fin 1536) :
    (View.ld w rw0 : Vec Ideal S1024x1536 .bf16) (ix2 k f) = wmat w k ⟨f.val, by omega⟩ := by
  pointwise
  blk_ext

section
variable (X : FVec Ideal S1x512x1024 .bf16) (n : Fin 512 → Fin 1024 → EReal) (hX : ∀ p k, X (ix3 0 p k) = n p k)
include hX

theorem piece0_at (w : Vec Ideal S1024x1536 .bf16) (p : Fin 512) (f : Fin 1536) : piece0 X w (ix2 p f) = Nm.lin0 (n p) (wmat w) f := by
  unfold Nm.lin0 piece0
  simp only [← hX, ← w0_at w]
  pointwise [k0_pay3]

theorem outv_at (w : Vec Ideal S1024x1536 .bf16) (p : Fin 512) (f : Fin 1536) :
    outv X w (ix2 p f) = Nm.lin0 (n p) (wmat w) f := by
  unfold outv
  canon_tiles x h
  idx_vars x
  have e0 : p = x0 := Fin.ext h0
  have e1 : f = x1 := Fin.ext h1
  rw [e0, e1]
  exact piece0_at X n hX w x0 x1

end

theorem block_at (x : Vec Ideal S512x1024 .f32) (g : Vec Ideal S1x1024 .f32) (w : Vec Ideal S1024x1536 .bf16) (p : Fin 512) (l : Fin 1536) :
    outv (nrm x g) w (ix2 p l) = Nm.lin0 (Swi.nrow (brow x p) (grow g)) (wmat w) l :=
  outv_at (nrm x g) (fun p => Swi.nrow (brow x p) (grow g)) (nrm_at x g) w p l

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The weights the kernel is given, column by column of the whole weight matrix. -/
def wk (w : FVec Ideal S1024x4608 .f32) (k : Fin 1024) (f : Fin 1536) : EReal :=
  w (ix2 k ⟨f.val / 512 * 1536 + f.val % 512, by omega⟩)

/-- The result as the kernel forms it, row `r`, lane `f`. -/
def ker (x : FVec Ideal S2x16384x1024 .f32) (g : FVec Ideal S1024 .f32) (w : FVec Ideal S1024x4608 .f32) (r : Fin 32768) (f : Fin 1536) : EReal :=
  Nm.lin0 (Swi.nrow (xrow x r) (fun k => g (ix1 k))) (wk w) f

theorem idx : ∀ t : Fin cfg0.N,
    win0_0.index t = ![min t.val 63, 0] ∧ win0_1.index t = ![0, 0] ∧ win0_2.index t = ![0, 0]
    ∧ win0_3.index t = ![t.val - 1, 0] ∧ t.val < 65 :=
  (by decide +kernel : ∀ t : Fin grid0.N, _)

theorem flush_pos : ∀ t : Fin cfg0.N, (cfg0.win 3).flush t = true → t.val ≠ 0 :=
  (by decide +kernel : ∀ t : Fin grid0.N, (cfg0.win 3).flush t = true → t.val ≠ 0)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x4608 .f32) : FVec Ideal S1024x1536 .bf16 :=
  truncf .bf16 (concatenate S1024x1536 1 [⟨S1024x512, extractStridedSlice S1024x512 ![0, 0] w slices_S1024x4608_S1024x512_0_0⟩, ⟨S1024x512, extractStridedSlice S1024x512 ![0, 1536] w slices_S1024x4608_S1024x512_0_1536⟩, ⟨S1024x512, extractStridedSlice S1024x512 ![0, 3072] w slices_S1024x4608_S1024x512_0_3072⟩] concatenates_S1024x512_S1024x512_S1024x512_S1024x1536_d1 : FVec Ideal S1024x1536 .f32) bitsLt_bf16_f32

theorem nw_at (w : FVec Ideal S1024x4608 .f32) (k : Fin 1024) (f : Fin 1536) : nw w (ix2 k f) = wk w k f := by
  have hf := f.isLt
  unfold wk
  pointwise [nw]
  split_ifs
  all_goals exact congrArg w (congrArg (ix2 k) (Fin.ext (by dsimp only; omega)))

set_option maxHeartbeats 2000000 in
theorem V_x (c : Dev nD) : V m c main_v0 = rows (m ((c : Thread nD τ).loc main_arg0)) := by
  unfold V
  after_results
  rfl

set_option maxHeartbeats 2000000 in
theorem V_g (c : Dev nD) : V m c main_v6 = flat (m ((c : Thread nD τ).loc main_arg1)) := by
  unfold V
  after_results
  rfl

set_option maxHeartbeats 2000000 in
theorem V_w (c : Dev nD) : V m c main_v5 = nw (m ((c : Thread nD τ).loc main_arg2)) := by
  unfold V
  after_results
  rfl

theorem x_at (c : Dev nD) (t : Fin cfg0.N) (p : Fin 512) (k : Fin 1024) (r : Fin 32768) (ht : t.val < 64) (hr : r.val = t.val * 512 + p.val) :
    brow (iblk m c 0 t) p k = xrow (m ((c : Thread nD τ).loc main_arg0)) r k := by
  unfold xrow
  blk_simp [brow, iblk, idx t]
  rw [V_x]
  pointwise [rows]
  blk_ext [idx t]

theorem g_at (c : Dev nD) (t : Fin cfg0.N) (k : Fin 1024) :
    grow (iblk m c 1 t) k = m ((c : Thread nD τ).loc main_arg1) (ix1 k) := by
  blk_simp [grow, iblk, idx t]
  rw [V_g]
  pointwise [flat]
  blk_ext [idx t]

theorem w_at (c : Dev nD) (t : Fin cfg0.N) (k : Fin 1024) (f : Fin 1536) :
    wmat (iblk m c 2 t) k f = wk (m ((c : Thread nD τ).loc main_arg2)) k f := by
  refine Eq.trans ?_ (nw_at (m ((c : Thread nD τ).loc main_arg2)) k f)
  blk_simp [wmat, iblk, idx t]
  rw [V_w]
  blk_ext [idx t]

/-- A later point's results: those of the block before. -/
theorem point (c : Dev nD) (t : Fin cfg0.N) (hz : t.val ≠ 0) (p : Fin 512) (l : Fin 1536) (r : Fin 32768) (hr : r.val = (t.val - 1) * 512 + p.val) :
    outv (nrm (iblk m c 0 (prev t)) (iblk m c 1 (prev t))) (iblk m c 2 t) (ix2 p l)
      = ker (m ((c : Thread nD τ).loc main_arg0)) (m ((c : Thread nD τ).loc main_arg1)) (m ((c : Thread nD τ).loc main_arg2)) r l := by
  have ht := (idx t).2.2.2.2
  refine (block_at _ _ _ p l).trans ?_
  have ex : brow (iblk m c 0 (prev t)) p = xrow (m ((c : Thread nD τ).loc main_arg0)) r := funext fun k => x_at m c (prev t) p k r (by show t.val - 1 < 64; omega) hr
  have eg : grow (iblk m c 1 (prev t)) = fun k => m ((c : Thread nD τ).loc main_arg1) (ix1 k) := funext fun k => g_at m c (prev t) k
  have ew : wmat (iblk m c 2 t) = wk (m ((c : Thread nD τ).loc main_arg2)) := funext fun k => funext fun f => w_at m c t k f
  rw [ex, eg, ew]
  rfl

/-- The result array after the run. -/
theorem final (c : Dev nD) : (dats m 0 c).arrAt 3 (cfgs 0).N = fun i : S32768x1536.Idx => ker (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  have hz := flush_pos t hf
  blk_simp
  rw [after0_3]
  idx_vars y
  refine (point m c t hz y0 y1 _ ?_).trans (congrArg (ker (m ((c : Thread nD τ).loc main_arg0)) (m ((c : Thread nD τ).loc main_arg1)) (m ((c : Thread nD τ).loc main_arg2)) _) (Fin.ext ?_))
  all_goals (blk_simp [idx t] <;> try omega)

end Cert.DIn1Body
-- ==== Proof.DIn1Ref.lean ====
module

public import proofs.«01_k».proof.Proof.Gen.DIn1RefIdeal.Read
public import proofs.«01_k».proof.Proof.DIn1Val
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.DIn1RefIdeal.Val
open Cert.DIn1RefIdeal Cert.DIn1RefIdeal.Gen Cert.DIn1RefIdeal.Read

variable (x : FVec Ideal S2x16384x1024 .f32) (g : FVec Ideal S1024 .f32) (w : FVec Ideal S1024x4608 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 4608) :
    val_main_v13 (F := Ideal) x g w (ix3 b s f) = Nm.lin0 (Swi.nrow (fun k => x (ix3 b s k)) (fun k => g (ix1 k))) (fun k f => w (ix2 k f)) f := by
  unfold Nm.lin0
  simp only [← norm_at]
  pointwise [val_main_v13]

theorem result_at (r : Fin 32768) (f : Fin 1536) : val_main_v18 (F := Ideal) x g w (ix2 r f) = Cert.DIn1Body.ker x g w r f := by
  refine Eq.trans ?_ (lin_at x g w ⟨r.val / 16384, by omega⟩ ⟨r.val % 16384, by omega⟩ ⟨f.val / 512 * 1536 + f.val % 512, by omega⟩)
  pointwise [val_main_v18, val_main_v17, val_main_v16, val_main_v15, val_main_v14]
  blk_ext

end Cert.DIn1RefIdeal.Val
-- ==== Proof.DIn1Claims.lean ====
module

public import proofs.«01_k».proof.Defs
public import proofs.«01_k».proof.Proof.DIn1Val
public import proofs.«01_k».proof.Proof.DIn1Ref
public import proofs.«01_k».proof.Proof.Gen.DIn1
public import proofs.«01_k».proof.Proof.Gen.DIn1RefIdeal.Run
public import Idealize.ShloMosaic.Lib.Claim

@[expose] public section

set_option maxRecDepth 16384

noncomputable section

open Idealize.ShloMosaic Idealize.ShloMosaic.TcCoe Idealize.SL.Sem

/-! # The claims about the call DIn1 -/

namespace Cert.DIn1Claims

/-- Both programs' kernel bodies are the same text. -/
theorem bodies_eq : Cert.DIn1.defs₀ (F := Bits) = Cert.DIn1Ideal.defs₀ (F := Bits) := by
  unfold Cert.DIn1.defs₀ Cert.DIn1Ideal.defs₀
  refine congrArg _ (funext fun l => funext fun a => ?_)
  match l, a with
  | 0, (t, s) => rfl
  | ⟨_ + 1, h⟩, _ => exact absurd h (Nat.not_lt.2 (Nat.le_add_left _ _))

theorem defs_eq : Cert.DIn1.defs (F := Bits) = Cert.DIn1Ideal.defs (F := Bits) := congrArg (Pipeline.defs _) bodies_eq

theorem frame_p : Cert.quiescent_DIn1 := fun m ρ _ => by
  rw [defs_eq]
  exact Cert.DIn1Body.frame (F := Bits) m ρ
theorem frame_pi : Cert.quiescent_DIn1Ideal := fun m ρ _ => Cert.DIn1Body.frame m ρ
theorem frame_ri : Cert.quiescent_DIn1RefIdeal := fun m ρ _ =>
  (θ_run Cert.DIn1RefIdeal.defs _ _).mono (fun r h => ⟨fun c => (h c).2, Idealize.ShloMosaic.sem_eq_zero_of_no_sems (by decide) r.2⟩)
    (Cert.DIn1RefIdeal.Value.run (F := Ideal) m ρ)

theorem preserves : Cert.preserves_DIn1_DIn1Ideal := trivial

theorem algebraic : Cert.algebraic_DIn1Ideal_DIn1RefIdeal := by
  intro m g m' g' hpre hagree
  refine ⟨fun c => (Cert.DIn1Body.dats m 0 c).arrAt 3 (Cert.DIn1Ideal.cfgs 0).N, ?_, ?_⟩
  · run_from Cert.DIn1Body.run_main m g
  · refine (θ_run Cert.DIn1RefIdeal.defs _ _).mono (fun r h c => ⟨(h c).1.trans ?_, (h c).2⟩) (Cert.DIn1RefIdeal.Value.run (F := Ideal) m' g')
    refine Eq.trans ?_ (Cert.DIn1Body.final m c).symm
    rw [Cert.DIn1RefIdeal.Read.val_main_v18_eq, (hagree c).1, (hagree c).2.1, (hagree c).2.2]
    refine funext fun i => ?_
    obtain ⟨r, l, rfl⟩ : ∃ (r : Fin 32768) (l : Fin 1536), i = ix2 r l := ⟨i 0, i 1, eq_ix2 i⟩
    exact Cert.DIn1RefIdeal.Val.result_at _ _ _ r l

end Cert.DIn1Claims
-- ==== Proof.DIn4Val.lean ====
module

public import proofs.«01_k».proof.Proof.Gen.DIn4Ideal.Value
public import proofs.«01_k».proof.Proof.Nm
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

/-! # The projections of a dilated group: what the kernel computes -/

namespace Cert.DIn4Ideal.Val
open Cert.DIn4Ideal Cert.DIn4Ideal.Gen

/-! ## The rows of a block, sorted by residue -/

section
variable (c : Dev nD) (arg1 : Memref sig .tc .vmem S512x1024 .f32) (harg1 : arg1.IsWhole) (arg5 : Memref sig .tc .vmem S8x512x128 .f32) (x0 : Vec Ideal S512x1024 .f32)

/-- The scratch holds the rows in eight slabs of 128 lanes. -/
theorem stage_at (a : Fin 8) (q : Fin 512) (l : Fin 128) :
    View.canon (kernelRun0_A.sl.HS0_8 c arg1 harg1 x0) (ix3 a q l) = x0 (ix2 q ⟨a.val * 128 + l.val, by omega⟩) := by
  unfold kernelRun0_A.sl.HS0_8
  canon_tiles y h
  · idx_vars y
    have e0 : a = (⟨7, by decide⟩ : Fin 8) := Fin.ext (by show a.val = 7; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 896 + 1 * y2.val = 7 * 128 + y2.val; omega
  · idx_vars y
    have e0 : a = (⟨6, by decide⟩ : Fin 8) := Fin.ext (by show a.val = 6; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 768 + 1 * y2.val = 6 * 128 + y2.val; omega
  · idx_vars y
    have e0 : a = (⟨5, by decide⟩ : Fin 8) := Fin.ext (by show a.val = 5; omega)
    have e1 : q = y1 := Fin.ext h1
    have e2 : l = y2 := Fin.ext h2
    have e3 : y0 = 0 := Fin.ext (by show y0.val = 0; omega)
    rw [e0, e1, e2, e3]
    unfold kernelRun0_A.sl.r
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 640 + 1 * y2.val = 5 * 128 + y2.val; omega
  · idx_vars y
    have e0 : a = (⟨4, by decide⟩ : Fin 8) := Fin.ext (by show a.val = 4; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 512 + 1 * y2.val = 4 * 128 + y2.val; omega
  · idx_vars y
    have e0 : a = (⟨3, by decide⟩ : Fin 8) := Fin.ext (by show a.val = 3; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 384 + 1 * y2.val = 3 * 128 + y2.val; omega
  · idx_vars y
    have e0 : a = (⟨2, by decide⟩ : Fin 8) := Fin.ext (by show a.val = 2; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 256 + 1 * y2.val = 2 * 128 + y2.val; omega
  · idx_vars y
    have e0 : a = (⟨1, by decide⟩ : Fin 8) := Fin.ext (by show a.val = 1; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 128 + 1 * y2.val = 1 * 128 + y2.val; omega
  · idx_vars y
    have e0 : a = (⟨0, by decide⟩ : Fin 8) := Fin.ext (by show a.val = 0; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 0 + 1 * y2.val = y2.val; omega

theorem inb (a r : ℕ) (ha : a < 8) (hr : r < 4) : ∀ i, S1x128x128.size i = 0 ∨ (![a, r, 0] : Fin 3 → Nat) i + (![1, 4, 1] : Fin 3 → Nat) i * (S1x128x128.size i - 1) < S8x512x128.size i := by
  intro i
  match i with
  | ⟨0, _⟩ => exact Or.inr (by show a + 1 * (1 - 1) < 8; omega)
  | ⟨1, _⟩ => exact Or.inr (by show r + 4 * (128 - 1) < 512; omega)
  | ⟨2, _⟩ => exact Or.inr (by show 0 + 1 * (128 - 1) < 128; omega)

/-- The rows of residue `r`, slab `a`. -/
def L (a r : ℕ) (ha : a < 8) (hr : r < 4) : Vec Ideal S1x128x128 .f32 :=
  arg5.view.readCov (Val := Elt Ideal) (kernelRun0_A.sl.HS0_8 c arg1 harg1 x0) (⟨![a, r, 0], S1x128x128.size, ![1, 4, 1], inb a r ha hr⟩ : LoadRect S8x512x128)

theorem L_at (a r : ℕ) (ha : a < 8) (hr : r < 4) (p l : Fin 128) :
    L c arg1 harg1 arg5 x0 a r ha hr (ix3 0 p l) = x0 (ix2 ⟨r + 4 * p.val, by omega⟩ ⟨a * 128 + l.val, by omega⟩) := by
  unfold L
  rw [View.readCov_eq_canon']
  refine Eq.trans ?_ (stage_at c arg1 harg1 x0 ⟨a, ha⟩ ⟨r + 4 * p.val, by omega⟩ l)
  refine congrArg (View.canon (kernelRun0_A.sl.HS0_8 c arg1 harg1 x0)) (funext fun i => Fin.ext ?_)
  match i with
  | ⟨0, _⟩ => show a + 1 * 0 = a; omega
  | ⟨1, _⟩ => show r + 4 * p.val = r + 4 * p.val; rfl
  | ⟨2, _⟩ => show 0 + 1 * l.val = l.val; omega

/-- Eight slabs side by side. -/
def row8 (u : Fin 8 → Vec Ideal S1x128x128 .f32) : FVec Ideal S128x1024 .f32 :=
  concatenate S128x1024 1 [⟨S128x128, shapeCast S128x128 (u 0) shapeCasts_S1x128x128_S128x128⟩, ⟨S128x128, shapeCast S128x128 (u 1) shapeCasts_S1x128x128_S128x128⟩, ⟨S128x128, shapeCast S128x128 (u 2) shapeCasts_S1x128x128_S128x128⟩, ⟨S128x128, shapeCast S128x128 (u 3) shapeCasts_S1x128x128_S128x128⟩, ⟨S128x128, shapeCast S128x128 (u 4) shapeCasts_S1x128x128_S128x128⟩, ⟨S128x128, shapeCast S128x128 (u 5) shapeCasts_S1x128x128_S128x128⟩, ⟨S128x128, shapeCast S128x128 (u 6) shapeCasts_S1x128x128_S128x128⟩, ⟨S128x128, shapeCast S128x128 (u 7) shapeCasts_S1x128x128_S128x128⟩] concatenates_S128x128_S128x128_S128x128_S128x128_S128x128_S128x128_S128x128_S128x128_S128x1024_d1

theorem row8_at (u : Fin 8 → Vec Ideal S1x128x128 .f32) (p : Fin 128) (k : Fin 1024) :
    row8 u (ix2 p k) = u ⟨k.val / 128, by omega⟩ (ix3 0 p ⟨k.val % 128, by omega⟩) := by
  have hk := k.isLt
  have sel : ∀ (a : ℕ) (ha : a < 8) (l : Fin 128), a * 128 + l.val = k.val →
      u ⟨a, ha⟩ (ix3 0 p l) = u ⟨k.val / 128, by omega⟩ (ix3 0 p ⟨k.val % 128, by omega⟩) := by
    intro a ha l h
    have e1 : (⟨a, ha⟩ : Fin 8) = ⟨k.val / 128, by omega⟩ := Fin.ext (by dsimp only; omega)
    have e2 : l = ⟨k.val % 128, by omega⟩ := Fin.ext (by dsimp only; omega)
    rw [← e1, ← e2]
  pointwise [row8]
  split_ifs
  all_goals first
    | exact sel 0 (by decide) _ (by dsimp only; omega)
    | exact sel 1 (by decide) _ (by dsimp only; omega)
    | exact sel 2 (by decide) _ (by dsimp only; omega)
    | exact sel 3 (by decide) _ (by dsimp only; omega)
    | exact sel 4 (by decide) _ (by dsimp only; omega)
    | exact sel 5 (by decide) _ (by dsimp only; omega)
    | exact sel 6 (by decide) _ (by dsimp only; omega)
    | exact sel 7 (by decide) _ (by dsimp only; omega)

/-- Four residues' rows one after another. -/
def four4 (v : Fin 4 → FVec Ideal S128x1024 .f32) : FVec Ideal S512x1024 .f32 :=
  concatenate S512x1024 0 [⟨S128x1024, v 0⟩, ⟨S128x1024, v 1⟩, ⟨S128x1024, v 2⟩, ⟨S128x1024, v 3⟩] concatenates_S128x1024_S128x1024_S128x1024_S128x1024_S512x1024_d0

theorem four4_at (v : Fin 4 → FVec Ideal S128x1024 .f32) (p : Fin 512) (k : Fin 1024) :
    four4 v (ix2 p k) = v ⟨p.val / 128, by omega⟩ (ix2 ⟨p.val % 128, by omega⟩ k) := by
  have hp := p.isLt
  have sel : ∀ (j : ℕ) (hj : j < 4) (s : Fin 128), j * 128 + s.val = p.val →
      v ⟨j, hj⟩ (ix2 s k) = v ⟨p.val / 128, by omega⟩ (ix2 ⟨p.val % 128, by omega⟩ k) := by
    intro j hj s h
    have e1 : (⟨j, hj⟩ : Fin 4) = ⟨p.val / 128, by omega⟩ := Fin.ext (by dsimp only; omega)
    have e2 : s = ⟨p.val % 128, by omega⟩ := Fin.ext (by dsimp only; omega)
    rw [← e1, ← e2]
  pointwise [four4]
  split_ifs
  all_goals first
    | exact sel 0 (by decide) _ (by dsimp only; omega)
    | exact sel 1 (by decide) _ (by dsimp only; omega)
    | exact sel 2 (by decide) _ (by dsimp only; omega)
    | exact sel 3 (by decide) _ (by dsimp only; omega)

def four (q : ℕ) (hq : q < 1) : FVec Ideal S512x1024 .f32 :=
  four4 fun j => row8 fun a => L c arg1 harg1 arg5 x0 a.val (4 * q + j.val) a.isLt (by omega)

theorem four_at (q : ℕ) (hq : q < 1) (p : Fin 512) (k : Fin 1024) :
    four c arg1 harg1 arg5 x0 q hq (ix2 p k) = x0 (ix2 ⟨4 * q + p.val / 128 + 4 * (p.val % 128), by omega⟩ k) := by
  unfold four
  refine (four4_at _ p k).trans ((row8_at _ _ k).trans ((L_at c arg1 harg1 arg5 x0 _ _ _ _ _ _).trans ?_))
  exact congrArg (fun z => x0 (ix2 _ z)) (Fin.ext (by dsimp only; omega))

end

/-- The scale and the weights, as they are loaded. -/
def gl (arg2 : Memref sig .tc .vmem S1x1024 .f32) (harg2 : arg2.IsWhole) (x1 : Vec Ideal S1x1024 .f32) : Vec Ideal S1x1024 .f32 :=
  View.readAt (Elt Ideal) arg2.view (Rect.unit ![0, 0] S1x1024.size inb_S1x1024_S1x1024_0_0).toLoadRect (harg2.unread x1)
def wl (arg3 : Memref sig .tc .vmem S1024x1536 .bf16) (harg3 : arg3.IsWhole) (x2 : Vec Ideal S1024x1536 .bf16) : Vec Ideal S1024x1536 .bf16 :=
  View.readAt (Elt Ideal) arg3.view (Rect.unit ![0, 0] S1024x1536.size inb_S1024x1536_S1024x1536_0_0).toLoadRect (harg3.unread x2)

theorem gl_at (arg2 : Memref sig .tc .vmem S1x1024 .f32) (harg2 : arg2.IsWhole) (x1 : Vec Ideal S1x1024 .f32) (k : Fin 1024) : gl arg2 harg2 x1 (ix2 0 k) = x1 (ix2 0 k) := by
  unfold gl
  rw [harg2.readAt_unread]
  refine congrArg x1 (funext fun i => Fin.ext ?_)
  match i with
  | ⟨0, _⟩ => rfl
  | ⟨1, _⟩ => show 0 + 1 * k.val = k.val; omega
theorem wl_at (arg3 : Memref sig .tc .vmem S1024x1536 .bf16) (harg3 : arg3.IsWhole) (x2 : Vec Ideal S1024x1536 .bf16) (k : Fin 1024) (f : Fin 1536) : wl arg3 harg3 x2 (ix2 k f) = x2 (ix2 k f) := by
  unfold wl
  rw [harg3.readAt_unread]
  refine congrArg x2 (funext fun i => Fin.ext ?_)
  match i with
  | ⟨0, _⟩ => show 0 + 1 * k.val = k.val; omega
  | ⟨1, _⟩ => show 0 + 1 * f.val = f.val; omega

/-- Normalized rows times the weights. -/
def tail (X : FVec Ideal S512x1024 .f32) (g : Vec Ideal S1x1024 .f32) (w : Vec Ideal S1024x1536 .bf16) : FVec Ideal S512x1536 .bf16 :=
  have v110 : FVec Ideal S1x1024 .f32 := shapeCast S1x1024 g shapeCasts_S1x1024_S1x1024
  have v111 : FVec Ideal S512x1024 .f32 := mulf X X
  have v112 : FVec Ideal S512 .f32 := multiReduction .add [1] S512 v111 0x00000000#32 reduces_S512x1024_S512 (.inl rfl) rfl
  have v113 : FVec Ideal S512x1 .f32 := shapeCast S512x1 v112 shapeCasts_S512_S512x1
  have cst_123 : Ideal .f32 := Scalar.ofBits (F := Ideal) .f32 0x44800000#32
  have v114 : FVec Ideal S512x1 .f32 := broadcast S512x1 cst_123
  have v115 : FVec Ideal S512x1 .f32 := divf v113 v114
  have cst_124 : Ideal .f32 := Scalar.ofBits (F := Ideal) .f32 0x358637BD#32
  have v116 : FVec Ideal S512x1 .f32 := broadcast S512x1 cst_124
  have v117 : FVec Ideal S512x1 .f32 := addf v115 v116
  have v118 : FVec Ideal S512x1 .f32 := rsqrt v117
  have v119 : FVec Ideal S512x1024 .f32 := broadcastTo S512x1024 v118 broadcasts_S512x1_S512x1024
  have v120 : FVec Ideal S512x1024 .f32 := mulf X v119
  have v121 : FVec Ideal S512x1024 .f32 := broadcastTo S512x1024 v110 broadcasts_S1x1024_S512x1024
  have v122 : FVec Ideal S512x1024 .f32 := mulf v120 v121
  have v123 : FVec Ideal S512x1024 .bf16 := truncf .bf16 v122 bitsLt_bf16_f32
  have v125 : FVec Ideal S1024x1536 .bf16 := shapeCast S1024x1536 w shapeCasts_S1024x1536_S1024x1536
  have cst_127 : FVec Ideal S512x1536 .f32 := constant S512x1536 .f32 0x00000000#32
  have v126 : FVec Ideal S512x1536 .f32 := matmul dot_S512x1024_S1024x1536_S512x1536_1_0_0_1_n_n none v123 v125 cst_127
  have v127 : FVec Ideal S512x1536 .bf16 := truncf .bf16 v126 bitsLt_bf16_f32
  v127

theorem tail_at (X : FVec Ideal S512x1024 .f32) (g : Vec Ideal S1x1024 .f32) (w : Vec Ideal S1024x1536 .bf16) (p : Fin 512) (f : Fin 1536) :
    tail X g w (ix2 p f) = Nm.lin0 (Swi.nrow (fun k => X (ix2 p k)) (fun k => g (ix2 0 k))) (fun k f => w (ix2 k f)) f := by
  unfold Nm.lin0
  pointwise [tail, Swi.nrow]

/-- Where row `p` of a block of results comes from. -/
def src (p : Fin 512) : Fin 512 := ⟨p.val / 128 + 4 * (p.val % 128), by omega⟩

set_option maxHeartbeats 2000000 in
theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S512x1536 .bf16) (harg4 : arg4.IsWhole) (arg5 : Memref sig .tc .vmem S8x512x128 .f32) (harg5 : arg5.IsWhole)
    (x0 : Vec Ideal S512x1024 .f32) (x1 : Vec Ideal S1x1024 .f32) (x2 : Vec Ideal S1024x1536 .bf16) :
    out0_A_3 c i arg1 harg1 arg2 harg2 arg3 harg3 arg4 harg4 arg5 harg5 x0 x1 x2 = View.canon (Val := Elt Ideal) (s := S512x1536) (e := .bf16) [⟨Rect.unit (s := S512x1536) ![0, 0] S512x1536.size inb_S512x1536_S512x1536_0_0, tail (four c arg1 harg1 arg5 x0 0 (by decide)) (gl arg2 harg2 x1) (wl arg3 harg3 x2)⟩] := by
  unfold out0_A_3 kernelRun0_A
  dsimp only
  refine (View.read_writes_junk_eq_canon _ _).trans ?_
  rfl

theorem out_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S512x1536 .bf16) (harg4 : arg4.IsWhole) (arg5 : Memref sig .tc .vmem S8x512x128 .f32) (harg5 : arg5.IsWhole)
    (x0 : Vec Ideal S512x1024 .f32) (x1 : Vec Ideal S1x1024 .f32) (x2 : Vec Ideal S1024x1536 .bf16) (p : Fin 512) (f : Fin 1536) :
    out0_A_3 c i arg1 harg1 arg2 harg2 arg3 harg3 arg4 harg4 arg5 harg5 x0 x1 x2 (ix2 p f) = Nm.lin0 (Swi.nrow (fun k => x0 (ix2 (src p) k)) (fun k => x1 (ix2 0 k))) (fun k f => x2 (ix2 k f)) f := by
  have hp := p.isLt
  rw [out_eq]
  canon_tiles y h
  · idx_vars y
    have e1 : f = y1 := Fin.ext h1
    refine (tail_at _ _ _ y0 y1).trans ?_
    simp only [four_at, gl_at, wl_at]
    subst e1
    have e0 : ∀ k, x0 (ix2 ⟨4 * 0 + y0.val / 128 + 4 * (y0.val % 128), by omega⟩ k) = x0 (ix2 (src p) k) := fun k => congrArg (fun z => x0 (ix2 z k)) (Fin.ext (by show 4 * 0 + y0.val / 128 + 4 * (y0.val % 128) = p.val / 128 + 4 * (p.val % 128); omega))
    simp only [e0]

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The weights the kernel is given, column by column of the whole weight matrix. -/
def wk (w : FVec Ideal S1024x4608 .f32) (k : Fin 1024) (f : Fin 1536) : EReal :=
  w (ix2 k ⟨f.val / 512 * 1536 + 512 + f.val % 512, by omega⟩)

/-- The row of the activation that row `r` of the result is formed from. -/
def from_ (r : Fin 32768) : Fin 32768 := ⟨r.val / 512 * 512 + r.val % 512 / 128 + 4 * (r.val % 128), by omega⟩

/-- The result as the kernel forms it, row `r`, lane `f`. -/
def ker (x : FVec Ideal S2x16384x1024 .f32) (g : FVec Ideal S1024 .f32) (w : FVec Ideal S1024x4608 .f32) (r : Fin 32768) (f : Fin 1536) : EReal :=
  Nm.lin0 (Swi.nrow (xrow x (from_ r)) (fun k => g (ix1 k))) (wk w) f

theorem idx : ∀ t : Fin cfg0.N,
    win0_0.index t = ![t.val, 0] ∧ win0_1.index t = ![0, 0] ∧ win0_2.index t = ![0, 0] ∧ win0_3.index t = ![t.val, 0] ∧ t.val < 64 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x4608 .f32) : FVec Ideal S1024x1536 .bf16 :=
  truncf .bf16 (concatenate S1024x1536 1 [⟨S1024x512, extractStridedSlice S1024x512 ![0, 512] w slices_S1024x4608_S1024x512_0_512⟩, ⟨S1024x512, extractStridedSlice S1024x512 ![0, 2048] w slices_S1024x4608_S1024x512_0_2048⟩, ⟨S1024x512, extractStridedSlice S1024x512 ![0, 3584] w slices_S1024x4608_S1024x512_0_3584⟩] concatenates_S1024x512_S1024x512_S1024x512_S1024x1536_d1 : FVec Ideal S1024x1536 .f32) bitsLt_bf16_f32

theorem nw_at (w : FVec Ideal S1024x4608 .f32) (k : Fin 1024) (f : Fin 1536) : nw w (ix2 k f) = wk w k f := by
  have hf := f.isLt
  unfold wk
  pointwise [nw]
  split_ifs
  all_goals exact congrArg w (congrArg (ix2 k) (Fin.ext (by dsimp only; omega)))

set_option maxHeartbeats 2000000 in
theorem V_x (c : Dev nD) : V m c main_v0 = rows (m ((c : Thread nD τ).loc main_arg0)) := by
  unfold V
  after_results
  rfl

set_option maxHeartbeats 2000000 in
theorem V_g (c : Dev nD) : V m c main_v6 = flat (m ((c : Thread nD τ).loc main_arg1)) := by
  unfold V
  after_results
  rfl

set_option maxHeartbeats 2000000 in
theorem V_w (c : Dev nD) : V m c main_v5 = nw (m ((c : Thread nD τ).loc main_arg2)) := by
  unfold V
  after_results
  rfl

theorem x_at (c : Dev nD) (t : Fin cfg0.N) (p : Fin 512) (k : Fin 1024) (r : Fin 32768) (hr : r.val = t.val * 512 + p.val) :
    (iblk m c 0 t : Vec Ideal S512x1024 .f32) (ix2 p k) = xrow (m ((c : Thread nD τ).loc main_arg0)) r k := by
  unfold xrow
  blk_simp [iblk, idx t]
  rw [V_x]
  pointwise [rows]
  blk_ext [idx t]

theorem g_at (c : Dev nD) (t : Fin cfg0.N) (k : Fin 1024) :
    (iblk m c 1 t : Vec Ideal S1x1024 .f32) (ix2 0 k) = m ((c : Thread nD τ).loc main_arg1) (ix1 k) := by
  blk_simp [iblk, idx t]
  rw [V_g]
  pointwise [flat]
  blk_ext [idx t]

theorem w_at (c : Dev nD) (t : Fin cfg0.N) (k : Fin 1024) (f : Fin 1536) :
    (iblk m c 2 t : Vec Ideal S1024x1536 .bf16) (ix2 k f) = wk (m ((c : Thread nD τ).loc main_arg2)) k f := by
  refine Eq.trans ?_ (nw_at (m ((c : Thread nD τ).loc main_arg2)) k f)
  blk_simp [iblk, idx t]
  rw [V_w]
  blk_ext [idx t]

theorem point (c : Dev nD) (t : Fin cfg0.N) (p : Fin 512) (f : Fin 1536) (r : Fin 32768) (hr : r.val = t.val * 512 + p.val) :
    outsAt0 m c t (ix2 p f) = ker (m ((c : Thread nD τ).loc main_arg0)) (m ((c : Thread nD τ).loc main_arg1)) (m ((c : Thread nD τ).loc main_arg2)) r f := by
  have hp := p.isLt
  unfold outsAt0
  refine (out_at _ _ _ _ _ _ _ _ _ _ _ _ _ _ _ p f).trans ?_
  have ex : (fun k => (iblk m c 0 t : Vec Ideal S512x1024 .f32) (ix2 (src p) k)) = xrow (m ((c : Thread nD τ).loc main_arg0)) (from_ r) :=
    funext fun k => x_at m c t (src p) k (from_ r) (by show r.val / 512 * 512 + r.val % 512 / 128 + 4 * (r.val % 128) = t.val * 512 + (p.val / 128 + 4 * (p.val % 128)); omega)
  have eg : (fun k => (iblk m c 1 t : Vec Ideal S1x1024 .f32) (ix2 0 k)) = fun k => m ((c : Thread nD τ).loc main_arg1) (ix1 k) := funext fun k => g_at m c t k
  have ew : (fun k f => (iblk m c 2 t : Vec Ideal S1024x1536 .bf16) (ix2 k f)) = wk (m ((c : Thread nD τ).loc main_arg2)) := funext fun k => funext fun f => w_at m c t k f
  rw [ex, eg, ew]
  rfl

/-- The result array after the run. -/
theorem final (c : Dev nD) : (dats m 0 c).arrAt 3 (cfgs 0).N = fun i : S32768x1536.Idx => ker (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  idx_vars y
  refine (point m c t y0 y1 _ ?_).trans (congrArg (ker (m ((c : Thread nD τ).loc main_arg0)) (m ((c : Thread nD τ).loc main_arg1)) (m ((c : Thread nD τ).loc main_arg2)) _) (Fin.ext ?_))
  all_goals (blk_simp [idx t] <;> try omega)

end Cert.DIn4Ideal.Val
-- ==== Proof.DIn4Ref.lean ====
module

public import proofs.«01_k».proof.Proof.Gen.DIn4RefIdeal.Read
public import proofs.«01_k».proof.Proof.DIn4Val
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.DIn4RefIdeal.Val
open Cert.DIn4RefIdeal Cert.DIn4RefIdeal.Gen Cert.DIn4RefIdeal.Read

variable (x : FVec Ideal S2x16384x1024 .f32) (g : FVec Ideal S1024 .f32) (w : FVec Ideal S1024x4608 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 4608) :
    val_main_v13 (F := Ideal) x g w (ix3 b s f) = Nm.lin0 (Swi.nrow (fun k => x (ix3 b s k)) (fun k => g (ix1 k))) (fun k f => w (ix2 k f)) f := by
  unfold Nm.lin0
  simp only [← norm_at]
  pointwise [val_main_v13]

/-- The group's lanes of the product, row by row. -/
theorem cols_at (r : Fin 32768) (f : Fin 1536) : val_main_v16 (F := Ideal) x g w (ix3 r ⟨f.val / 512, by omega⟩ ⟨f.val % 512, by omega⟩)
    = val_main_v13 (F := Ideal) x g w (ix3 ⟨r.val / 16384, by omega⟩ ⟨r.val % 16384, by omega⟩ ⟨f.val / 512 * 1536 + 512 + f.val % 512, by omega⟩) := by
  pointwise [val_main_v16, val_main_v15, val_main_v14]
  blk_ext

theorem rows_at (r : Fin 32768) (f : Fin 1536) : val_main_v20 (F := Ideal) x g w (ix2 r f)
    = val_main_v16 (F := Ideal) x g w (ix3 (Cert.DIn4Ideal.Val.from_ r) ⟨f.val / 512, by omega⟩ ⟨f.val % 512, by omega⟩) := by
  pointwise [val_main_v20, val_main_v19, val_main_v18, val_main_v17, Cert.DIn4Ideal.Val.from_]
  blk_ext

theorem result_at (r : Fin 32768) (f : Fin 1536) : val_main_v20 (F := Ideal) x g w (ix2 r f) = Cert.DIn4Ideal.Val.ker x g w r f :=
  (rows_at x g w r f).trans ((cols_at x g w _ f).trans (lin_at x g w _ _ _))

end Cert.DIn4RefIdeal.Val
-- ==== Proof.DIn4Claims.lean ====
module

public import proofs.«01_k».proof.Defs
public import proofs.«01_k».proof.Proof.DIn4Val
public import proofs.«01_k».proof.Proof.DIn4Ref
public import proofs.«01_k».proof.Proof.Gen.DIn4.Frame
public import proofs.«01_k».proof.Proof.Gen.DIn4Ideal.Frame
public import proofs.«01_k».proof.Proof.Gen.DIn4RefIdeal.Run
public import Idealize.ShloMosaic.Lib.Claim

@[expose] public section

set_option maxRecDepth 16384

noncomputable section

open Idealize.ShloMosaic Idealize.ShloMosaic.TcCoe Idealize.SL.Sem

/-! # The claims about the call DIn4 -/

namespace Cert.DIn4Claims

theorem frame_p : Cert.quiescent_DIn4 := fun m ρ _ => Cert.DIn4.Gen.frame m ρ
theorem frame_pi : Cert.quiescent_DIn4Ideal := fun m ρ _ => Cert.DIn4Ideal.Gen.frame m ρ
theorem frame_ri : Cert.quiescent_DIn4RefIdeal := fun m ρ _ =>
  (θ_run Cert.DIn4RefIdeal.defs _ _).mono (fun r h => ⟨fun c => (h c).2, Idealize.ShloMosaic.sem_eq_zero_of_no_sems (by decide) r.2⟩)
    (Cert.DIn4RefIdeal.Value.run (F := Ideal) m ρ)

theorem preserves : Cert.preserves_DIn4_DIn4Ideal := trivial

theorem algebraic : Cert.algebraic_DIn4Ideal_DIn4RefIdeal := by
  intro m g m' g' hpre hagree
  refine ⟨fun c => (Cert.DIn4Ideal.Gen.dats m 0 c).arrAt 3 (Cert.DIn4Ideal.cfgs 0).N, ?_, ?_⟩
  · exact Cert.DIn4Ideal.Value.run_blocks m g
  · refine (θ_run Cert.DIn4RefIdeal.defs _ _).mono (fun r h c => ⟨(h c).1.trans ?_, (h c).2⟩) (Cert.DIn4RefIdeal.Value.run (F := Ideal) m' g')
    refine Eq.trans ?_ (Cert.DIn4Ideal.Val.final m c).symm
    rw [Cert.DIn4RefIdeal.Read.val_main_v20_eq, (hagree c).1, (hagree c).2.1, (hagree c).2.2]
    refine funext fun i => ?_
    obtain ⟨r, l, rfl⟩ : ∃ (r : Fin 32768) (l : Fin 1536), i = ix2 r l := ⟨i 0, i 1, eq_ix2 i⟩
    exact Cert.DIn4RefIdeal.Val.result_at _ _ _ r l

end Cert.DIn4Claims
-- ==== Proof.DIn16Val.lean ====
module

public import proofs.«01_k».proof.Proof.Gen.DIn16Ideal.Value
public import proofs.«01_k».proof.Proof.Nm
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

/-! # The projections of a dilated group: what the kernel computes -/

namespace Cert.DIn16Ideal.Val
open Cert.DIn16Ideal Cert.DIn16Ideal.Gen

/-! ## The rows of a block, sorted by residue -/

section
variable (c : Dev nD) (arg1 : Memref sig .tc .vmem S2048x1024 .f32) (harg1 : arg1.IsWhole) (arg5 : Memref sig .tc .vmem S8x2048x128 .f32) (x0 : Vec Ideal S2048x1024 .f32)

/-- The scratch holds the rows in eight slabs of 128 lanes. -/
theorem stage_at (a : Fin 8) (q : Fin 2048) (l : Fin 128) :
    View.canon (kernelRun0_A.sl.HS0_8 c arg1 harg1 x0) (ix3 a q l) = x0 (ix2 q ⟨a.val * 128 + l.val, by omega⟩) := by
  unfold kernelRun0_A.sl.HS0_8
  canon_tiles y h
  · idx_vars y
    have e0 : a = (⟨7, by decide⟩ : Fin 8) := Fin.ext (by show a.val = 7; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 896 + 1 * y2.val = 7 * 128 + y2.val; omega
  · idx_vars y
    have e0 : a = (⟨6, by decide⟩ : Fin 8) := Fin.ext (by show a.val = 6; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 768 + 1 * y2.val = 6 * 128 + y2.val; omega
  · idx_vars y
    have e0 : a = (⟨5, by decide⟩ : Fin 8) := Fin.ext (by show a.val = 5; omega)
    have e1 : q = y1 := Fin.ext h1
    have e2 : l = y2 := Fin.ext h2
    have e3 : y0 = 0 := Fin.ext (by show y0.val = 0; omega)
    rw [e0, e1, e2, e3]
    unfold kernelRun0_A.sl.r
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 640 + 1 * y2.val = 5 * 128 + y2.val; omega
  · idx_vars y
    have e0 : a = (⟨4, by decide⟩ : Fin 8) := Fin.ext (by show a.val = 4; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 512 + 1 * y2.val = 4 * 128 + y2.val; omega
  · idx_vars y
    have e0 : a = (⟨3, by decide⟩ : Fin 8) := Fin.ext (by show a.val = 3; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 384 + 1 * y2.val = 3 * 128 + y2.val; omega
  · idx_vars y
    have e0 : a = (⟨2, by decide⟩ : Fin 8) := Fin.ext (by show a.val = 2; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 256 + 1 * y2.val = 2 * 128 + y2.val; omega
  · idx_vars y
    have e0 : a = (⟨1, by decide⟩ : Fin 8) := Fin.ext (by show a.val = 1; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 128 + 1 * y2.val = 1 * 128 + y2.val; omega
  · idx_vars y
    have e0 : a = (⟨0, by decide⟩ : Fin 8) := Fin.ext (by show a.val = 0; omega)
    have e1 : q = y1 := Fin.ext h1
    have e2 : l = y2 := Fin.ext h2
    have e3 : y0 = 0 := Fin.ext (by show y0.val = 0; omega)
    rw [e0, e1, e2, e3]
    pointwise [k0_pay2, k0_pay3, k0_pay4, k0_pay5, k0_pay6, k0_pay7, k0_pay8, k0_pay9, k0_pay10]
    rw [harg1.readAt_unread]
    refine congrArg x0 (funext fun i => Fin.ext ?_)
    match i with
    | ⟨0, _⟩ => show 0 + 1 * y1.val = y1.val; omega
    | ⟨1, _⟩ => show 0 + 1 * y2.val = y2.val; omega

theorem inb (a r : ℕ) (ha : a < 8) (hr : r < 16) : ∀ i, S1x128x128.size i = 0 ∨ (![a, r, 0] : Fin 3 → Nat) i + (![1, 16, 1] : Fin 3 → Nat) i * (S1x128x128.size i - 1) < S8x2048x128.size i := by
  intro i
  match i with
  | ⟨0, _⟩ => exact Or.inr (by show a + 1 * (1 - 1) < 8; omega)
  | ⟨1, _⟩ => exact Or.inr (by show r + 16 * (128 - 1) < 2048; omega)
  | ⟨2, _⟩ => exact Or.inr (by show 0 + 1 * (128 - 1) < 128; omega)

/-- The rows of residue `r`, slab `a`. -/
def L (a r : ℕ) (ha : a < 8) (hr : r < 16) : Vec Ideal S1x128x128 .f32 :=
  arg5.view.readCov (Val := Elt Ideal) (kernelRun0_A.sl.HS0_8 c arg1 harg1 x0) (⟨![a, r, 0], S1x128x128.size, ![1, 16, 1], inb a r ha hr⟩ : LoadRect S8x2048x128)

theorem L_at (a r : ℕ) (ha : a < 8) (hr : r < 16) (p l : Fin 128) :
    L c arg1 harg1 arg5 x0 a r ha hr (ix3 0 p l) = x0 (ix2 ⟨r + 16 * p.val, by omega⟩ ⟨a * 128 + l.val, by omega⟩) := by
  unfold L
  rw [View.readCov_eq_canon']
  refine Eq.trans ?_ (stage_at c arg1 harg1 x0 ⟨a, ha⟩ ⟨r + 16 * p.val, by omega⟩ l)
  refine congrArg (View.canon (kernelRun0_A.sl.HS0_8 c arg1 harg1 x0)) (funext fun i => Fin.ext ?_)
  match i with
  | ⟨0, _⟩ => show a + 1 * 0 = a; omega
  | ⟨1, _⟩ => show r + 16 * p.val = r + 16 * p.val; rfl
  | ⟨2, _⟩ => show 0 + 1 * l.val = l.val; omega

/-- Eight slabs side by side. -/
def row8 (u : Fin 8 → Vec Ideal S1x128x128 .f32) : FVec Ideal S128x1024 .f32 :=
  concatenate S128x1024 1 [⟨S128x128, shapeCast S128x128 (u 0) shapeCasts_S1x128x128_S128x128⟩, ⟨S128x128, shapeCast S128x128 (u 1) shapeCasts_S1x128x128_S128x128⟩, ⟨S128x128, shapeCast S128x128 (u 2) shapeCasts_S1x128x128_S128x128⟩, ⟨S128x128, shapeCast S128x128 (u 3) shapeCasts_S1x128x128_S128x128⟩, ⟨S128x128, shapeCast S128x128 (u 4) shapeCasts_S1x128x128_S128x128⟩, ⟨S128x128, shapeCast S128x128 (u 5) shapeCasts_S1x128x128_S128x128⟩, ⟨S128x128, shapeCast S128x128 (u 6) shapeCasts_S1x128x128_S128x128⟩, ⟨S128x128, shapeCast S128x128 (u 7) shapeCasts_S1x128x128_S128x128⟩] concatenates_S128x128_S128x128_S128x128_S128x128_S128x128_S128x128_S128x128_S128x128_S128x1024_d1

theorem row8_at (u : Fin 8 → Vec Ideal S1x128x128 .f32) (p : Fin 128) (k : Fin 1024) :
    row8 u (ix2 p k) = u ⟨k.val / 128, by omega⟩ (ix3 0 p ⟨k.val % 128, by omega⟩) := by
  have hk := k.isLt
  have sel : ∀ (a : ℕ) (ha : a < 8) (l : Fin 128), a * 128 + l.val = k.val →
      u ⟨a, ha⟩ (ix3 0 p l) = u ⟨k.val / 128, by omega⟩ (ix3 0 p ⟨k.val % 128, by omega⟩) := by
    intro a ha l h
    have e1 : (⟨a, ha⟩ : Fin 8) = ⟨k.val / 128, by omega⟩ := Fin.ext (by dsimp only; omega)
    have e2 : l = ⟨k.val % 128, by omega⟩ := Fin.ext (by dsimp only; omega)
    rw [← e1, ← e2]
  pointwise [row8]
  split_ifs
  all_goals first
    | exact sel 0 (by decide) _ (by dsimp only; omega)
    | exact sel 1 (by decide) _ (by dsimp only; omega)
    | exact sel 2 (by decide) _ (by dsimp only; omega)
    | exact sel 3 (by decide) _ (by dsimp only; omega)
    | exact sel 4 (by decide) _ (by dsimp only; omega)
    | exact sel 5 (by decide) _ (by dsimp only; omega)
    | exact sel 6 (by decide) _ (by dsimp only; omega)
    | exact sel 7 (by decide) _ (by dsimp only; omega)

/-- Four residues' rows one after another. -/
def four4 (v : Fin 4 → FVec Ideal S128x1024 .f32) : FVec Ideal S512x1024 .f32 :=
  concatenate S512x1024 0 [⟨S128x1024, v 0⟩, ⟨S128x1024, v 1⟩, ⟨S128x1024, v 2⟩, ⟨S128x1024, v 3⟩] concatenates_S128x1024_S128x1024_S128x1024_S128x1024_S512x1024_d0

theorem four4_at (v : Fin 4 → FVec Ideal S128x1024 .f32) (p : Fin 512) (k : Fin 1024) :
    four4 v (ix2 p k) = v ⟨p.val / 128, by omega⟩ (ix2 ⟨p.val % 128, by omega⟩ k) := by
  have hp := p.isLt
  have sel : ∀ (j : ℕ) (hj : j < 4) (s : Fin 128), j * 128 + s.val = p.val →
      v ⟨j, hj⟩ (ix2 s k) = v ⟨p.val / 128, by omega⟩ (ix2 ⟨p.val % 128, by omega⟩ k) := by
    intro j hj s h
    have e1 : (⟨j, hj⟩ : Fin 4) = ⟨p.val / 128, by omega⟩ := Fin.ext (by dsimp only; omega)
    have e2 : s = ⟨p.val % 128, by omega⟩ := Fin.ext (by dsimp only; omega)
    rw [← e1, ← e2]
  pointwise [four4]
  split_ifs
  all_goals first
    | exact sel 0 (by decide) _ (by dsimp only; omega)
    | exact sel 1 (by decide) _ (by dsimp only; omega)
    | exact sel 2 (by decide) _ (by dsimp only; omega)
    | exact sel 3 (by decide) _ (by dsimp only; omega)

def four (q : ℕ) (hq : q < 4) : FVec Ideal S512x1024 .f32 :=
  four4 fun j => row8 fun a => L c arg1 harg1 arg5 x0 a.val (4 * q + j.val) a.isLt (by omega)

theorem four_at (q : ℕ) (hq : q < 4) (p : Fin 512) (k : Fin 1024) :
    four c arg1 harg1 arg5 x0 q hq (ix2 p k) = x0 (ix2 ⟨4 * q + p.val / 128 + 16 * (p.val % 128), by omega⟩ k) := by
  unfold four
  refine (four4_at _ p k).trans ((row8_at _ _ k).trans ((L_at c arg1 harg1 arg5 x0 _ _ _ _ _ _).trans ?_))
  exact congrArg (fun z => x0 (ix2 _ z)) (Fin.ext (by dsimp only; omega))

end

/-- The scale and the weights, as they are loaded. -/
def gl (arg2 : Memref sig .tc .vmem S1x1024 .f32) (harg2 : arg2.IsWhole) (x1 : Vec Ideal S1x1024 .f32) : Vec Ideal S1x1024 .f32 :=
  View.readAt (Elt Ideal) arg2.view (Rect.unit ![0, 0] S1x1024.size inb_S1x1024_S1x1024_0_0).toLoadRect (harg2.unread x1)
def wl (arg3 : Memref sig .tc .vmem S1024x1536 .bf16) (harg3 : arg3.IsWhole) (x2 : Vec Ideal S1024x1536 .bf16) : Vec Ideal S1024x1536 .bf16 :=
  View.readAt (Elt Ideal) arg3.view (Rect.unit ![0, 0] S1024x1536.size inb_S1024x1536_S1024x1536_0_0).toLoadRect (harg3.unread x2)

theorem gl_at (arg2 : Memref sig .tc .vmem S1x1024 .f32) (harg2 : arg2.IsWhole) (x1 : Vec Ideal S1x1024 .f32) (k : Fin 1024) : gl arg2 harg2 x1 (ix2 0 k) = x1 (ix2 0 k) := by
  unfold gl
  rw [harg2.readAt_unread]
  refine congrArg x1 (funext fun i => Fin.ext ?_)
  match i with
  | ⟨0, _⟩ => rfl
  | ⟨1, _⟩ => show 0 + 1 * k.val = k.val; omega
theorem wl_at (arg3 : Memref sig .tc .vmem S1024x1536 .bf16) (harg3 : arg3.IsWhole) (x2 : Vec Ideal S1024x1536 .bf16) (k : Fin 1024) (f : Fin 1536) : wl arg3 harg3 x2 (ix2 k f) = x2 (ix2 k f) := by
  unfold wl
  rw [harg3.readAt_unread]
  refine congrArg x2 (funext fun i => Fin.ext ?_)
  match i with
  | ⟨0, _⟩ => show 0 + 1 * k.val = k.val; omega
  | ⟨1, _⟩ => show 0 + 1 * f.val = f.val; omega

/-- Normalized rows times the weights. -/
def tail (X : FVec Ideal S512x1024 .f32) (g : Vec Ideal S1x1024 .f32) (w : Vec Ideal S1024x1536 .bf16) : FVec Ideal S512x1536 .bf16 :=
  have v377 : FVec Ideal S1x1024 .f32 := shapeCast S1x1024 g shapeCasts_S1x1024_S1x1024
  have v378 : FVec Ideal S512x1024 .f32 := mulf X X
  have v379 : FVec Ideal S512 .f32 := multiReduction .add [1] S512 v378 0x00000000#32 reduces_S512x1024_S512 (.inl rfl) rfl
  have v380 : FVec Ideal S512x1 .f32 := shapeCast S512x1 v379 shapeCasts_S512_S512x1
  have cst_432 : Ideal .f32 := Scalar.ofBits (F := Ideal) .f32 0x44800000#32
  have v381 : FVec Ideal S512x1 .f32 := broadcast S512x1 cst_432
  have v382 : FVec Ideal S512x1 .f32 := divf v380 v381
  have cst_433 : Ideal .f32 := Scalar.ofBits (F := Ideal) .f32 0x358637BD#32
  have v383 : FVec Ideal S512x1 .f32 := broadcast S512x1 cst_433
  have v384 : FVec Ideal S512x1 .f32 := addf v382 v383
  have v385 : FVec Ideal S512x1 .f32 := rsqrt v384
  have v386 : FVec Ideal S512x1024 .f32 := broadcastTo S512x1024 v385 broadcasts_S512x1_S512x1024
  have v387 : FVec Ideal S512x1024 .f32 := mulf X v386
  have v388 : FVec Ideal S512x1024 .f32 := broadcastTo S512x1024 v377 broadcasts_S1x1024_S512x1024
  have v389 : FVec Ideal S512x1024 .f32 := mulf v387 v388
  have v390 : FVec Ideal S512x1024 .bf16 := truncf .bf16 v389 bitsLt_bf16_f32
  have v392 : FVec Ideal S1024x1536 .bf16 := shapeCast S1024x1536 w shapeCasts_S1024x1536_S1024x1536
  have cst_436 : FVec Ideal S512x1536 .f32 := constant S512x1536 .f32 0x00000000#32
  have v393 : FVec Ideal S512x1536 .f32 := matmul dot_S512x1024_S1024x1536_S512x1536_1_0_0_1_n_n none v390 v392 cst_436
  have v394 : FVec Ideal S512x1536 .bf16 := truncf .bf16 v393 bitsLt_bf16_f32
  v394

theorem tail_at (X : FVec Ideal S512x1024 .f32) (g : Vec Ideal S1x1024 .f32) (w : Vec Ideal S1024x1536 .bf16) (p : Fin 512) (f : Fin 1536) :
    tail X g w (ix2 p f) = Nm.lin0 (Swi.nrow (fun k => X (ix2 p k)) (fun k => g (ix2 0 k))) (fun k f => w (ix2 k f)) f := by
  unfold Nm.lin0
  pointwise [tail, Swi.nrow]

/-- Where row `p` of a block of results comes from. -/
def src (p : Fin 2048) : Fin 2048 := ⟨p.val / 128 + 16 * (p.val % 128), by omega⟩

set_option maxHeartbeats 2000000 in
theorem out_eq (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S2048x1536 .bf16) (harg4 : arg4.IsWhole) (arg5 : Memref sig .tc .vmem S8x2048x128 .f32) (harg5 : arg5.IsWhole)
    (x0 : Vec Ideal S2048x1024 .f32) (x1 : Vec Ideal S1x1024 .f32) (x2 : Vec Ideal S1024x1536 .bf16) :
    out0_A_3 c i arg1 harg1 arg2 harg2 arg3 harg3 arg4 harg4 arg5 harg5 x0 x1 x2 = View.canon (Val := Elt Ideal) (s := S2048x1536) (e := .bf16) [⟨Rect.unit (s := S2048x1536) ![1536, 0] S512x1536.size inb_S2048x1536_S512x1536_1536_0, tail (four c arg1 harg1 arg5 x0 3 (by decide)) (gl arg2 harg2 x1) (wl arg3 harg3 x2)⟩, ⟨Rect.unit (s := S2048x1536) ![1024, 0] S512x1536.size inb_S2048x1536_S512x1536_1024_0, tail (four c arg1 harg1 arg5 x0 2 (by decide)) (gl arg2 harg2 x1) (wl arg3 harg3 x2)⟩, ⟨Rect.unit (s := S2048x1536) ![512, 0] S512x1536.size inb_S2048x1536_S512x1536_512_0, tail (four c arg1 harg1 arg5 x0 1 (by decide)) (gl arg2 harg2 x1) (wl arg3 harg3 x2)⟩, ⟨Rect.unit (s := S2048x1536) ![0, 0] S512x1536.size inb_S2048x1536_S512x1536_0_0, tail (four c arg1 harg1 arg5 x0 0 (by decide)) (gl arg2 harg2 x1) (wl arg3 harg3 x2)⟩] := by
  unfold out0_A_3 kernelRun0_A
  dsimp only
  refine (View.read_writes_junk_eq_canon _ _).trans ?_
  rfl

theorem out_at (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S2048x1536 .bf16) (harg4 : arg4.IsWhole) (arg5 : Memref sig .tc .vmem S8x2048x128 .f32) (harg5 : arg5.IsWhole)
    (x0 : Vec Ideal S2048x1024 .f32) (x1 : Vec Ideal S1x1024 .f32) (x2 : Vec Ideal S1024x1536 .bf16) (p : Fin 2048) (f : Fin 1536) :
    out0_A_3 c i arg1 harg1 arg2 harg2 arg3 harg3 arg4 harg4 arg5 harg5 x0 x1 x2 (ix2 p f) = Nm.lin0 (Swi.nrow (fun k => x0 (ix2 (src p) k)) (fun k => x1 (ix2 0 k))) (fun k f => x2 (ix2 k f)) f := by
  have hp := p.isLt
  rw [out_eq]
  canon_tiles y h
  · idx_vars y
    have e1 : f = y1 := Fin.ext h1
    refine (tail_at _ _ _ y0 y1).trans ?_
    simp only [four_at, gl_at, wl_at]
    subst e1
    have e0 : ∀ k, x0 (ix2 ⟨4 * 3 + y0.val / 128 + 16 * (y0.val % 128), by omega⟩ k) = x0 (ix2 (src p) k) := fun k => congrArg (fun z => x0 (ix2 z k)) (Fin.ext (by show 4 * 3 + y0.val / 128 + 16 * (y0.val % 128) = p.val / 128 + 16 * (p.val % 128); omega))
    simp only [e0]
  · idx_vars y
    have e1 : f = y1 := Fin.ext h1
    refine (tail_at _ _ _ y0 y1).trans ?_
    simp only [four_at, gl_at, wl_at]
    subst e1
    have e0 : ∀ k, x0 (ix2 ⟨4 * 2 + y0.val / 128 + 16 * (y0.val % 128), by omega⟩ k) = x0 (ix2 (src p) k) := fun k => congrArg (fun z => x0 (ix2 z k)) (Fin.ext (by show 4 * 2 + y0.val / 128 + 16 * (y0.val % 128) = p.val / 128 + 16 * (p.val % 128); omega))
    simp only [e0]
  · idx_vars y
    have e1 : f = y1 := Fin.ext h1
    refine (tail_at _ _ _ y0 y1).trans ?_
    simp only [four_at, gl_at, wl_at]
    subst e1
    have e0 : ∀ k, x0 (ix2 ⟨4 * 1 + y0.val / 128 + 16 * (y0.val % 128), by omega⟩ k) = x0 (ix2 (src p) k) := fun k => congrArg (fun z => x0 (ix2 z k)) (Fin.ext (by show 4 * 1 + y0.val / 128 + 16 * (y0.val % 128) = p.val / 128 + 16 * (p.val % 128); omega))
    simp only [e0]
  · idx_vars y
    have e1 : f = y1 := Fin.ext h1
    refine (tail_at _ _ _ y0 y1).trans ?_
    simp only [four_at, gl_at, wl_at]
    subst e1
    have e0 : ∀ k, x0 (ix2 ⟨4 * 0 + y0.val / 128 + 16 * (y0.val % 128), by omega⟩ k) = x0 (ix2 (src p) k) := fun k => congrArg (fun z => x0 (ix2 z k)) (Fin.ext (by show 4 * 0 + y0.val / 128 + 16 * (y0.val % 128) = p.val / 128 + 16 * (p.val % 128); omega))
    simp only [e0]

/-! ## The whole result -/

variable (m : (ℓ : Loc nD τ sig) → Buf (Elt Ideal) ℓ)

/-- Row `r` of the activation, the two batch entries' rows one after another. -/
def xrow (x : FVec Ideal S2x16384x1024 .f32) (r : Fin 32768) (k : Fin 1024) : EReal := x (ix3 ⟨r.val / 16384, by omega⟩ ⟨r.val % 16384, by omega⟩ k)

/-- The weights the kernel is given, column by column of the whole weight matrix. -/
def wk (w : FVec Ideal S1024x4608 .f32) (k : Fin 1024) (f : Fin 1536) : EReal :=
  w (ix2 k ⟨f.val / 512 * 1536 + 1024 + f.val % 512, by omega⟩)

/-- The row of the activation that row `r` of the result is formed from. -/
def from_ (r : Fin 32768) : Fin 32768 := ⟨r.val / 2048 * 2048 + r.val % 2048 / 128 + 16 * (r.val % 128), by omega⟩

/-- The result as the kernel forms it, row `r`, lane `f`. -/
def ker (x : FVec Ideal S2x16384x1024 .f32) (g : FVec Ideal S1024 .f32) (w : FVec Ideal S1024x4608 .f32) (r : Fin 32768) (f : Fin 1536) : EReal :=
  Nm.lin0 (Swi.nrow (xrow x (from_ r)) (fun k => g (ix1 k))) (wk w) f

theorem idx : ∀ t : Fin cfg0.N,
    win0_0.index t = ![t.val, 0] ∧ win0_1.index t = ![0, 0] ∧ win0_2.index t = ![0, 0] ∧ win0_3.index t = ![t.val, 0] ∧ t.val < 16 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def flat (g : FVec Ideal S1024 .f32) : FVec Ideal S1x1024 .f32 := shapeCast S1x1024 g shapeCasts_S1024_S1x1024
def nw (w : FVec Ideal S1024x4608 .f32) : FVec Ideal S1024x1536 .bf16 :=
  truncf .bf16 (concatenate S1024x1536 1 [⟨S1024x512, extractStridedSlice S1024x512 ![0, 1024] w slices_S1024x4608_S1024x512_0_1024⟩, ⟨S1024x512, extractStridedSlice S1024x512 ![0, 2560] w slices_S1024x4608_S1024x512_0_2560⟩, ⟨S1024x512, extractStridedSlice S1024x512 ![0, 4096] w slices_S1024x4608_S1024x512_0_4096⟩] concatenates_S1024x512_S1024x512_S1024x512_S1024x1536_d1 : FVec Ideal S1024x1536 .f32) bitsLt_bf16_f32

theorem nw_at (w : FVec Ideal S1024x4608 .f32) (k : Fin 1024) (f : Fin 1536) : nw w (ix2 k f) = wk w k f := by
  have hf := f.isLt
  unfold wk
  pointwise [nw]
  split_ifs
  all_goals exact congrArg w (congrArg (ix2 k) (Fin.ext (by dsimp only; omega)))

set_option maxHeartbeats 2000000 in
theorem V_x (c : Dev nD) : V m c main_v0 = rows (m ((c : Thread nD τ).loc main_arg0)) := by
  unfold V
  after_results
  rfl

set_option maxHeartbeats 2000000 in
theorem V_g (c : Dev nD) : V m c main_v6 = flat (m ((c : Thread nD τ).loc main_arg1)) := by
  unfold V
  after_results
  rfl

set_option maxHeartbeats 2000000 in
theorem V_w (c : Dev nD) : V m c main_v5 = nw (m ((c : Thread nD τ).loc main_arg2)) := by
  unfold V
  after_results
  rfl

theorem x_at (c : Dev nD) (t : Fin cfg0.N) (p : Fin 2048) (k : Fin 1024) (r : Fin 32768) (hr : r.val = t.val * 2048 + p.val) :
    (iblk m c 0 t : Vec Ideal S2048x1024 .f32) (ix2 p k) = xrow (m ((c : Thread nD τ).loc main_arg0)) r k := by
  unfold xrow
  blk_simp [iblk, idx t]
  rw [V_x]
  pointwise [rows]
  blk_ext [idx t]

theorem g_at (c : Dev nD) (t : Fin cfg0.N) (k : Fin 1024) :
    (iblk m c 1 t : Vec Ideal S1x1024 .f32) (ix2 0 k) = m ((c : Thread nD τ).loc main_arg1) (ix1 k) := by
  blk_simp [iblk, idx t]
  rw [V_g]
  pointwise [flat]
  blk_ext [idx t]

theorem w_at (c : Dev nD) (t : Fin cfg0.N) (k : Fin 1024) (f : Fin 1536) :
    (iblk m c 2 t : Vec Ideal S1024x1536 .bf16) (ix2 k f) = wk (m ((c : Thread nD τ).loc main_arg2)) k f := by
  refine Eq.trans ?_ (nw_at (m ((c : Thread nD τ).loc main_arg2)) k f)
  blk_simp [iblk, idx t]
  rw [V_w]
  blk_ext [idx t]

theorem point (c : Dev nD) (t : Fin cfg0.N) (p : Fin 2048) (f : Fin 1536) (r : Fin 32768) (hr : r.val = t.val * 2048 + p.val) :
    outsAt0 m c t (ix2 p f) = ker (m ((c : Thread nD τ).loc main_arg0)) (m ((c : Thread nD τ).loc main_arg1)) (m ((c : Thread nD τ).loc main_arg2)) r f := by
  have hp := p.isLt
  unfold outsAt0
  refine (out_at _ _ _ _ _ _ _ _ _ _ _ _ _ _ _ p f).trans ?_
  have ex : (fun k => (iblk m c 0 t : Vec Ideal S2048x1024 .f32) (ix2 (src p) k)) = xrow (m ((c : Thread nD τ).loc main_arg0)) (from_ r) :=
    funext fun k => x_at m c t (src p) k (from_ r) (by show r.val / 2048 * 2048 + r.val % 2048 / 128 + 16 * (r.val % 128) = t.val * 2048 + (p.val / 128 + 16 * (p.val % 128)); omega)
  have eg : (fun k => (iblk m c 1 t : Vec Ideal S1x1024 .f32) (ix2 0 k)) = fun k => m ((c : Thread nD τ).loc main_arg1) (ix1 k) := funext fun k => g_at m c t k
  have ew : (fun k f => (iblk m c 2 t : Vec Ideal S1024x1536 .bf16) (ix2 k f)) = wk (m ((c : Thread nD τ).loc main_arg2)) := funext fun k => funext fun f => w_at m c t k f
  rw [ex, eg, ew]
  rfl

/-- The result array after the run. -/
theorem final (c : Dev nD) : (dats m 0 c).arrAt 3 (cfgs 0).N = fun i : S32768x1536.Idx => ker (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  idx_vars y
  refine (point m c t y0 y1 _ ?_).trans (congrArg (ker (m ((c : Thread nD τ).loc main_arg0)) (m ((c : Thread nD τ).loc main_arg1)) (m ((c : Thread nD τ).loc main_arg2)) _) (Fin.ext ?_))
  all_goals (blk_simp [idx t] <;> try omega)

end Cert.DIn16Ideal.Val
-- ==== Proof.DIn16Ref.lean ====
module

public import proofs.«01_k».proof.Proof.Gen.DIn16RefIdeal.Read
public import proofs.«01_k».proof.Proof.DIn16Val
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference, row by row -/

namespace Cert.DIn16RefIdeal.Val
open Cert.DIn16RefIdeal Cert.DIn16RefIdeal.Gen Cert.DIn16RefIdeal.Read

variable (x : FVec Ideal S2x16384x1024 .f32) (g : FVec Ideal S1024 .f32) (w : FVec Ideal S1024x4608 .f32)

theorem norm_at (b : Fin 2) (s : Fin 16384) (k : Fin 1024) :
    val_main_v12 (F := Ideal) x g (ix3 b s k) = Swi.nrow (fun k => x (ix3 b s k)) (fun k => g (ix1 k)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, Swi.nrow]

theorem lin_at (b : Fin 2) (s : Fin 16384) (f : Fin 4608) :
    val_main_v13 (F := Ideal) x g w (ix3 b s f) = Nm.lin0 (Swi.nrow (fun k => x (ix3 b s k)) (fun k => g (ix1 k))) (fun k f => w (ix2 k f)) f := by
  unfold Nm.lin0
  simp only [← norm_at]
  pointwise [val_main_v13]

/-- The group's lanes of the product, row by row. -/
theorem cols_at (r : Fin 32768) (f : Fin 1536) : val_main_v16 (F := Ideal) x g w (ix3 r ⟨f.val / 512, by omega⟩ ⟨f.val % 512, by omega⟩)
    = val_main_v13 (F := Ideal) x g w (ix3 ⟨r.val / 16384, by omega⟩ ⟨r.val % 16384, by omega⟩ ⟨f.val / 512 * 1536 + 1024 + f.val % 512, by omega⟩) := by
  pointwise [val_main_v16, val_main_v15, val_main_v14]
  blk_ext

theorem rows_at (r : Fin 32768) (f : Fin 1536) : val_main_v20 (F := Ideal) x g w (ix2 r f)
    = val_main_v16 (F := Ideal) x g w (ix3 (Cert.DIn16Ideal.Val.from_ r) ⟨f.val / 512, by omega⟩ ⟨f.val % 512, by omega⟩) := by
  pointwise [val_main_v20, val_main_v19, val_main_v18, val_main_v17, Cert.DIn16Ideal.Val.from_]
  blk_ext

theorem result_at (r : Fin 32768) (f : Fin 1536) : val_main_v20 (F := Ideal) x g w (ix2 r f) = Cert.DIn16Ideal.Val.ker x g w r f :=
  (rows_at x g w r f).trans ((cols_at x g w _ f).trans (lin_at x g w _ _ _))

end Cert.DIn16RefIdeal.Val
-- ==== Proof.DIn16Claims.lean ====
module

public import proofs.«01_k».proof.Defs
public import proofs.«01_k».proof.Proof.DIn16Val
public import proofs.«01_k».proof.Proof.DIn16Ref
public import proofs.«01_k».proof.Proof.Gen.DIn16.Frame
public import proofs.«01_k».proof.Proof.Gen.DIn16Ideal.Frame
public import proofs.«01_k».proof.Proof.Gen.DIn16RefIdeal.Run
public import Idealize.ShloMosaic.Lib.Claim

@[expose] public section

set_option maxRecDepth 16384

noncomputable section

open Idealize.ShloMosaic Idealize.ShloMosaic.TcCoe Idealize.SL.Sem

/-! # The claims about the call DIn16 -/

namespace Cert.DIn16Claims

theorem frame_p : Cert.quiescent_DIn16 := fun m ρ _ => Cert.DIn16.Gen.frame m ρ
theorem frame_pi : Cert.quiescent_DIn16Ideal := fun m ρ _ => Cert.DIn16Ideal.Gen.frame m ρ
theorem frame_ri : Cert.quiescent_DIn16RefIdeal := fun m ρ _ =>
  (θ_run Cert.DIn16RefIdeal.defs _ _).mono (fun r h => ⟨fun c => (h c).2, Idealize.ShloMosaic.sem_eq_zero_of_no_sems (by decide) r.2⟩)
    (Cert.DIn16RefIdeal.Value.run (F := Ideal) m ρ)

theorem preserves : Cert.preserves_DIn16_DIn16Ideal := trivial

theorem algebraic : Cert.algebraic_DIn16Ideal_DIn16RefIdeal := by
  intro m g m' g' hpre hagree
  refine ⟨fun c => (Cert.DIn16Ideal.Gen.dats m 0 c).arrAt 3 (Cert.DIn16Ideal.cfgs 0).N, ?_, ?_⟩
  · exact Cert.DIn16Ideal.Value.run_blocks m g
  · refine (θ_run Cert.DIn16RefIdeal.defs _ _).mono (fun r h c => ⟨(h c).1.trans ?_, (h c).2⟩) (Cert.DIn16RefIdeal.Value.run (F := Ideal) m' g')
    refine Eq.trans ?_ (Cert.DIn16Ideal.Val.final m c).symm
    rw [Cert.DIn16RefIdeal.Read.val_main_v20_eq, (hagree c).1, (hagree c).2.1, (hagree c).2.2]
    refine funext fun i => ?_
    obtain ⟨r, l, rfl⟩ : ∃ (r : Fin 32768) (l : Fin 1536), i = ix2 r l := ⟨i 0, i 1, eq_ix2 i⟩
    exact Cert.DIn16RefIdeal.Val.result_at _ _ _ r l

end Cert.DIn16Claims
-- ==== Proof.AOutVal.lean ====
module

public import proofs.«01_k».proof.Proof.Gen.AOutIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The output projection of the attention over the chosen keys: what the kernel computes -/

namespace Cert.AOutIdeal.Val
open Cert.AOutIdeal Cert.AOutIdeal.Gen

/-- One lane of a row of heads times the weight matrix, added to the residual. -/
def mix (o : Fin 8 → Fin 128 → EReal) (w : Fin 1024 → Fin 1024 → EReal) (h : Fin 1024 → EReal) (l : Fin 1024) : EReal :=
  h l + ∑ k : Fin 1024, o ⟨k.val / 128, by omega⟩ ⟨k.val % 128, by omega⟩ * w k l

theorem out_at (x0 : Vec Ideal S8x512x128 .bf16) (x1 : Vec Ideal S1024x1024 .bf16) (x2 : Vec Ideal S512x1024 .f32) (p : Fin 512) (l : Fin 1024) :
    out0_3 (F := Ideal) x0 x1 x2 (ix2 p l) = mix (fun j e => x0 (ix3 j p e)) (fun k l => x1 (ix2 k l)) (fun l => x2 (ix2 p l)) l := by
  unfold out0_3 mix
  canon_tiles y h
  idx_vars y
  obtain rfl : p = y0 := Fin.ext h0
  obtain rfl : l = y1 := Fin.ext h1
  pointwise [k0_pay1]
  refine congrArg _ (Finset.sum_congr rfl fun k _ => ?_)
  congr 1
  have hk := k.isLt
  have sel : ∀ (n : ℕ) (hn : n < 8) (e : Fin 128), n * 128 + e.val = k.val →
      x0 (ix3 ⟨n, hn⟩ p e) = x0 (ix3 ⟨k.val / 128, by omega⟩ p ⟨k.val % 128, by omega⟩) := by
    intro n hn e h
    have a : (⟨n, hn⟩ : Fin 8) = ⟨k.val / 128, by omega⟩ := Fin.ext (by dsimp only; omega)
    have b : e = ⟨k.val % 128, by omega⟩ := Fin.ext (by dsimp only; omega)
    rw [← a, ← b]
  split_ifs
  all_goals first
    | exact (sel 0 (by omega) _ (by dsimp only; omega))
    | exact (sel 1 (by omega) _ (by dsimp only; omega))
    | exact (sel 2 (by omega) _ (by dsimp only; omega))
    | exact (sel 3 (by omega) _ (by dsimp only; omega))
    | exact (sel 4 (by omega) _ (by dsimp only; omega))
    | exact (sel 5 (by omega) _ (by dsimp only; omega))
    | exact (sel 6 (by omega) _ (by dsimp only; omega))
    | exact (sel 7 (by omega) _ (by dsimp only; omega))

/-! ## The whole result -/

variable (m : (ℓ : Loc nD τ sig) → Buf (Elt Ideal) ℓ)

/-- Row `r`, lane `l` of the result. -/
def ker (o : FVec Ideal S8x32768x128 .bf16) (w : FVec Ideal S1024x1024 .f32) (h : FVec Ideal S2x16384x1024 .f32) (r : Fin 32768) (l : Fin 1024) : EReal :=
  mix (fun j e => o (ix3 j r e)) (fun k l => w (ix2 k l)) (fun l => h (ix3 ⟨r.val / 16384, by omega⟩ ⟨r.val % 16384, by omega⟩ l)) l

theorem idx : ∀ t : Fin cfg0.N,
    win0_0.index t = ![0, t.val, 0] ∧ win0_1.index t = ![0, 0] ∧ win0_2.index t = ![t.val, 0] ∧ win0_3.index t = ![t.val, 0] ∧ t.val < 64 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def nw (w : FVec Ideal S1024x1024 .f32) : FVec Ideal S1024x1024 .bf16 := truncf .bf16 w bitsLt_bf16_f32

theorem V_o (c : Dev nD) : V m c main_arg0 = m ((c : Thread nD τ).loc main_arg0) := by
  entry_read
  rfl
theorem V_w (c : Dev nD) : V m c main_v0 = nw (m ((c : Thread nD τ).loc main_arg1)) := by
  entry_read
  rfl
theorem V_h (c : Dev nD) : V m c main_v1 = rows (m ((c : Thread nD τ).loc main_arg2)) := by
  entry_read
  rfl

theorem o_at (c : Dev nD) (t : Fin cfg0.N) (j : Fin 8) (p : Fin 512) (e : Fin 128) (r : Fin 32768) (hr : r.val = t.val * 512 + p.val) :
    (iblk m c 0 t : Vec Ideal S8x512x128 .bf16) (ix3 j p e) = m ((c : Thread nD τ).loc main_arg0) (ix3 j r e) := by
  blk_simp [iblk, idx t]
  rw [V_o]
  blk_ext [idx t]
theorem w_at (c : Dev nD) (t : Fin cfg0.N) (k l : Fin 1024) :
    (iblk m c 1 t : Vec Ideal S1024x1024 .bf16) (ix2 k l) = m ((c : Thread nD τ).loc main_arg1) (ix2 k l) := by
  blk_simp [iblk, idx t]
  rw [V_w]
  pointwise [nw]
  blk_ext [idx t]
theorem h_at (c : Dev nD) (t : Fin cfg0.N) (p : Fin 512) (l : Fin 1024) (r : Fin 32768) (hr : r.val = t.val * 512 + p.val) :
    (iblk m c 2 t : Vec Ideal S512x1024 .f32) (ix2 p l) = m ((c : Thread nD τ).loc main_arg2) (ix3 ⟨r.val / 16384, by omega⟩ ⟨r.val % 16384, by omega⟩ l) := by
  blk_simp [iblk, idx t]
  rw [V_h]
  pointwise [rows]
  blk_ext [idx t]

theorem point (c : Dev nD) (t : Fin cfg0.N) (p : Fin 512) (l : Fin 1024) (r : Fin 32768) (hr : r.val = t.val * 512 + p.val) :
    out0_3 (F := Ideal) (iblk m c 0 t) (iblk m c 1 t) (iblk m c 2 t) (ix2 p l)
      = ker (m ((c : Thread nD τ).loc main_arg0)) (m ((c : Thread nD τ).loc main_arg1)) (m ((c : Thread nD τ).loc main_arg2)) r l := by
  refine (out_at _ _ _ p l).trans ?_
  unfold ker
  congr 1
  · exact funext fun j => funext fun e => o_at m c t j p e r hr
  · exact funext fun k => funext fun l => w_at m c t k l
  · exact funext fun l => h_at m c t p l r hr

/-- The result array after the run. -/
theorem final (c : Dev nD) : (dats m 0 c).arrAt 3 (cfgs 0).N = fun i : S32768x1024.Idx => ker (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  idx_vars y
  refine (point m c t y0 y1 _ ?_).trans (congrArg (ker (m ((c : Thread nD τ).loc main_arg0)) (m ((c : Thread nD τ).loc main_arg1)) (m ((c : Thread nD τ).loc main_arg2)) _) (Fin.ext ?_))
  all_goals (blk_simp [idx t] <;> try omega)

end Cert.AOutIdeal.Val
-- ==== Proof.AOutRef.lean ====
module

public import proofs.«01_k».proof.Proof.Gen.AOutRefIdeal.Read
public import proofs.«01_k».proof.Proof.AOutVal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference of the output projection, row by row -/

namespace Cert.AOutRefIdeal.Val
open Cert.AOutRefIdeal Cert.AOutRefIdeal.Gen Cert.AOutRefIdeal.Read

variable (o : FVec Ideal S8x32768x128 .bf16) (w : FVec Ideal S1024x1024 .f32) (h : FVec Ideal S2x16384x1024 .f32)

theorem heads_at (r : Fin 32768) (k : Fin 1024) :
    val_main_v2 (F := Ideal) o (ix3 ⟨r.val / 16384, by omega⟩ ⟨r.val % 16384, by omega⟩ k) = o (ix3 ⟨k.val / 128, by omega⟩ r ⟨k.val % 128, by omega⟩) := by
  pointwise [val_main_v2, val_main_v1, val_main_v0]
  blk_ext

theorem result_at (r : Fin 32768) (l : Fin 1024) :
    val_main_v5 (F := Ideal) o w h (ix2 r l) = Cert.AOutIdeal.Val.ker o w h r l := by
  unfold Cert.AOutIdeal.Val.ker Cert.AOutIdeal.Val.mix
  refine (val_main_v5_apply (F := Ideal) o w h _).trans ?_
  have e : idx_main_v5 (ix2 r l) = ix3 ⟨r.val / 16384, by omega⟩ ⟨r.val % 16384, by omega⟩ l := by
    refine funext fun a => ?_
    match a with
    | ⟨0, _⟩ => exact Fin.ext (by show (r.val * 1024 + l.val) / 16777216 = r.val / 16384; omega)
    | ⟨1, _⟩ => exact Fin.ext (by show (r.val * 1024 + l.val) / 1024 % 16384 = r.val % 16384; omega)
    | ⟨2, _⟩ => exact Fin.ext (by show (r.val * 1024 + l.val) % 1024 = l.val; omega)
  rw [e]
  simp only [← heads_at]
  pointwise [val_main_v4, val_main_v3]

end Cert.AOutRefIdeal.Val
-- ==== Proof.AOutClaims.lean ====
module

public import proofs.«01_k».proof.Defs
public import proofs.«01_k».proof.Proof.AOutVal
public import proofs.«01_k».proof.Proof.AOutRef
public import proofs.«01_k».proof.Proof.Gen.AOut.Frame
public import proofs.«01_k».proof.Proof.Gen.AOutIdeal.Frame
public import proofs.«01_k».proof.Proof.Gen.AOutRefIdeal.Run
public import Idealize.ShloMosaic.Lib.Claim

@[expose] public section

set_option maxRecDepth 16384

noncomputable section

open Idealize.ShloMosaic Idealize.ShloMosaic.TcCoe Idealize.SL.Sem

/-! # The claims about the call AOut -/

namespace Cert.AOutClaims

theorem frame_p : Cert.quiescent_AOut := fun m ρ _ => Cert.AOut.Gen.frame m ρ
theorem frame_pi : Cert.quiescent_AOutIdeal := fun m ρ _ => Cert.AOutIdeal.Gen.frame m ρ
theorem frame_ri : Cert.quiescent_AOutRefIdeal := fun m ρ _ =>
  (θ_run Cert.AOutRefIdeal.defs _ _).mono (fun r h => ⟨fun c => (h c).2, Idealize.ShloMosaic.sem_eq_zero_of_no_sems (by decide) r.2⟩)
    (Cert.AOutRefIdeal.Value.run (F := Ideal) m ρ)

theorem preserves : Cert.preserves_AOut_AOutIdeal := trivial

theorem algebraic : Cert.algebraic_AOutIdeal_AOutRefIdeal := by
  intro m g m' g' hpre hagree
  refine ⟨fun c => (Cert.AOutIdeal.Gen.dats m 0 c).arrAt 3 (Cert.AOutIdeal.cfgs 0).N, ?_, ?_⟩
  · exact Cert.AOutIdeal.Value.run_blocks m g
  · refine (θ_run Cert.AOutRefIdeal.defs _ _).mono (fun r h c => ⟨(h c).1.trans ?_, (h c).2⟩) (Cert.AOutRefIdeal.Value.run (F := Ideal) m' g')
    refine Eq.trans ?_ (Cert.AOutIdeal.Val.final m c).symm
    rw [Cert.AOutRefIdeal.Read.val_main_v5_eq, (hagree c).1, (hagree c).2.1, (hagree c).2.2]
    refine funext fun i => ?_
    obtain ⟨r, l, rfl⟩ : ∃ (r : Fin 32768) (l : Fin 1024), i = ix2 r l := ⟨i 0, i 1, eq_ix2 i⟩
    exact Cert.AOutRefIdeal.Val.result_at _ _ _ r l

end Cert.AOutClaims
-- ==== Proof.BOutBody.lean ====
module

public import proofs.«01_k».proof.Proof.Gen.BOutIdeal.Value
public import Idealize.ShloMosaic.Lib.Pipeline.ValueKit
public import Idealize.ShloMosaic.Lib.WholeRead
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-! # The spatial gate of a chunk: what one block computes -/

namespace Cert.BOutIdeal.Val
open Cert.BOutIdeal Cert.BOutIdeal.Gen

/-- The mean of a row. -/
def mean (x : Fin 3072 → EReal) : EReal := Ideal.div (∑ k, x k) (Ideal.ofBits FTy.f32 0x45400000#32)

/-- A row with its mean taken off, divided by its deviation, scaled and shifted. -/
def ln (x g b : Fin 3072 → EReal) (k : Fin 3072) : EReal :=
  (x k - mean x) * Ideal.rsqrt (mean (fun j => (x j - mean x) * (x j - mean x)) + Ideal.ofBits FTy.f32 0x358637BD#32) * g k + b k

theorem ln_at (x1 : Vec Ideal S512x3072 .bf16) (x2 x3 : Vec Ideal S1x3072 .f32) (p : Fin 512) (k : Fin 3072) :
    k0_pay13 (F := Ideal) x1 x2 x3 (ix2 p k) = ln (fun k => x1 (ix2 p k)) (fun k => x2 (ix2 0 k)) (fun k => x3 (ix2 0 k)) k := by
  unfold ln mean
  pointwise [k0_pay13]

/-! ## One tile of the gate -/

/-- One group of lanes of one chunk of rows, as the body computes it from a slab of weights, a slab of biases and the other half's rows. -/
def ytile (r c : ℕ) (hs : S512x3072.Slices ![r, c] S128x384) (vn : FVec Ideal S512x3072 .bf16) (w : Vec Ideal S1x128x128 .bf16) (b : Vec Ideal S1x128x1 .f32)
    (u : Vec Ideal S128x384 .bf16) : FVec Ideal S128x384 .bf16 :=
  shapeCast S128x384 (truncf .bf16 (mulf (extf .f32 u bitsLt_bf16_f32)
    (addf (matmul (φ₁ := .bf16) (φ₂ := .bf16) dot_S128x128_S128x384_S128x384_1_0_0_1_n_n none (shapeCast S128x128 w shapeCasts_S1x128x128_S128x128)
        (extractStridedSlice S128x384 ![r, c] vn hs) (constant S128x384 .f32 0x00000000#32))
      (broadcastTo S128x384 (shapeCast S128x1 b shapeCasts_S1x128x1_S128x1) broadcasts_S128x1_S128x384))) bitsLt_bf16_f32) shapeCasts_S128x384_S128x384

theorem ytile_at (r c : ℕ) (hs : S512x3072.Slices ![r, c] S128x384) (hr : r + 128 ≤ 512) (hc : c + 384 ≤ 3072) (vn : FVec Ideal S512x3072 .bf16) (w : Vec Ideal S1x128x128 .bf16) (b : Vec Ideal S1x128x1 .f32)
    (u : Vec Ideal S128x384 .bf16) (a : Fin 128) (d : Fin 384) :
    ytile r c hs vn w b u (ix2 a d)
      = u (ix2 a d) * ((∑ s : Fin 128, w (ix3 0 a s) * vn (ix2 ⟨r + s.val, by omega⟩ ⟨c + d.val, by omega⟩)) + b (ix3 0 a 0)) := by
  have e : ∀ s : Fin 128, extractStridedSlice S128x384 ![r, c] vn hs (ix2 s d) = vn (ix2 ⟨r + s.val, by omega⟩ ⟨c + d.val, by omega⟩) := by
    intro s
    refine congrArg vn (funext fun i => Fin.ext ?_)
    match i with
    | ⟨0, _⟩ => rfl
    | ⟨1, _⟩ => rfl
  unfold ytile
  generalize hX : extractStridedSlice S128x384 ![r, c] vn hs = X at e
  simp only [← e]
  pointwise

/-- Row `i`, lane `j` of the gated block. -/
def yval (u vn : Fin 512 → Fin 3072 → EReal) (w : Fin 8 → Fin 128 → Fin 128 → EReal) (b : Fin 8 → Fin 128 → EReal) (i : Fin 512) (j : Fin 3072) : EReal :=
  u i j * ((∑ s : Fin 128, w ⟨j.val / 384, by omega⟩ ⟨i.val % 128, by omega⟩ s * vn ⟨i.val / 128 * 128 + s.val, by omega⟩ j)
    + b ⟨j.val / 384, by omega⟩ ⟨i.val % 128, by omega⟩)

theorem ypiece (r c g : ℕ) (hs : S512x3072.Slices ![r, c] S128x384)
    (hu : ∀ i, (![r, c] : Fin 2 → ℕ) i + S128x384.size i ≤ S512x3072.size i)
    (hw : ∀ i, (![g, 0, 0] : Fin 3 → ℕ) i + S1x128x128.size i ≤ S8x128x128.size i)
    (hb : ∀ i, (![g, 0, 0] : Fin 3 → ℕ) i + S1x128x1.size i ≤ S8x128x1.size i)
    (vn : FVec Ideal S512x3072 .bf16) (x0 : Vec Ideal S512x3072 .bf16) (w : Vec Ideal S8x128x128 .bf16) (b : Vec Ideal S8x128x1 .f32)
    (i : Fin 512) (j : Fin 3072) (a : Fin 128) (d : Fin 384) (hi : i.val = r + a.val) (hj : j.val = c + d.val) (hr : r % 128 = 0) (hc : c = 384 * g) :
    ytile r c hs vn (fun k => w ((Rect.unit (s := S8x128x128) ![g, 0, 0] S1x128x128.size hw).toLoadRect.idx k))
        (fun k => b ((Rect.unit (s := S8x128x1) ![g, 0, 0] S1x128x1.size hb).toLoadRect.idx k))
        (fun k => x0 ((Rect.unit (s := S512x3072) ![r, c] S128x384.size hu).toLoadRect.idx k)) (ix2 a d)
      = yval (fun i j => x0 (ix2 i j)) (fun i j => vn (ix2 i j)) (fun g t s => w (ix3 g t s)) (fun g t => b (ix3 g t 0)) i j := by
  have h0 : r + 128 ≤ 512 := hu 0
  have h1 : c + 384 ≤ 3072 := hu 1
  have h2 : g < 8 := by omega
  refine (ytile_at r c hs h0 h1 _ _ _ _ a d).trans ?_
  have eg : (⟨j.val / 384, by omega⟩ : Fin 8) = ⟨g, h2⟩ := Fin.ext (by dsimp only; omega)
  have ea : (⟨i.val % 128, by omega⟩ : Fin 128) = a := Fin.ext (by dsimp only; omega)
  unfold yval
  rw [eg, ea]
  refine congr (congrArg _ (congrArg x0 (funext fun n => Fin.ext ?_))) (congr (congrArg _ (Finset.sum_congr rfl fun s _ => congr (congrArg _ (congrArg w (funext fun n => Fin.ext ?_))) ?_)) (congrArg b (funext fun n => Fin.ext ?_)))
  · match n with
    | ⟨0, _⟩ => show r + 1 * a.val = i.val; omega
    | ⟨1, _⟩ => show c + 1 * d.val = j.val; omega
  · match n with
    | ⟨0, _⟩ => show g + 1 * 0 = g; omega
    | ⟨1, _⟩ => show 0 + 1 * a.val = a.val; omega
    | ⟨2, _⟩ => show 0 + 1 * s.val = s.val; omega
  · have e1 : (⟨r + s.val, by omega⟩ : Fin 512) = ⟨i.val / 128 * 128 + s.val, by omega⟩ := Fin.ext (by dsimp only; omega)
    have e2 : (⟨c + d.val, by omega⟩ : Fin 3072) = j := Fin.ext (by dsimp only; omega)
    rw [e1, e2]
  · match n with
    | ⟨0, _⟩ => show g + 1 * 0 = g; omega
    | ⟨1, _⟩ => show 0 + 1 * a.val = a.val; omega
    | ⟨2, _⟩ => show 0 + 1 * 0 = 0; omega

/-- The tiles as the body stores them, last first. -/
def ylist (vn : FVec Ideal S512x3072 .bf16) (U : (R : Rect S512x3072) → R.shape.Idx → EReal) (W : (R : Rect S8x128x128) → R.shape.Idx → EReal)
    (B : (R : Rect S8x128x1) → R.shape.Idx → EReal) : List (View.Piece (Elt Ideal) S512x3072 .bf16) :=
  [⟨Rect.unit ![384, 2688] S128x384.size inb_S512x3072_S128x384_384_2688,
      ytile 384 2688 slices_S512x3072_o384_2688_S128x384 vn (W (Rect.unit ![7, 0, 0] S1x128x128.size inb_S8x128x128_S1x128x128_7_0_0))
        (B (Rect.unit ![7, 0, 0] S1x128x1.size inb_S8x128x1_S1x128x1_7_0_0)) (U (Rect.unit ![384, 2688] S128x384.size inb_S512x3072_S128x384_384_2688))⟩,
    ⟨Rect.unit ![384, 2304] S128x384.size inb_S512x3072_S128x384_384_2304,
      ytile 384 2304 slices_S512x3072_o384_2304_S128x384 vn (W (Rect.unit ![6, 0, 0] S1x128x128.size inb_S8x128x128_S1x128x128_6_0_0))
        (B (Rect.unit ![6, 0, 0] S1x128x1.size inb_S8x128x1_S1x128x1_6_0_0)) (U (Rect.unit ![384, 2304] S128x384.size inb_S512x3072_S128x384_384_2304))⟩,
    ⟨Rect.unit ![384, 1920] S128x384.size inb_S512x3072_S128x384_384_1920,
      ytile 384 1920 slices_S512x3072_o384_1920_S128x384 vn (W (Rect.unit ![5, 0, 0] S1x128x128.size inb_S8x128x128_S1x128x128_5_0_0))
        (B (Rect.unit ![5, 0, 0] S1x128x1.size inb_S8x128x1_S1x128x1_5_0_0)) (U (Rect.unit ![384, 1920] S128x384.size inb_S512x3072_S128x384_384_1920))⟩,
    ⟨Rect.unit ![384, 1536] S128x384.size inb_S512x3072_S128x384_384_1536,
      ytile 384 1536 slices_S512x3072_o384_1536_S128x384 vn (W (Rect.unit ![4, 0, 0] S1x128x128.size inb_S8x128x128_S1x128x128_4_0_0))
        (B (Rect.unit ![4, 0, 0] S1x128x1.size inb_S8x128x1_S1x128x1_4_0_0)) (U (Rect.unit ![384, 1536] S128x384.size inb_S512x3072_S128x384_384_1536))⟩,
    ⟨Rect.unit ![384, 1152] S128x384.size inb_S512x3072_S128x384_384_1152,
      ytile 384 1152 slices_S512x3072_o384_1152_S128x384 vn (W (Rect.unit ![3, 0, 0] S1x128x128.size inb_S8x128x128_S1x128x128_3_0_0))
        (B (Rect.unit ![3, 0, 0] S1x128x1.size inb_S8x128x1_S1x128x1_3_0_0)) (U (Rect.unit ![384, 1152] S128x384.size inb_S512x3072_S128x384_384_1152))⟩,
    ⟨Rect.unit ![384, 768] S128x384.size inb_S512x3072_S128x384_384_768,
      ytile 384 768 slices_S512x3072_o384_768_S128x384 vn (W (Rect.unit ![2, 0, 0] S1x128x128.size inb_S8x128x128_S1x128x128_2_0_0))
        (B (Rect.unit ![2, 0, 0] S1x128x1.size inb_S8x128x1_S1x128x1_2_0_0)) (U (Rect.unit ![384, 768] S128x384.size inb_S512x3072_S128x384_384_768))⟩,
    ⟨Rect.unit ![384, 384] S128x384.size inb_S512x3072_S128x384_384_384,
      ytile 384 384 slices_S512x3072_o384_384_S128x384 vn (W (Rect.unit ![1, 0, 0] S1x128x128.size inb_S8x128x128_S1x128x128_1_0_0))
        (B (Rect.unit ![1, 0, 0] S1x128x1.size inb_S8x128x1_S1x128x1_1_0_0)) (U (Rect.unit ![384, 384] S128x384.size inb_S512x3072_S128x384_384_384))⟩,
    ⟨Rect.unit ![384, 0] S128x384.size inb_S512x3072_S128x384_384_0,
      ytile 384 0 slices_S512x3072_o384_0_S128x384 vn (W (Rect.unit ![0, 0, 0] S1x128x128.size inb_S8x128x128_S1x128x128_0_0_0))
        (B (Rect.unit ![0, 0, 0] S1x128x1.size inb_S8x128x1_S1x128x1_0_0_0)) (U (Rect.unit ![384, 0] S128x384.size inb_S512x3072_S128x384_384_0))⟩,
    ⟨Rect.unit ![256, 2688] S128x384.size inb_S512x3072_S128x384_256_2688,
      ytile 256 2688 slices_S512x3072_o256_2688_S128x384 vn (W (Rect.unit ![7, 0, 0] S1x128x128.size inb_S8x128x128_S1x128x128_7_0_0))
        (B (Rect.unit ![7, 0, 0] S1x128x1.size inb_S8x128x1_S1x128x1_7_0_0)) (U (Rect.unit ![256, 2688] S128x384.size inb_S512x3072_S128x384_256_2688))⟩,
    ⟨Rect.unit ![256, 2304] S128x384.size inb_S512x3072_S128x384_256_2304,
      ytile 256 2304 slices_S512x3072_o256_2304_S128x384 vn (W (Rect.unit ![6, 0, 0] S1x128x128.size inb_S8x128x128_S1x128x128_6_0_0))
        (B (Rect.unit ![6, 0, 0] S1x128x1.size inb_S8x128x1_S1x128x1_6_0_0)) (U (Rect.unit ![256, 2304] S128x384.size inb_S512x3072_S128x384_256_2304))⟩,
    ⟨Rect.unit ![256, 1920] S128x384.size inb_S512x3072_S128x384_256_1920,
      ytile 256 1920 slices_S512x3072_o256_1920_S128x384 vn (W (Rect.unit ![5, 0, 0] S1x128x128.size inb_S8x128x128_S1x128x128_5_0_0))
        (B (Rect.unit ![5, 0, 0] S1x128x1.size inb_S8x128x1_S1x128x1_5_0_0)) (U (Rect.unit ![256, 1920] S128x384.size inb_S512x3072_S128x384_256_1920))⟩,
    ⟨Rect.unit ![256, 1536] S128x384.size inb_S512x3072_S128x384_256_1536,
      ytile 256 1536 slices_S512x3072_o256_1536_S128x384 vn (W (Rect.unit ![4, 0, 0] S1x128x128.size inb_S8x128x128_S1x128x128_4_0_0))
        (B (Rect.unit ![4, 0, 0] S1x128x1.size inb_S8x128x1_S1x128x1_4_0_0)) (U (Rect.unit ![256, 1536] S128x384.size inb_S512x3072_S128x384_256_1536))⟩,
    ⟨Rect.unit ![256, 1152] S128x384.size inb_S512x3072_S128x384_256_1152,
      ytile 256 1152 slices_S512x3072_o256_1152_S128x384 vn (W (Rect.unit ![3, 0, 0] S1x128x128.size inb_S8x128x128_S1x128x128_3_0_0))
        (B (Rect.unit ![3, 0, 0] S1x128x1.size inb_S8x128x1_S1x128x1_3_0_0)) (U (Rect.unit ![256, 1152] S128x384.size inb_S512x3072_S128x384_256_1152))⟩,
    ⟨Rect.unit ![256, 768] S128x384.size inb_S512x3072_S128x384_256_768,
      ytile 256 768 slices_S512x3072_o256_768_S128x384 vn (W (Rect.unit ![2, 0, 0] S1x128x128.size inb_S8x128x128_S1x128x128_2_0_0))
        (B (Rect.unit ![2, 0, 0] S1x128x1.size inb_S8x128x1_S1x128x1_2_0_0)) (U (Rect.unit ![256, 768] S128x384.size inb_S512x3072_S128x384_256_768))⟩,
    ⟨Rect.unit ![256, 384] S128x384.size inb_S512x3072_S128x384_256_384,
      ytile 256 384 slices_S512x3072_o256_384_S128x384 vn (W (Rect.unit ![1, 0, 0] S1x128x128.size inb_S8x128x128_S1x128x128_1_0_0))
        (B (Rect.unit ![1, 0, 0] S1x128x1.size inb_S8x128x1_S1x128x1_1_0_0)) (U (Rect.unit ![256, 384] S128x384.size inb_S512x3072_S128x384_256_384))⟩,
    ⟨Rect.unit ![256, 0] S128x384.size inb_S512x3072_S128x384_256_0,
      ytile 256 0 slices_S512x3072_o256_0_S128x384 vn (W (Rect.unit ![0, 0, 0] S1x128x128.size inb_S8x128x128_S1x128x128_0_0_0))
        (B (Rect.unit ![0, 0, 0] S1x128x1.size inb_S8x128x1_S1x128x1_0_0_0)) (U (Rect.unit ![256, 0] S128x384.size inb_S512x3072_S128x384_256_0))⟩,
    ⟨Rect.unit ![128, 2688] S128x384.size inb_S512x3072_S128x384_128_2688,
      ytile 128 2688 slices_S512x3072_o128_2688_S128x384 vn (W (Rect.unit ![7, 0, 0] S1x128x128.size inb_S8x128x128_S1x128x128_7_0_0))
        (B (Rect.unit ![7, 0, 0] S1x128x1.size inb_S8x128x1_S1x128x1_7_0_0)) (U (Rect.unit ![128, 2688] S128x384.size inb_S512x3072_S128x384_128_2688))⟩,
    ⟨Rect.unit ![128, 2304] S128x384.size inb_S512x3072_S128x384_128_2304,
      ytile 128 2304 slices_S512x3072_o128_2304_S128x384 vn (W (Rect.unit ![6, 0, 0] S1x128x128.size inb_S8x128x128_S1x128x128_6_0_0))
        (B (Rect.unit ![6, 0, 0] S1x128x1.size inb_S8x128x1_S1x128x1_6_0_0)) (U (Rect.unit ![128, 2304] S128x384.size inb_S512x3072_S128x384_128_2304))⟩,
    ⟨Rect.unit ![128, 1920] S128x384.size inb_S512x3072_S128x384_128_1920,
      ytile 128 1920 slices_S512x3072_o128_1920_S128x384 vn (W (Rect.unit ![5, 0, 0] S1x128x128.size inb_S8x128x128_S1x128x128_5_0_0))
        (B (Rect.unit ![5, 0, 0] S1x128x1.size inb_S8x128x1_S1x128x1_5_0_0)) (U (Rect.unit ![128, 1920] S128x384.size inb_S512x3072_S128x384_128_1920))⟩,
    ⟨Rect.unit ![128, 1536] S128x384.size inb_S512x3072_S128x384_128_1536,
      ytile 128 1536 slices_S512x3072_o128_1536_S128x384 vn (W (Rect.unit ![4, 0, 0] S1x128x128.size inb_S8x128x128_S1x128x128_4_0_0))
        (B (Rect.unit ![4, 0, 0] S1x128x1.size inb_S8x128x1_S1x128x1_4_0_0)) (U (Rect.unit ![128, 1536] S128x384.size inb_S512x3072_S128x384_128_1536))⟩,
    ⟨Rect.unit ![128, 1152] S128x384.size inb_S512x3072_S128x384_128_1152,
      ytile 128 1152 slices_S512x3072_o128_1152_S128x384 vn (W (Rect.unit ![3, 0, 0] S1x128x128.size inb_S8x128x128_S1x128x128_3_0_0))
        (B (Rect.unit ![3, 0, 0] S1x128x1.size inb_S8x128x1_S1x128x1_3_0_0)) (U (Rect.unit ![128, 1152] S128x384.size inb_S512x3072_S128x384_128_1152))⟩,
    ⟨Rect.unit ![128, 768] S128x384.size inb_S512x3072_S128x384_128_768,
      ytile 128 768 slices_S512x3072_o128_768_S128x384 vn (W (Rect.unit ![2, 0, 0] S1x128x128.size inb_S8x128x128_S1x128x128_2_0_0))
        (B (Rect.unit ![2, 0, 0] S1x128x1.size inb_S8x128x1_S1x128x1_2_0_0)) (U (Rect.unit ![128, 768] S128x384.size inb_S512x3072_S128x384_128_768))⟩,
    ⟨Rect.unit ![128, 384] S128x384.size inb_S512x3072_S128x384_128_384,
      ytile 128 384 slices_S512x3072_o128_384_S128x384 vn (W (Rect.unit ![1, 0, 0] S1x128x128.size inb_S8x128x128_S1x128x128_1_0_0))
        (B (Rect.unit ![1, 0, 0] S1x128x1.size inb_S8x128x1_S1x128x1_1_0_0)) (U (Rect.unit ![128, 384] S128x384.size inb_S512x3072_S128x384_128_384))⟩,
    ⟨Rect.unit ![128, 0] S128x384.size inb_S512x3072_S128x384_128_0,
      ytile 128 0 slices_S512x3072_o128_0_S128x384 vn (W (Rect.unit ![0, 0, 0] S1x128x128.size inb_S8x128x128_S1x128x128_0_0_0))
        (B (Rect.unit ![0, 0, 0] S1x128x1.size inb_S8x128x1_S1x128x1_0_0_0)) (U (Rect.unit ![128, 0] S128x384.size inb_S512x3072_S128x384_128_0))⟩,
    ⟨Rect.unit ![0, 2688] S128x384.size inb_S512x3072_S128x384_0_2688,
      ytile 0 2688 slices_S512x3072_o0_2688_S128x384 vn (W (Rect.unit ![7, 0, 0] S1x128x128.size inb_S8x128x128_S1x128x128_7_0_0))
        (B (Rect.unit ![7, 0, 0] S1x128x1.size inb_S8x128x1_S1x128x1_7_0_0)) (U (Rect.unit ![0, 2688] S128x384.size inb_S512x3072_S128x384_0_2688))⟩,
    ⟨Rect.unit ![0, 2304] S128x384.size inb_S512x3072_S128x384_0_2304,
      ytile 0 2304 slices_S512x3072_o0_2304_S128x384 vn (W (Rect.unit ![6, 0, 0] S1x128x128.size inb_S8x128x128_S1x128x128_6_0_0))
        (B (Rect.unit ![6, 0, 0] S1x128x1.size inb_S8x128x1_S1x128x1_6_0_0)) (U (Rect.unit ![0, 2304] S128x384.size inb_S512x3072_S128x384_0_2304))⟩,
    ⟨Rect.unit ![0, 1920] S128x384.size inb_S512x3072_S128x384_0_1920,
      ytile 0 1920 slices_S512x3072_o0_1920_S128x384 vn (W (Rect.unit ![5, 0, 0] S1x128x128.size inb_S8x128x128_S1x128x128_5_0_0))
        (B (Rect.unit ![5, 0, 0] S1x128x1.size inb_S8x128x1_S1x128x1_5_0_0)) (U (Rect.unit ![0, 1920] S128x384.size inb_S512x3072_S128x384_0_1920))⟩,
    ⟨Rect.unit ![0, 1536] S128x384.size inb_S512x3072_S128x384_0_1536,
      ytile 0 1536 slices_S512x3072_o0_1536_S128x384 vn (W (Rect.unit ![4, 0, 0] S1x128x128.size inb_S8x128x128_S1x128x128_4_0_0))
        (B (Rect.unit ![4, 0, 0] S1x128x1.size inb_S8x128x1_S1x128x1_4_0_0)) (U (Rect.unit ![0, 1536] S128x384.size inb_S512x3072_S128x384_0_1536))⟩,
    ⟨Rect.unit ![0, 1152] S128x384.size inb_S512x3072_S128x384_0_1152,
      ytile 0 1152 slices_S512x3072_o0_1152_S128x384 vn (W (Rect.unit ![3, 0, 0] S1x128x128.size inb_S8x128x128_S1x128x128_3_0_0))
        (B (Rect.unit ![3, 0, 0] S1x128x1.size inb_S8x128x1_S1x128x1_3_0_0)) (U (Rect.unit ![0, 1152] S128x384.size inb_S512x3072_S128x384_0_1152))⟩,
    ⟨Rect.unit ![0, 768] S128x384.size inb_S512x3072_S128x384_0_768,
      ytile 0 768 slices_S512x3072_o0_768_S128x384 vn (W (Rect.unit ![2, 0, 0] S1x128x128.size inb_S8x128x128_S1x128x128_2_0_0))
        (B (Rect.unit ![2, 0, 0] S1x128x1.size inb_S8x128x1_S1x128x1_2_0_0)) (U (Rect.unit ![0, 768] S128x384.size inb_S512x3072_S128x384_0_768))⟩,
    ⟨Rect.unit ![0, 384] S128x384.size inb_S512x3072_S128x384_0_384,
      ytile 0 384 slices_S512x3072_o0_384_S128x384 vn (W (Rect.unit ![1, 0, 0] S1x128x128.size inb_S8x128x128_S1x128x128_1_0_0))
        (B (Rect.unit ![1, 0, 0] S1x128x1.size inb_S8x128x1_S1x128x1_1_0_0)) (U (Rect.unit ![0, 384] S128x384.size inb_S512x3072_S128x384_0_384))⟩,
    ⟨Rect.unit ![0, 0] S128x384.size inb_S512x3072_S128x384_0_0,
      ytile 0 0 slices_S512x3072_o0_0_S128x384 vn (W (Rect.unit ![0, 0, 0] S1x128x128.size inb_S8x128x128_S1x128x128_0_0_0))
        (B (Rect.unit ![0, 0, 0] S1x128x1.size inb_S8x128x1_S1x128x1_0_0_0)) (U (Rect.unit ![0, 0] S128x384.size inb_S512x3072_S128x384_0_0))⟩]

theorem y_at (vn : FVec Ideal S512x3072 .bf16) (x0 : Vec Ideal S512x3072 .bf16) (w : Vec Ideal S8x128x128 .bf16) (b : Vec Ideal S8x128x1 .f32) (i : Fin 512) (j : Fin 3072) :
    View.canon (ylist vn (fun R k => x0 (R.toLoadRect.idx k)) (fun R k => w (R.toLoadRect.idx k)) (fun R k => b (R.toLoadRect.idx k))) (ix2 i j)
      = yval (fun i j => x0 (ix2 i j)) (fun i j => vn (ix2 i j)) (fun g t s => w (ix3 g t s)) (fun g t => b (ix3 g t 0)) i j := by
  unfold ylist
  canon_tiles y h
  · idx_vars y
    exact ypiece 384 2688 7 _ _ _ _ vn x0 w b i j y0 y1 (by omega) (by omega) (by decide) (by decide)
  · idx_vars y
    exact ypiece 384 2304 6 _ _ _ _ vn x0 w b i j y0 y1 (by omega) (by omega) (by decide) (by decide)
  · idx_vars y
    exact ypiece 384 1920 5 _ _ _ _ vn x0 w b i j y0 y1 (by omega) (by omega) (by decide) (by decide)
  · idx_vars y
    exact ypiece 384 1536 4 _ _ _ _ vn x0 w b i j y0 y1 (by omega) (by omega) (by decide) (by decide)
  · idx_vars y
    exact ypiece 384 1152 3 _ _ _ _ vn x0 w b i j y0 y1 (by omega) (by omega) (by decide) (by decide)
  · idx_vars y
    exact ypiece 384 768 2 _ _ _ _ vn x0 w b i j y0 y1 (by omega) (by omega) (by decide) (by decide)
  · idx_vars y
    exact ypiece 384 384 1 _ _ _ _ vn x0 w b i j y0 y1 (by omega) (by omega) (by decide) (by decide)
  · idx_vars y
    exact ypiece 384 0 0 _ _ _ _ vn x0 w b i j y0 y1 (by omega) (by omega) (by decide) (by decide)
  · idx_vars y
    exact ypiece 256 2688 7 _ _ _ _ vn x0 w b i j y0 y1 (by omega) (by omega) (by decide) (by decide)
  · idx_vars y
    exact ypiece 256 2304 6 _ _ _ _ vn x0 w b i j y0 y1 (by omega) (by omega) (by decide) (by decide)
  · idx_vars y
    exact ypiece 256 1920 5 _ _ _ _ vn x0 w b i j y0 y1 (by omega) (by omega) (by decide) (by decide)
  · idx_vars y
    exact ypiece 256 1536 4 _ _ _ _ vn x0 w b i j y0 y1 (by omega) (by omega) (by decide) (by decide)
  · idx_vars y
    exact ypiece 256 1152 3 _ _ _ _ vn x0 w b i j y0 y1 (by omega) (by omega) (by decide) (by decide)
  · idx_vars y
    exact ypiece 256 768 2 _ _ _ _ vn x0 w b i j y0 y1 (by omega) (by omega) (by decide) (by decide)
  · idx_vars y
    exact ypiece 256 384 1 _ _ _ _ vn x0 w b i j y0 y1 (by omega) (by omega) (by decide) (by decide)
  · idx_vars y
    exact ypiece 256 0 0 _ _ _ _ vn x0 w b i j y0 y1 (by omega) (by omega) (by decide) (by decide)
  · idx_vars y
    exact ypiece 128 2688 7 _ _ _ _ vn x0 w b i j y0 y1 (by omega) (by omega) (by decide) (by decide)
  · idx_vars y
    exact ypiece 128 2304 6 _ _ _ _ vn x0 w b i j y0 y1 (by omega) (by omega) (by decide) (by decide)
  · idx_vars y
    exact ypiece 128 1920 5 _ _ _ _ vn x0 w b i j y0 y1 (by omega) (by omega) (by decide) (by decide)
  · idx_vars y
    exact ypiece 128 1536 4 _ _ _ _ vn x0 w b i j y0 y1 (by omega) (by omega) (by decide) (by decide)
  · idx_vars y
    exact ypiece 128 1152 3 _ _ _ _ vn x0 w b i j y0 y1 (by omega) (by omega) (by decide) (by decide)
  · idx_vars y
    exact ypiece 128 768 2 _ _ _ _ vn x0 w b i j y0 y1 (by omega) (by omega) (by decide) (by decide)
  · idx_vars y
    exact ypiece 128 384 1 _ _ _ _ vn x0 w b i j y0 y1 (by omega) (by omega) (by decide) (by decide)
  · idx_vars y
    exact ypiece 128 0 0 _ _ _ _ vn x0 w b i j y0 y1 (by omega) (by omega) (by decide) (by decide)
  · idx_vars y
    exact ypiece 0 2688 7 _ _ _ _ vn x0 w b i j y0 y1 (by omega) (by omega) (by decide) (by decide)
  · idx_vars y
    exact ypiece 0 2304 6 _ _ _ _ vn x0 w b i j y0 y1 (by omega) (by omega) (by decide) (by decide)
  · idx_vars y
    exact ypiece 0 1920 5 _ _ _ _ vn x0 w b i j y0 y1 (by omega) (by omega) (by decide) (by decide)
  · idx_vars y
    exact ypiece 0 1536 4 _ _ _ _ vn x0 w b i j y0 y1 (by omega) (by omega) (by decide) (by decide)
  · idx_vars y
    exact ypiece 0 1152 3 _ _ _ _ vn x0 w b i j y0 y1 (by omega) (by omega) (by decide) (by decide)
  · idx_vars y
    exact ypiece 0 768 2 _ _ _ _ vn x0 w b i j y0 y1 (by omega) (by omega) (by decide) (by decide)
  · idx_vars y
    exact ypiece 0 384 1 _ _ _ _ vn x0 w b i j y0 y1 (by omega) (by omega) (by decide) (by decide)
  · idx_vars y
    exact ypiece 0 0 0 _ _ _ _ vn x0 w b i j y0 y1 (by omega) (by omega) (by decide) (by decide)

/-! ## The masked weights -/

/-- The weights of the rows up to the row itself. -/
def wmask (x4 : Vec Ideal S8x128x128 .f32) (g : Fin 8) (t s : Fin 128) : EReal := if s.val ≤ t.val then x4 (ix3 g t s) else 0

/-! ## What the stores leave -/

section
variable (c : Dev nD) (arg1 : Memref sig .tc .vmem S512x3072 .bf16) (harg1 : arg1.IsWhole) (arg2 : Memref sig .tc .vmem S512x3072 .bf16) (harg2 : arg2.IsWhole)
  (arg3 : Memref sig .tc .vmem S1x3072 .f32) (harg3 : arg3.IsWhole) (arg4 : Memref sig .tc .vmem S1x3072 .f32) (harg4 : arg4.IsWhole)
  (arg5 : Memref sig .tc .vmem S8x128x128 .f32) (harg5 : arg5.IsWhole) (arg6 : Memref sig .tc .vmem S8x128x1 .f32) (harg6 : arg6.IsWhole)
  (arg10 : Memref sig .tc .vmem S8x128x128 .bf16) (harg10 : arg10.IsWhole) (arg11 : Memref sig .tc .vmem S512x3072 .bf16)
  (x0 x1 : Vec Ideal S512x3072 .bf16) (x2 x3 : Vec Ideal S1x3072 .f32) (x4 : Vec Ideal S8x128x128 .f32) (x5 : Vec Ideal S8x128x1 .f32) (xs : Vec Ideal S8x128x128 .bf16)

/-- The normalized rows as the body reads them. -/
def vnr : FVec Ideal S512x3072 .bf16 :=
  k0_pay13 (View.readAt (Elt Ideal) arg2.view (Rect.unit ![0, 0] S512x3072.size inb_S512x3072_S512x3072_0_0).toLoadRect (harg2.unread x1))
    (View.readAt (Elt Ideal) arg3.view (Rect.unit ![0, 0] S1x3072.size inb_S1x3072_S1x3072_0_0).toLoadRect (harg3.unread x2))
    (View.readAt (Elt Ideal) arg4.view (Rect.unit ![0, 0] S1x3072.size inb_S1x3072_S1x3072_0_0).toLoadRect (harg4.unread x3))

theorem vnr_at (p : Fin 512) (k : Fin 3072) :
    vnr arg2 harg2 arg3 harg3 arg4 harg4 x1 x2 x3 (ix2 p k) = ln (fun k => x1 (ix2 p k)) (fun k => x2 (ix2 0 k)) (fun k => x3 (ix2 0 k)) k := by
  refine (ln_at _ _ _ p k).trans ?_
  have e1 : ∀ k, View.readAt (Elt Ideal) arg2.view (Rect.unit ![0, 0] S512x3072.size inb_S512x3072_S512x3072_0_0).toLoadRect (harg2.unread x1) (ix2 p k) = x1 (ix2 p k) := by
    intro k
    rw [harg2.readAt_unread]
    refine congrArg x1 (funext fun i => Fin.ext ?_)
    match i with
    | ⟨0, _⟩ => show 0 + 1 * p.val = p.val; omega
    | ⟨1, _⟩ => show 0 + 1 * k.val = k.val; omega
  have e2 : ∀ k, View.readAt (Elt Ideal) arg3.view (Rect.unit ![0, 0] S1x3072.size inb_S1x3072_S1x3072_0_0).toLoadRect (harg3.unread x2) (ix2 0 k) = x2 (ix2 0 k) := by
    intro k
    rw [harg3.readAt_unread]
    refine congrArg x2 (funext fun i => Fin.ext ?_)
    match i with
    | ⟨0, _⟩ => show 0 + 1 * 0 = 0; omega
    | ⟨1, _⟩ => show 0 + 1 * k.val = k.val; omega
  have e3 : ∀ k, View.readAt (Elt Ideal) arg4.view (Rect.unit ![0, 0] S1x3072.size inb_S1x3072_S1x3072_0_0).toLoadRect (harg4.unread x3) (ix2 0 k) = x3 (ix2 0 k) := by
    intro k
    rw [harg4.readAt_unread]
    refine congrArg x3 (funext fun i => Fin.ext ?_)
    match i with
    | ⟨0, _⟩ => show 0 + 1 * 0 = 0; omega
    | ⟨1, _⟩ => show 0 + 1 * k.val = k.val; omega
  simp only [e1, e2, e3]

set_option maxHeartbeats 2000000 in
theorem listB : kernelRun0_B.sl.HS1_32 (F := Ideal) c arg1 harg1 arg2 harg2 arg3 harg3 arg4 harg4 arg6 harg6 arg10 harg10 x0 x1 x2 x3 x5 xs
    = ylist (vnr arg2 harg2 arg3 harg3 arg4 harg4 x1 x2 x3) (fun R => View.readAt (Elt Ideal) arg1.view R.toLoadRect (harg1.unread x0))
      (fun R => View.readAt (Elt Ideal) arg10.view R.toLoadRect (harg10.unread xs)) (fun R => View.readAt (Elt Ideal) arg6.view R.toLoadRect (harg6.unread x5)) := rfl

set_option maxHeartbeats 2000000 in
theorem listA : kernelRun0_A.sl.HS1_32 (F := Ideal) c arg1 harg1 arg2 harg2 arg3 harg3 arg4 harg4 arg5 harg5 arg6 harg6 arg10 x0 x1 x2 x3 x4 x5
    = ylist (vnr arg2 harg2 arg3 harg3 arg4 harg4 x1 x2 x3) (fun R => View.readAt (Elt Ideal) arg1.view R.toLoadRect (harg1.unread x0))
      (fun R => arg10.view.readCov (kernelRun0_A.sl.HS0_8 c arg5 harg5 x4) R.toLoadRect) (fun R => View.readAt (Elt Ideal) arg6.view R.toLoadRect (harg6.unread x5)) := rfl

/-- The tiles the later points store make the gated block. -/
theorem yB (i : Fin 512) (j : Fin 3072) :
    View.canon (kernelRun0_B.sl.HS1_32 (F := Ideal) c arg1 harg1 arg2 harg2 arg3 harg3 arg4 harg4 arg6 harg6 arg10 harg10 x0 x1 x2 x3 x5 xs) (ix2 i j)
      = yval (fun i j => x0 (ix2 i j)) (fun i => ln (fun k => x1 (ix2 i k)) (fun k => x2 (ix2 0 k)) (fun k => x3 (ix2 0 k))) (fun g t s => xs (ix3 g t s)) (fun g t => x5 (ix3 g t 0)) i j := by
  rw [listB]
  have a : ∀ R : Rect S512x3072, View.readAt (Elt Ideal) arg1.view R.toLoadRect (harg1.unread x0) = fun k => x0 (R.toLoadRect.idx k) := fun R => funext fun k => harg1.readAt_unread x0 R.toLoadRect k
  have b : ∀ R : Rect S8x128x128, View.readAt (Elt Ideal) arg10.view R.toLoadRect (harg10.unread xs) = fun k => xs (R.toLoadRect.idx k) := fun R => funext fun k => harg10.readAt_unread xs R.toLoadRect k
  have d : ∀ R : Rect S8x128x1, View.readAt (Elt Ideal) arg6.view R.toLoadRect (harg6.unread x5) = fun k => x5 (R.toLoadRect.idx k) := fun R => funext fun k => harg6.readAt_unread x5 R.toLoadRect k
  rw [funext a, funext b, funext d]
  refine (y_at _ _ _ _ i j).trans ?_
  simp only [vnr_at]

/-- The tiles the first point stores make the gated block of the weights it has just stored. -/
theorem yA (i : Fin 512) (j : Fin 3072) :
    View.canon (kernelRun0_A.sl.HS1_32 (F := Ideal) c arg1 harg1 arg2 harg2 arg3 harg3 arg4 harg4 arg5 harg5 arg6 harg6 arg10 x0 x1 x2 x3 x4 x5) (ix2 i j)
      = yval (fun i j => x0 (ix2 i j)) (fun i => ln (fun k => x1 (ix2 i k)) (fun k => x2 (ix2 0 k)) (fun k => x3 (ix2 0 k)))
        (fun g t s => View.canon (kernelRun0_A.sl.HS0_8 c arg5 harg5 x4) (ix3 g t s)) (fun g t => x5 (ix3 g t 0)) i j := by
  rw [listA]
  have a : ∀ R : Rect S512x3072, View.readAt (Elt Ideal) arg1.view R.toLoadRect (harg1.unread x0) = fun k => x0 (R.toLoadRect.idx k) := fun R => funext fun k => harg1.readAt_unread x0 R.toLoadRect k
  have b : ∀ R : Rect S8x128x128, arg10.view.readCov (kernelRun0_A.sl.HS0_8 (F := Ideal) c arg5 harg5 x4) R.toLoadRect = fun k => View.canon (kernelRun0_A.sl.HS0_8 c arg5 harg5 x4) (R.toLoadRect.idx k) :=
    fun R => View.readCov_eq_canon' _ _ _
  have d : ∀ R : Rect S8x128x1, View.readAt (Elt Ideal) arg6.view R.toLoadRect (harg6.unread x5) = fun k => x5 (R.toLoadRect.idx k) := fun R => funext fun k => harg6.readAt_unread x5 R.toLoadRect k
  rw [funext a, funext b, funext d]
  refine (y_at _ _ _ _ i j).trans ?_
  simp only [vnr_at]

/-- A slab of the masked weights. -/
theorem slab_at (g : ℕ) (hg : g < 8) (hw : ∀ i, (![g, 0, 0] : Fin 3 → ℕ) i + S1x128x128.size i ≤ S8x128x128.size i) (t s : Fin 128) :
    k0_pay3 (F := Ideal) (View.readAt (Elt Ideal) arg5.view (Rect.unit (s := S8x128x128) ![g, 0, 0] S1x128x128.size hw).toLoadRect (harg5.unread x4)) (ix3 0 t s) = wmask x4 ⟨g, hg⟩ t s := by
  have e : View.readAt (Elt Ideal) arg5.view (Rect.unit (s := S8x128x128) ![g, 0, 0] S1x128x128.size hw).toLoadRect (harg5.unread x4) (ix3 0 t s) = x4 (ix3 ⟨g, hg⟩ t s) := by
    rw [harg5.readAt_unread]
    refine congrArg x4 (funext fun i => Fin.ext ?_)
    match i with
    | ⟨0, _⟩ => show g + 1 * 0 = g; omega
    | ⟨1, _⟩ => show 0 + 1 * t.val = t.val; omega
    | ⟨2, _⟩ => show 0 + 1 * s.val = s.val; omega
  unfold wmask
  rw [← e]
  generalize View.readAt (Elt Ideal) arg5.view (Rect.unit (s := S8x128x128) ![g, 0, 0] S1x128x128.size hw).toLoadRect (harg5.unread x4) = X
  pointwise [k0_pay3]
  have ht := t.isLt
  have hs := s.isLt
  rw [WordCmp.cmpi_sge_ofNat (w := 32) (by omega) (by omega)]
  by_cases h : s.val ≤ t.val
  · rw [decide_eq_true h, if_pos h]; rfl
  · rw [decide_eq_false h, if_neg h]; rfl

theorem w_at (g : Fin 8) (t s : Fin 128) : View.canon (kernelRun0_A.sl.HS0_8 (F := Ideal) c arg5 harg5 x4) (ix3 g t s) = wmask x4 g t s := by
  unfold kernelRun0_A.sl.HS0_8
  canon_tiles y h
  · idx_vars y
    have e0 : g = (⟨7, by decide⟩ : Fin 8) := Fin.ext (by show g.val = 7; omega)
    have e1 : t = y1 := Fin.ext h1
    have e2 : s = y2 := Fin.ext h2
    have e3 : y0 = 0 := Fin.ext (by show y0.val = 0; omega)
    rw [e0, e1, e2, e3]
    exact slab_at arg5 harg5 x4 7 (by decide) _ y1 y2
  · idx_vars y
    have e0 : g = (⟨6, by decide⟩ : Fin 8) := Fin.ext (by show g.val = 6; omega)
    have e1 : t = y1 := Fin.ext h1
    have e2 : s = y2 := Fin.ext h2
    have e3 : y0 = 0 := Fin.ext (by show y0.val = 0; omega)
    rw [e0, e1, e2, e3]
    exact slab_at arg5 harg5 x4 6 (by decide) _ y1 y2
  · idx_vars y
    have e0 : g = (⟨5, by decide⟩ : Fin 8) := Fin.ext (by show g.val = 5; omega)
    have e1 : t = y1 := Fin.ext h1
    have e2 : s = y2 := Fin.ext h2
    have e3 : y0 = 0 := Fin.ext (by show y0.val = 0; omega)
    rw [e0, e1, e2, e3]
    exact slab_at arg5 harg5 x4 5 (by decide) _ y1 y2
  · idx_vars y
    have e0 : g = (⟨4, by decide⟩ : Fin 8) := Fin.ext (by show g.val = 4; omega)
    have e1 : t = y1 := Fin.ext h1
    have e2 : s = y2 := Fin.ext h2
    have e3 : y0 = 0 := Fin.ext (by show y0.val = 0; omega)
    rw [e0, e1, e2, e3]
    exact slab_at arg5 harg5 x4 4 (by decide) _ y1 y2
  · idx_vars y
    have e0 : g = (⟨3, by decide⟩ : Fin 8) := Fin.ext (by show g.val = 3; omega)
    have e1 : t = y1 := Fin.ext h1
    have e2 : s = y2 := Fin.ext h2
    have e3 : y0 = 0 := Fin.ext (by show y0.val = 0; omega)
    rw [e0, e1, e2, e3]
    exact slab_at arg5 harg5 x4 3 (by decide) _ y1 y2
  · idx_vars y
    have e0 : g = (⟨2, by decide⟩ : Fin 8) := Fin.ext (by show g.val = 2; omega)
    have e1 : t = y1 := Fin.ext h1
    have e2 : s = y2 := Fin.ext h2
    have e3 : y0 = 0 := Fin.ext (by show y0.val = 0; omega)
    rw [e0, e1, e2, e3]
    exact slab_at arg5 harg5 x4 2 (by decide) _ y1 y2
  · idx_vars y
    have e0 : g = (⟨1, by decide⟩ : Fin 8) := Fin.ext (by show g.val = 1; omega)
    have e1 : t = y1 := Fin.ext h1
    have e2 : s = y2 := Fin.ext h2
    have e3 : y0 = 0 := Fin.ext (by show y0.val = 0; omega)
    rw [e0, e1, e2, e3]
    exact slab_at arg5 harg5 x4 1 (by decide) _ y1 y2
  · idx_vars y
    have e0 : g = (⟨0, by decide⟩ : Fin 8) := Fin.ext (by show g.val = 0; omega)
    have e1 : t = y1 := Fin.ext h1
    have e2 : s = y2 := Fin.ext h2
    have e3 : y0 = 0 := Fin.ext (by show y0.val = 0; omega)
    rw [e0, e1, e2, e3]
    exact slab_at arg5 harg5 x4 0 (by decide) _ y1 y2
end

end Cert.BOutIdeal.Val
-- ==== Proof.BOutVal.lean ====
module

public import proofs.«01_k».proof.Proof.BOutBody

@[expose] public section

set_option maxRecDepth 16384

noncomputable section

open Idealize.ShloMosaic Idealize.ShloMosaic.TcCoe Idealize.SL.Sem
open Idealize.ShloMosaic.Pipeline (Dat)

/-! # The spatial gate and its output projection: what the kernel computes -/

namespace Cert.BOutIdeal.Val
open Cert.BOutIdeal Cert.BOutIdeal.Gen

/-- One lane of a gated row times the weight matrix, added to the residual. -/
def proj (y : Fin 3072 → EReal) (w : Fin 3072 → Fin 1024 → EReal) (h : Fin 1024 → EReal) (l : Fin 1024) : EReal := h l + ∑ k : Fin 3072, y k * w k l

/-- The last store: the product added to the residual. -/
theorem store_at (r : Vec Ideal S512x1024 .f32) (y : Vec Ideal S512x3072 .bf16) (w : Vec Ideal S3072x1024 .bf16) (p : Fin 512) (l : Fin 1024) :
    k0_pay2 (F := Ideal) r y w (ix2 p l) = proj (fun k => y (ix2 p k)) (fun k l => w (ix2 k l)) (fun l => r (ix2 p l)) l := by
  unfold proj
  pointwise [k0_pay2]

section
variable (arg8 : Memref sig .tc .vmem S512x1024 .f32) (harg8 : arg8.IsWhole) (arg7 : Memref sig .tc .vmem S3072x1024 .bf16) (harg7 : arg7.IsWhole)
  (arg11 : Memref sig .tc .vmem S512x3072 .bf16) (x6 : Vec Ideal S3072x1024 .bf16) (x7 : Vec Ideal S512x1024 .f32) (L : List (View.Piece (Elt Ideal) S512x3072 .bf16))

/-- The pieces of the result. -/
def olist : List (View.Piece (Elt Ideal) S512x1024 .f32) :=
  [⟨Rect.unit (s := S512x1024) ![0, 0] ![512, 1024] inb_S512x1024_S512x1024_0_0,
    k0_pay2 (F := Ideal) (View.readAt (Elt Ideal) arg8.view (Rect.unit (s := S512x1024) ![0, 0] ![512, 1024] inb_S512x1024_S512x1024_0_0).toLoadRect (harg8.unread x7))
      (arg11.view.readCov L (Rect.unit (s := S512x3072) ![0, 0] ![512, 3072] inb_S512x3072_S512x3072_0_0).toLoadRect)
      (View.readAt (Elt Ideal) arg7.view (Rect.unit (s := S3072x1024) ![0, 0] ![3072, 1024] inb_S3072x1024_S3072x1024_0_0).toLoadRect (harg7.unread x6))⟩]

theorem o_at (p : Fin 512) (l : Fin 1024) :
    View.canon (olist arg8 harg8 arg7 harg7 arg11 x6 x7 L) (ix2 p l) = proj (fun k => View.canon L (ix2 p k)) (fun k l => x6 (ix2 k l)) (fun l => x7 (ix2 p l)) l := by
  unfold olist
  canon_tiles y h
  idx_vars y
  obtain rfl : p = y0 := Fin.ext h0
  obtain rfl : l = y1 := Fin.ext h1
  refine (store_at _ _ _ p l).trans ?_
  unfold proj
  have e1 : View.readAt (Elt Ideal) arg8.view (Rect.unit (s := S512x1024) ![0, 0] ![512, 1024] inb_S512x1024_S512x1024_0_0).toLoadRect (harg8.unread x7) (ix2 p l) = x7 (ix2 p l) := by
    rw [harg8.readAt_unread]
    refine congrArg x7 (funext fun i => Fin.ext ?_)
    match i with
    | ⟨0, _⟩ => show 0 + 1 * p.val = p.val; omega
    | ⟨1, _⟩ => show 0 + 1 * l.val = l.val; omega
  have e2 : ∀ k, View.readAt (Elt Ideal) arg7.view (Rect.unit (s := S3072x1024) ![0, 0] ![3072, 1024] inb_S3072x1024_S3072x1024_0_0).toLoadRect (harg7.unread x6) (ix2 k l) = x6 (ix2 k l) := by
    intro k
    rw [harg7.readAt_unread]
    refine congrArg x6 (funext fun i => Fin.ext ?_)
    match i with
    | ⟨0, _⟩ => show 0 + 1 * k.val = k.val; omega
    | ⟨1, _⟩ => show 0 + 1 * l.val = l.val; omega
  have e3 : ∀ k, arg11.view.readCov L (Rect.unit (s := S512x3072) ![0, 0] ![512, 3072] inb_S512x3072_S512x3072_0_0).toLoadRect (ix2 p k) = View.canon L (ix2 p k) := by
    intro k
    rw [View.readCov_eq_canon']
    refine congrArg (View.canon L) (funext fun i => Fin.ext ?_)
    match i with
    | ⟨0, _⟩ => show 0 + 1 * p.val = p.val; omega
    | ⟨1, _⟩ => show 0 + 1 * k.val = k.val; omega
  exact congr (congrArg _ e1) (Finset.sum_congr rfl fun k _ => congr (congrArg _ (e3 k)) (e2 k))
end

/-! ## The whole result -/

variable (m : (ℓ : Loc nD τ sig) → Buf (Elt Ideal) ℓ)

theorem idx : ∀ t : Fin cfg0.N,
    win0_0.index t = ![t.val, 0] ∧ win0_1.index t = ![t.val, 1] ∧ win0_2.index t = ![0, 0] ∧ win0_3.index t = ![0, 0] ∧ win0_4.index t = ![0, 0, 0]
      ∧ win0_5.index t = ![0, 0, 0] ∧ win0_6.index t = ![0, 0] ∧ win0_7.index t = ![t.val, 0] ∧ win0_8.index t = ![t.val, 0] ∧ t.val < 64 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def nw (w : FVec Ideal S3072x1024 .f32) : FVec Ideal S3072x1024 .bf16 := truncf .bf16 w bitsLt_bf16_f32
def nl (g : FVec Ideal S3072 .f32) : FVec Ideal S1x3072 .f32 := shapeCast S1x3072 g shapeCasts_S3072_S1x3072
def nb (b : FVec Ideal S8x128 .f32) : FVec Ideal S8x128x1 .f32 := shapeCast S8x128x1 b shapeCasts_S8x128_S8x128x1

theorem V_z (c : Dev nD) : V m c main_arg0 = m ((c : Thread nD τ).loc main_arg0) := by
  entry_read
  rfl
theorem V_w (c : Dev nD) : V m c main_arg3 = m ((c : Thread nD τ).loc main_arg3) := by
  entry_read
  rfl
theorem V_wo (c : Dev nD) : V m c main_v0 = nw (m ((c : Thread nD τ).loc main_arg5)) := by
  entry_read
  rfl
theorem V_h (c : Dev nD) : V m c main_v1 = rows (m ((c : Thread nD τ).loc main_arg6)) := by
  entry_read
  rfl
theorem V_g (c : Dev nD) : V m c main_v2 = nl (m ((c : Thread nD τ).loc main_arg1)) := by
  entry_read
  rfl
theorem V_l (c : Dev nD) : V m c main_v3 = nl (m ((c : Thread nD τ).loc main_arg2)) := by
  entry_read
  rfl
theorem V_b (c : Dev nD) : V m c main_v4 = nb (m ((c : Thread nD τ).loc main_arg4)) := by
  entry_read
  rfl

theorem u_at (c : Dev nD) (t : Fin cfg0.N) (p : Fin 512) (k : Fin 3072) (r : Fin 32768) (hr : r.val = t.val * 512 + p.val) :
    (iblk m c 0 t : Vec Ideal S512x3072 .bf16) (ix2 p k) = m ((c : Thread nD τ).loc main_arg0) (ix2 r ⟨k.val, by omega⟩) := by
  blk_simp [iblk, idx t]
  rw [V_z]
  blk_ext [idx t]
theorem v_at (c : Dev nD) (t : Fin cfg0.N) (p : Fin 512) (k : Fin 3072) (r : Fin 32768) (hr : r.val = t.val * 512 + p.val) :
    (iblk m c 1 t : Vec Ideal S512x3072 .bf16) (ix2 p k) = m ((c : Thread nD τ).loc main_arg0) (ix2 r ⟨3072 + k.val, by omega⟩) := by
  blk_simp [iblk, idx t]
  rw [V_z]
  blk_ext [idx t]
theorem g_at (c : Dev nD) (t : Fin cfg0.N) (k : Fin 3072) :
    (iblk m c 2 t : Vec Ideal S1x3072 .f32) (ix2 0 k) = m ((c : Thread nD τ).loc main_arg1) (ix1 k) := by
  blk_simp [iblk, idx t]
  rw [V_g]
  pointwise [nl]
  blk_ext [idx t]
theorem l_at (c : Dev nD) (t : Fin cfg0.N) (k : Fin 3072) :
    (iblk m c 3 t : Vec Ideal S1x3072 .f32) (ix2 0 k) = m ((c : Thread nD τ).loc main_arg2) (ix1 k) := by
  blk_simp [iblk, idx t]
  rw [V_l]
  pointwise [nl]
  blk_ext [idx t]
theorem ws_at (c : Dev nD) (t : Fin cfg0.N) (g : Fin 8) (a s : Fin 128) :
    (iblk m c 4 t : Vec Ideal S8x128x128 .f32) (ix3 g a s) = m ((c : Thread nD τ).loc main_arg3) (ix3 g a s) := by
  blk_simp [iblk, idx t]
  rw [V_w]
  blk_ext [idx t]
theorem b_at (c : Dev nD) (t : Fin cfg0.N) (g : Fin 8) (a : Fin 128) :
    (iblk m c 5 t : Vec Ideal S8x128x1 .f32) (ix3 g a 0) = m ((c : Thread nD τ).loc main_arg4) (ix2 g a) := by
  blk_simp [iblk, idx t]
  rw [V_b]
  pointwise [nb]
  blk_ext [idx t]
theorem wo_at (c : Dev nD) (t : Fin cfg0.N) (k : Fin 3072) (l : Fin 1024) :
    (iblk m c 6 t : Vec Ideal S3072x1024 .bf16) (ix2 k l) = m ((c : Thread nD τ).loc main_arg5) (ix2 k l) := by
  blk_simp [iblk, idx t]
  rw [V_wo]
  pointwise [nw]
  blk_ext [idx t]
theorem h_at (c : Dev nD) (t : Fin cfg0.N) (p : Fin 512) (l : Fin 1024) (r : Fin 32768) (hr : r.val = t.val * 512 + p.val) :
    (iblk m c 7 t : Vec Ideal S512x1024 .f32) (ix2 p l) = m ((c : Thread nD τ).loc main_arg6) (ix3 ⟨r.val / 16384, by omega⟩ ⟨r.val % 16384, by omega⟩ l) := by
  blk_simp [iblk, idx t]
  rw [V_h]
  pointwise [rows]
  blk_ext [idx t]

/-- The masked weights, from the argument. -/
def wm (w : FVec Ideal S8x128x128 .f32) (g : Fin 8) (t s : Fin 128) : EReal := if s.val ≤ t.val then w (ix3 g t s) else 0

set_option maxHeartbeats 2000000 in
/-- The scratch the points share holds the masked weights after every point. -/
theorem held (c : Dev nD) : ∀ (n : ℕ) (hn : n < cfg0.N) (g : Fin 8) (t s : Fin 128),
    (outsAt0 m c n hn).2 (ix3 g t s) = wm (m ((c : Thread nD τ).loc main_arg3)) g t s
  | 0, hn, g, t, s => by
      rw [outsAt0_A m c ⟨0, hn⟩ (Nat.zero_mod 64)]
      dsimp only
      unfold sout0_A_0 kernelRun0_A
      dsimp only
      refine (congrFun (View.read_writes_junk_eq_canon _ _) _).trans ?_
      refine (w_at c _ _ _ g t s).trans ?_
      unfold wmask wm
      rw [ws_at]
  | n + 1, hn, g, t, s => by
      have hN := lt_of_lt_of_eq hn (show cfg0.N = 64 from N_0)
      rw [outsAt0_B m c ⟨n + 1, hn⟩ (by dsimp only; omega)]
      dsimp only
      refine Eq.trans ?_ (held c n (Nat.lt_of_succ_lt hn) g t s)
      rfl

/-- Row `r`, lane `k` of the gated rows. -/
def gk (z : FVec Ideal S32768x6144 .bf16) (g b : FVec Ideal S3072 .f32) (w : FVec Ideal S8x128x128 .f32) (bs : FVec Ideal S8x128 .f32) (r : Fin 32768) (k : Fin 3072) : EReal :=
  z (ix2 r ⟨k.val, by omega⟩)
    * ((∑ s : Fin 128, wm w ⟨k.val / 384, by omega⟩ ⟨r.val % 128, by omega⟩ s
          * ln (fun k => z (ix2 ⟨r.val / 128 * 128 + s.val, by omega⟩ ⟨3072 + k.val, by omega⟩)) (fun k => g (ix1 k)) (fun k => b (ix1 k)) k)
        + bs (ix2 ⟨k.val / 384, by omega⟩ ⟨r.val % 128, by omega⟩))

/-- Row `r`, lane `l` of the result. -/
def ker (z : FVec Ideal S32768x6144 .bf16) (g b : FVec Ideal S3072 .f32) (w : FVec Ideal S8x128x128 .f32) (bs : FVec Ideal S8x128 .f32) (wo : FVec Ideal S3072x1024 .f32) (h : FVec Ideal S2x16384x1024 .f32)
    (r : Fin 32768) (l : Fin 1024) : EReal :=
  proj (gk z g b w bs r)
    (fun k l => wo (ix2 k l)) (fun l => h (ix3 ⟨r.val / 16384, by omega⟩ ⟨r.val % 16384, by omega⟩ l)) l

theorem gate (c : Dev nD) (t : Fin cfg0.N) (p : Fin 512) (k : Fin 3072) (r : Fin 32768) (hr : r.val = t.val * 512 + p.val) (w : Fin 8 → Fin 128 → Fin 128 → EReal)
    (hw : ∀ g t s, w g t s = wm (m ((c : Thread nD τ).loc main_arg3)) g t s) :
    yval (fun i j => (iblk m c 0 t : Vec Ideal S512x3072 .bf16) (ix2 i j))
        (fun i => ln (fun k => (iblk m c 1 t : Vec Ideal S512x3072 .bf16) (ix2 i k)) (fun k => (iblk m c 2 t : Vec Ideal S1x3072 .f32) (ix2 0 k)) (fun k => (iblk m c 3 t : Vec Ideal S1x3072 .f32) (ix2 0 k)))
        w (fun g t' => (iblk m c 5 t : Vec Ideal S8x128x1 .f32) (ix3 g t' 0)) p k
      = gk (m ((c : Thread nD τ).loc main_arg0)) (m ((c : Thread nD τ).loc main_arg1)) (m ((c : Thread nD τ).loc main_arg2)) (m ((c : Thread nD τ).loc main_arg3)) (m ((c : Thread nD τ).loc main_arg4)) r k := by
  have ep : (⟨p.val % 128, by omega⟩ : Fin 128) = ⟨r.val % 128, by omega⟩ := Fin.ext (by dsimp only; omega)
  have ht := (idx t).2.2.2.2.2.2.2.2.2
  unfold yval gk
  rw [ep]
  refine congr (congrArg _ (u_at m c t p k r hr)) (congr (congrArg _ (Finset.sum_congr rfl fun s _ => congr (congrArg _ (hw _ _ s)) ?_)) (b_at m c t _ _))
  have e1 : ∀ k : Fin 3072, (iblk m c 1 t : Vec Ideal S512x3072 .bf16) (ix2 ⟨p.val / 128 * 128 + s.val, by omega⟩ k)
      = m ((c : Thread nD τ).loc main_arg0) (ix2 ⟨r.val / 128 * 128 + s.val, by omega⟩ ⟨3072 + k.val, by omega⟩) := fun k => v_at m c t _ k _ (by dsimp only; omega)
  dsimp only
  rw [funext e1, funext (g_at m c t), funext (l_at m c t)]

set_option maxHeartbeats 2000000 in
theorem point (c : Dev nD) (t : Fin cfg0.N) (p : Fin 512) (l : Fin 1024) (r : Fin 32768) (hr : r.val = t.val * 512 + p.val) :
    (outsAt0 m c t.val t.isLt).1 (ix2 p l)
      = ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r l := by
  have fin : ∀ (y : Fin 3072 → EReal),
      (∀ k, ∃ w : Fin 8 → Fin 128 → Fin 128 → EReal, (∀ g t s, w g t s = wm (m ((c : Thread nD τ).loc main_arg3)) g t s) ∧
        y k = yval (fun i j => (iblk m c 0 t : Vec Ideal S512x3072 .bf16) (ix2 i j))
          (fun i => ln (fun k => (iblk m c 1 t : Vec Ideal S512x3072 .bf16) (ix2 i k)) (fun k => (iblk m c 2 t : Vec Ideal S1x3072 .f32) (ix2 0 k)) (fun k => (iblk m c 3 t : Vec Ideal S1x3072 .f32) (ix2 0 k)))
          w (fun g t' => (iblk m c 5 t : Vec Ideal S8x128x1 .f32) (ix3 g t' 0)) p k) →
      proj y (fun k l => (iblk m c 6 t : Vec Ideal S3072x1024 .bf16) (ix2 k l)) (fun l => (iblk m c 7 t : Vec Ideal S512x1024 .f32) (ix2 p l)) l
        = ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r l := by
    intro y hy
    unfold ker proj
    refine congr (congrArg _ (h_at m c t p l r hr)) (Finset.sum_congr rfl fun k _ => congr (congrArg _ ?_) (wo_at m c t k l))
    obtain ⟨w, hw, e⟩ := hy k
    exact e.trans (gate m c t p k r hr w hw)
  by_cases h0 : t.val % 64 = 0
  · rw [outsAt0_A m c t h0]
    dsimp only
    unfold out0_A_8 kernelRun0_A
    dsimp only
    refine (congrFun (View.read_writes_junk_eq_canon _ _) _).trans ?_
    refine (o_at (ms0_7 t) (hs0_7 t) (ms0_6 t) (hs0_6 t) scM0_1 (iblk m c 6 t) (iblk m c 7 t) _ p l).trans ?_
    refine fin _ fun k => ⟨_, ?_, yA c _ _ _ _ _ _ _ _ _ _ _ _ _ _ _ _ _ _ _ p k⟩
    intro g a s
    refine (w_at c _ _ _ g a s).trans ?_
    unfold wmask wm
    rw [ws_at]
  · rw [outsAt0_B m c t h0]
    dsimp only
    unfold out0_B_8 kernelRun0_B
    dsimp only
    refine (congrFun (View.read_writes_junk_eq_canon _ _) _).trans ?_
    refine (o_at (ms0_7 t) (hs0_7 t) (ms0_6 t) (hs0_6 t) scM0_1 (iblk m c 6 t) (iblk m c 7 t) _ p l).trans ?_
    exact fin _ fun k => ⟨_, fun g a s => held m c _ _ g a s, yB c _ _ _ _ _ _ _ _ _ _ _ _ _ _ _ _ _ _ p k⟩

/-- The result array after the run. -/
theorem final (c : Dev nD) : (dats m 0 c).arrAt 8 (cfgs 0).N = fun i : S32768x1024.Idx => ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 8 _ (by decide +kernel) fun t hf y => ?_
  blk_simp
  rw [after0_8]
  idx_vars y
  refine (point m c t y0 y1 _ ?_).trans (congrArg (ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) _) (Fin.ext ?_))
  all_goals (blk_simp [idx t] <;> try omega)

end Cert.BOutIdeal.Val
-- ==== Proof.BOutRef.lean ====
module

public import proofs.«01_k».proof.Proof.Gen.BOutRefIdeal.Read
public import proofs.«01_k».proof.Proof.BOutVal
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

/-! # The reference of the spatial gate and its output projection, row by row -/

namespace Cert.BOutRefIdeal.Val
open Cert.BOutRefIdeal Cert.BOutRefIdeal.Gen Cert.BOutRefIdeal.Read
open Cert.BOutIdeal.Val (ln mean wm gk ker proj)

variable (z : FVec Ideal S32768x6144 .bf16) (g b : FVec Ideal S3072 .f32) (w : FVec Ideal S8x128x128 .f32) (bs : FVec Ideal S8x128 .f32) (wo : FVec Ideal S3072x1024 .f32) (h : FVec Ideal S2x16384x1024 .f32)

theorem u_at (B : Fin 2) (q : Fin 16384) (k : Fin 3072) :
    val_main_v2 (F := Ideal) z (ix3 B q k) = z (ix2 ⟨B.val * 16384 + q.val, by omega⟩ ⟨k.val, by omega⟩) := by
  pointwise [val_main_v2, val_main_v1, val_main_v0]
  blk_ext

theorem v_at (B : Fin 2) (q : Fin 16384) (k : Fin 3072) :
    val_main_v3 (F := Ideal) z (ix3 B q k) = z (ix2 ⟨B.val * 16384 + q.val, by omega⟩ ⟨3072 + k.val, by omega⟩) := by
  pointwise [val_main_v3, val_main_v1, val_main_v0]
  blk_ext

theorem mean_at (B : Fin 2) (q : Fin 16384) :
    val_main_v7 (F := Ideal) z (ix3 B q 0) = mean fun k => z (ix2 ⟨B.val * 16384 + q.val, by omega⟩ ⟨3072 + k.val, by omega⟩) := by
  unfold mean
  simp only [← v_at]
  pointwise [val_main_v7, val_main_v6, val_main_cst_0, val_main_v5, val_main_v4, val_main_cst]

theorem cent_at (B : Fin 2) (q : Fin 16384) (k : Fin 3072) :
    val_main_v9 (F := Ideal) z (ix3 B q k) = z (ix2 ⟨B.val * 16384 + q.val, by omega⟩ ⟨3072 + k.val, by omega⟩) - mean fun k => z (ix2 ⟨B.val * 16384 + q.val, by omega⟩ ⟨3072 + k.val, by omega⟩) := by
  rw [← mean_at, ← v_at z B q k]
  pointwise [val_main_v9, val_main_v8]

theorem cent'_at (B : Fin 2) (q : Fin 16384) (k : Fin 3072) :
    val_main_v16 (F := Ideal) z (ix3 B q k) = z (ix2 ⟨B.val * 16384 + q.val, by omega⟩ ⟨3072 + k.val, by omega⟩) - mean fun k => z (ix2 ⟨B.val * 16384 + q.val, by omega⟩ ⟨3072 + k.val, by omega⟩) := by
  rw [← mean_at, ← v_at z B q k]
  pointwise [val_main_v16, val_main_v15]

theorem ln_at (B : Fin 2) (q : Fin 16384) (k : Fin 3072) :
    val_main_v27 (F := Ideal) z g b (ix3 B q k)
      = ln (fun k => z (ix2 ⟨B.val * 16384 + q.val, by omega⟩ ⟨3072 + k.val, by omega⟩)) (fun k => g (ix1 k)) (fun k => b (ix1 k)) k := by
  unfold ln
  simp only [← cent_at]
  rw [cent_at, ← cent'_at]
  unfold mean
  pointwise [val_main_v27, val_main_v26, val_main_v25, val_main_v24, val_main_v23, val_main_v22, val_main_v21, val_main_v20, val_main_v19, val_main_v18, val_main_v17, val_main_cst_3,
    val_main_v14, val_main_v13, val_main_cst_2, val_main_v12, val_main_v11, val_main_cst_1, val_main_v10]

theorem mask_at (gr : Fin 8) (t s : Fin 128) : val_main_v32 (F := Ideal) w (ix3 gr t s) = wm w gr t s := by
  unfold wm
  pointwise [val_main_v32, val_main_call1_v1, val_main_call1_v0, val_main_cst_4, val_main_v31, val_main_v30, val_main_call0_v5, val_main_call0_c_0, val_main_call0_v4, val_main_call0_v3,
    val_main_call0_v2, val_main_call0_v1, val_main_call0_c, val_main_call0_v0, val_main_v29, val_main_c]
  have ht := t.isLt
  have hs := s.isLt
  have e0 : IntOp.addi (BitVec.ofNat 32 t.val) 0#32 = BitVec.ofNat 32 t.val := BitVec.add_zero _
  rw [e0, WordCmp.cmpi_sge_ofNat (w := 32) (by omega) (by omega)]
  by_cases hst : s.val ≤ t.val
  · rw [decide_eq_true hst, if_pos hst]; rfl
  · rw [decide_eq_false hst, if_neg hst]; rfl

theorem gate_at (r : Fin 32768) (k : Fin 3072) :
    val_main_v40 (F := Ideal) z g b w bs (ix3 ⟨r.val / 16384, by omega⟩ ⟨r.val % 16384, by omega⟩ k) = gk z g b w bs r k := by
  unfold gk
  simp only [← mask_at]
  pointwise [val_main_v40, val_main_v39, val_main_v38, val_main_v37, val_main_v36, val_main_v35, val_main_v34, val_main_v33, val_main_v28]
  have hr := r.isLt
  have er : (⟨r.val % 16384 % 128, by omega⟩ : Fin 128) = ⟨r.val % 128, by omega⟩ := Fin.ext (by dsimp only; omega)
  rw [er, u_at]
  have e0 : (⟨r.val / 16384 * 16384 + r.val % 16384, by omega⟩ : Fin 32768) = r := Fin.ext (by dsimp only; omega)
  refine congr (congrArg _ (congrArg z (congrArg (fun q => ix2 q _) e0))) (congrArg (· + _) (Finset.sum_congr rfl fun s _ => ?_))
  rw [ln_at, mul_comm]
  have e1 : (⟨r.val / 16384 * 16384 + (r.val % 16384 / 128 * 128 + s.val), by omega⟩ : Fin 32768) = ⟨r.val / 128 * 128 + s.val, by omega⟩ := Fin.ext (by dsimp only; omega)
  rw [e1]

theorem result_at (r : Fin 32768) (l : Fin 1024) :
    val_main_v43 (F := Ideal) z g b w bs wo h (ix2 r l) = ker z g b w bs wo h r l := by
  unfold ker proj
  refine (val_main_v43_apply (F := Ideal) z g b w bs wo h _).trans ?_
  have e : idx_main_v43 (ix2 r l) = ix3 ⟨r.val / 16384, by omega⟩ ⟨r.val % 16384, by omega⟩ l := by
    refine funext fun a => ?_
    match a with
    | ⟨0, _⟩ => exact Fin.ext (by show (r.val * 1024 + l.val) / 16777216 = r.val / 16384; omega)
    | ⟨1, _⟩ => exact Fin.ext (by show (r.val * 1024 + l.val) / 1024 % 16384 = r.val % 16384; omega)
    | ⟨2, _⟩ => exact Fin.ext (by show (r.val * 1024 + l.val) % 1024 = l.val; omega)
  rw [e]
  simp only [← gate_at]
  pointwise [val_main_v42, val_main_v41]

end Cert.BOutRefIdeal.Val
-- ==== Proof.BOutClaims.lean ====
module

public import proofs.«01_k».proof.Defs
public import proofs.«01_k».proof.Proof.BOutVal
public import proofs.«01_k».proof.Proof.BOutRef
public import proofs.«01_k».proof.Proof.Gen.BOut.Frame
public import proofs.«01_k».proof.Proof.Gen.BOutIdeal.Frame
public import proofs.«01_k».proof.Proof.Gen.BOutRefIdeal.Run
public import Idealize.ShloMosaic.Lib.Claim

@[expose] public section

set_option maxRecDepth 16384

noncomputable section

open Idealize.ShloMosaic Idealize.ShloMosaic.TcCoe Idealize.SL.Sem

/-! # The claims about the call BOut -/

namespace Cert.BOutClaims

theorem frame_p : Cert.quiescent_BOut := fun m ρ _ => Cert.BOut.Gen.frame m ρ
theorem frame_pi : Cert.quiescent_BOutIdeal := fun m ρ _ => Cert.BOutIdeal.Gen.frame m ρ
theorem frame_ri : Cert.quiescent_BOutRefIdeal := fun m ρ _ =>
  (θ_run Cert.BOutRefIdeal.defs _ _).mono (fun r h => ⟨fun c => (h c).2, Idealize.ShloMosaic.sem_eq_zero_of_no_sems (by decide) r.2⟩)
    (Cert.BOutRefIdeal.Value.run (F := Ideal) m ρ)

theorem preserves : Cert.preserves_BOut_BOutIdeal := trivial

theorem algebraic : Cert.algebraic_BOutIdeal_BOutRefIdeal := by
  intro m g m' g' hpre hagree
  refine ⟨fun c => (Cert.BOutIdeal.Gen.dats m 0 c).arrAt 8 (Cert.BOutIdeal.cfgs 0).N, ?_, ?_⟩
  · exact Cert.BOutIdeal.Value.run_blocks m g
  · refine (θ_run Cert.BOutRefIdeal.defs _ _).mono (fun r h c => ⟨(h c).1.trans ?_, (h c).2⟩) (Cert.BOutRefIdeal.Value.run (F := Ideal) m' g')
    refine Eq.trans ?_ (Cert.BOutIdeal.Val.final m c).symm
    rw [Cert.BOutRefIdeal.Read.val_main_v43_eq, (hagree c).1, (hagree c).2.1, (hagree c).2.2.1, (hagree c).2.2.2.1, (hagree c).2.2.2.2.1, (hagree c).2.2.2.2.2.1, (hagree c).2.2.2.2.2.2]
    refine funext fun i => ?_
    obtain ⟨r, l, rfl⟩ : ∃ (r : Fin 32768) (l : Fin 1024), i = ix2 r l := ⟨i 0, i 1, eq_ix2 i⟩
    exact Cert.BOutRefIdeal.Val.result_at _ _ _ _ _ _ _ r l

end Cert.BOutClaims
-- ==== Proof.Merge.lean ====
module

public import proofs.«01_k».proof.Proof.Finite

@[expose] public section

noncomputable section

open Idealize.ShloMosaic

/-! # Three attention outputs weighted by their softmax denominators -/

namespace Cert.Merge

/-- The largest of three logarithms. -/
def top (a b c : EReal) : EReal := max (max a b) c

/-- The sum of the three exponentials, each taken from the largest logarithm. -/
def den (a b c : EReal) : EReal := Ideal.exp (a - top a b c) + Ideal.exp (b - top a b c) + Ideal.exp (c - top a b c)

/-- The weighted sum, divided at the end. -/
def after (a b c x y z : EReal) : EReal :=
  Ideal.div (Ideal.exp (a - top a b c) * x + Ideal.exp (b - top a b c) * y + Ideal.exp (c - top a b c) * z) (den a b c)

/-- The sum weighted by the normalised weights. -/
def before (a b c x y z : EReal) : EReal :=
  Ideal.div (Ideal.exp (a - top a b c)) (den a b c) * x + Ideal.div (Ideal.exp (b - top a b c)) (den a b c) * y
    + Ideal.div (Ideal.exp (c - top a b c)) (den a b c) * z

theorem top_real {a b c : EReal} (ha : Finite.Real a) (hb : Finite.Real b) (hc : Finite.Real c) : Finite.Real (top a b c) := by
  unfold top
  rcases max_choice a b with e | e <;> rw [e]
  · rcases max_choice a c with e | e <;> rw [e] <;> assumption
  · rcases max_choice b c with e | e <;> rw [e] <;> assumption

theorem exp_real {a t : EReal} (ha : Finite.Real a) (ht : Finite.Real t) : ∃ r : ℝ, 0 < r ∧ Ideal.exp (a - t) = (r : EReal) := by
  obtain ⟨x, rfl⟩ := ha
  obtain ⟨y, rfl⟩ := ht
  exact ⟨Real.exp (x - y), Real.exp_pos _, by rw [← EReal.coe_sub]; rfl⟩

/-- The two agree where the logarithms are real numbers. -/
theorem after_eq_before {a b c : EReal} (ha : Finite.Real a) (hb : Finite.Real b) (hc : Finite.Real c) (x y z : EReal) :
    after a b c x y z = before a b c x y z := by
  have ht := top_real ha hb hc
  obtain ⟨p, hp, ep⟩ := exp_real ha ht
  obtain ⟨q, hq, eq⟩ := exp_real hb ht
  obtain ⟨r, hr, er⟩ := exp_real hc ht
  have hd : den a b c = ((p + q + r : ℝ) : EReal) := by
    unfold den
    rw [ep, eq, er, EReal.coe_add, EReal.coe_add]
  have hpos : 0 < p + q + r := by linarith
  have hdiv : ∀ u : EReal, Ideal.div u (den a b c) = u * (((p + q + r)⁻¹ : ℝ) : EReal) := fun u => by
    unfold Ideal.div
    rw [if_neg (by rw [hd]; exact (EReal.coe_pos.2 hpos).ne'), hd, EReal.coe_inv]
  have h0 : (0 : EReal) ≤ (((p + q + r)⁻¹ : ℝ) : EReal) := EReal.coe_nonneg.2 (inv_nonneg.2 hpos.le)
  unfold after before
  rw [hdiv, hdiv, hdiv, hdiv, EReal.right_distrib_of_nonneg_of_ne_top h0 (EReal.coe_ne_top _),
    EReal.right_distrib_of_nonneg_of_ne_top h0 (EReal.coe_ne_top _)]
  ac_rfl

end Cert.Merge
-- ==== Proof.DMergeVal.lean ====
module

public import proofs.«01_k».proof.Proof.Gen.DMergeIdeal.Value
public import proofs.«01_k».proof.Proof.Merge
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The merge of the three dilated groups: what the kernel computes -/

namespace Cert.DMergeIdeal.Val
open Cert.DMergeIdeal Cert.DMergeIdeal.Gen

/-- One lane of the merged rows times the weight matrix, added to the residual. -/
def mix (o : Fin 3 → Fin 512 → EReal) (s : Fin 3 → Fin 512 → EReal) (w : Fin 512 → Fin 1024 → EReal) (h : Fin 1024 → EReal) (l : Fin 1024) : EReal :=
  h l + ∑ k : Fin 512, Merge.after (s 0 k) (s 1 k) (s 2 k) (o 0 k) (o 1 k) (o 2 k) * w k l

/-- One of three. -/
def pick {α : Type} (a b c : α) : Fin 3 → α := ![a, b, c]

theorem out_at (x0 x1 x2 x3 x4 x5 : Vec Ideal S512x512 .f32) (x6 : Vec Ideal S512x1024 .bf16) (x7 : Vec Ideal S512x1024 .f32) (p : Fin 512) (l : Fin 1024) :
    out0_8 (F := Ideal) x0 x1 x2 x3 x4 x5 x6 x7 (ix2 p l)
      = mix (pick (fun k => x0 (ix2 p k)) (fun k => x1 (ix2 p k)) (fun k => x2 (ix2 p k))) (pick (fun k => x3 (ix2 p k)) (fun k => x4 (ix2 p k)) (fun k => x5 (ix2 p k)))
          (fun k l => x6 (ix2 k l)) (fun l => x7 (ix2 p l)) l := by
  unfold out0_8 mix
  canon_tiles y h
  idx_vars y
  obtain rfl : p = y0 := Fin.ext h0
  obtain rfl : l = y1 := Fin.ext h1
  pointwise [k0_pay1]
  refine congrArg _ (Finset.sum_congr rfl fun k _ => ?_)
  rfl

/-! ## The whole result -/

variable (m : (ℓ : Loc nD τ sig) → Buf (Elt Ideal) ℓ)

/-- Row `r`, lane `l` of the result. -/
def ker (o0 o1 o2 : FVec Ideal S32768x512 .f32) (s0 s1 s2 : FVec Ideal S32768x8 .f32) (w : FVec Ideal S512x1024 .f32) (h : FVec Ideal S2x16384x1024 .f32) (r : Fin 32768) (l : Fin 1024) : EReal :=
  mix (pick (fun k => o0 (ix2 r k)) (fun k => o1 (ix2 r k)) (fun k => o2 (ix2 r k)))
    (pick (fun k => s0 (ix2 r ⟨k.val / 64, by omega⟩)) (fun k => s1 (ix2 r ⟨k.val / 64, by omega⟩)) (fun k => s2 (ix2 r ⟨k.val / 64, by omega⟩)))
    (fun k l => w (ix2 k l)) (fun l => h (ix3 ⟨r.val / 16384, by omega⟩ ⟨r.val % 16384, by omega⟩ l)) l

theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0]
      ∧ win0_6.index t = ![0, 0] ∧ win0_7.index t = ![t.val, 0] ∧ win0_8.index t = ![t.val, 0] ∧ t.val < 64 :=
  (by decide +kernel : ∀ t : Fin grid0.N, _)

/-- The operands as the host prepares them. -/
def rows (x : FVec Ideal S2x16384x1024 .f32) : FVec Ideal S32768x1024 .f32 := shapeCast S32768x1024 x shapeCasts_S2x16384x1024_S32768x1024
def nw (w : FVec Ideal S512x1024 .f32) : FVec Ideal S512x1024 .bf16 := truncf .bf16 w bitsLt_bf16_f32
def lanes (x : FVec Ideal S32768x8 .f32) : FVec Ideal S32768x512 .f32 :=
  shapeCast S32768x512 (broadcastInDim S32768x8x64 ![0, 1, 2] bcast_S32768x8x1_S32768x8x64_0_1_2 (broadcastInDim S32768x8x1 ![0, 1] bcast_S32768x8_S32768x8x1_0_1 x)) shapeCasts_S32768x8x64_S32768x512

theorem V_o0 (c : Dev nD) : V m c main_arg0 = m ((c : Thread nD τ).loc main_arg0) := by
  entry_read
  rfl
theorem V_s0 (c : Dev nD) : V m c main_v2 = lanes (m ((c : Thread nD τ).loc main_arg3)) := by
  entry_read
  rfl
theorem V_o1 (c : Dev nD) : V m c main_arg1 = m ((c : Thread nD τ).loc main_arg1) := by
  entry_read
  rfl
theorem V_s1 (c : Dev nD) : V m c main_v5 = lanes (m ((c : Thread nD τ).loc main_arg4)) := by
  entry_read
  rfl
theorem V_o2 (c : Dev nD) : V m c main_arg2 = m ((c : Thread nD τ).loc main_arg2) := by
  entry_read
  rfl
theorem V_s2 (c : Dev nD) : V m c main_v8 = lanes (m ((c : Thread nD τ).loc main_arg5)) := by
  entry_read
  rfl
theorem V_w (c : Dev nD) : V m c main_v9 = nw (m ((c : Thread nD τ).loc main_arg6)) := by
  entry_read
  rfl
theorem V_h (c : Dev nD) : V m c main_v10 = rows (m ((c : Thread nD τ).loc main_arg7)) := by
  entry_read
  rfl

theorem o0_at (c : Dev nD) (t : Fin cfg0.N) (p : Fin 512) (k : Fin 512) (r : Fin 32768) (hr : r.val = t.val * 512 + p.val) :
    (iblk m c 0 t : Vec Ideal S512x512 .f32) (ix2 p k) = m ((c : Thread nD τ).loc main_arg0) (ix2 r k) := by
  blk_simp [iblk, idx t]
  rw [V_o0]
  blk_ext [idx t]
theorem s0_at (c : Dev nD) (t : Fin cfg0.N) (p : Fin 512) (k : Fin 512) (r : Fin 32768) (hr : r.val = t.val * 512 + p.val) :
    (iblk m c 3 t : Vec Ideal S512x512 .f32) (ix2 p k) = m ((c : Thread nD τ).loc main_arg3) (ix2 r ⟨k.val / 64, by omega⟩) := by
  blk_simp [iblk, idx t]
  rw [V_s0]
  pointwise [lanes]
  blk_ext [idx t]
theorem o1_at (c : Dev nD) (t : Fin cfg0.N) (p : Fin 512) (k : Fin 512) (r : Fin 32768) (hr : r.val = t.val * 512 + p.val) :
    (iblk m c 1 t : Vec Ideal S512x512 .f32) (ix2 p k) = m ((c : Thread nD τ).loc main_arg1) (ix2 r k) := by
  blk_simp [iblk, idx t]
  rw [V_o1]
  blk_ext [idx t]
theorem s1_at (c : Dev nD) (t : Fin cfg0.N) (p : Fin 512) (k : Fin 512) (r : Fin 32768) (hr : r.val = t.val * 512 + p.val) :
    (iblk m c 4 t : Vec Ideal S512x512 .f32) (ix2 p k) = m ((c : Thread nD τ).loc main_arg4) (ix2 r ⟨k.val / 64, by omega⟩) := by
  blk_simp [iblk, idx t]
  rw [V_s1]
  pointwise [lanes]
  blk_ext [idx t]
theorem o2_at (c : Dev nD) (t : Fin cfg0.N) (p : Fin 512) (k : Fin 512) (r : Fin 32768) (hr : r.val = t.val * 512 + p.val) :
    (iblk m c 2 t : Vec Ideal S512x512 .f32) (ix2 p k) = m ((c : Thread nD τ).loc main_arg2) (ix2 r k) := by
  blk_simp [iblk, idx t]
  rw [V_o2]
  blk_ext [idx t]
theorem s2_at (c : Dev nD) (t : Fin cfg0.N) (p : Fin 512) (k : Fin 512) (r : Fin 32768) (hr : r.val = t.val * 512 + p.val) :
    (iblk m c 5 t : Vec Ideal S512x512 .f32) (ix2 p k) = m ((c : Thread nD τ).loc main_arg5) (ix2 r ⟨k.val / 64, by omega⟩) := by
  blk_simp [iblk, idx t]
  rw [V_s2]
  pointwise [lanes]
  blk_ext [idx t]
theorem w_at (c : Dev nD) (t : Fin cfg0.N) (k : Fin 512) (l : Fin 1024) :
    (iblk m c 6 t : Vec Ideal S512x1024 .bf16) (ix2 k l) = m ((c : Thread nD τ).loc main_arg6) (ix2 k l) := by
  blk_simp [iblk, idx t]
  rw [V_w]
  pointwise [nw]
  blk_ext [idx t]
theorem h_at (c : Dev nD) (t : Fin cfg0.N) (p : Fin 512) (l : Fin 1024) (r : Fin 32768) (hr : r.val = t.val * 512 + p.val) :
    (iblk m c 7 t : Vec Ideal S512x1024 .f32) (ix2 p l) = m ((c : Thread nD τ).loc main_arg7) (ix3 ⟨r.val / 16384, by omega⟩ ⟨r.val % 16384, by omega⟩ l) := by
  blk_simp [iblk, idx t]
  rw [V_h]
  pointwise [rows]
  blk_ext [idx t]

theorem point (c : Dev nD) (t : Fin cfg0.N) (p : Fin 512) (l : Fin 1024) (r : Fin 32768) (hr : r.val = t.val * 512 + p.val) :
    out0_8 (F := Ideal) (iblk m c 0 t) (iblk m c 1 t) (iblk m c 2 t) (iblk m c 3 t) (iblk m c 4 t) (iblk m c 5 t) (iblk m c 6 t) (iblk m c 7 t) (ix2 p l)
      = ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r l := by
  refine (out_at _ _ _ _ _ _ _ _ p l).trans ?_
  unfold ker
  congr 1
  · congr 1
    · exact funext fun k => o0_at m c t p k r hr
    · exact funext fun k => o1_at m c t p k r hr
    · exact funext fun k => o2_at m c t p k r hr
  · congr 1
    · exact funext fun k => s0_at m c t p k r hr
    · exact funext fun k => s1_at m c t p k r hr
    · exact funext fun k => s2_at m c t p k r hr
  · exact funext fun k => funext fun l => w_at m c t k l
  · exact funext fun l => h_at m c t p l r hr

/-- The result array after the run. -/
theorem final (c : Dev nD) : (dats m 0 c).arrAt 8 (cfgs 0).N = fun i : S32768x1024.Idx => ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) := by
  refine (dats m 0 c).arrAt_eq_of_covers 8 _ (by decide +kernel) fun t hf y => ?_
  blk_simp
  rw [after0_8]
  idx_vars y
  refine (point m c t y0 y1 _ ?_).trans (congrArg (ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _) (Fin.ext ?_))
  all_goals (blk_simp [idx t] <;> try omega)

end Cert.DMergeIdeal.Val
-- ==== Proof.DMergeRef.lean ====
module

public import proofs.«01_k».proof.Proof.Gen.DMergeRefIdeal.Read
public import proofs.«01_k».proof.Proof.DMergeVal
public import Idealize.ShloMosaic.Lib.Pipeline.ValueKit
public import Idealize.ShloMosaic.Lib.IdealHost
public import proofs.«01_k».proof.Pre_finite_lse
public import proofs.«01_k».proof.Proof.Gen.Pre_finite_lse

@[expose] public section

set_option maxRecDepth 16384

noncomputable section

open Idealize.ShloMosaic Idealize.ShloMosaic.TcCoe Idealize.SL.Sem

/-! # The reference of the merge of the three dilated groups, row by row -/

namespace Cert.DMergeRefIdeal.Val
open Cert.DMergeRefIdeal Cert.DMergeRefIdeal.Gen Cert.DMergeRefIdeal.Read

variable (o0 o1 o2 : FVec Ideal S32768x512 .f32) (s0 s1 s2 : FVec Ideal S32768x8 .f32) (w : FVec Ideal S512x1024 .f32) (h : FVec Ideal S2x16384x1024 .f32)

/-- The token of a batch and a position. -/
def tok (b : Fin 2) (t : Fin 16384) : Fin 32768 := ⟨b.val * 16384 + t.val, by omega⟩

/-- The logarithms of one token and one head. -/
def lg (b : Fin 2) (t : Fin 16384) (e : Fin 8) (j : Fin 3) : EReal := val_main_v9 (F := Ideal) s0 s1 s2 (ix4 j b t e)

theorem lg0 (b : Fin 2) (t : Fin 16384) (e : Fin 8) : lg s0 s1 s2 b t e 0 = s0 (ix2 (tok b t) e) := by
  unfold lg
  pointwise [val_main_v9, val_main_v6, val_main_v3]
  blk_ext [tok]
theorem lg1 (b : Fin 2) (t : Fin 16384) (e : Fin 8) : lg s0 s1 s2 b t e 1 = s1 (ix2 (tok b t) e) := by
  unfold lg
  pointwise [val_main_v9, val_main_v7, val_main_v4]
  blk_ext [tok]
theorem lg2 (b : Fin 2) (t : Fin 16384) (e : Fin 8) : lg s0 s1 s2 b t e 2 = s2 (ix2 (tok b t) e) := by
  unfold lg
  pointwise [val_main_v9, val_main_v8, val_main_v5]
  blk_ext [tok]

/-- The largest of the three. -/
def hi (b : Fin 2) (t : Fin 16384) (e : Fin 8) : EReal := Merge.top (s0 (ix2 (tok b t) e)) (s1 (ix2 (tok b t) e)) (s2 (ix2 (tok b t) e))

theorem neg_inf : Ideal.ofBits FTy.f32 0xFF800000#32 = ⊥ := by
  simp [Ideal.ofBits, Ideal.ieee]

theorem fold3 (f : Fin 3 → EReal) : Finset.fold max ⊥ f Finset.univ = max (max (f 0) (f 1)) (f 2) := by
  have e : (Finset.univ : Finset (Fin 3)) = insert 0 (insert 1 {2}) := by decide
  rw [e, Finset.fold_insert (by decide), Finset.fold_insert (by decide), Finset.fold_singleton, max_bot_right, max_assoc]

theorem top_at (b : Fin 2) (t : Fin 16384) (e : Fin 8) : val_main_v10 (F := Ideal) s0 s1 s2 (ix3 b t e) = hi s0 s1 s2 b t e := by
  have q : val_main_v10 (F := Ideal) s0 s1 s2 (ix3 b t e) = Finset.fold max ⊥ (lg s0 s1 s2 b t e) Finset.univ := by
    unfold val_main_v10
    rw [Host.reduce_eq_fold_single FloatOps.maximumf _ _ reducesTo_S3x2x16384x8_S2x16384x8_d0 (by decide) h_S_]
    have hz : val_main_cst (F := Ideal) (Shape.Idx.first h_S_) = ⊥ := neg_inf
    rw [hz]
    unfold lg
    generalize val_main_v9 (F := Ideal) s0 s1 s2 = y
    refine congrArg (fun f => Finset.fold max ⊥ f Finset.univ) (funext fun k => ?_)
    exact congrArg y (funext fun a => Fin.ext (by match a with | ⟨0, _⟩ => rfl | ⟨1, _⟩ => rfl | ⟨2, _⟩ => rfl | ⟨3, _⟩ => rfl))
  rw [q, fold3, lg0, lg1, lg2]
  rfl

theorem exp_at (j : Fin 3) (b : Fin 2) (t : Fin 16384) (e : Fin 8) :
    val_main_v16 (F := Ideal) s0 s1 s2 (ix4 j b t e) = Ideal.exp (lg s0 s1 s2 b t e j - hi s0 s1 s2 b t e) := by
  unfold lg
  pointwise [val_main_v16, val_main_v15, val_main_v14, val_main_v13, val_main_v12, val_main_v11, val_main_cst_0]
  rw [top_at, neg_inf, max_bot_left]

theorem den_at (b : Fin 2) (t : Fin 16384) (e : Fin 8) :
    val_main_v17 (F := Ideal) s0 s1 s2 (ix3 b t e) = Merge.den (s0 (ix2 (tok b t) e)) (s1 (ix2 (tok b t) e)) (s2 (ix2 (tok b t) e)) := by
  rw [val_main_v17_apply]
  have hz : val_main_cst_1 (F := Ideal) (Shape.Idx.first h_S_) = 0 := by
    pointwise [val_main_cst_1]
  have hk : ∀ k : Fin 3, idx_main_v17 (ix3 b t e) k = ix4 k b t e := fun k =>
    funext fun a => Fin.ext (by match a with | ⟨0, _⟩ => rfl | ⟨1, _⟩ => rfl | ⟨2, _⟩ => rfl | ⟨3, _⟩ => rfl)
  rw [hz, zero_add, Fin.sum_univ_three, hk, hk, hk, exp_at, exp_at, exp_at, lg0, lg1, lg2]
  rfl

/-- The outputs of one token, one head and one lane. -/
def ov (b : Fin 2) (t : Fin 16384) (e : Fin 8) (d : Fin 64) (j : Fin 3) : EReal := val_main_v25 (F := Ideal) o0 o1 o2 (ix5 j b t e d)

theorem ov0 (b : Fin 2) (t : Fin 16384) (e : Fin 8) (d : Fin 64) : ov o0 o1 o2 b t e d 0 = o0 (ix2 (tok b t) ⟨e.val * 64 + d.val, by omega⟩) := by
  unfold ov
  pointwise [val_main_v25, val_main_v22, val_main_v0]
  blk_ext [tok]
theorem ov1 (b : Fin 2) (t : Fin 16384) (e : Fin 8) (d : Fin 64) : ov o0 o1 o2 b t e d 1 = o1 (ix2 (tok b t) ⟨e.val * 64 + d.val, by omega⟩) := by
  unfold ov
  pointwise [val_main_v25, val_main_v23, val_main_v1]
  blk_ext [tok]
theorem ov2 (b : Fin 2) (t : Fin 16384) (e : Fin 8) (d : Fin 64) : ov o0 o1 o2 b t e d 2 = o2 (ix2 (tok b t) ⟨e.val * 64 + d.val, by omega⟩) := by
  unfold ov
  pointwise [val_main_v25, val_main_v24, val_main_v2]
  blk_ext [tok]

theorem term_at (j : Fin 3) (b : Fin 2) (t : Fin 16384) (e : Fin 8) (d : Fin 64) :
    val_main_v27 (F := Ideal) o0 o1 o2 s0 s1 s2 (ix5 j b t e d)
      = Ideal.div (Ideal.exp (lg s0 s1 s2 b t e j - hi s0 s1 s2 b t e)) (Merge.den (s0 (ix2 (tok b t) e)) (s1 (ix2 (tok b t) e)) (s2 (ix2 (tok b t) e))) * ov o0 o1 o2 b t e d j := by
  unfold ov
  pointwise [val_main_v27, val_main_v26, val_main_v21, val_main_v20, val_main_v19, val_main_v18]
  rw [exp_at, den_at]

theorem sum_at (b : Fin 2) (t : Fin 16384) (e : Fin 8) (d : Fin 64) :
    val_main_v28 (F := Ideal) o0 o1 o2 s0 s1 s2 (ix4 b t e d)
      = Merge.before (s0 (ix2 (tok b t) e)) (s1 (ix2 (tok b t) e)) (s2 (ix2 (tok b t) e))
          (o0 (ix2 (tok b t) ⟨e.val * 64 + d.val, by omega⟩)) (o1 (ix2 (tok b t) ⟨e.val * 64 + d.val, by omega⟩)) (o2 (ix2 (tok b t) ⟨e.val * 64 + d.val, by omega⟩)) := by
  rw [val_main_v28_apply]
  have hz : val_main_cst_2 (F := Ideal) (Shape.Idx.first h_S_) = 0 := by
    pointwise [val_main_cst_2]
  have hk : ∀ k : Fin 3, idx_main_v28 (ix4 b t e d) k = ix5 k b t e d := fun k =>
    funext fun a => Fin.ext (by match a with | ⟨0, _⟩ => rfl | ⟨1, _⟩ => rfl | ⟨2, _⟩ => rfl | ⟨3, _⟩ => rfl | ⟨4, _⟩ => rfl)
  rw [hz, zero_add, Fin.sum_univ_three, hk, hk, hk, term_at, term_at, term_at, lg0, lg1, lg2, ov0, ov1, ov2]
  rfl

/-- What the precondition says of the logarithms. -/
theorem pre_at (hpre : Cert.Pre_finite_lse.fn (F := Ideal) o0 o1 o2 s0 s1 s2 w h = fun _ => 1#1) (r : Fin 32768) (e : Fin 8) :
    Finite.Real (s0 (ix2 r e)) ∧ Finite.Real (s1 (ix2 r e)) ∧ Finite.Real (s2 (ix2 r e)) := by
  have q := congrFun hpre (ix2 r e)
  unfold Cert.Pre_finite_lse.fn at q
  obtain ⟨q1, q2⟩ := IntOp.andi_eq_one.1 q
  obtain ⟨q0, q1⟩ := IntOp.andi_eq_one.1 q1
  exact ⟨Finite.of_word _ q0, Finite.of_word _ q1, Finite.of_word _ q2⟩

theorem row_at (hpre : Cert.Pre_finite_lse.fn (F := Ideal) o0 o1 o2 s0 s1 s2 w h = fun _ => 1#1) (r : Fin 32768) (k : Fin 512) :
    val_main_v29 (F := Ideal) o0 o1 o2 s0 s1 s2 (ix3 ⟨r.val / 16384, by omega⟩ ⟨r.val % 16384, by omega⟩ k)
      = Merge.after (s0 (ix2 r ⟨k.val / 64, by omega⟩)) (s1 (ix2 r ⟨k.val / 64, by omega⟩)) (s2 (ix2 r ⟨k.val / 64, by omega⟩)) (o0 (ix2 r k)) (o1 (ix2 r k)) (o2 (ix2 r k)) := by
  have q : val_main_v29 (F := Ideal) o0 o1 o2 s0 s1 s2 (ix3 ⟨r.val / 16384, by omega⟩ ⟨r.val % 16384, by omega⟩ k)
      = val_main_v28 (F := Ideal) o0 o1 o2 s0 s1 s2 (ix4 ⟨r.val / 16384, by omega⟩ ⟨r.val % 16384, by omega⟩ ⟨k.val / 64, by omega⟩ ⟨k.val % 64, by omega⟩) := by
    pointwise [val_main_v29]
    try blk_ext
  have ht : tok ⟨r.val / 16384, by omega⟩ ⟨r.val % 16384, by omega⟩ = r := Fin.ext (by show r.val / 16384 * 16384 + r.val % 16384 = r.val; omega)
  have hc : (⟨(⟨k.val / 64, by omega⟩ : Fin 8).val * 64 + (⟨k.val % 64, by omega⟩ : Fin 64).val, by dsimp only; omega⟩ : Fin 512) = k := Fin.ext (by dsimp only; omega)
  obtain ⟨a0, a1, a2⟩ := pre_at o0 o1 o2 s0 s1 s2 w h hpre r ⟨k.val / 64, by omega⟩
  rw [q, sum_at, ht, hc, Merge.after_eq_before a0 a1 a2]

theorem result_at (hpre : Cert.Pre_finite_lse.fn (F := Ideal) o0 o1 o2 s0 s1 s2 w h = fun _ => 1#1) (r : Fin 32768) (l : Fin 1024) :
    val_main_v32 (F := Ideal) o0 o1 o2 s0 s1 s2 w h (ix2 r l) = Cert.DMergeIdeal.Val.ker o0 o1 o2 s0 s1 s2 w h r l := by
  refine (val_main_v32_apply (F := Ideal) o0 o1 o2 s0 s1 s2 w h _).trans ?_
  have e : idx_main_v32 (ix2 r l) = ix3 ⟨r.val / 16384, by omega⟩ ⟨r.val % 16384, by omega⟩ l := by
    refine funext fun a => ?_
    match a with
    | ⟨0, _⟩ => exact Fin.ext (by show (r.val * 1024 + l.val) / 16777216 = r.val / 16384; omega)
    | ⟨1, _⟩ => exact Fin.ext (by show (r.val * 1024 + l.val) / 1024 % 16384 = r.val % 16384; omega)
    | ⟨2, _⟩ => exact Fin.ext (by show (r.val * 1024 + l.val) % 1024 = l.val; omega)
  rw [e]
  pointwise [val_main_v31, val_main_v30]
  refine congrArg _ (Finset.sum_congr rfl fun k _ => ?_)
  rw [row_at o0 o1 o2 s0 s1 s2 w h hpre]
  rfl

end Cert.DMergeRefIdeal.Val
-- ==== Proof.DMergeClaims.lean ====
module

public import proofs.«01_k».proof.Defs
public import proofs.«01_k».proof.Proof.DMergeVal
public import proofs.«01_k».proof.Proof.DMergeRef
public import proofs.«01_k».proof.Proof.Gen.DMerge.Frame
public import proofs.«01_k».proof.Proof.Gen.DMergeIdeal.Frame
public import proofs.«01_k».proof.Proof.Gen.DMergeRefIdeal.Run
public import Idealize.ShloMosaic.Lib.Claim

@[expose] public section

set_option maxRecDepth 16384

noncomputable section

open Idealize.ShloMosaic Idealize.ShloMosaic.TcCoe Idealize.SL.Sem

/-! # The claims about the call DMerge -/

namespace Cert.DMergeClaims

theorem frame_p : Cert.quiescent_DMerge := fun m ρ _ => Cert.DMerge.Gen.frame m ρ
theorem frame_pi : Cert.quiescent_DMergeIdeal := fun m ρ _ => Cert.DMergeIdeal.Gen.frame m ρ
theorem frame_ri : Cert.quiescent_DMergeRefIdeal := fun m ρ _ =>
  (θ_run Cert.DMergeRefIdeal.defs _ _).mono (fun r h => ⟨fun c => (h c).2, Idealize.ShloMosaic.sem_eq_zero_of_no_sems (by decide) r.2⟩)
    (Cert.DMergeRefIdeal.Value.run (F := Ideal) m ρ)
theorem frame_pi_pre : Cert.quiescent_DMergeIdeal_pre_finite_lse := fun m ρ _ => Cert.DMergeIdeal.Gen.frame m ρ
theorem frame_ri_pre : Cert.quiescent_DMergeRefIdeal_pre_finite_lse := fun m ρ _ => frame_ri m ρ trivial

theorem preserves : Cert.preserves_DMerge_DMergeIdeal := trivial

theorem algebraic : Cert.algebraic_DMergeIdeal_DMergeRefIdeal_pre_finite_lse := by
  intro m g m' g' hpre hagree
  refine ⟨fun c => (Cert.DMergeIdeal.Gen.dats m 0 c).arrAt 8 (Cert.DMergeIdeal.cfgs 0).N, ?_, ?_⟩
  · exact Cert.DMergeIdeal.Value.run_blocks m g
  · refine (θ_run Cert.DMergeRefIdeal.defs _ _).mono (fun r h c => ⟨(h c).1.trans ?_, (h c).2⟩) (Cert.DMergeRefIdeal.Value.run (F := Ideal) m' g')
    refine Eq.trans ?_ (Cert.DMergeIdeal.Val.final m c).symm
    rw [Cert.DMergeRefIdeal.Read.val_main_v32_eq, (hagree c).1, (hagree c).2.1, (hagree c).2.2.1, (hagree c).2.2.2.1, (hagree c).2.2.2.2.1, (hagree c).2.2.2.2.2.1, (hagree c).2.2.2.2.2.2.1, (hagree c).2.2.2.2.2.2.2]
    refine funext fun i => ?_
    obtain ⟨r, l, rfl⟩ : ∃ (r : Fin 32768) (l : Fin 1024), i = ix2 r l := ⟨i 0, i 1, eq_ix2 i⟩
    exact Cert.DMergeRefIdeal.Val.result_at _ _ _ _ _ _ _ _ (hpre c) r l

end Cert.DMergeClaims
-- ==== Proof.CConvBody.lean ====
module

public import proofs.«01_k».proof.Proof.Gen.CConvIdeal.Skeleton
public import proofs.«01_k».proof.Proof.Gen.CConvIdeal.Frame
public import Idealize.ShloMosaic.Lib.Claim
public import Idealize.ShloMosaic.Lib.VecWindow
public import Idealize.ShloMosaic.Lib.WritesUnit
public import Idealize.ShloMosaic.Lib.Pipeline.ValueKit

@[expose] public section

set_option maxRecDepth 16384

noncomputable section

namespace Cert.CConvBody

open Cert.CConvIdeal Cert.CConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The rectangles of whole blocks. -/
abbrev rx : Rect S1x512x1024 := Rect.unit (s := S1x512x1024) ![0, 0, 0] S1x512x1024.size inb_S1x512x1024_S1x512x1024_0_0_0
abbrev rh : Rect S1x32x1024 := Rect.unit (s := S1x32x1024) ![0, 0, 0] S1x32x1024.size inb_S1x32x1024_S1x32x1024_0_0_0
abbrev rg : Rect S1x1024 := Rect.unit (s := S1x1024) ![0, 0] S1x1024.size inb_S1x1024_S1x1024_0_0
abbrev rm : Rect S1024x1024 := Rect.unit (s := S1024x1024) ![0, 0] S1024x1024.size inb_S1024x1024_S1024x1024_0_0
abbrev ry : Rect S512x1024 := Rect.unit (s := S512x1024) ![0, 0] S512x1024.size inb_S512x1024_S512x1024_0_0
/-- The rows of the first scratch that hold the rows before the block, and those that hold the block. -/
abbrev rlo : Rect S544x1024 := Rect.unit (s := S544x1024) ![0, 0] S32x1024.size inb_S544x1024_S32x1024_0_0
abbrev rhi : Rect S544x1024 := Rect.unit (s := S544x1024) ![32, 0] S512x1024.size inb_S544x1024_S512x1024_32_0
/-- The tile a trip fills. -/
abbrev rt (k : Fin k0_t1_loop.trips) : Rect S512x1024 := Rect.unit (s := S512x1024) (k0_off34 k) S128x128.size (k0_off34_inb k)
/-- The rows and columns a trip reads, and its columns of the bias. -/
abbrev rwin (k : Fin k0_t1_loop.trips) : Rect S544x1024 := Rect.unit (s := S544x1024) (k0_off1 k) S160x128.size (k0_off1_inb k)
abbrev rbias (k : Fin k0_t1_loop.trips) : Rect S1x1024 := Rect.unit (s := S1x1024) (k0_off2 k) S1x128.size (k0_off2_inb k)

/-- One weight's columns, at the offset `o`. -/
abbrev rw {o : Fin 2 → ℕ} (h : ∀ i, o i + S1x128.size i ≤ S31x1024.size i) : Rect S31x1024 := Rect.unit (s := S31x1024) o S1x128.size h

/-- The first 9 terms of a tile, from the rows `E`, the weights `w` and the bias `b`; then 8 more, 8 more, and the rest. -/
def acc1 (k : Fin k0_t1_loop.trips) (E : Vec F S544x1024 .f32) (w : Vec F S31x1024 .f32) (b : Vec F S1x1024 .f32) : FVec F S128x128 .f32 :=
  k0_pay4 (View.ld E (rwin k)) (k0_pay2 (View.ld b (rbias k))) (k0_pay3 (View.ld E (rwin k))) (View.ld w (rw (k0_off3_inb k))) (View.ld w (rw (k0_off4_inb k))) (View.ld w (rw (k0_off5_inb k))) (View.ld w (rw (k0_off6_inb k))) (View.ld w (rw (k0_off7_inb k))) (View.ld w (rw (k0_off8_inb k))) (View.ld w (rw (k0_off9_inb k))) (View.ld w (rw (k0_off10_inb k)))
def acc2 (k : Fin k0_t1_loop.trips) (E : Vec F S544x1024 .f32) (w : Vec F S31x1024 .f32) (b : Vec F S1x1024 .f32) : FVec F S128x128 .f32 :=
  k0_pay6 (View.ld E (rwin k)) (acc1 k E w b) (k0_pay5 (View.ld E (rwin k))) (View.ld w (rw (k0_off11_inb k))) (View.ld w (rw (k0_off12_inb k))) (View.ld w (rw (k0_off13_inb k))) (View.ld w (rw (k0_off14_inb k))) (View.ld w (rw (k0_off15_inb k))) (View.ld w (rw (k0_off16_inb k))) (View.ld w (rw (k0_off17_inb k))) (View.ld w (rw (k0_off18_inb k)))
def acc3 (k : Fin k0_t1_loop.trips) (E : Vec F S544x1024 .f32) (w : Vec F S31x1024 .f32) (b : Vec F S1x1024 .f32) : FVec F S128x128 .f32 :=
  k0_pay8 (View.ld E (rwin k)) (acc2 k E w b) (k0_pay7 (View.ld E (rwin k))) (View.ld w (rw (k0_off19_inb k))) (View.ld w (rw (k0_off20_inb k))) (View.ld w (rw (k0_off21_inb k))) (View.ld w (rw (k0_off22_inb k))) (View.ld w (rw (k0_off23_inb k))) (View.ld w (rw (k0_off24_inb k))) (View.ld w (rw (k0_off25_inb k))) (View.ld w (rw (k0_off26_inb k)))
def tile (k : Fin k0_t1_loop.trips) (E : Vec F S544x1024 .f32) (w : Vec F S31x1024 .f32) (b : Vec F S1x1024 .f32) : FVec F S128x128 .f32 :=
  k0_pay10 (View.ld E (rwin k)) (acc3 k E w b) (k0_pay9 (View.ld E (rwin k))) (View.ld w (rw (k0_off27_inb k))) (View.ld w (rw (k0_off28_inb k))) (View.ld w (rw (k0_off29_inb k))) (View.ld w (rw (k0_off30_inb k))) (View.ld w (rw (k0_off31_inb k))) (View.ld w (rw (k0_off32_inb k))) (View.ld w (rw (k0_off33_inb k)))

theorem trips_eq : k0_t1_loop.trips = 32 := by decide +kernel

/-- The trip that fills a row and column, and the place in its tile. -/
def kof (z : S512x1024.Idx) : Fin k0_t1_loop.trips :=
  ⟨(z 0).val / 128 * 8 + (z 1).val / 128, by
    have h0 : (z 0).val < 512 := (z 0).isLt
    have h1 : (z 1).val < 1024 := (z 1).isLt
    rw [trips_eq]; omega⟩
def lof (z : S512x1024.Idx) : S128x128.Idx :=
  ix2 ⟨(z 0).val % 128, Nat.mod_lt _ (by decide)⟩ ⟨(z 1).val % 128, Nat.mod_lt _ (by decide)⟩

/-- The second scratch after the loop: its tiles together. -/
def yc (E : Vec F S544x1024 .f32) (w : Vec F S31x1024 .f32) (b : Vec F S1x1024 .f32) : Vec F S512x1024 .f32 :=
  fun z => tile (kof z) E w b (lof z)

/-- The first scratch at a row's first block, and at a later one. -/
def ext0 (x : Vec F S1x512x1024 .f32) : Vec F S544x1024 .f32 :=
  View.canon (Val := Elt F) (s := S544x1024) (e := .f32) [⟨rlo, k0_pay12⟩, ⟨rhi, k0_pay11 (View.ld x rx)⟩]
def ext1 (x : Vec F S1x512x1024 .f32) (p : Vec F S1x32x1024 .f32) : Vec F S544x1024 .f32 :=
  View.canon (Val := Elt F) (s := S544x1024) (e := .f32) [⟨rlo, k0_pay13 (View.ld p rh)⟩, ⟨rhi, k0_pay11 (View.ld x rx)⟩]

/-- The block of results from the convolution's rows `Y`. -/
def outp (Y : Vec F S512x1024 .f32) (g b : Vec F S1x1024 .f32) (w2 : Vec F S1024x1024 .bf16) (b2 : Vec F S1x1024 .f32) (r : Vec F S1x512x1024 .f32) : FVec F S1x512x1024 .f32 :=
  k0_pay1 (k0_pay14 (View.ld g rg)) (k0_pay15 (View.ld b rg)) (k0_pay16 (View.ld Y ry)) (k0_pay17 (View.ld Y ry)) (View.ld r rx) (View.ld w2 rm) (View.ld b2 rg)
def outv (Y : Vec F S512x1024 .f32) (g b : Vec F S1x1024 .f32) (w2 : Vec F S1024x1024 .bf16) (b2 : Vec F S1x1024 .f32) (r : Vec F S1x512x1024 .f32) : FVec F S1x512x1024 .f32 :=
  View.canon (Val := Elt F) (s := S1x512x1024) (e := .f32) [⟨rx, outp Y g b w2 b2 r⟩]

theorem cover (p0 : Vec F S1x512x1024 .f32) (y : S1x512x1024.Idx) :
    ∃ p ∈ ([⟨rx, p0⟩] : List (View.Piece (Elt F) S1x512x1024 .f32)), y ∈ p.1.set :=
  View.cover_of_tiled [⟨rx, p0⟩] S1x512x1024.size (by rfl) y

theorem cover_ext (p0 : Vec F S32x1024 .f32) (p1 : Vec F S512x1024 .f32) (y : S544x1024.Idx) :
    ∃ p ∈ ([⟨rlo, p0⟩, ⟨rhi, p1⟩] : List (View.Piece (Elt F) S544x1024 .f32)), y ∈ p.1.set := by
  have h0 : (y 0).val < 544 := (y 0).isLt
  have h1 : (y 1).val < 1024 := (y 1).isLt
  by_cases h : (y 0).val < 32
  · refine ⟨⟨rlo, p0⟩, by simp, (Rect.mem_set_unit (s := S544x1024) (off := ![0, 0]) (size := S32x1024.size) (inb := inb_S544x1024_S32x1024_0_0)).mpr fun a => ?_⟩
    match a with
    | ⟨0, _⟩ => exact ⟨Nat.zero_le _, by show (y 0).val < 0 + 32; omega⟩
    | ⟨1, _⟩ => exact ⟨Nat.zero_le _, by show (y 1).val < 0 + 1024; omega⟩
  · refine ⟨⟨rhi, p1⟩, by simp, (Rect.mem_set_unit (s := S544x1024) (off := ![32, 0]) (size := S512x1024.size) (inb := inb_S544x1024_S512x1024_32_0)).mpr fun a => ?_⟩
    match a with
    | ⟨0, _⟩ => exact ⟨by show 32 ≤ (y 0).val; omega, by show (y 0).val < 32 + 512; omega⟩
    | ⟨1, _⟩ => exact ⟨Nat.zero_le _, by show (y 1).val < 0 + 1024; omega⟩

/-! ## The offsets and the conditions -/

theorem off34 : ∀ k : Fin k0_t1_loop.trips, k0_off34 k = ![k.val / 8 * 128, k.val % 8 * 128] := by decide +kernel

/-- A trip's tile at a place of it, and every place is of the tile of its own trip. -/
theorem rt_val0 (k : Fin k0_t1_loop.trips) (y : S128x128.Idx) : ((rt k).emb y 0).val = k.val / 8 * 128 + (y 0).val := by
  have e : ((rt k).emb y 0).val = k0_off34 k 0 + 1 * (y 0).val := rfl
  rw [e, off34 k]; show k.val / 8 * 128 + 1 * (y 0).val = _; omega
theorem rt_val1 (k : Fin k0_t1_loop.trips) (y : S128x128.Idx) : ((rt k).emb y 1).val = k.val % 8 * 128 + (y 1).val := by
  have e : ((rt k).emb y 1).val = k0_off34 k 1 + 1 * (y 1).val := rfl
  rw [e, off34 k]; show k.val % 8 * 128 + 1 * (y 1).val = _; omega

theorem emb_of (z : S512x1024.Idx) : (rt (kof z)).emb (lof z) = z := by
  have h0 : (z 0).val < 512 := (z 0).isLt
  have h1 : (z 1).val < 1024 := (z 1).isLt
  have e0 := rt_val0 (kof z) (lof z)
  have e1 := rt_val1 (kof z) (lof z)
  have k0 : (kof z).val = (z 0).val / 128 * 8 + (z 1).val / 128 := rfl
  have l0 : ((lof z) 0).val = (z 0).val % 128 := rfl
  have l1 : ((lof z) 1).val = (z 1).val % 128 := rfl
  funext a
  match a with
  | ⟨0, _⟩ => exact Fin.ext (e0.trans (show _ = (z 0).val by omega))
  | ⟨1, _⟩ => exact Fin.ext (e1.trans (show _ = (z 1).val by omega))

/-- The two conditions. -/
abbrev cond1 (i : grid0.Coords) : Prop := (Scalar.cmpi .ne (Scalar.extui (Scalar.cmpi .eq (BitVec.ofNat 32 (i 1).val) 0#32)) 0#32) = 1#1
abbrev cond2 (i : grid0.Coords) : Prop := (Scalar.cmpi .ne (Scalar.extui (Scalar.cmpi .sgt (BitVec.ofNat 32 (i 1).val) 0#32)) 0#32) = 1#1

theorem coord_val (t : Fin cfg0.N) : (grid0.coords t 1).val = t.val % 32 := by
  have e0 : (grid0.coords t 1).val = t.val / 1 % 32 := Pipeline.Grid.coords_val t 1 (by decide) rfl
  rw [e0]; omega

theorem cond1_of (i : grid0.Coords) : cond1 i ↔ (i 1).val = 0 := by
  have : ∀ n : Fin 32, (Scalar.cmpi .ne (Scalar.extui (Scalar.cmpi .eq (BitVec.ofNat 32 n.val) 0#32)) 0#32) = 1#1 ↔ n.val = 0 := by decide +kernel
  exact this (i 1)
theorem cond2_of (i : grid0.Coords) : cond2 i ↔ (i 1).val ≠ 0 := by
  have : ∀ n : Fin 32, (Scalar.cmpi .ne (Scalar.extui (Scalar.cmpi .sgt (BitVec.ofNat 32 n.val) 0#32)) 0#32) = 1#1 ↔ n.val ≠ 0 := by decide +kernel
  exact this (i 1)

/-! ## The loop -/

section
variable (c : Dev nD) (E : Set ℕ) (i : grid0.Coords) (arg2 : Memref sig .tc .vmem S1x512x1024 .f32) (harg2 : arg2.IsWhole) (arg3 : Memref sig .tc .vmem S1x32x1024 .f32) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x512x1024 .f32) (harg11 : arg11.IsWhole) (arg12 : Memref sig .tc .vmem S544x1024 .f32) (harg12 : arg12.IsWhole) (arg13 : Memref sig .tc .vmem S512x1024 .f32) (harg13 : arg13.IsWhole)

set_option maxHeartbeats 2000000 in
/-- One trip: it fills its tile. -/
theorem trip (k : Fin k0_t1_loop.trips)
    (f4 : BufTy.Contents (Elt F) arg4.view.ty) (f5 : BufTy.Contents (Elt F) arg5.view.ty) (f12 : BufTy.Contents (Elt F) arg12.view.ty) (f13 : BufTy.Contents (Elt F) arg13.view.ty) :
    iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12) ∗ (arg13.view.loc (c : Thread nD τ) ↦[arg13.view.set]{fullShare} f13))
      ⊢ (wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 k PUnit.unit)
        (fun _ => iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12)
          ∗ (arg13.view.loc (c : Thread nD τ) ↦[arg13.view.set]{fullShare} arg13.view.writes (Elt F) f13 [⟨rt k, tile k (arg12.view.read (Elt F) f12) (arg4.view.read (Elt F) f4) (arg5.view.read (Elt F) f5)⟩]))) : sProp 𝕄) := by
  have hk : k.val < 32 := Nat.lt_of_lt_of_le k.isLt k0_t1_abs.2.1
  unfold k0_t1_body
  iintro ⟨H4, H5, H12, H13⟩
  sl_exec
  sl_step
  isplitl [H4]; · iexact H4
  isplitl [H5]; · iexact H5
  isplitl [H12]; · iexact H12
  iexact H13

/-- Before trip `k` the tiles of the trips before it are filled. -/
def Done (arg13 : Memref sig .tc .vmem S512x1024 .f32) (T : Fin k0_t1_loop.trips → FVec F S128x128 .f32) (k : ℕ) (f : BufTy.Contents (Elt F) arg13.view.ty) : Prop :=
  ∀ n : Fin k0_t1_loop.trips, n.val < k → ∀ y, arg13.view.read (Elt F) f ((rt n).emb y) = T n y

/-- The same as an equation, plain before the first trip. -/
def Dn (arg13 : Memref sig .tc .vmem S512x1024 .f32) (T : Fin k0_t1_loop.trips → FVec F S128x128 .f32) : ℕ → BufTy.Contents (Elt F) arg13.view.ty → Prop
  | 0, _ => True
  | k + 1, f => Done arg13 T (k + 1) f

theorem Dn.done (arg13 : Memref sig .tc .vmem S512x1024 .f32) (T : Fin k0_t1_loop.trips → FVec F S128x128 .f32) : ∀ (k : ℕ) (f : BufTy.Contents (Elt F) arg13.view.ty), Dn arg13 T k f = True → Done arg13 T k f
  | 0, f, _ => fun n hn => absurd hn (Nat.not_lt_zero _)
  | k + 1, f, h => (show Done arg13 T (k + 1) f = True from h) ▸ trivial

theorem Done.step (arg13 : Memref sig .tc .vmem S512x1024 .f32) (T : Fin k0_t1_loop.trips → FVec F S128x128 .f32) (k : Fin k0_t1_loop.trips) (f : BufTy.Contents (Elt F) arg13.view.ty)
    (h : Done arg13 T k.val f) : Done arg13 T (k.val + 1) (arg13.view.writes (Elt F) f [⟨rt k, T k⟩]) := by
  intro n hn y
  by_cases e : n.val = k.val
  · obtain rfl : n = k := Fin.ext e
    exact View.read_writes_cons_emb _ _ (rt n) _ _ y
  · refine Eq.trans ?_ (h n (by omega) y)
    have a0 := rt_val0 n y
    have a1 := rt_val1 n y
    have y0 : (y 0).val < 128 := (y 0).isLt
    have y1 : (y 1).val < 128 := (y 1).isLt
    by_cases h8 : n.val / 8 = k.val / 8
    · refine View.read_writes_cons_unit_of_not_mem _ _ _ _ _ _ (off34 k) 1 ?_
      show _ < k.val % 8 * 128 ∨ k.val % 8 * 128 + 128 ≤ _
      omega
    · refine View.read_writes_cons_unit_of_not_mem _ _ _ _ _ _ (off34 k) 0 ?_
      show _ < k.val / 8 * 128 ∨ k.val / 8 * 128 + 128 ≤ _
      omega

theorem Done.read (arg13 : Memref sig .tc .vmem S512x1024 .f32) (E : Vec F S544x1024 .f32) (w : Vec F S31x1024 .f32) (b : Vec F S1x1024 .f32) (f : BufTy.Contents (Elt F) arg13.view.ty) (n : ℕ) (hn : n = k0_t1_loop.trips)
    (h : Done arg13 (fun k => tile k E w b) n f) : arg13.view.read (Elt F) f = yc E w b := by
  funext z
  have e := h (kof z) (by rw [hn]; exact (kof z).isLt) (lof z)
  rw [emb_of z] at e
  exact e

set_option warn.classDefReducibility false in
/-- The loop by what it has filled. -/
@[sl_loop] def loopInv (f4 : BufTy.Contents (Elt F) arg4.view.ty) (f5 : BufTy.Contents (Elt F) arg5.view.ty) (f12 : BufTy.Contents (Elt F) arg12.view.ty) :
    Idealize.ShloMosaic.LoopInv (M := 𝕄) frame (wpE (defs₀ (F := F)) Variants.none (c : Thread nD τ) none) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13) where
  inv k _ := iprop((arg4.view.loc (c : Thread nD τ) ↦[arg4.view.set]{fullShare} f4) ∗ (arg5.view.loc (c : Thread nD τ) ↦[arg5.view.set]{fullShare} f5) ∗ (arg12.view.loc (c : Thread nD τ) ↦[arg12.view.set]{fullShare} f12)
    ∗ (∃ f, (arg13.view.loc (c : Thread nD τ) ↦[arg13.view.set]{fullShare} f) ∗ ⌜Dn arg13 (fun n => tile n (arg12.view.read (Elt F) f12) (arg4.view.read (Elt F) f4) (arg5.view.read (Elt F) f5)) k f = True⌝))
  step k acc := by
    iintro ⟨H4, H5, H12, ⟨%f, H13, %hf⟩⟩
    iapply (wp_wand_r Idealize.ShloMosaic.frame (wpE (defs₀ (F := F)) Variants.none (c : Thread nD τ) none) E)
    isplitl [H4 H5 H12 H13]
    · iapply (trip c E i arg2 harg2 arg3 harg3 arg4 harg4 arg5 harg5 arg6 harg6 arg7 harg7 arg8 harg8 arg9 harg9 arg10 harg10 arg11 harg11 arg12 harg12 arg13 harg13 k f4 f5 f12 f)
      isplitl [H4]; · iexact H4
      isplitl [H5]; · iexact H5
      isplitl [H12]; · iexact H12
      iexact H13
    · iintro %_ ⟨H4, H5, H12, H13⟩
      isplitl [H4]; · iexact H4
      isplitl [H5]; · iexact H5
      isplitl [H12]; · iexact H12
      iexists _; isplitl [H13]; · iexact H13
      ipureintro; exact eq_true (Done.step _ _ _ _ (Dn.done _ _ _ _ hf))

/-! ## The body's runs -/

set_option maxHeartbeats 2000000 in
/-- The body at a row's first block. -/
theorem sound_A (hc1 : cond1 i) (hc2 : ¬cond2 i)
    (x0 : Vec F S1x512x1024 .f32) (x1 : Vec F S1x32x1024 .f32) (x2 : Vec F S31x1024 .f32) (x3 : Vec F S1x1024 .f32) (x4 : Vec F S1x1024 .f32) (x5 : Vec F S1x1024 .f32) (x6 : Vec F S1024x1024 .bf16) (x7 : Vec F S1x1024 .f32) (x8 : Vec F S1x512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outv (yc (ext0 x0) x2 x3) x4 x5 x6 x7 x8) ∗ (∃ d, owns (c : Thread nD τ) arg12 fullShare d) ∗ (∃ d, owns (c : Thread nD τ) arg13 fullShare d)) -∗ K ⟨⟩))
      ⊢ wp frame (wpE (defs₀ (F := F)) Variants.none c none) E (cc0_c_conv i arg2 harg2 arg3 harg3 arg4 harg4 arg5 harg5 arg6 harg6 arg7 harg7 arg8 harg8 arg9 harg9 arg10 harg10 arg11 harg11 arg12 harg12 arg13 harg13) K := by
  simp only [cc0_c_conv_eq_skeleton]; unfold cc0_c_conv_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover _)).trans ?_
    have hY := Done.read arg13 _ _ _ _ _ rfl (Dn.done arg13 _ _ _ (by assumption))
    have hE : arg12.view.read (Elt F) (arg12.view.writes (Elt F) arg12.view.junk _) = ext0 (arg2.view.read (Elt F) f0) := View.read_writes_eq_canon _ _ _ (cover_ext _ _)
    have hY2 := hY.trans (congrArg (fun e => yc e (arg4.view.read (Elt F) f2) (arg5.view.read (Elt F) f3)) hE)
    rw [← hY2]
    rfl
  isplitl [H10]
  · iexists _; iexists _; isplitr
    swap; · iexact H10
    ipureintro; rfl
  iexists _; iexists _; isplitr
  swap; · iexact H11
  ipureintro; rfl

set_option maxHeartbeats 2000000 in
/-- The body at a later block. -/
theorem sound_B (hc1 : ¬cond1 i) (hc2 : cond2 i)
    (x0 : Vec F S1x512x1024 .f32) (x1 : Vec F S1x32x1024 .f32) (x2 : Vec F S31x1024 .f32) (x3 : Vec F S1x1024 .f32) (x4 : Vec F S1x1024 .f32) (x5 : Vec F S1x1024 .f32) (x6 : Vec F S1024x1024 .bf16) (x7 : Vec F S1x1024 .f32) (x8 : Vec F S1x512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outv (yc (ext1 x0 x1) x2 x3) x4 x5 x6 x7 x8) ∗ (∃ d, owns (c : Thread nD τ) arg12 fullShare d) ∗ (∃ d, owns (c : Thread nD τ) arg13 fullShare d)) -∗ K ⟨⟩))
      ⊢ wp frame (wpE (defs₀ (F := F)) Variants.none c none) E (cc0_c_conv i arg2 harg2 arg3 harg3 arg4 harg4 arg5 harg5 arg6 harg6 arg7 harg7 arg8 harg8 arg9 harg9 arg10 harg10 arg11 harg11 arg12 harg12 arg13 harg13) K := by
  simp only [cc0_c_conv_eq_skeleton]; unfold cc0_c_conv_skel
  simp only [k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover _)).trans ?_
    have hY := Done.read arg13 _ _ _ _ _ rfl (Dn.done arg13 _ _ _ (by assumption))
    have hE : arg12.view.read (Elt F) (arg12.view.writes (Elt F) arg12.view.junk _) = ext1 (arg2.view.read (Elt F) f0) (arg3.view.read (Elt F) f1) := View.read_writes_eq_canon _ _ _ (cover_ext _ _)
    have hY2 := hY.trans (congrArg (fun e => yc e (arg4.view.read (Elt F) f2) (arg5.view.read (Elt F) f3)) hE)
    rw [← hY2]
    rfl
  isplitl [H10]
  · iexists _; iexists _; isplitr
    swap; · iexact H10
    ipureintro; rfl
  iexists _; iexists _; isplitr
  swap; · iexact H11
  ipureintro; rfl

end

/-! ## The proof data -/

abbrev sc0 : Memref sig .tc .vmem S544x1024 .f32 := Memref.whole cc0_scratch0
abbrev sc1 : Memref sig .tc .vmem S512x1024 .f32 := Memref.whole cc0_scratch1

theorem PhiA0_eq (c : Dev nD) :
    (Pipeline.ΦA spec0 c : sProp 𝕄) = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The rows the convolution of point `t`'s block reads. -/
def ext (x : Vec F S1x512x1024 .f32) (p : Vec F S1x32x1024 .f32) (t : ℕ) : Vec F S544x1024 .f32 :=
  if t % 32 = 0 then ext0 x else ext1 x p

/-- The block of results at point `t`. -/
def res (c : Dev nD) (t : Fin cfg0.N) : Vec F S1x512x1024 .f32 :=
  outv (yc (ext (iblk m c 0 t) (iblk m c 1 t) t.val) (iblk m c 2 t) (iblk m c 3 t)) (iblk m c 4 t) (iblk m c 5 t) (iblk m c 6 t) (iblk m c 7 t) (iblk m c 8 t)

/-- The proof data: arrays as the region finds them; each input's buffer left at its block, the output's at the block's
    results; the scratches hold anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = res m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

set_option maxHeartbeats 2000000 in
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
      ⊢ wp frame (wpE (defs₀ (F := F)) Variants.none c none) Set.univ (bodyAt0 t)
      (fun _ => iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))) := by
  unfold bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Pipeline.ΦA spec0 c from rfl, show (dats m 0 c).Φ t.castSucc = Pipeline.ΦA spec0 c from rfl, PhiA0_eq]
  have hv : (grid0.coords t 1).val = t.val % 32 := coord_val t
  by_cases hz : t.val % 32 = 0
  · have hc1 : cond1 (grid0.coords t) := (cond1_of _).mpr (hv.trans hz)
    have hc2 : ¬cond2 (grid0.coords t) := fun e => (cond2_of _).mp e (hv.trans hz)
    rw [show res m c t = outv (yc (ext0 (iblk m c 0 t)) (iblk m c 2 t) (iblk m c 3 t)) (iblk m c 4 t) (iblk m c 5 t) (iblk m c 6 t) (iblk m c 7 t) (iblk m c 8 t) from by unfold res ext; rw [if_pos hz]]
    iintro ⟨⟨⟨HS, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dO, HO⟩⟩
    iapply (sound_A c Set.univ (grid0.coords t) _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO]; · iexists _; iexact HO
    isplitl [HS]; · iexact HS
    isplitl [HT]; · iexact HT
    iintro ⟨H0, H1, H2, H3, H4, H5, H6, H7, H8, HO, HS, HT⟩
    isplitl [HS HT Hg]
    · isplitl [HS HT]
      · isplitl [HS]; · iexact HS
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HO
  · have hc1 : ¬cond1 (grid0.coords t) := fun e => hz (hv.symm.trans ((cond1_of _).mp e))
    have hc2 : cond2 (grid0.coords t) := (cond2_of _).mpr fun e => hz (hv.symm.trans e)
    rw [show res m c t = outv (yc (ext1 (iblk m c 0 t) (iblk m c 1 t)) (iblk m c 2 t) (iblk m c 3 t)) (iblk m c 4 t) (iblk m c 5 t) (iblk m c 6 t) (iblk m c 7 t) (iblk m c 8 t) from by unfold res ext; rw [if_neg hz]]
    iintro ⟨⟨⟨HS, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%dO, HO⟩⟩
    iapply (sound_B c Set.univ (grid0.coords t) _ _ _ _ _ _ _ _ _ _ _ _ _ _ _ _ _ _ _ _ _ _ _ _ hc1 hc2 (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO]; · iexists _; iexact HO
    isplitl [HS]; · iexact HS
    isplitl [HT]; · iexact HT
    iintro ⟨H0, H1, H2, H3, H4, H5, H6, H7, H8, HO, HS, HT⟩
    isplitl [HS HT Hg]
    · isplitl [HS HT]
      · isplitl [HS]; · iexact HS
        iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HO

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.CConvBody

end
-- ==== Proof.CConvVal.lean ====
module

public import proofs.«01_k».proof.Proof.CConvBody
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The causal depthwise convolution, its norm and its projection, entry by entry -/

namespace Cert.CConvBody
open Cert.CConvIdeal Cert.CConvIdeal.Gen

/-- The 31 terms of one result of the convolution, in order. -/
def sum31 (f : Fin 31 → EReal) : EReal :=
  f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30

theorem sum31_order (f : Fin 31 → EReal) (c : EReal) :
    0 + c + f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30 + f 7 + f 15 + f 23 = sum31 f + c := by
  unfold sum31
  rw [zero_add]
  ac_rfl

/-- The mean of a row, the normalized row, and its activation. -/
def mean (f : Fin 1024 → EReal) : EReal := Ideal.div (∑ k, f k) (Ideal.ofBits FTy.f32 0x44800000#32)
def ln (f g b : Fin 1024 → EReal) (k : Fin 1024) : EReal :=
  (f k - mean f) * Ideal.rsqrt (mean (fun e => (f e - mean f) * (f e - mean f)) + Ideal.ofBits FTy.f32 0x358637BD#32) * g k + b k
def act (f g b : Fin 1024 → EReal) (k : Fin 1024) : EReal := ln f g b k * Ideal.logistic (ln f g b k)

/-! ## One tile of the convolution -/

set_option synthInstance.maxHeartbeats 400000 in
set_option synthInstance.maxSize 4000 in
theorem offs : ∀ k : Fin k0_t1_loop.trips, k0_off1 k = ![k.val / 8 * 128, k.val % 8 * 128] ∧ k0_off2 k = ![0, k.val % 8 * 128]
    ∧ k0_off3 k = ![0, k.val % 8 * 128]
    ∧ k0_off4 k = ![8, k.val % 8 * 128]
    ∧ k0_off5 k = ![16, k.val % 8 * 128]
    ∧ k0_off6 k = ![24, k.val % 8 * 128]
    ∧ k0_off7 k = ![1, k.val % 8 * 128]
    ∧ k0_off8 k = ![9, k.val % 8 * 128]
    ∧ k0_off9 k = ![17, k.val % 8 * 128]
    ∧ k0_off10 k = ![25, k.val % 8 * 128]
    ∧ k0_off11 k = ![2, k.val % 8 * 128]
    ∧ k0_off12 k = ![10, k.val % 8 * 128]
    ∧ k0_off13 k = ![18, k.val % 8 * 128]
    ∧ k0_off14 k = ![26, k.val % 8 * 128]
    ∧ k0_off15 k = ![3, k.val % 8 * 128]
    ∧ k0_off16 k = ![11, k.val % 8 * 128]
    ∧ k0_off17 k = ![19, k.val % 8 * 128]
    ∧ k0_off18 k = ![27, k.val % 8 * 128]
    ∧ k0_off19 k = ![4, k.val % 8 * 128]
    ∧ k0_off20 k = ![12, k.val % 8 * 128]
    ∧ k0_off21 k = ![20, k.val % 8 * 128]
    ∧ k0_off22 k = ![28, k.val % 8 * 128]
    ∧ k0_off23 k = ![5, k.val % 8 * 128]
    ∧ k0_off24 k = ![13, k.val % 8 * 128]
    ∧ k0_off25 k = ![21, k.val % 8 * 128]
    ∧ k0_off26 k = ![29, k.val % 8 * 128]
    ∧ k0_off27 k = ![6, k.val % 8 * 128]
    ∧ k0_off28 k = ![14, k.val % 8 * 128]
    ∧ k0_off29 k = ![22, k.val % 8 * 128]
    ∧ k0_off30 k = ![30, k.val % 8 * 128]
    ∧ k0_off31 k = ![7, k.val % 8 * 128]
    ∧ k0_off32 k = ![15, k.val % 8 * 128]
    ∧ k0_off33 k = ![23, k.val % 8 * 128] := by decide +kernel

/-- A trip's row and column of the whole scratch. -/
theorem trip_lt (k : Fin k0_t1_loop.trips) : k.val < 32 := Nat.lt_of_lt_of_eq k.isLt trips_eq
def col (k : Fin k0_t1_loop.trips) (q : Fin 128) : Fin 1024 := ⟨k.val % 8 * 128 + q.val, by omega⟩
def row (k : Fin k0_t1_loop.trips) (a : Fin 160) : Fin 544 := ⟨k.val / 8 * 128 + a.val, by have := trip_lt k; omega⟩

theorem win_at (k : Fin k0_t1_loop.trips) (E : Vec Ideal S544x1024 .f32) (a : Fin 160) (q : Fin 128) :
    View.ld E (rwin k) (ix2 a q) = E (ix2 (row k a) (col k q)) := by
  refine congrArg E (funext fun i => Fin.ext ?_)
  match i with
  | ⟨0, _⟩ => show k0_off1 k 0 + 1 * a.val = k.val / 8 * 128 + a.val; rw [(offs k).1, Nat.one_mul]; rfl
  | ⟨1, _⟩ => show k0_off1 k 1 + 1 * q.val = k.val % 8 * 128 + q.val; rw [(offs k).1, Nat.one_mul]; rfl
theorem bias_at (k : Fin k0_t1_loop.trips) (b : Vec Ideal S1x1024 .f32) (q : Fin 128) :
    View.ld b (rbias k) (ix2 0 q) = b (ix2 0 (col k q)) := by
  refine congrArg b (funext fun i => Fin.ext ?_)
  match i with
  | ⟨0, _⟩ => show k0_off2 k 0 + 1 * 0 = 0; rw [(offs k).2.1]; rfl
  | ⟨1, _⟩ => show k0_off2 k 1 + 1 * q.val = k.val % 8 * 128 + q.val; rw [(offs k).2.1, Nat.one_mul]; rfl
theorem w_at (k : Fin k0_t1_loop.trips) (w : Vec Ideal S31x1024 .f32) (q : Fin 128) (j : Fin 31) {o : Fin 2 → ℕ}
    (h : ∀ i, o i + S1x128.size i ≤ S31x1024.size i) (e : o = ![j.val, k.val % 8 * 128]) :
    View.ld w (rw h) (ix2 0 q) = w (ix2 j (col k q)) := by
  subst e
  refine congrArg w (funext fun i => Fin.ext ?_)
  match i with
  | ⟨0, _⟩ => show j.val + 1 * 0 = j.val; omega
  | ⟨1, _⟩ => show k.val % 8 * 128 + 1 * q.val = k.val % 8 * 128 + q.val; omega

theorem tile_at (k : Fin k0_t1_loop.trips) (E : Vec Ideal S544x1024 .f32) (w : Vec Ideal S31x1024 .f32) (b : Vec Ideal S1x1024 .f32) (p q : Fin 128) :
    tile k E w b (ix2 p q)
      = sum31 (fun j => E (ix2 (row k ⟨p.val + 2 + j.val, by omega⟩) (col k q)) * w (ix2 j (col k q))) + b (ix2 0 (col k q)) := by
  obtain ⟨h1, h2, h3, h4, h5, h6, h7, h8, h9, h10, h11, h12, h13, h14, h15, h16, h17, h18, h19, h20, h21, h22, h23, h24, h25, h26, h27, h28, h29, h30, h31, h32, h33⟩ := offs k
  refine Eq.trans ?_ (sum31_order _ _)
  simp only [← w_at k w q 0 (k0_off3_inb k) h3, ← w_at k w q 8 (k0_off4_inb k) h4, ← w_at k w q 16 (k0_off5_inb k) h5, ← w_at k w q 24 (k0_off6_inb k) h6, ← w_at k w q 1 (k0_off7_inb k) h7, ← w_at k w q 9 (k0_off8_inb k) h8, ← w_at k w q 17 (k0_off9_inb k) h9, ← w_at k w q 25 (k0_off10_inb k) h10, ← w_at k w q 2 (k0_off11_inb k) h11, ← w_at k w q 10 (k0_off12_inb k) h12, ← w_at k w q 18 (k0_off13_inb k) h13, ← w_at k w q 26 (k0_off14_inb k) h14, ← w_at k w q 3 (k0_off15_inb k) h15, ← w_at k w q 11 (k0_off16_inb k) h16, ← w_at k w q 19 (k0_off17_inb k) h17, ← w_at k w q 27 (k0_off18_inb k) h18, ← w_at k w q 4 (k0_off19_inb k) h19, ← w_at k w q 12 (k0_off20_inb k) h20, ← w_at k w q 20 (k0_off21_inb k) h21, ← w_at k w q 28 (k0_off22_inb k) h22, ← w_at k w q 5 (k0_off23_inb k) h23, ← w_at k w q 13 (k0_off24_inb k) h24, ← w_at k w q 21 (k0_off25_inb k) h25, ← w_at k w q 29 (k0_off26_inb k) h26, ← w_at k w q 6 (k0_off27_inb k) h27, ← w_at k w q 14 (k0_off28_inb k) h28, ← w_at k w q 22 (k0_off29_inb k) h29, ← w_at k w q 30 (k0_off30_inb k) h30, ← w_at k w q 7 (k0_off31_inb k) h31, ← w_at k w q 15 (k0_off32_inb k) h32, ← w_at k w q 23 (k0_off33_inb k) h33, ← win_at, ← bias_at]
  unfold tile acc3 acc2 acc1
  generalize View.ld E (rwin k) = W
  pointwise [k0_pay10, k0_pay9, k0_pay8, k0_pay7, k0_pay6, k0_pay5, k0_pay4, k0_pay3, k0_pay2]
  iterate 31 refine congr (congrArg HAdd.hAdd ?_) (congr (congrArg HMul.hMul (congrArg W (congrArg (fun a => ix2 a q) (Fin.ext (by dsimp only; omega))))) rfl)
  rfl

/-! ## One block of results -/

theorem ext_at (x : Vec Ideal S1x512x1024 .f32) (p : Vec Ideal S1x32x1024 .f32) (t : ℕ) (r : Fin 544) (d : Fin 1024) :
    ext x p t (ix2 r d) = if h : r.val < 32 then (if t % 32 = 0 then 0 else p (ix3 0 ⟨r.val, h⟩ d)) else x (ix3 0 ⟨r.val - 32, by omega⟩ d) := by
  have hx : (View.ld x rx : Vec Ideal S1x512x1024 .f32) = x := View.ld_unit_zero (funext fun a => by match a with | ⟨0, _⟩ => rfl | ⟨1, _⟩ => rfl | ⟨2, _⟩ => rfl) _ x
  have hp : (View.ld p rh : Vec Ideal S1x32x1024 .f32) = p := View.ld_unit_zero (funext fun a => by match a with | ⟨0, _⟩ => rfl | ⟨1, _⟩ => rfl | ⟨2, _⟩ => rfl) _ p
  unfold ext ext0 ext1
  rw [hx, hp]
  have hc : ∀ v : FVec Ideal S32x1024 .f32, View.canon (Val := Elt Ideal) (s := S544x1024) (e := .f32) [⟨rlo, v⟩, ⟨rhi, k0_pay11 x⟩] (ix2 r d)
      = if h : r.val < 32 then v (ix2 ⟨r.val, h⟩ d) else x (ix3 0 ⟨r.val - 32, by omega⟩ d) := by
    intro v
    canon_tiles y h using cover_ext v (k0_pay11 x) (ix2 r d)
    · idx_vars y
      have hr : r.val = y0.val := h0
      rw [dif_pos (by omega)]
      obtain rfl : d = y1 := Fin.ext h1
      exact congrArg (fun a => v (ix2 a d)) (Fin.ext h0.symm)
    · idx_vars y
      have hr : r.val = 32 + y0.val := h0
      obtain rfl : d = y1 := Fin.ext h1
      rw [dif_neg (by omega)]
      pointwise [k0_pay11]
      exact congrArg (fun a => x (ix3 0 a d)) (Fin.ext (by dsimp only; omega))
  by_cases ht : t % 32 = 0
  · rw [if_pos ht, hc]
    pointwise [k0_pay12]
    simp only [ht, if_true]
  · rw [if_neg ht, hc]
    pointwise [k0_pay13]
    simp only [ht, if_false]

theorem outp_at (Y : Vec Ideal S512x1024 .f32) (g b : Vec Ideal S1x1024 .f32) (w2 : Vec Ideal S1024x1024 .bf16) (b2 : Vec Ideal S1x1024 .f32) (r : Vec Ideal S1x512x1024 .f32) (p : Fin 512) (l : Fin 1024) :
    outv Y g b w2 b2 r (ix3 0 p l)
      = r (ix3 0 p l) + ∑ k, act (fun k => Y (ix2 p k)) (fun k => g (ix2 0 k)) (fun k => b (ix2 0 k)) k * w2 (ix2 k l) + b2 (ix2 0 l) := by
  have hg : ∀ x : Vec Ideal S1x1024 .f32, (View.ld x rg : Vec Ideal S1x1024 .f32) = x := View.ld_unit_zero (funext fun a => by match a with | ⟨0, _⟩ => rfl | ⟨1, _⟩ => rfl) _
  have hr : (View.ld r rx : Vec Ideal S1x512x1024 .f32) = r := View.ld_unit_zero (funext fun a => by match a with | ⟨0, _⟩ => rfl | ⟨1, _⟩ => rfl | ⟨2, _⟩ => rfl) _ r
  have hy : (View.ld Y ry : Vec Ideal S512x1024 .f32) = Y := View.ld_unit_zero (funext fun a => by match a with | ⟨0, _⟩ => rfl | ⟨1, _⟩ => rfl) _ Y
  have hm : (View.ld w2 rm : Vec Ideal S1024x1024 .bf16) = w2 := View.ld_unit_zero (funext fun a => by match a with | ⟨0, _⟩ => rfl | ⟨1, _⟩ => rfl) _ w2
  have hv : outv Y g b w2 b2 r (ix3 0 p l) = outp Y g b w2 b2 r (ix3 0 p l) := by
    unfold outv
    canon_tiles y h
    idx_vars y
    obtain rfl : y0 = 0 := Fin.ext h0.symm
    obtain rfl : p = y1 := Fin.ext h1
    obtain rfl : l = y2 := Fin.ext h2
    rfl
  rw [hv]
  unfold outp
  rw [hg, hg, hg, hr, hy, hm]
  unfold act ln mean
  pointwise [k0_pay1, k0_pay14, k0_pay15, k0_pay16, k0_pay17]

theorem yc_at (E : Vec Ideal S544x1024 .f32) (w : Vec Ideal S31x1024 .f32) (b : Vec Ideal S1x1024 .f32) (p : Fin 512) (l : Fin 1024) :
    yc E w b (ix2 p l) = sum31 (fun j => E (ix2 ⟨p.val + 2 + j.val, by omega⟩ l) * w (ix2 j l)) + b (ix2 0 l) := by
  have hk : (kof (ix2 p l)).val = p.val / 128 * 8 + l.val / 128 := rfl
  have hc : col (kof (ix2 p l)) ⟨l.val % 128, Nat.mod_lt _ (by decide)⟩ = l := Fin.ext (by show (kof (ix2 p l)).val % 8 * 128 + l.val % 128 = l.val; rw [hk]; omega)
  have hr : ∀ j : Fin 31, row (kof (ix2 p l)) ⟨p.val % 128 + 2 + j.val, by omega⟩ = ⟨p.val + 2 + j.val, by omega⟩ :=
    fun j => Fin.ext (by show (kof (ix2 p l)).val / 8 * 128 + (p.val % 128 + 2 + j.val) = p.val + 2 + j.val; rw [hk]; omega)
  refine (tile_at (kof (ix2 p l)) E w b ⟨p.val % 128, Nat.mod_lt _ (by decide)⟩ ⟨l.val % 128, Nat.mod_lt _ (by decide)⟩).trans ?_
  rw [hc]
  simp only [hr]

/-! ## The whole result -/

variable (m : (ℓ : Loc nD τ sig) → Buf (Elt Ideal) ℓ)

/-- A row of the sequence with 30 rows of zeros before it; one entry of the convolution; one entry of the result. -/
def pd (y : FVec Ideal S32768x1024 .f32) (B : Fin 2) (n : Fin 16414) (d : Fin 1024) : EReal :=
  if h : 30 ≤ n.val then y (ix2 ⟨B.val * 16384 + (n.val - 30), by omega⟩ d) else 0
def cv (y : FVec Ideal S32768x1024 .f32) (w : FVec Ideal S31x1024 .f32) (b : FVec Ideal S1024 .f32) (B : Fin 2) (s : Fin 16384) (d : Fin 1024) : EReal :=
  sum31 (fun j => pd y B ⟨j.val + s.val, by omega⟩ d * w (ix2 j d)) + b (ix1 d)
def ker (y : FVec Ideal S32768x1024 .f32) (w : FVec Ideal S31x1024 .f32) (bw g b : FVec Ideal S1024 .f32) (w2 : FVec Ideal S1024x1024 .f32) (b2 : FVec Ideal S1024 .f32)
    (h : FVec Ideal S2x16384x1024 .f32) (B : Fin 2) (s : Fin 16384) (l : Fin 1024) : EReal :=
  h (ix3 B s l) + ∑ k, act (cv y w bw B s) (fun k => g (ix1 k)) (fun k => b (ix1 k)) k * w2 (ix2 k l) + b2 (ix1 l)

theorem idx : ∀ t : Fin cfg0.N,
    win0_0.index t = ![t.val / 32, t.val % 32, 0] ∧ win0_1.index t = ![t.val / 32, t.val % 32 * 16 - 1, 0] ∧ win0_2.index t = ![0, 0] ∧ win0_3.index t = ![0, 0] ∧ win0_4.index t = ![0, 0]
      ∧ win0_5.index t = ![0, 0] ∧ win0_6.index t = ![0, 0] ∧ win0_7.index t = ![0, 0] ∧ win0_8.index t = ![t.val / 32, t.val % 32, 0] ∧ win0_9.index t = ![t.val / 32, t.val % 32, 0] ∧ t.val < 64 :=
  (by decide +kernel : ∀ t : Fin grid0.N, _)

/-- The operands as the host prepares them. -/
def seqs (x : FVec Ideal S32768x1024 .f32) : FVec Ideal S2x16384x1024 .f32 := shapeCast S2x16384x1024 x shapeCasts_S32768x1024_S2x16384x1024
def nl (x : FVec Ideal S1024 .f32) : FVec Ideal S1x1024 .f32 := shapeCast S1x1024 x shapeCasts_S1024_S1x1024
def nw (w : FVec Ideal S1024x1024 .f32) : FVec Ideal S1024x1024 .bf16 := truncf .bf16 w bitsLt_bf16_f32

theorem V_y (c : Dev nD) : V m c main_v0 = seqs (m ((c : Thread nD τ).loc main_arg0)) := by
  entry_read
  rfl
theorem V_w (c : Dev nD) : V m c main_arg1 = m ((c : Thread nD τ).loc main_arg1) := by
  entry_read
  rfl
theorem V_bw (c : Dev nD) : V m c main_v2 = nl (m ((c : Thread nD τ).loc main_arg2)) := by
  entry_read
  rfl
theorem V_g (c : Dev nD) : V m c main_v3 = nl (m ((c : Thread nD τ).loc main_arg3)) := by
  entry_read
  rfl
theorem V_b (c : Dev nD) : V m c main_v4 = nl (m ((c : Thread nD τ).loc main_arg4)) := by
  entry_read
  rfl
theorem V_w2 (c : Dev nD) : V m c main_v1 = nw (m ((c : Thread nD τ).loc main_arg5)) := by
  entry_read
  rfl
theorem V_b2 (c : Dev nD) : V m c main_v5 = nl (m ((c : Thread nD τ).loc main_arg6)) := by
  entry_read
  rfl
theorem V_h (c : Dev nD) : V m c main_arg7 = m ((c : Thread nD τ).loc main_arg7) := by
  entry_read
  rfl

theorem x_at (c : Dev nD) (t : Fin cfg0.N) (p : Fin 512) (d : Fin 1024) (n : Fin 32768) (hn : n.val = t.val * 512 + p.val) :
    (iblk m c 0 t : Vec Ideal S1x512x1024 .f32) (ix3 0 p d) = m ((c : Thread nD τ).loc main_arg0) (ix2 n d) := by
  blk_simp [iblk, idx t]
  rw [V_y]
  pointwise [seqs]
  blk_ext [idx t]
theorem p_at (c : Dev nD) (t : Fin cfg0.N) (ht : t.val % 32 ≠ 0) (p : Fin 32) (d : Fin 1024) (n : Fin 32768) (hn : n.val + 32 = t.val * 512 + p.val) :
    (iblk m c 1 t : Vec Ideal S1x32x1024 .f32) (ix3 0 p d) = m ((c : Thread nD τ).loc main_arg0) (ix2 n d) := by
  blk_simp [iblk, idx t]
  rw [V_y]
  pointwise [seqs]
  blk_ext [idx t]
theorem dw_at (c : Dev nD) (t : Fin cfg0.N) (j : Fin 31) (d : Fin 1024) :
    (iblk m c 2 t : Vec Ideal S31x1024 .f32) (ix2 j d) = m ((c : Thread nD τ).loc main_arg1) (ix2 j d) := by
  blk_simp [iblk, idx t]
  rw [V_w]
  blk_ext [idx t]
theorem bw_at (c : Dev nD) (t : Fin cfg0.N) (d : Fin 1024) :
    (iblk m c 3 t : Vec Ideal S1x1024 .f32) (ix2 0 d) = m ((c : Thread nD τ).loc main_arg2) (ix1 d) := by
  blk_simp [iblk, idx t]
  rw [V_bw]
  pointwise [nl]
  blk_ext [idx t]
theorem g_at (c : Dev nD) (t : Fin cfg0.N) (d : Fin 1024) :
    (iblk m c 4 t : Vec Ideal S1x1024 .f32) (ix2 0 d) = m ((c : Thread nD τ).loc main_arg3) (ix1 d) := by
  blk_simp [iblk, idx t]
  rw [V_g]
  pointwise [nl]
  blk_ext [idx t]
theorem b_at (c : Dev nD) (t : Fin cfg0.N) (d : Fin 1024) :
    (iblk m c 5 t : Vec Ideal S1x1024 .f32) (ix2 0 d) = m ((c : Thread nD τ).loc main_arg4) (ix1 d) := by
  blk_simp [iblk, idx t]
  rw [V_b]
  pointwise [nl]
  blk_ext [idx t]
theorem b2_at (c : Dev nD) (t : Fin cfg0.N) (d : Fin 1024) :
    (iblk m c 7 t : Vec Ideal S1x1024 .f32) (ix2 0 d) = m ((c : Thread nD τ).loc main_arg6) (ix1 d) := by
  blk_simp [iblk, idx t]
  rw [V_b2]
  pointwise [nl]
  blk_ext [idx t]
theorem w2_at (c : Dev nD) (t : Fin cfg0.N) (k l : Fin 1024) :
    (iblk m c 6 t : Vec Ideal S1024x1024 .bf16) (ix2 k l) = m ((c : Thread nD τ).loc main_arg5) (ix2 k l) := by
  blk_simp [iblk, idx t]
  rw [V_w2]
  pointwise [nw]
  blk_ext [idx t]
theorem h_at (c : Dev nD) (t : Fin cfg0.N) (p : Fin 512) (l : Fin 1024) (B : Fin 2) (s : Fin 16384) (hB : B.val = t.val / 32) (hs : s.val = t.val % 32 * 512 + p.val) :
    (iblk m c 8 t : Vec Ideal S1x512x1024 .f32) (ix3 0 p l) = m ((c : Thread nD τ).loc main_arg7) (ix3 B s l) := by
  blk_simp [iblk, idx t]
  rw [V_h]
  blk_ext [idx t]

theorem cv_at (c : Dev nD) (t : Fin cfg0.N) (p : Fin 512) (d : Fin 1024) (B : Fin 2) (s : Fin 16384) (hB : B.val = t.val / 32) (hs : s.val = t.val % 32 * 512 + p.val) :
    yc (F := Ideal) (ext (iblk m c 0 t) (iblk m c 1 t) t.val) (iblk m c 2 t) (iblk m c 3 t) (ix2 p d)
      = cv (m ((c : Thread nD τ).loc main_arg0)) (m ((c : Thread nD τ).loc main_arg1)) (m ((c : Thread nD τ).loc main_arg2)) B s d := by
  refine (yc_at _ _ _ p d).trans ?_
  unfold cv
  rw [bw_at]
  refine congrArg (· + _) (congrArg sum31 (funext fun j => ?_))
  rw [dw_at, ext_at]
  refine congrArg (· * _) ?_
  unfold pd
  have hp := p.isLt
  have hj := j.isLt
  by_cases h1 : p.val + 2 + j.val < 32
  · rw [dif_pos h1]
    by_cases h2 : t.val % 32 = 0
    · rw [if_pos h2, dif_neg (by dsimp only; omega)]
    · rw [if_neg h2, dif_pos (by dsimp only; omega)]
      exact p_at m c t h2 _ d _ (by dsimp only; omega)
  · rw [dif_neg h1, dif_pos (by dsimp only; omega)]
    exact x_at m c t _ d _ (by dsimp only; omega)

theorem point (c : Dev nD) (t : Fin cfg0.N) (p : Fin 512) (l : Fin 1024) (B : Fin 2) (s : Fin 16384) (hB : B.val = t.val / 32) (hs : s.val = t.val % 32 * 512 + p.val) :
    res m c t (ix3 0 p l) = ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) B s l := by
  refine (outp_at _ _ _ _ _ _ p l).trans ?_
  unfold ker
  rw [h_at m c t p l B s hB hs, b2_at]
  refine congrArg (· + _) (congrArg (HAdd.hAdd (α := EReal) (β := EReal) _) (Finset.sum_congr rfl fun k _ => ?_))
  rw [w2_at]
  refine congrArg (· * _) ?_
  simp only [cv_at m c t p _ B s hB hs, g_at, b_at]

/-- The result array after the run. -/
theorem final (c : Dev nD) : (dats m 0 c).arrAt 9 (cfgs 0).N = fun i : S2x16384x1024.Idx => ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) := by
  refine (dats m 0 c).arrAt_eq_of_covers 9 _ (by decide +kernel) fun t hf y => ?_
  blk_simp
  rw [after0_9]
  idx_vars y
  obtain rfl : y0 = 0 := Subsingleton.elim _ _
  have hN := (idx t).2.2.2.2.2.2.2.2.2.2
  refine (point m c t y1 y2 ⟨t.val / 32, by omega⟩ ⟨t.val % 32 * 512 + y1.val, by omega⟩ rfl rfl).trans ?_
  refine congr (congr (congrArg (ker (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (Fin.ext ?_)) (Fin.ext ?_)) (Fin.ext ?_)
  all_goals (blk_simp [idx t] <;> first | omega | rfl)

end Cert.CConvBody
-- ==== Proof.CConvRef.lean ====
module

public import proofs.«01_k».proof.Proof.Gen.CConvRefIdeal.Read
public import proofs.«01_k».proof.Proof.CConvVal
public import Idealize.ShloMosaic.Lib.IdealHost
public import Idealize.ShloMosaic.Lib.KernelVsHost

@[expose] public section

set_option maxRecDepth 16384

noncomputable section

open Idealize.ShloMosaic Idealize.ShloMosaic.TcCoe Idealize.SL.Sem

/-! # The reference of the causal convolution, entry by entry -/

namespace Cert.CConvRefIdeal.Val
open Cert.CConvRefIdeal Cert.CConvRefIdeal.Gen Cert.CConvRefIdeal.Read
open Cert.CConvBody (mean ln act pd cv ker sum31)

variable (y : FVec Ideal S32768x1024 .f32) (w : FVec Ideal S31x1024 .f32) (bw g b : FVec Ideal S1024 .f32) (w2 : FVec Ideal S1024x1024 .f32) (b2 : FVec Ideal S1024 .f32) (h : FVec Ideal S2x16384x1024 .f32)

theorem pad_at (B : Fin 2) (n : Fin 16414) (d : Fin 1024) : val_main_v1 (F := Ideal) y (ix3 B n d) = pd y B n d := by
  unfold val_main_v1 pd
  by_cases hn : 30 ≤ n.val
  · rw [dif_pos hn]
    refine (pad_apply_of_inside _ _ _ _ _ _ _ _ (ix3 B ⟨n.val - 30, by omega⟩ d) fun a => ?_).trans ?_
    · match a with
      | ⟨0, _⟩ => show B.val = 0 + B.val * 1; omega
      | ⟨1, _⟩ => show n.val = 30 + (n.val - 30) * 1; omega
      | ⟨2, _⟩ => show d.val = 0 + d.val * 1; omega
    · pointwise [val_main_v0]
      blk_ext
  · rw [dif_neg hn]
    refine (pad_apply_of_not_inside _ _ _ _ _ _ _ _ (1 : Fin 3) fun e => hn e.1).trans ?_
    pointwise [val_main_call0_v0, val_main_c]
    exact sitofp_zero (φ := .f32)

theorem cv_at (B : Fin 2) (s : Fin 16384) (d : Fin 1024) : val_main_v222 (F := Ideal) y w bw (ix3 B s d) = cv y w bw B s d := by
  unfold cv sum31
  simp only [← pad_at]
  pointwise [val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_cst]

theorem mean_at (B : Fin 2) (s : Fin 16384) : val_main_v226 (F := Ideal) y w bw (ix3 B s 0) = mean (cv y w bw B s) := by
  unfold mean
  simp only [← cv_at]
  pointwise [val_main_v226, val_main_v225, val_main_v224, val_main_v223, val_main_cst_1, val_main_cst_0]

theorem cent_at (B : Fin 2) (s : Fin 16384) (k : Fin 1024) :
    val_main_v228 (F := Ideal) y w bw (ix3 B s k) = cv y w bw B s k - mean (cv y w bw B s) := by
  rw [← mean_at, ← cv_at]
  pointwise [val_main_v228, val_main_v227]

theorem cent'_at (B : Fin 2) (s : Fin 16384) (k : Fin 1024) :
    val_main_v235 (F := Ideal) y w bw (ix3 B s k) = cv y w bw B s k - mean (cv y w bw B s) := by
  rw [← mean_at, ← cv_at]
  pointwise [val_main_v235, val_main_v234]

theorem ln_at (B : Fin 2) (s : Fin 16384) (k : Fin 1024) :
    val_main_v246 (F := Ideal) y w bw g b (ix3 B s k) = ln (cv y w bw B s) (fun k => g (ix1 k)) (fun k => b (ix1 k)) k := by
  unfold ln
  simp only [← cent_at]
  rw [cent_at, ← cent'_at]
  unfold mean
  pointwise [val_main_v246, val_main_v245, val_main_v244, val_main_v243, val_main_v242, val_main_v241, val_main_v240, val_main_v239, val_main_v238, val_main_v237, val_main_v236, val_main_v233, val_main_v232, val_main_v231, val_main_v230, val_main_v229, val_main_cst_4, val_main_cst_3, val_main_cst_2]

theorem act_at (B : Fin 2) (s : Fin 16384) (k : Fin 1024) :
    val_main_v247 (F := Ideal) y w bw g b (ix3 B s k) = act (cv y w bw B s) (fun k => g (ix1 k)) (fun k => b (ix1 k)) k := by
  unfold act Ideal.logistic
  simp only [← ln_at]
  pointwise [val_main_v247, val_main_call1_v5, val_main_call1_v4, val_main_call1_v3, val_main_call1_v2, val_main_call1_v1, val_main_call1_v0, val_main_call1_cst, val_main_call1_cst_0]

theorem result_at (B : Fin 2) (s : Fin 16384) (l : Fin 1024) :
    val_main_v252 (F := Ideal) y w bw g b w2 b2 h (ix3 B s l) = ker y w bw g b w2 b2 h B s l := by
  unfold ker
  simp only [← act_at]
  rw [add_assoc]
  pointwise [val_main_v252, val_main_v251, val_main_v250, val_main_v249, val_main_v248]

end Cert.CConvRefIdeal.Val
-- ==== Proof.CConvClaims.lean ====
module

public import proofs.«01_k».proof.Defs
public import proofs.«01_k».proof.Proof.CConvVal
public import proofs.«01_k».proof.Proof.CConvRef
public import proofs.«01_k».proof.Proof.Gen.CConv
public import proofs.«01_k».proof.Proof.Gen.CConvRefIdeal.Run
public import Idealize.ShloMosaic.Lib.Claim

@[expose] public section

set_option maxRecDepth 16384

noncomputable section

open Idealize.ShloMosaic Idealize.ShloMosaic.TcCoe Idealize.SL.Sem

/-! # The claims about the call CConv -/

namespace Cert.CConvClaims

/-- Both programs' kernel bodies are the same text. -/
theorem bodies_eq : Cert.CConv.defs₀ (F := Bits) = Cert.CConvIdeal.defs₀ (F := Bits) := by
  unfold Cert.CConv.defs₀ Cert.CConvIdeal.defs₀
  refine congrArg _ (funext fun l => funext fun a => ?_)
  match l, a with
  | 0, (t, s) => rfl
  | ⟨_ + 1, h⟩, _ => exact absurd h (Nat.not_lt.2 (Nat.le_add_left _ _))

theorem defs_eq : Cert.CConv.defs (F := Bits) = Cert.CConvIdeal.defs (F := Bits) := congrArg (Pipeline.defs _) bodies_eq

theorem frame_p : Cert.quiescent_CConv := fun m ρ _ => by
  rw [defs_eq]
  exact Cert.CConvBody.frame (F := Bits) m ρ
theorem frame_pi : Cert.quiescent_CConvIdeal := fun m ρ _ => Cert.CConvBody.frame m ρ
theorem frame_ri : Cert.quiescent_CConvRefIdeal := fun m ρ _ =>
  (θ_run Cert.CConvRefIdeal.defs _ _).mono (fun r h => ⟨fun c => (h c).2, Idealize.ShloMosaic.sem_eq_zero_of_no_sems (by decide) r.2⟩)
    (Cert.CConvRefIdeal.Value.run (F := Ideal) m ρ)

theorem preserves : Cert.preserves_CConv_CConvIdeal := trivial

theorem algebraic : Cert.algebraic_CConvIdeal_CConvRefIdeal := by
  intro m g m' g' hpre hagree
  refine ⟨fun c => (Cert.CConvBody.dats m 0 c).arrAt 9 (Cert.CConvIdeal.cfgs 0).N, ?_, ?_⟩
  · run_from Cert.CConvBody.run_main m g
  · refine (θ_run Cert.CConvRefIdeal.defs _ _).mono (fun r h c => ⟨(h c).1.trans ?_, (h c).2⟩) (Cert.CConvRefIdeal.Value.run (F := Ideal) m' g')
    refine Eq.trans ?_ (Cert.CConvBody.final m c).symm
    refine (Cert.CConvRefIdeal.Read.val_main_v252_eq (F := Ideal) _).trans ?_
    have hl : ∀ b, StableHlo.launchContents m' c (Proc.devRef .tc b) = m' ((c.tc : Thread Cert.CConvRefIdeal.nD Cert.CConvRefIdeal.τ).loc b) := fun _ => rfl
    simp only [hl]
    obtain ⟨h0, h1, h2, h3, h4, h5, h6, h7⟩ := hagree c
    rw [h0, h1, h2, h3, h4, h5, h6, h7]
    refine funext fun i => ?_
    obtain ⟨B, q, l, rfl⟩ : ∃ (B : Fin 2) (q : Fin 16384) (l : Fin 1024), i = ix3 B q l := ⟨i 0, i 1, i 2, eq_ix3 i⟩
    exact Cert.CConvRefIdeal.Val.result_at _ _ _ _ _ _ _ _ B q l

end Cert.CConvClaims
-- ==== Proof.lean ====
module

public import proofs.«01_k».proof.Defs
public import proofs.«01_k».proof.Proof.Gen.DAttn
public import proofs.«01_k».proof.Proof.Gen.DAttn.Skeleton
public import proofs.«01_k».proof.Proof.Gen.DAttn.Launch
public import proofs.«01_k».proof.Proof.Gen.DAttn.Points
public import proofs.«01_k».proof.Proof.Gen.DAttn.Frame
public import proofs.«01_k».proof.Proof.Gen.DAttnIdeal
public import proofs.«01_k».proof.Proof.Gen.DAttnIdeal.Skeleton
public import proofs.«01_k».proof.Proof.Gen.DAttnIdeal.Launch
public import proofs.«01_k».proof.Proof.Gen.DAttnIdeal.Points
public import proofs.«01_k».proof.Proof.Gen.DAttnIdeal.Frame
public import proofs.«01_k».proof.Proof.Gen.DAttnRefIdeal
public import proofs.«01_k».proof.Proof.Gen.Pre_window_bias
public import proofs.«01_k».proof.Proof.Gen.DAttnIdeal.Value
public import proofs.«01_k».proof.Proof.Gen.DAttnRefIdeal.Run
public import proofs.«01_k».proof.Proof.Gen.DAttnRefIdeal.Read
public import proofs.«01_k».proof.Proof.DClaims
public import proofs.«01_k».proof.Proof.FfnClaims
public import proofs.«01_k».proof.Proof.FfnFinalClaims
public import proofs.«01_k».proof.Proof.BInClaims
public import proofs.«01_k».proof.Proof.CInClaims
public import proofs.«01_k».proof.Proof.AQkvClaims
public import proofs.«01_k».proof.Proof.AIdxClaims
public import proofs.«01_k».proof.Proof.DIn1Claims
public import proofs.«01_k».proof.Proof.DIn4Claims
public import proofs.«01_k».proof.Proof.DIn16Claims
public import proofs.«01_k».proof.Proof.AOutClaims
public import proofs.«01_k».proof.Proof.BOutClaims
public import proofs.«01_k».proof.Proof.DMergeClaims
public import proofs.«01_k».proof.Proof.CConvClaims
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnFinal
public import proofs.«01_k».proof.Proof.Gen.FfnFinal.Skeleton
public import proofs.«01_k».proof.Proof.Gen.FfnFinal.Launch
public import proofs.«01_k».proof.Proof.Gen.FfnFinal.Points
public import proofs.«01_k».proof.Proof.Gen.FfnFinal.Frame
public import proofs.«01_k».proof.Proof.Gen.FfnFinalIdeal
public import proofs.«01_k».proof.Proof.Gen.FfnFinalIdeal.Skeleton
public import proofs.«01_k».proof.Proof.Gen.FfnFinalIdeal.Launch
public import proofs.«01_k».proof.Proof.Gen.FfnFinalIdeal.Points
public import proofs.«01_k».proof.Proof.Gen.FfnFinalIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnFinalRefIdeal
public import proofs.«01_k».proof.Proof.Gen.FfnFinalRefIdeal.Run
public import proofs.«01_k».proof.Proof.Gen.FfnFinalRefIdeal.Read
public import proofs.«01_k».proof.Proof.Gen.BIn
public import proofs.«01_k».proof.Proof.Gen.BIn.Skeleton
public import proofs.«01_k».proof.Proof.Gen.BIn.Launch
public import proofs.«01_k».proof.Proof.Gen.BIn.Points
public import proofs.«01_k».proof.Proof.Gen.BIn.Frame
public import proofs.«01_k».proof.Proof.Gen.BInIdeal
public import proofs.«01_k».proof.Proof.Gen.BInIdeal.Skeleton
public import proofs.«01_k».proof.Proof.Gen.BInIdeal.Launch
public import proofs.«01_k».proof.Proof.Gen.BInIdeal.Points
public import proofs.«01_k».proof.Proof.Gen.BInIdeal.Frame
public import proofs.«01_k».proof.Proof.Gen.BInRefIdeal
public import proofs.«01_k».proof.Proof.Gen.BInRefIdeal.Run
public import proofs.«01_k».proof.Proof.Gen.BInRefIdeal.Read
public import proofs.«01_k».proof.Proof.Gen.CIn
public import proofs.«01_k».proof.Proof.Gen.CIn.Skeleton
public import proofs.«01_k».proof.Proof.Gen.CIn.Launch
public import proofs.«01_k».proof.Proof.Gen.CIn.Points
public import proofs.«01_k».proof.Proof.Gen.CIn.Frame
public import proofs.«01_k».proof.Proof.Gen.CInIdeal
public import proofs.«01_k».proof.Proof.Gen.CInIdeal.Skeleton
public import proofs.«01_k».proof.Proof.Gen.CInIdeal.Launch
public import proofs.«01_k».proof.Proof.Gen.CInIdeal.Points
public import proofs.«01_k».proof.Proof.Gen.CInIdeal.Frame
public import proofs.«01_k».proof.Proof.Gen.CInRefIdeal
public import proofs.«01_k».proof.Proof.Gen.CInRefIdeal.Run
public import proofs.«01_k».proof.Proof.Gen.CInRefIdeal.Read
public import proofs.«01_k».proof.Proof.Gen.AQkv
public import proofs.«01_k».proof.Proof.Gen.AQkv.Skeleton
public import proofs.«01_k».proof.Proof.Gen.AQkv.Launch
public import proofs.«01_k».proof.Proof.Gen.AQkv.Points
public import proofs.«01_k».proof.Proof.Gen.AQkv.Frame
public import proofs.«01_k».proof.Proof.Gen.AQkvIdeal
public import proofs.«01_k».proof.Proof.Gen.AQkvIdeal.Skeleton
public import proofs.«01_k».proof.Proof.Gen.AQkvIdeal.Launch
public import proofs.«01_k».proof.Proof.Gen.AQkvIdeal.Points
public import proofs.«01_k».proof.Proof.Gen.AQkvIdeal.Frame
public import proofs.«01_k».proof.Proof.Gen.AQkvRefIdeal
public import proofs.«01_k».proof.Proof.Gen.AQkvRefIdeal.Run
public import proofs.«01_k».proof.Proof.Gen.AQkvRefIdeal.Read
public import proofs.«01_k».proof.Proof.Gen.AIdx
public import proofs.«01_k».proof.Proof.Gen.AIdx.Skeleton
public import proofs.«01_k».proof.Proof.Gen.AIdx.Launch
public import proofs.«01_k».proof.Proof.Gen.AIdx.Points
public import proofs.«01_k».proof.Proof.Gen.AIdx.Frame
public import proofs.«01_k».proof.Proof.Gen.AIdxIdeal
public import proofs.«01_k».proof.Proof.Gen.AIdxIdeal.Skeleton
public import proofs.«01_k».proof.Proof.Gen.AIdxIdeal.Launch
public import proofs.«01_k».proof.Proof.Gen.AIdxIdeal.Points
public import proofs.«01_k».proof.Proof.Gen.AIdxIdeal.Frame
public import proofs.«01_k».proof.Proof.Gen.AIdxRefIdeal
public import proofs.«01_k».proof.Proof.Gen.AIdxRefIdeal.Run
public import proofs.«01_k».proof.Proof.Gen.AIdxRefIdeal.Read
public import proofs.«01_k».proof.Proof.Gen.DIn1
public import proofs.«01_k».proof.Proof.Gen.DIn1.Skeleton
public import proofs.«01_k».proof.Proof.Gen.DIn1.Launch
public import proofs.«01_k».proof.Proof.Gen.DIn1.Points
public import proofs.«01_k».proof.Proof.Gen.DIn1.Frame
public import proofs.«01_k».proof.Proof.Gen.DIn1Ideal
public import proofs.«01_k».proof.Proof.Gen.DIn1Ideal.Skeleton
public import proofs.«01_k».proof.Proof.Gen.DIn1Ideal.Launch
public import proofs.«01_k».proof.Proof.Gen.DIn1Ideal.Points
public import proofs.«01_k».proof.Proof.Gen.DIn1Ideal.Frame
public import proofs.«01_k».proof.Proof.Gen.DIn1RefIdeal
public import proofs.«01_k».proof.Proof.Gen.DIn1RefIdeal.Run
public import proofs.«01_k».proof.Proof.Gen.DIn1RefIdeal.Read
public import proofs.«01_k».proof.Proof.Gen.DIn4
public import proofs.«01_k».proof.Proof.Gen.DIn4.Skeleton
public import proofs.«01_k».proof.Proof.Gen.DIn4.Launch
public import proofs.«01_k».proof.Proof.Gen.DIn4.Points
public import proofs.«01_k».proof.Proof.Gen.DIn4.Frame
public import proofs.«01_k».proof.Proof.Gen.DIn4Ideal
public import proofs.«01_k».proof.Proof.Gen.DIn4Ideal.Skeleton
public import proofs.«01_k».proof.Proof.Gen.DIn4Ideal.Launch
public import proofs.«01_k».proof.Proof.Gen.DIn4Ideal.Points
public import proofs.«01_k».proof.Proof.Gen.DIn4Ideal.Frame
public import proofs.«01_k».proof.Proof.Gen.DIn4Ideal.Value
public import proofs.«01_k».proof.Proof.Gen.DIn4RefIdeal
public import proofs.«01_k».proof.Proof.Gen.DIn4RefIdeal.Run
public import proofs.«01_k».proof.Proof.Gen.DIn4RefIdeal.Read
public import proofs.«01_k».proof.Proof.Gen.DIn16
public import proofs.«01_k».proof.Proof.Gen.DIn16.Skeleton
public import proofs.«01_k».proof.Proof.Gen.DIn16.Launch
public import proofs.«01_k».proof.Proof.Gen.DIn16.Points
public import proofs.«01_k».proof.Proof.Gen.DIn16.Frame
public import proofs.«01_k».proof.Proof.Gen.DIn16Ideal
public import proofs.«01_k».proof.Proof.Gen.DIn16Ideal.Skeleton
public import proofs.«01_k».proof.Proof.Gen.DIn16Ideal.Launch
public import proofs.«01_k».proof.Proof.Gen.DIn16Ideal.Points
public import proofs.«01_k».proof.Proof.Gen.DIn16Ideal.Frame
public import proofs.«01_k».proof.Proof.Gen.DIn16Ideal.Value
public import proofs.«01_k».proof.Proof.Gen.DIn16RefIdeal
public import proofs.«01_k».proof.Proof.Gen.DIn16RefIdeal.Run
public import proofs.«01_k».proof.Proof.Gen.DIn16RefIdeal.Read
public import proofs.«01_k».proof.Proof.Gen.AOut
public import proofs.«01_k».proof.Proof.Gen.AOut.Skeleton
public import proofs.«01_k».proof.Proof.Gen.AOut.Launch
public import proofs.«01_k».proof.Proof.Gen.AOut.Points
public import proofs.«01_k».proof.Proof.Gen.AOut.Frame
public import proofs.«01_k».proof.Proof.Gen.AOutIdeal
public import proofs.«01_k».proof.Proof.Gen.AOutIdeal.Skeleton
public import proofs.«01_k».proof.Proof.Gen.AOutIdeal.Launch
public import proofs.«01_k».proof.Proof.Gen.AOutIdeal.Points
public import proofs.«01_k».proof.Proof.Gen.AOutIdeal.Frame
public import proofs.«01_k».proof.Proof.Gen.AOutIdeal.Value
public import proofs.«01_k».proof.Proof.Gen.AOutRefIdeal
public import proofs.«01_k».proof.Proof.Gen.AOutRefIdeal.Run
public import proofs.«01_k».proof.Proof.Gen.AOutRefIdeal.Read
public import proofs.«01_k».proof.Proof.Gen.BOut
public import proofs.«01_k».proof.Proof.Gen.BOut.Skeleton
public import proofs.«01_k».proof.Proof.Gen.BOut.Launch
public import proofs.«01_k».proof.Proof.Gen.BOut.Points
public import proofs.«01_k».proof.Proof.Gen.BOut.Frame
public import proofs.«01_k».proof.Proof.Gen.BOutIdeal
public import proofs.«01_k».proof.Proof.Gen.BOutIdeal.Skeleton
public import proofs.«01_k».proof.Proof.Gen.BOutIdeal.Launch
public import proofs.«01_k».proof.Proof.Gen.BOutIdeal.Points
public import proofs.«01_k».proof.Proof.Gen.BOutIdeal.Frame
public import proofs.«01_k».proof.Proof.Gen.BOutIdeal.Value
public import proofs.«01_k».proof.Proof.Gen.BOutRefIdeal
public import proofs.«01_k».proof.Proof.Gen.BOutRefIdeal.Run
public import proofs.«01_k».proof.Proof.Gen.BOutRefIdeal.Read
public import proofs.«01_k».proof.Proof.Gen.DMerge
public import proofs.«01_k».proof.Proof.Gen.DMerge.Skeleton
public import proofs.«01_k».proof.Proof.Gen.DMerge.Launch
public import proofs.«01_k».proof.Proof.Gen.DMerge.Points
public import proofs.«01_k».proof.Proof.Gen.DMerge.Frame
public import proofs.«01_k».proof.Proof.Gen.DMergeIdeal
public import proofs.«01_k».proof.Proof.Gen.DMergeIdeal.Skeleton
public import proofs.«01_k».proof.Proof.Gen.DMergeIdeal.Launch
public import proofs.«01_k».proof.Proof.Gen.DMergeIdeal.Points
public import proofs.«01_k».proof.Proof.Gen.DMergeIdeal.Frame
public import proofs.«01_k».proof.Proof.Gen.DMergeIdeal.Value
public import proofs.«01_k».proof.Proof.Gen.DMergeRefIdeal
public import proofs.«01_k».proof.Proof.Gen.DMergeRefIdeal.Run
public import proofs.«01_k».proof.Proof.Gen.DMergeRefIdeal.Read
public import proofs.«01_k».proof.Proof.Gen.Pre_finite_lse
public import proofs.«01_k».proof.Proof.Gen.CConv
public import proofs.«01_k».proof.Proof.Gen.CConvIdeal
public import proofs.«01_k».proof.Proof.Gen.CConvRefIdeal
public import proofs.«01_k».proof.Proof.Gen.CConv.Skeleton
public import proofs.«01_k».proof.Proof.Gen.CConv.Launch
public import proofs.«01_k».proof.Proof.Gen.CConv.Points
public import proofs.«01_k».proof.Proof.Gen.CConv.Frame
public import proofs.«01_k».proof.Proof.Gen.CConvIdeal.Skeleton
public import proofs.«01_k».proof.Proof.Gen.CConvIdeal.Launch
public import proofs.«01_k».proof.Proof.Gen.CConvIdeal.Points
public import proofs.«01_k».proof.Proof.Gen.CConvIdeal.Frame
public import proofs.«01_k».proof.Proof.Gen.CConvRefIdeal.Run
public import proofs.«01_k».proof.Proof.Gen.CConvRefIdeal.Read
public import Idealize.ShloMosaic.Adequacy
public import Idealize.ShloMosaic.Init

@[expose] public section

noncomputable section

namespace Cert.Proof

open Idealize.ShloMosaic Idealize.SL.Sem Cert.DAttn

theorem claim : Cert.Claim := ⟨Cert.DAttn.Gen.facts, Cert.DAttnIdeal.Gen.facts, Cert.DAttnRefIdeal.Gen.facts,
  Cert.FfnFinal.Gen.facts, Cert.FfnFinalIdeal.Gen.facts, Cert.FfnFinalRefIdeal.Gen.facts,
  Cert.Ffn.Gen.facts, Cert.FfnIdeal.Gen.facts, Cert.FfnRefIdeal.Gen.facts,
  Cert.BIn.Gen.facts, Cert.BInIdeal.Gen.facts, Cert.BInRefIdeal.Gen.facts,
  Cert.CIn.Gen.facts, Cert.CInIdeal.Gen.facts, Cert.CInRefIdeal.Gen.facts,
  Cert.AQkv.Gen.facts, Cert.AQkvIdeal.Gen.facts, Cert.AQkvRefIdeal.Gen.facts,
  Cert.AIdx.Gen.facts, Cert.AIdxIdeal.Gen.facts, Cert.AIdxRefIdeal.Gen.facts,
  Cert.DIn1.Gen.facts, Cert.DIn1Ideal.Gen.facts, Cert.DIn1RefIdeal.Gen.facts,
  Cert.DIn4.Gen.facts, Cert.DIn4Ideal.Gen.facts, Cert.DIn4RefIdeal.Gen.facts,
  Cert.DIn16.Gen.facts, Cert.DIn16Ideal.Gen.facts, Cert.DIn16RefIdeal.Gen.facts,
  Cert.AOut.Gen.facts, Cert.AOutIdeal.Gen.facts, Cert.AOutRefIdeal.Gen.facts,
  Cert.BOut.Gen.facts, Cert.BOutIdeal.Gen.facts, Cert.BOutRefIdeal.Gen.facts,
  Cert.DMerge.Gen.facts, Cert.DMergeIdeal.Gen.facts, Cert.DMergeRefIdeal.Gen.facts,
  Cert.CConv.Gen.facts, Cert.CConvIdeal.Gen.facts, Cert.CConvRefIdeal.Gen.facts, Cert.Pre_window_bias.Gen.facts, Cert.Pre_finite_lse.Gen.facts,
  DClaims.frame_p, DClaims.frame_pi, DClaims.frame_pi_pre, DClaims.frame_ri, DClaims.frame_ri_pre,
  FfnFinalClaims.frame_p, FfnFinalClaims.frame_pi, FfnFinalClaims.frame_ri,
  FfnClaims.frame_p, FfnClaims.frame_pi, FfnClaims.frame_ri,
  BInClaims.frame_p, BInClaims.frame_pi, BInClaims.frame_ri,
  CInClaims.frame_p, CInClaims.frame_pi, CInClaims.frame_ri,
  AQkvClaims.frame_p, AQkvClaims.frame_pi, AQkvClaims.frame_ri,
  AIdxClaims.frame_p, AIdxClaims.frame_pi, AIdxClaims.frame_ri,
  DIn1Claims.frame_p, DIn1Claims.frame_pi, DIn1Claims.frame_ri,
  DIn4Claims.frame_p, DIn4Claims.frame_pi, DIn4Claims.frame_ri,
  DIn16Claims.frame_p, DIn16Claims.frame_pi, DIn16Claims.frame_ri,
  AOutClaims.frame_p, AOutClaims.frame_pi, AOutClaims.frame_ri,
  BOutClaims.frame_p, BOutClaims.frame_pi, BOutClaims.frame_ri,
  DMergeClaims.frame_p, DMergeClaims.frame_pi, DMergeClaims.frame_pi_pre, DMergeClaims.frame_ri, DMergeClaims.frame_ri_pre,
  CConvClaims.frame_p, CConvClaims.frame_pi, CConvClaims.frame_ri,
  DClaims.preserves, DClaims.algebraic,
  FfnFinalClaims.preserves, FfnFinalClaims.algebraic,
  FfnClaims.preserves, FfnClaims.algebraic,
  BInClaims.preserves, BInClaims.algebraic,
  CInClaims.preserves, CInClaims.algebraic,
  AQkvClaims.preserves, AQkvClaims.algebraic,
  AIdxClaims.preserves, AIdxClaims.algebraic,
  DIn1Claims.preserves, DIn1Claims.algebraic,
  DIn4Claims.preserves, DIn4Claims.algebraic,
  DIn16Claims.preserves, DIn16Claims.algebraic,
  AOutClaims.preserves, AOutClaims.algebraic,
  BOutClaims.preserves, BOutClaims.algebraic,
  DMergeClaims.preserves, DMergeClaims.algebraic,
  CConvClaims.preserves, CConvClaims.algebraic⟩

end Cert.Proof

end
